-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_FfnDwUp (m : (ℓ : Loc Cert.FfnDwUp.nD Cert.FfnDwUp.τ Cert.FfnDwUp.sig) → Buf (Elt Bits) ℓ) : Prop :=
  True

def Pre_FfnDwUpIdeal (m : (ℓ : Loc Cert.FfnDwUpIdeal.nD Cert.FfnDwUpIdeal.τ Cert.FfnDwUpIdeal.sig) → Buf (Elt Ideal) ℓ) : Prop :=
  True

def Pre_FfnDwUpRefIdeal (m : (ℓ : Loc Cert.FfnDwUpRefIdeal.nD Cert.FfnDwUpRefIdeal.τ Cert.FfnDwUpRefIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownRefIdeal (m : (ℓ : Loc Cert.FfnDwDownRefIdeal.nD Cert.FfnDwDownRefIdeal.τ Cert.FfnDwDownRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxRefIdeal (m : (ℓ : Loc Cert.MixDxRefIdeal.nD Cert.MixDxRefIdeal.τ Cert.MixDxRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_FfnDxFirst (m : (ℓ : Loc Cert.FfnDxFirst.nD Cert.FfnDxFirst.τ Cert.FfnDxFirst.sig) → Buf (Elt Bits) ℓ) : Prop :=
  True

def Pre_FfnDxFirstIdeal (m : (ℓ : Loc Cert.FfnDxFirstIdeal.nD Cert.FfnDxFirstIdeal.τ Cert.FfnDxFirstIdeal.sig) → Buf (Elt Ideal) ℓ) : Prop :=
  True

def Pre_FfnDxFirstRefIdeal (m : (ℓ : Loc Cert.FfnDxFirstRefIdeal.nD Cert.FfnDxFirstRefIdeal.τ Cert.FfnDxFirstRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnUpFirst (m : (ℓ : Loc Cert.FfnUpFirst.nD Cert.FfnUpFirst.τ Cert.FfnUpFirst.sig) → Buf (Elt Bits) ℓ) : Prop :=
  True

def Pre_FfnUpFirstIdeal (m : (ℓ : Loc Cert.FfnUpFirstIdeal.nD Cert.FfnUpFirstIdeal.τ Cert.FfnUpFirstIdeal.sig) → Buf (Elt Ideal) ℓ) : Prop :=
  True

def Pre_FfnUpFirstRefIdeal (m : (ℓ : Loc Cert.FfnUpFirstRefIdeal.nD Cert.FfnUpFirstRefIdeal.τ Cert.FfnUpFirstRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownFirst (m : (ℓ : Loc Cert.FfnDownFirst.nD Cert.FfnDownFirst.τ Cert.FfnDownFirst.sig) → Buf (Elt Bits) ℓ) : Prop :=
  True

def Pre_FfnDownFirstIdeal (m : (ℓ : Loc Cert.FfnDownFirstIdeal.nD Cert.FfnDownFirstIdeal.τ Cert.FfnDownFirstIdeal.sig) → Buf (Elt Ideal) ℓ) : Prop :=
  True

def Pre_FfnDownFirstRefIdeal (m : (ℓ : Loc Cert.FfnDownFirstRefIdeal.nD Cert.FfnDownFirstRefIdeal.τ Cert.FfnDownFirstRefIdeal.sig) → Buf (Elt Ideal) ℓ) : Prop :=
  True

def Pre_MixEnd (m : (ℓ : Loc Cert.MixEnd.nD Cert.MixEnd.τ Cert.MixEnd.sig) → Buf (Elt Bits) ℓ) : Prop :=
  True

def Pre_MixEndIdeal (m : (ℓ : Loc Cert.MixEndIdeal.nD Cert.MixEndIdeal.τ Cert.MixEndIdeal.sig) → Buf (Elt Ideal) ℓ) : Prop :=
  True

def Pre_MixEndRefIdeal (m : (ℓ : Loc Cert.MixEndRefIdeal.nD Cert.MixEndRefIdeal.τ Cert.MixEndRefIdeal.sig) → Buf (Elt Ideal) ℓ) : Prop :=
  True

def Pre_FfnBack (m : (ℓ : Loc Cert.FfnBack.nD Cert.FfnBack.τ Cert.FfnBack.sig) → Buf (Elt Bits) ℓ) : Prop :=
  True

def Pre_FfnBackIdeal (m : (ℓ : Loc Cert.FfnBackIdeal.nD Cert.FfnBackIdeal.τ Cert.FfnBackIdeal.sig) → Buf (Elt Ideal) ℓ) : Prop :=
  True

def Pre_FfnBackIdeal_finite_back [hPre_finite_back : Cert.Pre_finite_back.Facts] (m : (ℓ : Loc Cert.FfnBackIdeal.nD Cert.FfnBackIdeal.τ Cert.FfnBackIdeal.sig) → Buf (Elt Ideal) ℓ) : Prop :=
  ∀ c : Dev Cert.FfnBackIdeal.nD,
    (Cert.Pre_finite_back.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3)) (m ((c.tc : Thread Cert.FfnBackIdeal.nD Cert.FfnBackIdeal.τ).loc Cert.FfnBackIdeal.main_arg4)) (m ((c.tc : Thread Cert.FfnBackIdeal.nD Cert.FfnBackIdeal.τ).loc Cert.FfnBackIdeal.main_arg5))).1 = (fun _ => 1#1)
    ∧ (Cert.Pre_finite_back.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3)) (m ((c.tc : Thread Cert.FfnBackIdeal.nD Cert.FfnBackIdeal.τ).loc Cert.FfnBackIdeal.main_arg4)) (m ((c.tc : Thread Cert.FfnBackIdeal.nD Cert.FfnBackIdeal.τ).loc Cert.FfnBackIdeal.main_arg5))).2.1 = (fun _ => 1#1)
    ∧ (Cert.Pre_finite_back.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3)) (m ((c.tc : Thread Cert.FfnBackIdeal.nD Cert.FfnBackIdeal.τ).loc Cert.FfnBackIdeal.main_arg4)) (m ((c.tc : Thread Cert.FfnBackIdeal.nD Cert.FfnBackIdeal.τ).loc Cert.FfnBackIdeal.main_arg5))).2.2.1 = (fun _ => 1#1)
    ∧ (Cert.Pre_finite_back.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3)) (m ((c.tc : Thread Cert.FfnBackIdeal.nD Cert.FfnBackIdeal.τ).loc Cert.FfnBackIdeal.main_arg4)) (m ((c.tc : Thread Cert.FfnBackIdeal.nD Cert.FfnBackIdeal.τ).loc Cert.FfnBackIdeal.main_arg5))).2.2.2.1 = (fun _ => 1#1)
    ∧ (Cert.Pre_finite_back.fn (F := Ideal) (m ((c.tc : Thread Cert.FfnBackIdeal.nD Cert.FfnBackIdeal.τ).loc Cert.FfnBackIdeal.main_arg0)) (m ((c.tc : Thread Cert.FfnBackIdeal.nD Cert.FfnBackIdeal.τ).loc Cert.FfnBackIdeal.main_arg1)) (m ((c.tc : Thread Cert.FfnBackIdeal.nD Cert.FfnBackIdeal.τ).loc Cert.FfnBackIdeal.main_arg2)) (m ((c.tc : Thread Cert.FfnBackIdeal.nD Cert.FfnBackIdeal.τ).loc Cert.FfnBackIdeal.main_arg3)) (m ((c.tc : Thread Cert.FfnBackIdeal.nD Cert.FfnBackIdeal.τ).loc Cert.FfnBackIdeal.main_arg4)) (m ((c.tc : Thread Cert.FfnBackIdeal.nD Cert.FfnBackIdeal.τ).loc Cert.FfnBackIdeal.main_arg5))).2.2.2.2 = (fun _ => 1#1)

def Pre_FfnBackRefIdeal (m : (ℓ : Loc Cert.FfnBackRefIdeal.nD Cert.FfnBackRefIdeal.τ Cert.FfnBackRefIdeal.sig) → Buf (Elt Ideal) ℓ) : Prop :=
  True

def Pre_FfnBackRefIdeal_finite_back [hPre_finite_back : Cert.Pre_finite_back.Facts] (m : (ℓ : Loc Cert.FfnBackRefIdeal.nD Cert.FfnBackRefIdeal.τ Cert.FfnBackRefIdeal.sig) → Buf (Elt Ideal) ℓ) : Prop :=
  ∀ c : Dev Cert.FfnBackRefIdeal.nD,
    (Cert.Pre_finite_back.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3)) (m ((c.tc : Thread Cert.FfnBackRefIdeal.nD Cert.FfnBackRefIdeal.τ).loc Cert.FfnBackRefIdeal.main_arg4)) (m ((c.tc : Thread Cert.FfnBackRefIdeal.nD Cert.FfnBackRefIdeal.τ).loc Cert.FfnBackRefIdeal.main_arg5))).1 = (fun _ => 1#1)
    ∧ (Cert.Pre_finite_back.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3)) (m ((c.tc : Thread Cert.FfnBackRefIdeal.nD Cert.FfnBackRefIdeal.τ).loc Cert.FfnBackRefIdeal.main_arg4)) (m ((c.tc : Thread Cert.FfnBackRefIdeal.nD Cert.FfnBackRefIdeal.τ).loc Cert.FfnBackRefIdeal.main_arg5))).2.1 = (fun _ => 1#1)
    ∧ (Cert.Pre_finite_back.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3)) (m ((c.tc : Thread Cert.FfnBackRefIdeal.nD Cert.FfnBackRefIdeal.τ).loc Cert.FfnBackRefIdeal.main_arg4)) (m ((c.tc : Thread Cert.FfnBackRefIdeal.nD Cert.FfnBackRefIdeal.τ).loc Cert.FfnBackRefIdeal.main_arg5))).2.2.1 = (fun _ => 1#1)
    ∧ (Cert.Pre_finite_back.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3)) (m ((c.tc : Thread Cert.FfnBackRefIdeal.nD Cert.FfnBackRefIdeal.τ).loc Cert.FfnBackRefIdeal.main_arg4)) (m ((c.tc : Thread Cert.FfnBackRefIdeal.nD Cert.FfnBackRefIdeal.τ).loc Cert.FfnBackRefIdeal.main_arg5))).2.2.2.1 = (fun _ => 1#1)
    ∧ (Cert.Pre_finite_back.fn (F := Ideal) (m ((c.tc : Thread Cert.FfnBackRefIdeal.nD Cert.FfnBackRefIdeal.τ).loc Cert.FfnBackRefIdeal.main_arg0)) (m ((c.tc : Thread Cert.FfnBackRefIdeal.nD Cert.FfnBackRefIdeal.τ).loc Cert.FfnBackRefIdeal.main_arg1)) (m ((c.tc : Thread Cert.FfnBackRefIdeal.nD Cert.FfnBackRefIdeal.τ).loc Cert.FfnBackRefIdeal.main_arg2)) (m ((c.tc : Thread Cert.FfnBackRefIdeal.nD Cert.FfnBackRefIdeal.τ).loc Cert.FfnBackRefIdeal.main_arg3)) (m ((c.tc : Thread Cert.FfnBackRefIdeal.nD Cert.FfnBackRefIdeal.τ).loc Cert.FfnBackRefIdeal.main_arg4)) (m ((c.tc : Thread Cert.FfnBackRefIdeal.nD Cert.FfnBackRefIdeal.τ).loc Cert.FfnBackRefIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2))
      ∧ r.2.sem = fun _ => 0)

def quiescent_FfnDwUp [hFfnDwUp : Cert.FfnDwUp.Facts] : Prop :=
  ∀ (m : (ℓ : Loc Cert.FfnDwUp.nD Cert.FfnDwUp.τ Cert.FfnDwUp.sig) → Buf (Elt Bits) ℓ) (g : Dev Cert.FfnDwUp.nD → PrngReg), Pre_FfnDwUp m →
    θ_run (Cert.FfnDwUp.defs (F := Bits)) (onTc (τ := Cert.FfnDwUp.τ) (Cert.FfnDwUp.main (F := Bits))) ⟨m, fun _ => 0, g⟩ (fun r => (∀ c : Dev Cert.FfnDwUp.nD,
      r.2.mem ((c.tc : Thread Cert.FfnDwUp.nD Cert.FfnDwUp.τ).loc Cert.FfnDwUp.main_arg0) = m ((c.tc : Thread Cert.FfnDwUp.nD Cert.FfnDwUp.τ).loc Cert.FfnDwUp.main_arg0)
      ∧ r.2.mem ((c.tc : Thread Cert.FfnDwUp.nD Cert.FfnDwUp.τ).loc Cert.FfnDwUp.main_arg1) = m ((c.tc : Thread Cert.FfnDwUp.nD Cert.FfnDwUp.τ).loc Cert.FfnDwUp.main_arg1))
      ∧ r.2.sem = fun _ => 0)

def quiescent_FfnDwUpIdeal [hFfnDwUpIdeal : Cert.FfnDwUpIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg), Pre_FfnDwUpIdeal m →
    θ_run (Cert.FfnDwUpIdeal.defs (F := Ideal)) (onTc (τ := Cert.FfnDwUpIdeal.τ) (Cert.FfnDwUpIdeal.main (F := Ideal))) ⟨m, fun _ => 0, g⟩ (fun r => (∀ c : Dev Cert.FfnDwUpIdeal.nD,
      r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
      ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1))
      ∧ r.2.sem = fun _ => 0)

def quiescent_FfnDwUpRefIdeal [hFfnDwUpRefIdeal : Cert.FfnDwUpRefIdeal.Facts] : Prop :=
  ∀ (m : (ℓ : Loc Cert.FfnDwUpRefIdeal.nD Cert.FfnDwUpRefIdeal.τ Cert.FfnDwUpRefIdeal.sig) → Buf (Elt Ideal) ℓ) (g : Dev Cert.FfnDwUpRefIdeal.nD → PrngReg), Pre_FfnDwUpRefIdeal m →
    θ_run (Cert.FfnDwUpRefIdeal.defs (F := Ideal)) (onTc (τ := Cert.FfnDwUpRefIdeal.τ) (Cert.FfnDwUpRefIdeal.main (F := Ideal))) ⟨m, fun _ => 0, g⟩ (fun r => (∀ c : Dev Cert.FfnDwUpRefIdeal.nD,
      r.2.mem ((c.tc : Thread Cert.FfnDwUpRefIdeal.nD Cert.FfnDwUpRefIdeal.τ).loc Cert.FfnDwUpRefIdeal.main_arg0) = m ((c.tc : Thread Cert.FfnDwUpRefIdeal.nD Cert.FfnDwUpRefIdeal.τ).loc Cert.FfnDwUpRefIdeal.main_arg0)
      ∧ r.2.mem ((c.tc : Thread Cert.FfnDwUpRefIdeal.nD Cert.FfnDwUpRefIdeal.τ).loc Cert.FfnDwUpRefIdeal.main_arg1) = m ((c.tc : Thread Cert.FfnDwUpRefIdeal.nD Cert.FfnDwUpRefIdeal.τ).loc Cert.FfnDwUpRefIdeal.main_arg1))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ r.2.sem = fun _ => 0)

def quiescent_FfnDwDownRefIdeal [hFfnDwDownRefIdeal : Cert.FfnDwDownRefIdeal.Facts] : Prop :=
  ∀ (m : (ℓ : Loc Cert.FfnDwDownRefIdeal.nD Cert.FfnDwDownRefIdeal.τ Cert.FfnDwDownRefIdeal.sig) → Buf (Elt Ideal) ℓ) (g : Dev Cert.FfnDwDownRefIdeal.nD → PrngReg), Pre_FfnDwDownRefIdeal m →
    θ_run (Cert.FfnDwDownRefIdeal.defs (F := Ideal)) (onTc (τ := Cert.FfnDwDownRefIdeal.τ) (Cert.FfnDwDownRefIdeal.main (F := Ideal))) ⟨m, fun _ => 0, g⟩ (fun r => (∀ c : Dev Cert.FfnDwDownRefIdeal.nD,
      r.2.mem ((c.tc : Thread Cert.FfnDwDownRefIdeal.nD Cert.FfnDwDownRefIdeal.τ).loc Cert.FfnDwDownRefIdeal.main_arg0) = m ((c.tc : Thread Cert.FfnDwDownRefIdeal.nD Cert.FfnDwDownRefIdeal.τ).loc Cert.FfnDwDownRefIdeal.main_arg0)
      ∧ r.2.mem ((c.tc : Thread Cert.FfnDwDownRefIdeal.nD Cert.FfnDwDownRefIdeal.τ).loc Cert.FfnDwDownRefIdeal.main_arg1) = m ((c.tc : Thread Cert.FfnDwDownRefIdeal.nD Cert.FfnDwDownRefIdeal.τ).loc Cert.FfnDwDownRefIdeal.main_arg1))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_FfnDxFirst [hFfnDxFirst : Cert.FfnDxFirst.Facts] : Prop :=
  ∀ (m : (ℓ : Loc Cert.FfnDxFirst.nD Cert.FfnDxFirst.τ Cert.FfnDxFirst.sig) → Buf (Elt Bits) ℓ) (g : Dev Cert.FfnDxFirst.nD → PrngReg), Pre_FfnDxFirst m →
    θ_run (Cert.FfnDxFirst.defs (F := Bits)) (onTc (τ := Cert.FfnDxFirst.τ) (Cert.FfnDxFirst.main (F := Bits))) ⟨m, fun _ => 0, g⟩ (fun r => (∀ c : Dev Cert.FfnDxFirst.nD,
      r.2.mem ((c.tc : Thread Cert.FfnDxFirst.nD Cert.FfnDxFirst.τ).loc Cert.FfnDxFirst.main_arg0) = m ((c.tc : Thread Cert.FfnDxFirst.nD Cert.FfnDxFirst.τ).loc Cert.FfnDxFirst.main_arg0)
      ∧ r.2.mem ((c.tc : Thread Cert.FfnDxFirst.nD Cert.FfnDxFirst.τ).loc Cert.FfnDxFirst.main_arg1) = m ((c.tc : Thread Cert.FfnDxFirst.nD Cert.FfnDxFirst.τ).loc Cert.FfnDxFirst.main_arg1)
      ∧ r.2.mem ((c.tc : Thread Cert.FfnDxFirst.nD Cert.FfnDxFirst.τ).loc Cert.FfnDxFirst.main_arg2) = m ((c.tc : Thread Cert.FfnDxFirst.nD Cert.FfnDxFirst.τ).loc Cert.FfnDxFirst.main_arg2))
      ∧ r.2.sem = fun _ => 0)

def quiescent_FfnDxFirstIdeal [hFfnDxFirstIdeal : Cert.FfnDxFirstIdeal.Facts] : Prop :=
  ∀ (m : (ℓ : Loc Cert.FfnDxFirstIdeal.nD Cert.FfnDxFirstIdeal.τ Cert.FfnDxFirstIdeal.sig) → Buf (Elt Ideal) ℓ) (g : Dev Cert.FfnDxFirstIdeal.nD → PrngReg), Pre_FfnDxFirstIdeal m →
    θ_run (Cert.FfnDxFirstIdeal.defs (F := Ideal)) (onTc (τ := Cert.FfnDxFirstIdeal.τ) (Cert.FfnDxFirstIdeal.main (F := Ideal))) ⟨m, fun _ => 0, g⟩ (fun r => (∀ c : Dev Cert.FfnDxFirstIdeal.nD,
      r.2.mem ((c.tc : Thread Cert.FfnDxFirstIdeal.nD Cert.FfnDxFirstIdeal.τ).loc Cert.FfnDxFirstIdeal.main_arg0) = m ((c.tc : Thread Cert.FfnDxFirstIdeal.nD Cert.FfnDxFirstIdeal.τ).loc Cert.FfnDxFirstIdeal.main_arg0)
      ∧ r.2.mem ((c.tc : Thread Cert.FfnDxFirstIdeal.nD Cert.FfnDxFirstIdeal.τ).loc Cert.FfnDxFirstIdeal.main_arg1) = m ((c.tc : Thread Cert.FfnDxFirstIdeal.nD Cert.FfnDxFirstIdeal.τ).loc Cert.FfnDxFirstIdeal.main_arg1)
      ∧ r.2.mem ((c.tc : Thread Cert.FfnDxFirstIdeal.nD Cert.FfnDxFirstIdeal.τ).loc Cert.FfnDxFirstIdeal.main_arg2) = m ((c.tc : Thread Cert.FfnDxFirstIdeal.nD Cert.FfnDxFirstIdeal.τ).loc Cert.FfnDxFirstIdeal.main_arg2))
      ∧ r.2.sem = fun _ => 0)

def quiescent_FfnDxFirstRefIdeal [hFfnDxFirstRefIdeal : Cert.FfnDxFirstRefIdeal.Facts] : Prop :=
  ∀ (m : (ℓ : Loc Cert.FfnDxFirstRefIdeal.nD Cert.FfnDxFirstRefIdeal.τ Cert.FfnDxFirstRefIdeal.sig) → Buf (Elt Ideal) ℓ) (g : Dev Cert.FfnDxFirstRefIdeal.nD → PrngReg), Pre_FfnDxFirstRefIdeal m →
    θ_run (Cert.FfnDxFirstRefIdeal.defs (F := Ideal)) (onTc (τ := Cert.FfnDxFirstRefIdeal.τ) (Cert.FfnDxFirstRefIdeal.main (F := Ideal))) ⟨m, fun _ => 0, g⟩ (fun r => (∀ c : Dev Cert.FfnDxFirstRefIdeal.nD,
      r.2.mem ((c.tc : Thread Cert.FfnDxFirstRefIdeal.nD Cert.FfnDxFirstRefIdeal.τ).loc Cert.FfnDxFirstRefIdeal.main_arg0) = m ((c.tc : Thread Cert.FfnDxFirstRefIdeal.nD Cert.FfnDxFirstRefIdeal.τ).loc Cert.FfnDxFirstRefIdeal.main_arg0)
      ∧ r.2.mem ((c.tc : Thread Cert.FfnDxFirstRefIdeal.nD Cert.FfnDxFirstRefIdeal.τ).loc Cert.FfnDxFirstRefIdeal.main_arg1) = m ((c.tc : Thread Cert.FfnDxFirstRefIdeal.nD Cert.FfnDxFirstRefIdeal.τ).loc Cert.FfnDxFirstRefIdeal.main_arg1)
      ∧ r.2.mem ((c.tc : Thread Cert.FfnDxFirstRefIdeal.nD Cert.FfnDxFirstRefIdeal.τ).loc Cert.FfnDxFirstRefIdeal.main_arg2) = m ((c.tc : Thread Cert.FfnDxFirstRefIdeal.nD Cert.FfnDxFirstRefIdeal.τ).loc Cert.FfnDxFirstRefIdeal.main_arg2))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnUpFirst [hFfnUpFirst : Cert.FfnUpFirst.Facts] : Prop :=
  ∀ (m : (ℓ : Loc Cert.FfnUpFirst.nD Cert.FfnUpFirst.τ Cert.FfnUpFirst.sig) → Buf (Elt Bits) ℓ) (g : Dev Cert.FfnUpFirst.nD → PrngReg), Pre_FfnUpFirst m →
    θ_run (Cert.FfnUpFirst.defs (F := Bits)) (onTc (τ := Cert.FfnUpFirst.τ) (Cert.FfnUpFirst.main (F := Bits))) ⟨m, fun _ => 0, g⟩ (fun r => (∀ c : Dev Cert.FfnUpFirst.nD,
      r.2.mem ((c.tc : Thread Cert.FfnUpFirst.nD Cert.FfnUpFirst.τ).loc Cert.FfnUpFirst.main_arg0) = m ((c.tc : Thread Cert.FfnUpFirst.nD Cert.FfnUpFirst.τ).loc Cert.FfnUpFirst.main_arg0)
      ∧ r.2.mem ((c.tc : Thread Cert.FfnUpFirst.nD Cert.FfnUpFirst.τ).loc Cert.FfnUpFirst.main_arg1) = m ((c.tc : Thread Cert.FfnUpFirst.nD Cert.FfnUpFirst.τ).loc Cert.FfnUpFirst.main_arg1))
      ∧ r.2.sem = fun _ => 0)

def quiescent_FfnUpFirstIdeal [hFfnUpFirstIdeal : Cert.FfnUpFirstIdeal.Facts] : Prop :=
  ∀ (m : (ℓ : Loc Cert.FfnUpFirstIdeal.nD Cert.FfnUpFirstIdeal.τ Cert.FfnUpFirstIdeal.sig) → Buf (Elt Ideal) ℓ) (g : Dev Cert.FfnUpFirstIdeal.nD → PrngReg), Pre_FfnUpFirstIdeal m →
    θ_run (Cert.FfnUpFirstIdeal.defs (F := Ideal)) (onTc (τ := Cert.FfnUpFirstIdeal.τ) (Cert.FfnUpFirstIdeal.main (F := Ideal))) ⟨m, fun _ => 0, g⟩ (fun r => (∀ c : Dev Cert.FfnUpFirstIdeal.nD,
      r.2.mem ((c.tc : Thread Cert.FfnUpFirstIdeal.nD Cert.FfnUpFirstIdeal.τ).loc Cert.FfnUpFirstIdeal.main_arg0) = m ((c.tc : Thread Cert.FfnUpFirstIdeal.nD Cert.FfnUpFirstIdeal.τ).loc Cert.FfnUpFirstIdeal.main_arg0)
      ∧ r.2.mem ((c.tc : Thread Cert.FfnUpFirstIdeal.nD Cert.FfnUpFirstIdeal.τ).loc Cert.FfnUpFirstIdeal.main_arg1) = m ((c.tc : Thread Cert.FfnUpFirstIdeal.nD Cert.FfnUpFirstIdeal.τ).loc Cert.FfnUpFirstIdeal.main_arg1))
      ∧ r.2.sem = fun _ => 0)

def quiescent_FfnUpFirstRefIdeal [hFfnUpFirstRefIdeal : Cert.FfnUpFirstRefIdeal.Facts] : Prop :=
  ∀ (m : (ℓ : Loc Cert.FfnUpFirstRefIdeal.nD Cert.FfnUpFirstRefIdeal.τ Cert.FfnUpFirstRefIdeal.sig) → Buf (Elt Ideal) ℓ) (g : Dev Cert.FfnUpFirstRefIdeal.nD → PrngReg), Pre_FfnUpFirstRefIdeal m →
    θ_run (Cert.FfnUpFirstRefIdeal.defs (F := Ideal)) (onTc (τ := Cert.FfnUpFirstRefIdeal.τ) (Cert.FfnUpFirstRefIdeal.main (F := Ideal))) ⟨m, fun _ => 0, g⟩ (fun r => (∀ c : Dev Cert.FfnUpFirstRefIdeal.nD,
      r.2.mem ((c.tc : Thread Cert.FfnUpFirstRefIdeal.nD Cert.FfnUpFirstRefIdeal.τ).loc Cert.FfnUpFirstRefIdeal.main_arg0) = m ((c.tc : Thread Cert.FfnUpFirstRefIdeal.nD Cert.FfnUpFirstRefIdeal.τ).loc Cert.FfnUpFirstRefIdeal.main_arg0)
      ∧ r.2.mem ((c.tc : Thread Cert.FfnUpFirstRefIdeal.nD Cert.FfnUpFirstRefIdeal.τ).loc Cert.FfnUpFirstRefIdeal.main_arg1) = m ((c.tc : Thread Cert.FfnUpFirstRefIdeal.nD Cert.FfnUpFirstRefIdeal.τ).loc Cert.FfnUpFirstRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_FfnDownFirst [hFfnDownFirst : Cert.FfnDownFirst.Facts] : Prop :=
  ∀ (m : (ℓ : Loc Cert.FfnDownFirst.nD Cert.FfnDownFirst.τ Cert.FfnDownFirst.sig) → Buf (Elt Bits) ℓ) (g : Dev Cert.FfnDownFirst.nD → PrngReg), Pre_FfnDownFirst m →
    θ_run (Cert.FfnDownFirst.defs (F := Bits)) (onTc (τ := Cert.FfnDownFirst.τ) (Cert.FfnDownFirst.main (F := Bits))) ⟨m, fun _ => 0, g⟩ (fun r => (∀ c : Dev Cert.FfnDownFirst.nD,
      r.2.mem ((c.tc : Thread Cert.FfnDownFirst.nD Cert.FfnDownFirst.τ).loc Cert.FfnDownFirst.main_arg0) = m ((c.tc : Thread Cert.FfnDownFirst.nD Cert.FfnDownFirst.τ).loc Cert.FfnDownFirst.main_arg0)
      ∧ r.2.mem ((c.tc : Thread Cert.FfnDownFirst.nD Cert.FfnDownFirst.τ).loc Cert.FfnDownFirst.main_arg1) = m ((c.tc : Thread Cert.FfnDownFirst.nD Cert.FfnDownFirst.τ).loc Cert.FfnDownFirst.main_arg1)
      ∧ r.2.mem ((c.tc : Thread Cert.FfnDownFirst.nD Cert.FfnDownFirst.τ).loc Cert.FfnDownFirst.main_arg2) = m ((c.tc : Thread Cert.FfnDownFirst.nD Cert.FfnDownFirst.τ).loc Cert.FfnDownFirst.main_arg2)
      ∧ r.2.mem ((c.tc : Thread Cert.FfnDownFirst.nD Cert.FfnDownFirst.τ).loc Cert.FfnDownFirst.main_arg3) = m ((c.tc : Thread Cert.FfnDownFirst.nD Cert.FfnDownFirst.τ).loc Cert.FfnDownFirst.main_arg3)
      ∧ r.2.mem ((c.tc : Thread Cert.FfnDownFirst.nD Cert.FfnDownFirst.τ).loc Cert.FfnDownFirst.main_arg4) = m ((c.tc : Thread Cert.FfnDownFirst.nD Cert.FfnDownFirst.τ).loc Cert.FfnDownFirst.main_arg4))
      ∧ r.2.sem = fun _ => 0)

def quiescent_FfnDownFirstIdeal [hFfnDownFirstIdeal : Cert.FfnDownFirstIdeal.Facts] : Prop :=
  ∀ (m : (ℓ : Loc Cert.FfnDownFirstIdeal.nD Cert.FfnDownFirstIdeal.τ Cert.FfnDownFirstIdeal.sig) → Buf (Elt Ideal) ℓ) (g : Dev Cert.FfnDownFirstIdeal.nD → PrngReg), Pre_FfnDownFirstIdeal m →
    θ_run (Cert.FfnDownFirstIdeal.defs (F := Ideal)) (onTc (τ := Cert.FfnDownFirstIdeal.τ) (Cert.FfnDownFirstIdeal.main (F := Ideal))) ⟨m, fun _ => 0, g⟩ (fun r => (∀ c : Dev Cert.FfnDownFirstIdeal.nD,
      r.2.mem ((c.tc : Thread Cert.FfnDownFirstIdeal.nD Cert.FfnDownFirstIdeal.τ).loc Cert.FfnDownFirstIdeal.main_arg0) = m ((c.tc : Thread Cert.FfnDownFirstIdeal.nD Cert.FfnDownFirstIdeal.τ).loc Cert.FfnDownFirstIdeal.main_arg0)
      ∧ r.2.mem ((c.tc : Thread Cert.FfnDownFirstIdeal.nD Cert.FfnDownFirstIdeal.τ).loc Cert.FfnDownFirstIdeal.main_arg1) = m ((c.tc : Thread Cert.FfnDownFirstIdeal.nD Cert.FfnDownFirstIdeal.τ).loc Cert.FfnDownFirstIdeal.main_arg1)
      ∧ r.2.mem ((c.tc : Thread Cert.FfnDownFirstIdeal.nD Cert.FfnDownFirstIdeal.τ).loc Cert.FfnDownFirstIdeal.main_arg2) = m ((c.tc : Thread Cert.FfnDownFirstIdeal.nD Cert.FfnDownFirstIdeal.τ).loc Cert.FfnDownFirstIdeal.main_arg2)
      ∧ r.2.mem ((c.tc : Thread Cert.FfnDownFirstIdeal.nD Cert.FfnDownFirstIdeal.τ).loc Cert.FfnDownFirstIdeal.main_arg3) = m ((c.tc : Thread Cert.FfnDownFirstIdeal.nD Cert.FfnDownFirstIdeal.τ).loc Cert.FfnDownFirstIdeal.main_arg3)
      ∧ r.2.mem ((c.tc : Thread Cert.FfnDownFirstIdeal.nD Cert.FfnDownFirstIdeal.τ).loc Cert.FfnDownFirstIdeal.main_arg4) = m ((c.tc : Thread Cert.FfnDownFirstIdeal.nD Cert.FfnDownFirstIdeal.τ).loc Cert.FfnDownFirstIdeal.main_arg4))
      ∧ r.2.sem = fun _ => 0)

def quiescent_FfnDownFirstRefIdeal [hFfnDownFirstRefIdeal : Cert.FfnDownFirstRefIdeal.Facts] : Prop :=
  ∀ (m : (ℓ : Loc Cert.FfnDownFirstRefIdeal.nD Cert.FfnDownFirstRefIdeal.τ Cert.FfnDownFirstRefIdeal.sig) → Buf (Elt Ideal) ℓ) (g : Dev Cert.FfnDownFirstRefIdeal.nD → PrngReg), Pre_FfnDownFirstRefIdeal m →
    θ_run (Cert.FfnDownFirstRefIdeal.defs (F := Ideal)) (onTc (τ := Cert.FfnDownFirstRefIdeal.τ) (Cert.FfnDownFirstRefIdeal.main (F := Ideal))) ⟨m, fun _ => 0, g⟩ (fun r => (∀ c : Dev Cert.FfnDownFirstRefIdeal.nD,
      r.2.mem ((c.tc : Thread Cert.FfnDownFirstRefIdeal.nD Cert.FfnDownFirstRefIdeal.τ).loc Cert.FfnDownFirstRefIdeal.main_arg0) = m ((c.tc : Thread Cert.FfnDownFirstRefIdeal.nD Cert.FfnDownFirstRefIdeal.τ).loc Cert.FfnDownFirstRefIdeal.main_arg0)
      ∧ r.2.mem ((c.tc : Thread Cert.FfnDownFirstRefIdeal.nD Cert.FfnDownFirstRefIdeal.τ).loc Cert.FfnDownFirstRefIdeal.main_arg1) = m ((c.tc : Thread Cert.FfnDownFirstRefIdeal.nD Cert.FfnDownFirstRefIdeal.τ).loc Cert.FfnDownFirstRefIdeal.main_arg1)
      ∧ r.2.mem ((c.tc : Thread Cert.FfnDownFirstRefIdeal.nD Cert.FfnDownFirstRefIdeal.τ).loc Cert.FfnDownFirstRefIdeal.main_arg2) = m ((c.tc : Thread Cert.FfnDownFirstRefIdeal.nD Cert.FfnDownFirstRefIdeal.τ).loc Cert.FfnDownFirstRefIdeal.main_arg2)
      ∧ r.2.mem ((c.tc : Thread Cert.FfnDownFirstRefIdeal.nD Cert.FfnDownFirstRefIdeal.τ).loc Cert.FfnDownFirstRefIdeal.main_arg3) = m ((c.tc : Thread Cert.FfnDownFirstRefIdeal.nD Cert.FfnDownFirstRefIdeal.τ).loc Cert.FfnDownFirstRefIdeal.main_arg3)
      ∧ r.2.mem ((c.tc : Thread Cert.FfnDownFirstRefIdeal.nD Cert.FfnDownFirstRefIdeal.τ).loc Cert.FfnDownFirstRefIdeal.main_arg4) = m ((c.tc : Thread Cert.FfnDownFirstRefIdeal.nD Cert.FfnDownFirstRefIdeal.τ).loc Cert.FfnDownFirstRefIdeal.main_arg4))
      ∧ r.2.sem = fun _ => 0)

def quiescent_MixEnd [hMixEnd : Cert.MixEnd.Facts] : Prop :=
  ∀ (m : (ℓ : Loc Cert.MixEnd.nD Cert.MixEnd.τ Cert.MixEnd.sig) → Buf (Elt Bits) ℓ) (g : Dev Cert.MixEnd.nD → PrngReg), Pre_MixEnd m →
    θ_run (Cert.MixEnd.defs (F := Bits)) (onTc (τ := Cert.MixEnd.τ) (Cert.MixEnd.main (F := Bits))) ⟨m, fun _ => 0, g⟩ (fun r => (∀ c : Dev Cert.MixEnd.nD,
      r.2.mem ((c.tc : Thread Cert.MixEnd.nD Cert.MixEnd.τ).loc Cert.MixEnd.main_arg0) = m ((c.tc : Thread Cert.MixEnd.nD Cert.MixEnd.τ).loc Cert.MixEnd.main_arg0)
      ∧ r.2.mem ((c.tc : Thread Cert.MixEnd.nD Cert.MixEnd.τ).loc Cert.MixEnd.main_arg1) = m ((c.tc : Thread Cert.MixEnd.nD Cert.MixEnd.τ).loc Cert.MixEnd.main_arg1)
      ∧ r.2.mem ((c.tc : Thread Cert.MixEnd.nD Cert.MixEnd.τ).loc Cert.MixEnd.main_arg2) = m ((c.tc : Thread Cert.MixEnd.nD Cert.MixEnd.τ).loc Cert.MixEnd.main_arg2)
      ∧ r.2.mem ((c.tc : Thread Cert.MixEnd.nD Cert.MixEnd.τ).loc Cert.MixEnd.main_arg3) = m ((c.tc : Thread Cert.MixEnd.nD Cert.MixEnd.τ).loc Cert.MixEnd.main_arg3)
      ∧ r.2.mem ((c.tc : Thread Cert.MixEnd.nD Cert.MixEnd.τ).loc Cert.MixEnd.main_arg4) = m ((c.tc : Thread Cert.MixEnd.nD Cert.MixEnd.τ).loc Cert.MixEnd.main_arg4)
      ∧ r.2.mem ((c.tc : Thread Cert.MixEnd.nD Cert.MixEnd.τ).loc Cert.MixEnd.main_arg5) = m ((c.tc : Thread Cert.MixEnd.nD Cert.MixEnd.τ).loc Cert.MixEnd.main_arg5)
      ∧ r.2.mem ((c.tc : Thread Cert.MixEnd.nD Cert.MixEnd.τ).loc Cert.MixEnd.main_arg6) = m ((c.tc : Thread Cert.MixEnd.nD Cert.MixEnd.τ).loc Cert.MixEnd.main_arg6)
      ∧ r.2.mem ((c.tc : Thread Cert.MixEnd.nD Cert.MixEnd.τ).loc Cert.MixEnd.main_arg7) = m ((c.tc : Thread Cert.MixEnd.nD Cert.MixEnd.τ).loc Cert.MixEnd.main_arg7))
      ∧ r.2.sem = fun _ => 0)

def quiescent_MixEndIdeal [hMixEndIdeal : Cert.MixEndIdeal.Facts] : Prop :=
  ∀ (m : (ℓ : Loc Cert.MixEndIdeal.nD Cert.MixEndIdeal.τ Cert.MixEndIdeal.sig) → Buf (Elt Ideal) ℓ) (g : Dev Cert.MixEndIdeal.nD → PrngReg), Pre_MixEndIdeal m →
    θ_run (Cert.MixEndIdeal.defs (F := Ideal)) (onTc (τ := Cert.MixEndIdeal.τ) (Cert.MixEndIdeal.main (F := Ideal))) ⟨m, fun _ => 0, g⟩ (fun r => (∀ c : Dev Cert.MixEndIdeal.nD,
      r.2.mem ((c.tc : Thread Cert.MixEndIdeal.nD Cert.MixEndIdeal.τ).loc Cert.MixEndIdeal.main_arg0) = m ((c.tc : Thread Cert.MixEndIdeal.nD Cert.MixEndIdeal.τ).loc Cert.MixEndIdeal.main_arg0)
      ∧ r.2.mem ((c.tc : Thread Cert.MixEndIdeal.nD Cert.MixEndIdeal.τ).loc Cert.MixEndIdeal.main_arg1) = m ((c.tc : Thread Cert.MixEndIdeal.nD Cert.MixEndIdeal.τ).loc Cert.MixEndIdeal.main_arg1)
      ∧ r.2.mem ((c.tc : Thread Cert.MixEndIdeal.nD Cert.MixEndIdeal.τ).loc Cert.MixEndIdeal.main_arg2) = m ((c.tc : Thread Cert.MixEndIdeal.nD Cert.MixEndIdeal.τ).loc Cert.MixEndIdeal.main_arg2)
      ∧ r.2.mem ((c.tc : Thread Cert.MixEndIdeal.nD Cert.MixEndIdeal.τ).loc Cert.MixEndIdeal.main_arg3) = m ((c.tc : Thread Cert.MixEndIdeal.nD Cert.MixEndIdeal.τ).loc Cert.MixEndIdeal.main_arg3)
      ∧ r.2.mem ((c.tc : Thread Cert.MixEndIdeal.nD Cert.MixEndIdeal.τ).loc Cert.MixEndIdeal.main_arg4) = m ((c.tc : Thread Cert.MixEndIdeal.nD Cert.MixEndIdeal.τ).loc Cert.MixEndIdeal.main_arg4)
      ∧ r.2.mem ((c.tc : Thread Cert.MixEndIdeal.nD Cert.MixEndIdeal.τ).loc Cert.MixEndIdeal.main_arg5) = m ((c.tc : Thread Cert.MixEndIdeal.nD Cert.MixEndIdeal.τ).loc Cert.MixEndIdeal.main_arg5)
      ∧ r.2.mem ((c.tc : Thread Cert.MixEndIdeal.nD Cert.MixEndIdeal.τ).loc Cert.MixEndIdeal.main_arg6) = m ((c.tc : Thread Cert.MixEndIdeal.nD Cert.MixEndIdeal.τ).loc Cert.MixEndIdeal.main_arg6)
      ∧ r.2.mem ((c.tc : Thread Cert.MixEndIdeal.nD Cert.MixEndIdeal.τ).loc Cert.MixEndIdeal.main_arg7) = m ((c.tc : Thread Cert.MixEndIdeal.nD Cert.MixEndIdeal.τ).loc Cert.MixEndIdeal.main_arg7))
      ∧ r.2.sem = fun _ => 0)

def quiescent_MixEndRefIdeal [hMixEndRefIdeal : Cert.MixEndRefIdeal.Facts] : Prop :=
  ∀ (m : (ℓ : Loc Cert.MixEndRefIdeal.nD Cert.MixEndRefIdeal.τ Cert.MixEndRefIdeal.sig) → Buf (Elt Ideal) ℓ) (g : Dev Cert.MixEndRefIdeal.nD → PrngReg), Pre_MixEndRefIdeal m →
    θ_run (Cert.MixEndRefIdeal.defs (F := Ideal)) (onTc (τ := Cert.MixEndRefIdeal.τ) (Cert.MixEndRefIdeal.main (F := Ideal))) ⟨m, fun _ => 0, g⟩ (fun r => (∀ c : Dev Cert.MixEndRefIdeal.nD,
      r.2.mem ((c.tc : Thread Cert.MixEndRefIdeal.nD Cert.MixEndRefIdeal.τ).loc Cert.MixEndRefIdeal.main_arg0) = m ((c.tc : Thread Cert.MixEndRefIdeal.nD Cert.MixEndRefIdeal.τ).loc Cert.MixEndRefIdeal.main_arg0)
      ∧ r.2.mem ((c.tc : Thread Cert.MixEndRefIdeal.nD Cert.MixEndRefIdeal.τ).loc Cert.MixEndRefIdeal.main_arg1) = m ((c.tc : Thread Cert.MixEndRefIdeal.nD Cert.MixEndRefIdeal.τ).loc Cert.MixEndRefIdeal.main_arg1)
      ∧ r.2.mem ((c.tc : Thread Cert.MixEndRefIdeal.nD Cert.MixEndRefIdeal.τ).loc Cert.MixEndRefIdeal.main_arg2) = m ((c.tc : Thread Cert.MixEndRefIdeal.nD Cert.MixEndRefIdeal.τ).loc Cert.MixEndRefIdeal.main_arg2)
      ∧ r.2.mem ((c.tc : Thread Cert.MixEndRefIdeal.nD Cert.MixEndRefIdeal.τ).loc Cert.MixEndRefIdeal.main_arg3) = m ((c.tc : Thread Cert.MixEndRefIdeal.nD Cert.MixEndRefIdeal.τ).loc Cert.MixEndRefIdeal.main_arg3)
      ∧ r.2.mem ((c.tc : Thread Cert.MixEndRefIdeal.nD Cert.MixEndRefIdeal.τ).loc Cert.MixEndRefIdeal.main_arg4) = m ((c.tc : Thread Cert.MixEndRefIdeal.nD Cert.MixEndRefIdeal.τ).loc Cert.MixEndRefIdeal.main_arg4)
      ∧ r.2.mem ((c.tc : Thread Cert.MixEndRefIdeal.nD Cert.MixEndRefIdeal.τ).loc Cert.MixEndRefIdeal.main_arg5) = m ((c.tc : Thread Cert.MixEndRefIdeal.nD Cert.MixEndRefIdeal.τ).loc Cert.MixEndRefIdeal.main_arg5)
      ∧ r.2.mem ((c.tc : Thread Cert.MixEndRefIdeal.nD Cert.MixEndRefIdeal.τ).loc Cert.MixEndRefIdeal.main_arg6) = m ((c.tc : Thread Cert.MixEndRefIdeal.nD Cert.MixEndRefIdeal.τ).loc Cert.MixEndRefIdeal.main_arg6)
      ∧ r.2.mem ((c.tc : Thread Cert.MixEndRefIdeal.nD Cert.MixEndRefIdeal.τ).loc Cert.MixEndRefIdeal.main_arg7) = m ((c.tc : Thread Cert.MixEndRefIdeal.nD Cert.MixEndRefIdeal.τ).loc Cert.MixEndRefIdeal.main_arg7))
      ∧ r.2.sem = fun _ => 0)

def quiescent_FfnBack [hFfnBack : Cert.FfnBack.Facts] : Prop :=
  ∀ (m : (ℓ : Loc Cert.FfnBack.nD Cert.FfnBack.τ Cert.FfnBack.sig) → Buf (Elt Bits) ℓ) (g : Dev Cert.FfnBack.nD → PrngReg), Pre_FfnBack m →
    θ_run (Cert.FfnBack.defs (F := Bits)) (onTc (τ := Cert.FfnBack.τ) (Cert.FfnBack.main (F := Bits))) ⟨m, fun _ => 0, g⟩ (fun r => (∀ c : Dev Cert.FfnBack.nD,
      r.2.mem ((c.tc : Thread Cert.FfnBack.nD Cert.FfnBack.τ).loc Cert.FfnBack.main_arg0) = m ((c.tc : Thread Cert.FfnBack.nD Cert.FfnBack.τ).loc Cert.FfnBack.main_arg0)
      ∧ r.2.mem ((c.tc : Thread Cert.FfnBack.nD Cert.FfnBack.τ).loc Cert.FfnBack.main_arg1) = m ((c.tc : Thread Cert.FfnBack.nD Cert.FfnBack.τ).loc Cert.FfnBack.main_arg1)
      ∧ r.2.mem ((c.tc : Thread Cert.FfnBack.nD Cert.FfnBack.τ).loc Cert.FfnBack.main_arg2) = m ((c.tc : Thread Cert.FfnBack.nD Cert.FfnBack.τ).loc Cert.FfnBack.main_arg2)
      ∧ r.2.mem ((c.tc : Thread Cert.FfnBack.nD Cert.FfnBack.τ).loc Cert.FfnBack.main_arg3) = m ((c.tc : Thread Cert.FfnBack.nD Cert.FfnBack.τ).loc Cert.FfnBack.main_arg3)
      ∧ r.2.mem ((c.tc : Thread Cert.FfnBack.nD Cert.FfnBack.τ).loc Cert.FfnBack.main_arg4) = m ((c.tc : Thread Cert.FfnBack.nD Cert.FfnBack.τ).loc Cert.FfnBack.main_arg4)
      ∧ r.2.mem ((c.tc : Thread Cert.FfnBack.nD Cert.FfnBack.τ).loc Cert.FfnBack.main_arg5) = m ((c.tc : Thread Cert.FfnBack.nD Cert.FfnBack.τ).loc Cert.FfnBack.main_arg5))
      ∧ r.2.sem = fun _ => 0)

def quiescent_FfnBackIdeal [hFfnBackIdeal : Cert.FfnBackIdeal.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
      ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5))
      ∧ r.2.sem = fun _ => 0)

def quiescent_FfnBackIdeal_pre_finite_back [hFfnBackIdeal : Cert.FfnBackIdeal.Facts] [hPre_finite_back : Cert.Pre_finite_back.Facts] : Prop :=
  ∀ (m : (ℓ : Loc Cert.FfnBackIdeal.nD Cert.FfnBackIdeal.τ Cert.FfnBackIdeal.sig) → Buf (Elt Ideal) ℓ) (g : Dev Cert.FfnBackIdeal.nD → PrngReg), Pre_FfnBackIdeal_finite_back m →
    θ_run (Cert.FfnBackIdeal.defs (F := Ideal)) (onTc (τ := Cert.FfnBackIdeal.τ) (Cert.FfnBackIdeal.main (F := Ideal))) ⟨m, fun _ => 0, g⟩ (fun r => (∀ c : Dev Cert.FfnBackIdeal.nD,
      r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
      ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
      ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
      ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
      ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
      ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5))
      ∧ r.2.sem = fun _ => 0)

def quiescent_FfnBackRefIdeal [hFfnBackRefIdeal : Cert.FfnBackRefIdeal.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4)
      ∧ r.2.mem ((c.tc : Thread Cert.FfnBackRefIdeal.nD Cert.FfnBackRefIdeal.τ).loc Cert.FfnBackRefIdeal.main_arg5) = m ((c.tc : Thread Cert.FfnBackRefIdeal.nD Cert.FfnBackRefIdeal.τ).loc Cert.FfnBackRefIdeal.main_arg5))
      ∧ r.2.sem = fun _ => 0)

def quiescent_FfnBackRefIdeal_pre_finite_back [hFfnBackRefIdeal : Cert.FfnBackRefIdeal.Facts] [hPre_finite_back : Cert.Pre_finite_back.Facts] : Prop :=
  ∀ (m : (ℓ : Loc Cert.FfnBackRefIdeal.nD Cert.FfnBackRefIdeal.τ Cert.FfnBackRefIdeal.sig) → Buf (Elt Ideal) ℓ) (g : Dev Cert.FfnBackRefIdeal.nD → PrngReg), Pre_FfnBackRefIdeal_finite_back m →
    θ_run (Cert.FfnBackRefIdeal.defs (F := Ideal)) (onTc (τ := Cert.FfnBackRefIdeal.τ) (Cert.FfnBackRefIdeal.main (F := Ideal))) ⟨m, fun _ => 0, g⟩ (fun r => (∀ c : Dev Cert.FfnBackRefIdeal.nD,
      r.2.mem ((c.tc : Thread Cert.FfnBackRefIdeal.nD Cert.FfnBackRefIdeal.τ).loc Cert.FfnBackRefIdeal.main_arg0) = m ((c.tc : Thread Cert.FfnBackRefIdeal.nD Cert.FfnBackRefIdeal.τ).loc Cert.FfnBackRefIdeal.main_arg0)
      ∧ r.2.mem ((c.tc : Thread Cert.FfnBackRefIdeal.nD Cert.FfnBackRefIdeal.τ).loc Cert.FfnBackRefIdeal.main_arg1) = m ((c.tc : Thread Cert.FfnBackRefIdeal.nD Cert.FfnBackRefIdeal.τ).loc Cert.FfnBackRefIdeal.main_arg1)
      ∧ r.2.mem ((c.tc : Thread Cert.FfnBackRefIdeal.nD Cert.FfnBackRefIdeal.τ).loc Cert.FfnBackRefIdeal.main_arg2) = m ((c.tc : Thread Cert.FfnBackRefIdeal.nD Cert.FfnBackRefIdeal.τ).loc Cert.FfnBackRefIdeal.main_arg2)
      ∧ r.2.mem ((c.tc : Thread Cert.FfnBackRefIdeal.nD Cert.FfnBackRefIdeal.τ).loc Cert.FfnBackRefIdeal.main_arg3) = m ((c.tc : Thread Cert.FfnBackRefIdeal.nD Cert.FfnBackRefIdeal.τ).loc Cert.FfnBackRefIdeal.main_arg3)
      ∧ r.2.mem ((c.tc : Thread Cert.FfnBackRefIdeal.nD Cert.FfnBackRefIdeal.τ).loc Cert.FfnBackRefIdeal.main_arg4) = m ((c.tc : Thread Cert.FfnBackRefIdeal.nD Cert.FfnBackRefIdeal.τ).loc Cert.FfnBackRefIdeal.main_arg4)
      ∧ r.2.mem ((c.tc : Thread Cert.FfnBackRefIdeal.nD Cert.FfnBackRefIdeal.τ).loc Cert.FfnBackRefIdeal.main_arg5) = m ((c.tc : Thread Cert.FfnBackRefIdeal.nD Cert.FfnBackRefIdeal.τ).loc Cert.FfnBackRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)) (v2 : (c : Dev Cert.KernelIdeal.nD) → Buf (Elt Ideal) ((c.tc : Thread Cert.KernelIdeal.nD Cert.KernelIdeal.τ).loc Cert.KernelIdeal.main_v51_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_v51_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)) →
    ∃ (v0 : (c : Dev Cert.FfnDxIdeal.nD) → Buf (Elt Ideal) ((c.tc : Thread Cert.FfnDxIdeal.nD Cert.FfnDxIdeal.τ).loc Cert.FfnDxIdeal.main_v6)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v6) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v9) = v0 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2))

def preserves_FfnDwUp_FfnDwUpIdeal : Prop :=
  True

def algebraic_FfnDwUpIdeal_FfnDwUpRefIdeal [hFfnDwUpIdeal : Cert.FfnDwUpIdeal.Facts] [hFfnDwUpRefIdeal : Cert.FfnDwUpRefIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg)
    (m' : (ℓ : Loc Cert.FfnDwUpRefIdeal.nD Cert.FfnDwUpRefIdeal.τ Cert.FfnDwUpRefIdeal.sig) → Buf (Elt Ideal) ℓ) (g' : Dev Cert.FfnDwUpRefIdeal.nD → PrngReg), Pre_FfnDwUpIdeal m →
    (∀ c : Dev Cert.FfnDwUpIdeal.nD,
      m' ((c.tc : Thread Cert.FfnDwUpRefIdeal.nD Cert.FfnDwUpRefIdeal.τ).loc Cert.FfnDwUpRefIdeal.main_arg0) = m ((c.tc : Thread Cert.FfnDwUpIdeal.nD Cert.FfnDwUpIdeal.τ).loc Cert.FfnDwUpIdeal.main_arg0)
      ∧ m' ((c.tc : Thread Cert.FfnDwUpRefIdeal.nD Cert.FfnDwUpRefIdeal.τ).loc Cert.FfnDwUpRefIdeal.main_arg1) = m ((c.tc : Thread Cert.FfnDwUpIdeal.nD Cert.FfnDwUpIdeal.τ).loc Cert.FfnDwUpIdeal.main_arg1)) →
    ∃ (v0 : (c : Dev Cert.FfnDwUpIdeal.nD) → Buf (Elt Ideal) ((c.tc : Thread Cert.FfnDwUpIdeal.nD Cert.FfnDwUpIdeal.τ).loc Cert.FfnDwUpIdeal.main_v4)),
      θ_run (Cert.FfnDwUpIdeal.defs (F := Ideal)) (onTc (τ := Cert.FfnDwUpIdeal.τ) (Cert.FfnDwUpIdeal.main (F := Ideal))) ⟨m, fun _ => 0, g⟩ (fun r => ∀ c : Dev Cert.FfnDwUpIdeal.nD,
          r.2.mem ((c.tc : Thread Cert.FfnDwUpIdeal.nD Cert.FfnDwUpIdeal.τ).loc Cert.FfnDwUpIdeal.main_v4) = v0 c
          ∧ r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
          ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1))
      ∧ θ_run (Cert.FfnDwUpRefIdeal.defs (F := Ideal)) (onTc (τ := Cert.FfnDwUpRefIdeal.τ) (Cert.FfnDwUpRefIdeal.main (F := Ideal))) ⟨m', fun _ => 0, g'⟩ (fun r => ∀ c : Dev Cert.FfnDwUpRefIdeal.nD,
          r.2.mem ((c.tc : Thread Cert.FfnDwUpRefIdeal.nD Cert.FfnDwUpRefIdeal.τ).loc Cert.FfnDwUpRefIdeal.main_v6) = v0 c
          ∧ r.2.mem ((c.tc : Thread Cert.FfnDwUpRefIdeal.nD Cert.FfnDwUpRefIdeal.τ).loc Cert.FfnDwUpRefIdeal.main_arg0) = m' ((c.tc : Thread Cert.FfnDwUpRefIdeal.nD Cert.FfnDwUpRefIdeal.τ).loc Cert.FfnDwUpRefIdeal.main_arg0)
          ∧ r.2.mem ((c.tc : Thread Cert.FfnDwUpRefIdeal.nD Cert.FfnDwUpRefIdeal.τ).loc Cert.FfnDwUpRefIdeal.main_arg1) = m' ((c.tc : Thread Cert.FfnDwUpRefIdeal.nD Cert.FfnDwUpRefIdeal.τ).loc Cert.FfnDwUpRefIdeal.main_arg1))

def preserves_FfnDwDown_FfnDwDownIdeal : Prop :=
  True

def algebraic_FfnDwDownIdeal_FfnDwDownRefIdeal [hFfnDwDownIdeal : Cert.FfnDwDownIdeal.Facts] [hFfnDwDownRefIdeal : Cert.FfnDwDownRefIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownRefIdeal.nD Cert.FfnDwDownRefIdeal.τ Cert.FfnDwDownRefIdeal.sig) → Buf (Elt Ideal) ℓ) (g' : Dev Cert.FfnDwDownRefIdeal.nD → PrngReg), Pre_FfnDwDownIdeal m →
    (∀ c : Dev Cert.FfnDwDownIdeal.nD,
      m' ((c.tc : Thread Cert.FfnDwDownRefIdeal.nD Cert.FfnDwDownRefIdeal.τ).loc Cert.FfnDwDownRefIdeal.main_arg0) = m ((c.tc : Thread Cert.FfnDwDownIdeal.nD Cert.FfnDwDownIdeal.τ).loc Cert.FfnDwDownIdeal.main_arg0)
      ∧ m' ((c.tc : Thread Cert.FfnDwDownRefIdeal.nD Cert.FfnDwDownRefIdeal.τ).loc Cert.FfnDwDownRefIdeal.main_arg1) = m ((c.tc : Thread Cert.FfnDwDownIdeal.nD Cert.FfnDwDownIdeal.τ).loc Cert.FfnDwDownIdeal.main_arg1)) →
    ∃ (v0 : (c : Dev Cert.FfnDwDownIdeal.nD) → Buf (Elt Ideal) ((c.tc : Thread Cert.FfnDwDownIdeal.nD Cert.FfnDwDownIdeal.τ).loc Cert.FfnDwDownIdeal.main_v6)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v6) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1))
      ∧ θ_run (Cert.FfnDwDownRefIdeal.defs (F := Ideal)) (onTc (τ := Cert.FfnDwDownRefIdeal.τ) (Cert.FfnDwDownRefIdeal.main (F := Ideal))) ⟨m', fun _ => 0, g'⟩ (fun r => ∀ c : Dev Cert.FfnDwDownRefIdeal.nD,
          r.2.mem ((c.tc : Thread Cert.FfnDwDownRefIdeal.nD Cert.FfnDwDownRefIdeal.τ).loc Cert.FfnDwDownRefIdeal.main_v8) = v0 c
          ∧ r.2.mem ((c.tc : Thread Cert.FfnDwDownRefIdeal.nD Cert.FfnDwDownRefIdeal.τ).loc Cert.FfnDwDownRefIdeal.main_arg0) = m' ((c.tc : Thread Cert.FfnDwDownRefIdeal.nD Cert.FfnDwDownRefIdeal.τ).loc Cert.FfnDwDownRefIdeal.main_arg0)
          ∧ r.2.mem ((c.tc : Thread Cert.FfnDwDownRefIdeal.nD Cert.FfnDwDownRefIdeal.τ).loc Cert.FfnDwDownRefIdeal.main_arg1) = m' ((c.tc : Thread Cert.FfnDwDownRefIdeal.nD Cert.FfnDwDownRefIdeal.τ).loc Cert.FfnDwDownRefIdeal.main_arg1))

def preserves_MixDx_MixDxIdeal : Prop :=
  True

def algebraic_MixDxIdeal_MixDxRefIdeal [hMixDxIdeal : Cert.MixDxIdeal.Facts] [hMixDxRefIdeal : Cert.MixDxRefIdeal.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)) →
    ∃ (v0 : (c : Dev Cert.MixDxIdeal.nD) → Buf (Elt Ideal) ((c.tc : Thread Cert.MixDxIdeal.nD Cert.MixDxIdeal.τ).loc Cert.MixDxIdeal.main_v5)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v5) = v0 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v7) = v0 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v5)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v5) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v4) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_FfnDxFirst_FfnDxFirstIdeal : Prop :=
  True

def algebraic_FfnDxFirstIdeal_FfnDxFirstRefIdeal [hFfnDxFirstIdeal : Cert.FfnDxFirstIdeal.Facts] [hFfnDxFirstRefIdeal : Cert.FfnDxFirstRefIdeal.Facts] : Prop :=
  ∀ (m : (ℓ : Loc Cert.FfnDxFirstIdeal.nD Cert.FfnDxFirstIdeal.τ Cert.FfnDxFirstIdeal.sig) → Buf (Elt Ideal) ℓ) (g : Dev Cert.FfnDxFirstIdeal.nD → PrngReg)
    (m' : (ℓ : Loc Cert.FfnDxFirstRefIdeal.nD Cert.FfnDxFirstRefIdeal.τ Cert.FfnDxFirstRefIdeal.sig) → Buf (Elt Ideal) ℓ) (g' : Dev Cert.FfnDxFirstRefIdeal.nD → PrngReg), Pre_FfnDxFirstIdeal m →
    (∀ c : Dev Cert.FfnDxFirstIdeal.nD,
      m' ((c.tc : Thread Cert.FfnDxFirstRefIdeal.nD Cert.FfnDxFirstRefIdeal.τ).loc Cert.FfnDxFirstRefIdeal.main_arg0) = m ((c.tc : Thread Cert.FfnDxFirstIdeal.nD Cert.FfnDxFirstIdeal.τ).loc Cert.FfnDxFirstIdeal.main_arg0)
      ∧ m' ((c.tc : Thread Cert.FfnDxFirstRefIdeal.nD Cert.FfnDxFirstRefIdeal.τ).loc Cert.FfnDxFirstRefIdeal.main_arg1) = m ((c.tc : Thread Cert.FfnDxFirstIdeal.nD Cert.FfnDxFirstIdeal.τ).loc Cert.FfnDxFirstIdeal.main_arg1)
      ∧ m' ((c.tc : Thread Cert.FfnDxFirstRefIdeal.nD Cert.FfnDxFirstRefIdeal.τ).loc Cert.FfnDxFirstRefIdeal.main_arg2) = m ((c.tc : Thread Cert.FfnDxFirstIdeal.nD Cert.FfnDxFirstIdeal.τ).loc Cert.FfnDxFirstIdeal.main_arg2)) →
    ∃ (v0 : (c : Dev Cert.FfnDxFirstIdeal.nD) → Buf (Elt Ideal) ((c.tc : Thread Cert.FfnDxFirstIdeal.nD Cert.FfnDxFirstIdeal.τ).loc Cert.FfnDxFirstIdeal.main_v6)),
      θ_run (Cert.FfnDxFirstIdeal.defs (F := Ideal)) (onTc (τ := Cert.FfnDxFirstIdeal.τ) (Cert.FfnDxFirstIdeal.main (F := Ideal))) ⟨m, fun _ => 0, g⟩ (fun r => ∀ c : Dev Cert.FfnDxFirstIdeal.nD,
          r.2.mem ((c.tc : Thread Cert.FfnDxFirstIdeal.nD Cert.FfnDxFirstIdeal.τ).loc Cert.FfnDxFirstIdeal.main_v6) = v0 c
          ∧ r.2.mem ((c.tc : Thread Cert.FfnDxFirstIdeal.nD Cert.FfnDxFirstIdeal.τ).loc Cert.FfnDxFirstIdeal.main_arg0) = m ((c.tc : Thread Cert.FfnDxFirstIdeal.nD Cert.FfnDxFirstIdeal.τ).loc Cert.FfnDxFirstIdeal.main_arg0)
          ∧ r.2.mem ((c.tc : Thread Cert.FfnDxFirstIdeal.nD Cert.FfnDxFirstIdeal.τ).loc Cert.FfnDxFirstIdeal.main_arg1) = m ((c.tc : Thread Cert.FfnDxFirstIdeal.nD Cert.FfnDxFirstIdeal.τ).loc Cert.FfnDxFirstIdeal.main_arg1)
          ∧ r.2.mem ((c.tc : Thread Cert.FfnDxFirstIdeal.nD Cert.FfnDxFirstIdeal.τ).loc Cert.FfnDxFirstIdeal.main_arg2) = m ((c.tc : Thread Cert.FfnDxFirstIdeal.nD Cert.FfnDxFirstIdeal.τ).loc Cert.FfnDxFirstIdeal.main_arg2))
      ∧ θ_run (Cert.FfnDxFirstRefIdeal.defs (F := Ideal)) (onTc (τ := Cert.FfnDxFirstRefIdeal.τ) (Cert.FfnDxFirstRefIdeal.main (F := Ideal))) ⟨m', fun _ => 0, g'⟩ (fun r => ∀ c : Dev Cert.FfnDxFirstRefIdeal.nD,
          r.2.mem ((c.tc : Thread Cert.FfnDxFirstRefIdeal.nD Cert.FfnDxFirstRefIdeal.τ).loc Cert.FfnDxFirstRefIdeal.main_v9) = v0 c
          ∧ r.2.mem ((c.tc : Thread Cert.FfnDxFirstRefIdeal.nD Cert.FfnDxFirstRefIdeal.τ).loc Cert.FfnDxFirstRefIdeal.main_arg0) = m' ((c.tc : Thread Cert.FfnDxFirstRefIdeal.nD Cert.FfnDxFirstRefIdeal.τ).loc Cert.FfnDxFirstRefIdeal.main_arg0)
          ∧ r.2.mem ((c.tc : Thread Cert.FfnDxFirstRefIdeal.nD Cert.FfnDxFirstRefIdeal.τ).loc Cert.FfnDxFirstRefIdeal.main_arg1) = m' ((c.tc : Thread Cert.FfnDxFirstRefIdeal.nD Cert.FfnDxFirstRefIdeal.τ).loc Cert.FfnDxFirstRefIdeal.main_arg1)
          ∧ r.2.mem ((c.tc : Thread Cert.FfnDxFirstRefIdeal.nD Cert.FfnDxFirstRefIdeal.τ).loc Cert.FfnDxFirstRefIdeal.main_arg2) = m' ((c.tc : Thread Cert.FfnDxFirstRefIdeal.nD Cert.FfnDxFirstRefIdeal.τ).loc Cert.FfnDxFirstRefIdeal.main_arg2))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v2)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v2) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v9) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v1) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v4_0)) (v1 : (c : Dev Cert.FfnUpIdeal.nD) → Buf (Elt Ideal) ((c.tc : Thread Cert.FfnUpIdeal.nD Cert.FfnUpIdeal.τ).loc Cert.FfnUpIdeal.main_v4_1)) (v2 : (c : Dev Cert.FfnUpIdeal.nD) → Buf (Elt Ideal) ((c.tc : Thread Cert.FfnUpIdeal.nD Cert.FfnUpIdeal.τ).loc Cert.FfnUpIdeal.main_v4_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4_0) = v0 c
          ∧ r.2.mem ((c.tc : Thread Cert.FfnUpIdeal.nD Cert.FfnUpIdeal.τ).loc Cert.FfnUpIdeal.main_v4_1) = v1 c
          ∧ r.2.mem ((c.tc : Thread Cert.FfnUpIdeal.nD Cert.FfnUpIdeal.τ).loc Cert.FfnUpIdeal.main_v4_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v10) = v1 c
          ∧ r.2.mem ((c.tc : Thread Cert.FfnUpRefIdeal.nD Cert.FfnUpRefIdeal.τ).loc Cert.FfnUpRefIdeal.main_v15) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnUpFirst_FfnUpFirstIdeal : Prop :=
  True

def algebraic_FfnUpFirstIdeal_FfnUpFirstRefIdeal [hFfnUpFirstIdeal : Cert.FfnUpFirstIdeal.Facts] [hFfnUpFirstRefIdeal : Cert.FfnUpFirstRefIdeal.Facts] : Prop :=
  ∀ (m : (ℓ : Loc Cert.FfnUpFirstIdeal.nD Cert.FfnUpFirstIdeal.τ Cert.FfnUpFirstIdeal.sig) → Buf (Elt Ideal) ℓ) (g : Dev Cert.FfnUpFirstIdeal.nD → PrngReg)
    (m' : (ℓ : Loc Cert.FfnUpFirstRefIdeal.nD Cert.FfnUpFirstRefIdeal.τ Cert.FfnUpFirstRefIdeal.sig) → Buf (Elt Ideal) ℓ) (g' : Dev Cert.FfnUpFirstRefIdeal.nD → PrngReg), Pre_FfnUpFirstIdeal m →
    (∀ c : Dev Cert.FfnUpFirstIdeal.nD,
      m' ((c.tc : Thread Cert.FfnUpFirstRefIdeal.nD Cert.FfnUpFirstRefIdeal.τ).loc Cert.FfnUpFirstRefIdeal.main_arg0) = m ((c.tc : Thread Cert.FfnUpFirstIdeal.nD Cert.FfnUpFirstIdeal.τ).loc Cert.FfnUpFirstIdeal.main_arg0)
      ∧ m' ((c.tc : Thread Cert.FfnUpFirstRefIdeal.nD Cert.FfnUpFirstRefIdeal.τ).loc Cert.FfnUpFirstRefIdeal.main_arg1) = m ((c.tc : Thread Cert.FfnUpFirstIdeal.nD Cert.FfnUpFirstIdeal.τ).loc Cert.FfnUpFirstIdeal.main_arg1)) →
    ∃ (v0 : (c : Dev Cert.FfnUpFirstIdeal.nD) → Buf (Elt Ideal) ((c.tc : Thread Cert.FfnUpFirstIdeal.nD Cert.FfnUpFirstIdeal.τ).loc Cert.FfnUpFirstIdeal.main_v4_0)) (v1 : (c : Dev Cert.FfnUpFirstIdeal.nD) → Buf (Elt Ideal) ((c.tc : Thread Cert.FfnUpFirstIdeal.nD Cert.FfnUpFirstIdeal.τ).loc Cert.FfnUpFirstIdeal.main_v4_1)) (v2 : (c : Dev Cert.FfnUpFirstIdeal.nD) → Buf (Elt Ideal) ((c.tc : Thread Cert.FfnUpFirstIdeal.nD Cert.FfnUpFirstIdeal.τ).loc Cert.FfnUpFirstIdeal.main_v4_2)),
      θ_run (Cert.FfnUpFirstIdeal.defs (F := Ideal)) (onTc (τ := Cert.FfnUpFirstIdeal.τ) (Cert.FfnUpFirstIdeal.main (F := Ideal))) ⟨m, fun _ => 0, g⟩ (fun r => ∀ c : Dev Cert.FfnUpFirstIdeal.nD,
          r.2.mem ((c.tc : Thread Cert.FfnUpFirstIdeal.nD Cert.FfnUpFirstIdeal.τ).loc Cert.FfnUpFirstIdeal.main_v4_0) = v0 c
          ∧ r.2.mem ((c.tc : Thread Cert.FfnUpFirstIdeal.nD Cert.FfnUpFirstIdeal.τ).loc Cert.FfnUpFirstIdeal.main_v4_1) = v1 c
          ∧ r.2.mem ((c.tc : Thread Cert.FfnUpFirstIdeal.nD Cert.FfnUpFirstIdeal.τ).loc Cert.FfnUpFirstIdeal.main_v4_2) = v2 c
          ∧ r.2.mem ((c.tc : Thread Cert.FfnUpFirstIdeal.nD Cert.FfnUpFirstIdeal.τ).loc Cert.FfnUpFirstIdeal.main_arg0) = m ((c.tc : Thread Cert.FfnUpFirstIdeal.nD Cert.FfnUpFirstIdeal.τ).loc Cert.FfnUpFirstIdeal.main_arg0)
          ∧ r.2.mem ((c.tc : Thread Cert.FfnUpFirstIdeal.nD Cert.FfnUpFirstIdeal.τ).loc Cert.FfnUpFirstIdeal.main_arg1) = m ((c.tc : Thread Cert.FfnUpFirstIdeal.nD Cert.FfnUpFirstIdeal.τ).loc Cert.FfnUpFirstIdeal.main_arg1))
      ∧ θ_run (Cert.FfnUpFirstRefIdeal.defs (F := Ideal)) (onTc (τ := Cert.FfnUpFirstRefIdeal.τ) (Cert.FfnUpFirstRefIdeal.main (F := Ideal))) ⟨m', fun _ => 0, g'⟩ (fun r => ∀ c : Dev Cert.FfnUpFirstRefIdeal.nD,
          r.2.mem ((c.tc : Thread Cert.FfnUpFirstRefIdeal.nD Cert.FfnUpFirstRefIdeal.τ).loc Cert.FfnUpFirstRefIdeal.main_v7) = v0 c
          ∧ r.2.mem ((c.tc : Thread Cert.FfnUpFirstRefIdeal.nD Cert.FfnUpFirstRefIdeal.τ).loc Cert.FfnUpFirstRefIdeal.main_v10) = v1 c
          ∧ r.2.mem ((c.tc : Thread Cert.FfnUpFirstRefIdeal.nD Cert.FfnUpFirstRefIdeal.τ).loc Cert.FfnUpFirstRefIdeal.main_v15) = v2 c
          ∧ r.2.mem ((c.tc : Thread Cert.FfnUpFirstRefIdeal.nD Cert.FfnUpFirstRefIdeal.τ).loc Cert.FfnUpFirstRefIdeal.main_arg0) = m' ((c.tc : Thread Cert.FfnUpFirstRefIdeal.nD Cert.FfnUpFirstRefIdeal.τ).loc Cert.FfnUpFirstRefIdeal.main_arg0)
          ∧ r.2.mem ((c.tc : Thread Cert.FfnUpFirstRefIdeal.nD Cert.FfnUpFirstRefIdeal.τ).loc Cert.FfnUpFirstRefIdeal.main_arg1) = m' ((c.tc : Thread Cert.FfnUpFirstRefIdeal.nD Cert.FfnUpFirstRefIdeal.τ).loc Cert.FfnUpFirstRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v7_0)) (v1 : (c : Dev Cert.FfnDownIdeal.nD) → Buf (Elt Ideal) ((c.tc : Thread Cert.FfnDownIdeal.nD Cert.FfnDownIdeal.τ).loc Cert.FfnDownIdeal.main_v7_1)) (v2 : (c : Dev Cert.FfnDownIdeal.nD) → Buf (Elt Ideal) ((c.tc : Thread Cert.FfnDownIdeal.nD Cert.FfnDownIdeal.τ).loc Cert.FfnDownIdeal.main_v7_2)) (v3 : (c : Dev Cert.FfnDownIdeal.nD) → Buf (Elt Ideal) ((c.tc : Thread Cert.FfnDownIdeal.nD Cert.FfnDownIdeal.τ).loc Cert.FfnDownIdeal.main_v7_3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v7_0) = v0 c
          ∧ r.2.mem ((c.tc : Thread Cert.FfnDownIdeal.nD Cert.FfnDownIdeal.τ).loc Cert.FfnDownIdeal.main_v7_1) = v1 c
          ∧ r.2.mem ((c.tc : Thread Cert.FfnDownIdeal.nD Cert.FfnDownIdeal.τ).loc Cert.FfnDownIdeal.main_v7_2) = v2 c
          ∧ r.2.mem ((c.tc : Thread Cert.FfnDownIdeal.nD Cert.FfnDownIdeal.τ).loc Cert.FfnDownIdeal.main_v7_3) = v3 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v35) = v0 c
          ∧ r.2.mem ((c.tc : Thread Cert.FfnDownRefIdeal.nD Cert.FfnDownRefIdeal.τ).loc Cert.FfnDownRefIdeal.main_v36) = v1 c
          ∧ r.2.mem ((c.tc : Thread Cert.FfnDownRefIdeal.nD Cert.FfnDownRefIdeal.τ).loc Cert.FfnDownRefIdeal.main_v25) = v2 c
          ∧ r.2.mem ((c.tc : Thread Cert.FfnDownRefIdeal.nD Cert.FfnDownRefIdeal.τ).loc Cert.FfnDownRefIdeal.main_v21) = v3 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_FfnDownFirst_FfnDownFirstIdeal : Prop :=
  True

def algebraic_FfnDownFirstIdeal_FfnDownFirstRefIdeal [hFfnDownFirstIdeal : Cert.FfnDownFirstIdeal.Facts] [hFfnDownFirstRefIdeal : Cert.FfnDownFirstRefIdeal.Facts] : Prop :=
  ∀ (m : (ℓ : Loc Cert.FfnDownFirstIdeal.nD Cert.FfnDownFirstIdeal.τ Cert.FfnDownFirstIdeal.sig) → Buf (Elt Ideal) ℓ) (g : Dev Cert.FfnDownFirstIdeal.nD → PrngReg)
    (m' : (ℓ : Loc Cert.FfnDownFirstRefIdeal.nD Cert.FfnDownFirstRefIdeal.τ Cert.FfnDownFirstRefIdeal.sig) → Buf (Elt Ideal) ℓ) (g' : Dev Cert.FfnDownFirstRefIdeal.nD → PrngReg), Pre_FfnDownFirstIdeal m →
    (∀ c : Dev Cert.FfnDownFirstIdeal.nD,
      m' ((c.tc : Thread Cert.FfnDownFirstRefIdeal.nD Cert.FfnDownFirstRefIdeal.τ).loc Cert.FfnDownFirstRefIdeal.main_arg0) = m ((c.tc : Thread Cert.FfnDownFirstIdeal.nD Cert.FfnDownFirstIdeal.τ).loc Cert.FfnDownFirstIdeal.main_arg0)
      ∧ m' ((c.tc : Thread Cert.FfnDownFirstRefIdeal.nD Cert.FfnDownFirstRefIdeal.τ).loc Cert.FfnDownFirstRefIdeal.main_arg1) = m ((c.tc : Thread Cert.FfnDownFirstIdeal.nD Cert.FfnDownFirstIdeal.τ).loc Cert.FfnDownFirstIdeal.main_arg1)
      ∧ m' ((c.tc : Thread Cert.FfnDownFirstRefIdeal.nD Cert.FfnDownFirstRefIdeal.τ).loc Cert.FfnDownFirstRefIdeal.main_arg2) = m ((c.tc : Thread Cert.FfnDownFirstIdeal.nD Cert.FfnDownFirstIdeal.τ).loc Cert.FfnDownFirstIdeal.main_arg2)
      ∧ m' ((c.tc : Thread Cert.FfnDownFirstRefIdeal.nD Cert.FfnDownFirstRefIdeal.τ).loc Cert.FfnDownFirstRefIdeal.main_arg3) = m ((c.tc : Thread Cert.FfnDownFirstIdeal.nD Cert.FfnDownFirstIdeal.τ).loc Cert.FfnDownFirstIdeal.main_arg3)
      ∧ m' ((c.tc : Thread Cert.FfnDownFirstRefIdeal.nD Cert.FfnDownFirstRefIdeal.τ).loc Cert.FfnDownFirstRefIdeal.main_arg4) = m ((c.tc : Thread Cert.FfnDownFirstIdeal.nD Cert.FfnDownFirstIdeal.τ).loc Cert.FfnDownFirstIdeal.main_arg4)) →
    ∃ (v0 : (c : Dev Cert.FfnDownFirstIdeal.nD) → Buf (Elt Ideal) ((c.tc : Thread Cert.FfnDownFirstIdeal.nD Cert.FfnDownFirstIdeal.τ).loc Cert.FfnDownFirstIdeal.main_v7_0)) (v1 : (c : Dev Cert.FfnDownFirstIdeal.nD) → Buf (Elt Ideal) ((c.tc : Thread Cert.FfnDownFirstIdeal.nD Cert.FfnDownFirstIdeal.τ).loc Cert.FfnDownFirstIdeal.main_v7_1)) (v2 : (c : Dev Cert.FfnDownFirstIdeal.nD) → Buf (Elt Ideal) ((c.tc : Thread Cert.FfnDownFirstIdeal.nD Cert.FfnDownFirstIdeal.τ).loc Cert.FfnDownFirstIdeal.main_v7_2)) (v3 : (c : Dev Cert.FfnDownFirstIdeal.nD) → Buf (Elt Ideal) ((c.tc : Thread Cert.FfnDownFirstIdeal.nD Cert.FfnDownFirstIdeal.τ).loc Cert.FfnDownFirstIdeal.main_v7_3)),
      θ_run (Cert.FfnDownFirstIdeal.defs (F := Ideal)) (onTc (τ := Cert.FfnDownFirstIdeal.τ) (Cert.FfnDownFirstIdeal.main (F := Ideal))) ⟨m, fun _ => 0, g⟩ (fun r => ∀ c : Dev Cert.FfnDownFirstIdeal.nD,
          r.2.mem ((c.tc : Thread Cert.FfnDownFirstIdeal.nD Cert.FfnDownFirstIdeal.τ).loc Cert.FfnDownFirstIdeal.main_v7_0) = v0 c
          ∧ r.2.mem ((c.tc : Thread Cert.FfnDownFirstIdeal.nD Cert.FfnDownFirstIdeal.τ).loc Cert.FfnDownFirstIdeal.main_v7_1) = v1 c
          ∧ r.2.mem ((c.tc : Thread Cert.FfnDownFirstIdeal.nD Cert.FfnDownFirstIdeal.τ).loc Cert.FfnDownFirstIdeal.main_v7_2) = v2 c
          ∧ r.2.mem ((c.tc : Thread Cert.FfnDownFirstIdeal.nD Cert.FfnDownFirstIdeal.τ).loc Cert.FfnDownFirstIdeal.main_v7_3) = v3 c
          ∧ r.2.mem ((c.tc : Thread Cert.FfnDownFirstIdeal.nD Cert.FfnDownFirstIdeal.τ).loc Cert.FfnDownFirstIdeal.main_arg0) = m ((c.tc : Thread Cert.FfnDownFirstIdeal.nD Cert.FfnDownFirstIdeal.τ).loc Cert.FfnDownFirstIdeal.main_arg0)
          ∧ r.2.mem ((c.tc : Thread Cert.FfnDownFirstIdeal.nD Cert.FfnDownFirstIdeal.τ).loc Cert.FfnDownFirstIdeal.main_arg1) = m ((c.tc : Thread Cert.FfnDownFirstIdeal.nD Cert.FfnDownFirstIdeal.τ).loc Cert.FfnDownFirstIdeal.main_arg1)
          ∧ r.2.mem ((c.tc : Thread Cert.FfnDownFirstIdeal.nD Cert.FfnDownFirstIdeal.τ).loc Cert.FfnDownFirstIdeal.main_arg2) = m ((c.tc : Thread Cert.FfnDownFirstIdeal.nD Cert.FfnDownFirstIdeal.τ).loc Cert.FfnDownFirstIdeal.main_arg2)
          ∧ r.2.mem ((c.tc : Thread Cert.FfnDownFirstIdeal.nD Cert.FfnDownFirstIdeal.τ).loc Cert.FfnDownFirstIdeal.main_arg3) = m ((c.tc : Thread Cert.FfnDownFirstIdeal.nD Cert.FfnDownFirstIdeal.τ).loc Cert.FfnDownFirstIdeal.main_arg3)
          ∧ r.2.mem ((c.tc : Thread Cert.FfnDownFirstIdeal.nD Cert.FfnDownFirstIdeal.τ).loc Cert.FfnDownFirstIdeal.main_arg4) = m ((c.tc : Thread Cert.FfnDownFirstIdeal.nD Cert.FfnDownFirstIdeal.τ).loc Cert.FfnDownFirstIdeal.main_arg4))
      ∧ θ_run (Cert.FfnDownFirstRefIdeal.defs (F := Ideal)) (onTc (τ := Cert.FfnDownFirstRefIdeal.τ) (Cert.FfnDownFirstRefIdeal.main (F := Ideal))) ⟨m', fun _ => 0, g'⟩ (fun r => ∀ c : Dev Cert.FfnDownFirstRefIdeal.nD,
          r.2.mem ((c.tc : Thread Cert.FfnDownFirstRefIdeal.nD Cert.FfnDownFirstRefIdeal.τ).loc Cert.FfnDownFirstRefIdeal.main_v35) = v0 c
          ∧ r.2.mem ((c.tc : Thread Cert.FfnDownFirstRefIdeal.nD Cert.FfnDownFirstRefIdeal.τ).loc Cert.FfnDownFirstRefIdeal.main_v36) = v1 c
          ∧ r.2.mem ((c.tc : Thread Cert.FfnDownFirstRefIdeal.nD Cert.FfnDownFirstRefIdeal.τ).loc Cert.FfnDownFirstRefIdeal.main_v25) = v2 c
          ∧ r.2.mem ((c.tc : Thread Cert.FfnDownFirstRefIdeal.nD Cert.FfnDownFirstRefIdeal.τ).loc Cert.FfnDownFirstRefIdeal.main_v21) = v3 c
          ∧ r.2.mem ((c.tc : Thread Cert.FfnDownFirstRefIdeal.nD Cert.FfnDownFirstRefIdeal.τ).loc Cert.FfnDownFirstRefIdeal.main_arg0) = m' ((c.tc : Thread Cert.FfnDownFirstRefIdeal.nD Cert.FfnDownFirstRefIdeal.τ).loc Cert.FfnDownFirstRefIdeal.main_arg0)
          ∧ r.2.mem ((c.tc : Thread Cert.FfnDownFirstRefIdeal.nD Cert.FfnDownFirstRefIdeal.τ).loc Cert.FfnDownFirstRefIdeal.main_arg1) = m' ((c.tc : Thread Cert.FfnDownFirstRefIdeal.nD Cert.FfnDownFirstRefIdeal.τ).loc Cert.FfnDownFirstRefIdeal.main_arg1)
          ∧ r.2.mem ((c.tc : Thread Cert.FfnDownFirstRefIdeal.nD Cert.FfnDownFirstRefIdeal.τ).loc Cert.FfnDownFirstRefIdeal.main_arg2) = m' ((c.tc : Thread Cert.FfnDownFirstRefIdeal.nD Cert.FfnDownFirstRefIdeal.τ).loc Cert.FfnDownFirstRefIdeal.main_arg2)
          ∧ r.2.mem ((c.tc : Thread Cert.FfnDownFirstRefIdeal.nD Cert.FfnDownFirstRefIdeal.τ).loc Cert.FfnDownFirstRefIdeal.main_arg3) = m' ((c.tc : Thread Cert.FfnDownFirstRefIdeal.nD Cert.FfnDownFirstRefIdeal.τ).loc Cert.FfnDownFirstRefIdeal.main_arg3)
          ∧ r.2.mem ((c.tc : Thread Cert.FfnDownFirstRefIdeal.nD Cert.FfnDownFirstRefIdeal.τ).loc Cert.FfnDownFirstRefIdeal.main_arg4) = m' ((c.tc : Thread Cert.FfnDownFirstRefIdeal.nD Cert.FfnDownFirstRefIdeal.τ).loc Cert.FfnDownFirstRefIdeal.main_arg4))

def preserves_MixEnd_MixEndIdeal : Prop :=
  True

def algebraic_MixEndIdeal_MixEndRefIdeal [hMixEndIdeal : Cert.MixEndIdeal.Facts] [hMixEndRefIdeal : Cert.MixEndRefIdeal.Facts] : Prop :=
  ∀ (m : (ℓ : Loc Cert.MixEndIdeal.nD Cert.MixEndIdeal.τ Cert.MixEndIdeal.sig) → Buf (Elt Ideal) ℓ) (g : Dev Cert.MixEndIdeal.nD → PrngReg)
    (m' : (ℓ : Loc Cert.MixEndRefIdeal.nD Cert.MixEndRefIdeal.τ Cert.MixEndRefIdeal.sig) → Buf (Elt Ideal) ℓ) (g' : Dev Cert.MixEndRefIdeal.nD → PrngReg), Pre_MixEndIdeal m →
    (∀ c : Dev Cert.MixEndIdeal.nD,
      m' ((c.tc : Thread Cert.MixEndRefIdeal.nD Cert.MixEndRefIdeal.τ).loc Cert.MixEndRefIdeal.main_arg0) = m ((c.tc : Thread Cert.MixEndIdeal.nD Cert.MixEndIdeal.τ).loc Cert.MixEndIdeal.main_arg0)
      ∧ m' ((c.tc : Thread Cert.MixEndRefIdeal.nD Cert.MixEndRefIdeal.τ).loc Cert.MixEndRefIdeal.main_arg1) = m ((c.tc : Thread Cert.MixEndIdeal.nD Cert.MixEndIdeal.τ).loc Cert.MixEndIdeal.main_arg1)
      ∧ m' ((c.tc : Thread Cert.MixEndRefIdeal.nD Cert.MixEndRefIdeal.τ).loc Cert.MixEndRefIdeal.main_arg2) = m ((c.tc : Thread Cert.MixEndIdeal.nD Cert.MixEndIdeal.τ).loc Cert.MixEndIdeal.main_arg2)
      ∧ m' ((c.tc : Thread Cert.MixEndRefIdeal.nD Cert.MixEndRefIdeal.τ).loc Cert.MixEndRefIdeal.main_arg3) = m ((c.tc : Thread Cert.MixEndIdeal.nD Cert.MixEndIdeal.τ).loc Cert.MixEndIdeal.main_arg3)
      ∧ m' ((c.tc : Thread Cert.MixEndRefIdeal.nD Cert.MixEndRefIdeal.τ).loc Cert.MixEndRefIdeal.main_arg4) = m ((c.tc : Thread Cert.MixEndIdeal.nD Cert.MixEndIdeal.τ).loc Cert.MixEndIdeal.main_arg4)
      ∧ m' ((c.tc : Thread Cert.MixEndRefIdeal.nD Cert.MixEndRefIdeal.τ).loc Cert.MixEndRefIdeal.main_arg5) = m ((c.tc : Thread Cert.MixEndIdeal.nD Cert.MixEndIdeal.τ).loc Cert.MixEndIdeal.main_arg5)
      ∧ m' ((c.tc : Thread Cert.MixEndRefIdeal.nD Cert.MixEndRefIdeal.τ).loc Cert.MixEndRefIdeal.main_arg6) = m ((c.tc : Thread Cert.MixEndIdeal.nD Cert.MixEndIdeal.τ).loc Cert.MixEndIdeal.main_arg6)
      ∧ m' ((c.tc : Thread Cert.MixEndRefIdeal.nD Cert.MixEndRefIdeal.τ).loc Cert.MixEndRefIdeal.main_arg7) = m ((c.tc : Thread Cert.MixEndIdeal.nD Cert.MixEndIdeal.τ).loc Cert.MixEndIdeal.main_arg7)) →
    ∃ (v0 : (c : Dev Cert.MixEndIdeal.nD) → Buf (Elt Ideal) ((c.tc : Thread Cert.MixEndIdeal.nD Cert.MixEndIdeal.τ).loc Cert.MixEndIdeal.main_v8_0)) (v1 : (c : Dev Cert.MixEndIdeal.nD) → Buf (Elt Ideal) ((c.tc : Thread Cert.MixEndIdeal.nD Cert.MixEndIdeal.τ).loc Cert.MixEndIdeal.main_v8_1)) (v2 : (c : Dev Cert.MixEndIdeal.nD) → Buf (Elt Ideal) ((c.tc : Thread Cert.MixEndIdeal.nD Cert.MixEndIdeal.τ).loc Cert.MixEndIdeal.main_v8_2)) (v3 : (c : Dev Cert.MixEndIdeal.nD) → Buf (Elt Ideal) ((c.tc : Thread Cert.MixEndIdeal.nD Cert.MixEndIdeal.τ).loc Cert.MixEndIdeal.main_v8_3)) (v4 : (c : Dev Cert.MixEndIdeal.nD) → Buf (Elt Ideal) ((c.tc : Thread Cert.MixEndIdeal.nD Cert.MixEndIdeal.τ).loc Cert.MixEndIdeal.main_v8_4)) (v5 : (c : Dev Cert.MixEndIdeal.nD) → Buf (Elt Ideal) ((c.tc : Thread Cert.MixEndIdeal.nD Cert.MixEndIdeal.τ).loc Cert.MixEndIdeal.main_v8_5)) (v6 : (c : Dev Cert.MixEndIdeal.nD) → Buf (Elt Ideal) ((c.tc : Thread Cert.MixEndIdeal.nD Cert.MixEndIdeal.τ).loc Cert.MixEndIdeal.main_v8_6)) (v7 : (c : Dev Cert.MixEndIdeal.nD) → Buf (Elt Ideal) ((c.tc : Thread Cert.MixEndIdeal.nD Cert.MixEndIdeal.τ).loc Cert.MixEndIdeal.main_v8_7)),
      θ_run (Cert.MixEndIdeal.defs (F := Ideal)) (onTc (τ := Cert.MixEndIdeal.τ) (Cert.MixEndIdeal.main (F := Ideal))) ⟨m, fun _ => 0, g⟩ (fun r => ∀ c : Dev Cert.MixEndIdeal.nD,
          r.2.mem ((c.tc : Thread Cert.MixEndIdeal.nD Cert.MixEndIdeal.τ).loc Cert.MixEndIdeal.main_v8_0) = v0 c
          ∧ r.2.mem ((c.tc : Thread Cert.MixEndIdeal.nD Cert.MixEndIdeal.τ).loc Cert.MixEndIdeal.main_v8_1) = v1 c
          ∧ r.2.mem ((c.tc : Thread Cert.MixEndIdeal.nD Cert.MixEndIdeal.τ).loc Cert.MixEndIdeal.main_v8_2) = v2 c
          ∧ r.2.mem ((c.tc : Thread Cert.MixEndIdeal.nD Cert.MixEndIdeal.τ).loc Cert.MixEndIdeal.main_v8_3) = v3 c
          ∧ r.2.mem ((c.tc : Thread Cert.MixEndIdeal.nD Cert.MixEndIdeal.τ).loc Cert.MixEndIdeal.main_v8_4) = v4 c
          ∧ r.2.mem ((c.tc : Thread Cert.MixEndIdeal.nD Cert.MixEndIdeal.τ).loc Cert.MixEndIdeal.main_v8_5) = v5 c
          ∧ r.2.mem ((c.tc : Thread Cert.MixEndIdeal.nD Cert.MixEndIdeal.τ).loc Cert.MixEndIdeal.main_v8_6) = v6 c
          ∧ r.2.mem ((c.tc : Thread Cert.MixEndIdeal.nD Cert.MixEndIdeal.τ).loc Cert.MixEndIdeal.main_v8_7) = v7 c
          ∧ r.2.mem ((c.tc : Thread Cert.MixEndIdeal.nD Cert.MixEndIdeal.τ).loc Cert.MixEndIdeal.main_arg0) = m ((c.tc : Thread Cert.MixEndIdeal.nD Cert.MixEndIdeal.τ).loc Cert.MixEndIdeal.main_arg0)
          ∧ r.2.mem ((c.tc : Thread Cert.MixEndIdeal.nD Cert.MixEndIdeal.τ).loc Cert.MixEndIdeal.main_arg1) = m ((c.tc : Thread Cert.MixEndIdeal.nD Cert.MixEndIdeal.τ).loc Cert.MixEndIdeal.main_arg1)
          ∧ r.2.mem ((c.tc : Thread Cert.MixEndIdeal.nD Cert.MixEndIdeal.τ).loc Cert.MixEndIdeal.main_arg2) = m ((c.tc : Thread Cert.MixEndIdeal.nD Cert.MixEndIdeal.τ).loc Cert.MixEndIdeal.main_arg2)
          ∧ r.2.mem ((c.tc : Thread Cert.MixEndIdeal.nD Cert.MixEndIdeal.τ).loc Cert.MixEndIdeal.main_arg3) = m ((c.tc : Thread Cert.MixEndIdeal.nD Cert.MixEndIdeal.τ).loc Cert.MixEndIdeal.main_arg3)
          ∧ r.2.mem ((c.tc : Thread Cert.MixEndIdeal.nD Cert.MixEndIdeal.τ).loc Cert.MixEndIdeal.main_arg4) = m ((c.tc : Thread Cert.MixEndIdeal.nD Cert.MixEndIdeal.τ).loc Cert.MixEndIdeal.main_arg4)
          ∧ r.2.mem ((c.tc : Thread Cert.MixEndIdeal.nD Cert.MixEndIdeal.τ).loc Cert.MixEndIdeal.main_arg5) = m ((c.tc : Thread Cert.MixEndIdeal.nD Cert.MixEndIdeal.τ).loc Cert.MixEndIdeal.main_arg5)
          ∧ r.2.mem ((c.tc : Thread Cert.MixEndIdeal.nD Cert.MixEndIdeal.τ).loc Cert.MixEndIdeal.main_arg6) = m ((c.tc : Thread Cert.MixEndIdeal.nD Cert.MixEndIdeal.τ).loc Cert.MixEndIdeal.main_arg6)
          ∧ r.2.mem ((c.tc : Thread Cert.MixEndIdeal.nD Cert.MixEndIdeal.τ).loc Cert.MixEndIdeal.main_arg7) = m ((c.tc : Thread Cert.MixEndIdeal.nD Cert.MixEndIdeal.τ).loc Cert.MixEndIdeal.main_arg7))
      ∧ θ_run (Cert.MixEndRefIdeal.defs (F := Ideal)) (onTc (τ := Cert.MixEndRefIdeal.τ) (Cert.MixEndRefIdeal.main (F := Ideal))) ⟨m', fun _ => 0, g'⟩ (fun r => ∀ c : Dev Cert.MixEndRefIdeal.nD,
          r.2.mem ((c.tc : Thread Cert.MixEndRefIdeal.nD Cert.MixEndRefIdeal.τ).loc Cert.MixEndRefIdeal.main_v70) = v0 c
          ∧ r.2.mem ((c.tc : Thread Cert.MixEndRefIdeal.nD Cert.MixEndRefIdeal.τ).loc Cert.MixEndRefIdeal.main_v71) = v1 c
          ∧ r.2.mem ((c.tc : Thread Cert.MixEndRefIdeal.nD Cert.MixEndRefIdeal.τ).loc Cert.MixEndRefIdeal.main_v72) = v2 c
          ∧ r.2.mem ((c.tc : Thread Cert.MixEndRefIdeal.nD Cert.MixEndRefIdeal.τ).loc Cert.MixEndRefIdeal.main_v73) = v3 c
          ∧ r.2.mem ((c.tc : Thread Cert.MixEndRefIdeal.nD Cert.MixEndRefIdeal.τ).loc Cert.MixEndRefIdeal.main_v69) = v4 c
          ∧ r.2.mem ((c.tc : Thread Cert.MixEndRefIdeal.nD Cert.MixEndRefIdeal.τ).loc Cert.MixEndRefIdeal.main_v74) = v5 c
          ∧ r.2.mem ((c.tc : Thread Cert.MixEndRefIdeal.nD Cert.MixEndRefIdeal.τ).loc Cert.MixEndRefIdeal.main_v63) = v6 c
          ∧ r.2.mem ((c.tc : Thread Cert.MixEndRefIdeal.nD Cert.MixEndRefIdeal.τ).loc Cert.MixEndRefIdeal.main_v59) = v7 c
          ∧ r.2.mem ((c.tc : Thread Cert.MixEndRefIdeal.nD Cert.MixEndRefIdeal.τ).loc Cert.MixEndRefIdeal.main_arg0) = m' ((c.tc : Thread Cert.MixEndRefIdeal.nD Cert.MixEndRefIdeal.τ).loc Cert.MixEndRefIdeal.main_arg0)
          ∧ r.2.mem ((c.tc : Thread Cert.MixEndRefIdeal.nD Cert.MixEndRefIdeal.τ).loc Cert.MixEndRefIdeal.main_arg1) = m' ((c.tc : Thread Cert.MixEndRefIdeal.nD Cert.MixEndRefIdeal.τ).loc Cert.MixEndRefIdeal.main_arg1)
          ∧ r.2.mem ((c.tc : Thread Cert.MixEndRefIdeal.nD Cert.MixEndRefIdeal.τ).loc Cert.MixEndRefIdeal.main_arg2) = m' ((c.tc : Thread Cert.MixEndRefIdeal.nD Cert.MixEndRefIdeal.τ).loc Cert.MixEndRefIdeal.main_arg2)
          ∧ r.2.mem ((c.tc : Thread Cert.MixEndRefIdeal.nD Cert.MixEndRefIdeal.τ).loc Cert.MixEndRefIdeal.main_arg3) = m' ((c.tc : Thread Cert.MixEndRefIdeal.nD Cert.MixEndRefIdeal.τ).loc Cert.MixEndRefIdeal.main_arg3)
          ∧ r.2.mem ((c.tc : Thread Cert.MixEndRefIdeal.nD Cert.MixEndRefIdeal.τ).loc Cert.MixEndRefIdeal.main_arg4) = m' ((c.tc : Thread Cert.MixEndRefIdeal.nD Cert.MixEndRefIdeal.τ).loc Cert.MixEndRefIdeal.main_arg4)
          ∧ r.2.mem ((c.tc : Thread Cert.MixEndRefIdeal.nD Cert.MixEndRefIdeal.τ).loc Cert.MixEndRefIdeal.main_arg5) = m' ((c.tc : Thread Cert.MixEndRefIdeal.nD Cert.MixEndRefIdeal.τ).loc Cert.MixEndRefIdeal.main_arg5)
          ∧ r.2.mem ((c.tc : Thread Cert.MixEndRefIdeal.nD Cert.MixEndRefIdeal.τ).loc Cert.MixEndRefIdeal.main_arg6) = m' ((c.tc : Thread Cert.MixEndRefIdeal.nD Cert.MixEndRefIdeal.τ).loc Cert.MixEndRefIdeal.main_arg6)
          ∧ r.2.mem ((c.tc : Thread Cert.MixEndRefIdeal.nD Cert.MixEndRefIdeal.τ).loc Cert.MixEndRefIdeal.main_arg7) = m' ((c.tc : Thread Cert.MixEndRefIdeal.nD Cert.MixEndRefIdeal.τ).loc Cert.MixEndRefIdeal.main_arg7))

def preserves_FfnBack_FfnBackIdeal : Prop :=
  True

def algebraic_FfnBackIdeal_FfnBackRefIdeal_pre_finite_back [hFfnBackIdeal : Cert.FfnBackIdeal.Facts] [hFfnBackRefIdeal : Cert.FfnBackRefIdeal.Facts] [hPre_finite_back : Cert.Pre_finite_back.Facts] : Prop :=
  ∀ (m : (ℓ : Loc Cert.FfnBackIdeal.nD Cert.FfnBackIdeal.τ Cert.FfnBackIdeal.sig) → Buf (Elt Ideal) ℓ) (g : Dev Cert.FfnBackIdeal.nD → PrngReg)
    (m' : (ℓ : Loc Cert.FfnBackRefIdeal.nD Cert.FfnBackRefIdeal.τ Cert.FfnBackRefIdeal.sig) → Buf (Elt Ideal) ℓ) (g' : Dev Cert.FfnBackRefIdeal.nD → PrngReg), Pre_FfnBackIdeal_finite_back m →
    (∀ c : Dev Cert.FfnBackIdeal.nD,
      m' ((c.tc : Thread Cert.FfnBackRefIdeal.nD Cert.FfnBackRefIdeal.τ).loc Cert.FfnBackRefIdeal.main_arg0) = m ((c.tc : Thread Cert.FfnBackIdeal.nD Cert.FfnBackIdeal.τ).loc Cert.FfnBackIdeal.main_arg0)
      ∧ m' ((c.tc : Thread Cert.FfnBackRefIdeal.nD Cert.FfnBackRefIdeal.τ).loc Cert.FfnBackRefIdeal.main_arg1) = m ((c.tc : Thread Cert.FfnBackIdeal.nD Cert.FfnBackIdeal.τ).loc Cert.FfnBackIdeal.main_arg1)
      ∧ m' ((c.tc : Thread Cert.FfnBackRefIdeal.nD Cert.FfnBackRefIdeal.τ).loc Cert.FfnBackRefIdeal.main_arg2) = m ((c.tc : Thread Cert.FfnBackIdeal.nD Cert.FfnBackIdeal.τ).loc Cert.FfnBackIdeal.main_arg2)
      ∧ m' ((c.tc : Thread Cert.FfnBackRefIdeal.nD Cert.FfnBackRefIdeal.τ).loc Cert.FfnBackRefIdeal.main_arg3) = m ((c.tc : Thread Cert.FfnBackIdeal.nD Cert.FfnBackIdeal.τ).loc Cert.FfnBackIdeal.main_arg3)
      ∧ m' ((c.tc : Thread Cert.FfnBackRefIdeal.nD Cert.FfnBackRefIdeal.τ).loc Cert.FfnBackRefIdeal.main_arg4) = m ((c.tc : Thread Cert.FfnBackIdeal.nD Cert.FfnBackIdeal.τ).loc Cert.FfnBackIdeal.main_arg4)
      ∧ m' ((c.tc : Thread Cert.FfnBackRefIdeal.nD Cert.FfnBackRefIdeal.τ).loc Cert.FfnBackRefIdeal.main_arg5) = m ((c.tc : Thread Cert.FfnBackIdeal.nD Cert.FfnBackIdeal.τ).loc Cert.FfnBackIdeal.main_arg5)) →
    ∃ (v0 : (c : Dev Cert.FfnBackIdeal.nD) → Buf (Elt Ideal) ((c.tc : Thread Cert.FfnBackIdeal.nD Cert.FfnBackIdeal.τ).loc Cert.FfnBackIdeal.main_v38_0)) (v1 : (c : Dev Cert.FfnBackIdeal.nD) → Buf (Elt Ideal) ((c.tc : Thread Cert.FfnBackIdeal.nD Cert.FfnBackIdeal.τ).loc Cert.FfnBackIdeal.main_v38_1)) (v2 : (c : Dev Cert.FfnBackIdeal.nD) → Buf (Elt Ideal) ((c.tc : Thread Cert.FfnBackIdeal.nD Cert.FfnBackIdeal.τ).loc Cert.FfnBackIdeal.main_v38_2)) (v3 : (c : Dev Cert.FfnBackIdeal.nD) → Buf (Elt Ideal) ((c.tc : Thread Cert.FfnBackIdeal.nD Cert.FfnBackIdeal.τ).loc Cert.FfnBackIdeal.main_v38_3)),
      θ_run (Cert.FfnBackIdeal.defs (F := Ideal)) (onTc (τ := Cert.FfnBackIdeal.τ) (Cert.FfnBackIdeal.main (F := Ideal))) ⟨m, fun _ => 0, g⟩ (fun r => ∀ c : Dev Cert.FfnBackIdeal.nD,
          r.2.mem ((c.tc : Thread Cert.FfnBackIdeal.nD Cert.FfnBackIdeal.τ).loc Cert.FfnBackIdeal.main_v38_0) = v0 c
          ∧ r.2.mem ((c.tc : Thread Cert.FfnBackIdeal.nD Cert.FfnBackIdeal.τ).loc Cert.FfnBackIdeal.main_v38_1) = v1 c
          ∧ r.2.mem ((c.tc : Thread Cert.FfnBackIdeal.nD Cert.FfnBackIdeal.τ).loc Cert.FfnBackIdeal.main_v38_2) = v2 c
          ∧ r.2.mem ((c.tc : Thread Cert.FfnBackIdeal.nD Cert.FfnBackIdeal.τ).loc Cert.FfnBackIdeal.main_v38_3) = v3 c
          ∧ r.2.mem ((c.tc : Thread Cert.FfnBackIdeal.nD Cert.FfnBackIdeal.τ).loc Cert.FfnBackIdeal.main_arg0) = m ((c.tc : Thread Cert.FfnBackIdeal.nD Cert.FfnBackIdeal.τ).loc Cert.FfnBackIdeal.main_arg0)
          ∧ r.2.mem ((c.tc : Thread Cert.FfnBackIdeal.nD Cert.FfnBackIdeal.τ).loc Cert.FfnBackIdeal.main_arg1) = m ((c.tc : Thread Cert.FfnBackIdeal.nD Cert.FfnBackIdeal.τ).loc Cert.FfnBackIdeal.main_arg1)
          ∧ r.2.mem ((c.tc : Thread Cert.FfnBackIdeal.nD Cert.FfnBackIdeal.τ).loc Cert.FfnBackIdeal.main_arg2) = m ((c.tc : Thread Cert.FfnBackIdeal.nD Cert.FfnBackIdeal.τ).loc Cert.FfnBackIdeal.main_arg2)
          ∧ r.2.mem ((c.tc : Thread Cert.FfnBackIdeal.nD Cert.FfnBackIdeal.τ).loc Cert.FfnBackIdeal.main_arg3) = m ((c.tc : Thread Cert.FfnBackIdeal.nD Cert.FfnBackIdeal.τ).loc Cert.FfnBackIdeal.main_arg3)
          ∧ r.2.mem ((c.tc : Thread Cert.FfnBackIdeal.nD Cert.FfnBackIdeal.τ).loc Cert.FfnBackIdeal.main_arg4) = m ((c.tc : Thread Cert.FfnBackIdeal.nD Cert.FfnBackIdeal.τ).loc Cert.FfnBackIdeal.main_arg4)
          ∧ r.2.mem ((c.tc : Thread Cert.FfnBackIdeal.nD Cert.FfnBackIdeal.τ).loc Cert.FfnBackIdeal.main_arg5) = m ((c.tc : Thread Cert.FfnBackIdeal.nD Cert.FfnBackIdeal.τ).loc Cert.FfnBackIdeal.main_arg5))
      ∧ θ_run (Cert.FfnBackRefIdeal.defs (F := Ideal)) (onTc (τ := Cert.FfnBackRefIdeal.τ) (Cert.FfnBackRefIdeal.main (F := Ideal))) ⟨m', fun _ => 0, g'⟩ (fun r => ∀ c : Dev Cert.FfnBackRefIdeal.nD,
          r.2.mem ((c.tc : Thread Cert.FfnBackRefIdeal.nD Cert.FfnBackRefIdeal.τ).loc Cert.FfnBackRefIdeal.main_v65) = v0 c
          ∧ r.2.mem ((c.tc : Thread Cert.FfnBackRefIdeal.nD Cert.FfnBackRefIdeal.τ).loc Cert.FfnBackRefIdeal.main_v80) = v1 c
          ∧ r.2.mem ((c.tc : Thread Cert.FfnBackRefIdeal.nD Cert.FfnBackRefIdeal.τ).loc Cert.FfnBackRefIdeal.main_v84) = v2 c
          ∧ r.2.mem ((c.tc : Thread Cert.FfnBackRefIdeal.nD Cert.FfnBackRefIdeal.τ).loc Cert.FfnBackRefIdeal.main_v87) = v3 c
          ∧ r.2.mem ((c.tc : Thread Cert.FfnBackRefIdeal.nD Cert.FfnBackRefIdeal.τ).loc Cert.FfnBackRefIdeal.main_arg0) = m' ((c.tc : Thread Cert.FfnBackRefIdeal.nD Cert.FfnBackRefIdeal.τ).loc Cert.FfnBackRefIdeal.main_arg0)
          ∧ r.2.mem ((c.tc : Thread Cert.FfnBackRefIdeal.nD Cert.FfnBackRefIdeal.τ).loc Cert.FfnBackRefIdeal.main_arg1) = m' ((c.tc : Thread Cert.FfnBackRefIdeal.nD Cert.FfnBackRefIdeal.τ).loc Cert.FfnBackRefIdeal.main_arg1)
          ∧ r.2.mem ((c.tc : Thread Cert.FfnBackRefIdeal.nD Cert.FfnBackRefIdeal.τ).loc Cert.FfnBackRefIdeal.main_arg2) = m' ((c.tc : Thread Cert.FfnBackRefIdeal.nD Cert.FfnBackRefIdeal.τ).loc Cert.FfnBackRefIdeal.main_arg2)
          ∧ r.2.mem ((c.tc : Thread Cert.FfnBackRefIdeal.nD Cert.FfnBackRefIdeal.τ).loc Cert.FfnBackRefIdeal.main_arg3) = m' ((c.tc : Thread Cert.FfnBackRefIdeal.nD Cert.FfnBackRefIdeal.τ).loc Cert.FfnBackRefIdeal.main_arg3)
          ∧ r.2.mem ((c.tc : Thread Cert.FfnBackRefIdeal.nD Cert.FfnBackRefIdeal.τ).loc Cert.FfnBackRefIdeal.main_arg4) = m' ((c.tc : Thread Cert.FfnBackRefIdeal.nD Cert.FfnBackRefIdeal.τ).loc Cert.FfnBackRefIdeal.main_arg4)
          ∧ r.2.mem ((c.tc : Thread Cert.FfnBackRefIdeal.nD Cert.FfnBackRefIdeal.τ).loc Cert.FfnBackRefIdeal.main_arg5) = m' ((c.tc : Thread Cert.FfnBackRefIdeal.nD Cert.FfnBackRefIdeal.τ).loc Cert.FfnBackRefIdeal.main_arg5))

def Claim : Prop :=
  ∃ (hKernel : Cert.Kernel.Facts) (hKernelIdeal : Cert.KernelIdeal.Facts) (hReferenceIdeal : Cert.ReferenceIdeal.Facts) (hFfnDx : Cert.FfnDx.Facts) (hFfnDxIdeal : Cert.FfnDxIdeal.Facts) (hFfnDxRefIdeal : Cert.FfnDxRefIdeal.Facts) (hFfnDwUp : Cert.FfnDwUp.Facts) (hFfnDwUpIdeal : Cert.FfnDwUpIdeal.Facts) (hFfnDwUpRefIdeal : Cert.FfnDwUpRefIdeal.Facts) (hFfnDwDown : Cert.FfnDwDown.Facts) (hFfnDwDownIdeal : Cert.FfnDwDownIdeal.Facts) (hFfnDwDownRefIdeal : Cert.FfnDwDownRefIdeal.Facts) (hMixDx : Cert.MixDx.Facts) (hMixDxIdeal : Cert.MixDxIdeal.Facts) (hMixDxRefIdeal : Cert.MixDxRefIdeal.Facts) (hMixDw : Cert.MixDw.Facts) (hMixDwIdeal : Cert.MixDwIdeal.Facts) (hMixDwRefIdeal : Cert.MixDwRefIdeal.Facts) (hOutDw : Cert.OutDw.Facts) (hOutDwIdeal : Cert.OutDwIdeal.Facts) (hOutDwRefIdeal : Cert.OutDwRefIdeal.Facts) (hFfnDxFirst : Cert.FfnDxFirst.Facts) (hFfnDxFirstIdeal : Cert.FfnDxFirstIdeal.Facts) (hFfnDxFirstRefIdeal : Cert.FfnDxFirstRefIdeal.Facts) (hGateDw : Cert.GateDw.Facts) (hGateDwIdeal : Cert.GateDwIdeal.Facts) (hGateDwRefIdeal : Cert.GateDwRefIdeal.Facts) (hMixIn : Cert.MixIn.Facts) (hMixInIdeal : Cert.MixInIdeal.Facts) (hMixInRefIdeal : Cert.MixInRefIdeal.Facts) (hFfnUp : Cert.FfnUp.Facts) (hFfnUpIdeal : Cert.FfnUpIdeal.Facts) (hFfnUpRefIdeal : Cert.FfnUpRefIdeal.Facts) (hFfnUpFirst : Cert.FfnUpFirst.Facts) (hFfnUpFirstIdeal : Cert.FfnUpFirstIdeal.Facts) (hFfnUpFirstRefIdeal : Cert.FfnUpFirstRefIdeal.Facts) (hFfnDown : Cert.FfnDown.Facts) (hFfnDownIdeal : Cert.FfnDownIdeal.Facts) (hFfnDownRefIdeal : Cert.FfnDownRefIdeal.Facts) (hFfnDownFirst : Cert.FfnDownFirst.Facts) (hFfnDownFirstIdeal : Cert.FfnDownFirstIdeal.Facts) (hFfnDownFirstRefIdeal : Cert.FfnDownFirstRefIdeal.Facts) (hMixEnd : Cert.MixEnd.Facts) (hMixEndIdeal : Cert.MixEndIdeal.Facts) (hMixEndRefIdeal : Cert.MixEndRefIdeal.Facts) (hFfnBack : Cert.FfnBack.Facts) (hFfnBackIdeal : Cert.FfnBackIdeal.Facts) (hFfnBackRefIdeal : Cert.FfnBackRefIdeal.Facts) (hPre_finite : Cert.Pre_finite.Facts) (hPre_finite_back : Cert.Pre_finite_back.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_FfnDwUp (hFfnDwUp := hFfnDwUp)
    ∧ quiescent_FfnDwUpIdeal (hFfnDwUpIdeal := hFfnDwUpIdeal)
    ∧ quiescent_FfnDwUpRefIdeal (hFfnDwUpRefIdeal := hFfnDwUpRefIdeal)
    ∧ quiescent_FfnDwDown (hFfnDwDown := hFfnDwDown)
    ∧ quiescent_FfnDwDownIdeal (hFfnDwDownIdeal := hFfnDwDownIdeal)
    ∧ quiescent_FfnDwDownRefIdeal (hFfnDwDownRefIdeal := hFfnDwDownRefIdeal)
    ∧ quiescent_MixDx (hMixDx := hMixDx)
    ∧ quiescent_MixDxIdeal (hMixDxIdeal := hMixDxIdeal)
    ∧ quiescent_MixDxRefIdeal (hMixDxRefIdeal := hMixDxRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_FfnDxFirst (hFfnDxFirst := hFfnDxFirst)
    ∧ quiescent_FfnDxFirstIdeal (hFfnDxFirstIdeal := hFfnDxFirstIdeal)
    ∧ quiescent_FfnDxFirstRefIdeal (hFfnDxFirstRefIdeal := hFfnDxFirstRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnUpFirst (hFfnUpFirst := hFfnUpFirst)
    ∧ quiescent_FfnUpFirstIdeal (hFfnUpFirstIdeal := hFfnUpFirstIdeal)
    ∧ quiescent_FfnUpFirstRefIdeal (hFfnUpFirstRefIdeal := hFfnUpFirstRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownFirst (hFfnDownFirst := hFfnDownFirst)
    ∧ quiescent_FfnDownFirstIdeal (hFfnDownFirstIdeal := hFfnDownFirstIdeal)
    ∧ quiescent_FfnDownFirstRefIdeal (hFfnDownFirstRefIdeal := hFfnDownFirstRefIdeal)
    ∧ quiescent_MixEnd (hMixEnd := hMixEnd)
    ∧ quiescent_MixEndIdeal (hMixEndIdeal := hMixEndIdeal)
    ∧ quiescent_MixEndRefIdeal (hMixEndRefIdeal := hMixEndRefIdeal)
    ∧ quiescent_FfnBack (hFfnBack := hFfnBack)
    ∧ quiescent_FfnBackIdeal (hFfnBackIdeal := hFfnBackIdeal)
    ∧ quiescent_FfnBackIdeal_pre_finite_back (hFfnBackIdeal := hFfnBackIdeal) (hPre_finite_back := hPre_finite_back)
    ∧ quiescent_FfnBackRefIdeal (hFfnBackRefIdeal := hFfnBackRefIdeal)
    ∧ quiescent_FfnBackRefIdeal_pre_finite_back (hFfnBackRefIdeal := hFfnBackRefIdeal) (hPre_finite_back := hPre_finite_back)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnDx_FfnDxIdeal
    ∧ algebraic_FfnDxIdeal_FfnDxRefIdeal (hFfnDxIdeal := hFfnDxIdeal) (hFfnDxRefIdeal := hFfnDxRefIdeal)
    ∧ preserves_FfnDwUp_FfnDwUpIdeal
    ∧ algebraic_FfnDwUpIdeal_FfnDwUpRefIdeal (hFfnDwUpIdeal := hFfnDwUpIdeal) (hFfnDwUpRefIdeal := hFfnDwUpRefIdeal)
    ∧ preserves_FfnDwDown_FfnDwDownIdeal
    ∧ algebraic_FfnDwDownIdeal_FfnDwDownRefIdeal (hFfnDwDownIdeal := hFfnDwDownIdeal) (hFfnDwDownRefIdeal := hFfnDwDownRefIdeal)
    ∧ preserves_MixDx_MixDxIdeal
    ∧ algebraic_MixDxIdeal_MixDxRefIdeal (hMixDxIdeal := hMixDxIdeal) (hMixDxRefIdeal := hMixDxRefIdeal)
    ∧ preserves_MixDw_MixDwIdeal
    ∧ algebraic_MixDwIdeal_MixDwRefIdeal (hMixDwIdeal := hMixDwIdeal) (hMixDwRefIdeal := hMixDwRefIdeal)
    ∧ preserves_OutDw_OutDwIdeal
    ∧ algebraic_OutDwIdeal_OutDwRefIdeal (hOutDwIdeal := hOutDwIdeal) (hOutDwRefIdeal := hOutDwRefIdeal)
    ∧ preserves_FfnDxFirst_FfnDxFirstIdeal
    ∧ algebraic_FfnDxFirstIdeal_FfnDxFirstRefIdeal (hFfnDxFirstIdeal := hFfnDxFirstIdeal) (hFfnDxFirstRefIdeal := hFfnDxFirstRefIdeal)
    ∧ preserves_GateDw_GateDwIdeal
    ∧ algebraic_GateDwIdeal_GateDwRefIdeal (hGateDwIdeal := hGateDwIdeal) (hGateDwRefIdeal := hGateDwRefIdeal)
    ∧ preserves_MixIn_MixInIdeal
    ∧ algebraic_MixInIdeal_MixInRefIdeal (hMixInIdeal := hMixInIdeal) (hMixInRefIdeal := hMixInRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnUpFirst_FfnUpFirstIdeal
    ∧ algebraic_FfnUpFirstIdeal_FfnUpFirstRefIdeal (hFfnUpFirstIdeal := hFfnUpFirstIdeal) (hFfnUpFirstRefIdeal := hFfnUpFirstRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownFirst_FfnDownFirstIdeal
    ∧ algebraic_FfnDownFirstIdeal_FfnDownFirstRefIdeal (hFfnDownFirstIdeal := hFfnDownFirstIdeal) (hFfnDownFirstRefIdeal := hFfnDownFirstRefIdeal)
    ∧ preserves_MixEnd_MixEndIdeal
    ∧ algebraic_MixEndIdeal_MixEndRefIdeal (hMixEndIdeal := hMixEndIdeal) (hMixEndRefIdeal := hMixEndRefIdeal)
    ∧ preserves_FfnBack_FfnBackIdeal
    ∧ algebraic_FfnBackIdeal_FfnBackRefIdeal_pre_finite_back (hFfnBackIdeal := hFfnBackIdeal) (hFfnBackRefIdeal := hFfnBackRefIdeal) (hPre_finite_back := hPre_finite_back)
-- ==== Pre_finite.lean ====
abbrev S4096x1024 : Shape := ⟨2, ![4096, 1024]⟩
abbrev S1024 : Shape := ⟨1, ![1024]⟩
abbrev S2x4x256x256 : Shape := ⟨4, ![2, 4, 256, 256]⟩
abbrev S2x1024 : Shape := ⟨2, ![2, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S2x4x256x256 : S_.BroadcastsInDim S2x4x256x256 (![] : Fin 0 → Fin S2x4x256x256.rank)
  bcast_S_S2x1024 : S_.BroadcastsInDim S2x1024 (![] : Fin 0 → Fin S2x1024.rank)

variable [Facts]

def fn {F : FTy → Type} [FloatOps F] (main_arg0 : FVec F S4096x1024 .f32) (main_arg1 : FVec F S1024 .f32) (main_arg2 : FVec F S2x4x256x256 .f32) (main_arg3 : FVec F S2x1024 .f32) (main_arg4 : FVec F S1024 .f32) (main_arg5 : FVec F S4096x1024 .f32) : IVec S4096x1024 1 × IVec S1024 1 × IVec S2x4x256x256 1 × IVec S2x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2x4x256x256 .f32 := Host.absf main_arg2
  let main_cst_1 : FVec F S_ .f32 := constant S_ .f32 0x7F800000#32
  let main_v7 : FVec F S2x4x256x256 .f32 := broadcastInDim S2x4x256x256 ![] bcast_S_S2x4x256x256 main_cst_1
  let main_v8 : IVec S2x4x256x256 1 := cmpf .olt main_v6 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_back.lean ====
abbrev S4096x1024 : Shape := ⟨2, ![4096, 1024]⟩
abbrev S3x1024 : Shape := ⟨2, ![3, 1024]⟩
abbrev S2x2816x1024 : Shape := ⟨3, ![2, 2816, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  bcast_S_S3x1024 : S_.BroadcastsInDim S3x1024 (![] : Fin 0 → Fin S3x1024.rank)
  bcast_S_S2x2816x1024 : S_.BroadcastsInDim S2x2816x1024 (![] : Fin 0 → Fin S2x2816x1024.rank)
  bcast_S_S4096x2816 : S_.BroadcastsInDim S4096x2816 (![] : Fin 0 → Fin S4096x2816.rank)

variable [Facts]

def fn {F : FTy → Type} [FloatOps F] (main_arg0 : FVec F S4096x1024 .f32) (main_arg1 : FVec F S4096x1024 .f32) (main_arg2 : FVec F S3x1024 .f32) (main_arg3 : FVec F S2x2816x1024 .f32) (main_arg4 : FVec F S4096x2816 .f32) (main_arg5 : FVec F S4096x2816 .f32) : IVec S4096x1024 1 × IVec S4096x1024 1 × IVec S3x1024 1 × IVec S2x2816x1024 1 × IVec S4096x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S3x1024 .f32 := Host.absf main_arg2
  let main_cst_1 : FVec F S_ .f32 := constant S_ .f32 0x7F800000#32
  let main_v7 : FVec F S3x1024 .f32 := broadcastInDim S3x1024 ![] bcast_S_S3x1024 main_cst_1
  let main_v8 : IVec S3x1024 1 := cmpf .olt main_v6 main_v7
  let main_v9 : FVec F S2x2816x1024 .f32 := Host.absf main_arg3
  let main_cst_2 : FVec F S_ .f32 := constant S_ .f32 0x7F800000#32
  let main_v10 : FVec F S2x2816x1024 .f32 := broadcastInDim S2x2816x1024 ![] bcast_S_S2x2816x1024 main_cst_2
  let main_v11 : IVec S2x2816x1024 1 := cmpf .olt main_v9 main_v10
  let main_v12 : FVec F S4096x2816 .f32 := Host.absf main_arg5
  let main_cst_3 : FVec F S_ .f32 := constant S_ .f32 0x7F800000#32
  let main_v13 : FVec F S4096x2816 .f32 := broadcastInDim S4096x2816 ![] bcast_S_S4096x2816 main_cst_3
  let main_v14 : IVec S4096x2816 1 := cmpf .olt main_v12 main_v13
  (main_v2, main_v5, main_v8, main_v11, main_v14)
-- ==== Kernel.lean ====
abbrev S4096x1024 : Shape := ⟨2, ![4096, 1024]⟩
abbrev S1024 : Shape := ⟨1, ![1024]⟩
abbrev S2x4x256x256 : Shape := ⟨4, ![2, 4, 256, 256]⟩
abbrev S2x1024 : Shape := ⟨2, ![2, 1024]⟩
abbrev S1x1024 : Shape := ⟨2, ![1, 1024]⟩
abbrev S4096x4x256 : Shape := ⟨3, ![4096, 4, 256]⟩
abbrev S4x2x256x4096 : Shape := ⟨4, ![4, 2, 256, 4096]⟩
abbrev S2x4096x4x256 : Shape := ⟨4, ![2, 4096, 4, 256]⟩
abbrev S2x4096x1024 : Shape := ⟨3, ![2, 4096, 1024]⟩
abbrev S2x1x1024 : Shape := ⟨3, ![2, 1, 1024]⟩
abbrev S_ : Shape := ⟨0, ![]⟩
abbrev S1x4096x1024 : Shape := ⟨3, ![1, 4096, 1024]⟩
abbrev S4096 : Shape := ⟨1, ![4096]⟩
abbrev S4096x1 : Shape := ⟨2, ![4096, 1]⟩
abbrev S8x1024 : Shape := ⟨2, ![8, 1024]⟩
abbrev S256x1024 : Shape := ⟨2, ![256, 1024]⟩
abbrev S16x1024 : Shape := ⟨2, ![16, 1024]⟩
abbrev S2x256x1024 : Shape := ⟨3, ![2, 256, 1024]⟩
abbrev S264x1024 : Shape := ⟨2, ![264, 1024]⟩
abbrev S1x256x1024 : Shape := ⟨3, ![1, 256, 1024]⟩
abbrev S256x256 : Shape := ⟨2, ![256, 256]⟩
abbrev S1x1x256x256 : Shape := ⟨4, ![1, 1, 256, 256]⟩

abbrev nBuf : Space → Nat
  | .hbm => 104
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x4x256x256, .f32⟩
  | .hbm, ⟨3, _⟩ => ⟨S2x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x4x256, .f32⟩
  | .hbm, ⟨10, _⟩ => ⟨S4x2x256x4096, .f32⟩
  | .hbm, ⟨11, _⟩ => ⟨S2x4096x4x256, .f32⟩
  | .hbm, ⟨12, _⟩ => ⟨S2x4096x1024, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x4096x1024, .f32⟩
  | .hbm, ⟨20, _⟩ => ⟨S2x4096x1024, .f32⟩
  | .hbm, ⟨21, _⟩ => ⟨S_, .f32⟩
  | .hbm, ⟨22, _⟩ => ⟨S2x4096x1024, .f32⟩
  | .hbm, ⟨23, _⟩ => ⟨S2x4096x1024, .f32⟩
  | .hbm, ⟨24, _⟩ => ⟨S1x4096x1024, .f32⟩
  | .hbm, ⟨25, _⟩ => ⟨S4096x1024, .f32⟩
  | .hbm, ⟨26, _⟩ => ⟨S1x4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .i1⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S4096x1, .i1⟩
  | .hbm, ⟨61, _⟩ => ⟨S_, .f32⟩
  | .hbm, ⟨62, _⟩ => ⟨S_, .f32⟩
  | .hbm, ⟨63, _⟩ => ⟨S4096x1024, .i1⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S4096x1024, .f32⟩
  | .hbm, ⟨72, _⟩ => ⟨S_, .i32⟩
  | .hbm, ⟨73, _⟩ => ⟨S4096x1024, .f32⟩
  | .hbm, ⟨74, _⟩ => ⟨S4096x1024, .f32⟩
  | .hbm, ⟨75, _⟩ => ⟨S_, .i32⟩
  | .hbm, ⟨76, _⟩ => ⟨S1024, .f32⟩
  | .hbm, ⟨77, _⟩ => ⟨S4096x1024, .f32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S1x1024, .f32⟩
  | .hbm, ⟨82, _⟩ => ⟨S1024, .f32⟩
  | .hbm, ⟨83, _⟩ => ⟨S_, .i32⟩
  | .hbm, ⟨84, _⟩ => ⟨S1x1024, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1x1024, .f32⟩
  | .hbm, ⟨89, _⟩ => ⟨S_, .i32⟩
  | .hbm, ⟨90, _⟩ => ⟨S4096x1024, .f32⟩
  | .hbm, ⟨91, _⟩ => ⟨S_, .i32⟩
  | .hbm, ⟨92, _⟩ => ⟨S_, .i32⟩
  | .hbm, ⟨93, _⟩ => ⟨S4096x1024, .bf16⟩
  | .hbm, ⟨94, _⟩ => ⟨S1x4096x1024, .f32⟩
  | .hbm, ⟨95, _⟩ => ⟨S4096x1024, .f32⟩
  | .hbm, ⟨96, _⟩ => ⟨S1x4096x1024, .f32⟩
  | .hbm, ⟨97, _⟩ => ⟨S4096x1024, .f32⟩
  | .hbm, ⟨98, _⟩ => ⟨S4096x1024, .bf16⟩
  | .hbm, ⟨99, _⟩ => ⟨S1x1024, .f32⟩
  | .hbm, ⟨100, _⟩ => ⟨S2x4x256x256, .bf16⟩
  | .hbm, ⟨101, _⟩ => ⟨S2x4096x1024, .bf16⟩
  | .hbm, ⟨102, _⟩ => ⟨S4096x1024, .f32⟩
  | .hbm, ⟨103, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S2x4x256x256, .bf16⟩
  | .local _ .vmem, ⟨14, _⟩ => ⟨S2x256x1024, .bf16⟩
  | .local _ .vmem, ⟨15, _⟩ => ⟨S2x256x1024, .bf16⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | .local _ .vmem, ⟨19, _⟩ => ⟨S264x1024, .f32⟩
  | .local _ .vmem, ⟨20, _⟩ => ⟨S264x1024, .f32⟩
  | .local _ .vmem, ⟨21, _⟩ => ⟨S256x1024, .f32⟩
  | .local _ .vmem, ⟨22, _⟩ => ⟨S256x1024, .f32⟩
  | .local _ .vmem, ⟨23, _⟩ => ⟨S8x1024, .f32⟩
  | .local _ .vmem, ⟨24, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_4 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_c_6 : Ref sig .tc := ⟨.hbm, 72, rfl⟩
abbrev main_v42_0 : Ref sig .tc := ⟨.hbm, 73, rfl⟩
abbrev main_v42_1 : Ref sig .tc := ⟨.hbm, 74, rfl⟩
abbrev main_v42_2 : Ref sig .tc := ⟨.hbm, 75, rfl⟩
abbrev main_v42_3 : Ref sig .tc := ⟨.hbm, 76, rfl⟩
abbrev main_v42_4 : Ref sig .tc := ⟨.hbm, 77, rfl⟩
abbrev main_while0c_c_11 : Ref sig .tc := ⟨.hbm, 78, rfl⟩
abbrev main_while0c_v52 : Ref sig .tc := ⟨.hbm, 79, rfl⟩
abbrev main_while0b_call2_c : Ref sig .tc := ⟨.hbm, 80, rfl⟩
abbrev main_while0b_call2_v0 : Ref sig .tc := ⟨.hbm, 81, rfl⟩
abbrev main_while0b_v52 : Ref sig .tc := ⟨.hbm, 82, rfl⟩
abbrev main_while0b_call3_c : Ref sig .tc := ⟨.hbm, 83, rfl⟩
abbrev main_while0b_call3_v0 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_call4_v0 : Ref sig .tc := ⟨.hbm, 88, rfl⟩
abbrev main_while0b_call4_c : Ref sig .tc := ⟨.hbm, 89, rfl⟩
abbrev main_while0b_v56 : Ref sig .tc := ⟨.hbm, 90, rfl⟩
abbrev main_while0b_c_11 : Ref sig .tc := ⟨.hbm, 91, rfl⟩
abbrev main_while0b_v57 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51_0 : Ref sig .tc := ⟨.hbm, 101, rfl⟩
abbrev main_v51_1 : Ref sig .tc := ⟨.hbm, 102, rfl⟩
abbrev main_v51_2 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev main_while0_count : Scf.Loop 32 := ⟨0#32, 4096#32, 1#32⟩

abbrev grid0 : Pipeline.Grid := ⟨1, ![16], ![false]⟩

@[reducible] def k0_t1_loop : Scf.Loop 32 :=
  let c0_i32_40 : BitVec 32 := 0#32
  let c32_i32 : BitVec 32 := 32#32
  let v76 : BitVec 32 := Scalar.addi c0_i32_40 c32_i32
  let c1_i32 : BitVec 32 := 1#32
  ⟨c0_i32_40, v76, c1_i32⟩
def k0_mult1 (k0_t1 : Fin k0_t1_loop.trips) : BitVec 32 :=
  let c31_i32 : BitVec 32 := 31#32
  let c0_i32_40 : BitVec 32 := 0#32
  let c1_i32 : BitVec 32 := 1#32
  let arg18 : BitVec 32 := Scf.iv c0_i32_40 c1_i32 k0_t1
  let v235 : BitVec 32 := Scalar.subi c31_i32 arg18
  let c8_i32 : BitVec 32 := 8#32
  let v236 : BitVec 32 := Scalar.muli v235 c8_i32
  v236
def k0_off1 (k0_t1 : Fin k0_t1_loop.trips) : Fin 2 → Nat :=
  let c31_i32 : BitVec 32 := 31#32
  let c0_i32_40 : BitVec 32 := 0#32
  let c1_i32 : BitVec 32 := 1#32
  let arg18 : BitVec 32 := Scf.iv c0_i32_40 c1_i32 k0_t1
  let v235 : BitVec 32 := Scalar.subi c31_i32 arg18
  let c8_i32 : BitVec 32 := 8#32
  let v236 : BitVec 32 := Scalar.muli v235 c8_i32
  let v237 : BitVec 32 := v236
  let v238 : Index := Scalar.indexCast v237
  let c0_136 : Index := 0#32
  ![v238.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
abbrev S4096x1024 : Shape := ⟨2, ![4096, 1024]⟩
abbrev S1024 : Shape := ⟨1, ![1024]⟩
abbrev S2x4x256x256 : Shape := ⟨4, ![2, 4, 256, 256]⟩
abbrev S2x1024 : Shape := ⟨2, ![2, 1024]⟩
abbrev S1x1024 : Shape := ⟨2, ![1, 1024]⟩
abbrev S4096x4x256 : Shape := ⟨3, ![4096, 4, 256]⟩
abbrev S4x2x256x4096 : Shape := ⟨4, ![4, 2, 256, 4096]⟩
abbrev S2x4096x4x256 : Shape := ⟨4, ![2, 4096, 4, 256]⟩
abbrev S2x4096x1024 : Shape := ⟨3, ![2, 4096, 1024]⟩
abbrev S2x1x1024 : Shape := ⟨3, ![2, 1, 1024]⟩
abbrev S_ : Shape := ⟨0, ![]⟩
abbrev S1x4096x1024 : Shape := ⟨3, ![1, 4096, 1024]⟩
abbrev S4096 : Shape := ⟨1, ![4096]⟩
abbrev S4096x1 : Shape := ⟨2, ![4096, 1]⟩
abbrev S8x1024 : Shape := ⟨2, ![8, 1024]⟩
abbrev S256x1024 : Shape := ⟨2, ![256, 1024]⟩
abbrev S16x1024 : Shape := ⟨2, ![16, 1024]⟩
abbrev S2x256x1024 : Shape := ⟨3, ![2, 256, 1024]⟩
abbrev S264x1024 : Shape := ⟨2, ![264, 1024]⟩
abbrev S1x256x1024 : Shape := ⟨3, ![1, 256, 1024]⟩
abbrev S256x256 : Shape := ⟨2, ![256, 256]⟩
abbrev S1x1x256x256 : Shape := ⟨4, ![1, 1, 256, 256]⟩

abbrev nBuf : Space → Nat
  | .hbm => 104
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S2x4x256x256, .f32⟩
  | .hbm, ⟨3, _⟩ => ⟨S2x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x4x256, .f32⟩
  | .hbm, ⟨10, _⟩ => ⟨S4x2x256x4096, .f32⟩
  | .hbm, ⟨11, _⟩ => ⟨S2x4096x4x256, .f32⟩
  | .hbm, ⟨12, _⟩ => ⟨S2x4096x1024, .f32⟩
  | .hbm, ⟨13, _⟩ => ⟨S2x1x1024, .f32⟩
  | .hbm, ⟨14, _⟩ => ⟨S2x4096x1024, .f32⟩
  | .hbm, ⟨15, _⟩ => ⟨S2x4096x1024, .f32⟩
  | .hbm, ⟨16, _⟩ => ⟨S2x4096x1024, .f32⟩
  | .hbm, ⟨17, _⟩ => ⟨S2x4096x1024, .f32⟩
  | .hbm, ⟨18, _⟩ => ⟨S_, .f32⟩
  | .hbm, ⟨19, _⟩ => ⟨S2x4096x1024, .f32⟩
  | .hbm, ⟨20, _⟩ => ⟨S2x4096x1024, .f32⟩
  | .hbm, ⟨21, _⟩ => ⟨S_, .f32⟩
  | .hbm, ⟨22, _⟩ => ⟨S2x4096x1024, .f32⟩
  | .hbm, ⟨23, _⟩ => ⟨S2x4096x1024, .f32⟩
  | .hbm, ⟨24, _⟩ => ⟨S1x4096x1024, .f32⟩
  | .hbm, ⟨25, _⟩ => ⟨S4096x1024, .f32⟩
  | .hbm, ⟨26, _⟩ => ⟨S1x4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .i1⟩
  | .hbm, ⟨38, _⟩ => ⟨S1024, .f32⟩
  | .hbm, ⟨39, _⟩ => ⟨S1024, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S4096x1, .i1⟩
  | .hbm, ⟨61, _⟩ => ⟨S_, .f32⟩
  | .hbm, ⟨62, _⟩ => ⟨S_, .f32⟩
  | .hbm, ⟨63, _⟩ => ⟨S4096x1024, .i1⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S1024, .f32⟩
  | .hbm, ⟨70, _⟩ => ⟨S_, .f32⟩
  | .hbm, ⟨71, _⟩ => ⟨S4096x1024, .f32⟩
  | .hbm, ⟨72, _⟩ => ⟨S_, .i32⟩
  | .hbm, ⟨73, _⟩ => ⟨S4096x1024, .f32⟩
  | .hbm, ⟨74, _⟩ => ⟨S4096x1024, .f32⟩
  | .hbm, ⟨75, _⟩ => ⟨S_, .i32⟩
  | .hbm, ⟨76, _⟩ => ⟨S1024, .f32⟩
  | .hbm, ⟨77, _⟩ => ⟨S4096x1024, .f32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S1x1024, .f32⟩
  | .hbm, ⟨82, _⟩ => ⟨S1024, .f32⟩
  | .hbm, ⟨83, _⟩ => ⟨S_, .i32⟩
  | .hbm, ⟨84, _⟩ => ⟨S1x1024, .f32⟩
  | .hbm, ⟨85, _⟩ => ⟨S1024, .f32⟩
  | .hbm, ⟨86, _⟩ => ⟨S1024, .f32⟩
  | .hbm, ⟨87, _⟩ => ⟨S1024, .f32⟩
  | .hbm, ⟨88, _⟩ => ⟨S1x1024, .f32⟩
  | .hbm, ⟨89, _⟩ => ⟨S_, .i32⟩
  | .hbm, ⟨90, _⟩ => ⟨S4096x1024, .f32⟩
  | .hbm, ⟨91, _⟩ => ⟨S_, .i32⟩
  | .hbm, ⟨92, _⟩ => ⟨S_, .i32⟩
  | .hbm, ⟨93, _⟩ => ⟨S4096x1024, .bf16⟩
  | .hbm, ⟨94, _⟩ => ⟨S1x4096x1024, .f32⟩
  | .hbm, ⟨95, _⟩ => ⟨S4096x1024, .f32⟩
  | .hbm, ⟨96, _⟩ => ⟨S1x4096x1024, .f32⟩
  | .hbm, ⟨97, _⟩ => ⟨S4096x1024, .f32⟩
  | .hbm, ⟨98, _⟩ => ⟨S4096x1024, .bf16⟩
  | .hbm, ⟨99, _⟩ => ⟨S1x1024, .f32⟩
  | .hbm, ⟨100, _⟩ => ⟨S2x4x256x256, .bf16⟩
  | .hbm, ⟨101, _⟩ => ⟨S2x4096x1024, .bf16⟩
  | .hbm, ⟨102, _⟩ => ⟨S4096x1024, .f32⟩
  | .hbm, ⟨103, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S2x4x256x256, .bf16⟩
  | .local _ .vmem, ⟨14, _⟩ => ⟨S2x256x1024, .bf16⟩
  | .local _ .vmem, ⟨15, _⟩ => ⟨S2x256x1024, .bf16⟩
  | .local _ .vmem, ⟨16, _⟩ => ⟨S256x1024, .f32⟩
  | .local _ .vmem, ⟨17, _⟩ => ⟨S256x1024, .f32⟩
  | .local _ .vmem, ⟨18, _⟩ => ⟨S8x1024, .f32⟩
  | .local _ .vmem, ⟨19, _⟩ => ⟨S264x1024, .f32⟩
  | .local _ .vmem, ⟨20, _⟩ => ⟨S264x1024, .f32⟩
  | .local _ .vmem, ⟨21, _⟩ => ⟨S256x1024, .f32⟩
  | .local _ .vmem, ⟨22, _⟩ => ⟨S256x1024, .f32⟩
  | .local _ .vmem, ⟨23, _⟩ => ⟨S8x1024, .f32⟩
  | .local _ .vmem, ⟨24, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_4 : Ref sig .tc := ⟨.hbm, 68, rfl⟩
abbrev main_v40 : Ref sig .tc := ⟨.hbm, 69, rfl⟩
abbrev main_cst_5 : Ref sig .tc := ⟨.hbm, 70, rfl⟩
abbrev main_v41 : Ref sig .tc := ⟨.hbm, 71, rfl⟩
abbrev main_c_6 : Ref sig .tc := ⟨.hbm, 72, rfl⟩
abbrev main_v42_0 : Ref sig .tc := ⟨.hbm, 73, rfl⟩
abbrev main_v42_1 : Ref sig .tc := ⟨.hbm, 74, rfl⟩
abbrev main_v42_2 : Ref sig .tc := ⟨.hbm, 75, rfl⟩
abbrev main_v42_3 : Ref sig .tc := ⟨.hbm, 76, rfl⟩
abbrev main_v42_4 : Ref sig .tc := ⟨.hbm, 77, rfl⟩
abbrev main_while0c_c_11 : Ref sig .tc := ⟨.hbm, 78, rfl⟩
abbrev main_while0c_v52 : Ref sig .tc := ⟨.hbm, 79, rfl⟩
abbrev main_while0b_call2_c : Ref sig .tc := ⟨.hbm, 80, rfl⟩
abbrev main_while0b_call2_v0 : Ref sig .tc := ⟨.hbm, 81, rfl⟩
abbrev main_while0b_v52 : Ref sig .tc := ⟨.hbm, 82, rfl⟩
abbrev main_while0b_call3_c : Ref sig .tc := ⟨.hbm, 83, rfl⟩
abbrev main_while0b_call3_v0 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_call4_v0 : Ref sig .tc := ⟨.hbm, 88, rfl⟩
abbrev main_while0b_call4_c : Ref sig .tc := ⟨.hbm, 89, rfl⟩
abbrev main_while0b_v56 : Ref sig .tc := ⟨.hbm, 90, rfl⟩
abbrev main_while0b_c_11 : Ref sig .tc := ⟨.hbm, 91, rfl⟩
abbrev main_while0b_v57 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51_0 : Ref sig .tc := ⟨.hbm, 101, rfl⟩
abbrev main_v51_1 : Ref sig .tc := ⟨.hbm, 102, rfl⟩
abbrev main_v51_2 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev main_while0_count : Scf.Loop 32 := ⟨0#32, 4096#32, 1#32⟩

abbrev grid0 : Pipeline.Grid := ⟨1, ![16], ![false]⟩

@[reducible] def k0_t1_loop : Scf.Loop 32 :=
  let c0_i32_40 : BitVec 32 := 0#32
  let c32_i32 : BitVec 32 := 32#32
  let v76 : BitVec 32 := Scalar.addi c0_i32_40 c32_i32
  let c1_i32 : BitVec 32 := 1#32
  ⟨c0_i32_40, v76, c1_i32⟩
def k0_mult1 (k0_t1 : Fin k0_t1_loop.trips) : BitVec 32 :=
  let c31_i32 : BitVec 32 := 31#32
  let c0_i32_40 : BitVec 32 := 0#32
  let c1_i32 : BitVec 32 := 1#32
  let arg18 : BitVec 32 := Scf.iv c0_i32_40 c1_i32 k0_t1
  let v235 : BitVec 32 := Scalar.subi c31_i32 arg18
  let c8_i32 : BitVec 32 := 8#32
  let v236 : BitVec 32 := Scalar.muli v235 c8_i32
  v236
def k0_off1 (k0_t1 : Fin k0_t1_loop.trips) : Fin 2 → Nat :=
  let c31_i32 : BitVec 32 := 31#32
  let c0_i32_40 : BitVec 32 := 0#32
  let c1_i32 : BitVec 32 := 1#32
  let arg18 : BitVec 32 := Scf.iv c0_i32_40 c1_i32 k0_t1
  let v235 : BitVec 32 := Scalar.subi c31_i32 arg18
  let c8_i32 : BitVec 32 := 8#32
  let v236 : BitVec 32 := Scalar.muli v235 c8_i32
  let v237 : BitVec 32 := v236
  let v238 : Index := Scalar.indexCast v237
  let c0_136 : Index := 0#32
  ![v238.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x1024 : Shape := ⟨2, ![4096, 1024]⟩
abbrev S1024 : Shape := ⟨1, ![1024]⟩
abbrev S2x4x256x256 : Shape := ⟨4, ![2, 4, 256, 256]⟩
abbrev S2x1024 : Shape := ⟨2, ![2, 1024]⟩
abbrev S_ : Shape := ⟨0, ![]⟩
abbrev S2x4096x1024 : Shape := ⟨3, ![2, 4096, 1024]⟩
abbrev S1x1024 : Shape := ⟨2, ![1, 1024]⟩
abbrev S4096x4x256 : Shape := ⟨3, ![4096, 4, 256]⟩
abbrev S4x2x256x4096 : Shape := ⟨4, ![4, 2, 256, 4096]⟩
abbrev S2x4096x4x256 : Shape := ⟨4, ![2, 4096, 4, 256]⟩
abbrev S2x1x1024 : Shape := ⟨3, ![2, 1, 1024]⟩
abbrev S1x4096x1024 : Shape := ⟨3, ![1, 4096, 1024]⟩
abbrev S4096 : Shape := ⟨1, ![4096]⟩
abbrev S4096x1 : Shape := ⟨2, ![4096, 1]⟩
abbrev S4x4096x256 : Shape := ⟨3, ![4, 4096, 256]⟩
abbrev S4x1024 : Shape := ⟨2, ![4, 1024]⟩
abbrev S8x1024 : Shape := ⟨2, ![8, 1024]⟩

abbrev nBuf : Space → Nat
  | .hbm => 244
  | .vmem => 0
  | .smem => 0
  | _ => 0

abbrev hbmTy0_0 (i : Nat) : BufTy := match i % 128 with
  | 0 => ⟨S4096x1024, .f32⟩
  | 1 => ⟨S1024, .f32⟩
  | 2 => ⟨S2x4x256x256, .f32⟩
  | 3 => ⟨S2x1024, .f32⟩
  | 4 => ⟨S1024, .f32⟩
  | 5 => ⟨S4096x1024, .f32⟩
  | 6 => ⟨S_, .f32⟩
  | 7 => ⟨S2x4096x1024, .f32⟩
  | 8 => ⟨S1x1024, .f32⟩
  | 9 => ⟨S4096x1024, .f32⟩
  | 10 => ⟨S4096x1024, .f32⟩
  | 11 => ⟨S4096x4x256, .f32⟩
  | 12 => ⟨S4x2x256x4096, .f32⟩
  | 13 => ⟨S2x4096x4x256, .f32⟩
  | 14 => ⟨S2x4096x1024, .f32⟩
  | 15 => ⟨S2x1x1024, .f32⟩
  | 16 => ⟨S2x4096x1024, .f32⟩
  | 17 => ⟨S2x4096x1024, .f32⟩
  | 18 => ⟨S2x4096x1024, .f32⟩
  | 19 => ⟨S2x4096x1024, .f32⟩
  | 20 => ⟨S2x4096x1024, .f32⟩
  | 21 => ⟨S_, .f32⟩
  | 22 => ⟨S2x4096x1024, .f32⟩
  | 23 => ⟨S2x4096x1024, .f32⟩
  | 24 => ⟨S_, .f32⟩
  | 25 => ⟨S2x4096x1024, .f32⟩
  | 26 => ⟨S2x4096x1024, .f32⟩
  | 27 => ⟨S_, .f32⟩
  | 28 => ⟨S2x4096x1024, .f32⟩
  | 29 => ⟨S2x4096x1024, .f32⟩
  | 30 => ⟨S2x4096x1024, .f32⟩
  | 31 => ⟨S1x4096x1024, .f32⟩
  | 32 => ⟨S4096x1024, .f32⟩
  | 33 => ⟨S1x4096x1024, .f32⟩
  | 34 => ⟨S4096x1024, .f32⟩
  | 35 => ⟨S_, .f32⟩
  | 36 => ⟨S4096x1024, .f32⟩
  | 37 => ⟨S4096x1024, .f32⟩
  | 38 => ⟨S1024, .f32⟩
  | 39 => ⟨S_, .f32⟩
  | 40 => ⟨S1024, .f32⟩
  | 41 => ⟨S1024, .f32⟩
  | 42 => ⟨S1024, .f32⟩
  | 43 => ⟨S1024, .f32⟩
  | 44 => ⟨S1024, .i1⟩
  | 45 => ⟨S1024, .f32⟩
  | 46 => ⟨S1024, .f32⟩
  | 47 => ⟨S1024, .f32⟩
  | 48 => ⟨S1024, .f32⟩
  | 49 => ⟨S1024, .f32⟩
  | 50 => ⟨S1024, .f32⟩
  | 51 => ⟨S1024, .f32⟩
  | 52 => ⟨S1024, .f32⟩
  | 53 => ⟨S_, .f32⟩
  | 54 => ⟨S1024, .f32⟩
  | 55 => ⟨S1024, .i1⟩
  | 56 => ⟨S_, .f32⟩
  | 57 => ⟨S1024, .f32⟩
  | 58 => ⟨S1024, .f32⟩
  | 59 => ⟨S_, .f32⟩
  | 60 => ⟨S1024, .f32⟩
  | 61 => ⟨S1024, .i1⟩
  | 62 => ⟨S_, .f32⟩
  | 63 => ⟨S1024, .f32⟩
  | 64 => ⟨S1024, .f32⟩
  | 65 => ⟨S1024, .f32⟩
  | 66 => ⟨S1024, .f32⟩
  | 67 => ⟨S_, .f32⟩
  | 68 => ⟨S_, .f32⟩
  | 69 => ⟨S_, .i1⟩
  | 70 => ⟨S_, .f32⟩
  | 71 => ⟨S_, .f32⟩
  | 72 => ⟨S_, .f32⟩
  | 73 => ⟨S_, .f32⟩
  | 74 => ⟨S1024, .f32⟩
  | 75 => ⟨S1024, .i1⟩
  | 76 => ⟨S_, .f32⟩
  | 77 => ⟨S1024, .f32⟩
  | 78 => ⟨S1024, .f32⟩
  | 79 => ⟨S1024, .f32⟩
  | 80 => ⟨S1024, .f32⟩
  | 81 => ⟨S1024, .f32⟩
  | 82 => ⟨S_, .f32⟩
  | 83 => ⟨S1024, .f32⟩
  | 84 => ⟨S1024, .f32⟩
  | 85 => ⟨S1x1024, .f32⟩
  | 86 => ⟨S4096x1024, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S4096, .i32⟩
  | 100 => ⟨S_, .i32⟩
  | 101 => ⟨S4096, .i32⟩
  | 102 => ⟨S4096, .i1⟩
  | 103 => ⟨S4096x1, .i1⟩
  | 104 => ⟨S_, .f32⟩
  | 105 => ⟨S_, .f32⟩
  | 106 => ⟨S4096x1024, .i1⟩
  | 107 => ⟨S4096x1024, .f32⟩
  | 108 => ⟨S4096x1024, .f32⟩
  | 109 => ⟨S_, .f32⟩
  | 110 => ⟨S4096x1024, .f32⟩
  | 111 => ⟨S4096x1024, .f32⟩
  | 112 => ⟨S4096x1024, .f32⟩
  | 113 => ⟨S_, .f32⟩
  | 114 => ⟨S1024, .f32⟩
  | 115 => ⟨S_, .f32⟩
  | 116 => ⟨S4096x1024, .f32⟩
  | 117 => ⟨S_, .f32⟩
  | 118 => ⟨S4096x1024, .f32⟩
  | 119 => ⟨S_, .i32⟩
  | 120 => ⟨S4096x1024, .f32⟩
  | 121 => ⟨S4096x1024, .f32⟩
  | 122 => ⟨S_, .i32⟩
  | 123 => ⟨S1024, .f32⟩
  | 124 => ⟨S4096x1024, .f32⟩
  | 125 => ⟨S4096x1024, .f32⟩
  | 126 => ⟨S_, .i32⟩
  | 127 => ⟨S_, .i1⟩
  | _ => ⟨S4096x1024, .f32⟩

abbrev hbmTy0_1 (i : Nat) : BufTy := match i % 128 with
  | 0 => ⟨S_, .i32⟩
  | 1 => ⟨S1x1024, .f32⟩
  | 2 => ⟨S1024, .f32⟩
  | 3 => ⟨S_, .i32⟩
  | 4 => ⟨S1x1024, .f32⟩
  | 5 => ⟨S1024, .f32⟩
  | 6 => ⟨S1024, .f32⟩
  | 7 => ⟨S1024, .f32⟩
  | 8 => ⟨S1x1024, .f32⟩
  | 9 => ⟨S_, .i32⟩
  | 10 => ⟨S4096x1024, .f32⟩
  | 11 => ⟨S1x1024, .f32⟩
  | 12 => ⟨S_, .i32⟩
  | 13 => ⟨S4096x1024, .f32⟩
  | 14 => ⟨S_, .i32⟩
  | 15 => ⟨S_, .i32⟩
  | 16 => ⟨S_, .f32⟩
  | 17 => ⟨S1024, .f32⟩
  | 18 => ⟨S_, .f32⟩
  | 19 => ⟨S1024, .f32⟩
  | 20 => ⟨S_, .f32⟩
  | 21 => ⟨S4096x1024, .f32⟩
  | 22 => ⟨S_, .f32⟩
  | 23 => ⟨S4096x1024, .f32⟩
  | 24 => ⟨S_, .i32⟩
  | 25 => ⟨S4096x1024, .f32⟩
  | 26 => ⟨S4096x1024, .f32⟩
  | 27 => ⟨S4096x1024, .f32⟩
  | 28 => ⟨S_, .i32⟩
  | 29 => ⟨S1024, .f32⟩
  | 30 => ⟨S4096x1024, .f32⟩
  | 31 => ⟨S4096x1024, .f32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S1x1024, .f32⟩
  | 40 => ⟨S1024, .f32⟩
  | 41 => ⟨S_, .i32⟩
  | 42 => ⟨S1x1024, .f32⟩
  | 43 => ⟨S1024, .f32⟩
  | 44 => ⟨S_, .i32⟩
  | 45 => ⟨S1x1024, .f32⟩
  | 46 => ⟨S1024, .f32⟩
  | 47 => ⟨S1024, .f32⟩
  | 48 => ⟨S1024, .f32⟩
  | 49 => ⟨S1024, .f32⟩
  | 50 => ⟨S1x1024, .f32⟩
  | 51 => ⟨S_, .i32⟩
  | 52 => ⟨S4096x1024, .f32⟩
  | 53 => ⟨S1x1024, .f32⟩
  | 54 => ⟨S_, .i32⟩
  | 55 => ⟨S4096x1024, .f32⟩
  | 56 => ⟨S_, .i32⟩
  | 57 => ⟨S_, .i32⟩
  | 58 => ⟨S4096x1024, .f32⟩
  | 59 => ⟨S4096x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S_, .f32⟩
  | 75 => ⟨S1024, .f32⟩
  | 76 => ⟨S1x1024, .f32⟩
  | 77 => ⟨S4096x1024, .f32⟩
  | 78 => ⟨S4096x1024, .f32⟩
  | 79 => ⟨S_, .f32⟩
  | 80 => ⟨S1024, .f32⟩
  | 81 => ⟨S1024, .f32⟩
  | 82 => ⟨S1024, .f32⟩
  | 83 => ⟨S_, .f32⟩
  | 84 => ⟨S4096x1024, .f32⟩
  | 85 => ⟨S4096x1024, .f32⟩
  | 86 => ⟨S1x4096x1024, .f32⟩
  | 87 => ⟨S_, .f32⟩
  | 88 => ⟨S2x4096x1024, .f32⟩
  | 89 => ⟨S1x4096x1024, .f32⟩
  | 90 => ⟨S_, .f32⟩
  | 91 => ⟨S2x4096x1024, .f32⟩
  | 92 => ⟨S2x4096x1024, .f32⟩
  | 93 => ⟨S2x4096x1024, .f32⟩
  | 94 => ⟨S_, .f32⟩
  | 95 => ⟨S2x1024, .f32⟩
  | 96 => ⟨S2x1x1024, .f32⟩
  | 97 => ⟨S_, .f32⟩
  | 98 => ⟨S2x1024, .f32⟩
  | 99 => ⟨S2x4096x4x256, .f32⟩
  | 100 => ⟨S4x2x256x4096, .f32⟩
  | 101 => ⟨S4x4096x256, .f32⟩
  | 102 => ⟨S4096x4x256, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S_, .f32⟩
  | 109 => ⟨S1024, .f32⟩
  | 110 => ⟨S2x4096x1024, .bf16⟩
  | 111 => ⟨S1x1024, .f32⟩
  | 112 => ⟨S1x1024, .f32⟩
  | 113 => ⟨S_, .f32⟩
  | 114 => ⟨S4x1024, .f32⟩
  | 115 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_v28_0 : Ref sig .tc := ⟨.hbm, 52, rfl⟩
abbrev main_call0_cst_0 : Ref sig .tc := ⟨.hbm, 53, rfl⟩
abbrev main_call0_v13 : Ref sig .tc := ⟨.hbm, 54, rfl⟩
abbrev main_call0_v14 : Ref sig .tc := ⟨.hbm, 55, rfl⟩
abbrev main_call0_cst_1 : Ref sig .tc := ⟨.hbm, 56, rfl⟩
abbrev main_call0_v15 : Ref sig .tc := ⟨.hbm, 57, rfl⟩
abbrev main_call0_v16 : Ref sig .tc := ⟨.hbm, 58, rfl⟩
abbrev main_call0_cst_2 : Ref sig .tc := ⟨.hbm, 59, rfl⟩
abbrev main_call0_v17 : Ref sig .tc := ⟨.hbm, 60, rfl⟩
abbrev main_call0_v18 : Ref sig .tc := ⟨.hbm, 61, rfl⟩
abbrev main_call0_cst_3 : Ref sig .tc := ⟨.hbm, 62, rfl⟩
abbrev main_call0_v19 : Ref sig .tc := ⟨.hbm, 63, rfl⟩
abbrev main_call0_v20 : Ref sig .tc := ⟨.hbm, 64, rfl⟩
abbrev main_call0_v21 : Ref sig .tc := ⟨.hbm, 65, rfl⟩
abbrev main_v28_1 : Ref sig .tc := ⟨.hbm, 66, rfl⟩
abbrev main_call0_cst_4 : Ref sig .tc := ⟨.hbm, 67, rfl⟩
abbrev main_call0_cst_5 : Ref sig .tc := ⟨.hbm, 68, rfl⟩
abbrev main_call0_v23 : Ref sig .tc := ⟨.hbm, 69, rfl⟩
abbrev main_call0_cst_6 : Ref sig .tc := ⟨.hbm, 70, rfl⟩
abbrev main_call0_cst_7 : Ref sig .tc := ⟨.hbm, 71, rfl⟩
abbrev main_call0_v24 : Ref sig .tc := ⟨.hbm, 72, rfl⟩
abbrev main_call0_cst_8 : Ref sig .tc := ⟨.hbm, 73, rfl⟩
abbrev main_call0_v25 : Ref sig .tc := ⟨.hbm, 74, rfl⟩
abbrev main_call0_v26 : Ref sig .tc := ⟨.hbm, 75, rfl⟩
abbrev main_call0_cst_9 : Ref sig .tc := ⟨.hbm, 76, rfl⟩
abbrev main_call0_v27 : Ref sig .tc := ⟨.hbm, 77, rfl⟩
abbrev main_call0_v28 : Ref sig .tc := ⟨.hbm, 78, rfl⟩
abbrev main_call0_v29 : Ref sig .tc := ⟨.hbm, 79, rfl⟩
abbrev main_call0_v30 : Ref sig .tc := ⟨.hbm, 80, rfl⟩
abbrev main_call0_v31 : Ref sig .tc := ⟨.hbm, 81, rfl⟩
abbrev main_call0_cst_10 : Ref sig .tc := ⟨.hbm, 82, rfl⟩
abbrev main_call0_v32 : Ref sig .tc := ⟨.hbm, 83, rfl⟩
abbrev main_v28_2 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_cst_4 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_cst_5 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_c : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_6 : Ref sig .tc := ⟨.hbm, 104, rfl⟩
abbrev main_call1_v0 : Ref sig .tc := ⟨.hbm, 105, rfl⟩
abbrev main_v45_1 : Ref sig .tc := ⟨.hbm, 106, rfl⟩
abbrev main_call1_v2 : Ref sig .tc := ⟨.hbm, 107, rfl⟩
abbrev main_v45_0 : Ref sig .tc := ⟨.hbm, 108, rfl⟩
abbrev main_call1_cst : Ref sig .tc := ⟨.hbm, 109, rfl⟩
abbrev main_v45_2 : Ref sig .tc := ⟨.hbm, 110, rfl⟩
abbrev main_v46 : Ref sig .tc := ⟨.hbm, 111, rfl⟩
abbrev main_v47 : Ref sig .tc := ⟨.hbm, 112, rfl⟩
abbrev main_cst_7 : Ref sig .tc := ⟨.hbm, 113, rfl⟩
abbrev main_v48 : Ref sig .tc := ⟨.hbm, 114, rfl⟩
abbrev main_cst_8 : Ref sig .tc := ⟨.hbm, 115, rfl⟩
abbrev main_v49 : Ref sig .tc := ⟨.hbm, 116, rfl⟩
abbrev main_cst_9 : Ref sig .tc := ⟨.hbm, 117, rfl⟩
abbrev main_v50 : Ref sig .tc := ⟨.hbm, 118, rfl⟩
abbrev main_c_10 : Ref sig .tc := ⟨.hbm, 119, rfl⟩
abbrev main_v51_0 : Ref sig .tc := ⟨.hbm, 120, rfl⟩
abbrev main_v51_1 : Ref sig .tc := ⟨.hbm, 121, rfl⟩
abbrev main_v51_2 : Ref sig .tc := ⟨.hbm, 122, rfl⟩
abbrev main_v51_3 : Ref sig .tc := ⟨.hbm, 123, rfl⟩
abbrev main_v51_4 : Ref sig .tc := ⟨.hbm, 124, rfl⟩
abbrev main_v51_5 : Ref sig .tc := ⟨.hbm, 125, rfl⟩
abbrev main_while0c_c_32 : Ref sig .tc := ⟨.hbm, 126, rfl⟩
abbrev main_while0c_v102 : Ref sig .tc := ⟨.hbm, 127, rfl⟩
abbrev main_while0b_call2_c : Ref sig .tc := ⟨.hbm, 128, rfl⟩
abbrev main_while0b_call2_v0 : Ref sig .tc := ⟨.hbm, 129, rfl⟩
abbrev main_while0b_v102 : Ref sig .tc := ⟨.hbm, 130, rfl⟩
abbrev main_while0b_call3_c : Ref sig .tc := ⟨.hbm, 131, rfl⟩
abbrev main_while0b_call3_v0 : Ref sig .tc := ⟨.hbm, 132, rfl⟩
abbrev main_while0b_v103 : Ref sig .tc := ⟨.hbm, 133, rfl⟩
abbrev main_while0b_v104 : Ref sig .tc := ⟨.hbm, 134, rfl⟩
abbrev main_while0b_v105 : Ref sig .tc := ⟨.hbm, 135, rfl⟩
abbrev main_while0b_call4_v0 : Ref sig .tc := ⟨.hbm, 136, rfl⟩
abbrev main_while0b_call4_c : Ref sig .tc := ⟨.hbm, 137, rfl⟩
abbrev main_while0b_v106 : Ref sig .tc := ⟨.hbm, 138, rfl⟩
abbrev main_while0b_call5_v0 : Ref sig .tc := ⟨.hbm, 139, rfl⟩
abbrev main_while0b_call5_c : Ref sig .tc := ⟨.hbm, 140, rfl⟩
abbrev main_while0b_v107 : Ref sig .tc := ⟨.hbm, 141, rfl⟩
abbrev main_while0b_c_32 : Ref sig .tc := ⟨.hbm, 142, rfl⟩
abbrev main_while0b_v108 : Ref sig .tc := ⟨.hbm, 143, rfl⟩
abbrev main_cst_11 : Ref sig .tc := ⟨.hbm, 144, rfl⟩
abbrev main_v52 : Ref sig .tc := ⟨.hbm, 145, rfl⟩
abbrev main_cst_12 : Ref sig .tc := ⟨.hbm, 146, rfl⟩
abbrev main_v53 : Ref sig .tc := ⟨.hbm, 147, rfl⟩
abbrev main_cst_13 : Ref sig .tc := ⟨.hbm, 148, rfl⟩
abbrev main_v54 : Ref sig .tc := ⟨.hbm, 149, rfl⟩
abbrev main_cst_14 : Ref sig .tc := ⟨.hbm, 150, rfl⟩
abbrev main_v55 : Ref sig .tc := ⟨.hbm, 151, rfl⟩
abbrev main_c_15 : Ref sig .tc := ⟨.hbm, 152, rfl⟩
abbrev main_v56_0 : Ref sig .tc := ⟨.hbm, 153, rfl⟩
abbrev main_v56_1 : Ref sig .tc := ⟨.hbm, 154, rfl⟩
abbrev main_v56_2 : Ref sig .tc := ⟨.hbm, 155, rfl⟩
abbrev main_v56_3 : Ref sig .tc := ⟨.hbm, 156, rfl⟩
abbrev main_v56_4 : Ref sig .tc := ⟨.hbm, 157, rfl⟩
abbrev main_v56_5 : Ref sig .tc := ⟨.hbm, 158, rfl⟩
abbrev main_v56_6 : Ref sig .tc := ⟨.hbm, 159, rfl⟩
abbrev main_while1c_c_33 : Ref sig .tc := ⟨.hbm, 160, rfl⟩
abbrev main_while1c_v102 : Ref sig .tc := ⟨.hbm, 161, rfl⟩
abbrev main_while1b_c_33 : Ref sig .tc := ⟨.hbm, 162, rfl⟩
abbrev main_while1b_v102 : Ref sig .tc := ⟨.hbm, 163, rfl⟩
abbrev main_while1b_c_34 : Ref sig .tc := ⟨.hbm, 164, rfl⟩
abbrev main_while1b_v103 : Ref sig .tc := ⟨.hbm, 165, rfl⟩
abbrev main_while1b_call6_c : Ref sig .tc := ⟨.hbm, 166, rfl⟩
abbrev main_while1b_call6_v0 : Ref sig .tc := ⟨.hbm, 167, rfl⟩
abbrev main_while1b_v104 : Ref sig .tc := ⟨.hbm, 168, rfl⟩
abbrev main_while1b_call7_c : Ref sig .tc := ⟨.hbm, 169, rfl⟩
abbrev main_while1b_call7_v0 : Ref sig .tc := ⟨.hbm, 170, rfl⟩
abbrev main_while1b_v105 : Ref sig .tc := ⟨.hbm, 171, rfl⟩
abbrev main_while1b_call8_c : Ref sig .tc := ⟨.hbm, 172, rfl⟩
abbrev main_while1b_call8_v0 : Ref sig .tc := ⟨.hbm, 173, rfl⟩
abbrev main_while1b_v106 : Ref sig .tc := ⟨.hbm, 174, rfl⟩
abbrev main_while1b_v107 : Ref sig .tc := ⟨.hbm, 175, rfl⟩
abbrev main_while1b_v108 : Ref sig .tc := ⟨.hbm, 176, rfl⟩
abbrev main_while1b_v109 : Ref sig .tc := ⟨.hbm, 177, rfl⟩
abbrev main_while1b_call9_v0 : Ref sig .tc := ⟨.hbm, 178, rfl⟩
abbrev main_while1b_call9_c : Ref sig .tc := ⟨.hbm, 179, rfl⟩
abbrev main_while1b_v110 : Ref sig .tc := ⟨.hbm, 180, rfl⟩
abbrev main_while1b_call10_v0 : Ref sig .tc := ⟨.hbm, 181, rfl⟩
abbrev main_while1b_call10_c : Ref sig .tc := ⟨.hbm, 182, rfl⟩
abbrev main_while1b_v111 : Ref sig .tc := ⟨.hbm, 183, rfl⟩
abbrev main_while1b_c_35 : Ref sig .tc := ⟨.hbm, 184, rfl⟩
abbrev main_while1b_v112 : Ref sig .tc := ⟨.hbm, 185, rfl⟩
abbrev main_v57 : Ref sig .tc := ⟨.hbm, 186, rfl⟩
abbrev main_v58 : Ref sig .tc := ⟨.hbm, 187, rfl⟩
abbrev main_v59 : Ref sig .tc := ⟨.hbm, 188, rfl⟩
abbrev main_v60 : Ref sig .tc := ⟨.hbm, 189, rfl⟩
abbrev main_call11_cst : Ref sig .tc := ⟨.hbm, 190, rfl⟩
abbrev main_call11_v0 : Ref sig .tc := ⟨.hbm, 191, rfl⟩
abbrev main_v61 : Ref sig .tc := ⟨.hbm, 192, rfl⟩
abbrev main_v62 : Ref sig .tc := ⟨.hbm, 193, rfl⟩
abbrev main_v63 : Ref sig .tc := ⟨.hbm, 194, rfl⟩
abbrev main_v64 : Ref sig .tc := ⟨.hbm, 195, rfl⟩
abbrev main_cst_16 : Ref sig .tc := ⟨.hbm, 196, rfl⟩
abbrev main_v65 : Ref sig .tc := ⟨.hbm, 197, rfl⟩
abbrev main_v66 : Ref sig .tc := ⟨.hbm, 198, rfl⟩
abbrev main_v67 : Ref sig .tc := ⟨.hbm, 199, rfl⟩
abbrev main_v68 : Ref sig .tc := ⟨.hbm, 200, rfl⟩
abbrev main_v69 : Ref sig .tc := ⟨.hbm, 201, rfl⟩
abbrev main_cst_17 : Ref sig .tc := ⟨.hbm, 202, rfl⟩
abbrev main_v70 : Ref sig .tc := ⟨.hbm, 203, rfl⟩
abbrev main_v71 : Ref sig .tc := ⟨.hbm, 204, rfl⟩
abbrev main_v72 : Ref sig .tc := ⟨.hbm, 205, rfl⟩
abbrev main_v73 : Ref sig .tc := ⟨.hbm, 206, rfl⟩
abbrev main_cst_18 : Ref sig .tc := ⟨.hbm, 207, rfl⟩
abbrev main_v74 : Ref sig .tc := ⟨.hbm, 208, rfl⟩
abbrev main_v75 : Ref sig .tc := ⟨.hbm, 209, rfl⟩
abbrev main_v76 : Ref sig .tc := ⟨.hbm, 210, rfl⟩
abbrev main_cst_19 : Ref sig .tc := ⟨.hbm, 211, rfl⟩
abbrev main_v77 : Ref sig .tc := ⟨.hbm, 212, rfl⟩
abbrev main_v78 : Ref sig .tc := ⟨.hbm, 213, rfl⟩
abbrev main_v79 : Ref sig .tc := ⟨.hbm, 214, rfl⟩
abbrev main_cst_20 : Ref sig .tc := ⟨.hbm, 215, rfl⟩
abbrev main_v80 : Ref sig .tc := ⟨.hbm, 216, rfl⟩
abbrev main_v81 : Ref sig .tc := ⟨.hbm, 217, rfl⟩
abbrev main_cst_21 : Ref sig .tc := ⟨.hbm, 218, rfl⟩
abbrev main_v82 : Ref sig .tc := ⟨.hbm, 219, rfl⟩
abbrev main_v83 : Ref sig .tc := ⟨.hbm, 220, rfl⟩
abbrev main_v84 : Ref sig .tc := ⟨.hbm, 221, rfl⟩
abbrev main_cst_22 : Ref sig .tc := ⟨.hbm, 222, rfl⟩
abbrev main_v85 : Ref sig .tc := ⟨.hbm, 223, rfl⟩
abbrev main_v86 : Ref sig .tc := ⟨.hbm, 224, rfl⟩
abbrev main_cst_23 : Ref sig .tc := ⟨.hbm, 225, rfl⟩
abbrev main_v87 : Ref sig .tc := ⟨.hbm, 226, rfl⟩
abbrev main_v88 : Ref sig .tc := ⟨.hbm, 227, rfl⟩
abbrev main_v89 : Ref sig .tc := ⟨.hbm, 228, rfl⟩
abbrev main_v90 : Ref sig .tc := ⟨.hbm, 229, rfl⟩
abbrev main_v91 : Ref sig .tc := ⟨.hbm, 230, rfl⟩
abbrev main_v92 : Ref sig .tc := ⟨.hbm, 231, rfl⟩
abbrev main_v93 : Ref sig .tc := ⟨.hbm, 232, rfl⟩
abbrev main_cst_24 : Ref sig .tc := ⟨.hbm, 233, rfl⟩
abbrev main_v94 : Ref sig .tc := ⟨.hbm, 234, rfl⟩
abbrev main_v95 : Ref sig .tc := ⟨.hbm, 235, rfl⟩
abbrev main_cst_25 : Ref sig .tc := ⟨.hbm, 236, rfl⟩
abbrev main_v96 : Ref sig .tc := ⟨.hbm, 237, rfl⟩
abbrev main_v97 : Ref sig .tc := ⟨.hbm, 238, rfl⟩
abbrev main_v98 : Ref sig .tc := ⟨.hbm, 239, rfl⟩
abbrev main_v99 : Ref sig .tc := ⟨.hbm, 240, rfl⟩
abbrev main_cst_26 : Ref sig .tc := ⟨.hbm, 241, rfl⟩
abbrev main_v100 : Ref sig .tc := ⟨.hbm, 242, rfl⟩
abbrev main_v101 : Ref sig .tc := ⟨.hbm, 243, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== FfnDx.lean ====
abbrev S4096x1024 : Shape := ⟨2, ![4096, 1024]⟩
abbrev S4096x5632 : Shape := ⟨2, ![4096, 5632]⟩
abbrev S2x1024x5632 : Shape := ⟨3, ![2, 1024, 5632]⟩
abbrev S2x1024x8x704 : Shape := ⟨4, ![2, 1024, 8, 704]⟩
abbrev S2x8x1024x704 : Shape := ⟨4, ![2, 8, 1024, 704]⟩
abbrev S4096x8x704 : Shape := ⟨3, ![4096, 8, 704]⟩
abbrev S8x4096x704 : Shape := ⟨3, ![8, 4096, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S2x1024x5632, .f32⟩
  | .hbm, ⟨3, _⟩ => ⟨S2x1024x8x704, .f32⟩
  | .hbm, ⟨4, _⟩ => ⟨S2x8x1024x704, .f32⟩
  | .hbm, ⟨5, _⟩ => ⟨S4096x8x704, .f32⟩
  | .hbm, ⟨6, _⟩ => ⟨S8x4096x704, .f32⟩
  | .hbm, ⟨7, _⟩ => ⟨S8x4096x704, .bf16⟩
  | .hbm, ⟨8, _⟩ => ⟨S2x8x1024x704, .bf16⟩
  | .hbm, ⟨9, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnDxIdeal.lean ====
abbrev S4096x1024 : Shape := ⟨2, ![4096, 1024]⟩
abbrev S4096x5632 : Shape := ⟨2, ![4096, 5632]⟩
abbrev S2x1024x5632 : Shape := ⟨3, ![2, 1024, 5632]⟩
abbrev S2x1024x8x704 : Shape := ⟨4, ![2, 1024, 8, 704]⟩
abbrev S2x8x1024x704 : Shape := ⟨4, ![2, 8, 1024, 704]⟩
abbrev S4096x8x704 : Shape := ⟨3, ![4096, 8, 704]⟩
abbrev S8x4096x704 : Shape := ⟨3, ![8, 4096, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S2x1024x5632, .f32⟩
  | .hbm, ⟨3, _⟩ => ⟨S2x1024x8x704, .f32⟩
  | .hbm, ⟨4, _⟩ => ⟨S2x8x1024x704, .f32⟩
  | .hbm, ⟨5, _⟩ => ⟨S4096x8x704, .f32⟩
  | .hbm, ⟨6, _⟩ => ⟨S8x4096x704, .f32⟩
  | .hbm, ⟨7, _⟩ => ⟨S8x4096x704, .bf16⟩
  | .hbm, ⟨8, _⟩ => ⟨S2x8x1024x704, .bf16⟩
  | .hbm, ⟨9, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnDxRefIdeal.lean ====
abbrev S4096x1024 : Shape := ⟨2, ![4096, 1024]⟩
abbrev S4096x5632 : Shape := ⟨2, ![4096, 5632]⟩
abbrev S2x1024x5632 : Shape := ⟨3, ![2, 1024, 5632]⟩
abbrev S_ : Shape := ⟨0, ![]⟩
abbrev S1x1024x5632 : Shape := ⟨3, ![1, 1024, 5632]⟩
abbrev S1024x5632 : Shape := ⟨2, ![1024, 5632]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S2x1024x5632, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1x1024x5632, .f32⟩
  | .hbm, ⟨9, _⟩ => ⟨S1024x5632, .f32⟩
  | .hbm, ⟨10, _⟩ => ⟨S4096x5632, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== FfnDwUp.lean ====
abbrev S4096x1024 : Shape := ⟨2, ![4096, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S8x1024x704 : Shape := ⟨3, ![8, 1024, 704]⟩
abbrev S1x4096x704 : Shape := ⟨3, ![1, 4096, 704]⟩
abbrev S1x1024x704 : Shape := ⟨3, ![1, 1024, 704]⟩
abbrev S4096x704 : Shape := ⟨2, ![4096, 704]⟩
abbrev S1024x704 : Shape := ⟨2, ![1024, 704]⟩

abbrev nBuf : Space → Nat
  | .hbm => 7
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x8x704, .f32⟩
  | .hbm, ⟨4, _⟩ => ⟨S8x4096x704, .f32⟩
  | .hbm, ⟨5, _⟩ => ⟨S8x4096x704, .bf16⟩
  | .hbm, ⟨6, _⟩ => ⟨S8x1024x704, .bf16⟩
  | .local _ .vmem, ⟨0, _⟩ => ⟨S4096x1024, .bf16⟩
  | .local _ .vmem, ⟨1, _⟩ => ⟨S1x4096x704, .bf16⟩
  | .local _ .vmem, ⟨2, _⟩ => ⟨S1x4096x704, .bf16⟩
  | .local _ .vmem, ⟨3, _⟩ => ⟨S1x1024x704, .bf16⟩
  | .local _ .vmem, ⟨4, _⟩ => ⟨S1x1024x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnDwUpRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | .hbm, ⟨8, _⟩ => ⟨S1024x8x704, .bf16⟩
  | .hbm, ⟨9, _⟩ => ⟨S8x1024x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDwDown.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S_ : Shape := ⟨0, ![]⟩
abbrev S2816x1024 : Shape := ⟨2, ![2816, 1024]⟩
abbrev S1x4096x704 : Shape := ⟨3, ![1, 4096, 704]⟩
abbrev S704x1024 : Shape := ⟨2, ![704, 1024]⟩
abbrev S4096x704 : Shape := ⟨2, ![4096, 704]⟩

abbrev nBuf : Space → Nat
  | .hbm => 10
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x4x704, .f32⟩
  | .hbm, ⟨3, _⟩ => ⟨S4x4096x704, .f32⟩
  | .hbm, ⟨4, _⟩ => ⟨S4x4096x704, .bf16⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S2816x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S704x1024, .bf16⟩
  | .local _ .vmem, ⟨4, _⟩ => ⟨S704x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnDwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MixDx.lean ====
abbrev S4096x1024 : Shape := ⟨2, ![4096, 1024]⟩
abbrev S4096x7168 : Shape := ⟨2, ![4096, 7168]⟩
abbrev S1024x7168 : Shape := ⟨2, ![1024, 7168]⟩
abbrev S4096x3072 : Shape := ⟨2, ![4096, 3072]⟩
abbrev S1024x1024 : Shape := ⟨2, ![1024, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S1024x7168, .f32⟩
  | .hbm, ⟨3, _⟩ => ⟨S4096x7168, .bf16⟩
  | .hbm, ⟨4, _⟩ => ⟨S4096x3072, .bf16⟩
  | .hbm, ⟨5, _⟩ => ⟨S4096x1024, .bf16⟩
  | .hbm, ⟨6, _⟩ => ⟨S4096x3072, .bf16⟩
  | .hbm, ⟨7, _⟩ => ⟨S1024x7168, .bf16⟩
  | .hbm, ⟨8, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 7], ![false, false]⟩

def k0_cond5 (i : grid0.Coords) : BitVec 1 :=
  let arg1 : BitVec 32 := BitVec.ofNat 32 (i 1).val
  let c6_i32 : BitVec 32 := 6#32
  let v12 : BitVec 1 := Scalar.cmpi .eq arg1 c6_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MixDxRefIdeal.lean ====
abbrev S4096x1024 : Shape := ⟨2, ![4096, 1024]⟩
abbrev S4096x7168 : Shape := ⟨2, ![4096, 7168]⟩
abbrev S1024x7168 : Shape := ⟨2, ![1024, 7168]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S1024x7168, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x7168, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== MixDw.lean ====
abbrev S4096x1024 : Shape := ⟨2, ![4096, 1024]⟩
abbrev S4096x7168 : Shape := ⟨2, ![4096, 7168]⟩
abbrev S4096x3072 : Shape := ⟨2, ![4096, 3072]⟩
abbrev S1024x7168 : Shape := ⟨2, ![1024, 7168]⟩
abbrev S2048x1024 : Shape := ⟨2, ![2048, 1024]⟩
abbrev S1024x1024 : Shape := ⟨2, ![1024, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S4096x7168, .bf16⟩
  | .hbm, ⟨3, _⟩ => ⟨S4096x1024, .bf16⟩
  | .hbm, ⟨4, _⟩ => ⟨S4096x3072, .bf16⟩
  | .hbm, ⟨5, _⟩ => ⟨S4096x1024, .bf16⟩
  | .hbm, ⟨6, _⟩ => ⟨S4096x3072, .bf16⟩
  | .hbm, ⟨7, _⟩ => ⟨S1024x7168, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![7, 2], ![false, false]⟩

def k0_cond5 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .slt arg0 c3_i32
  let c0_i32 : BitVec 32 := 0#32
  let v1 : BitVec 32 := Scalar.select v0 arg1 c0_i32
  let c2_i32 : BitVec 32 := 2#32
  let v2 : BitVec 32 := Scalar.minsi arg0 c2_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .sgt arg0 c3_i32
  let c0_i32 : BitVec 32 := 0#32
  let v1 : BitVec 32 := Scalar.select v0 arg1 c0_i32
  let c4_i32 : BitVec 32 := 4#32
  let v2 : BitVec 32 := Scalar.subi arg0 c4_i32
  let c0_i32_0 : BitVec 32 := 0#32
  let c2_i32 : BitVec 32 := 2#32
  let v3 : BitVec 32 := Scalar.maxsi c0_i32_0 v2
  let v4 : BitVec 32 := Scalar.minsi c2_i32 v3
  let c0_i32_1 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MixDwRefIdeal.lean ====
abbrev S4096x1024 : Shape := ⟨2, ![4096, 1024]⟩
abbrev S4096x7168 : Shape := ⟨2, ![4096, 7168]⟩
abbrev S_ : Shape := ⟨0, ![]⟩
abbrev S1024x7168 : Shape := ⟨2, ![1024, 7168]⟩
abbrev S7168x1024 : Shape := ⟨2, ![7168, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x7168, .f32⟩
  | .hbm, ⟨2, _⟩ => ⟨S_, .f32⟩
  | .hbm, ⟨3, _⟩ => ⟨S1024x7168, .f32⟩
  | .hbm, ⟨4, _⟩ => ⟨S4096x7168, .f32⟩
  | .hbm, ⟨5, _⟩ => ⟨S7168x1024, .f32⟩
  | .hbm, ⟨6, _⟩ => ⟨S1024x7168, .f32⟩
  | .hbm, ⟨7, _⟩ => ⟨S1024x7168, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDxFirst.lean ====
abbrev S4096x1024 : Shape := ⟨2, ![4096, 1024]⟩
abbrev S4096x5632 : Shape := ⟨2, ![4096, 5632]⟩
abbrev S2x1024x5632 : Shape := ⟨3, ![2, 1024, 5632]⟩
abbrev S2x1024x8x704 : Shape := ⟨4, ![2, 1024, 8, 704]⟩
abbrev S2x8x1024x704 : Shape := ⟨4, ![2, 8, 1024, 704]⟩
abbrev S4096x8x704 : Shape := ⟨3, ![4096, 8, 704]⟩
abbrev S8x4096x704 : Shape := ⟨3, ![8, 4096, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S2x1024x5632, .f32⟩
  | .hbm, ⟨3, _⟩ => ⟨S2x1024x8x704, .f32⟩
  | .hbm, ⟨4, _⟩ => ⟨S2x8x1024x704, .f32⟩
  | .hbm, ⟨5, _⟩ => ⟨S4096x8x704, .f32⟩
  | .hbm, ⟨6, _⟩ => ⟨S8x4096x704, .f32⟩
  | .hbm, ⟨7, _⟩ => ⟨S8x4096x704, .bf16⟩
  | .hbm, ⟨8, _⟩ => ⟨S2x8x1024x704, .bf16⟩
  | .hbm, ⟨9, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnDxFirstIdeal.lean ====
abbrev S4096x1024 : Shape := ⟨2, ![4096, 1024]⟩
abbrev S4096x5632 : Shape := ⟨2, ![4096, 5632]⟩
abbrev S2x1024x5632 : Shape := ⟨3, ![2, 1024, 5632]⟩
abbrev S2x1024x8x704 : Shape := ⟨4, ![2, 1024, 8, 704]⟩
abbrev S2x8x1024x704 : Shape := ⟨4, ![2, 8, 1024, 704]⟩
abbrev S4096x8x704 : Shape := ⟨3, ![4096, 8, 704]⟩
abbrev S8x4096x704 : Shape := ⟨3, ![8, 4096, 704]⟩
abbrev S1024x1024 : Shape := ⟨2, ![1024, 1024]⟩
abbrev S1x1024x704 : Shape := ⟨3, ![1, 1024, 704]⟩
abbrev S1x1x1024x704 : Shape := ⟨4, ![1, 1, 1024, 704]⟩
abbrev S1024x704 : Shape := ⟨2, ![1024, 704]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S2x1024x5632, .f32⟩
  | .hbm, ⟨3, _⟩ => ⟨S2x1024x8x704, .f32⟩
  | .hbm, ⟨4, _⟩ => ⟨S2x8x1024x704, .f32⟩
  | .hbm, ⟨5, _⟩ => ⟨S4096x8x704, .f32⟩
  | .hbm, ⟨6, _⟩ => ⟨S8x4096x704, .f32⟩
  | .hbm, ⟨7, _⟩ => ⟨S8x4096x704, .bf16⟩
  | .hbm, ⟨8, _⟩ => ⟨S2x8x1024x704, .bf16⟩
  | .hbm, ⟨9, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== FfnDxFirstRefIdeal.lean ====
abbrev S4096x1024 : Shape := ⟨2, ![4096, 1024]⟩
abbrev S4096x5632 : Shape := ⟨2, ![4096, 5632]⟩
abbrev S2x1024x5632 : Shape := ⟨3, ![2, 1024, 5632]⟩
abbrev S_ : Shape := ⟨0, ![]⟩
abbrev S1x1024x5632 : Shape := ⟨3, ![1, 1024, 5632]⟩
abbrev S1024x5632 : Shape := ⟨2, ![1024, 5632]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S2x1024x5632, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1x1024x5632, .f32⟩
  | .hbm, ⟨9, _⟩ => ⟨S1024x5632, .f32⟩
  | .hbm, ⟨10, _⟩ => ⟨S4096x5632, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== GateDw.lean ====
abbrev S4096x1024 : Shape := ⟨2, ![4096, 1024]⟩
abbrev S2x4096x1024 : Shape := ⟨3, ![2, 4096, 1024]⟩
abbrev S2x4x256x256 : Shape := ⟨4, ![2, 4, 256, 256]⟩
abbrev S4096x256 : Shape := ⟨2, ![4096, 256]⟩
abbrev S1x4096x256 : Shape := ⟨3, ![1, 4096, 256]⟩
abbrev S1x1x256x256 : Shape := ⟨4, ![1, 1, 256, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .f32⟩
  | .hbm, ⟨2, _⟩ => ⟨S4096x1024, .bf16⟩
  | .hbm, ⟨3, _⟩ => ⟨S2x4096x1024, .bf16⟩
  | .hbm, ⟨4, _⟩ => ⟨S2x4x256x256, .bf16⟩
  | .local _ .vmem, ⟨0, _⟩ => ⟨S4096x256, .bf16⟩
  | .local _ .vmem, ⟨1, _⟩ => ⟨S4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x1x256x256, .bf16⟩
  | .local _ .vmem, ⟨5, _⟩ => ⟨S1x1x256x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateDwRefIdeal.lean ====
abbrev S4096x1024 : Shape := ⟨2, ![4096, 1024]⟩
abbrev S2x4096x1024 : Shape := ⟨3, ![2, 4096, 1024]⟩
abbrev S_ : Shape := ⟨0, ![]⟩
abbrev S2x4x256x256 : Shape := ⟨4, ![2, 4, 256, 256]⟩
abbrev S4096x4x256 : Shape := ⟨3, ![4096, 4, 256]⟩
abbrev S4x2x256x4096 : Shape := ⟨4, ![4, 2, 256, 4096]⟩
abbrev S2x4096x4x256 : Shape := ⟨4, ![2, 4096, 4, 256]⟩
abbrev S4x2x256x256 : Shape := ⟨4, ![4, 2, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .f32⟩
  | .hbm, ⟨2, _⟩ => ⟨S_, .f32⟩
  | .hbm, ⟨3, _⟩ => ⟨S2x4x256x256, .f32⟩
  | .hbm, ⟨4, _⟩ => ⟨S4096x4x256, .f32⟩
  | .hbm, ⟨5, _⟩ => ⟨S4x2x256x4096, .f32⟩
  | .hbm, ⟨6, _⟩ => ⟨S2x4096x4x256, .f32⟩
  | .hbm, ⟨7, _⟩ => ⟨S2x4096x1024, .f32⟩
  | .hbm, ⟨8, _⟩ => ⟨S2x4096x4x256, .f32⟩
  | .hbm, ⟨9, _⟩ => ⟨S4x2x256x4096, .f32⟩
  | .hbm, ⟨10, _⟩ => ⟨S4x2x256x256, .f32⟩
  | .hbm, ⟨11, _⟩ => ⟨S2x4x256x256, .f32⟩
  | .hbm, ⟨12, _⟩ => ⟨S2x4x256x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== MixIn.lean ====
abbrev S4096x1024 : Shape := ⟨2, ![4096, 1024]⟩
abbrev S1024x7168 : Shape := ⟨2, ![1024, 7168]⟩
abbrev S4096x7168 : Shape := ⟨2, ![4096, 7168]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x7168, .f32⟩
  | .hbm, ⟨2, _⟩ => ⟨S4096x1024, .bf16⟩
  | .hbm, ⟨3, _⟩ => ⟨S1024x7168, .bf16⟩
  | .hbm, ⟨4, _⟩ => ⟨S4096x7168, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![7, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixInRefIdeal.lean ====
abbrev S4096x1024 : Shape := ⟨2, ![4096, 1024]⟩
abbrev S1024x7168 : Shape := ⟨2, ![1024, 7168]⟩
abbrev S4096x7168 : Shape := ⟨2, ![4096, 7168]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x7168, .f32⟩
  | .hbm, ⟨2, _⟩ => ⟨S4096x7168, .f32⟩
  | .hbm, ⟨3, _⟩ => ⟨S4096x7168, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnUp.lean ====
abbrev S4096x1024 : Shape := ⟨2, ![4096, 1024]⟩
abbrev S2x1024x5632 : Shape := ⟨3, ![2, 1024, 5632]⟩
abbrev S2x1024x8x704 : Shape := ⟨4, ![2, 1024, 8, 704]⟩
abbrev S2x8x1024x704 : Shape := ⟨4, ![2, 8, 1024, 704]⟩
abbrev S4x4096x704 : Shape := ⟨3, ![4, 4096, 704]⟩
abbrev S2048x1024 : Shape := ⟨2, ![2048, 1024]⟩
abbrev S1x1x1024x704 : Shape := ⟨4, ![1, 1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S4096x1024, .bf16⟩
  | .hbm, ⟨3, _⟩ => ⟨S2x1024x8x704, .f32⟩
  | .hbm, ⟨4, _⟩ => ⟨S2x8x1024x704, .f32⟩
  | .hbm, ⟨5, _⟩ => ⟨S2x8x1024x704, .bf16⟩
  | .hbm, ⟨6, _⟩ => ⟨S4x4096x704, .bf16⟩
  | .hbm, ⟨7, _⟩ => ⟨S4x4096x704, .bf16⟩
  | .hbm, ⟨8, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpIdeal.lean ====
abbrev S4096x1024 : Shape := ⟨2, ![4096, 1024]⟩
abbrev S2x1024x5632 : Shape := ⟨3, ![2, 1024, 5632]⟩
abbrev S2x1024x8x704 : Shape := ⟨4, ![2, 1024, 8, 704]⟩
abbrev S2x8x1024x704 : Shape := ⟨4, ![2, 8, 1024, 704]⟩
abbrev S4x4096x704 : Shape := ⟨3, ![4, 4096, 704]⟩
abbrev S2048x1024 : Shape := ⟨2, ![2048, 1024]⟩
abbrev S1x1x1024x704 : Shape := ⟨4, ![1, 1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S4096x1024, .bf16⟩
  | .hbm, ⟨3, _⟩ => ⟨S2x1024x8x704, .f32⟩
  | .hbm, ⟨4, _⟩ => ⟨S2x8x1024x704, .f32⟩
  | .hbm, ⟨5, _⟩ => ⟨S2x8x1024x704, .bf16⟩
  | .hbm, ⟨6, _⟩ => ⟨S4x4096x704, .bf16⟩
  | .hbm, ⟨7, _⟩ => ⟨S4x4096x704, .bf16⟩
  | .hbm, ⟨8, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4096x1024 : Shape := ⟨2, ![4096, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x4x704, .f32⟩
  | .hbm, ⟨24, _⟩ => ⟨S4x4096x704, .f32⟩
  | .hbm, ⟨25, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== FfnUpFirst.lean ====
abbrev S4096x1024 : Shape := ⟨2, ![4096, 1024]⟩
abbrev S2x1024x5632 : Shape := ⟨3, ![2, 1024, 5632]⟩
abbrev S2x1024x8x704 : Shape := ⟨4, ![2, 1024, 8, 704]⟩
abbrev S2x8x1024x704 : Shape := ⟨4, ![2, 8, 1024, 704]⟩
abbrev S4x4096x704 : Shape := ⟨3, ![4, 4096, 704]⟩
abbrev S2048x1024 : Shape := ⟨2, ![2048, 1024]⟩
abbrev S1x1x1024x704 : Shape := ⟨4, ![1, 1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S4096x1024, .bf16⟩
  | .hbm, ⟨3, _⟩ => ⟨S2x1024x8x704, .f32⟩
  | .hbm, ⟨4, _⟩ => ⟨S2x8x1024x704, .f32⟩
  | .hbm, ⟨5, _⟩ => ⟨S2x8x1024x704, .bf16⟩
  | .hbm, ⟨6, _⟩ => ⟨S4x4096x704, .bf16⟩
  | .hbm, ⟨7, _⟩ => ⟨S4x4096x704, .bf16⟩
  | .hbm, ⟨8, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpFirstIdeal.lean ====
abbrev S4096x1024 : Shape := ⟨2, ![4096, 1024]⟩
abbrev S2x1024x5632 : Shape := ⟨3, ![2, 1024, 5632]⟩
abbrev S2x1024x8x704 : Shape := ⟨4, ![2, 1024, 8, 704]⟩
abbrev S2x8x1024x704 : Shape := ⟨4, ![2, 8, 1024, 704]⟩
abbrev S4x4096x704 : Shape := ⟨3, ![4, 4096, 704]⟩
abbrev S2048x1024 : Shape := ⟨2, ![2048, 1024]⟩
abbrev S1x1x1024x704 : Shape := ⟨4, ![1, 1, 1024, 704]⟩
abbrev S1x2048x704 : Shape := ⟨3, ![1, 2048, 704]⟩
abbrev S1024x704 : Shape := ⟨2, ![1024, 704]⟩
abbrev S2048x704 : Shape := ⟨2, ![2048, 704]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S4096x1024, .bf16⟩
  | .hbm, ⟨3, _⟩ => ⟨S2x1024x8x704, .f32⟩
  | .hbm, ⟨4, _⟩ => ⟨S2x8x1024x704, .f32⟩
  | .hbm, ⟨5, _⟩ => ⟨S2x8x1024x704, .bf16⟩
  | .hbm, ⟨6, _⟩ => ⟨S4x4096x704, .bf16⟩
  | .hbm, ⟨7, _⟩ => ⟨S4x4096x704, .bf16⟩
  | .hbm, ⟨8, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x1024x704, .bf16⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpFirstRefIdeal.lean ====
abbrev S4096x1024 : Shape := ⟨2, ![4096, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x1024x5632, .f32⟩
  | .hbm, ⟨2, _⟩ => ⟨S1x1024x5632, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x4x704, .f32⟩
  | .hbm, ⟨24, _⟩ => ⟨S4x4096x704, .f32⟩
  | .hbm, ⟨25, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== FfnDown.lean ====
abbrev S4096x2816 : Shape := ⟨2, ![4096, 2816]⟩
abbrev S2x2816x1024 : Shape := ⟨3, ![2, 2816, 1024]⟩
abbrev S4096x1024 : Shape := ⟨2, ![4096, 1024]⟩
abbrev S3x1024 : Shape := ⟨2, ![3, 1024]⟩
abbrev S_ : Shape := ⟨0, ![]⟩
abbrev S9x1024 : Shape := ⟨2, ![9, 1024]⟩
abbrev S1x1024 : Shape := ⟨2, ![1, 1024]⟩
abbrev S16x1024 : Shape := ⟨2, ![16, 1024]⟩
abbrev S4096x4x704 : Shape := ⟨3, ![4096, 4, 704]⟩
abbrev S4x4096x704 : Shape := ⟨3, ![4, 4096, 704]⟩
abbrev S4096x1 : Shape := ⟨2, ![4096, 1]⟩
abbrev S4x512x704 : Shape := ⟨3, ![4, 512, 704]⟩
abbrev S1x2816x1024 : Shape := ⟨3, ![1, 2816, 1024]⟩
abbrev S512x1024 : Shape := ⟨2, ![512, 1024]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩

abbrev nBuf : Space → Nat
  | .hbm => 18
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S3x1024, .f32⟩
  | .hbm, ⟨4, _⟩ => ⟨S3x1024, .f32⟩
  | .hbm, ⟨5, _⟩ => ⟨S_, .f32⟩
  | .hbm, ⟨6, _⟩ => ⟨S9x1024, .f32⟩
  | .hbm, ⟨7, _⟩ => ⟨S_, .f32⟩
  | .hbm, ⟨8, _⟩ => ⟨S1x1024, .f32⟩
  | .hbm, ⟨9, _⟩ => ⟨S16x1024, .f32⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S2x2816x1024, .bf16⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x1, .f32⟩
  | .local _ .vmem, ⟨0, _⟩ => ⟨S4x512x704, .bf16⟩
  | .local _ .vmem, ⟨1, _⟩ => ⟨S4x512x704, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S16x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDownIdeal.lean ====
abbrev S4096x2816 : Shape := ⟨2, ![4096, 2816]⟩
abbrev S2x2816x1024 : Shape := ⟨3, ![2, 2816, 1024]⟩
abbrev S4096x1024 : Shape := ⟨2, ![4096, 1024]⟩
abbrev S3x1024 : Shape := ⟨2, ![3, 1024]⟩
abbrev S_ : Shape := ⟨0, ![]⟩
abbrev S9x1024 : Shape := ⟨2, ![9, 1024]⟩
abbrev S1x1024 : Shape := ⟨2, ![1, 1024]⟩
abbrev S16x1024 : Shape := ⟨2, ![16, 1024]⟩
abbrev S4096x4x704 : Shape := ⟨3, ![4096, 4, 704]⟩
abbrev S4x4096x704 : Shape := ⟨3, ![4, 4096, 704]⟩
abbrev S4096x1 : Shape := ⟨2, ![4096, 1]⟩
abbrev S4x512x704 : Shape := ⟨3, ![4, 512, 704]⟩
abbrev S1x2816x1024 : Shape := ⟨3, ![1, 2816, 1024]⟩
abbrev S512x1024 : Shape := ⟨2, ![512, 1024]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩

abbrev nBuf : Space → Nat
  | .hbm => 18
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S3x1024, .f32⟩
  | .hbm, ⟨4, _⟩ => ⟨S3x1024, .f32⟩
  | .hbm, ⟨5, _⟩ => ⟨S_, .f32⟩
  | .hbm, ⟨6, _⟩ => ⟨S9x1024, .f32⟩
  | .hbm, ⟨7, _⟩ => ⟨S_, .f32⟩
  | .hbm, ⟨8, _⟩ => ⟨S1x1024, .f32⟩
  | .hbm, ⟨9, _⟩ => ⟨S16x1024, .f32⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S2x2816x1024, .bf16⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x1, .f32⟩
  | .local _ .vmem, ⟨0, _⟩ => ⟨S4x512x704, .bf16⟩
  | .local _ .vmem, ⟨1, _⟩ => ⟨S4x512x704, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S16x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDownRefIdeal.lean ====
abbrev S4096x2816 : Shape := ⟨2, ![4096, 2816]⟩
abbrev S2x2816x1024 : Shape := ⟨3, ![2, 2816, 1024]⟩
abbrev S4096x1024 : Shape := ⟨2, ![4096, 1024]⟩
abbrev S3x1024 : Shape := ⟨2, ![3, 1024]⟩
abbrev S_ : Shape := ⟨0, ![]⟩
abbrev S1x2816x1024 : Shape := ⟨3, ![1, 2816, 1024]⟩
abbrev S2816x1024 : Shape := ⟨2, ![2816, 1024]⟩
abbrev S4096 : Shape := ⟨1, ![4096]⟩
abbrev S4096x1 : Shape := ⟨2, ![4096, 1]⟩
abbrev S1x1024 : Shape := ⟨2, ![1, 1024]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S3x1024, .f32⟩
  | .hbm, ⟨4, _⟩ => ⟨S3x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1x2816x1024, .f32⟩
  | .hbm, ⟨9, _⟩ => ⟨S2816x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== FfnDownFirst.lean ====
abbrev S4096x2816 : Shape := ⟨2, ![4096, 2816]⟩
abbrev S2x2816x1024 : Shape := ⟨3, ![2, 2816, 1024]⟩
abbrev S4096x1024 : Shape := ⟨2, ![4096, 1024]⟩
abbrev S3x1024 : Shape := ⟨2, ![3, 1024]⟩
abbrev S_ : Shape := ⟨0, ![]⟩
abbrev S9x1024 : Shape := ⟨2, ![9, 1024]⟩
abbrev S1x1024 : Shape := ⟨2, ![1, 1024]⟩
abbrev S16x1024 : Shape := ⟨2, ![16, 1024]⟩
abbrev S4096x4x704 : Shape := ⟨3, ![4096, 4, 704]⟩
abbrev S4x4096x704 : Shape := ⟨3, ![4, 4096, 704]⟩
abbrev S4096x1 : Shape := ⟨2, ![4096, 1]⟩
abbrev S4x512x704 : Shape := ⟨3, ![4, 512, 704]⟩
abbrev S1x2816x1024 : Shape := ⟨3, ![1, 2816, 1024]⟩
abbrev S512x1024 : Shape := ⟨2, ![512, 1024]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩

abbrev nBuf : Space → Nat
  | .hbm => 18
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S3x1024, .f32⟩
  | .hbm, ⟨4, _⟩ => ⟨S3x1024, .f32⟩
  | .hbm, ⟨5, _⟩ => ⟨S_, .f32⟩
  | .hbm, ⟨6, _⟩ => ⟨S9x1024, .f32⟩
  | .hbm, ⟨7, _⟩ => ⟨S_, .f32⟩
  | .hbm, ⟨8, _⟩ => ⟨S1x1024, .f32⟩
  | .hbm, ⟨9, _⟩ => ⟨S16x1024, .f32⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S2x2816x1024, .bf16⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x1, .f32⟩
  | .local _ .vmem, ⟨0, _⟩ => ⟨S4x512x704, .bf16⟩
  | .local _ .vmem, ⟨1, _⟩ => ⟨S4x512x704, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S16x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDownFirstIdeal.lean ====
abbrev S4096x2816 : Shape := ⟨2, ![4096, 2816]⟩
abbrev S2x2816x1024 : Shape := ⟨3, ![2, 2816, 1024]⟩
abbrev S4096x1024 : Shape := ⟨2, ![4096, 1024]⟩
abbrev S3x1024 : Shape := ⟨2, ![3, 1024]⟩
abbrev S_ : Shape := ⟨0, ![]⟩
abbrev S9x1024 : Shape := ⟨2, ![9, 1024]⟩
abbrev S1x1024 : Shape := ⟨2, ![1, 1024]⟩
abbrev S16x1024 : Shape := ⟨2, ![16, 1024]⟩
abbrev S4096x4x704 : Shape := ⟨3, ![4096, 4, 704]⟩
abbrev S4x4096x704 : Shape := ⟨3, ![4, 4096, 704]⟩
abbrev S4096x1 : Shape := ⟨2, ![4096, 1]⟩
abbrev S4x512x704 : Shape := ⟨3, ![4, 512, 704]⟩
abbrev S1x2816x1024 : Shape := ⟨3, ![1, 2816, 1024]⟩
abbrev S512x1024 : Shape := ⟨2, ![512, 1024]⟩
abbrev S512x1 : Shape := ⟨2, ![512, 1]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩

abbrev nBuf : Space → Nat
  | .hbm => 18
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S3x1024, .f32⟩
  | .hbm, ⟨4, _⟩ => ⟨S3x1024, .f32⟩
  | .hbm, ⟨5, _⟩ => ⟨S_, .f32⟩
  | .hbm, ⟨6, _⟩ => ⟨S9x1024, .f32⟩
  | .hbm, ⟨7, _⟩ => ⟨S_, .f32⟩
  | .hbm, ⟨8, _⟩ => ⟨S1x1024, .f32⟩
  | .hbm, ⟨9, _⟩ => ⟨S16x1024, .f32⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S2x2816x1024, .bf16⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x1, .f32⟩
  | .local _ .vmem, ⟨0, _⟩ => ⟨S4x512x704, .bf16⟩
  | .local _ .vmem, ⟨1, _⟩ => ⟨S4x512x704, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S16x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1, .f32⟩
  | .local _ .vmem, ⟨13, _⟩ => ⟨S512x1, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDownFirstRefIdeal.lean ====
abbrev S4096x2816 : Shape := ⟨2, ![4096, 2816]⟩
abbrev S2x2816x1024 : Shape := ⟨3, ![2, 2816, 1024]⟩
abbrev S4096x1024 : Shape := ⟨2, ![4096, 1024]⟩
abbrev S3x1024 : Shape := ⟨2, ![3, 1024]⟩
abbrev S_ : Shape := ⟨0, ![]⟩
abbrev S1x2816x1024 : Shape := ⟨3, ![1, 2816, 1024]⟩
abbrev S2816x1024 : Shape := ⟨2, ![2816, 1024]⟩
abbrev S4096 : Shape := ⟨1, ![4096]⟩
abbrev S4096x1 : Shape := ⟨2, ![4096, 1]⟩
abbrev S1x1024 : Shape := ⟨2, ![1, 1024]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2x2816x1024, .f32⟩
  | .hbm, ⟨2, _⟩ => ⟨S4096x1024, .f32⟩
  | .hbm, ⟨3, _⟩ => ⟨S3x1024, .f32⟩
  | .hbm, ⟨4, _⟩ => ⟨S3x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S1x2816x1024, .f32⟩
  | .hbm, ⟨9, _⟩ => ⟨S2816x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MixEnd.lean ====
abbrev S4096x1024 : Shape := ⟨2, ![4096, 1024]⟩
abbrev S4096x7168 : Shape := ⟨2, ![4096, 7168]⟩
abbrev S2048 : Shape := ⟨1, ![2048]⟩
abbrev S3x1024x1024 : Shape := ⟨3, ![3, 1024, 1024]⟩
abbrev S3x1024 : Shape := ⟨2, ![3, 1024]⟩
abbrev S_ : Shape := ⟨0, ![]⟩
abbrev S9x1024 : Shape := ⟨2, ![9, 1024]⟩
abbrev S1x1024 : Shape := ⟨2, ![1, 1024]⟩
abbrev S16x1024 : Shape := ⟨2, ![16, 1024]⟩
abbrev S1x2048 : Shape := ⟨2, ![1, 2048]⟩
abbrev S4096x1 : Shape := ⟨2, ![4096, 1]⟩
abbrev S256x1024 : Shape := ⟨2, ![256, 1024]⟩
abbrev S256x1 : Shape := ⟨2, ![256, 1]⟩
abbrev S1x1024x1024 : Shape := ⟨3, ![1, 1024, 1024]⟩
abbrev S1024x1024 : Shape := ⟨2, ![1024, 1024]⟩
abbrev S256 : Shape := ⟨1, ![256]⟩

abbrev nBuf : Space → Nat
  | .hbm => 26
  | .vmem => 32
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x7168, .f32⟩
  | .hbm, ⟨3, _⟩ => ⟨S2048, .f32⟩
  | .hbm, ⟨4, _⟩ => ⟨S3x1024x1024, .f32⟩
  | .hbm, ⟨5, _⟩ => ⟨S4096x1024, .f32⟩
  | .hbm, ⟨6, _⟩ => ⟨S3x1024, .f32⟩
  | .hbm, ⟨7, _⟩ => ⟨S3x1024, .f32⟩
  | .hbm, ⟨8, _⟩ => ⟨S_, .f32⟩
  | .hbm, ⟨9, _⟩ => ⟨S9x1024, .f32⟩
  | .hbm, ⟨10, _⟩ => ⟨S_, .f32⟩
  | .hbm, ⟨11, _⟩ => ⟨S1x1024, .f32⟩
  | .hbm, ⟨12, _⟩ => ⟨S16x1024, .f32⟩
  | .hbm, ⟨13, _⟩ => ⟨S4096x1024, .bf16⟩
  | .hbm, ⟨14, _⟩ => ⟨S4096x1024, .bf16⟩
  | .hbm, ⟨15, _⟩ => ⟨S4096x7168, .bf16⟩
  | .hbm, ⟨16, _⟩ => ⟨S1x2048, .f32⟩
  | .hbm, ⟨17, _⟩ => ⟨S3x1024x1024, .bf16⟩
  | .hbm, ⟨18, _⟩ => ⟨S4096x1024, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S4096x1, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S3x1024x1024, .bf16⟩
  | .local _ .vmem, ⟨13, _⟩ => ⟨S256x1024, .f32⟩
  | .local _ .vmem, ⟨14, _⟩ => ⟨S256x1024, .f32⟩
  | .local _ .vmem, ⟨15, _⟩ => ⟨S16x1024, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S256x1024, .f32⟩
  | .local _ .vmem, ⟨29, _⟩ => ⟨S256x1024, .f32⟩
  | .local _ .vmem, ⟨30, _⟩ => ⟨S256x1, .f32⟩
  | .local _ .vmem, ⟨31, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixEndRefIdeal.lean ====
abbrev S4096x1024 : Shape := ⟨2, ![4096, 1024]⟩
abbrev S4096x7168 : Shape := ⟨2, ![4096, 7168]⟩
abbrev S2048 : Shape := ⟨1, ![2048]⟩
abbrev S3x1024x1024 : Shape := ⟨3, ![3, 1024, 1024]⟩
abbrev S3x1024 : Shape := ⟨2, ![3, 1024]⟩
abbrev S4096x2048 : Shape := ⟨2, ![4096, 2048]⟩
abbrev S_ : Shape := ⟨0, ![]⟩
abbrev S1x1024x1024 : Shape := ⟨3, ![1, 1024, 1024]⟩
abbrev S1024x1024 : Shape := ⟨2, ![1024, 1024]⟩
abbrev S1x2048 : Shape := ⟨2, ![1, 2048]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x7168, .f32⟩
  | .hbm, ⟨3, _⟩ => ⟨S2048, .f32⟩
  | .hbm, ⟨4, _⟩ => ⟨S3x1024x1024, .f32⟩
  | .hbm, ⟨5, _⟩ => ⟨S4096x1024, .f32⟩
  | .hbm, ⟨6, _⟩ => ⟨S3x1024, .f32⟩
  | .hbm, ⟨7, _⟩ => ⟨S3x1024, .f32⟩
  | .hbm, ⟨8, _⟩ => ⟨S4096x1024, .f32⟩
  | .hbm, ⟨9, _⟩ => ⟨S4096x2048, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S1x1024x1024, .f32⟩
  | .hbm, ⟨29, _⟩ => ⟨S1024x1024, .f32⟩
  | .hbm, ⟨30, _⟩ => ⟨S4096x1024, .f32⟩
  | .hbm, ⟨31, _⟩ => ⟨S1x1024x1024, .f32⟩
  | .hbm, ⟨32, _⟩ => ⟨S1024x1024, .f32⟩
  | .hbm, ⟨33, _⟩ => ⟨S4096x1024, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S1x1024x1024, .f32⟩
  | .hbm, ⟨54, _⟩ => ⟨S1024x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S1x1024, .f32⟩
  | .hbm, ⟨88, _⟩ => ⟨S4096x1024, .f32⟩
  | .hbm, ⟨89, _⟩ => ⟨S4096x1024, .f32⟩
  | .hbm, ⟨90, _⟩ => ⟨S4096x1024, .bf16⟩
  | .hbm, ⟨91, _⟩ => ⟨S4096x1024, .bf16⟩
  | .hbm, ⟨92, _⟩ => ⟨S4096x1024, .bf16⟩
  | .hbm, ⟨93, _⟩ => ⟨S4096x1024, .bf16⟩
  | .hbm, ⟨94, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== FfnBack.lean ====
abbrev S4096x1024 : Shape := ⟨2, ![4096, 1024]⟩
abbrev S3x1024 : Shape := ⟨2, ![3, 1024]⟩
abbrev S2x2816x1024 : Shape := ⟨3, ![2, 2816, 1024]⟩
abbrev S4096x2816 : Shape := ⟨2, ![4096, 2816]⟩
abbrev S_ : Shape := ⟨0, ![]⟩
abbrev S9x1024 : Shape := ⟨2, ![9, 1024]⟩
abbrev S4x1024 : Shape := ⟨2, ![4, 1024]⟩
abbrev S16x1024 : Shape := ⟨2, ![16, 1024]⟩
abbrev S1x1024 : Shape := ⟨2, ![1, 1024]⟩
abbrev S1024 : Shape := ⟨1, ![1024]⟩
abbrev S4096 : Shape := ⟨1, ![4096]⟩
abbrev S4096x1 : Shape := ⟨2, ![4096, 1]⟩
abbrev S4096x4x704 : Shape := ⟨3, ![4096, 4, 704]⟩
abbrev S4x4096x704 : Shape := ⟨3, ![4, 4096, 704]⟩
abbrev S8x4096x704 : Shape := ⟨3, ![8, 4096, 704]⟩
abbrev S2x1024 : Shape := ⟨2, ![2, 1024]⟩
abbrev S256x1024 : Shape := ⟨2, ![256, 1024]⟩
abbrev S256x1 : Shape := ⟨2, ![256, 1]⟩
abbrev S1x2816x1024 : Shape := ⟨3, ![1, 2816, 1024]⟩
abbrev S4x256x704 : Shape := ⟨3, ![4, 256, 704]⟩
abbrev S8x256x704 : Shape := ⟨3, ![8, 256, 704]⟩
abbrev S256 : Shape := ⟨1, ![256]⟩
abbrev S1x704x1024 : Shape := ⟨3, ![1, 704, 1024]⟩
abbrev S704x1024 : Shape := ⟨2, ![704, 1024]⟩
abbrev S256x704 : Shape := ⟨2, ![256, 704]⟩
abbrev S1x256x704 : Shape := ⟨3, ![1, 256, 704]⟩

abbrev nBuf : Space → Nat
  | .hbm => 55
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S3x1024, .f32⟩
  | .hbm, ⟨3, _⟩ => ⟨S2x2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S9x1024, .f32⟩
  | .hbm, ⟨8, _⟩ => ⟨S_, .f32⟩
  | .hbm, ⟨9, _⟩ => ⟨S4x1024, .f32⟩
  | .hbm, ⟨10, _⟩ => ⟨S16x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S2x2816x1024, .bf16⟩
  | .hbm, ⟨45, _⟩ => ⟨S4096x4x704, .f32⟩
  | .hbm, ⟨46, _⟩ => ⟨S4x4096x704, .f32⟩
  | .hbm, ⟨47, _⟩ => ⟨S4x4096x704, .bf16⟩
  | .hbm, ⟨48, _⟩ => ⟨S4096x4x704, .f32⟩
  | .hbm, ⟨49, _⟩ => ⟨S4x4096x704, .f32⟩
  | .hbm, ⟨50, _⟩ => ⟨S4x4096x704, .bf16⟩
  | .hbm, ⟨51, _⟩ => ⟨S4096x1024, .f32⟩
  | .hbm, ⟨52, _⟩ => ⟨S4096x1024, .bf16⟩
  | .hbm, ⟨53, _⟩ => ⟨S8x4096x704, .bf16⟩
  | .hbm, ⟨54, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S16x1024, .f32⟩
  | .local _ .vmem, ⟨7, _⟩ => ⟨S1x2816x1024, .bf16⟩
  | .local _ .vmem, ⟨8, _⟩ => ⟨S4x256x704, .bf16⟩
  | .local _ .vmem, ⟨9, _⟩ => ⟨S4x256x704, .bf16⟩
  | .local _ .vmem, ⟨10, _⟩ => ⟨S4x256x704, .bf16⟩
  | .local _ .vmem, ⟨11, _⟩ => ⟨S4x256x704, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S8x256x704, .bf16⟩
  | .local _ .vmem, ⟨17, _⟩ => ⟨S8x256x704, .bf16⟩
  | .local _ .vmem, ⟨18, _⟩ => ⟨S2x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38_0 : Ref sig .tc := ⟨.hbm, 51, rfl⟩
abbrev main_v38_1 : Ref sig .tc := ⟨.hbm, 52, rfl⟩
abbrev main_v38_2 : Ref sig .tc := ⟨.hbm, 53, rfl⟩
abbrev main_v38_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnBackRefIdeal.lean ====
abbrev S4096x1024 : Shape := ⟨2, ![4096, 1024]⟩
abbrev S3x1024 : Shape := ⟨2, ![3, 1024]⟩
abbrev S2x2816x1024 : Shape := ⟨3, ![2, 2816, 1024]⟩
abbrev S4096x2816 : Shape := ⟨2, ![4096, 2816]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x2816x1024 : Shape := ⟨3, ![1, 2816, 1024]⟩
abbrev S2816x1024 : Shape := ⟨2, ![2816, 1024]⟩
abbrev S4096x5632 : Shape := ⟨2, ![4096, 5632]⟩
abbrev S4096x8x704 : Shape := ⟨3, ![4096, 8, 704]⟩
abbrev S8x4096x704 : Shape := ⟨3, ![8, 4096, 704]⟩
abbrev S2x1024 : Shape := ⟨2, ![2, 1024]⟩

abbrev nBuf : Space → Nat
  | .hbm => 131
  | .vmem => 0
  | .smem => 0
  | _ => 0

abbrev hbmTy0_0 (i : Nat) : BufTy := match i % 128 with
  | 0 => ⟨S4096x1024, .f32⟩
  | 1 => ⟨S4096x1024, .f32⟩
  | 2 => ⟨S3x1024, .f32⟩
  | 3 => ⟨S2x2816x1024, .f32⟩
  | 4 => ⟨S4096x2816, .f32⟩
  | 5 => ⟨S4096x2816, .f32⟩
  | 6 => ⟨S1x1024, .f32⟩
  | 7 => ⟨S1024, .f32⟩
  | 8 => ⟨S_, .f32⟩
  | 9 => ⟨S1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S4096x1024, .f32⟩
  | 17 => ⟨S4096x1024, .f32⟩
  | 18 => ⟨S4096x1024, .f32⟩
  | 19 => ⟨S_, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096x1, .f32⟩
  | 30 => ⟨S4096x1, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S4096x1024, .f32⟩
  | 39 => ⟨S4096x1024, .f32⟩
  | 40 => ⟨S1x1024, .f32⟩
  | 41 => ⟨S4096x1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S_, .f32⟩
  | 48 => ⟨S1024, .f32⟩
  | 49 => ⟨S1x1024, .f32⟩
  | 50 => ⟨S_, .f32⟩
  | 51 => ⟨S1024, .f32⟩
  | 52 => ⟨S4096x1024, .f32⟩
  | 53 => ⟨S_, .f32⟩
  | 54 => ⟨S1024, .f32⟩
  | 55 => ⟨S1x1024, .f32⟩
  | 56 => ⟨S4096x1024, .f32⟩
  | 57 => ⟨S4096x1024, .f32⟩
  | 58 => ⟨S_, .f32⟩
  | 59 => ⟨S1024, .f32⟩
  | 60 => ⟨S4096x1024, .f32⟩
  | 61 => ⟨S_, .f32⟩
  | 62 => ⟨S4096, .f32⟩
  | 63 => ⟨S4096x1, .f32⟩
  | 64 => ⟨S4096x1024, .f32⟩
  | 65 => ⟨S4096x1024, .f32⟩
  | 66 => ⟨S4096x1024, .f32⟩
  | 67 => ⟨S_, .f32⟩
  | 68 => ⟨S4096, .f32⟩
  | 69 => ⟨S4096x1, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096, .f32⟩
  | 76 => ⟨S4096x1024, .f32⟩
  | 77 => ⟨S4096x1024, .f32⟩
  | 78 => ⟨S4096x1024, .f32⟩
  | 79 => ⟨S_, .f32⟩
  | 80 => ⟨S4096, .f32⟩
  | 81 => ⟨S4096x1, .f32⟩
  | 82 => ⟨S4096x1024, .f32⟩
  | 83 => ⟨S4096x1, .f32⟩
  | 84 => ⟨S_, .f32⟩
  | 85 => ⟨S4096x1, .f32⟩
  | 86 => ⟨S4096x1, .f32⟩
  | 87 => ⟨S_, .f32⟩
  | 88 => ⟨S4096, .f32⟩
  | 89 => ⟨S4096x1024, .f32⟩
  | 90 => ⟨S4096x1024, .f32⟩
  | 91 => ⟨S_, .f32⟩
  | 92 => ⟨S4096x1024, .f32⟩
  | 93 => ⟨S_, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S4096x2816, .f32⟩
  | 100 => ⟨S4096x2816, .f32⟩
  | 101 => ⟨S_, .f32⟩
  | 102 => ⟨S4096x2816, .f32⟩
  | 103 => ⟨S4096x2816, .f32⟩
  | 104 => ⟨S_, .f32⟩
  | 105 => ⟨S4096x2816, .f32⟩
  | 106 => ⟨S4096x2816, .f32⟩
  | 107 => ⟨S_, .f32⟩
  | 108 => ⟨S4096x2816, .f32⟩
  | 109 => ⟨S4096x2816, .f32⟩
  | 110 => ⟨S4096x2816, .f32⟩
  | 111 => ⟨S4096x2816, .f32⟩
  | 112 => ⟨S4096x2816, .f32⟩
  | 113 => ⟨S1x2816x1024, .f32⟩
  | 114 => ⟨S2816x1024, .f32⟩
  | 115 => ⟨S4096x1024, .f32⟩
  | 116 => ⟨S4096x2816, .f32⟩
  | 117 => ⟨S4096x2816, .f32⟩
  | 118 => ⟨S4096x2816, .f32⟩
  | 119 => ⟨S4096x2816, .f32⟩
  | 120 => ⟨S4096x2816, .f32⟩
  | 121 => ⟨S4096x2816, .f32⟩
  | 122 => ⟨S4096x2816, .f32⟩
  | 123 => ⟨S4096x1024, .bf16⟩
  | 124 => ⟨S4096x5632, .f32⟩
  | 125 => ⟨S4096x8x704, .f32⟩
  | 126 => ⟨S8x4096x704, .f32⟩
  | 127 => ⟨S8x4096x704, .bf16⟩
  | _ => ⟨S4096x1024, .f32⟩

abbrev hbmTy0_1 (i : Nat) : BufTy := match i % 128 with
  | 0 => ⟨S1x1024, .f32⟩
  | 1 => ⟨S1x1024, .f32⟩
  | 2 => ⟨S2x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_cst_14 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_cst_17 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_18 : Ref sig .tc := ⟨.hbm, 91, rfl⟩
abbrev main_v66 : Ref sig .tc := ⟨.hbm, 92, rfl⟩
abbrev main_cst_19 : Ref sig .tc := ⟨.hbm, 93, rfl⟩
abbrev main_v67 : Ref sig .tc := ⟨.hbm, 94, rfl⟩
abbrev main_v68 : Ref sig .tc := ⟨.hbm, 95, rfl⟩
abbrev main_cst_20 : Ref sig .tc := ⟨.hbm, 96, rfl⟩
abbrev main_v69 : Ref sig .tc := ⟨.hbm, 97, rfl⟩
abbrev main_v70 : Ref sig .tc := ⟨.hbm, 98, rfl⟩
abbrev main_call0_v0 : Ref sig .tc := ⟨.hbm, 99, rfl⟩
abbrev main_call0_v1 : Ref sig .tc := ⟨.hbm, 100, rfl⟩
abbrev main_call0_cst : Ref sig .tc := ⟨.hbm, 101, rfl⟩
abbrev main_call0_v2 : Ref sig .tc := ⟨.hbm, 102, rfl⟩
abbrev main_call0_v3 : Ref sig .tc := ⟨.hbm, 103, rfl⟩
abbrev main_call0_cst_0 : Ref sig .tc := ⟨.hbm, 104, rfl⟩
abbrev main_call0_v4 : Ref sig .tc := ⟨.hbm, 105, rfl⟩
abbrev main_v71_2 : Ref sig .tc := ⟨.hbm, 106, rfl⟩
abbrev main_call0_cst_1 : Ref sig .tc := ⟨.hbm, 107, rfl⟩
abbrev main_call0_v6 : Ref sig .tc := ⟨.hbm, 108, rfl⟩
abbrev main_call0_v7 : Ref sig .tc := ⟨.hbm, 109, rfl⟩
abbrev main_v71_1 : Ref sig .tc := ⟨.hbm, 110, rfl⟩
abbrev main_v71_0 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩

abbrev nD : Nat := 1
abbrev τ : Topo := Topo.v7x

variable {F : FTy → Type} [FloatOps F]
-- ==== Proof.Rec.Block.lean ====
/- What one grid point of the backward kernel computes: the values of its two scratch tiles, of its scan, of the
   three result blocks and of the two rows it carries to the next point, as functions of the blocks it reads and
   of what it was handed by the point before. Nothing here depends on the float values. -/
module

public import proofs.«01_k».proof.Proof.Gen.KernelIdeal.Launch
public import proofs.«01_k».proof.Proof.Gen.KernelIdeal.Points
public import proofs.«01_k».proof.Proof.Gen.KernelIdeal.Skeleton
public import proofs.«01_k».proof.Proof.Gen.KernelIdeal.Loops
public import Idealize.ShloMosaic.Lib.Pipeline.Frame
public import Idealize.ShloMosaic.Lib.Pipeline.FrameBody
public import Idealize.ShloMosaic.Lib.WritesUnit
public import Idealize.ShloMosaic.Lib.WholeRead
public import Idealize.ShloMosaic.Lib.ValueIdx

@[expose] public section

set_option maxRecDepth 16384

noncomputable section

namespace Cert.KernelIdeal.Rec

open Cert.KernelIdeal Cert.KernelIdeal.Gen
open Idealize.ShloMosaic Idealize.ShloMosaic.TcCoe Idealize.ShloMosaic.ValueIdx

variable {F : FTy → Type} [FloatOps F]

/-- The kernel's row-block number at a grid point, as a word: the points run through the blocks from the last. -/
def blkW (i : grid0.Coords) : BitVec 32 := Scalar.subi 15#32 (BitVec.ofNat 32 (i 0).val)

/-- The index tile of eight rows the scan's masks are read from. -/
def rowIdx : IVec S8x1024 32 := iota .tc S8x1024 32 [0] iota_S8x1024_d0_w32

/-- The states one step before each row: row `r` holds row `r - 1` of the block, row 0 the last row of the halo
    block (zero in the block that starts the sequence). -/
def hprevV (i : grid0.Coords) (x3 : Vec F S256x1024 .bf16) (x4 : Vec F S16x1024 .bf16) : Vec F S256x1024 .f32 :=
  fun j => if h : (j 0).val = 0 then k0_pay13 i x4 (ix2 (7 : Fin 8) (j 1 : Fin 1024))
    else k0_pay14 x3 (ix2 (⟨(j 0).val - 1, by have : (j 0).val < 256 := (j 0).isLt; omega⟩ : Fin 256) (j 1 : Fin 1024))

/-- The logarithms of the decays. -/
def laV (x1 : Vec F S256x1024 .f32) (x6 : Vec F S1x1024 .f32) : FVec F S256x1024 .f32 := k0_pay21 (k0_pay16 x1) x6
/-- The decays. -/
def aV (x1 : Vec F S256x1024 .f32) (x6 : Vec F S1x1024 .f32) : FVec F S256x1024 .f32 := k0_pay22 (k0_pay16 x1) x6

/-- The decays one step after each row: row `r` holds row `r + 1`, the last row what the block after handed on. -/
def cV (x1 : Vec F S256x1024 .f32) (x6 : Vec F S1x1024 .f32) (A : Vec F S8x1024 .f32) : Vec F S256x1024 .f32 :=
  fun j => if h : (j 0).val + 1 < 256 then k0_pay23 (k0_pay16 x1) x6 (ix2 (⟨(j 0).val + 1, h⟩ : Fin 256) (j 1 : Fin 1024))
    else k0_pay24 A (ix2 (0 : Fin 8) (j 1 : Fin 1024))

/-- Rows `8 g … 8 g + 7` of a tile. -/
def grp (g : ℕ) (X : Vec F S256x1024 .f32) : Vec F S8x1024 .f32 :=
  fun j => X (ix2 (⟨(8 * g + (j 0).val) % 256, Nat.mod_lt _ (by decide)⟩ : Fin 256) (j 1 : Fin 1024))

/-- One group of eight rows of the scan, from the row handed on by the group after. -/
def outG (aa bb acc : Vec F S8x1024 .f32) : FVec F S8x1024 .f32 := k0_pay27 acc (k0_pay8 rowIdx aa bb) (k0_pay9 rowIdx aa)
/-- What that group hands on: its first row, in every row. -/
def edgeG (aa bb acc : Vec F S8x1024 .f32) : FVec F S8x1024 .f32 := k0_pay28 acc (k0_pay8 rowIdx aa bb) (k0_pay9 rowIdx aa)

/-- What the scan carries before its trip `k`: the groups run from the last. -/
def car (C D : Vec F S256x1024 .f32) (L : Vec F S8x1024 .f32) : ℕ → Vec F S8x1024 .f32
  | 0 => L
  | k + 1 => edgeG (grp (31 - k) C) (grp (31 - k) D) (car C D L k)

/-- The scanned tile. -/
def lamOf (C D : Vec F S256x1024 .f32) (L : Vec F S8x1024 .f32) : Vec F S256x1024 .f32 :=
  fun j => outG (grp ((j 0).val / 8) C) (grp ((j 0).val / 8) D) (car C D L (31 - (j 0).val / 8))
    (ix2 (⟨(j 0).val % 8, Nat.mod_lt _ (by decide)⟩ : Fin 8) (j 1 : Fin 1024))

section Point

variable (i : grid0.Coords) (x0 : Vec F S256x1024 .bf16) (x1 x2 : Vec F S256x1024 .f32) (x3 : Vec F S256x1024 .bf16)
  (x4 : Vec F S16x1024 .bf16) (x5 : Vec F S256x1024 .f32) (x6 : Vec F S1x1024 .f32) (x7 : Vec F S2x4x256x256 .bf16)
  (R L A : Vec F S8x1024 .f32)

/-- The gradient of the states: the scan of the cotangents along the shifted decays. -/
def lamV : Vec F S256x1024 .f32 := lamOf (k0_pay25 (cV x1 x6 A)) (k0_pay15 x0) L

/-- The input scale `sqrt (1 - a²)`, 1 at the sequence's start. -/
def multV : FVec F S256x1024 .f32 :=
  k0_pay37 (k0_pay31 (blkW i)) (k0_pay32 (laV x1 x6)) (k0_pay33 (laV x1 x6)) (k0_pay34 (laV x1 x6))
    (k0_pay35 (laV x1 x6)) (k0_pay36 (laV x1 x6)) (Scalar.ofBits .f32 0x3F000000#32)

/-- The gradient of the recurrence gate before its sigmoid. -/
def dg1V : FVec F S256x1024 .f32 :=
  k0_pay39 (hprevV i x3 x4) (k0_pay16 x1) (k0_pay17 x2) (k0_pay18 x5) (k0_pay20 x6) (aV x1 x6) (lamV x0 x1 x6 L A)
    (k0_pay31 (blkW i)) (k0_pay32 (laV x1 x6)) (k0_pay33 (laV x1 x6)) (k0_pay34 (laV x1 x6)) (k0_pay35 (laV x1 x6))
    (k0_pay36 (laV x1 x6)) (Scalar.ofBits .f32 0x3F000000#32)

/-- The gradient of the input gate before its sigmoid. -/
def dg0V : FVec F S256x1024 .f32 :=
  k0_pay40 (k0_pay17 x2) (k0_pay18 x5) (lamV x0 x1 x6 L A)
    (k0_pay31 (blkW i)) (k0_pay32 (laV x1 x6)) (k0_pay33 (laV x1 x6)) (k0_pay34 (laV x1 x6)) (k0_pay35 (laV x1 x6))
    (k0_pay36 (laV x1 x6)) (Scalar.ofBits .f32 0x3F000000#32)

/-- The column sums of the softplus' gradient before its sign and sigmoid factor. -/
def dspV : FVec F S1x1024 .f32 :=
  k0_pay41 (hprevV i x3 x4) (k0_pay16 x1) (k0_pay17 x2) (k0_pay18 x5) (aV x1 x6) (lamV x0 x1 x6 L A)
    (k0_pay31 (blkW i)) (k0_pay32 (laV x1 x6)) (k0_pay33 (laV x1 x6)) (k0_pay34 (laV x1 x6)) (k0_pay35 (laV x1 x6))
    (k0_pay36 (laV x1 x6)) (Scalar.ofBits .f32 0x3F000000#32)

/-- One head's weight block of one gate. -/
def wB (p : Fin 2) (h : Fin 4) : Vec F S1x1x256x256 .bf16 :=
  fun j => x7 (ix4 p h (j 2 : Fin 256) (j 3 : Fin 256))

/-- Row `r` of an array of eight rows. -/
def rowOf (X : Vec F S8x1024 .f32) (r : Fin 8) : Vec F S1x1024 .f32 := fun j => X (ix2 r (j 1 : Fin 1024))

/-- The block of the gates' gradient: the input gate's, then the recurrence gate's. -/
def dgB : Vec F S2x256x1024 .bf16 :=
  fun j => if (j 0).val = 0 then k0_pay47 (dg0V i x0 x1 x2 x5 x6 L A) (ix3 (0 : Fin 1) (j 1 : Fin 256) (j 2 : Fin 1024))
    else k0_pay48 (k0_pay46 (dg1V i x0 x1 x2 x3 x4 x5 x6 L A)) (ix3 (0 : Fin 1) (j 1 : Fin 256) (j 2 : Fin 1024))

/-- The four heads' products, ready for the last payloads: the gates' gradients narrowed, then per head. -/
def heads {α : Type} (f : FVec F S256x1024 .bf16 → FVec F S256x1024 .bf16 → FVec F S256x256 .f32 → FVec F S256x256 .f32 →
    FVec F S256x256 .f32 → FVec F S256x256 .bf16 → FVec F S256x256 .bf16 → FVec F S256x256 .f32 →
    Vec F S1x1x256x256 .bf16 → Vec F S1x1x256x256 .bf16 → α) : α :=
  f (k0_pay45 (dg0V i x0 x1 x2 x5 x6 L A)) (k0_pay46 (dg1V i x0 x1 x2 x3 x4 x5 x6 L A))
    (k0_pay49 (k0_pay45 (dg0V i x0 x1 x2 x5 x6 L A)) (k0_pay46 (dg1V i x0 x1 x2 x3 x4 x5 x6 L A)) (wB x7 0 0) (wB x7 1 0))
    (k0_pay50 (k0_pay45 (dg0V i x0 x1 x2 x5 x6 L A)) (k0_pay46 (dg1V i x0 x1 x2 x3 x4 x5 x6 L A)) (wB x7 0 1) (wB x7 1 1))
    (k0_pay51 (k0_pay45 (dg0V i x0 x1 x2 x5 x6 L A)) (wB x7 0 2))
    (k0_pay52 (k0_pay46 (dg1V i x0 x1 x2 x3 x4 x5 x6 L A))) (k0_pay53 (wB x7 1 2))
    (constant S256x256 .f32 0x00000000#32) (wB x7 0 3) (wB x7 1 3)

/-- The block of the gradient of the convolution's output. -/
def dxcB : FVec F S256x1024 .f32 :=
  heads i x0 x1 x2 x3 x4 x5 x6 x7 L A (k0_pay1 (k0_pay17 x2) (lamV x0 x1 x6 L A) (multV i x1 x6))

/-- The four rows of column sums after this point, over what they were before it. -/
def redB : Vec F S8x1024 .f32 :=
  fun j => if (j 0).val = 0 then k0_pay42 (dg0V i x0 x1 x2 x5 x6 L A) (rowOf R 0) (ix2 (0 : Fin 1) (j 1 : Fin 1024))
    else if (j 0).val = 1 then k0_pay43 (dg1V i x0 x1 x2 x3 x4 x5 x6 L A) (rowOf R 1) (ix2 (0 : Fin 1) (j 1 : Fin 1024))
    else if (j 0).val = 2 then k0_pay44 (k0_pay19 x6) (dspV i x0 x1 x2 x3 x4 x5 x6 L A) (rowOf R 2) (ix2 (0 : Fin 1) (j 1 : Fin 1024))
    else if (j 0).val = 3 then
      heads i x0 x1 x2 x3 x4 x5 x6 x7 L A (k0_pay2 (k0_pay17 x2) (lamV x0 x1 x6 L A) (multV i x1 x6)) (rowOf R 3)
        (ix2 (0 : Fin 1) (j 1 : Fin 1024))
    else R j

/-- The row of the states' gradient handed to the next point. -/
def lamC : FVec F S8x1024 .f32 := k0_pay29 (car (k0_pay25 (cV x1 x6 A)) (k0_pay15 x0) L 32)
/-- The row of decays handed to the next point. -/
def aC : FVec F S8x1024 .f32 := k0_pay30 (aV x1 x6)

end Point

end Cert.KernelIdeal.Rec

end
-- ==== Proof.Rec.Loop.lean ====
/- The backward kernel's loop over the groups of eight rows, from the last group to the first: what it carries and
   what it leaves in the scanned tile after each trip, as the functions of the module on one grid point. -/
module

public import proofs.«01_k».proof.Proof.Rec.Block

@[expose] public section

set_option maxRecDepth 16384

noncomputable section

namespace Cert.KernelIdeal.Rec

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The loop runs 32 trips. -/
theorem trips_eq : k0_t1_loop.trips = 32 := by decide +kernel

/-- A load of eight whole rows of the tile at row `8 g` reads that group of rows. -/
theorem readAt_grp {κ : Kind} {sp : Space} {sg : RefSig} (v : View sg κ sp S256x1024 .f32) (f : v.ty.Contents (Elt F))
    (off : Fin 2 → ℕ) (inb : ∀ a, off a + S8x1024.size a ≤ S256x1024.size a) (g : ℕ) (hg : g < 32)
    (hoff : off = ![8 * g, 0]) :
    View.readAt (Elt F) v (Rect.unit (s := S256x1024) off S8x1024.size inb).toLoadRect f = grp g (v.read (Elt F) f) := by
  subst hoff
  funext j
  refine congrArg (v.read (Elt F) f) (funext fun a => Fin.ext ?_)
  have h0 : (j 0).val < 8 := (j 0).isLt
  match a with
  | 0 => show 8 * g + 1 * (j 0).val = (8 * g + (j 0).val) % 256; omega
  | 1 => show 0 + 1 * (j 1).val = (j 1).val; omega

section Loop

variable (𝒱 : Variants) (c : Dev nD) (bd : Option 𝒱.V) (i : grid0.Coords)
  (arg1 : Memref sig .tc .vmem S256x1024 .bf16)
  (harg1 : arg1.IsWhole)
  (arg2 : Memref sig .tc .vmem S256x1024 .f32)
  (harg2 : arg2.IsWhole)
  (arg3 : Memref sig .tc .vmem S256x1024 .f32)
  (harg3 : arg3.IsWhole)
  (arg4 : Memref sig .tc .vmem S256x1024 .bf16)
  (harg4 : arg4.IsWhole)
  (arg5 : Memref sig .tc .vmem S16x1024 .bf16)
  (harg5 : arg5.IsWhole)
  (arg6 : Memref sig .tc .vmem S256x1024 .f32)
  (harg6 : arg6.IsWhole)
  (arg7 : Memref sig .tc .vmem S1x1024 .f32)
  (harg7 : arg7.IsWhole)
  (arg8 : Memref sig .tc .vmem S2x4x256x256 .bf16)
  (harg8 : arg8.IsWhole)
  (arg9 : Memref sig .tc .vmem S2x256x1024 .bf16)
  (harg9 : arg9.IsWhole)
  (arg10 : Memref sig .tc .vmem S256x1024 .f32)
  (harg10 : arg10.IsWhole)
  (arg11 : Memref sig .tc .vmem S8x1024 .f32)
  (harg11 : arg11.IsWhole)
  (arg12 : Memref sig .tc .vmem S264x1024 .f32)
  (harg12 : arg12.IsWhole)
  (arg13 : Memref sig .tc .vmem S264x1024 .f32)
  (harg13 : arg13.IsWhole)
  (arg14 : Memref sig .tc .vmem S256x1024 .f32)
  (harg14 : arg14.IsWhole)
  (arg15 : Memref sig .tc .vmem S256x1024 .f32)
  (harg15 : arg15.IsWhole)
  (arg16 : Memref sig .tc .vmem S8x1024 .f32)
  (harg16 : arg16.IsWhole)
  (arg17 : Memref sig .tc .vmem S8x1024 .f32)
  (harg17 : arg17.IsWhole)
  (v0 : BitVec 32) (v61 v62 : FVec F S256x1024 .f32)
  (X : BufTy.Contents (Elt F) arg14.view.ty) (G : BufTy.Contents (Elt F) arg15.view.ty) (L : Vec F S8x1024 .f32)

/-- A trip's result, from the two groups of rows it loads and the value it carries. -/
theorem tripR_eq (k : Fin k0_t1_loop.trips) (acc : Vec F S8x1024 .f32) (f : BufTy.Contents (Elt F) arg15.view.ty) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v61 v62 rowIdx X k acc f
      = edgeG (View.readAt (Elt F) arg14.view (Rect.unit (s := S256x1024) (k0_off1 k) S8x1024.size (k0_off1_inb k)).toLoadRect X)
          (View.readAt (Elt F) arg15.view (Rect.unit (s := S256x1024) (k0_off1 k) S8x1024.size (k0_off1_inb k)).toLoadRect f) acc := by
  unfold tripR_k0_t1 trip_k0_t1
  rfl

/-- A trip's one store. -/
theorem tripL_eq (k : Fin k0_t1_loop.trips) (acc : Vec F S8x1024 .f32) (f : BufTy.Contents (Elt F) arg15.view.ty) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v61 v62 rowIdx X k acc f
      = [⟨Rect.unit (s := S256x1024) (k0_off1 k) S8x1024.size (k0_off1_inb k),
          outG (View.readAt (Elt F) arg14.view (Rect.unit (s := S256x1024) (k0_off1 k) S8x1024.size (k0_off1_inb k)).toLoadRect X)
          (View.readAt (Elt F) arg15.view (Rect.unit (s := S256x1024) (k0_off1 k) S8x1024.size (k0_off1_inb k)).toLoadRect f) acc⟩] := by
  unfold tripL_k0_t1 trip_k0_t1
  rfl

/-- Before trip `k` the loop carries `car k`, and the scanned tile holds the scan in the groups already visited and
    what it held at the loop's entry in the others. -/
theorem st_eq (C D : Vec F S256x1024 .f32) (hX : arg14.view.read (Elt F) X = C) (hG : arg15.view.read (Elt F) G = D)
    (k : ℕ) (hk : k ≤ 32) :
    (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v61 v62 rowIdx X G L k).1 = car C D L k
    ∧ ∀ j : S256x1024.Idx, arg15.view.read (Elt F) (arg15.view.writes (Elt F) G (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v61 v62 rowIdx X G L k).2) j
        = if 32 - k ≤ (j 0).val / 8 then lamOf C D L j else D j := by
  induction k with
  | zero =>
    refine ⟨rfl, fun j => ?_⟩
    have h0 : (j 0).val < 256 := (j 0).isLt
    rw [if_neg (by omega)]
    exact congrFun hG j
  | succ k ih =>
    obtain ⟨ih1, ih2⟩ := ih (by omega)
    have hkt : k < k0_t1_loop.trips := by rw [trips_eq]; omega
    have e := st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v61 v62 rowIdx X G L ⟨k, hkt⟩
    have hoff : k0_off1 ⟨k, hkt⟩ = ![8 * (31 - k), 0] := by
      rw [k0_off1_eq]; congr 1; show 248 - 8 * k = _; omega
    have hc : View.readAt (Elt F) arg14.view (Rect.unit (s := S256x1024) (k0_off1 ⟨k, hkt⟩) S8x1024.size (k0_off1_inb ⟨k, hkt⟩)).toLoadRect X = grp (31 - k) C := by
      rw [readAt_grp _ _ _ _ (31 - k) (by omega) hoff, hX]
    have hd : View.readAt (Elt F) arg15.view (Rect.unit (s := S256x1024) (k0_off1 ⟨k, hkt⟩) S8x1024.size (k0_off1_inb ⟨k, hkt⟩)).toLoadRect
        (arg15.view.writes (Elt F) G (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v61 v62 rowIdx X G L k).2) = grp (31 - k) D := by
      rw [readAt_grp _ _ _ _ (31 - k) (by omega) hoff]
      funext j
      have h0 : (j 0).val < 8 := (j 0).isLt
      unfold grp
      rw [ih2, if_neg (by show ¬ (32 - k ≤ (8 * (31 - k) + (j 0).val) % 256 / 8); omega)]
    rw [tripR_eq, tripL_eq, hc, hd, ih1] at e
    rw [show st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v61 v62 rowIdx X G L (k + 1) = _ from e]
    refine ⟨rfl, fun j => ?_⟩
    have h0 : (j 0).val < 256 := (j 0).isLt
    dsimp only [List.cons_append, List.nil_append]
    by_cases hj : (j 0).val / 8 = 31 - k
    · rw [View.read_writes_cons_rows_of_mem arg15.view G (k0_off1_inb ⟨k, hkt⟩) _ _ j
        (ix2 (⟨(j 0).val % 8, Nat.mod_lt _ (by decide)⟩ : Fin 8) (j 1 : Fin 1024)) hoff
        (by show (j 0).val = 8 * (31 - k) + (j 0).val % 8; omega) rfl, if_pos (by omega)]
      unfold lamOf
      rw [hj, show 31 - (31 - k) = k by omega]
    · rw [View.read_writes_cons_rows_of_not_mem arg15.view G (k0_off1_inb ⟨k, hkt⟩) _ _ j hoff (W := 8) rfl (by omega), ih2]
      by_cases hh : 32 - k ≤ (j 0).val / 8
      · rw [if_pos hh, if_pos (by omega)]
      · rw [if_neg hh, if_neg (by omega)]

end Loop

end Cert.KernelIdeal.Rec

end
-- ==== Proof.Rec.Reads.lean ====
/- What the backward kernel's loads read: a whole block held at known contents, the two scratch tiles written in two
   pieces and read one row off, and what the result rows hold after their stores. -/
module

public import proofs.«01_k».proof.Proof.Rec.Loop

@[expose] public section

set_option maxRecDepth 16384

noncomputable section

namespace Cert.KernelIdeal.Rec

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The grid point is the first one: the condition of the body's one conditional. -/
abbrev cond0 (i : grid0.Coords) : Prop := (Scalar.cmpi .ne (Scalar.extui (Scalar.cmpi .eq (BitVec.ofNat 32 (i 0).val) 0#32)) 0#32) = 1#1

section Reads

variable {sg : RefSig} {κ : Kind} {sp : Space}

/-- A load of all of a rank-two block that holds `X` reads `X`. -/
theorem read2 {d0 d1 : ℕ} {e : EltTy} {m : Memref sg κ sp (⟨2, ![d0, d1]⟩ : Shape) e} (h : m.IsWhole)
    (X : Vec F (⟨2, ![d0, d1]⟩ : Shape) e)
    (inb : ∀ a, (![0, 0] : Fin 2 → ℕ) a + (⟨2, ![d0, d1]⟩ : Shape).size a ≤ (⟨2, ![d0, d1]⟩ : Shape).size a) :
    View.readAt (Elt F) m.view (Rect.unit (s := (⟨2, ![d0, d1]⟩ : Shape)) ![0, 0] (⟨2, ![d0, d1]⟩ : Shape).size inb).toLoadRect (h.unread X) = X := by
  funext j
  rw [h.readAt_unread]
  refine congrArg X (funext fun a => Fin.ext ?_)
  match a with
  | 0 => show 0 + 1 * (j 0).val = (j 0).val; omega
  | 1 => show 0 + 1 * (j 1).val = (j 1).val; omega

/-- A load of row `r` of an eight-row block that holds `X` reads that row. -/
theorem readRow {m : Memref sg κ sp S8x1024 .f32} (h : m.IsWhole) (X : Vec F S8x1024 .f32) (r : ℕ) (hr : r < 8)
    (inb : ∀ a, (![r, 0] : Fin 2 → ℕ) a + (![1, 1024] : Fin 2 → ℕ) a ≤ S8x1024.size a) :
    View.readAt (Elt F) m.view (Rect.unit (s := S8x1024) ![r, 0] ![1, 1024] inb).toLoadRect (h.unread X) = rowOf X ⟨r, hr⟩ := by
  funext j
  rw [h.readAt_unread]
  refine congrArg X (funext fun a => Fin.ext ?_)
  have h0 : (j 0).val < 1 := (j 0).isLt
  match a with
  | 0 => show r + 1 * (j 0).val = r; omega
  | 1 => show 0 + 1 * (j 1).val = (j 1).val; omega

/-- A load of one head's weight block of one gate. -/
theorem readHead {m : Memref sg κ sp S2x4x256x256 .bf16} (h : m.IsWhole) (X : Vec F S2x4x256x256 .bf16) (p q : ℕ) (hp : p < 2)
    (hq : q < 4) (inb : ∀ a, (![p, q, 0, 0] : Fin 4 → ℕ) a + (![1, 1, 256, 256] : Fin 4 → ℕ) a ≤ S2x4x256x256.size a) :
    View.readAt (Elt F) m.view (Rect.unit (s := S2x4x256x256) ![p, q, 0, 0] ![1, 1, 256, 256] inb).toLoadRect (h.unread X)
      = wB X ⟨p, hp⟩ ⟨q, hq⟩ := by
  funext j
  rw [h.readAt_unread]
  refine congrArg X (funext fun a => Fin.ext ?_)
  have h0 : (j 0).val < 1 := (j 0).isLt
  have h1 : (j 1).val < 1 := (j 1).isLt
  match a with
  | 0 => show p + 1 * (j 0).val = p; omega
  | 1 => show q + 1 * (j 1).val = q; omega
  | 2 => show 0 + 1 * (j 2).val = (j 2).val; omega
  | 3 => show 0 + 1 * (j 3).val = (j 3).val; omega

set_option backward.isDefEq.respectTransparency.types false in
/-- The states' scratch, written as eight halo rows and then the block's rows, read from row 7: each row's
    predecessor. -/
theorem read_ext (v : View sg κ sp S264x1024 .f32) (i : grid0.Coords) (x3 : Vec F S256x1024 .bf16) (x4 : Vec F S16x1024 .bf16) :
    v.readCov (Val := Elt F) [⟨Rect.unit ![8, 0] S256x1024.size inb_S264x1024_S256x1024_8_0, k0_pay14 x3⟩,
      ⟨Rect.unit ![0, 0] S8x1024.size inb_S264x1024_S8x1024_0_0, k0_pay13 i x4⟩]
      (Rect.unit (s := S264x1024) ![7, 0] S256x1024.size inb_S264x1024_S256x1024_7_0).toLoadRect = hprevV i x3 x4 := by
  funext j
  have h0 : (j 0).val < 256 := (j 0).isLt
  have hi0 : ((Rect.unit (s := S264x1024) ![7, 0] S256x1024.size inb_S264x1024_S256x1024_7_0).toLoadRect.idx j 0).val = 7 + (j 0).val := by
    show 7 + 1 * (j 0).val = _; omega
  have hi1 : ((Rect.unit (s := S264x1024) ![7, 0] S256x1024.size inb_S264x1024_S256x1024_7_0).toLoadRect.idx j 1).val = (j 1).val := by
    show 0 + 1 * (j 1).val = _; omega
  show v.read (Elt F) _ ((Rect.unit (s := S264x1024) ![7, 0] S256x1024.size inb_S264x1024_S256x1024_7_0).toLoadRect.idx j) = _
  unfold hprevV
  by_cases h : (j 0).val = 0
  · rw [dif_pos h]
    refine (View.read_writes_cons_rows_of_not_mem v _ _ _ _ _ (o := 8) (W := 256) rfl rfl (.inl (by rw [hi0]; omega))).trans ?_
    exact View.read_writes_cons_rows_of_mem v _ _ _ _ _ (o := 0) (ix2 (7 : Fin 8) (j 1 : Fin 1024)) rfl
      (hi0.trans (by rw [h]; rfl)) hi1
  · rw [dif_neg h]
    exact View.read_writes_cons_rows_of_mem v _ _ _ _ _ (o := 8) (ix2 (⟨(j 0).val - 1, by omega⟩ : Fin 256) (j 1 : Fin 1024)) rfl
      (hi0.trans (by show _ = 8 + ((j 0).val - 1); omega)) hi1

/-- The decays' scratch, written as the block's rows and then the eight rows handed on, read from row 1: each row's
    successor. -/
theorem read_exta (v : View sg κ sp S264x1024 .f32) (x1 : Vec F S256x1024 .f32) (x6 : Vec F S1x1024 .f32) (A : Vec F S8x1024 .f32) :
    v.readCov (Val := Elt F) [⟨Rect.unit ![256, 0] S8x1024.size inb_S264x1024_S8x1024_256_0, k0_pay24 A⟩,
      ⟨Rect.unit ![0, 0] S256x1024.size inb_S264x1024_S256x1024_0_0, k0_pay23 (k0_pay16 x1) x6⟩]
      (Rect.unit (s := S264x1024) ![1, 0] S256x1024.size inb_S264x1024_S256x1024_1_0).toLoadRect = cV x1 x6 A := by
  funext j
  have h0 : (j 0).val < 256 := (j 0).isLt
  have hi0 : ((Rect.unit (s := S264x1024) ![1, 0] S256x1024.size inb_S264x1024_S256x1024_1_0).toLoadRect.idx j 0).val = 1 + (j 0).val := by
    show 1 + 1 * (j 0).val = _; omega
  have hi1 : ((Rect.unit (s := S264x1024) ![1, 0] S256x1024.size inb_S264x1024_S256x1024_1_0).toLoadRect.idx j 1).val = (j 1).val := by
    show 0 + 1 * (j 1).val = _; omega
  show v.read (Elt F) _ ((Rect.unit (s := S264x1024) ![1, 0] S256x1024.size inb_S264x1024_S256x1024_1_0).toLoadRect.idx j) = _
  unfold cV
  by_cases h : (j 0).val + 1 < 256
  · rw [dif_pos h]
    refine (View.read_writes_cons_rows_of_not_mem v _ _ _ _ _ (o := 256) (W := 8) rfl rfl (.inl (by rw [hi0]; omega))).trans ?_
    exact View.read_writes_cons_rows_of_mem v _ _ _ _ _ (o := 0) (ix2 (⟨(j 0).val + 1, h⟩ : Fin 256) (j 1 : Fin 1024)) rfl
      (hi0.trans (by show _ = 0 + ((j 0).val + 1); omega)) hi1
  · rw [dif_neg h]
    exact View.read_writes_cons_rows_of_mem v _ _ _ _ _ (o := 256) (ix2 (0 : Fin 8) (j 1 : Fin 1024)) rfl
      (hi0.trans (by show _ = 256 + 0; omega)) hi1

/-- One store of a whole rank-two block leaves its payload. -/
theorem read_one {d0 d1 : ℕ} {e : EltTy} (v : View sg κ sp (⟨2, ![d0, d1]⟩ : Shape) e) (f : v.ty.Contents (Elt F))
    (X : Vec F (⟨2, ![d0, d1]⟩ : Shape) e) (L : List (View.Piece (Elt F) (⟨2, ![d0, d1]⟩ : Shape) e))
    (inb : ∀ a, (![0, 0] : Fin 2 → ℕ) a + (⟨2, ![d0, d1]⟩ : Shape).size a ≤ (⟨2, ![d0, d1]⟩ : Shape).size a) :
    v.read (Elt F) (v.writes (Elt F) f (⟨Rect.unit (s := (⟨2, ![d0, d1]⟩ : Shape)) ![0, 0] (⟨2, ![d0, d1]⟩ : Shape).size inb, X⟩ :: L)) = X := by
  funext j
  exact View.read_writes_cons_rows_of_mem _ _ _ _ _ _ j rfl (by omega) rfl

set_option backward.isDefEq.respectTransparency.types false in
/-- The gates' block after its two stores. -/
theorem read_dg (v : View sg κ sp S2x256x1024 .bf16) (f : v.ty.Contents (Elt F)) (P Q : FVec F S1x256x1024 .bf16) :
    v.read (Elt F) (v.writes (Elt F) f [⟨Rect.unit ![1, 0, 0] S1x256x1024.size inb_S2x256x1024_S1x256x1024_1_0_0, Q⟩,
      ⟨Rect.unit ![0, 0, 0] S1x256x1024.size inb_S2x256x1024_S1x256x1024_0_0_0, P⟩])
      = fun j : S2x256x1024.Idx => if (j 0).val = 0 then P (ix3 (0 : Fin 1) (j 1 : Fin 256) (j 2 : Fin 1024))
          else Q (ix3 (0 : Fin 1) (j 1 : Fin 256) (j 2 : Fin 1024)) := by
  funext j
  have h0 : (j 0).val < 2 := (j 0).isLt
  by_cases h : (j 0).val = 0
  · rw [if_pos h]
    refine (View.read_writes_cons_unit_of_not_mem v f _ _ _ j rfl 0 (.inl (by rw [h]; decide))).trans ?_
    exact View.read_writes_cons_unit_of_mem v f _ _ _ j (ix3 (0 : Fin 1) (j 1 : Fin 256) (j 2 : Fin 1024)) rfl (fun a => by
        match a with
        | 0 => show (j 0).val = 0 + 0; omega
        | 1 => show (j 1).val = 0 + (j 1).val; omega
        | 2 => show (j 2).val = 0 + (j 2).val; omega)
  · rw [if_neg h]
    exact View.read_writes_cons_unit_of_mem v f _ _ _ j (ix3 (0 : Fin 1) (j 1 : Fin 256) (j 2 : Fin 1024)) rfl (fun a => by
        match a with
        | 0 => show (j 0).val = 1 + 0; omega
        | 1 => show (j 1).val = 0 + (j 1).val; omega
        | 2 => show (j 2).val = 0 + (j 2).val; omega)

set_option backward.isDefEq.respectTransparency.types false in
/-- The four rows of sums after their four stores, over contents that read `X`. -/
theorem read_red (v : View sg κ sp S8x1024 .f32) (f : v.ty.Contents (Elt F)) (X : Vec F S8x1024 .f32) (hX : v.read (Elt F) f = X)
    (P Q S T : FVec F S1x1024 .f32) :
    v.read (Elt F) (v.writes (Elt F) f [⟨Rect.unit ![3, 0] ![1, 1024] inb_S8x1024_S1x1024_3_0, T⟩,
      ⟨Rect.unit ![2, 0] S1x1024.size inb_S8x1024_S1x1024_2_0, S⟩, ⟨Rect.unit ![1, 0] S1x1024.size inb_S8x1024_S1x1024_1_0, Q⟩,
      ⟨Rect.unit ![0, 0] S1x1024.size inb_S8x1024_S1x1024_0_0, P⟩])
      = fun j : S8x1024.Idx => if (j 0).val = 0 then P (ix2 (0 : Fin 1) (j 1 : Fin 1024))
          else if (j 0).val = 1 then Q (ix2 (0 : Fin 1) (j 1 : Fin 1024)) else if (j 0).val = 2 then S (ix2 (0 : Fin 1) (j 1 : Fin 1024))
          else if (j 0).val = 3 then T (ix2 (0 : Fin 1) (j 1 : Fin 1024)) else X j := by
  funext j
  by_cases h3 : (j 0).val = 3
  · rw [if_neg (show ¬ (j 0).val = 0 by omega), if_neg (show ¬ (j 0).val = 1 by omega), if_neg (show ¬ (j 0).val = 2 by omega), if_pos h3]
    exact View.read_writes_cons_unit_of_mem v f _ _ _ j (ix2 (0 : Fin 1) (j 1 : Fin 1024)) rfl (fun a => by
        match a with
        | 0 => show (j 0).val = 3 + 0; omega
        | 1 => show (j 1).val = 0 + (j 1).val; omega)
  refine (View.read_writes_cons_unit_of_not_mem v f _ _ _ j rfl 0 (by show (j 0).val < 3 ∨ 3 + 1 ≤ (j 0).val; omega)).trans ?_
  by_cases h2 : (j 0).val = 2
  · rw [if_neg (show ¬ (j 0).val = 0 by omega), if_neg (show ¬ (j 0).val = 1 by omega), if_pos h2]
    exact View.read_writes_cons_unit_of_mem v f _ _ _ j (ix2 (0 : Fin 1) (j 1 : Fin 1024)) rfl (fun a => by
        match a with
        | 0 => show (j 0).val = 2 + 0; omega
        | 1 => show (j 1).val = 0 + (j 1).val; omega)
  refine (View.read_writes_cons_unit_of_not_mem v f _ _ _ j rfl 0 (by show (j 0).val < 2 ∨ 2 + 1 ≤ (j 0).val; omega)).trans ?_
  by_cases h1 : (j 0).val = 1
  · rw [if_neg (show ¬ (j 0).val = 0 by omega), if_pos h1]
    exact View.read_writes_cons_unit_of_mem v f _ _ _ j (ix2 (0 : Fin 1) (j 1 : Fin 1024)) rfl (fun a => by
        match a with
        | 0 => show (j 0).val = 1 + 0; omega
        | 1 => show (j 1).val = 0 + (j 1).val; omega)
  refine (View.read_writes_cons_unit_of_not_mem v f _ _ _ j rfl 0 (by show (j 0).val < 1 ∨ 1 + 1 ≤ (j 0).val; omega)).trans ?_
  by_cases h0 : (j 0).val = 0
  · rw [if_pos h0]
    exact View.read_writes_cons_unit_of_mem v f _ _ _ j (ix2 (0 : Fin 1) (j 1 : Fin 1024)) rfl (fun a => by
        match a with
        | 0 => show (j 0).val = 0 + 0; omega
        | 1 => show (j 1).val = 0 + (j 1).val; omega)
  refine (View.read_writes_cons_unit_of_not_mem v f _ _ _ j rfl 0 (by show (j 0).val < 0 ∨ 0 + 1 ≤ (j 0).val; omega)).trans ?_
  rw [if_neg h0, if_neg h1, if_neg h2, if_neg h3]
  exact congrFun hX j

/-- A load of all of a block of 256 rows that holds `X` reads `X`. -/
theorem readW {e : EltTy} {m : Memref sg κ sp S256x1024 e} (h : m.IsWhole) (X : Vec F S256x1024 e)
    (inb : ∀ a, (![0, 0] : Fin 2 → ℕ) a + S256x1024.size a ≤ S256x1024.size a) :
    View.readAt (Elt F) m.view (Rect.unit (s := S256x1024) ![0, 0] S256x1024.size inb).toLoadRect (h.unread X) = X := read2 h X inb
/-- One store of all of a block of 256 rows leaves its payload. -/
theorem readW_one {e : EltTy} (v : View sg κ sp S256x1024 e) (f : v.ty.Contents (Elt F)) (X : Vec F S256x1024 e)
    (L : List (View.Piece (Elt F) S256x1024 e)) (inb : ∀ a, (![0, 0] : Fin 2 → ℕ) a + S256x1024.size a ≤ S256x1024.size a) :
    v.read (Elt F) (v.writes (Elt F) f (⟨Rect.unit (s := S256x1024) ![0, 0] S256x1024.size inb, X⟩ :: L)) = X := read_one v f X L inb
/-- A load of all of a block of 1 rows that holds `X` reads `X`. -/
theorem readW1 {e : EltTy} {m : Memref sg κ sp S1x1024 e} (h : m.IsWhole) (X : Vec F S1x1024 e)
    (inb : ∀ a, (![0, 0] : Fin 2 → ℕ) a + S1x1024.size a ≤ S1x1024.size a) :
    View.readAt (Elt F) m.view (Rect.unit (s := S1x1024) ![0, 0] S1x1024.size inb).toLoadRect (h.unread X) = X := read2 h X inb
/-- A load of all of a block of 16 rows that holds `X` reads `X`. -/
theorem readW16 {e : EltTy} {m : Memref sg κ sp S16x1024 e} (h : m.IsWhole) (X : Vec F S16x1024 e)
    (inb : ∀ a, (![0, 0] : Fin 2 → ℕ) a + S16x1024.size a ≤ S16x1024.size a) :
    View.readAt (Elt F) m.view (Rect.unit (s := S16x1024) ![0, 0] S16x1024.size inb).toLoadRect (h.unread X) = X := read2 h X inb
/-- A load of all of a block of 8 rows that holds `X` reads `X`. -/
theorem readW8 {e : EltTy} {m : Memref sg κ sp S8x1024 e} (h : m.IsWhole) (X : Vec F S8x1024 e)
    (inb : ∀ a, (![0, 0] : Fin 2 → ℕ) a + S8x1024.size a ≤ S8x1024.size a) :
    View.readAt (Elt F) m.view (Rect.unit (s := S8x1024) ![0, 0] S8x1024.size inb).toLoadRect (h.unread X) = X := read2 h X inb
/-- One store of all of a block of 8 rows leaves its payload. -/
theorem readW8_one {e : EltTy} (v : View sg κ sp S8x1024 e) (f : v.ty.Contents (Elt F)) (X : Vec F S8x1024 e)
    (L : List (View.Piece (Elt F) S8x1024 e)) (inb : ∀ a, (![0, 0] : Fin 2 → ℕ) a + S8x1024.size a ≤ S8x1024.size a) :
    v.read (Elt F) (v.writes (Elt F) f (⟨Rect.unit (s := S8x1024) ![0, 0] S8x1024.size inb, X⟩ :: L)) = X := read_one v f X L inb

/-- Row `r` of eight, read after a store of all of the block. -/
theorem readCov_row0 (v : View sg κ sp S8x1024 .f32) (X : Vec F S8x1024 .f32) :
    v.readCov (Val := Elt F) [⟨Rect.unit ![0, 0] S8x1024.size inb_S8x1024_S8x1024_0_0, X⟩]
      (Rect.unit (s := S8x1024) ![0, 0] S1x1024.size inb_S8x1024_S1x1024_0_0).toLoadRect = rowOf X 0 := by
  funext j
  have h0 : (j 0).val < 1 := (j 0).isLt
  refine (congrFun (readW8_one v _ X [] _) _).trans ?_
  refine congrArg X (funext fun a => Fin.ext ?_)
  match a with
  | 0 => show 0 + 1 * (j 0).val = 0; omega
  | 1 => show 0 + 1 * (j 1).val = (j 1).val; omega

set_option backward.isDefEq.respectTransparency.types false in
/-- Row 1, read after a store of all of the block and of row 0. -/
theorem readCov_row1 (v : View sg κ sp S8x1024 .f32) (X : Vec F S8x1024 .f32) (P : FVec F S1x1024 .f32) :
    v.readCov (Val := Elt F) [⟨Rect.unit ![0, 0] S1x1024.size inb_S8x1024_S1x1024_0_0, P⟩,
      ⟨Rect.unit ![0, 0] S8x1024.size inb_S8x1024_S8x1024_0_0, X⟩]
      (Rect.unit (s := S8x1024) ![1, 0] S1x1024.size inb_S8x1024_S1x1024_1_0).toLoadRect = rowOf X 1 := by
  funext j
  have h0 : (j 0).val < 1 := (j 0).isLt
  refine (View.read_writes_cons_unit_of_not_mem v _ _ _ _ _ rfl 0 (by show 1 + 1 * (j 0).val < 0 ∨ 0 + 1 ≤ 1 + 1 * (j 0).val; omega)).trans ?_
  refine (congrFun (readW8_one v _ X [] _) _).trans ?_
  refine congrArg X (funext fun a => Fin.ext ?_)
  match a with
  | 0 => show 1 + 1 * (j 0).val = 1; omega
  | 1 => show 0 + 1 * (j 1).val = (j 1).val; omega

set_option backward.isDefEq.respectTransparency.types false in
/-- Row 2, read after a store of all of the block and of rows 0 and 1. -/
theorem readCov_row2 (v : View sg κ sp S8x1024 .f32) (X : Vec F S8x1024 .f32) (P Q : FVec F S1x1024 .f32) :
    v.readCov (Val := Elt F) [⟨Rect.unit ![1, 0] S1x1024.size inb_S8x1024_S1x1024_1_0, Q⟩,
      ⟨Rect.unit ![0, 0] S1x1024.size inb_S8x1024_S1x1024_0_0, P⟩,
      ⟨Rect.unit ![0, 0] S8x1024.size inb_S8x1024_S8x1024_0_0, X⟩]
      (Rect.unit (s := S8x1024) ![2, 0] S1x1024.size inb_S8x1024_S1x1024_2_0).toLoadRect = rowOf X 2 := by
  funext j
  have h0 : (j 0).val < 1 := (j 0).isLt
  refine (View.read_writes_cons_unit_of_not_mem v _ _ _ _ _ rfl 0 (by show 2 + 1 * (j 0).val < 1 ∨ 1 + 1 ≤ 2 + 1 * (j 0).val; omega)).trans ?_
  refine (View.read_writes_cons_unit_of_not_mem v _ _ _ _ _ rfl 0 (by show 2 + 1 * (j 0).val < 0 ∨ 0 + 1 ≤ 2 + 1 * (j 0).val; omega)).trans ?_
  refine (congrFun (readW8_one v _ X [] _) _).trans ?_
  refine congrArg X (funext fun a => Fin.ext ?_)
  match a with
  | 0 => show 2 + 1 * (j 0).val = 2; omega
  | 1 => show 0 + 1 * (j 1).val = (j 1).val; omega

set_option backward.isDefEq.respectTransparency.types false in
/-- Row 3, read after a store of all of the block and of rows 0 to 2. -/
theorem readCov_row3 (v : View sg κ sp S8x1024 .f32) (X : Vec F S8x1024 .f32) (P Q S : FVec F S1x1024 .f32) :
    v.readCov (Val := Elt F) [⟨Rect.unit ![2, 0] S1x1024.size inb_S8x1024_S1x1024_2_0, S⟩,
      ⟨Rect.unit ![1, 0] S1x1024.size inb_S8x1024_S1x1024_1_0, Q⟩,
      ⟨Rect.unit ![0, 0] S1x1024.size inb_S8x1024_S1x1024_0_0, P⟩,
      ⟨Rect.unit ![0, 0] S8x1024.size inb_S8x1024_S8x1024_0_0, X⟩]
      (Rect.unit (s := S8x1024) ![3, 0] ![1, 1024] inb_S8x1024_S1x1024_3_0).toLoadRect = rowOf X 3 := by
  funext j
  have h0 : (j 0).val < 1 := (j 0).isLt
  refine (View.read_writes_cons_unit_of_not_mem v _ _ _ _ _ rfl 0 (by show 3 + 1 * (j 0).val < 2 ∨ 2 + 1 ≤ 3 + 1 * (j 0).val; omega)).trans ?_
  refine (View.read_writes_cons_unit_of_not_mem v _ _ _ _ _ rfl 0 (by show 3 + 1 * (j 0).val < 1 ∨ 1 + 1 ≤ 3 + 1 * (j 0).val; omega)).trans ?_
  refine (View.read_writes_cons_unit_of_not_mem v _ _ _ _ _ rfl 0 (by show 3 + 1 * (j 0).val < 0 ∨ 0 + 1 ≤ 3 + 1 * (j 0).val; omega)).trans ?_
  refine (congrFun (readW8_one v _ X [] _) _).trans ?_
  refine congrArg X (funext fun a => Fin.ext ?_)
  match a with
  | 0 => show 3 + 1 * (j 0).val = 3; omega
  | 1 => show 0 + 1 * (j 1).val = (j 1).val; omega

/-- All of a block of eight rows, read after a store of all of it. -/
theorem readCov_whole8 (v : View sg κ sp S8x1024 .f32) (X : Vec F S8x1024 .f32) (L : List (View.Piece (Elt F) S8x1024 .f32)) :
    v.readCov (Val := Elt F) (⟨Rect.unit ![0, 0] S8x1024.size inb_S8x1024_S8x1024_0_0, X⟩ :: L)
      (Rect.unit (s := S8x1024) ![0, 0] S8x1024.size inb_S8x1024_S8x1024_0_0).toLoadRect = X := by
  funext j
  refine (congrFun (readW8_one v _ X _ _) _).trans ?_
  refine congrArg X (funext fun a => Fin.ext ?_)
  match a with
  | 0 => show 0 + 1 * (j 0).val = (j 0).val; omega
  | 1 => show 0 + 1 * (j 1).val = (j 1).val; omega

end Reads

end Cert.KernelIdeal.Rec

end
-- ==== Proof.Rec.Scan.lean ====
/- The body's loop as a scan of a tile: what it hands on at its end and what the scanned tile then reads. -/
module

public import proofs.«01_k».proof.Proof.Rec.Reads

@[expose] public section

set_option maxRecDepth 16384

noncomputable section

namespace Cert.KernelIdeal.Rec

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the scan of a tile hands on at its end. -/
theorem car_end (c : Dev nD) (i : grid0.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x4x256x256 .bf16) (harg8 : arg8.IsWhole) (arg9 : Memref sig .tc .vmem S2x256x1024 .bf16) (harg9 : arg9.IsWhole) (arg10 : Memref sig .tc .vmem S256x1024 .f32) (harg10 : arg10.IsWhole) (arg11 : Memref sig .tc .vmem S8x1024 .f32) (harg11 : arg11.IsWhole) (arg12 : Memref sig .tc .vmem S264x1024 .f32) (harg12 : arg12.IsWhole) (arg13 : Memref sig .tc .vmem S264x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S8x1024 .f32) (harg16 : arg16.IsWhole) (arg17 : Memref sig .tc .vmem S8x1024 .f32) (harg17 : arg17.IsWhole) (v0 : BitVec 32) (v61 v62 : FVec F S256x1024 .f32)
    (C D : Vec F S256x1024 .f32) (L : Vec F S8x1024 .f32) :
    (st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v61 v62 rowIdx (arg14.view.writes (Elt F) arg14.view.junk [⟨Rect.unit ![0, 0] S256x1024.size inb_S256x1024_S256x1024_0_0, C⟩]) (arg15.view.writes (Elt F) arg15.view.junk [⟨Rect.unit ![0, 0] S256x1024.size inb_S256x1024_S256x1024_0_0, D⟩]) L (Scf.trips k0_t1_loop.lb k0_t1_loop.ub k0_t1_loop.st)).1 = car C D L 32 := by
  have e : Scf.trips k0_t1_loop.lb k0_t1_loop.ub k0_t1_loop.st = 32 := trips_eq
  rw [e]
  exact (st_eq _ _ _ _ _ _ _ _ _ _ _ _ _ _ _ _ _ _ _ _ _ _ _ _ _ _ _ _ _ _ _ _ _ _ _ _ _ _ _ _ _ _ _ _ _ _ (readW_one _ _ _ _ _) (readW_one _ _ _ _ _) 32 le_rfl).1

/-- What the scanned tile reads at the scan's end. -/
theorem lam_end (c : Dev nD) (i : grid0.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x4x256x256 .bf16) (harg8 : arg8.IsWhole) (arg9 : Memref sig .tc .vmem S2x256x1024 .bf16) (harg9 : arg9.IsWhole) (arg10 : Memref sig .tc .vmem S256x1024 .f32) (harg10 : arg10.IsWhole) (arg11 : Memref sig .tc .vmem S8x1024 .f32) (harg11 : arg11.IsWhole) (arg12 : Memref sig .tc .vmem S264x1024 .f32) (harg12 : arg12.IsWhole) (arg13 : Memref sig .tc .vmem S264x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S8x1024 .f32) (harg16 : arg16.IsWhole) (arg17 : Memref sig .tc .vmem S8x1024 .f32) (harg17 : arg17.IsWhole) (v0 : BitVec 32) (v61 v62 : FVec F S256x1024 .f32)
    (C D : Vec F S256x1024 .f32) (L : Vec F S8x1024 .f32) :
    arg15.view.readCov (Val := Elt F) ((st_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v61 v62 rowIdx (arg14.view.writes (Elt F) arg14.view.junk [⟨Rect.unit ![0, 0] S256x1024.size inb_S256x1024_S256x1024_0_0, C⟩]) (arg15.view.writes (Elt F) arg15.view.junk [⟨Rect.unit ![0, 0] S256x1024.size inb_S256x1024_S256x1024_0_0, D⟩]) L (Scf.trips k0_t1_loop.lb k0_t1_loop.ub k0_t1_loop.st)).2 ++ [⟨Rect.unit ![0, 0] S256x1024.size inb_S256x1024_S256x1024_0_0, D⟩])
      (Rect.unit (s := S256x1024) ![0, 0] S256x1024.size inb_S256x1024_S256x1024_0_0).toLoadRect = lamOf C D L := by
  have e : Scf.trips k0_t1_loop.lb k0_t1_loop.ub k0_t1_loop.st = 32 := trips_eq
  rw [e]
  funext j
  have h0 : (j 0).val < 256 := (j 0).isLt
  show arg15.view.read (Elt F) (arg15.view.writes (Elt F) _ (_ ++ _)) _ = _
  rw [View.writes_append]
  refine ((st_eq _ _ _ _ _ _ _ _ _ _ _ _ _ _ _ _ _ _ _ _ _ _ _ _ _ _ _ _ _ _ _ _ _ _ _ _ _ _ _ _ _ _ _ _ C D (readW_one _ _ _ _ _) (readW_one _ _ _ _ _) 32 le_rfl).2 _).trans ?_
  rw [if_pos (by omega)]
  refine congrArg (lamOf C D L) (funext fun a => Fin.ext ?_)
  match a with
  | 0 => show 0 + 1 * (j 0).val = (j 0).val; omega
  | 1 => show 0 + 1 * (j 1).val = (j 1).val; omega

end Cert.KernelIdeal.Rec

end
-- ==== Proof.Rec.First.lean ====
/- The body of the backward kernel at the first grid point: as at a later one, the sums and the two carried rows
   started at zero. -/
module

public import proofs.«01_k».proof.Proof.Rec.Scan

@[expose] public section

set_option maxRecDepth 16384

noncomputable section

namespace Cert.KernelIdeal.Rec

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at the first grid point. -/
theorem recA (c : Dev nD) (i : grid0.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x4x256x256 .bf16) (harg8 : arg8.IsWhole) (arg9 : Memref sig .tc .vmem S2x256x1024 .bf16) (harg9 : arg9.IsWhole) (arg10 : Memref sig .tc .vmem S256x1024 .f32) (harg10 : arg10.IsWhole) (arg11 : Memref sig .tc .vmem S8x1024 .f32) (harg11 : arg11.IsWhole) (arg12 : Memref sig .tc .vmem S264x1024 .f32) (harg12 : arg12.IsWhole) (arg13 : Memref sig .tc .vmem S264x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S8x1024 .f32) (harg16 : arg16.IsWhole) (arg17 : Memref sig .tc .vmem S8x1024 .f32) (harg17 : arg17.IsWhole) (hc0 : cond0 i)
    (x0 : Vec F S256x1024 .bf16) (x1 : Vec F S256x1024 .f32) (x2 : Vec F S256x1024 .f32) (x3 : Vec F S256x1024 .bf16) (x4 : Vec F S16x1024 .bf16) (x5 : Vec F S256x1024 .f32) (x6 : Vec F S1x1024 .f32) (x7 : Vec F S2x4x256x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
     ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (dgB i x0 x1 x2 x3 x4 x5 x6 k0_pay11 k0_pay12) ∗ owns (c : Thread nD τ) arg10 fullShare (dxcB i x0 x1 x2 x3 x4 x5 x6 x7 k0_pay11 k0_pay12) ∗ owns (c : Thread nD τ) arg11 fullShare (redB i x0 x1 x2 x3 x4 x5 x6 x7 k0_pay10 k0_pay11 k0_pay12) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (lamC x0 x1 x6 k0_pay11 k0_pay12) ∗ owns (c : Thread nD τ) arg17 fullShare (aC x1 x6)) -∗ K ⟨⟩))
   ⊢ wp frame (wpE (defs₀ (F := F)) Variants.none c none) E (cc0_mixb_rec i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mixb_rec_eq_skeleton]; unfold cc0_mixb_rec_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9_, -, H9⟩, ⟨%d10, %f10_, -, H10⟩, ⟨%d11, %f11_, -, H11⟩, ⟨%d12, %f12_, -, H12⟩, ⟨%d13, %f13_, -, H13⟩, ⟨%d14, %f14_, -, H14⟩, ⟨%d15, %f15_, -, H15⟩, ⟨%d16, %f16_, -, H16⟩, ⟨%d17, %f17_, -, H17⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0)
  sl_step
  have r0 : recA.sl.r c arg2 harg2 x1 = k0_pay16 x1 := by
    delta recA.sl.r; rw [readW]
  have r1 : recA.sl.r_1 c arg3 harg3 x2 = k0_pay17 x2 := by
    delta recA.sl.r_1; rw [readW]
  have r2 : recA.sl.r_2 c arg6 harg6 x5 = k0_pay18 x5 := by
    delta recA.sl.r_2; rw [readW]
  have r3 : recA.sl.r_3 c arg7 harg7 x6 = k0_pay19 x6 := by
    delta recA.sl.r_3; rw [readW1]
  have r4 : recA.sl.r_4 c arg7 harg7 x6 = k0_pay20 x6 := by
    delta recA.sl.r_4; rw [readW1]
  have r5 : recA.sl.r_5 c arg2 harg2 arg7 harg7 x1 x6 = laV x1 x6 := by
    delta recA.sl.r_5; rw [r0, readW1]; rfl
  have r6 : recA.sl.r_6 c arg2 harg2 arg7 harg7 x1 x6 = aV x1 x6 := by
    delta recA.sl.r_6; rw [r0, readW1]; rfl
  have v20 : recA.sl.v20 c i arg4 harg4 arg5 harg5 arg12 x3 x4 = hprevV i x3 x4 := by
    delta recA.sl.v20; delta recA.sl.H12_2; rw [readW, readW16]; exact read_ext _ _ _ _
  have v70 : recA.sl.v70 c arg2 harg2 arg7 harg7 arg13 arg17 x1 x6 = cV x1 x6 k0_pay12 := by
    delta recA.sl.v70; delta recA.sl.H13_2 recA.sl.v66; rw [r0, readW1, show arg17.view.readCov (recA.sl.H17_1 (F := F)) (Rect.unit (s := S8x1024) ![0, 0] S8x1024.size inb_S8x1024_S8x1024_0_0).toLoadRect = k0_pay12 from readCov_whole8 _ _ _]; exact read_exta _ _ _ _
  have v74 : recA.sl.v74 (F := F) c arg16 = k0_pay11 := by
    delta recA.sl.v74; exact readCov_whole8 _ _ _
  have v87 : recA.sl.v87 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x6 = lamV x0 x1 x6 k0_pay11 k0_pay12 := by
    delta recA.sl.v87; delta recA.sl.H14_1 recA.sl.H15_1; rw [v70, v74, readW]; exact lam_end _ _ _ _ _ _ _ _ _ _ _ _ _ _ _ _ _ _ _ _ _ _ _ _ _ _ _ _ _ _ _ _ _ _ _ _ _ _ _ _ _ _
  have v152 : recA.sl.v152 (F := F) c arg11 = rowOf k0_pay10 0 := by
    delta recA.sl.v152; exact readCov_row0 _ _
  have v158 : recA.sl.v158 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 = rowOf k0_pay10 1 := by
    delta recA.sl.v158; exact readCov_row1 _ _ _
  have v164 : recA.sl.v164 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = rowOf k0_pay10 2 := by
    delta recA.sl.v164; exact readCov_row2 _ _ _ _
  have v229 : recA.sl.v229 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = rowOf k0_pay10 3 := by
    delta recA.sl.v229; exact readCov_row3 _ _ _ _ _
  have r8 : recA.sl.r_8 c arg2 harg2 arg7 harg7 x1 x6 = k0_pay32 (laV x1 x6) := by
    delta recA.sl.r_8; rw [r5]
  have r9 : recA.sl.r_9 c arg2 harg2 arg7 harg7 x1 x6 = k0_pay33 (laV x1 x6) := by
    delta recA.sl.r_9; rw [r5]
  have r10 : recA.sl.r_10 c arg2 harg2 arg7 harg7 x1 x6 = k0_pay34 (laV x1 x6) := by
    delta recA.sl.r_10; rw [r5]
  have r11 : recA.sl.r_11 c arg2 harg2 arg7 harg7 x1 x6 = k0_pay35 (laV x1 x6) := by
    delta recA.sl.r_11; rw [r5]
  have r12 : recA.sl.r_12 c arg2 harg2 arg7 harg7 x1 x6 = k0_pay36 (laV x1 x6) := by
    delta recA.sl.r_12; rw [r5]
  have r13 : recA.sl.r_13 c i arg2 harg2 arg7 harg7 x1 x6 = multV i x1 x6 := by
    delta recA.sl.r_13; rw [r8, r9, r10, r11, r12]; rfl
  have r14 : recA.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = dg1V i x0 x1 x2 x3 x4 x5 x6 k0_pay11 k0_pay12 := by
    delta recA.sl.r_14; rw [v20, r0, r1, r2, r4, r6, v87, r8, r9, r10, r11, r12]; rfl
  have r15 : recA.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 = dg0V i x0 x1 x2 x5 x6 k0_pay11 k0_pay12 := by
    delta recA.sl.r_15; rw [r1, r2, v87, r8, r9, r10, r11, r12]; rfl
  have r16 : recA.sl.r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = dspV i x0 x1 x2 x3 x4 x5 x6 k0_pay11 k0_pay12 := by
    delta recA.sl.r_16; rw [v20, r0, r1, r2, r6, v87, r8, r9, r10, r11, r12]; rfl
  have r17 : recA.sl.r_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 = k0_pay45 (dg0V i x0 x1 x2 x5 x6 k0_pay11 k0_pay12) := by
    delta recA.sl.r_17; rw [r15]
  have r18 : recA.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = k0_pay46 (dg1V i x0 x1 x2 x3 x4 x5 x6 k0_pay11 k0_pay12) := by
    delta recA.sl.r_18; rw [r14]
  have r19 : recA.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 = k0_pay49 (k0_pay45 (dg0V i x0 x1 x2 x5 x6 k0_pay11 k0_pay12)) (k0_pay46 (dg1V i x0 x1 x2 x3 x4 x5 x6 k0_pay11 k0_pay12)) (wB x7 0 0) (wB x7 1 0) := by
    delta recA.sl.r_19; rw [r17, r18]; exact congrArg₂ (k0_pay49 _ _) (readHead _ _ 0 0 (by decide) (by decide) _) (readHead _ _ 1 0 (by decide) (by decide) _)
  have r20 : recA.sl.r_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 = k0_pay50 (k0_pay45 (dg0V i x0 x1 x2 x5 x6 k0_pay11 k0_pay12)) (k0_pay46 (dg1V i x0 x1 x2 x3 x4 x5 x6 k0_pay11 k0_pay12)) (wB x7 0 1) (wB x7 1 1) := by
    delta recA.sl.r_20; rw [r17, r18]; exact congrArg₂ (k0_pay50 _ _) (readHead _ _ 0 1 (by decide) (by decide) _) (readHead _ _ 1 1 (by decide) (by decide) _)
  have r21 : recA.sl.r_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 x7 = k0_pay51 (k0_pay45 (dg0V i x0 x1 x2 x5 x6 k0_pay11 k0_pay12)) (wB x7 0 2) := by
    delta recA.sl.r_21; rw [r17]; exact congrArg (k0_pay51 _) (readHead _ _ 0 2 (by decide) (by decide) _)
  have r22 : recA.sl.r_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 = k0_pay52 (k0_pay46 (dg1V i x0 x1 x2 x3 x4 x5 x6 k0_pay11 k0_pay12)) := by
    delta recA.sl.r_22; rw [r18]
  have r23 : recA.sl.r_23 c arg8 harg8 x7 = k0_pay53 (wB x7 1 2) := by
    delta recA.sl.r_23; exact congrArg k0_pay53 (readHead _ _ 1 2 (by decide) (by decide) _)
  have v216 : recA.sl.v216 c arg8 harg8 x7 = wB x7 0 3 := by
    delta recA.sl.v216; exact readHead _ _ 0 3 (by decide) (by decide) _
  have v220 : recA.sl.v220 c arg8 harg8 x7 = wB x7 1 3 := by
    delta recA.sl.v220; exact readHead _ _ 1 3 (by decide) (by decide) _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H9]
  · iexists _; isplitr; swap; · iexact H9
    ipureintro; rw [r18, r15]; exact (read_dg _ _ _ _).trans rfl
  isplitl [H10]
  · iexists _; isplitr; swap; · iexact H10
    ipureintro; rw [r1, v87, r13, r17, r18, r19, r20, r21, r22, r23, v216, v220]; exact (readW_one _ _ _ _ _).trans rfl
  isplitl [H11]
  · iexists _; isplitr; swap; · iexact H11
    ipureintro; delta recA.sl.H11_4 recA.sl.H11_3 recA.sl.H11_2 recA.sl.H11_1; rw [r1, v87, r13, r17, r18, r19, r20, r21, r22, r23, v216, v220, v229, v158, v164, v152, r3, r16, r14, r15]; exact (read_red _ (arg11.view.writes (Elt F) arg11.view.junk [⟨Rect.unit ![0, 0] S8x1024.size inb_S8x1024_S8x1024_0_0, k0_pay10⟩]) k0_pay10 (readW8_one _ _ _ _ _) _ _ _ _).trans rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _; isplitr; swap; · iexact H16
    ipureintro; delta recA.sl.H14_1 recA.sl.H15_1; rw [v70, readW, v74]; exact (readW8_one _ _ _ _ _).trans (congrArg k0_pay29 (car_end _ _ _ _ _ _ _ _ _ _ _ _ _ _ _ _ _ _ _ _ _ _ _ _ _ _ _ _ _ _ _ _ _ _ _ _ _ _ _ _ _ _))
  iexists _; isplitr; swap; · iexact H17
  ipureintro; rw [r6]; exact readW8_one _ _ _ _ _

end Cert.KernelIdeal.Rec

end
-- ==== Proof.Rec.Later.lean ====
/- The body of the backward kernel at a grid point after the first: on whole blocks it ends with the result blocks and
   the two carried rows at the functions of the module on one grid point, whatever the scratch tiles held. -/
module

public import proofs.«01_k».proof.Proof.Rec.Scan

@[expose] public section

set_option maxRecDepth 16384

noncomputable section

namespace Cert.KernelIdeal.Rec

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at a later grid point. -/
theorem recB (c : Dev nD) (i : grid0.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S256x1024 .bf16) (harg4 : arg4.IsWhole) (arg5 : Memref sig .tc .vmem S16x1024 .bf16) (harg5 : arg5.IsWhole) (arg6 : Memref sig .tc .vmem S256x1024 .f32) (harg6 : arg6.IsWhole) (arg7 : Memref sig .tc .vmem S1x1024 .f32) (harg7 : arg7.IsWhole) (arg8 : Memref sig .tc .vmem S2x4x256x256 .bf16) (harg8 : arg8.IsWhole) (arg9 : Memref sig .tc .vmem S2x256x1024 .bf16) (harg9 : arg9.IsWhole) (arg10 : Memref sig .tc .vmem S256x1024 .f32) (harg10 : arg10.IsWhole) (arg11 : Memref sig .tc .vmem S8x1024 .f32) (harg11 : arg11.IsWhole) (arg12 : Memref sig .tc .vmem S264x1024 .f32) (harg12 : arg12.IsWhole) (arg13 : Memref sig .tc .vmem S264x1024 .f32) (harg13 : arg13.IsWhole) (arg14 : Memref sig .tc .vmem S256x1024 .f32) (harg14 : arg14.IsWhole) (arg15 : Memref sig .tc .vmem S256x1024 .f32) (harg15 : arg15.IsWhole) (arg16 : Memref sig .tc .vmem S8x1024 .f32) (harg16 : arg16.IsWhole) (arg17 : Memref sig .tc .vmem S8x1024 .f32) (harg17 : arg17.IsWhole) (hc0 : ¬ cond0 i)
    (x0 : Vec F S256x1024 .bf16) (x1 : Vec F S256x1024 .f32) (x2 : Vec F S256x1024 .f32) (x3 : Vec F S256x1024 .bf16) (x4 : Vec F S16x1024 .bf16) (x5 : Vec F S256x1024 .f32) (x6 : Vec F S1x1024 .f32) (x7 : Vec F S2x4x256x256 .bf16) (R L A : Vec F S8x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ owns (c : Thread nD τ) arg11 fullShare R ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare L ∗ owns (c : Thread nD τ) arg17 fullShare A
     ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (dgB i x0 x1 x2 x3 x4 x5 x6 L A) ∗ owns (c : Thread nD τ) arg10 fullShare (dxcB i x0 x1 x2 x3 x4 x5 x6 x7 L A) ∗ owns (c : Thread nD τ) arg11 fullShare (redB i x0 x1 x2 x3 x4 x5 x6 x7 R L A) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare (lamC x0 x1 x6 L A) ∗ owns (c : Thread nD τ) arg17 fullShare (aC x1 x6)) -∗ K ⟨⟩))
   ⊢ wp frame (wpE (defs₀ (F := F)) Variants.none c none) E (cc0_mixb_rec i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mixb_rec_eq_skeleton]; unfold cc0_mixb_rec_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d9, %f9_, -, H9⟩, ⟨%d10, %f10_, -, H10⟩, ⟨%f11_, %hf11, H11⟩, ⟨%d12, %f12_, -, H12⟩, ⟨%d13, %f13_, -, H13⟩, ⟨%d14, %f14_, -, H14⟩, ⟨%d15, %f15_, -, H15⟩, ⟨%f16_, %hf16, H16⟩, ⟨%f17_, %hf17, H17⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg11.eq_unread hf11; obtain rfl := harg16.eq_unread hf16; obtain rfl := harg17.eq_unread hf17
  sl_exec (disch := first | sl_exact hc0)
  sl_step
  have r0 : recB.sl.r c arg2 harg2 x1 = k0_pay16 x1 := by
    delta recB.sl.r; rw [readW]
  have r1 : recB.sl.r_1 c arg3 harg3 x2 = k0_pay17 x2 := by
    delta recB.sl.r_1; rw [readW]
  have r2 : recB.sl.r_2 c arg6 harg6 x5 = k0_pay18 x5 := by
    delta recB.sl.r_2; rw [readW]
  have r3 : recB.sl.r_3 c arg7 harg7 x6 = k0_pay19 x6 := by
    delta recB.sl.r_3; rw [readW1]
  have r4 : recB.sl.r_4 c arg7 harg7 x6 = k0_pay20 x6 := by
    delta recB.sl.r_4; rw [readW1]
  have r5 : recB.sl.r_5 c arg2 harg2 arg7 harg7 x1 x6 = laV x1 x6 := by
    delta recB.sl.r_5; rw [r0, readW1]; rfl
  have r6 : recB.sl.r_6 c arg2 harg2 arg7 harg7 x1 x6 = aV x1 x6 := by
    delta recB.sl.r_6; rw [r0, readW1]; rfl
  have v20 : recB.sl.v20 c i arg4 harg4 arg5 harg5 arg12 x3 x4 = hprevV i x3 x4 := by
    delta recB.sl.v20; delta recB.sl.H12_2; rw [readW, readW16]; exact read_ext _ _ _ _
  have v70 : recB.sl.v70 c arg2 harg2 arg7 harg7 arg13 arg17 harg17 x1 x6 A = cV x1 x6 A := by
    delta recB.sl.v70; delta recB.sl.H13_2; rw [r0, readW1, readW8]; exact read_exta _ _ _ _
  have v87 : recB.sl.v87 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x6 L A = lamV x0 x1 x6 L A := by
    delta recB.sl.v87; delta recB.sl.H14_1 recB.sl.H15_1; rw [v70, readW, readW8]; exact lam_end _ _ _ _ _ _ _ _ _ _ _ _ _ _ _ _ _ _ _ _ _ _ _ _ _ _ _ _ _ _ _ _ _ _ _ _ _ _ _ _ _ _
  have r8 : recB.sl.r_8 c arg2 harg2 arg7 harg7 x1 x6 = k0_pay32 (laV x1 x6) := by
    delta recB.sl.r_8; rw [r5]
  have r9 : recB.sl.r_9 c arg2 harg2 arg7 harg7 x1 x6 = k0_pay33 (laV x1 x6) := by
    delta recB.sl.r_9; rw [r5]
  have r10 : recB.sl.r_10 c arg2 harg2 arg7 harg7 x1 x6 = k0_pay34 (laV x1 x6) := by
    delta recB.sl.r_10; rw [r5]
  have r11 : recB.sl.r_11 c arg2 harg2 arg7 harg7 x1 x6 = k0_pay35 (laV x1 x6) := by
    delta recB.sl.r_11; rw [r5]
  have r12 : recB.sl.r_12 c arg2 harg2 arg7 harg7 x1 x6 = k0_pay36 (laV x1 x6) := by
    delta recB.sl.r_12; rw [r5]
  have r13 : recB.sl.r_13 c i arg2 harg2 arg7 harg7 x1 x6 = multV i x1 x6 := by
    delta recB.sl.r_13; rw [r8, r9, r10, r11, r12]; rfl
  have r14 : recB.sl.r_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 L A = dg1V i x0 x1 x2 x3 x4 x5 x6 L A := by
    delta recB.sl.r_14; rw [v20, r0, r1, r2, r4, r6, v87, r8, r9, r10, r11, r12]; rfl
  have r15 : recB.sl.r_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 L A = dg0V i x0 x1 x2 x5 x6 L A := by
    delta recB.sl.r_15; rw [r1, r2, v87, r8, r9, r10, r11, r12]; rfl
  have r16 : recB.sl.r_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 L A = dspV i x0 x1 x2 x3 x4 x5 x6 L A := by
    delta recB.sl.r_16; rw [v20, r0, r1, r2, r6, v87, r8, r9, r10, r11, r12]; rfl
  have r17 : recB.sl.r_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 L A = k0_pay45 (dg0V i x0 x1 x2 x5 x6 L A) := by
    delta recB.sl.r_17; rw [r15]
  have r18 : recB.sl.r_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 L A = k0_pay46 (dg1V i x0 x1 x2 x3 x4 x5 x6 L A) := by
    delta recB.sl.r_18; rw [r14]
  have r19 : recB.sl.r_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 L A = k0_pay49 (k0_pay45 (dg0V i x0 x1 x2 x5 x6 L A)) (k0_pay46 (dg1V i x0 x1 x2 x3 x4 x5 x6 L A)) (wB x7 0 0) (wB x7 1 0) := by
    delta recB.sl.r_19; rw [r17, r18]; exact congrArg₂ (k0_pay49 _ _) (readHead _ _ 0 0 (by decide) (by decide) _) (readHead _ _ 1 0 (by decide) (by decide) _)
  have r20 : recB.sl.r_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 L A = k0_pay50 (k0_pay45 (dg0V i x0 x1 x2 x5 x6 L A)) (k0_pay46 (dg1V i x0 x1 x2 x3 x4 x5 x6 L A)) (wB x7 0 1) (wB x7 1 1) := by
    delta recB.sl.r_20; rw [r17, r18]; exact congrArg₂ (k0_pay50 _ _) (readHead _ _ 0 1 (by decide) (by decide) _) (readHead _ _ 1 1 (by decide) (by decide) _)
  have r21 : recB.sl.r_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x5 x6 x7 L A = k0_pay51 (k0_pay45 (dg0V i x0 x1 x2 x5 x6 L A)) (wB x7 0 2) := by
    delta recB.sl.r_21; rw [r17]; exact congrArg (k0_pay51 _) (readHead _ _ 0 2 (by decide) (by decide) _)
  have r22 : recB.sl.r_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 L A = k0_pay52 (k0_pay46 (dg1V i x0 x1 x2 x3 x4 x5 x6 L A)) := by
    delta recB.sl.r_22; rw [r18]
  have r23 : recB.sl.r_23 c arg8 harg8 x7 = k0_pay53 (wB x7 1 2) := by
    delta recB.sl.r_23; exact congrArg k0_pay53 (readHead _ _ 1 2 (by decide) (by decide) _)
  have v216 : recB.sl.v216 c arg8 harg8 x7 = wB x7 0 3 := by
    delta recB.sl.v216; exact readHead _ _ 0 3 (by decide) (by decide) _
  have v220 : recB.sl.v220 c arg8 harg8 x7 = wB x7 1 3 := by
    delta recB.sl.v220; exact readHead _ _ 1 3 (by decide) (by decide) _
  have v229 : recB.sl.v229 c arg11 harg11 R = rowOf R 3 := by
    delta recB.sl.v229; exact readRow _ _ 3 (by decide) _
  have v158 : recB.sl.v158 c arg11 harg11 R = rowOf R 1 := by
    delta recB.sl.v158; exact readRow _ _ 1 (by decide) _
  have v164 : recB.sl.v164 c arg11 harg11 R = rowOf R 2 := by
    delta recB.sl.v164; exact readRow _ _ 2 (by decide) _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H9]
  · iexists _; isplitr; swap; · iexact H9
    ipureintro; rw [r18, r15]; exact (read_dg _ _ _ _).trans rfl
  isplitl [H10]
  · iexists _; isplitr; swap; · iexact H10
    ipureintro; rw [r1, v87, r13, r17, r18, r19, r20, r21, r22, r23, v216, v220]; exact (readW_one _ _ _ _ _).trans rfl
  isplitl [H11]
  · iexists _; isplitr; swap; · iexact H11
    ipureintro; rw [r1, v87, r13, r17, r18, r19, r20, r21, r22, r23, v216, v220, v229, v158, v164, r3, r16, r14, r15, readRow _ _ 0 (by decide) _]; exact (read_red _ _ R (harg11.read_unread _) _ _ _ _).trans rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _; isplitr; swap; · iexact H16
    ipureintro; delta recB.sl.H14_1 recB.sl.H15_1; rw [v70, readW, readW8]; exact (readW8_one _ _ _ _ _).trans (congrArg k0_pay29 (car_end _ _ _ _ _ _ _ _ _ _ _ _ _ _ _ _ _ _ _ _ _ _ _ _ _ _ _ _ _ _ _ _ _ _ _ _ _ _ _ _ _ _))
  iexists _; isplitr; swap; · iexact H17
  ipureintro; rw [r6]; exact readW8_one _ _ _ _ _

end Cert.KernelIdeal.Rec

end
-- ==== Proof.Rec.Region.lean ====
/- The launch region of the backward kernel, entered from any contents of the buffers: what its arrays, its carried
   rows and its accumulated result hold point by point, the body's obligation at every point, and the region as a
   segment of the program that leaves the three result arrays at what the points wrote back. -/
module

public import proofs.«01_k».proof.Proof.Rec.First
public import proofs.«01_k».proof.Proof.Rec.Later
public import Idealize.ShloMosaic.Lib.Pipeline.RegionsLoop
public import Idealize.ShloMosaic.Lib.StableHlo.RunLoop
public import Idealize.ShloMosaic.Lib.WordCmp

@[expose] public section

set_option maxRecDepth 16384

noncomputable section

namespace Cert.KernelIdeal.Rec

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def blkOf (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Operand 0's block at point `t`. -/
abbrev b0 (c : Dev nD) (t : Fin cfg0.N) : Vec F S256x1024 .bf16 := blkOf V c 0 t
/-- Operand 1's block at point `t`. -/
abbrev b1 (c : Dev nD) (t : Fin cfg0.N) : Vec F S256x1024 .f32 := blkOf V c 1 t
/-- Operand 2's block at point `t`. -/
abbrev b2 (c : Dev nD) (t : Fin cfg0.N) : Vec F S256x1024 .f32 := blkOf V c 2 t
/-- Operand 3's block at point `t`. -/
abbrev b3 (c : Dev nD) (t : Fin cfg0.N) : Vec F S256x1024 .bf16 := blkOf V c 3 t
/-- Operand 4's block at point `t`. -/
abbrev b4 (c : Dev nD) (t : Fin cfg0.N) : Vec F S16x1024 .bf16 := blkOf V c 4 t
/-- Operand 5's block at point `t`. -/
abbrev b5 (c : Dev nD) (t : Fin cfg0.N) : Vec F S256x1024 .f32 := blkOf V c 5 t
/-- Operand 6's block at point `t`. -/
abbrev b6 (c : Dev nD) (t : Fin cfg0.N) : Vec F S1x1024 .f32 := blkOf V c 6 t
/-- Operand 7's block at point `t`. -/
abbrev b7 (c : Dev nD) (t : Fin cfg0.N) : Vec F S2x4x256x256 .bf16 := blkOf V c 7 t

/-- The column sums so far and the two carried rows before point `n`: zero at the first, then what each point leaves. -/
def carried (c : Dev nD) : ℕ → Vec F S8x1024 .f32 × Vec F S8x1024 .f32 × Vec F S8x1024 .f32
  | 0 => (k0_pay10, k0_pay11, k0_pay12)
  | n + 1 =>
    if h : n < cfg0.N then
      (redB (grid0.coords ⟨n, h⟩) (b0 V c ⟨n, h⟩) (b1 V c ⟨n, h⟩) (b2 V c ⟨n, h⟩) (b3 V c ⟨n, h⟩) (b4 V c ⟨n, h⟩) (b5 V c ⟨n, h⟩) (b6 V c ⟨n, h⟩) (b7 V c ⟨n, h⟩) (carried c n).1 (carried c n).2.1 (carried c n).2.2,
       lamC (b0 V c ⟨n, h⟩) (b1 V c ⟨n, h⟩) (b6 V c ⟨n, h⟩) (carried c n).2.1 (carried c n).2.2, aC (b1 V c ⟨n, h⟩) (b6 V c ⟨n, h⟩))
    else carried c n

theorem carried_succ (c : Dev nD) (t : Fin cfg0.N) :
    carried V c (t.val + 1) =
      (redB (grid0.coords t) (b0 V c t) (b1 V c t) (b2 V c t) (b3 V c t) (b4 V c t) (b5 V c t) (b6 V c t) (b7 V c t) (carried V c t.val).1 (carried V c t.val).2.1 (carried V c t.val).2.2,
       lamC (b0 V c t) (b1 V c t) (b6 V c t) (carried V c t.val).2.1 (carried V c t.val).2.2, aC (b1 V c t) (b6 V c t)) := by
  rw [carried, dif_pos t.isLt]

/-- What point `t` leaves in the gates' gradient block, -/
def dgAt (c : Dev nD) (t : Fin cfg0.N) : Vec F S2x256x1024 .bf16 :=
  dgB (grid0.coords t) (b0 V c t) (b1 V c t) (b2 V c t) (b3 V c t) (b4 V c t) (b5 V c t) (b6 V c t) (carried V c t.val).2.1 (carried V c t.val).2.2
/-- and in the block of the gradient of the convolution's output. -/
def dxcAt (c : Dev nD) (t : Fin cfg0.N) : Vec F S256x1024 .f32 :=
  dxcB (grid0.coords t) (b0 V c t) (b1 V c t) (b2 V c t) (b3 V c t) (b4 V c t) (b5 V c t) (b6 V c t) (b7 V c t) (carried V c t.val).2.1 (carried V c t.val).2.2

/-- The kernel's scratch operand 0. -/
abbrev scM0 : Memref sig .tc .vmem S264x1024 .f32 := Memref.whole cc0_scratch0
/-- The kernel's scratch operand 1. -/
abbrev scM1 : Memref sig .tc .vmem S264x1024 .f32 := Memref.whole cc0_scratch1
/-- The kernel's scratch operand 2. -/
abbrev scM2 : Memref sig .tc .vmem S256x1024 .f32 := Memref.whole cc0_scratch2
/-- The kernel's scratch operand 3. -/
abbrev scM3 : Memref sig .tc .vmem S256x1024 .f32 := Memref.whole cc0_scratch3
/-- The kernel's scratch operand 4. -/
abbrev scM4 : Memref sig .tc .vmem S8x1024 .f32 := Memref.whole cc0_scratch4
/-- The kernel's scratch operand 5. -/
abbrev scM5 : Memref sig .tc .vmem S8x1024 .f32 := Memref.whole cc0_scratch5

/-- The invariant before point `n`: the four scratch tiles at anything, the two carried rows at what the points before
    left (at anything before the first). -/
def inv (c : Dev nD) (n : ℕ) : sProp 𝕄 :=
  iprop((∃ d, owns (c : Thread nD τ) scM0 fullShare d) ∗ (∃ d, owns (c : Thread nD τ) scM1 fullShare d)
    ∗ (∃ d, owns (c : Thread nD τ) scM2 fullShare d) ∗ (∃ d, owns (c : Thread nD τ) scM3 fullShare d)
    ∗ (∃ d, ⌜n ≠ 0 → d = (carried V c n).2.1⌝ ∗ owns (c : Thread nD τ) scM4 fullShare d)
    ∗ (∃ d, ⌜n ≠ 0 → d = (carried V c n).2.2⌝ ∗ owns (c : Thread nD τ) scM5 fullShare d))

/-- The region's proof data from the entry contents `V`. -/
def dat (c : Dev nD) : Dat τ (Elt F) Unit ℕ (UR sig nD τ) ℕ cfg0 c where
  A w := V c (Pipeline.arrRef spec0 w)
  after w t := match w with
    | ⟨0, _⟩ => blkOf V c 0 t
    | ⟨1, _⟩ => blkOf V c 1 t
    | ⟨2, _⟩ => blkOf V c 2 t
    | ⟨3, _⟩ => blkOf V c 3 t
    | ⟨4, _⟩ => blkOf V c 4 t
    | ⟨5, _⟩ => blkOf V c 5 t
    | ⟨6, _⟩ => blkOf V c 6 t
    | ⟨7, _⟩ => blkOf V c 7 t
    | ⟨8, _⟩ => dgAt V c t
    | ⟨9, _⟩ => dxcAt V c t
    | ⟨10, _⟩ => (carried V c (t.val + 1)).1
  Φ t := inv V c t.val
  q w := Pipeline.shareOf spec0 w
  owed _ := 0

theorem dat_A (c : Dev nD) (w : Fin cfg0.W) : (dat V c).A w = V c (Pipeline.arrRef spec0 w) := by dsimp only [dat]
theorem after_0 (c : Dev nD) (t : Fin cfg0.N) : (dat V c).after 0 t = blkOf V c 0 t := by dsimp only [dat]
theorem after_1 (c : Dev nD) (t : Fin cfg0.N) : (dat V c).after 1 t = blkOf V c 1 t := by dsimp only [dat]
theorem after_2 (c : Dev nD) (t : Fin cfg0.N) : (dat V c).after 2 t = blkOf V c 2 t := by dsimp only [dat]
theorem after_3 (c : Dev nD) (t : Fin cfg0.N) : (dat V c).after 3 t = blkOf V c 3 t := by dsimp only [dat]
theorem after_4 (c : Dev nD) (t : Fin cfg0.N) : (dat V c).after 4 t = blkOf V c 4 t := by dsimp only [dat]
theorem after_5 (c : Dev nD) (t : Fin cfg0.N) : (dat V c).after 5 t = blkOf V c 5 t := by dsimp only [dat]
theorem after_6 (c : Dev nD) (t : Fin cfg0.N) : (dat V c).after 6 t = blkOf V c 6 t := by dsimp only [dat]
theorem after_7 (c : Dev nD) (t : Fin cfg0.N) : (dat V c).after 7 t = blkOf V c 7 t := by dsimp only [dat]
theorem after_8 (c : Dev nD) (t : Fin cfg0.N) : (dat V c).after 8 t = dgAt V c t := by dsimp only [dat]
theorem after_9 (c : Dev nD) (t : Fin cfg0.N) : (dat V c).after 9 t = dxcAt V c t := by dsimp only [dat]
theorem after_10 (c : Dev nD) (t : Fin cfg0.N) : (dat V c).after 10 t = (carried V c (t.val + 1)).1 := by dsimp only [dat]

theorem before_0 (c : Dev nD) (t : Fin cfg0.N) (d) : (dat V c).before 0 t d = blkOf V c 0 t :=
  ((dat V c).before_in_eq_fetched 0 rfl (fun _ => rfl) (fun _ _ _ => rfl)
    (fun t => by rw [after_0]; unfold Dat.blockOf blkOf; rw [dat_A]; try rfl) t d).trans
    (by unfold Dat.fetched Dat.blockOf blkOf; rw [dat_A]; try rfl)
theorem before_1 (c : Dev nD) (t : Fin cfg0.N) (d) : (dat V c).before 1 t d = blkOf V c 1 t :=
  ((dat V c).before_in_eq_fetched 1 rfl (fun _ => rfl) (fun _ _ _ => rfl)
    (fun t => by rw [after_1]; unfold Dat.blockOf blkOf; rw [dat_A]; try rfl) t d).trans
    (by unfold Dat.fetched Dat.blockOf blkOf; rw [dat_A]; try rfl)
theorem before_2 (c : Dev nD) (t : Fin cfg0.N) (d) : (dat V c).before 2 t d = blkOf V c 2 t :=
  ((dat V c).before_in_eq_fetched 2 rfl (fun _ => rfl) (fun _ _ _ => rfl)
    (fun t => by rw [after_2]; unfold Dat.blockOf blkOf; rw [dat_A]; try rfl) t d).trans
    (by unfold Dat.fetched Dat.blockOf blkOf; rw [dat_A]; try rfl)
theorem before_3 (c : Dev nD) (t : Fin cfg0.N) (d) : (dat V c).before 3 t d = blkOf V c 3 t :=
  ((dat V c).before_in_eq_fetched 3 rfl (fun _ => rfl) (fun _ _ _ => rfl)
    (fun t => by rw [after_3]; unfold Dat.blockOf blkOf; rw [dat_A]; try rfl) t d).trans
    (by unfold Dat.fetched Dat.blockOf blkOf; rw [dat_A]; try rfl)
theorem before_4 (c : Dev nD) (t : Fin cfg0.N) (d) : (dat V c).before 4 t d = blkOf V c 4 t :=
  ((dat V c).before_in_eq_fetched 4 rfl (fun _ => rfl) (fun _ _ _ => rfl)
    (fun t => by rw [after_4]; unfold Dat.blockOf blkOf; rw [dat_A]; try rfl) t d).trans
    (by unfold Dat.fetched Dat.blockOf blkOf; rw [dat_A]; try rfl)
theorem before_5 (c : Dev nD) (t : Fin cfg0.N) (d) : (dat V c).before 5 t d = blkOf V c 5 t :=
  ((dat V c).before_in_eq_fetched 5 rfl (fun _ => rfl) (fun _ _ _ => rfl)
    (fun t => by rw [after_5]; unfold Dat.blockOf blkOf; rw [dat_A]; try rfl) t d).trans
    (by unfold Dat.fetched Dat.blockOf blkOf; rw [dat_A]; try rfl)
theorem before_6 (c : Dev nD) (t : Fin cfg0.N) (d) : (dat V c).before 6 t d = blkOf V c 6 t :=
  ((dat V c).before_in_eq_fetched 6 rfl (fun _ => rfl) (fun _ _ _ => rfl)
    (fun t => by rw [after_6]; unfold Dat.blockOf blkOf; rw [dat_A]; try rfl) t d).trans
    (by unfold Dat.fetched Dat.blockOf blkOf; rw [dat_A]; try rfl)
theorem before_7 (c : Dev nD) (t : Fin cfg0.N) (d) : (dat V c).before 7 t d = blkOf V c 7 t :=
  ((dat V c).before_in_eq_fetched 7 rfl (fun _ => rfl) (fun _ _ _ => rfl)
    (fun t => by rw [after_7]; unfold Dat.blockOf blkOf; rw [dat_A]; try rfl) t d).trans
    (by unfold Dat.fetched Dat.blockOf blkOf; rw [dat_A]; try rfl)

/-- The accumulated sums' buffer holds what the point before left. -/
theorem before_10 (c : Dev nD) (t : Fin cfg0.N) (ht : t.val ≠ 0) (d) : (dat V c).before 10 t d = (carried V c t.val).1 := by
  have hN : t.val < 16 := lt_of_lt_of_eq t.isLt (show cfg0.N = 16 from N_0)
  rw [(dat V c).before_out_kept 10 rfl t ht
    (Bool.eq_false_iff.mpr fun h => by have := (flush0_10 _).mp h; simp only at this; omega) (fun _ => rfl) (fun _ _ => rfl) d, after_10]
  show (carried V c (t.val - 1 + 1)).1 = _
  rw [Nat.sub_add_cancel (Nat.one_le_iff_ne_zero.mpr ht)]

/-- The body's branch is taken at the first point alone. -/
theorem cond0_iff : ∀ t : Fin cfg0.N, cond0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0, e0]
    word_cmp
   : ∀ t : Fin grid0.N, cond0 (grid0.coords t) ↔ t.val % 16 = 0)

/-! ## The body's obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

set_option maxHeartbeats 3200000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7]
  rw [show (dat V c).Φ t.succ = inv V c (t.val + 1) from rfl, show (dat V c).Φ t.castSucc = inv V c t.val from rfl,
    show (dat V c).owesAt () t.succ = (dat V c).owesAt () t.castSucc from rfl,
    after_0, after_1, after_2, after_3, after_4, after_5, after_6, after_7, after_8, after_9, after_10, carried_succ]
  unfold inv
  rw [carried_succ]
  have hN : t.val < 16 := lt_of_lt_of_eq t.isLt (show cfg0.N = 16 from N_0)
  by_cases h0 : t.val % 16 = 0
  · iintro ⟨⟨HS0, HS1, HS2, HS3, ⟨%e4, %he4, HS4⟩, ⟨%e5, %he5, HS5⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have ht : t.val = 0 := by omega
    unfold dgAt dxcAt
    rw [show carried V c t.val = (k0_pay10, k0_pay11, k0_pay12) by rw [ht]; rfl]
    iapply (recA c (grid0.coords t) _ _ _ _ _ _ _ _ _ _ _ _ _ _ _ _ _ _ _ _ _ _ _ _ _ _ _ _ _ _ _ _ _ _ ((cond0_iff t).mpr h0) (b0 V c t) (b1 V c t) (b2 V c t) (b3 V c t) (b4 V c t) (b5 V c t) (b6 V c t) (b7 V c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexists _; iexact HS4
    isplitl [HS5]; · iexists _; iexact HS5
    iintro ⟨H0, H1, H2, H3, H4, H5, H6, H7, H8, H9, H10, HS0, HS1, HS2, HS3, HS4, HS5⟩
    isplitl [HS0 HS1 HS2 HS3 HS4 HS5]
    · isplitl [HS0]; · iexact HS0
      isplitl [HS1]; · iexact HS1
      isplitl [HS2]; · iexact HS2
      isplitl [HS3]; · iexact HS3
      isplitl [HS4]
      · iexists _; isplitr; swap; (· iexact HS4); ipureintro; exact fun _ => rfl
      iexists _; isplitr; swap; (· iexact HS5); ipureintro; exact fun _ => rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨HS0, HS1, HS2, HS3, ⟨%e4, %he4, HS4⟩, ⟨%e5, %he5, HS5⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have ht : t.val ≠ 0 := by omega
    obtain rfl := he4 ht
    obtain rfl := he5 ht
    rw [before_10 V c t ht]
    iapply (recB c (grid0.coords t) _ _ _ _ _ _ _ _ _ _ _ _ _ _ _ _ _ _ _ _ _ _ _ _ _ _ _ _ _ _ _ _ _ _ (fun h => h0 ((cond0_iff t).mp h)) (b0 V c t) (b1 V c t) (b2 V c t) (b3 V c t) (b4 V c t) (b5 V c t) (b6 V c t) (b7 V c t) (carried V c t.val).1 (carried V c t.val).2.1 (carried V c t.val).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, HS0, HS1, HS2, HS3, HS4, HS5⟩
    isplitl [HS0 HS1 HS2 HS3 HS4 HS5]
    · isplitl [HS0]; · iexact HS0
      isplitl [HS1]; · iexact HS1
      isplitl [HS2]; · iexact HS2
      isplitl [HS3]; · iexact HS3
      isplitl [HS4]
      · iexists _; isplitr; swap; (· iexact HS4); ipureintro; exact fun _ => rfl
      iexists _; isplitr; swap; (· iexact HS5); ipureintro; exact fun _ => rfl
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-! ## The region over the thread state -/

/-- No table is prefetched. -/
abbrev adm : (p : Fin 1) → (pcfgs (F := F) p).Adm := fun p => (cfgs p).toPCfg_adm

/-- The proof data of the one pipeline. -/
abbrev pdats (p : Fin 1) (c : Dev nD) : Dat τ (Elt F) Unit ℕ (UR sig nD τ) ℕ (Pipeline.pin (pcfgs (F := F)) adm p) c := dat V c

/-- No core owes another anything: no level is assigned. -/
abbrev L : GSem nD τ sig → Finset Unit := fun _ => ∅
abbrev lv : GSem nD τ sig → Unit → ℕ := fun _ _ => 0

/-- The contents the region leaves: the three result arrays at what the points wrote back, the rest as entered. -/
def left (W : Valuation τ sig (Elt F)) (c : Dev nD) (V : (c : Dev nD) → (b : Ref sig .tc) → Buf (Elt F) ((c : Thread nD τ).loc b)) : Valuation τ sig (Elt F) :=
  Function.update (Function.update (Function.update W (Proc.devRef .tc (Pipeline.arrRef spec0 8)) ((dat V c).arrAt 8 cfg0.N))
    (Proc.devRef .tc (Pipeline.arrRef spec0 9)) ((dat V c).arrAt 9 cfg0.N))
    (Proc.devRef .tc (Pipeline.arrRef spec0 10)) ((dat V c).arrAt 10 cfg0.N)

variable (Vp : (c : Dev nD) → (b : Ref sig .tc) → Buf (Elt F) ((c : Thread nD τ).loc b))

set_option backward.isDefEq.respectTransparency.types false in
/-- THE REGION over "every unscoped buffer at `V`, and the core's `owes`", left with them at any `Vp` that has the three
    result arrays at what the points wrote back and agrees with `V` off them. -/
def reg (hout : ∀ c w, (dat V c).arrAt w cfg0.N = Vp c (Pipeline.arrRef spec0 w))
    (hne : ∀ c (b : Ref sig .tc), b ∉ Finset.univ.image (Pipeline.arrRef spec0) → Vp c b = V c b) :
    Pipeline.RegionSeg (pcfgs (F := F)) adm (pdats V) () defs₀ Variants.none L lv 0 where
  win := winFacts₀0
  block_pos := block_pos0
  stage_whole := stage_whole0
  K := PEmpty
  osem k := k.elim
  ho := Pipeline.OwnSemFacts.none _
  hbody c := (body_obligation V c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := iprop(Pipeline.unscopedRest (Ix := Unit) (Name := ℕ) (U := UR sig nD τ) (Lvl := ℕ) spec0 c (V c))
  hentry c := by
    rw [Pipeline.ownSems0_none]
    have hsplit : (unscopedBufs c (V c) : sProp 𝕄) ⊢ iprop((dat V c).arrays ((dat V c).arrAt · 0) ∗ Pipeline.unscopedRest spec0 c (V c)) := by
      rw [Pipeline.unscopedBufs_split₀ cfgs 0 winFacts₀0.arr_unscoped c (V c)]
      exact sep_mono ((dat V c).arrays_split_shared sharedIn0 arr_whole0 (fun _ _ => rfl) (V c) _ fun w => rfl) .rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats V 0 c).Φ 0 = inv V c 0 from rfl]
    refine BIBase.Entails.trans ?_ (show (Pipeline.scopedRest (Ix := Unit) (Name := ℕ) (U := UR sig nD τ) (Lvl := ℕ) (Val := Elt F) spec0 c : sProp 𝕄) ⊢ inv V c 0 from ?_)
    · iintro ⟨-, -, Hr⟩; iexact Hr
    rw [scopedRest0_eq]; unfold inv; simp only [owns_whole]
    iintro ⟨H0, H1, H2, H3, ⟨%e4, H4⟩, ⟨%e5, H5⟩⟩
    isplitl [H0]; · iexact H0
    isplitl [H1]; · iexact H1
    isplitl [H2]; · iexact H2
    isplitl [H3]; · iexact H3
    isplitl [H4]
    · iexists e4; isplitr; swap; (· iexact H4); ipureintro; exact fun h => absurd rfl h
    iexists e5; isplitr; swap; (· iexact H5); ipureintro; exact fun h => absurd rfl h
  hout c := by
    rw [Pipeline.ownSems0_none, show (pdats V 0 c).Φ (Fin.last _) = inv V c cfg0.N from rfl]
    refine BIBase.Entails.trans (show inv V c cfg0.N ⊢ (Pipeline.scopedRest (Ix := Unit) (Name := ℕ) (U := UR sig nD τ) (Lvl := ℕ) (Val := Elt F) spec0 c : sProp 𝕄) from ?_) ?_
    · rw [scopedRest0_eq]; unfold inv; simp only [owns_whole]
      iintro ⟨H0, H1, H2, H3, ⟨%e4, -, H4⟩, ⟨%e5, -, H5⟩⟩
      isplitl [H0]; · iexact H0
      isplitl [H1]; · iexact H1
      isplitl [H2]; · iexact H2
      isplitl [H3]; · iexact H3
      isplitl [H4]
      · iexists e4; iexact H4
      iexists e5; iexact H5
    iintro Hr
    isplitr; · iempintro
    isplitr; · iempintro
    iexact Hr
  hexit c := by
    have hjoin := Pipeline.unscopedBufs_of_arrays_shared (p := 0) (pcfgs (F := F)) adm (Ix := Unit) (Name := ℕ) (U := UR sig nD τ) (Lvl := ℕ) winFacts₀0 sharedIn0 arr_whole0 c
      (pdats V) (fun _ _ => rfl) (V c) (Vp c) ((dat V c).arrAt · cfg0.N) (hout c) (hne c)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Rec

end
-- ==== Proof.Rec.Run.lean ====
/- The kernel's run: the host operations before the recurrence, the recurrence's 4096 trips, the host operations after
   it, then the launch. Every buffer ends at stated contents, the arguments unchanged and every counter at zero. -/
module

public import proofs.«01_k».proof.Proof.Rec.Region

@[expose] public section

set_option maxRecDepth 16384

noncomputable section

namespace Cert.KernelIdeal.Rec

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held afterL atTrip launchContents Plain segsOf loopSeg entryContents)
open Idealize.ShloMosaic.Pipeline (CSeg Ticket ucRefs sub_ucRefs)

variable {F : FTy → Type} [FloatOps F]

local notation "𝕄" => MT nD τ sig Unit (Elt F) ℕ (UR sig nD τ) ℕ

/-! ## The recurrence's loop -/

/-- The stretches of host operations before the loop, -/
abbrev preI : List (List (HloOp τ sig (Elt F))) := [hostOps0, hostOps0_1, hostOps0_2, hostOps0_3, hostOps0_4]
/-- the condition's two operations, -/
abbrev condOps : List (HloOp τ sig (Elt F)) :=
  [ StableHlo.nullary main_while0c_c_11 (constantI S_ 32 4096#32),
    StableHlo.binary main_v42_2 main_while0c_c_11 main_while0c_v52 (cmpi .slt) ]
/-- the body's stretches, -/
abbrev bodyI : List (List (HloOp τ sig (Elt F))) := [while0Ops0, while0Ops0_1, while0Ops0_2, while0Ops0_3, while0Ops0_4]
/-- and the stretch after it. -/
abbrev postI : List (List (HloOp τ sig (Elt F))) := [hostOps0_5]

theorem plain_pre : Plain (preI (F := F)) :=
  Plain.cons hostOps0_sub <| Plain.cons hostOps0_1_sub <| Plain.cons hostOps0_2_sub <| Plain.cons hostOps0_3_sub <| Plain.cons hostOps0_4_sub Plain.nil
theorem plain_body : Plain (bodyI (F := F)) :=
  Plain.cons while0Ops0_sub <| Plain.cons while0Ops0_1_sub <| Plain.cons while0Ops0_2_sub <| Plain.cons while0Ops0_3_sub <| Plain.cons while0Ops0_4_sub Plain.nil
theorem plain_post : Plain (postI (F := F)) := Plain.cons hostOps0_5_sub Plain.nil

theorem notw {ops : List (HloOp τ sig (Elt F))} {b : Ref sig .tc} (h : ∀ op ∈ ops, Proc.devRef .tc b ∉ op.writes) (V : Valuation τ sig (Elt F)) :
    after ops V b = V b := StableHlo.after_of_forall_not_mem ops V h

/-- The counter is written by the last stretch of the body only. -/
theorem ctr_cond : ∀ op ∈ (condOps (F := F)), Proc.devRef .tc main_v42_2 ∉ op.writes := by
  intro op hop; fin_cases hop <;> exact fun h => StableHlo.devRef_ne_of_ne (by decide) (Finset.mem_singleton.mp h)
theorem ctr_0 : ∀ op ∈ (while0Ops0 (F := F)), Proc.devRef .tc main_v42_2 ∉ op.writes := by
  intro op hop; fin_cases hop <;> exact fun h => StableHlo.devRef_ne_of_ne (by decide) (Finset.mem_singleton.mp h)
theorem ctr_1 : ∀ op ∈ (while0Ops0_1 (F := F)), Proc.devRef .tc main_v42_2 ∉ op.writes := by
  intro op hop; fin_cases hop <;> exact fun h => StableHlo.devRef_ne_of_ne (by decide) (Finset.mem_singleton.mp h)
theorem ctr_2 : ∀ op ∈ (while0Ops0_2 (F := F)), Proc.devRef .tc main_v42_2 ∉ op.writes := by
  intro op hop; fin_cases hop <;> exact fun h => StableHlo.devRef_ne_of_ne (by decide) (Finset.mem_singleton.mp h)
theorem ctr_3 : ∀ op ∈ (while0Ops0_3 (F := F)), Proc.devRef .tc main_v42_2 ∉ op.writes := by
  intro op hop; fin_cases hop <;> exact fun h => StableHlo.devRef_ne_of_ne (by decide) (Finset.mem_singleton.mp h)

/-- The last stretch leaves the counter one more than it found it. -/
theorem ctr_body (X : Valuation τ sig (Elt F)) :
    after while0Ops0_4 X main_v42_2 = addi (X main_v42_2) (constantI S_ 32 1#32) := by
  rw [while0Ops0_4, StableHlo.after_cons, StableHlo.after_cons, StableHlo.after_cons, StableHlo.after_cons, StableHlo.after_cons, StableHlo.after_nil]
  rw [StableHlo.unary_result_ne _ _ _ _ _ _ (by decide), StableHlo.unary_result_ne _ _ _ _ _ _ (by decide), StableHlo.unary_result,
    StableHlo.binary_result, StableHlo.nullary_result_ne _ _ _ _ (by decide), StableHlo.nullary_result]
  rfl

/-- Before the `k`-th run of the condition the counter is `k`, when it is zero at the loop's entry. -/
theorem trip_ctr (W₀ : Dev nD → Valuation τ sig (Elt F)) (h0 : ∀ c, W₀ c main_v42_2 = fun _ => (0#32 : BitVec 32)) (c : Dev nD) :
    ∀ k, atTrip condOps bodyI W₀ k c main_v42_2 = fun _ => (BitVec.ofNat 32 k : BitVec 32)
  | 0 => h0 c
  | k + 1 => by
    show after (while0Ops0_4 (F := F)) (after while0Ops0_3 (after while0Ops0_2 (after while0Ops0_1 (after while0Ops0 (after condOps (atTrip condOps bodyI W₀ k c)))))) main_v42_2 = _
    rw [ctr_body, notw ctr_3, notw ctr_2, notw ctr_1, notw ctr_0, notw ctr_cond, trip_ctr W₀ h0 c k]
    funext i
    show BitVec.ofNat 32 k + 1#32 = BitVec.ofNat 32 (k + 1)
    rw [BitVec.ofNat_add]

/-- The condition's comparison reads one exactly before the 4096th trip. -/
theorem pred_iff (k : ℕ) (hk : k ≤ 4096) : (IntOp.cmpi .slt (BitVec.ofNat 32 k) 4096#32 = 1#1 ↔ k < 4096) := by
  rw [WordCmp.cmpi_slt_eq, WordCmp.ofBool_eq_one_iff, decide_eq_true_iff, WordCmp.toInt_ofNat_of_lt (lt_of_le_of_lt hk (by decide)),
    show (4096#32 : BitVec 32).toInt = 4096 from by decide]
  omega

/-- At the loop's entry the counter is zero. -/
theorem entry_ctr (m : (ℓ : Loc nD τ sig) → Buf (Elt F) ℓ) (c : Dev nD) : entryContents preI m c main_v42_2 = fun _ => (0#32 : BitVec 32) := by
  show after (hostOps0_4 (F := F)) _ main_v42_2 = _
  rw [hostOps0_4]
  repeat rw [StableHlo.after_cons]
  rw [StableHlo.after_nil]
  rw [StableHlo.unary_result_ne _ _ _ _ _ _ (by decide), StableHlo.unary_result_ne _ _ _ _ _ _ (by decide), StableHlo.unary_result,
    StableHlo.unary_result_ne _ _ _ _ _ _ (by decide), StableHlo.unary_result_ne _ _ _ _ _ _ (by decide), StableHlo.nullary_result]
  rfl

/-- What is carried beside the buffers: the core's outstanding waits. -/
abbrev Rw (c : Dev nD) : sProp 𝕄 := iprop(∃ W, owes (c : Thread nD τ) (0 : CellTallies nD τ sig Unit) W)

set_option backward.isDefEq.respectTransparency.types false in
/-- The condition, run before trip `k`, reads one exactly while `k < 4096`. -/
theorem cond_spec (W₀ : Dev nD → Valuation τ sig (Elt F)) (h0 : ∀ c, W₀ c main_v42_2 = fun _ => (0#32 : BitVec 32)) :
    StableHlo.LoopCond (Ix := Unit) (Name := ℕ) (U := UR sig nD τ) (Lvl := ℕ) (pcfgs (F := F)) defs₀ Variants.none loops Rw main_while0_cond condOps bodyI W₀ 4096 := by
  intro k hk c bd
  have hctr := trip_ctr W₀ h0 c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps bodyI W₀ k c) main_v42_2 HostLoop.idx0)
        (HloOp.result _ (atTrip condOps bodyI W₀ k c) main_while0c_c_11 HostLoop.idx0) = 1#1) (k < 4096)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

/-! ## The whole run -/

section Whole

variable (m : (ℓ : Loc nD τ sig) → Buf (Elt F) ℓ)

/-- Every buffer at the end of the loop, -/
abbrev looped (c : Dev nD) : Valuation τ sig (Elt F) := after condOps (atTrip condOps bodyI (entryContents preI m) 4096 c)
/-- at the launch's entry, -/
abbrev entered (c : Dev nD) : Valuation τ sig (Elt F) := after hostOps0_5 (looped m c)
/-- the same at the references of the launch, -/
abbrev Ve (c : Dev nD) (b : Ref sig .tc) : Buf (Elt F) ((c : Thread nD τ).loc b) := entered m c (Proc.devRef .tc b)
/-- and at the program's end. -/
abbrev ended (c : Dev nD) : Valuation τ sig (Elt F) := left (entered m c) c (Ve m)
/-- The same at the references. -/
abbrev Vx (c : Dev nD) (b : Ref sig .tc) : Buf (Elt F) ((c : Thread nD τ).loc b) := ended m c (Proc.devRef .tc b)

theorem ended_8 (c : Dev nD) : Vx m c (Pipeline.arrRef spec0 8) = (dat (Ve m) c).arrAt 8 cfg0.N := by
  show left _ _ _ _ = _
  unfold left
  rw [Function.update_of_ne (StableHlo.devRef_ne_of_ne (by decide)), Function.update_of_ne (StableHlo.devRef_ne_of_ne (by decide)), Function.update_self]
theorem ended_9 (c : Dev nD) : Vx m c (Pipeline.arrRef spec0 9) = (dat (Ve m) c).arrAt 9 cfg0.N := by
  show left _ _ _ _ = _
  unfold left
  rw [Function.update_of_ne (StableHlo.devRef_ne_of_ne (by decide)), Function.update_self]
theorem ended_10 (c : Dev nD) : Vx m c (Pipeline.arrRef spec0 10) = (dat (Ve m) c).arrAt 10 cfg0.N := by
  show left _ _ _ _ = _
  unfold left
  rw [Function.update_self]
/-- Any other buffer is as the launch found it. -/
theorem ended_ne (c : Dev nD) (b : Ref sig .tc) (h8 : b ≠ Pipeline.arrRef spec0 8) (h9 : b ≠ Pipeline.arrRef spec0 9) (h10 : b ≠ Pipeline.arrRef spec0 10) :
    Vx m c b = Ve m c b := by
  show left _ _ _ _ = _
  unfold left
  rw [Function.update_of_ne (StableHlo.devRef_ne_of_ne h10), Function.update_of_ne (StableHlo.devRef_ne_of_ne h9), Function.update_of_ne (StableHlo.devRef_ne_of_ne h8)]

/-- An operand's array is at the end what it was at the launch's entry. -/
theorem ended_in (c : Dev nD) (w : Fin 11) (hw : w.val < 8) : (dat (Ve m) c).arrAt w cfg0.N = Vx m c (Pipeline.arrRef spec0 w) := by
  rw [ended_ne m c _ (by revert w; decide) (by revert w; decide) (by revert w; decide)]
  rw [(dat (Ve m) c).arrAt_in w (by revert w; decide) _]
  rfl

theorem out_arrays (c : Dev nD) (w : Fin cfg0.W) : (dat (Ve m) c).arrAt w cfg0.N = Vx m c (Pipeline.arrRef spec0 w) := by
  rcases Nat.lt_or_ge w.val 8 with h | h
  · exact ended_in m c w h
  · have hw : w = (8 : Fin 11) ∨ w = (9 : Fin 11) ∨ w = (10 : Fin 11) := by revert w; decide
    rcases hw with rfl | rfl | rfl
    · exact (ended_8 m c).symm
    · exact (ended_9 m c).symm
    · exact (ended_10 m c).symm

theorem off_arrays (c : Dev nD) (b : Ref sig .tc) (h : b ∉ Finset.univ.image (Pipeline.arrRef spec0)) : Vx m c b = Ve m c b :=
  ended_ne m c b (fun e => h (e ▸ Finset.mem_image_of_mem _ (Finset.mem_univ _))) (fun e => h (e ▸ Finset.mem_image_of_mem _ (Finset.mem_univ _)))
    (fun e => h (e ▸ Finset.mem_image_of_mem _ (Finset.mem_univ _)))

/-- The launch's one ticket: its proof data at the contents it is entered with. -/
def tk : Fin 1 → Ticket (Ix := Unit) (Name := ℕ) (U := UR sig nD τ) (Lvl := ℕ) (nD := nD) (τ := τ) (pcfgs (F := F)) adm :=
  fun _ => { p := 0, pdats := pdats (Ve m), EP := emb₁ }

/-- The launch's ghost state is the ticket's. -/
theorem funded (u : UR sig nD τ) : (ownU u : sProp 𝕄) ⊢ BI.own ((tk m 0).EP u) :=
  show (ownU u : sProp 𝕄) ⊢ BI.own (emb₁ u) from BIBase.Entails.rfl

theorem loops_zero : loops (F := F) 0 = HostLoop.step 0 main_while0_cond main_while0_body := rfl

/-- The program's segments in order. -/
def segs : List (CSeg (pcfgs (F := F)) adm defs₀ Variants.none L lv loops (tk m)) :=
  segsOf _ _ _ _ _ _ _ _ Rw preI plain_pre (launchContents m)
    ++ loopSeg _ _ _ _ _ _ _ _ 0 main_while0_cond main_while0_body loops_zero condOps bodyI plain_body while0_body_chain 4096 (entryContents preI m) Rw
        (cond_spec _ (entry_ctr m))
      :: (segsOf _ _ _ _ _ _ _ _ Rw postI plain_post (looped m)
        ++ [CSeg.region _ _ () cellOf_inj _ _ _ _ _ _ (0 : Fin 1) (reg (Ve m) (Vx m) (out_arrays m) (off_arrays m))])

theorem segs_prog : (segs m).map CSeg.prog = [StableHlo.seq hostOps0, StableHlo.seq hostOps0_1, StableHlo.seq hostOps0_2, StableHlo.seq hostOps0_3,
    StableHlo.seq hostOps0_4, HostLoop.enter 0, StableHlo.seq hostOps0_5, Prog.lift (.customCall (HostLoop.inner (Pipeline.entry 0)) ())] := by
  unfold segs
  rw [List.map_append, List.map_cons, List.map_append, StableHlo.segsOf_prog, StableHlo.segsOf_prog]
  rfl

theorem segs_chains : CSeg.Chains (fun c => iprop(held (c : Thread nD τ) (ucRefs τ sig) (launchContents m c) ∗ Rw c)) (segs m)
    (fun c => iprop(held (c : Thread nD τ) (ucRefs τ sig) (ended m c) ∗ ∃ W, owes (c : Thread nD τ) (0 : CellTallies nD τ sig Unit) W)) := by
  unfold segs
  refine CSeg.Chains.append (StableHlo.segsOf_chains _ _ _ _ _ _ _ _ Rw preI plain_pre _) ⟨fun _ => .rfl, ?_⟩
  refine CSeg.Chains.append (StableHlo.segsOf_chains _ _ _ _ _ _ _ _ Rw postI plain_post _) ⟨fun c => ?_, fun c => ?_⟩
  · show _ ⊢ iprop(unscopedBufs c (Ve m c) ∗ Rw c)
    rw [show unscopedBufs c (Ve m c) = held (c : Thread nD τ) (ucRefs τ sig) (entered m c) from Pipeline.unscopedBufs_held c (entered m c)]
    exact .rfl
  · show iprop(unscopedBufs c (Vx m c) ∗ Rw c) ⊢ _
    rw [show unscopedBufs c (Vx m c) = held (c : Thread nD τ) (ucRefs τ sig) (ended m c) from Pipeline.unscopedBufs_held c (ended m c)]

theorem segs_disjoint : (segs m).Pairwise fun s s' => Disjoint s.T s'.T := by
  unfold segs
  refine List.pairwise_append.mpr ⟨CSeg.pairwise_disjoint_of_T_empty _ fun s hs => (StableHlo.segsOf_M_T _ _ _ _ _ _ _ _ Rw preI plain_pre _ s hs).2,
    List.pairwise_cons.mpr ⟨fun s _ => ?_, List.pairwise_append.mpr ⟨CSeg.pairwise_disjoint_of_T_empty _ fun s hs => (StableHlo.segsOf_M_T _ _ _ _ _ _ _ _ Rw postI plain_post _ s hs).2,
      List.pairwise_singleton _ _, fun s hs s' _ => ?_⟩⟩, fun s hs s' _ => ?_⟩
  · rw [StableHlo.loopSeg_T]; exact Finset.disjoint_empty_left _
  · rw [(StableHlo.segsOf_M_T _ _ _ _ _ _ _ _ Rw postI plain_post _ s hs).2]; exact Finset.disjoint_empty_left _
  · rw [(StableHlo.segsOf_M_T _ _ _ _ _ _ _ _ Rw preI plain_pre _ s hs).2]; exact Finset.disjoint_empty_left _

/-- THE RUN: from any memory with zero counters the kernel's program terminates without fault, every buffer that holds a
    tensor value of the program ends at `ended`, and every counter is zero. -/
theorem run_ended (ρ : Dev nD → PrngReg) :
    θ_run (defs (F := F)) (onTc (τ := τ) main) ⟨m, fun _ => 0, ρ⟩
      (fun r => (∀ (c : Dev nD) (b : Ref sig .tc), (Proc.devRef .tc b : DevRef τ sig).isScoped = false →
        r.2.mem ((c.tc : Thread nD τ).loc b) = ended m c (Proc.devRef .tc b)) ∧ r.2.sem = fun _ => 0) :=
  Pipeline.θ_run_regions_loop_kit_sems (Ix := Unit) (Name := ℕ) (U := UR sig nD τ) (Lvl := ℕ) (J := Fin 1) (P := Fin 1) (Val := Elt F)
    (pcfgs (F := F)) adm cellOf_inj defs₀ Variants.none L lv loops (tk m) m ρ main (segs m)
    (fun c Q => by
      rw [main_chain c]
      show wp _ _ _ (Pipeline.chain ((segs m).map CSeg.prog)) Q ⊢ _
      rw [segs_prog])
    (segs_disjoint m)
    (O₀ := 0) (hL := fun _ _ => rfl) (G := fun _ => iprop(emp)) (u₀ := Rounds.initOf (Pipeline.cells (Pipeline.pin (pcfgs (F := F)) adm) cellOf_inj) (Pipeline.launchToks (Pipeline.pin (pcfgs (F := F)) adm) cellOf_inj))
    (hu₀ := by
      iintro H
      imodintro
      isplitl [H]
      · rw [show (Finset.univ : Finset (Fin 1)) = {0} from rfl, BI.bigSep_singleton]; iapply (funded m); iexact H
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (ended m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = ended m c b)
    (hfin := fun c s' => by
      unfold held
      iintro ⟨Hh, HSI⟩
      ihave Hr := (pointsTo_read_all (ucRefs τ sig) (fun b => ((c : Dev nD), b)) (fun b => ended m c b) s') $$ [Hh HSI]
      · isplitl [Hh] <;> iassumption
      icases Hr with ⟨%h, HSI⟩
      imodintro
      isplitr; · ipureintro; exact h
      iexact HSI)
    (hQ := fun s h hz => ⟨fun c b hb => h c _ (StableHlo.devRef_mem_ucRefs b hb), funext fun g => hz g (.inr (by revert g; decide))⟩)

end Whole

end Cert.KernelIdeal.Rec

end
-- ==== Proof.Rec.Args.lean ====
/- No operation of the kernel's program writes an argument, so the arguments end as they were. -/
module

public import proofs.«01_k».proof.Proof.Rec.Run

@[expose] public section

set_option maxRecDepth 16384

noncomputable section

namespace Cert.KernelIdeal.Rec

open Cert.KernelIdeal Cert.KernelIdeal.Gen
open Idealize.ShloMosaic Idealize.ShloMosaic.TcCoe Idealize.ShloMosaic.Tactic
open Idealize.SL Idealize.SL.RA Idealize.SL.BI
open Idealize.ShloMosaic.StableHlo (after afterL atTrip)

variable {F : FTy → Type} [FloatOps F]

/-- The arguments of the program. -/
abbrev args : List (Ref sig .tc) := [main_arg0, main_arg1, main_arg2, main_arg3, main_arg4, main_arg5]

/-- None of the operations writes an argument. -/
def Spares (ops : List (HloOp τ sig (Elt F))) : Prop := ∀ b ∈ args, ∀ op ∈ ops, Proc.devRef .tc b ∉ op.writes

theorem Spares.after {ops : List (HloOp τ sig (Elt F))} (h : Spares ops) {b : Ref sig .tc} (hb : b ∈ args) (V : Valuation τ sig (Elt F)) :
    StableHlo.after ops V b = V b := StableHlo.after_of_forall_not_mem ops V (h b hb)

theorem spares_hostOps0 : Spares (hostOps0 (F := F)) := by
  intro b hb op hop
  fin_cases hop <;> exact fun h => StableHlo.devRef_ne_of_ne (fun e => absurd (e ▸ hb) (by decide)) (Finset.mem_singleton.mp h)
theorem spares_hostOps0_1 : Spares (hostOps0_1 (F := F)) := by
  intro b hb op hop
  fin_cases hop <;> exact fun h => StableHlo.devRef_ne_of_ne (fun e => absurd (e ▸ hb) (by decide)) (Finset.mem_singleton.mp h)
theorem spares_hostOps0_2 : Spares (hostOps0_2 (F := F)) := by
  intro b hb op hop
  fin_cases hop <;> exact fun h => StableHlo.devRef_ne_of_ne (fun e => absurd (e ▸ hb) (by decide)) (Finset.mem_singleton.mp h)
theorem spares_hostOps0_3 : Spares (hostOps0_3 (F := F)) := by
  intro b hb op hop
  fin_cases hop <;> exact fun h => StableHlo.devRef_ne_of_ne (fun e => absurd (e ▸ hb) (by decide)) (Finset.mem_singleton.mp h)
theorem spares_hostOps0_4 : Spares (hostOps0_4 (F := F)) := by
  intro b hb op hop
  fin_cases hop <;> exact fun h => StableHlo.devRef_ne_of_ne (fun e => absurd (e ▸ hb) (by decide)) (Finset.mem_singleton.mp h)
theorem spares_hostOps0_5 : Spares (hostOps0_5 (F := F)) := by
  intro b hb op hop
  fin_cases hop <;> exact fun h => StableHlo.devRef_ne_of_ne (fun e => absurd (e ▸ hb) (by decide)) (Finset.mem_singleton.mp h)
theorem spares_condOps : Spares (condOps (F := F)) := by
  intro b hb op hop
  fin_cases hop <;> exact fun h => StableHlo.devRef_ne_of_ne (fun e => absurd (e ▸ hb) (by decide)) (Finset.mem_singleton.mp h)
theorem spares_while0Ops0 : Spares (while0Ops0 (F := F)) := by
  intro b hb op hop
  fin_cases hop <;> exact fun h => StableHlo.devRef_ne_of_ne (fun e => absurd (e ▸ hb) (by decide)) (Finset.mem_singleton.mp h)
theorem spares_while0Ops0_1 : Spares (while0Ops0_1 (F := F)) := by
  intro b hb op hop
  fin_cases hop <;> exact fun h => StableHlo.devRef_ne_of_ne (fun e => absurd (e ▸ hb) (by decide)) (Finset.mem_singleton.mp h)
theorem spares_while0Ops0_2 : Spares (while0Ops0_2 (F := F)) := by
  intro b hb op hop
  fin_cases hop <;> exact fun h => StableHlo.devRef_ne_of_ne (fun e => absurd (e ▸ hb) (by decide)) (Finset.mem_singleton.mp h)
theorem spares_while0Ops0_3 : Spares (while0Ops0_3 (F := F)) := by
  intro b hb op hop
  fin_cases hop <;> exact fun h => StableHlo.devRef_ne_of_ne (fun e => absurd (e ▸ hb) (by decide)) (Finset.mem_singleton.mp h)
theorem spares_while0Ops0_4 : Spares (while0Ops0_4 (F := F)) := by
  intro b hb op hop
  fin_cases hop <;> exact fun h => StableHlo.devRef_ne_of_ne (fun e => absurd (e ▸ hb) (by decide)) (Finset.mem_singleton.mp h)

/-- A trip of the loop leaves the arguments as they are. -/
theorem trip_spares (W₀ : Dev nD → Valuation τ sig (Elt F)) (c : Dev nD) {b : Ref sig .tc} (hb : b ∈ args) :
    ∀ k, atTrip condOps bodyI W₀ k c b = W₀ c b
  | 0 => rfl
  | k + 1 => by
    show (after while0Ops0_4 (after while0Ops0_3 (after while0Ops0_2 (after while0Ops0_1 (after while0Ops0 (after condOps (atTrip condOps bodyI W₀ k c))))))) b = _
    rw [spares_while0Ops0_4.after hb, spares_while0Ops0_3.after hb, spares_while0Ops0_2.after hb, spares_while0Ops0_1.after hb, spares_while0Ops0.after hb, spares_condOps.after hb, trip_spares W₀ c hb k]

/-- The arguments are unchanged by the whole program. -/
theorem ended_args (m : (ℓ : Loc nD τ sig) → Buf (Elt F) ℓ) (c : Dev nD) {b : Ref sig .tc} (hb : b ∈ args) :
    ended m c b = m ((c.tc : Thread nD τ).loc b) := by
  refine (ended_ne m c b (fun e => absurd (e ▸ hb) (by decide)) (fun e => absurd (e ▸ hb) (by decide)) (fun e => absurd (e ▸ hb) (by decide))).trans ?_
  show after hostOps0_5 (looped m c) b = _
  rw [spares_hostOps0_5.after hb]
  show after condOps _ b = _
  rw [spares_condOps.after hb, trip_spares _ c hb]
  show after hostOps0_4 (after hostOps0_3 (after hostOps0_2 (after hostOps0_1 (after hostOps0 (StableHlo.launchContents m c))))) b = _
  rw [spares_hostOps0_4.after hb, spares_hostOps0_3.after hb, spares_hostOps0_2.after hb, spares_hostOps0_1.after hb, spares_hostOps0.after hb]

/-- Every one of the program's arguments ends as it was, and every counter is zero. -/
theorem run_args (m : (ℓ : Loc nD τ sig) → Buf (Elt F) ℓ) (ρ : Dev nD → PrngReg) :
    θ_run (defs (F := F)) (onTc (τ := τ) main) ⟨m, fun _ => 0, ρ⟩
      (fun r => (∀ (c : Dev nD), ∀ b ∈ args, r.2.mem ((c.tc : Thread nD τ).loc b) = m ((c.tc : Thread nD τ).loc b)) ∧ r.2.sem = fun _ => 0) :=
  (θ_run (defs (F := F)) _ _).mono (fun r h => ⟨fun c b hb => (h.1 c b (by revert b; decide)).trans (ended_args m c hb), h.2⟩) (run_ended m ρ)

end Cert.KernelIdeal.Rec

end
-- ==== Proof.Ref.Ops.lean ====
/- The plain gradient's program as lists of host operations: its main function's stretches around its two loops, and
   the loops' bodies. -/
module

public import proofs.«01_k».proof.Proof.Gen.ReferenceIdeal
public import Idealize.ShloMosaic.Lib.Pipeline.RegionsLoop
public import Idealize.ShloMosaic.Lib.StableHlo.RunLoop
public import Idealize.ShloMosaic.Lib.WordCmp

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Operations of the main function, part 0, stretch 0. -/
abbrev main0_0 : List (HloOp τ sig (Elt F)) :=
  [ StableHlo.nullary main_cst (constant S_ .f32 0x00000000#32),
    StableHlo.unary main_cst main_v0 (broadcastInDim S2x4096x1024 ![] bcast_S_S2x4096x1024 : (⟨S_, .f32⟩ : BufTy).Contents (Elt F) → (⟨S2x4096x1024, .f32⟩ : BufTy).Contents (Elt F)),
    StableHlo.unary main_arg1 main_v1 (broadcastInDim S1x1024 ![1] bcast_S1024_S1x1024_1 : (⟨S1024, .f32⟩ : BufTy).Contents (Elt F) → (⟨S1x1024, .f32⟩ : BufTy).Contents (Elt F)),
    StableHlo.unary main_v1 main_v2 (broadcastInDim S4096x1024 ![0, 1] bcast_S1x1024_S4096x1024_0_1 : (⟨S1x1024, .f32⟩ : BufTy).Contents (Elt F) → (⟨S4096x1024, .f32⟩ : BufTy).Contents (Elt F)),
    StableHlo.binary main_arg0 main_v2 main_v3 (addf : (⟨S4096x1024, .f32⟩ : BufTy).Contents (Elt F) → (⟨S4096x1024, .f32⟩ : BufTy).Contents (Elt F) → (⟨S4096x1024, .f32⟩ : BufTy).Contents (Elt F)),
    StableHlo.reshape main_v3 main_v4 (rfl : (.f32 : EltTy) = .f32) shapeCasts_S4096x1024_S4096x4x256,
    StableHlo.binary main_arg2 main_v4 main_v5 ((fun l r => Host.dotGeneral dot_S2x4x256x256_S4096x4x256_S4x2x256x4096_2_2_03_0_1_1 none l r) : (⟨S2x4x256x256, .f32⟩ : BufTy).Contents (Elt F) → (⟨S4096x4x256, .f32⟩ : BufTy).Contents (Elt F) → (⟨S4x2x256x4096, .f32⟩ : BufTy).Contents (Elt F)),
    StableHlo.unary main_v5 main_v6 ((transpose S2x4096x4x256 [1, 3, 0, 2] · transposes_S4x2x256x4096_S2x4096x4x256_1_3_0_2) : (⟨S4x2x256x4096, .f32⟩ : BufTy).Contents (Elt F) → (⟨S2x4096x4x256, .f32⟩ : BufTy).Contents (Elt F)),
    StableHlo.reshape main_v6 main_v7 (rfl : (.f32 : EltTy) = .f32) shapeCasts_S2x4096x4x256_S2x4096x1024,
    StableHlo.unary main_arg3 main_v8 (broadcastInDim S2x1x1024 ![0, 2] bcast_S2x1024_S2x1x1024_0_2 : (⟨S2x1024, .f32⟩ : BufTy).Contents (Elt F) → (⟨S2x1x1024, .f32⟩ : BufTy).Contents (Elt F)),
    StableHlo.unary main_v8 main_v9 (broadcastInDim S2x4096x1024 ![0, 1, 2] bcast_S2x1x1024_S2x4096x1024_0_1_2 : (⟨S2x1x1024, .f32⟩ : BufTy).Contents (Elt F) → (⟨S2x4096x1024, .f32⟩ : BufTy).Contents (Elt F)),
    StableHlo.binary main_v7 main_v9 main_v10 (addf : (⟨S2x4096x1024, .f32⟩ : BufTy).Contents (Elt F) → (⟨S2x4096x1024, .f32⟩ : BufTy).Contents (Elt F) → (⟨S2x4096x1024, .f32⟩ : BufTy).Contents (Elt F)),
    StableHlo.binary main_v10 main_v0 main_v11 (addf : (⟨S2x4096x1024, .f32⟩ : BufTy).Contents (Elt F) → (⟨S2x4096x1024, .f32⟩ : BufTy).Contents (Elt F) → (⟨S2x4096x1024, .f32⟩ : BufTy).Contents (Elt F)),
    StableHlo.unary main_v11 main_v12 (Host.negf : (⟨S2x4096x1024, .f32⟩ : BufTy).Contents (Elt F) → (⟨S2x4096x1024, .f32⟩ : BufTy).Contents (Elt F)),
    StableHlo.unary main_v12 main_v13 (Host.exp : (⟨S2x4096x1024, .f32⟩ : BufTy).Contents (Elt F) → (⟨S2x4096x1024, .f32⟩ : BufTy).Contents (Elt F)),
    StableHlo.nullary main_cst_0 (constant S_ .f32 0x3F800000#32),
    StableHlo.unary main_cst_0 main_v14 (broadcastInDim S2x4096x1024 ![] bcast_S_S2x4096x1024 : (⟨S_, .f32⟩ : BufTy).Contents (Elt F) → (⟨S2x4096x1024, .f32⟩ : BufTy).Contents (Elt F)),
    StableHlo.binary main_v14 main_v13 main_v15 (addf : (⟨S2x4096x1024, .f32⟩ : BufTy).Contents (Elt F) → (⟨S2x4096x1024, .f32⟩ : BufTy).Contents (Elt F) → (⟨S2x4096x1024, .f32⟩ : BufTy).Contents (Elt F)),
    StableHlo.nullary main_cst_1 (constant S_ .f32 0x3F800000#32),
    StableHlo.unary main_cst_1 main_v16 (broadcastInDim S2x4096x1024 ![] bcast_S_S2x4096x1024 : (⟨S_, .f32⟩ : BufTy).Contents (Elt F) → (⟨S2x4096x1024, .f32⟩ : BufTy).Contents (Elt F)),
    StableHlo.binary main_v16 main_v15 main_v17 (Host.divf : (⟨S2x4096x1024, .f32⟩ : BufTy).Contents (Elt F) → (⟨S2x4096x1024, .f32⟩ : BufTy).Contents (Elt F) → (⟨S2x4096x1024, .f32⟩ : BufTy).Contents (Elt F)),
    StableHlo.nullary main_cst_2 (constant S_ .f32 0x3F800000#32),
    StableHlo.unary main_cst_2 main_v18 (broadcastInDim S2x4096x1024 ![] bcast_S_S2x4096x1024 : (⟨S_, .f32⟩ : BufTy).Contents (Elt F) → (⟨S2x4096x1024, .f32⟩ : BufTy).Contents (Elt F)),
    StableHlo.binary main_v18 main_v17 main_v19 (subf : (⟨S2x4096x1024, .f32⟩ : BufTy).Contents (Elt F) → (⟨S2x4096x1024, .f32⟩ : BufTy).Contents (Elt F) → (⟨S2x4096x1024, .f32⟩ : BufTy).Contents (Elt F)),
    StableHlo.binary main_v17 main_v19 main_v20 (mulf : (⟨S2x4096x1024, .f32⟩ : BufTy).Contents (Elt F) → (⟨S2x4096x1024, .f32⟩ : BufTy).Contents (Elt F) → (⟨S2x4096x1024, .f32⟩ : BufTy).Contents (Elt F)),
    StableHlo.unary main_v17 main_v21 ((extractStridedSlice S1x4096x1024 ![0, 0, 0] · slices_S2x4096x1024_S1x4096x1024_0_0_0) : (⟨S2x4096x1024, .f32⟩ : BufTy).Contents (Elt F) → (⟨S1x4096x1024, .f32⟩ : BufTy).Contents (Elt F)),
    StableHlo.reshape main_v21 main_v22 (rfl : (.f32 : EltTy) = .f32) shapeCasts_S1x4096x1024_S4096x1024,
    StableHlo.unary main_v17 main_v23 ((extractStridedSlice S1x4096x1024 ![1, 0, 0] · slices_S2x4096x1024_S1x4096x1024_1_0_0) : (⟨S2x4096x1024, .f32⟩ : BufTy).Contents (Elt F) → (⟨S1x4096x1024, .f32⟩ : BufTy).Contents (Elt F)),
    StableHlo.reshape main_v23 main_v24 (rfl : (.f32 : EltTy) = .f32) shapeCasts_S1x4096x1024_S4096x1024,
    StableHlo.nullary main_cst_3 (constant S_ .f32 0xC1000000#32),
    StableHlo.unary main_cst_3 main_v25 (broadcastInDim S4096x1024 ![] bcast_S_S4096x1024 : (⟨S_, .f32⟩ : BufTy).Contents (Elt F) → (⟨S4096x1024, .f32⟩ : BufTy).Contents (Elt F)),
    StableHlo.binary main_v25 main_v24 main_v26 (mulf : (⟨S4096x1024, .f32⟩ : BufTy).Contents (Elt F) → (⟨S4096x1024, .f32⟩ : BufTy).Contents (Elt F) → (⟨S4096x1024, .f32⟩ : BufTy).Contents (Elt F)),
    StableHlo.unary main_arg4 main_v27 (Host.negf : (⟨S1024, .f32⟩ : BufTy).Contents (Elt F) → (⟨S1024, .f32⟩ : BufTy).Contents (Elt F)) ]

theorem main0_0_sub : (main0_0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.binary_bufs_sub .., StableHlo.reshape_bufs_sub .., StableHlo.binary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.unary_bufs_sub ..⟩

/-- Operations of the main function, part 0, stretch 1. -/
abbrev main0_1 : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S1024, .f32⟩) (broadcastInDim S1024 ![] bcast_S_S1024),
    StableHlo.TRef.binary (.of main_v27 : StableHlo.TRef sig ⟨S1024, .f32⟩) (.of main_call0_v0 : StableHlo.TRef sig ⟨S1024, .f32⟩) (.of main_call0_v1 : StableHlo.TRef sig ⟨S1024, .f32⟩) maximumf,
    StableHlo.TRef.unary (.of main_call0_cst : StableHlo.TRef sig ⟨S_, .f32⟩) (.of main_call0_v2 : StableHlo.TRef sig ⟨S1024, .f32⟩) (broadcastInDim S1024 ![] bcast_S_S1024),
    StableHlo.TRef.binary (.of main_v27 : StableHlo.TRef sig ⟨S1024, .f32⟩) (.of main_call0_v2 : StableHlo.TRef sig ⟨S1024, .f32⟩) (.of main_call0_v3 : StableHlo.TRef sig ⟨S1024, .f32⟩) subf,
    StableHlo.TRef.binary (.of main_call0_v3 : StableHlo.TRef sig ⟨S1024, .f32⟩) (.of main_call0_v3 : StableHlo.TRef sig ⟨S1024, .f32⟩) (.of main_call0_v4 : StableHlo.TRef sig ⟨S1024, .i1⟩) (cmpf .une),
    StableHlo.TRef.unary (.of main_call0_cst : StableHlo.TRef sig ⟨S_, .f32⟩) (.of main_call0_v5 : StableHlo.TRef sig ⟨S1024, .f32⟩) (broadcastInDim S1024 ![] bcast_S_S1024),
    StableHlo.TRef.binary (.of main_v27 : StableHlo.TRef sig ⟨S1024, .f32⟩) (.of main_call0_v5 : StableHlo.TRef sig ⟨S1024, .f32⟩) (.of main_call0_v6 : StableHlo.TRef sig ⟨S1024, .f32⟩) addf,
    StableHlo.TRef.unary (.of main_call0_v3 : StableHlo.TRef sig ⟨S1024, .f32⟩) (.of main_call0_v7 : StableHlo.TRef sig ⟨S1024, .f32⟩) Host.absf,
    StableHlo.TRef.unary (.of main_call0_v7 : StableHlo.TRef sig ⟨S1024, .f32⟩) (.of main_call0_v8 : StableHlo.TRef sig ⟨S1024, .f32⟩) Host.negf,
    StableHlo.TRef.unary (.of main_call0_v8 : StableHlo.TRef sig ⟨S1024, .f32⟩) (.of main_call0_v9 : StableHlo.TRef sig ⟨S1024, .f32⟩) Host.exp,
    StableHlo.TRef.unary (.of main_call0_v9 : StableHlo.TRef sig ⟨S1024, .f32⟩) (.of main_call0_v10 : StableHlo.TRef sig ⟨S1024, .f32⟩) Host.log1p,
    StableHlo.TRef.binary (.of main_call0_v1 : StableHlo.TRef sig ⟨S1024, .f32⟩) (.of main_call0_v10 : StableHlo.TRef sig ⟨S1024, .f32⟩) (.of main_call0_v11 : StableHlo.TRef sig ⟨S1024, .f32⟩) addf,
    StableHlo.TRef.ternary (.of main_call0_v4 : StableHlo.TRef sig ⟨S1024, .i1⟩) (.of main_call0_v6 : StableHlo.TRef sig ⟨S1024, .f32⟩) (.of main_call0_v11 : StableHlo.TRef sig ⟨S1024, .f32⟩) (.of main_v28_0 : StableHlo.TRef sig ⟨S1024, .f32⟩) select,
    StableHlo.TRef.nullary (.of main_call0_cst_0 : StableHlo.TRef sig ⟨S_, .f32⟩) (constant S_ .f32 0x7F800000#32),
    StableHlo.TRef.unary (.of main_call0_cst_0 : StableHlo.TRef sig ⟨S_, .f32⟩) (.of main_call0_v13 : StableHlo.TRef sig ⟨S1024, .f32⟩) (broadcastInDim S1024 ![] bcast_S_S1024),
    StableHlo.TRef.binary (.of main_v27 : StableHlo.TRef sig ⟨S1024, .f32⟩) (.of main_call0_v13 : StableHlo.TRef sig ⟨S1024, .f32⟩) (.of main_call0_v14 : StableHlo.TRef sig ⟨S1024, .i1⟩) (cmpf .oeq),
    StableHlo.TRef.nullary (.of main_call0_cst_1 : StableHlo.TRef sig ⟨S_, .f32⟩) (constant S_ .f32 0x00000000#32),
    StableHlo.TRef.unary (.of main_call0_cst_1 : StableHlo.TRef sig ⟨S_, .f32⟩) (.of main_call0_v15 : StableHlo.TRef sig ⟨S1024, .f32⟩) (broadcastInDim S1024 ![] bcast_S_S1024),
    StableHlo.TRef.ternary (.of main_call0_v14 : StableHlo.TRef sig ⟨S1024, .i1⟩) (.of main_call0_v15 : StableHlo.TRef sig ⟨S1024, .f32⟩) (.of main_v27 : StableHlo.TRef sig ⟨S1024, .f32⟩) (.of main_call0_v16 : StableHlo.TRef sig ⟨S1024, .f32⟩) select,
    StableHlo.TRef.nullary (.of main_call0_cst_2 : StableHlo.TRef sig ⟨S_, .f32⟩) (constant S_ .f32 0x7F800000#32),
    StableHlo.TRef.unary (.of main_call0_cst_2 : StableHlo.TRef sig ⟨S_, .f32⟩) (.of main_call0_v17 : StableHlo.TRef sig ⟨S1024, .f32⟩) (broadcastInDim S1024 ![] bcast_S_S1024),
    StableHlo.TRef.binary (.of main_v28_0 : StableHlo.TRef sig ⟨S1024, .f32⟩) (.of main_call0_v17 : StableHlo.TRef sig ⟨S1024, .f32⟩) (.of main_call0_v18 : StableHlo.TRef sig ⟨S1024, .i1⟩) (cmpf .oeq),
    StableHlo.TRef.nullary (.of main_call0_cst_3 : StableHlo.TRef sig ⟨S_, .f32⟩) (constant S_ .f32 0x00000000#32),
    StableHlo.TRef.unary (.of main_call0_cst_3 : StableHlo.TRef sig ⟨S_, .f32⟩) (.of main_call0_v19 : StableHlo.TRef sig ⟨S1024, .f32⟩) (broadcastInDim S1024 ![] bcast_S_S1024),
    StableHlo.TRef.ternary (.of main_call0_v18 : StableHlo.TRef sig ⟨S1024, .i1⟩) (.of main_call0_v19 : StableHlo.TRef sig ⟨S1024, .f32⟩) (.of main_v28_0 : StableHlo.TRef sig ⟨S1024, .f32⟩) (.of main_call0_v20 : StableHlo.TRef sig ⟨S1024, .f32⟩) select,
    StableHlo.TRef.binary (.of main_call0_v16 : StableHlo.TRef sig ⟨S1024, .f32⟩) (.of main_call0_v20 : StableHlo.TRef sig ⟨S1024, .f32⟩) (.of main_call0_v21 : StableHlo.TRef sig ⟨S1024, .f32⟩) subf,
    StableHlo.TRef.unary (.of main_call0_v21 : StableHlo.TRef sig ⟨S1024, .f32⟩) (.of main_v28_1 : StableHlo.TRef sig ⟨S1024, .f32⟩) Host.exp,
    StableHlo.TRef.nullary (.of main_call0_cst_4 : StableHlo.TRef sig ⟨S_, .f32⟩) (constant S_ .f32 0x00000000#32),
    StableHlo.TRef.nullary (.of main_call0_cst_5 : StableHlo.TRef sig ⟨S_, .f32⟩) (constant S_ .f32 0x7F800000#32),
    StableHlo.TRef.binary (.of main_call0_cst_4 : StableHlo.TRef sig ⟨S_, .f32⟩) (.of main_call0_cst_5 : StableHlo.TRef sig ⟨S_, .f32⟩) (.of main_call0_v23 : StableHlo.TRef sig ⟨S_, .i1⟩) (cmpf .oeq),
    StableHlo.TRef.nullary (.of main_call0_cst_6 : StableHlo.TRef sig ⟨S_, .f32⟩) (constant S_ .f32 0x00000000#32),
    StableHlo.TRef.nullary (.of main_call0_cst_7 : StableHlo.TRef sig ⟨S_, .f32⟩) (constant S_ .f32 0x00000000#32),
    StableHlo.TRef.ternary (.of main_call0_v23 : StableHlo.TRef sig ⟨S_, .i1⟩) (.of main_call0_cst_7 : StableHlo.TRef sig ⟨S_, .f32⟩) (.of main_call0_cst_6 : StableHlo.TRef sig ⟨S_, .f32⟩) (.of main_call0_v24 : StableHlo.TRef sig ⟨S_, .f32⟩) select,
    StableHlo.TRef.nullary (.of main_call0_cst_8 : StableHlo.TRef sig ⟨S_, .f32⟩) (constant S_ .f32 0x7F800000#32),
    StableHlo.TRef.unary (.of main_call0_cst_8 : StableHlo.TRef sig ⟨S_, .f32⟩) (.of main_call0_v25 : StableHlo.TRef sig ⟨S1024, .f32⟩) (broadcastInDim S1024 ![] bcast_S_S1024),
    StableHlo.TRef.binary (.of main_v28_0 : StableHlo.TRef sig ⟨S1024, .f32⟩) (.of main_call0_v25 : StableHlo.TRef sig ⟨S1024, .f32⟩) (.of main_call0_v26 : StableHlo.TRef sig ⟨S1024, .i1⟩) (cmpf .oeq),
    StableHlo.TRef.nullary (.of main_call0_cst_9 : StableHlo.TRef sig ⟨S_, .f32⟩) (constant S_ .f32 0x00000000#32),
    StableHlo.TRef.unary (.of main_call0_cst_9 : StableHlo.TRef sig ⟨S_, .f32⟩) (.of main_call0_v27 : StableHlo.TRef sig ⟨S1024, .f32⟩) (broadcastInDim S1024 ![] bcast_S_S1024),
    StableHlo.TRef.ternary (.of main_call0_v26 : StableHlo.TRef sig ⟨S1024, .i1⟩) (.of main_call0_v27 : StableHlo.TRef sig ⟨S1024, .f32⟩) (.of main_v28_0 : StableHlo.TRef sig ⟨S1024, .f32⟩) (.of main_call0_v28 : StableHlo.TRef sig ⟨S1024, .f32⟩) select,
    StableHlo.TRef.unary (.of main_call0_v24 : StableHlo.TRef sig ⟨S_, .f32⟩) (.of main_call0_v29 : StableHlo.TRef sig ⟨S1024, .f32⟩) (broadcastInDim S1024 ![] bcast_S_S1024),
    StableHlo.TRef.binary (.of main_call0_v29 : StableHlo.TRef sig ⟨S1024, .f32⟩) (.of main_call0_v28 : StableHlo.TRef sig ⟨S1024, .f32⟩) (.of main_call0_v30 : StableHlo.TRef sig ⟨S1024, .f32⟩) subf,
    StableHlo.TRef.unary (.of main_call0_v30 : StableHlo.TRef sig ⟨S1024, .f32⟩) (.of main_call0_v31 : StableHlo.TRef sig ⟨S1024, .f32⟩) Host.exp,
    StableHlo.TRef.nullary (.of main_call0_cst_10 : StableHlo.TRef sig ⟨S_, .f32⟩) (constant S_ .f32 0x00000000#32),
    StableHlo.TRef.unary (.of main_call0_cst_10 : StableHlo.TRef sig ⟨S_, .f32⟩) (.of main_call0_v32 : StableHlo.TRef sig ⟨S1024, .f32⟩) (broadcastInDim S1024 ![] bcast_S_S1024),
    StableHlo.TRef.binary (.of main_call0_v32 : StableHlo.TRef sig ⟨S1024, .f32⟩) (.of main_call0_v31 : StableHlo.TRef sig ⟨S1024, .f32⟩) (.of main_v28_2 : StableHlo.TRef sig ⟨S1024, .f32⟩) mulf ]

theorem main0_1_sub : (main0_1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.binary_bufs_sub .., StableHlo.unary_bufs_sub .., StableHlo.nullary_bufs_sub .., StableHlo.nullary_bufs_sub .., StableHlo.binary_bufs_sub .., StableHlo.nullary_bufs_sub .., StableHlo.nullary_bufs_sub .., StableHlo.ternary_bufs_sub .., StableHlo.nullary_bufs_sub .., StableHlo.unary_bufs_sub .., StableHlo.binary_bufs_sub .., StableHlo.nullary_bufs_sub .., StableHlo.unary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub ..⟩

/-- Operations of the main function, part 0, stretch 2. -/
abbrev main0_2 : List (HloOp τ sig (Elt F)) :=
  [ StableHlo.unary main_v28_0 main_v29 (broadcastInDim S1x1024 ![1] bcast_S1024_S1x1024_1 : (⟨S1024, .f32⟩ : BufTy).Contents (Elt F) → (⟨S1x1024, .f32⟩ : BufTy).Contents (Elt F)),
    StableHlo.unary main_v29 main_v30 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v26 main_v30 main_v31 (mulf : (⟨S4096x1024, .f32⟩ : BufTy).Contents (Elt F) → (⟨S4096x1024, .f32⟩ : BufTy).Contents (Elt F) → (⟨S4096x1024, .f32⟩ : BufTy).Contents (Elt F)),
    StableHlo.unary main_v31 main_v32 (Host.exp : (⟨S4096x1024, .f32⟩ : BufTy).Contents (Elt F) → (⟨S4096x1024, .f32⟩ : BufTy).Contents (Elt F)),
    StableHlo.nullary main_cst_4 (constant S_ .f32 0x40000000#32),
    StableHlo.unary main_cst_4 main_v33 (broadcastInDim S4096x1024 ![] bcast_S_S4096x1024 : (⟨S_, .f32⟩ : BufTy).Contents (Elt F) → (⟨S4096x1024, .f32⟩ : BufTy).Contents (Elt F)),
    StableHlo.binary main_v33 main_v31 main_v34 (mulf : (⟨S4096x1024, .f32⟩ : BufTy).Contents (Elt F) → (⟨S4096x1024, .f32⟩ : BufTy).Contents (Elt F) → (⟨S4096x1024, .f32⟩ : BufTy).Contents (Elt F)),
    StableHlo.unary main_v34 main_v35 (Host.expm1 : (⟨S4096x1024, .f32⟩ : BufTy).Contents (Elt F) → (⟨S4096x1024, .f32⟩ : BufTy).Contents (Elt F)),
    StableHlo.unary main_v34 main_v36 (Host.exp : (⟨S4096x1024, .f32⟩ : BufTy).Contents (Elt F) → (⟨S4096x1024, .f32⟩ : BufTy).Contents (Elt F)),
    StableHlo.unary main_v35 main_v37 (Host.negf : (⟨S4096x1024, .f32⟩ : BufTy).Contents (Elt F) → (⟨S4096x1024, .f32⟩ : BufTy).Contents (Elt F)),
    StableHlo.unary main_v37 main_v38 (Host.sqrt : (⟨S4096x1024, .f32⟩ : BufTy).Contents (Elt F) → (⟨S4096x1024, .f32⟩ : BufTy).Contents (Elt F)),
    StableHlo.nullary main_cst_5 (constant S_ .f32 0x3F000000#32),
    StableHlo.unary main_cst_5 main_v39 (broadcastInDim S4096x1024 ![] bcast_S_S4096x1024 : (⟨S_, .f32⟩ : BufTy).Contents (Elt F) → (⟨S4096x1024, .f32⟩ : BufTy).Contents (Elt F)),
    StableHlo.binary main_v39 main_v38 main_v40 (Host.divf : (⟨S4096x1024, .f32⟩ : BufTy).Contents (Elt F) → (⟨S4096x1024, .f32⟩ : BufTy).Contents (Elt F) → (⟨S4096x1024, .f32⟩ : BufTy).Contents (Elt F)),
    StableHlo.nullary main_v41 (iotaInDim S4096 32 0),
    StableHlo.nullary main_c (constantI S_ 32 0#32),
    StableHlo.unary main_c main_v42 (broadcastInDim S4096 ![] bcast_S_S4096 : (⟨S_, .i32⟩ : BufTy).Contents (Elt F) → (⟨S4096, .i32⟩ : BufTy).Contents (Elt F)),
    StableHlo.binary main_v41 main_v42 main_v43 (cmpi .eq : (⟨S4096, .i32⟩ : BufTy).Contents (Elt F) → (⟨S4096, .i32⟩ : BufTy).Contents (Elt F) → (⟨S4096, .i1⟩ : BufTy).Contents (Elt F)),
    StableHlo.unary main_v43 main_v44 (broadcastInDim S4096x1 ![0] bcast_S4096_S4096x1_0 : (⟨S4096, .i1⟩ : BufTy).Contents (Elt F) → (⟨S4096x1, .i1⟩ : BufTy).Contents (Elt F)),
    StableHlo.nullary main_cst_6 (constant S_ .f32 0x3F800000#32) ]

theorem main0_2_sub : (main0_2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.nullary_bufs_sub .., StableHlo.unary_bufs_sub .., StableHlo.binary_bufs_sub .., StableHlo.unary_bufs_sub .., StableHlo.nullary_bufs_sub ..⟩

/-- Operations of the main function, part 0, stretch 3. -/
abbrev main0_3 : List (HloOp τ sig (Elt F)) :=
  [ StableHlo.TRef.unary (.of main_cst_6 : StableHlo.TRef sig ⟨S_, .f32⟩) (.of main_call1_v0 : StableHlo.TRef sig ⟨S_, .f32⟩) id,
    StableHlo.TRef.unary (.of main_v44 : StableHlo.TRef sig ⟨S4096x1, .i1⟩) (.of main_v45_1 : StableHlo.TRef sig ⟨S4096x1024, .i1⟩) (broadcastInDim S4096x1024 ![0, 1] bcast_S4096x1_S4096x1024_0_1),
    StableHlo.TRef.unary (.of main_call1_v0 : StableHlo.TRef sig ⟨S_, .f32⟩) (.of main_call1_v2 : StableHlo.TRef sig ⟨S4096x1024, .f32⟩) (broadcastInDim S4096x1024 ![] bcast_S_S4096x1024),
    StableHlo.TRef.ternary (.of main_v45_1 : StableHlo.TRef sig ⟨S4096x1024, .i1⟩) (.of main_call1_v2 : StableHlo.TRef sig ⟨S4096x1024, .f32⟩) (.of main_v38 : StableHlo.TRef sig ⟨S4096x1024, .f32⟩) (.of main_v45_0 : StableHlo.TRef sig ⟨S4096x1024, .f32⟩) select,
    StableHlo.TRef.nullary (.of main_call1_cst : StableHlo.TRef sig ⟨S_, .f32⟩) (constant S_ .f32 0x00000000#32),
    StableHlo.TRef.unary (.of main_call1_cst : StableHlo.TRef sig ⟨S_, .f32⟩) (.of main_v45_2 : StableHlo.TRef sig ⟨S4096x1024, .f32⟩) (broadcastInDim S4096x1024 ![] bcast_S_S4096x1024) ]

theorem main0_3_sub : (main0_3 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub .., StableHlo.nullary_bufs_sub .., StableHlo.unary_bufs_sub ..⟩

/-- Operations of the main function, part 0, stretch 4. -/
abbrev main0_4 : List (HloOp τ sig (Elt F)) :=
  [ StableHlo.binary main_v3 main_v22 main_v46 (mulf : (⟨S4096x1024, .f32⟩ : BufTy).Contents (Elt F) → (⟨S4096x1024, .f32⟩ : BufTy).Contents (Elt F) → (⟨S4096x1024, .f32⟩ : BufTy).Contents (Elt F)),
    StableHlo.binary main_v46 main_v45_0 main_v47 (mulf : (⟨S4096x1024, .f32⟩ : BufTy).Contents (Elt F) → (⟨S4096x1024, .f32⟩ : BufTy).Contents (Elt F) → (⟨S4096x1024, .f32⟩ : BufTy).Contents (Elt F)),
    StableHlo.nullary main_cst_7 (constant S_ .f32 0x00000000#32),
    StableHlo.unary main_cst_7 main_v48 (broadcastInDim S1024 ![] bcast_S_S1024 : (⟨S_, .f32⟩ : BufTy).Contents (Elt F) → (⟨S1024, .f32⟩ : BufTy).Contents (Elt F)),
    StableHlo.nullary main_cst_8 (constant S_ .f32 0x00000000#32) ]

theorem main0_4_sub : (main0_4 : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.nullary_bufs_sub ..⟩

/-- Operations of the main function, part 1, stretch 0. -/
abbrev main1_0 : List (HloOp τ sig (Elt F)) :=
  [ StableHlo.unary main_cst_8 main_v49 (broadcastInDim S4096x1024 ![] bcast_S_S4096x1024 : (⟨S_, .f32⟩ : BufTy).Contents (Elt F) → (⟨S4096x1024, .f32⟩ : BufTy).Contents (Elt F)),
    StableHlo.nullary main_cst_9 (constant S_ .f32 0x00000000#32),
    StableHlo.unary main_cst_9 main_v50 (broadcastInDim S4096x1024 ![] bcast_S_S4096x1024 : (⟨S_, .f32⟩ : BufTy).Contents (Elt F) → (⟨S4096x1024, .f32⟩ : BufTy).Contents (Elt F)),
    StableHlo.nullary main_c_10 (constantI S_ 32 0#32),
    StableHlo.unary main_v32 main_v51_0 id,
    StableHlo.unary main_v47 main_v51_1 id,
    StableHlo.unary main_c_10 main_v51_2 id,
    StableHlo.unary main_v48 main_v51_3 id,
    StableHlo.unary main_v49 main_v51_4 id,
    StableHlo.unary main_v50 main_v51_5 id ]

theorem main1_0_sub : (main1_0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- Operations of the main function, part 1, stretch 2. -/
abbrev main1_2 : List (HloOp τ sig (Elt F)) :=
  [ StableHlo.nullary main_cst_11 (constant S_ .f32 0x00000000#32),
    StableHlo.unary main_cst_11 main_v52 (broadcastInDim S1024 ![] bcast_S_S1024 : (⟨S_, .f32⟩ : BufTy).Contents (Elt F) → (⟨S1024, .f32⟩ : BufTy).Contents (Elt F)),
    StableHlo.nullary main_cst_12 (constant S_ .f32 0x00000000#32),
    StableHlo.unary main_cst_12 main_v53 (broadcastInDim S1024 ![] bcast_S_S1024 : (⟨S_, .f32⟩ : BufTy).Contents (Elt F) → (⟨S1024, .f32⟩ : BufTy).Contents (Elt F)),
    StableHlo.nullary main_cst_13 (constant S_ .f32 0x00000000#32),
    StableHlo.unary main_cst_13 main_v54 (broadcastInDim S4096x1024 ![] bcast_S_S4096x1024 : (⟨S_, .f32⟩ : BufTy).Contents (Elt F) → (⟨S4096x1024, .f32⟩ : BufTy).Contents (Elt F)),
    StableHlo.nullary main_cst_14 (constant S_ .f32 0x00000000#32),
    StableHlo.unary main_cst_14 main_v55 (broadcastInDim S4096x1024 ![] bcast_S_S4096x1024 : (⟨S_, .f32⟩ : BufTy).Contents (Elt F) → (⟨S4096x1024, .f32⟩ : BufTy).Contents (Elt F)),
    StableHlo.nullary main_c_15 (constantI S_ 32 0#32),
    StableHlo.unary main_arg5 main_v56_0 id,
    StableHlo.unary main_v51_5 main_v56_1 id,
    StableHlo.unary main_v32 main_v56_2 id,
    StableHlo.unary main_c_15 main_v56_3 id,
    StableHlo.unary main_v53 main_v56_4 id,
    StableHlo.unary main_v54 main_v56_5 id,
    StableHlo.unary main_v55 main_v56_6 id ]

theorem main1_2_sub : (main1_2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Operations of the main function, part 1, stretch 4. -/
abbrev main1_4 : List (HloOp τ sig (Elt F)) :=
  [ StableHlo.binary main_v46 main_v56_6 main_v57 (mulf : (⟨S4096x1024, .f32⟩ : BufTy).Contents (Elt F) → (⟨S4096x1024, .f32⟩ : BufTy).Contents (Elt F) → (⟨S4096x1024, .f32⟩ : BufTy).Contents (Elt F)),
    StableHlo.binary main_v56_6 main_v45_0 main_v58 (mulf : (⟨S4096x1024, .f32⟩ : BufTy).Contents (Elt F) → (⟨S4096x1024, .f32⟩ : BufTy).Contents (Elt F) → (⟨S4096x1024, .f32⟩ : BufTy).Contents (Elt F)),
    StableHlo.binary main_v3 main_v58 main_v59 (mulf : (⟨S4096x1024, .f32⟩ : BufTy).Contents (Elt F) → (⟨S4096x1024, .f32⟩ : BufTy).Contents (Elt F) → (⟨S4096x1024, .f32⟩ : BufTy).Contents (Elt F)),
    StableHlo.binary main_v58 main_v22 main_v60 (mulf : (⟨S4096x1024, .f32⟩ : BufTy).Contents (Elt F) → (⟨S4096x1024, .f32⟩ : BufTy).Contents (Elt F) → (⟨S4096x1024, .f32⟩ : BufTy).Contents (Elt F)) ]

theorem main1_4_sub : (main1_4 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub ..⟩

/-- Operations of the main function, part 1, stretch 5. -/
abbrev main1_5 : List (HloOp τ sig (Elt F)) :=
  [ StableHlo.TRef.nullary (.of main_call11_cst : StableHlo.TRef sig ⟨S_, .f32⟩) (constant S_ .f32 0x00000000#32),
    StableHlo.TRef.unary (.of main_call11_cst : StableHlo.TRef sig ⟨S_, .f32⟩) (.of main_call11_v0 : StableHlo.TRef sig ⟨S4096x1024, .f32⟩) (broadcastInDim S4096x1024 ![] bcast_S_S4096x1024),
    StableHlo.TRef.ternary (.of main_v45_1 : StableHlo.TRef sig ⟨S4096x1024, .i1⟩) (.of main_call11_v0 : StableHlo.TRef sig ⟨S4096x1024, .f32⟩) (.of main_v57 : StableHlo.TRef sig ⟨S4096x1024, .f32⟩) (.of main_v61 : StableHlo.TRef sig ⟨S4096x1024, .f32⟩) select ]

theorem main1_5_sub : (main1_5 : List (HloOp τ sig (Elt F))).Forall fun op => op.bufs ⊆ StableHlo.tcRefs τ sig :=
  ⟨StableHlo.nullary_bufs_sub .., StableHlo.unary_bufs_sub .., StableHlo.ternary_bufs_sub ..⟩

/-- Operations of the main function, part 1, stretch 6. -/
abbrev main1_6 : List (HloOp τ sig (Elt F)) :=
  [ StableHlo.binary main_v61 main_v40 main_v62 (mulf : (⟨S4096x1024, .f32⟩ : BufTy).Contents (Elt F) → (⟨S4096x1024, .f32⟩ : BufTy).Contents (Elt F) → (⟨S4096x1024, .f32⟩ : BufTy).Contents (Elt F)),
    StableHlo.unary main_v62 main_v63 (Host.negf : (⟨S4096x1024, .f32⟩ : BufTy).Contents (Elt F) → (⟨S4096x1024, .f32⟩ : BufTy).Contents (Elt F)),
    StableHlo.binary main_v63 main_v36 main_v64 (mulf : (⟨S4096x1024, .f32⟩ : BufTy).Contents (Elt F) → (⟨S4096x1024, .f32⟩ : BufTy).Contents (Elt F) → (⟨S4096x1024, .f32⟩ : BufTy).Contents (Elt F)),
    StableHlo.nullary main_cst_16 (constant S_ .f32 0x40000000#32),
    StableHlo.unary main_cst_16 main_v65 (broadcastInDim S4096x1024 ![] bcast_S_S4096x1024 : (⟨S_, .f32⟩ : BufTy).Contents (Elt F) → (⟨S4096x1024, .f32⟩ : BufTy).Contents (Elt F)),
    StableHlo.binary main_v65 main_v64 main_v66 (mulf : (⟨S4096x1024, .f32⟩ : BufTy).Contents (Elt F) → (⟨S4096x1024, .f32⟩ : BufTy).Contents (Elt F) → (⟨S4096x1024, .f32⟩ : BufTy).Contents (Elt F)),
    StableHlo.binary main_v56_5 main_v32 main_v67 (mulf : (⟨S4096x1024, .f32⟩ : BufTy).Contents (Elt F) → (⟨S4096x1024, .f32⟩ : BufTy).Contents (Elt F) → (⟨S4096x1024, .f32⟩ : BufTy).Contents (Elt F)),
    StableHlo.binary main_v66 main_v67 main_v68 (addf : (⟨S4096x1024, .f32⟩ : BufTy).Contents (Elt F) → (⟨S4096x1024, .f32⟩ : BufTy).Contents (Elt F) → (⟨S4096x1024, .f32⟩ : BufTy).Contents (Elt F)),
    StableHlo.binary main_v26 main_v68 main_v69 (mulf : (⟨S4096x1024, .f32⟩ : BufTy).Contents (Elt F) → (⟨S4096x1024, .f32⟩ : BufTy).Contents (Elt F) → (⟨S4096x1024, .f32⟩ : BufTy).Contents (Elt F)),
    StableHlo.nullary main_cst_17 (constant S_ .f32 0x00000000#32),
    StableHlo.binary main_v69 main_cst_17 main_v70 ((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F)),
    StableHlo.reshape main_v70 main_v71 (rfl : (.f32 : EltTy) = .f32) shapeCasts_S1024_S1x1024,
    StableHlo.unary main_v29 main_v72 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v68 main_v72 main_v73 (mulf : (⟨S4096x1024, .f32⟩ : BufTy).Contents (Elt F) → (⟨S4096x1024, .f32⟩ : BufTy).Contents (Elt F) → (⟨S4096x1024, .f32⟩ : BufTy).Contents (Elt F)),
    StableHlo.nullary main_cst_18 (constant S_ .f32 0x00000000#32),
    StableHlo.binary main_v71 main_cst_18 main_v74 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)) ]

theorem main1_6_sub : (main1_6 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.binary_bufs_sub .., StableHlo.reshape_bufs_sub .., StableHlo.unary_bufs_sub .., StableHlo.binary_bufs_sub .., StableHlo.nullary_bufs_sub .., StableHlo.binary_bufs_sub ..⟩

/-- Operations of the main function, part 1, stretch 7. -/
abbrev main1_7 : List (HloOp τ sig (Elt F)) :=
  [ StableHlo.TRef.binary (.of main_v74 : StableHlo.TRef sig ⟨S1024, .f32⟩) (.of main_v28_1 : StableHlo.TRef sig ⟨S1024, .f32⟩) (.of main_v75 : StableHlo.TRef sig ⟨S1024, .f32⟩) mulf ]

theorem main1_7_sub : (main1_7 : List (HloOp τ sig (Elt F))).Forall fun op => op.bufs ⊆ StableHlo.tcRefs τ sig :=
  StableHlo.binary_bufs_sub ..

/-- Operations of the main function, part 1, stretch 8. -/
abbrev main1_8 : List (HloOp τ sig (Elt F)) :=
  [ StableHlo.unary main_v75 main_v76 (Host.negf : (⟨S1024, .f32⟩ : BufTy).Contents (Elt F) → (⟨S1024, .f32⟩ : BufTy).Contents (Elt F)),
    StableHlo.nullary main_cst_19 (constant S_ .f32 0xC1000000#32),
    StableHlo.unary main_cst_19 main_v77 (broadcastInDim S4096x1024 ![] bcast_S_S4096x1024 : (⟨S_, .f32⟩ : BufTy).Contents (Elt F) → (⟨S4096x1024, .f32⟩ : BufTy).Contents (Elt F)),
    StableHlo.binary main_v77 main_v73 main_v78 (mulf : (⟨S4096x1024, .f32⟩ : BufTy).Contents (Elt F) → (⟨S4096x1024, .f32⟩ : BufTy).Contents (Elt F) → (⟨S4096x1024, .f32⟩ : BufTy).Contents (Elt F)),
    StableHlo.unary main_v78 main_v79 (broadcastInDim S1x4096x1024 ![1, 2] bcast_S4096x1024_S1x4096x1024_1_2 : (⟨S4096x1024, .f32⟩ : BufTy).Contents (Elt F) → (⟨S1x4096x1024, .f32⟩ : BufTy).Contents (Elt F)),
    StableHlo.nullary main_cst_20 (constant S_ .f32 0x00000000#32),
    StableHlo.binary main_v79 main_cst_20 main_v80 ((fun x v => pad S2x4096x1024 ![1, 0, 0] ![0, 0, 0] ![0, 0, 0] x v pads_S1x4096x1024_S2x4096x1024_100_000_000 h_S_) : (⟨S1x4096x1024, .f32⟩ : BufTy).Contents (Elt F) → (⟨S_, .f32⟩ : BufTy).Contents (Elt F) → (⟨S2x4096x1024, .f32⟩ : BufTy).Contents (Elt F)),
    StableHlo.unary main_v59 main_v81 (broadcastInDim S1x4096x1024 ![1, 2] bcast_S4096x1024_S1x4096x1024_1_2 : (⟨S4096x1024, .f32⟩ : BufTy).Contents (Elt F) → (⟨S1x4096x1024, .f32⟩ : BufTy).Contents (Elt F)),
    StableHlo.nullary main_cst_21 (constant S_ .f32 0x00000000#32),
    StableHlo.binary main_v81 main_cst_21 main_v82 ((fun x v => pad S2x4096x1024 ![0, 0, 0] ![1, 0, 0] ![0, 0, 0] x v pads_S1x4096x1024_S2x4096x1024_010_000_000 h_S_) : (⟨S1x4096x1024, .f32⟩ : BufTy).Contents (Elt F) → (⟨S_, .f32⟩ : BufTy).Contents (Elt F) → (⟨S2x4096x1024, .f32⟩ : BufTy).Contents (Elt F)) ]

theorem main1_8_sub : (main1_8 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.binary_bufs_sub ..⟩

/-- Operations of the main function, part 2, stretch 0. -/
abbrev main2_0 : List (HloOp τ sig (Elt F)) :=
  [ StableHlo.binary main_v80 main_v82 main_v83 (addf : (⟨S2x4096x1024, .f32⟩ : BufTy).Contents (Elt F) → (⟨S2x4096x1024, .f32⟩ : BufTy).Contents (Elt F) → (⟨S2x4096x1024, .f32⟩ : BufTy).Contents (Elt F)),
    StableHlo.binary main_v83 main_v20 main_v84 (mulf : (⟨S2x4096x1024, .f32⟩ : BufTy).Contents (Elt F) → (⟨S2x4096x1024, .f32⟩ : BufTy).Contents (Elt F) → (⟨S2x4096x1024, .f32⟩ : BufTy).Contents (Elt F)),
    StableHlo.nullary main_cst_22 (constant S_ .f32 0x00000000#32),
    StableHlo.binary main_v84 main_cst_22 main_v85 ((fun x v => Host.reduceAdd x v reducesTo_S2x4096x1024_S2x1024_d1 h_S_) : (⟨S2x4096x1024, .f32⟩ : BufTy).Contents (Elt F) → (⟨S_, .f32⟩ : BufTy).Contents (Elt F) → (⟨S2x1024, .f32⟩ : BufTy).Contents (Elt F)),
    StableHlo.reshape main_v85 main_v86 (rfl : (.f32 : EltTy) = .f32) shapeCasts_S2x1024_S2x1x1024,
    StableHlo.nullary main_cst_23 (constant S_ .f32 0x00000000#32),
    StableHlo.binary main_v86 main_cst_23 main_v87 ((fun x v => Host.reduceAdd x v reducesTo_S2x1x1024_S2x1024_d1 h_S_) : (⟨S2x1x1024, .f32⟩ : BufTy).Contents (Elt F) → (⟨S_, .f32⟩ : BufTy).Contents (Elt F) → (⟨S2x1024, .f32⟩ : BufTy).Contents (Elt F)),
    StableHlo.reshape main_v84 main_v88 (rfl : (.f32 : EltTy) = .f32) shapeCasts_S2x4096x1024_S2x4096x4x256,
    StableHlo.unary main_v88 main_v89 ((transpose S4x2x256x4096 [2, 0, 3, 1] · transposes_S2x4096x4x256_S4x2x256x4096_2_0_3_1) : (⟨S2x4096x4x256, .f32⟩ : BufTy).Contents (Elt F) → (⟨S4x2x256x4096, .f32⟩ : BufTy).Contents (Elt F)),
    StableHlo.binary main_v89 main_arg2 main_v90 ((fun l r => Host.dotGeneral dot_S4x2x256x4096_S2x4x256x256_S4x4096x256_12_03_3_2_0_1 none l r) : (⟨S4x2x256x4096, .f32⟩ : BufTy).Contents (Elt F) → (⟨S2x4x256x256, .f32⟩ : BufTy).Contents (Elt F) → (⟨S4x4096x256, .f32⟩ : BufTy).Contents (Elt F)),
    StableHlo.unary main_v90 main_v91 ((transpose S4096x4x256 [1, 0, 2] · transposes_S4x4096x256_S4096x4x256_1_0_2) : (⟨S4x4096x256, .f32⟩ : BufTy).Contents (Elt F) → (⟨S4096x4x256, .f32⟩ : BufTy).Contents (Elt F)),
    StableHlo.reshape main_v91 main_v92 (rfl : (.f32 : EltTy) = .f32) shapeCasts_S4096x4x256_S4096x1024,
    StableHlo.binary main_v60 main_v92 main_v93 (addf : (⟨S4096x1024, .f32⟩ : BufTy).Contents (Elt F) → (⟨S4096x1024, .f32⟩ : BufTy).Contents (Elt F) → (⟨S4096x1024, .f32⟩ : BufTy).Contents (Elt F)),
    StableHlo.nullary main_cst_24 (constant S_ .f32 0x00000000#32),
    StableHlo.binary main_v93 main_cst_24 main_v94 ((fun x v => Host.reduceAdd x v reducesTo_S4096x1024_S1024_d0 h_S_) : (⟨S4096x1024, .f32⟩ : BufTy).Contents (Elt F) → (⟨S_, .f32⟩ : BufTy).Contents (Elt F) → (⟨S1024, .f32⟩ : BufTy).Contents (Elt F)),
    StableHlo.reshape main_v94 main_v95 (rfl : (.f32 : EltTy) = .f32) shapeCasts_S1024_S1x1024,
    StableHlo.nullary main_cst_25 (constant S_ .f32 0x00000000#32),
    StableHlo.binary main_v95 main_cst_25 main_v96 ((fun x v => Host.reduceAdd x v reducesTo_S1x1024_S1024_d0 h_S_) : (⟨S1x1024, .f32⟩ : BufTy).Contents (Elt F) → (⟨S_, .f32⟩ : BufTy).Contents (Elt F) → (⟨S1024, .f32⟩ : BufTy).Contents (Elt F)),
    StableHlo.unary main_v84 main_v97 ((truncf .bf16 · bitsLt_bf16_f32) : (⟨S2x4096x1024, .f32⟩ : BufTy).Contents (Elt F) → (⟨S2x4096x1024, .bf16⟩ : BufTy).Contents (Elt F)),
    StableHlo.unary main_v76 main_v98 (broadcastInDim S1x1024 ![1] bcast_S1024_S1x1024_1 : (⟨S1024, .f32⟩ : BufTy).Contents (Elt F) → (⟨S1x1024, .f32⟩ : BufTy).Contents (Elt F)),
    StableHlo.unary main_v96 main_v99 (broadcastInDim S1x1024 ![1] bcast_S1024_S1x1024_1 : (⟨S1024, .f32⟩ : BufTy).Contents (Elt F) → (⟨S1x1024, .f32⟩ : BufTy).Contents (Elt F)),
    StableHlo.nullary main_cst_26 (constant S_ .f32 0x00000000#32),
    StableHlo.unary main_cst_26 main_v100 (broadcastInDim S4x1024 ![] bcast_S_S4x1024 : (⟨S_, .f32⟩ : BufTy).Contents (Elt F) → (⟨S4x1024, .f32⟩ : BufTy).Contents (Elt F)),
    StableHlo.nary ![main_v87, main_v98, main_v99, main_v100] main_v101 (fun u => (concatenate S8x1024 0 [⟨S2x1024, (u 0 : (⟨S2x1024, .f32⟩ : BufTy).Contents (Elt F))⟩, ⟨S1x1024, (u 1 : (⟨S1x1024, .f32⟩ : BufTy).Contents (Elt F))⟩, ⟨S1x1024, (u 2 : (⟨S1x1024, .f32⟩ : BufTy).Contents (Elt F))⟩, ⟨S4x1024, (u 3 : (⟨S4x1024, .f32⟩ : BufTy).Contents (Elt F))⟩] concatenates_S2x1024_S1x1024_S1x1024_S4x1024_S8x1024_d0 : (⟨S8x1024, .f32⟩ : BufTy).Contents (Elt F))) ]

theorem main2_0_sub : (main2_0 : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.reshape_bufs_sub .., StableHlo.nullary_bufs_sub .., StableHlo.binary_bufs_sub .., StableHlo.reshape_bufs_sub .., StableHlo.unary_bufs_sub .., StableHlo.binary_bufs_sub .., StableHlo.unary_bufs_sub .., StableHlo.reshape_bufs_sub .., StableHlo.binary_bufs_sub .., StableHlo.nullary_bufs_sub .., StableHlo.binary_bufs_sub .., StableHlo.reshape_bufs_sub .., StableHlo.nullary_bufs_sub .., StableHlo.binary_bufs_sub .., StableHlo.unary_bufs_sub .., StableHlo.unary_bufs_sub .., StableHlo.unary_bufs_sub .., StableHlo.nullary_bufs_sub .., StableHlo.unary_bufs_sub .., StableHlo.nary_bufs_sub ..⟩

theorem main_part0_chain (c : Dev nD) : main_part0 (F := F) c = (Pipeline.chainK
  [ StableHlo.seq main0_0,
    StableHlo.seq main0_1,
    StableHlo.seq main0_2,
    StableHlo.seq main0_3 ]
  (StableHlo.seq main0_4) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons]
  chain_rfl

theorem main_part1_chain (c : Dev nD) : main_part1 (F := F) c = (Pipeline.chainK
  [ StableHlo.seq main1_0,
    HostLoop.enter 0,
    StableHlo.seq main1_2,
    HostLoop.enter 1,
    StableHlo.seq main1_4,
    StableHlo.seq main1_5,
    StableHlo.seq main1_6,
    StableHlo.seq main1_7 ]
  (StableHlo.seq main1_8) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons]
  chain_rfl

theorem main_part2_chain (c : Dev nD) : main_part2 (F := F) c = (Pipeline.chain
  [ StableHlo.seq main2_0 ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- The main function is its stretches of operations and its two loops, in order. -/
theorem main_chain (c : Dev nD) : main (F := F) c = (Pipeline.chain
  [ StableHlo.seq main0_0,
    StableHlo.seq main0_1,
    StableHlo.seq main0_2,
    StableHlo.seq main0_3,
    StableHlo.seq main0_4,
    StableHlo.seq main1_0,
    HostLoop.enter 0,
    StableHlo.seq main1_2,
    HostLoop.enter 1,
    StableHlo.seq main1_4,
    StableHlo.seq main1_5,
    StableHlo.seq main1_6,
    StableHlo.seq main1_7,
    StableHlo.seq main1_8,
    StableHlo.seq main2_0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c) = _
  rewrite [main_part2_chain, main_part1_chain, Pipeline.chainK_bind_chain, main_part0_chain, Pipeline.chainK_bind_chain]
  chain_rfl

/-- Operations of the body of loop 0, stretch 0. -/
abbrev while0_0 : List (HloOp τ sig (Elt F)) :=
  [ StableHlo.TRef.nullary (.of main_while0b_call2_c : StableHlo.TRef sig ⟨S_, .i32⟩) (constantI S_ 32 0#32),
    StableHlo.TRef.unaryIndexed (.of main_v51_0 : StableHlo.TRef sig ⟨S4096x1024, .f32⟩) ![(.of main_v51_2 : StableHlo.TRef sig ⟨S_, .i32⟩), (.of main_while0b_call2_c : StableHlo.TRef sig ⟨S_, .i32⟩)] (.of main_while0b_call2_v0 : StableHlo.TRef sig ⟨S1x1024, .f32⟩) (fun x i => Host.dynamicSlice S1x1024 x (fun k => (i k (Shape.Idx.first h_S_)).toInt) sliceFits_S4096x1024_S1x1024),
    StableHlo.TRef.reshape (.of main_while0b_call2_v0 : StableHlo.TRef sig ⟨S1x1024, .f32⟩) (.of main_while0b_v102 : StableHlo.TRef sig ⟨S1024, .f32⟩) (rfl : (.f32 : EltTy) = .f32) shapeCasts_S1x1024_S1024 ]

theorem while0_0_sub : (while0_0 : List (HloOp τ sig (Elt F))).Forall fun op => op.bufs ⊆ StableHlo.tcRefs τ sig :=
  ⟨StableHlo.nullary_bufs_sub .., StableHlo.unaryIndexed_bufs_sub .., StableHlo.reshape_bufs_sub ..⟩

/-- Operations of the body of loop 0, stretch 1. -/
abbrev while0_1 : List (HloOp τ sig (Elt F)) :=
  [ StableHlo.TRef.nullary (.of main_while0b_call3_c : StableHlo.TRef sig ⟨S_, .i32⟩) (constantI S_ 32 0#32),
    StableHlo.TRef.unaryIndexed (.of main_v51_1 : StableHlo.TRef sig ⟨S4096x1024, .f32⟩) ![(.of main_v51_2 : StableHlo.TRef sig ⟨S_, .i32⟩), (.of main_while0b_call3_c : StableHlo.TRef sig ⟨S_, .i32⟩)] (.of main_while0b_call3_v0 : StableHlo.TRef sig ⟨S1x1024, .f32⟩) (fun x i => Host.dynamicSlice S1x1024 x (fun k => (i k (Shape.Idx.first h_S_)).toInt) sliceFits_S4096x1024_S1x1024),
    StableHlo.TRef.reshape (.of main_while0b_call3_v0 : StableHlo.TRef sig ⟨S1x1024, .f32⟩) (.of main_while0b_v103 : StableHlo.TRef sig ⟨S1024, .f32⟩) (rfl : (.f32 : EltTy) = .f32) shapeCasts_S1x1024_S1024 ]

theorem while0_1_sub : (while0_1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- Operations of the body of loop 0, stretch 2. -/
abbrev while0_2 : List (HloOp τ sig (Elt F)) :=
  [ StableHlo.binary main_while0b_v102 main_v51_3 main_while0b_v104 (mulf : (⟨S1024, .f32⟩ : BufTy).Contents (Elt F) → (⟨S1024, .f32⟩ : BufTy).Contents (Elt F) → (⟨S1024, .f32⟩ : BufTy).Contents (Elt F)),
    StableHlo.binary main_while0b_v104 main_while0b_v103 main_while0b_v105 (addf : (⟨S1024, .f32⟩ : BufTy).Contents (Elt F) → (⟨S1024, .f32⟩ : BufTy).Contents (Elt F) → (⟨S1024, .f32⟩ : BufTy).Contents (Elt F)) ]

theorem while0_2_sub : (while0_2 : List (HloOp τ sig (Elt F))).Forall fun op => op.bufs ⊆ StableHlo.tcRefs τ sig :=
  ⟨StableHlo.binary_bufs_sub .., StableHlo.binary_bufs_sub ..⟩

/-- Operations of the body of loop 0, stretch 3. -/
abbrev while0_3 : List (HloOp τ sig (Elt F)) :=
  [ StableHlo.TRef.unary (.of main_while0b_v105 : StableHlo.TRef sig ⟨S1024, .f32⟩) (.of main_while0b_call4_v0 : StableHlo.TRef sig ⟨S1x1024, .f32⟩) (broadcastInDim S1x1024 ![1] bcast_S1024_S1x1024_1),
    StableHlo.TRef.nullary (.of main_while0b_call4_c : StableHlo.TRef sig ⟨S_, .i32⟩) (constantI S_ 32 0#32),
    StableHlo.TRef.binaryIndexed (.of main_v51_4 : StableHlo.TRef sig ⟨S4096x1024, .f32⟩) (.of main_while0b_call4_v0 : StableHlo.TRef sig ⟨S1x1024, .f32⟩) ![(.of main_v51_2 : StableHlo.TRef sig ⟨S_, .i32⟩), (.of main_while0b_call4_c : StableHlo.TRef sig ⟨S_, .i32⟩)] (.of main_while0b_v106 : StableHlo.TRef sig ⟨S4096x1024, .f32⟩) (fun x u i => Host.dynamicUpdateSlice x u (fun k => (i k (Shape.Idx.first h_S_)).toInt) updateFits_S4096x1024_S1x1024) ]

theorem while0_3_sub : (while0_3 : List (HloOp τ sig (Elt F))).Forall fun op => op.bufs ⊆ StableHlo.tcRefs τ sig :=
  ⟨StableHlo.unary_bufs_sub .., StableHlo.nullary_bufs_sub .., StableHlo.binaryIndexed_bufs_sub ..⟩

/-- Operations of the body of loop 0, stretch 4. -/
abbrev while0_4 : List (HloOp τ sig (Elt F)) :=
  [ StableHlo.TRef.unary (.of main_v51_3 : StableHlo.TRef sig ⟨S1024, .f32⟩) (.of main_while0b_call5_v0 : StableHlo.TRef sig ⟨S1x1024, .f32⟩) (broadcastInDim S1x1024 ![1] bcast_S1024_S1x1024_1),
    StableHlo.TRef.nullary (.of main_while0b_call5_c : StableHlo.TRef sig ⟨S_, .i32⟩) (constantI S_ 32 0#32),
    StableHlo.TRef.binaryIndexed (.of main_v51_5 : StableHlo.TRef sig ⟨S4096x1024, .f32⟩) (.of main_while0b_call5_v0 : StableHlo.TRef sig ⟨S1x1024, .f32⟩) ![(.of main_v51_2 : StableHlo.TRef sig ⟨S_, .i32⟩), (.of main_while0b_call5_c : StableHlo.TRef sig ⟨S_, .i32⟩)] (.of main_while0b_v107 : StableHlo.TRef sig ⟨S4096x1024, .f32⟩) (fun x u i => Host.dynamicUpdateSlice x u (fun k => (i k (Shape.Idx.first h_S_)).toInt) updateFits_S4096x1024_S1x1024) ]

theorem while0_4_sub : (while0_4 : List (HloOp τ sig (Elt F))).Forall fun op => op.bufs ⊆ StableHlo.tcRefs τ sig :=
  ⟨StableHlo.unary_bufs_sub .., StableHlo.nullary_bufs_sub .., StableHlo.binaryIndexed_bufs_sub ..⟩

/-- Operations of the body of loop 0, stretch 5. -/
abbrev while0_5 : List (HloOp τ sig (Elt F)) :=
  [ StableHlo.nullary main_while0b_c_32 (constantI S_ 32 1#32),
    StableHlo.binary main_v51_2 main_while0b_c_32 main_while0b_v108 (addi : (⟨S_, .i32⟩ : BufTy).Contents (Elt F) → (⟨S_, .i32⟩ : BufTy).Contents (Elt F) → (⟨S_, .i32⟩ : BufTy).Contents (Elt F)),
    StableHlo.unary main_while0b_v108 main_v51_2 id,
    StableHlo.unary main_while0b_v105 main_v51_3 id,
    StableHlo.unary main_while0b_v106 main_v51_4 id,
    StableHlo.unary main_while0b_v107 main_v51_5 id ]

theorem while0_5_sub : (while0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem while0_chain : main_while0_body (F := F) = (Pipeline.chain
  [ StableHlo.seq while0_0,
    StableHlo.seq while0_1,
    StableHlo.seq while0_2,
    StableHlo.seq while0_3,
    StableHlo.seq while0_4,
    StableHlo.seq while0_5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl

/-- Operations of the body of loop 1, stretch 0. -/
abbrev while1_0 : List (HloOp τ sig (Elt F)) :=
  [ StableHlo.nullary main_while1b_c_33 (constantI S_ 32 4096#32),
    StableHlo.binary main_while1b_c_33 main_v56_3 main_while1b_v102 (subi : (⟨S_, .i32⟩ : BufTy).Contents (Elt F) → (⟨S_, .i32⟩ : BufTy).Contents (Elt F) → (⟨S_, .i32⟩ : BufTy).Contents (Elt F)),
    StableHlo.nullary main_while1b_c_34 (constantI S_ 32 1#32),
    StableHlo.binary main_while1b_v102 main_while1b_c_34 main_while1b_v103 (subi : (⟨S_, .i32⟩ : BufTy).Contents (Elt F) → (⟨S_, .i32⟩ : BufTy).Contents (Elt F) → (⟨S_, .i32⟩ : BufTy).Contents (Elt F)) ]

theorem while1_0_sub : (while1_0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

/-- Operations of the body of loop 1, stretch 1. -/
abbrev while1_1 : List (HloOp τ sig (Elt F)) :=
  [ StableHlo.TRef.nullary (.of main_while1b_call6_c : StableHlo.TRef sig ⟨S_, .i32⟩) (constantI S_ 32 0#32),
    StableHlo.TRef.unaryIndexed (.of main_v56_0 : StableHlo.TRef sig ⟨S4096x1024, .f32⟩) ![(.of main_while1b_v103 : StableHlo.TRef sig ⟨S_, .i32⟩), (.of main_while1b_call6_c : StableHlo.TRef sig ⟨S_, .i32⟩)] (.of main_while1b_call6_v0 : StableHlo.TRef sig ⟨S1x1024, .f32⟩) (fun x i => Host.dynamicSlice S1x1024 x (fun k => (i k (Shape.Idx.first h_S_)).toInt) sliceFits_S4096x1024_S1x1024),
    StableHlo.TRef.reshape (.of main_while1b_call6_v0 : StableHlo.TRef sig ⟨S1x1024, .f32⟩) (.of main_while1b_v104 : StableHlo.TRef sig ⟨S1024, .f32⟩) (rfl : (.f32 : EltTy) = .f32) shapeCasts_S1x1024_S1024 ]

theorem while1_1_sub : (while1_1 : List (HloOp τ sig (Elt F))).Forall fun op => op.bufs ⊆ StableHlo.tcRefs τ sig :=
  ⟨StableHlo.nullary_bufs_sub .., StableHlo.unaryIndexed_bufs_sub .., StableHlo.reshape_bufs_sub ..⟩

/-- Operations of the body of loop 1, stretch 2. -/
abbrev while1_2 : List (HloOp τ sig (Elt F)) :=
  [ StableHlo.TRef.nullary (.of main_while1b_call7_c : StableHlo.TRef sig ⟨S_, .i32⟩) (constantI S_ 32 0#32),
    StableHlo.TRef.unaryIndexed (.of main_v56_1 : StableHlo.TRef sig ⟨S4096x1024, .f32⟩) ![(.of main_while1b_v103 : StableHlo.TRef sig ⟨S_, .i32⟩), (.of main_while1b_call7_c : StableHlo.TRef sig ⟨S_, .i32⟩)] (.of main_while1b_call7_v0 : StableHlo.TRef sig ⟨S1x1024, .f32⟩) (fun x i => Host.dynamicSlice S1x1024 x (fun k => (i k (Shape.Idx.first h_S_)).toInt) sliceFits_S4096x1024_S1x1024),
    StableHlo.TRef.reshape (.of main_while1b_call7_v0 : StableHlo.TRef sig ⟨S1x1024, .f32⟩) (.of main_while1b_v105 : StableHlo.TRef sig ⟨S1024, .f32⟩) (rfl : (.f32 : EltTy) = .f32) shapeCasts_S1x1024_S1024 ]

theorem while1_2_sub : (while1_2 : List (HloOp τ sig (Elt F))).Forall fun op => op.bufs ⊆ StableHlo.tcRefs τ sig :=
  ⟨StableHlo.nullary_bufs_sub .., StableHlo.unaryIndexed_bufs_sub .., StableHlo.reshape_bufs_sub ..⟩

/-- Operations of the body of loop 1, stretch 3. -/
abbrev while1_3 : List (HloOp τ sig (Elt F)) :=
  [ StableHlo.TRef.nullary (.of main_while1b_call8_c : StableHlo.TRef sig ⟨S_, .i32⟩) (constantI S_ 32 0#32),
    StableHlo.TRef.unaryIndexed (.of main_v56_2 : StableHlo.TRef sig ⟨S4096x1024, .f32⟩) ![(.of main_while1b_v103 : StableHlo.TRef sig ⟨S_, .i32⟩), (.of main_while1b_call8_c : StableHlo.TRef sig ⟨S_, .i32⟩)] (.of main_while1b_call8_v0 : StableHlo.TRef sig ⟨S1x1024, .f32⟩) (fun x i => Host.dynamicSlice S1x1024 x (fun k => (i k (Shape.Idx.first h_S_)).toInt) sliceFits_S4096x1024_S1x1024),
    StableHlo.TRef.reshape (.of main_while1b_call8_v0 : StableHlo.TRef sig ⟨S1x1024, .f32⟩) (.of main_while1b_v106 : StableHlo.TRef sig ⟨S1024, .f32⟩) (rfl : (.f32 : EltTy) = .f32) shapeCasts_S1x1024_S1024 ]

theorem while1_3_sub : (while1_3 : List (HloOp τ sig (Elt F))).Forall fun op => op.bufs ⊆ StableHlo.tcRefs τ sig :=
  ⟨StableHlo.nullary_bufs_sub .., StableHlo.unaryIndexed_bufs_sub .., StableHlo.reshape_bufs_sub ..⟩

/-- Operations of the body of loop 1, stretch 4. -/
abbrev while1_4 : List (HloOp τ sig (Elt F)) :=
  [ StableHlo.binary main_v56_4 main_while1b_v104 main_while1b_v107 (addf : (⟨S1024, .f32⟩ : BufTy).Contents (Elt F) → (⟨S1024, .f32⟩ : BufTy).Contents (Elt F) → (⟨S1024, .f32⟩ : BufTy).Contents (Elt F)),
    StableHlo.binary main_while1b_v106 main_while1b_v107 main_while1b_v108 (mulf : (⟨S1024, .f32⟩ : BufTy).Contents (Elt F) → (⟨S1024, .f32⟩ : BufTy).Contents (Elt F) → (⟨S1024, .f32⟩ : BufTy).Contents (Elt F)),
    StableHlo.binary main_while1b_v107 main_while1b_v105 main_while1b_v109 (mulf : (⟨S1024, .f32⟩ : BufTy).Contents (Elt F) → (⟨S1024, .f32⟩ : BufTy).Contents (Elt F) → (⟨S1024, .f32⟩ : BufTy).Contents (Elt F)) ]

theorem while1_4_sub : (while1_4 : List (HloOp τ sig (Elt F))).Forall fun op => op.bufs ⊆ StableHlo.tcRefs τ sig :=
  ⟨StableHlo.binary_bufs_sub .., StableHlo.binary_bufs_sub .., StableHlo.binary_bufs_sub ..⟩

/-- Operations of the body of loop 1, stretch 5. -/
abbrev while1_5 : List (HloOp τ sig (Elt F)) :=
  [ StableHlo.TRef.unary (.of main_while1b_v109 : StableHlo.TRef sig ⟨S1024, .f32⟩) (.of main_while1b_call9_v0 : StableHlo.TRef sig ⟨S1x1024, .f32⟩) (broadcastInDim S1x1024 ![1] bcast_S1024_S1x1024_1),
    StableHlo.TRef.nullary (.of main_while1b_call9_c : StableHlo.TRef sig ⟨S_, .i32⟩) (constantI S_ 32 0#32),
    StableHlo.TRef.binaryIndexed (.of main_v56_5 : StableHlo.TRef sig ⟨S4096x1024, .f32⟩) (.of main_while1b_call9_v0 : StableHlo.TRef sig ⟨S1x1024, .f32⟩) ![(.of main_while1b_v103 : StableHlo.TRef sig ⟨S_, .i32⟩), (.of main_while1b_call9_c : StableHlo.TRef sig ⟨S_, .i32⟩)] (.of main_while1b_v110 : StableHlo.TRef sig ⟨S4096x1024, .f32⟩) (fun x u i => Host.dynamicUpdateSlice x u (fun k => (i k (Shape.Idx.first h_S_)).toInt) updateFits_S4096x1024_S1x1024) ]

theorem while1_5_sub : (while1_5 : List (HloOp τ sig (Elt F))).Forall fun op => op.bufs ⊆ StableHlo.tcRefs τ sig :=
  ⟨StableHlo.unary_bufs_sub .., StableHlo.nullary_bufs_sub .., StableHlo.binaryIndexed_bufs_sub ..⟩

/-- Operations of the body of loop 1, stretch 6. -/
abbrev while1_6 : List (HloOp τ sig (Elt F)) :=
  [ StableHlo.TRef.unary (.of main_while1b_v107 : StableHlo.TRef sig ⟨S1024, .f32⟩) (.of main_while1b_call10_v0 : StableHlo.TRef sig ⟨S1x1024, .f32⟩) (broadcastInDim S1x1024 ![1] bcast_S1024_S1x1024_1),
    StableHlo.TRef.nullary (.of main_while1b_call10_c : StableHlo.TRef sig ⟨S_, .i32⟩) (constantI S_ 32 0#32),
    StableHlo.TRef.binaryIndexed (.of main_v56_6 : StableHlo.TRef sig ⟨S4096x1024, .f32⟩) (.of main_while1b_call10_v0 : StableHlo.TRef sig ⟨S1x1024, .f32⟩) ![(.of main_while1b_v103 : StableHlo.TRef sig ⟨S_, .i32⟩), (.of main_while1b_call10_c : StableHlo.TRef sig ⟨S_, .i32⟩)] (.of main_while1b_v111 : StableHlo.TRef sig ⟨S4096x1024, .f32⟩) (fun x u i => Host.dynamicUpdateSlice x u (fun k => (i k (Shape.Idx.first h_S_)).toInt) updateFits_S4096x1024_S1x1024) ]

theorem while1_6_sub : (while1_6 : List (HloOp τ sig (Elt F))).Forall fun op => op.bufs ⊆ StableHlo.tcRefs τ sig :=
  ⟨StableHlo.unary_bufs_sub .., StableHlo.nullary_bufs_sub .., StableHlo.binaryIndexed_bufs_sub ..⟩

/-- Operations of the body of loop 1, stretch 7. -/
abbrev while1_7 : List (HloOp τ sig (Elt F)) :=
  [ StableHlo.nullary main_while1b_c_35 (constantI S_ 32 1#32),
    StableHlo.binary main_v56_3 main_while1b_c_35 main_while1b_v112 (addi : (⟨S_, .i32⟩ : BufTy).Contents (Elt F) → (⟨S_, .i32⟩ : BufTy).Contents (Elt F) → (⟨S_, .i32⟩ : BufTy).Contents (Elt F)),
    StableHlo.unary main_while1b_v112 main_v56_3 id,
    StableHlo.unary main_while1b_v108 main_v56_4 id,
    StableHlo.unary main_while1b_v110 main_v56_5 id,
    StableHlo.unary main_while1b_v111 main_v56_6 id ]

theorem while1_7_sub : (while1_7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

theorem while1_chain : main_while1_body (F := F) = (Pipeline.chain
  [ StableHlo.seq while1_0,
    StableHlo.seq while1_1,
    StableHlo.seq while1_2,
    StableHlo.seq while1_3,
    StableHlo.seq while1_4,
    StableHlo.seq while1_5,
    StableHlo.seq while1_6,
    StableHlo.seq while1_7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl

end Cert.ReferenceIdeal.Ref

end
-- ==== Proof.Ref.Run.lean ====
/- The plain gradient's run: host operations, the forward recurrence's 4096 trips, the backward recurrence's 4096 trips,
   host operations. Every buffer ends at stated contents, the arguments unchanged and every counter at zero. -/
module

public import proofs.«01_k».proof.Proof.Ref.Ops
public import Idealize.ShloMosaic.Lib.StableHlo.RunRead

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held afterL atTrip launchContents Plain segsOf loopSeg entryContents)
open Idealize.ShloMosaic.Pipeline (CSeg Ticket ucRefs sub_ucRefs)

variable {F : FTy → Type} [FloatOps F]

local notation "𝕄" => MT nD τ sig Unit (Elt F) ℕ (Option PUnit) ℕ

/-- The stretches before the first loop, -/
abbrev preI : List (List (HloOp τ sig (Elt F))) := [main0_0, main0_1, main0_2, main0_3, main0_4, main1_0]
/-- the first loop's condition -/
abbrev condA : List (HloOp τ sig (Elt F)) :=
  [ StableHlo.nullary main_while0c_c_32 (constantI S_ 32 4096#32),
    StableHlo.binary main_v51_2 main_while0c_c_32 main_while0c_v102 (cmpi .slt) ]
/-- and body, -/
abbrev bodyA : List (List (HloOp τ sig (Elt F))) := [while0_0, while0_1, while0_2, while0_3, while0_4, while0_5]
/-- the stretch between the loops, -/
abbrev midI : List (List (HloOp τ sig (Elt F))) := [main1_2]
/-- the second loop's condition -/
abbrev condB : List (HloOp τ sig (Elt F)) :=
  [ StableHlo.nullary main_while1c_c_33 (constantI S_ 32 4096#32),
    StableHlo.binary main_v56_3 main_while1c_c_33 main_while1c_v102 (cmpi .slt) ]
/-- and body, -/
abbrev bodyB : List (List (HloOp τ sig (Elt F))) := [while1_0, while1_1, while1_2, while1_3, while1_4, while1_5, while1_6, while1_7]
/-- and the stretches after it. -/
abbrev postI : List (List (HloOp τ sig (Elt F))) := [main1_4, main1_5, main1_6, main1_7, main1_8, main2_0]

theorem plain_preI : Plain (preI (F := F)) :=
    Plain.cons main0_0_sub <|
    Plain.cons main0_1_sub <|
    Plain.cons main0_2_sub <|
    Plain.cons main0_3_sub <|
    Plain.cons main0_4_sub <|
    Plain.cons main1_0_sub <| Plain.nil
theorem plain_bodyA : Plain (bodyA (F := F)) :=
    Plain.cons while0_0_sub <|
    Plain.cons while0_1_sub <|
    Plain.cons while0_2_sub <|
    Plain.cons while0_3_sub <|
    Plain.cons while0_4_sub <|
    Plain.cons while0_5_sub <| Plain.nil
theorem plain_midI : Plain (midI (F := F)) :=
    Plain.cons main1_2_sub <| Plain.nil
theorem plain_bodyB : Plain (bodyB (F := F)) :=
    Plain.cons while1_0_sub <|
    Plain.cons while1_1_sub <|
    Plain.cons while1_2_sub <|
    Plain.cons while1_3_sub <|
    Plain.cons while1_4_sub <|
    Plain.cons while1_5_sub <|
    Plain.cons while1_6_sub <|
    Plain.cons while1_7_sub <| Plain.nil
theorem plain_postI : Plain (postI (F := F)) :=
    Plain.cons main1_4_sub <|
    Plain.cons main1_5_sub <|
    Plain.cons main1_6_sub <|
    Plain.cons main1_7_sub <|
    Plain.cons main1_8_sub <|
    Plain.cons main2_0_sub <| Plain.nil

theorem notw {ops : List (HloOp τ sig (Elt F))} {b : Ref sig .tc} (h : ∀ op ∈ ops, Proc.devRef .tc b ∉ op.writes) (V : Valuation τ sig (Elt F)) :
    after ops V b = V b := StableHlo.after_of_forall_not_mem ops V h

theorem ctrA_condA : ∀ op ∈ (condA (F := F)), Proc.devRef .tc main_v51_2 ∉ op.writes := by
  intro op hop; fin_cases hop <;> exact fun h => StableHlo.devRef_ne_of_ne (by decide) (Finset.mem_singleton.mp h)
theorem ctrA_while0_0 : ∀ op ∈ (while0_0 (F := F)), Proc.devRef .tc main_v51_2 ∉ op.writes := by
  intro op hop; fin_cases hop <;> exact fun h => StableHlo.devRef_ne_of_ne (by decide) (Finset.mem_singleton.mp h)
theorem ctrA_while0_1 : ∀ op ∈ (while0_1 (F := F)), Proc.devRef .tc main_v51_2 ∉ op.writes := by
  intro op hop; fin_cases hop <;> exact fun h => StableHlo.devRef_ne_of_ne (by decide) (Finset.mem_singleton.mp h)
theorem ctrA_while0_2 : ∀ op ∈ (while0_2 (F := F)), Proc.devRef .tc main_v51_2 ∉ op.writes := by
  intro op hop; fin_cases hop <;> exact fun h => StableHlo.devRef_ne_of_ne (by decide) (Finset.mem_singleton.mp h)
theorem ctrA_while0_3 : ∀ op ∈ (while0_3 (F := F)), Proc.devRef .tc main_v51_2 ∉ op.writes := by
  intro op hop; fin_cases hop <;> exact fun h => StableHlo.devRef_ne_of_ne (by decide) (Finset.mem_singleton.mp h)
theorem ctrA_while0_4 : ∀ op ∈ (while0_4 (F := F)), Proc.devRef .tc main_v51_2 ∉ op.writes := by
  intro op hop; fin_cases hop <;> exact fun h => StableHlo.devRef_ne_of_ne (by decide) (Finset.mem_singleton.mp h)

/-- The body's last stretch leaves the counter one more than it found it. -/
theorem ctrA_last (X : Valuation τ sig (Elt F)) : after while0_5 X main_v51_2 = addi (X main_v51_2) (constantI S_ 32 1#32) := by
  rw [while0_5, StableHlo.after_cons, StableHlo.after_cons, StableHlo.after_cons, StableHlo.after_cons, StableHlo.after_cons, StableHlo.after_cons, StableHlo.after_nil]
  rw [StableHlo.unary_result_ne _ _ _ _ _ _ (by decide), StableHlo.unary_result_ne _ _ _ _ _ _ (by decide), StableHlo.unary_result_ne _ _ _ _ _ _ (by decide), StableHlo.unary_result,
    StableHlo.binary_result, StableHlo.nullary_result_ne _ _ _ _ (by decide), StableHlo.nullary_result]
  rfl

/-- Before the `k`-th run of the condition the counter is `k`, when it is zero at the loop's entry. -/
theorem trip_ctrA (W₀ : Dev nD → Valuation τ sig (Elt F)) (h0 : ∀ c, W₀ c main_v51_2 = fun _ => (0#32 : BitVec 32)) (c : Dev nD) :
    ∀ k, atTrip condA bodyA W₀ k c main_v51_2 = fun _ => (BitVec.ofNat 32 k : BitVec 32)
  | 0 => h0 c
  | k + 1 => by
    show after (while0_5 (F := F)) (after while0_4 (after while0_3 (after while0_2 (after while0_1 (after while0_0 (after condA (atTrip condA bodyA W₀ k c))))))) main_v51_2 = _
    rw [ctrA_last, notw ctrA_while0_4, notw ctrA_while0_3, notw ctrA_while0_2, notw ctrA_while0_1, notw ctrA_while0_0, notw ctrA_condA, trip_ctrA W₀ h0 c k]
    funext i
    show BitVec.ofNat 32 k + 1#32 = BitVec.ofNat 32 (k + 1)
    rw [BitVec.ofNat_add]

theorem ctrB_condB : ∀ op ∈ (condB (F := F)), Proc.devRef .tc main_v56_3 ∉ op.writes := by
  intro op hop; fin_cases hop <;> exact fun h => StableHlo.devRef_ne_of_ne (by decide) (Finset.mem_singleton.mp h)
theorem ctrB_while1_0 : ∀ op ∈ (while1_0 (F := F)), Proc.devRef .tc main_v56_3 ∉ op.writes := by
  intro op hop; fin_cases hop <;> exact fun h => StableHlo.devRef_ne_of_ne (by decide) (Finset.mem_singleton.mp h)
theorem ctrB_while1_1 : ∀ op ∈ (while1_1 (F := F)), Proc.devRef .tc main_v56_3 ∉ op.writes := by
  intro op hop; fin_cases hop <;> exact fun h => StableHlo.devRef_ne_of_ne (by decide) (Finset.mem_singleton.mp h)
theorem ctrB_while1_2 : ∀ op ∈ (while1_2 (F := F)), Proc.devRef .tc main_v56_3 ∉ op.writes := by
  intro op hop; fin_cases hop <;> exact fun h => StableHlo.devRef_ne_of_ne (by decide) (Finset.mem_singleton.mp h)
theorem ctrB_while1_3 : ∀ op ∈ (while1_3 (F := F)), Proc.devRef .tc main_v56_3 ∉ op.writes := by
  intro op hop; fin_cases hop <;> exact fun h => StableHlo.devRef_ne_of_ne (by decide) (Finset.mem_singleton.mp h)
theorem ctrB_while1_4 : ∀ op ∈ (while1_4 (F := F)), Proc.devRef .tc main_v56_3 ∉ op.writes := by
  intro op hop; fin_cases hop <;> exact fun h => StableHlo.devRef_ne_of_ne (by decide) (Finset.mem_singleton.mp h)
theorem ctrB_while1_5 : ∀ op ∈ (while1_5 (F := F)), Proc.devRef .tc main_v56_3 ∉ op.writes := by
  intro op hop; fin_cases hop <;> exact fun h => StableHlo.devRef_ne_of_ne (by decide) (Finset.mem_singleton.mp h)
theorem ctrB_while1_6 : ∀ op ∈ (while1_6 (F := F)), Proc.devRef .tc main_v56_3 ∉ op.writes := by
  intro op hop; fin_cases hop <;> exact fun h => StableHlo.devRef_ne_of_ne (by decide) (Finset.mem_singleton.mp h)

/-- The body's last stretch leaves the counter one more than it found it. -/
theorem ctrB_last (X : Valuation τ sig (Elt F)) : after while1_7 X main_v56_3 = addi (X main_v56_3) (constantI S_ 32 1#32) := by
  rw [while1_7, StableHlo.after_cons, StableHlo.after_cons, StableHlo.after_cons, StableHlo.after_cons, StableHlo.after_cons, StableHlo.after_cons, StableHlo.after_nil]
  rw [StableHlo.unary_result_ne _ _ _ _ _ _ (by decide), StableHlo.unary_result_ne _ _ _ _ _ _ (by decide), StableHlo.unary_result_ne _ _ _ _ _ _ (by decide), StableHlo.unary_result,
    StableHlo.binary_result, StableHlo.nullary_result_ne _ _ _ _ (by decide), StableHlo.nullary_result]
  rfl

/-- Before the `k`-th run of the condition the counter is `k`, when it is zero at the loop's entry. -/
theorem trip_ctrB (W₀ : Dev nD → Valuation τ sig (Elt F)) (h0 : ∀ c, W₀ c main_v56_3 = fun _ => (0#32 : BitVec 32)) (c : Dev nD) :
    ∀ k, atTrip condB bodyB W₀ k c main_v56_3 = fun _ => (BitVec.ofNat 32 k : BitVec 32)
  | 0 => h0 c
  | k + 1 => by
    show after (while1_7 (F := F)) (after while1_6 (after while1_5 (after while1_4 (after while1_3 (after while1_2 (after while1_1 (after while1_0 (after condB (atTrip condB bodyB W₀ k c))))))))) main_v56_3 = _
    rw [ctrB_last, notw ctrB_while1_6, notw ctrB_while1_5, notw ctrB_while1_4, notw ctrB_while1_3, notw ctrB_while1_2, notw ctrB_while1_1, notw ctrB_while1_0, notw ctrB_condB, trip_ctrB W₀ h0 c k]
    funext i
    show BitVec.ofNat 32 k + 1#32 = BitVec.ofNat 32 (k + 1)
    rw [BitVec.ofNat_add]

/-- The condition's comparison reads one exactly before the 4096th trip. -/
theorem pred_iff (k : ℕ) (hk : k ≤ 4096) : (IntOp.cmpi .slt (BitVec.ofNat 32 k) 4096#32 = 1#1 ↔ k < 4096) := by
  rw [WordCmp.cmpi_slt_eq, WordCmp.ofBool_eq_one_iff, decide_eq_true_iff, WordCmp.toInt_ofNat_of_lt (lt_of_le_of_lt hk (by decide)),
    show (4096#32 : BitVec 32).toInt = 4096 from by decide]
  omega

/-- Nothing is admitted, no ticket is issued and there is no level: the program launches no kernel. -/
abbrev adm : (p : Fin 0) → (pcfgs (F := F) p).Adm := fun p => p.elim0
@[inherit_doc adm] abbrev tk : Fin 0 → Ticket (Ix := Unit) (Name := ℕ) (U := Option PUnit) (Lvl := ℕ) (nD := nD) (τ := τ) (pcfgs (F := F)) adm := fun j => j.elim0
@[inherit_doc adm] abbrev L : GSem nD τ sig → Finset Unit := fun _ => ∅
@[inherit_doc adm] abbrev lv : GSem nD τ sig → Unit → ℕ := fun _ _ => 0

theorem cells_injective : Function.Injective (Pipeline.cellOf (nD := nD) (τ := τ) (Pipeline.pin (pcfgs (F := F)) adm)) := fun k => k.1.elim0

/-- What is carried beside the buffers: the core's outstanding waits. -/
abbrev Rw (c : Dev nD) : sProp 𝕄 := iprop(∃ W, owes (c : Thread nD τ) (0 : CellTallies nD τ sig Unit) W)

set_option backward.isDefEq.respectTransparency.types false in
/-- Loop 0's condition, run before trip `k`, reads one exactly while `k < 4096`. -/
theorem cond_specA (W₀ : Dev nD → Valuation τ sig (Elt F)) (h0 : ∀ c, W₀ c main_v51_2 = fun _ => (0#32 : BitVec 32)) :
    StableHlo.LoopCond (Ix := Unit) (Name := ℕ) (U := Option PUnit) (Lvl := ℕ) (pcfgs (F := F)) defs₀ Variants.none loops Rw main_while0_cond condA bodyA W₀ 4096 := by
  intro k hk c bd
  have hctr := trip_ctrA W₀ h0 c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condA bodyA W₀ k c) main_v51_2 HostLoop.idx0)
        (HloOp.result _ (atTrip condA bodyA W₀ k c) main_while0c_c_32 HostLoop.idx0) = 1#1) (k < 4096)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

set_option backward.isDefEq.respectTransparency.types false in
/-- Loop 1's condition, run before trip `k`, reads one exactly while `k < 4096`. -/
theorem cond_specB (W₀ : Dev nD → Valuation τ sig (Elt F)) (h0 : ∀ c, W₀ c main_v56_3 = fun _ => (0#32 : BitVec 32)) :
    StableHlo.LoopCond (Ix := Unit) (Name := ℕ) (U := Option PUnit) (Lvl := ℕ) (pcfgs (F := F)) defs₀ Variants.none loops Rw main_while1_cond condB bodyB W₀ 4096 := by
  intro k hk c bd
  have hctr := trip_ctrB W₀ h0 c k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condB bodyB W₀ k c) main_v56_3 HostLoop.idx0)
        (HloOp.result _ (atTrip condB bodyB W₀ k c) main_while1c_c_33 HostLoop.idx0) = 1#1) (k < 4096)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

/-! ## The whole run -/

section Whole

variable (m : (ℓ : Loc nD τ sig) → Buf (Elt F) ℓ)

/-- Every buffer at the first loop's entry, -/
abbrev enteredA (c : Dev nD) : Valuation τ sig (Elt F) := entryContents preI m c
/-- at its end, -/
abbrev loopedA (c : Dev nD) : Valuation τ sig (Elt F) := after condA (atTrip condA bodyA (enteredA m) 4096 c)
/-- at the second loop's entry, -/
abbrev enteredB (c : Dev nD) : Valuation τ sig (Elt F) := after main1_2 (loopedA m c)
/-- at its end -/
abbrev loopedB (c : Dev nD) : Valuation τ sig (Elt F) := after condB (atTrip condB bodyB (enteredB m) 4096 c)
/-- and at the program's end. -/
abbrev ended (c : Dev nD) : Valuation τ sig (Elt F) := afterL postI (loopedB m c)

theorem entry_ctrA (c : Dev nD) : enteredA m c main_v51_2 = fun _ => (0#32 : BitVec 32) := by
  show after (main1_0 (F := F)) _ main_v51_2 = _
  after_reads_simp
  rfl

theorem entry_ctrB (c : Dev nD) : enteredB m c main_v56_3 = fun _ => (0#32 : BitVec 32) := by
  show after (main1_2 (F := F)) _ main_v56_3 = _
  after_reads_simp
  rfl

theorem loops_zero : loops (F := F) 0 = HostLoop.step 0 main_while0_cond main_while0_body := rfl
theorem loops_one : loops (F := F) 1 = HostLoop.step 1 main_while1_cond main_while1_body := rfl

/-- The program's segments in order. -/
def segs : List (CSeg (pcfgs (F := F)) adm defs₀ Variants.none L lv loops tk) :=
  segsOf _ _ _ _ _ _ _ _ Rw preI plain_preI (launchContents m)
    ++ loopSeg _ _ _ _ _ _ _ _ 0 main_while0_cond main_while0_body loops_zero condA bodyA plain_bodyA while0_chain 4096 (enteredA m) Rw
        (cond_specA _ (entry_ctrA m))
      :: (segsOf _ _ _ _ _ _ _ _ Rw midI plain_midI (loopedA m)
        ++ loopSeg _ _ _ _ _ _ _ _ 1 main_while1_cond main_while1_body loops_one condB bodyB plain_bodyB while1_chain 4096 (enteredB m) Rw
            (cond_specB _ (entry_ctrB m))
          :: segsOf _ _ _ _ _ _ _ _ Rw postI plain_postI (loopedB m))

theorem segs_prog : (segs m).map CSeg.prog = [StableHlo.seq main0_0, StableHlo.seq main0_1, StableHlo.seq main0_2, StableHlo.seq main0_3, StableHlo.seq main0_4, StableHlo.seq main1_0, HostLoop.enter 0, StableHlo.seq main1_2, HostLoop.enter 1, StableHlo.seq main1_4, StableHlo.seq main1_5, StableHlo.seq main1_6, StableHlo.seq main1_7, StableHlo.seq main1_8, StableHlo.seq main2_0] := by
  unfold segs
  rw [List.map_append, List.map_cons, List.map_append, List.map_cons, StableHlo.segsOf_prog, StableHlo.segsOf_prog, StableHlo.segsOf_prog]
  rfl

theorem main_segs (c : Dev nD) : main (F := F) c = Pipeline.chain ((segs m).map CSeg.prog) :=
  (main_chain c).trans (congrArg Pipeline.chain (segs_prog m)).symm

theorem segs_chains : CSeg.Chains (fun c => iprop(held (c : Thread nD τ) (ucRefs τ sig) (launchContents m c) ∗ Rw c)) (segs m)
    (fun c => iprop(held (c : Thread nD τ) (ucRefs τ sig) (ended m c) ∗ ∃ W, owes (c : Thread nD τ) (0 : CellTallies nD τ sig Unit) W)) := by
  unfold segs
  refine CSeg.Chains.append (StableHlo.segsOf_chains _ _ _ _ _ _ _ _ Rw preI plain_preI _) ⟨fun _ => .rfl, ?_⟩
  exact CSeg.Chains.append (StableHlo.segsOf_chains _ _ _ _ _ _ _ _ Rw midI plain_midI _)
    ⟨fun _ => .rfl, StableHlo.segsOf_chains _ _ _ _ _ _ _ _ Rw postI plain_postI _⟩

/-- THE RUN: from any memory with zero counters the plain gradient's program terminates without fault, every buffer that
    holds a tensor value of the program ends at `ended`, and every counter is zero. -/
theorem run_ended (ρ : Dev nD → PrngReg) :
    θ_run (defs (F := F)) (onTc (τ := τ) main) ⟨m, fun _ => 0, ρ⟩
      (fun r => (∀ (c : Dev nD) (b : Ref sig .tc), (Proc.devRef .tc b : DevRef τ sig).isScoped = false →
        r.2.mem ((c.tc : Thread nD τ).loc b) = ended m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cells_injective defs₀ Variants.none L lv loops tk m ρ main (segs m)
    (fun c Q => by
      rw [main_segs m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (ended m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = ended m c b)
    (hfin := fun c s' => by
      unfold held
      iintro ⟨Hh, HSI⟩
      ihave Hr := (pointsTo_read_all (ucRefs τ sig) (fun b => ((c : Dev nD), b)) (fun b => ended m c b) s') $$ [Hh HSI]
      · isplitl [Hh] <;> iassumption
      icases Hr with ⟨%h, HSI⟩
      imodintro
      isplitr; · ipureintro; exact h
      iexact HSI)
    (hQ := fun s h hz => ⟨fun c b hb => h c _ (StableHlo.devRef_mem_ucRefs b hb), funext fun g => hz g (.inr (by revert g; decide))⟩)

end Whole

end Cert.ReferenceIdeal.Ref

end
-- ==== Proof.Ref.Args.lean ====
/- No operation of the plain gradient's program writes an argument, so the arguments end as they were. -/
module

public import proofs.«01_k».proof.Proof.Ref.Run

@[expose] public section

set_option maxRecDepth 16384

noncomputable section

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open Idealize.ShloMosaic.StableHlo (after afterL atTrip)

variable {F : FTy → Type} [FloatOps F]

/-- The arguments of the program. -/
abbrev args : List (Ref sig .tc) := [main_arg0, main_arg1, main_arg2, main_arg3, main_arg4, main_arg5]

/-- None of the operations writes an argument. -/
def Spares (ops : List (HloOp τ sig (Elt F))) : Prop := ∀ b ∈ args, ∀ op ∈ ops, Proc.devRef .tc b ∉ op.writes

theorem Spares.after {ops : List (HloOp τ sig (Elt F))} (h : Spares ops) {b : Ref sig .tc} (hb : b ∈ args) (V : Valuation τ sig (Elt F)) :
    StableHlo.after ops V b = V b := StableHlo.after_of_forall_not_mem ops V (h b hb)

theorem spares_main0_0 : Spares (main0_0 (F := F)) := by
  intro b hb op hop
  fin_cases hop <;> exact fun h => StableHlo.devRef_ne_of_ne (fun e => absurd (e ▸ hb) (by decide)) (Finset.mem_singleton.mp h)
theorem spares_main0_1 : Spares (main0_1 (F := F)) := by
  intro b hb op hop
  fin_cases hop <;> exact fun h => StableHlo.devRef_ne_of_ne (fun e => absurd (e ▸ hb) (by decide)) (Finset.mem_singleton.mp h)
theorem spares_main0_2 : Spares (main0_2 (F := F)) := by
  intro b hb op hop
  fin_cases hop <;> exact fun h => StableHlo.devRef_ne_of_ne (fun e => absurd (e ▸ hb) (by decide)) (Finset.mem_singleton.mp h)
theorem spares_main0_3 : Spares (main0_3 (F := F)) := by
  intro b hb op hop
  fin_cases hop <;> exact fun h => StableHlo.devRef_ne_of_ne (fun e => absurd (e ▸ hb) (by decide)) (Finset.mem_singleton.mp h)
theorem spares_main0_4 : Spares (main0_4 (F := F)) := by
  intro b hb op hop
  fin_cases hop <;> exact fun h => StableHlo.devRef_ne_of_ne (fun e => absurd (e ▸ hb) (by decide)) (Finset.mem_singleton.mp h)
theorem spares_main1_0 : Spares (main1_0 (F := F)) := by
  intro b hb op hop
  fin_cases hop <;> exact fun h => StableHlo.devRef_ne_of_ne (fun e => absurd (e ▸ hb) (by decide)) (Finset.mem_singleton.mp h)
theorem spares_main1_2 : Spares (main1_2 (F := F)) := by
  intro b hb op hop
  fin_cases hop <;> exact fun h => StableHlo.devRef_ne_of_ne (fun e => absurd (e ▸ hb) (by decide)) (Finset.mem_singleton.mp h)
theorem spares_main1_4 : Spares (main1_4 (F := F)) := by
  intro b hb op hop
  fin_cases hop <;> exact fun h => StableHlo.devRef_ne_of_ne (fun e => absurd (e ▸ hb) (by decide)) (Finset.mem_singleton.mp h)
theorem spares_main1_5 : Spares (main1_5 (F := F)) := by
  intro b hb op hop
  fin_cases hop <;> exact fun h => StableHlo.devRef_ne_of_ne (fun e => absurd (e ▸ hb) (by decide)) (Finset.mem_singleton.mp h)
theorem spares_main1_6 : Spares (main1_6 (F := F)) := by
  intro b hb op hop
  fin_cases hop <;> exact fun h => StableHlo.devRef_ne_of_ne (fun e => absurd (e ▸ hb) (by decide)) (Finset.mem_singleton.mp h)
theorem spares_main1_7 : Spares (main1_7 (F := F)) := by
  intro b hb op hop
  fin_cases hop <;> exact fun h => StableHlo.devRef_ne_of_ne (fun e => absurd (e ▸ hb) (by decide)) (Finset.mem_singleton.mp h)
theorem spares_main1_8 : Spares (main1_8 (F := F)) := by
  intro b hb op hop
  fin_cases hop <;> exact fun h => StableHlo.devRef_ne_of_ne (fun e => absurd (e ▸ hb) (by decide)) (Finset.mem_singleton.mp h)
theorem spares_main2_0 : Spares (main2_0 (F := F)) := by
  intro b hb op hop
  fin_cases hop <;> exact fun h => StableHlo.devRef_ne_of_ne (fun e => absurd (e ▸ hb) (by decide)) (Finset.mem_singleton.mp h)
theorem spares_condA : Spares (condA (F := F)) := by
  intro b hb op hop
  fin_cases hop <;> exact fun h => StableHlo.devRef_ne_of_ne (fun e => absurd (e ▸ hb) (by decide)) (Finset.mem_singleton.mp h)
theorem spares_condB : Spares (condB (F := F)) := by
  intro b hb op hop
  fin_cases hop <;> exact fun h => StableHlo.devRef_ne_of_ne (fun e => absurd (e ▸ hb) (by decide)) (Finset.mem_singleton.mp h)
theorem spares_while0_0 : Spares (while0_0 (F := F)) := by
  intro b hb op hop
  fin_cases hop <;> exact fun h => StableHlo.devRef_ne_of_ne (fun e => absurd (e ▸ hb) (by decide)) (Finset.mem_singleton.mp h)
theorem spares_while0_1 : Spares (while0_1 (F := F)) := by
  intro b hb op hop
  fin_cases hop <;> exact fun h => StableHlo.devRef_ne_of_ne (fun e => absurd (e ▸ hb) (by decide)) (Finset.mem_singleton.mp h)
theorem spares_while0_2 : Spares (while0_2 (F := F)) := by
  intro b hb op hop
  fin_cases hop <;> exact fun h => StableHlo.devRef_ne_of_ne (fun e => absurd (e ▸ hb) (by decide)) (Finset.mem_singleton.mp h)
theorem spares_while0_3 : Spares (while0_3 (F := F)) := by
  intro b hb op hop
  fin_cases hop <;> exact fun h => StableHlo.devRef_ne_of_ne (fun e => absurd (e ▸ hb) (by decide)) (Finset.mem_singleton.mp h)
theorem spares_while0_4 : Spares (while0_4 (F := F)) := by
  intro b hb op hop
  fin_cases hop <;> exact fun h => StableHlo.devRef_ne_of_ne (fun e => absurd (e ▸ hb) (by decide)) (Finset.mem_singleton.mp h)
theorem spares_while0_5 : Spares (while0_5 (F := F)) := by
  intro b hb op hop
  fin_cases hop <;> exact fun h => StableHlo.devRef_ne_of_ne (fun e => absurd (e ▸ hb) (by decide)) (Finset.mem_singleton.mp h)
theorem spares_while1_0 : Spares (while1_0 (F := F)) := by
  intro b hb op hop
  fin_cases hop <;> exact fun h => StableHlo.devRef_ne_of_ne (fun e => absurd (e ▸ hb) (by decide)) (Finset.mem_singleton.mp h)
theorem spares_while1_1 : Spares (while1_1 (F := F)) := by
  intro b hb op hop
  fin_cases hop <;> exact fun h => StableHlo.devRef_ne_of_ne (fun e => absurd (e ▸ hb) (by decide)) (Finset.mem_singleton.mp h)
theorem spares_while1_2 : Spares (while1_2 (F := F)) := by
  intro b hb op hop
  fin_cases hop <;> exact fun h => StableHlo.devRef_ne_of_ne (fun e => absurd (e ▸ hb) (by decide)) (Finset.mem_singleton.mp h)
theorem spares_while1_3 : Spares (while1_3 (F := F)) := by
  intro b hb op hop
  fin_cases hop <;> exact fun h => StableHlo.devRef_ne_of_ne (fun e => absurd (e ▸ hb) (by decide)) (Finset.mem_singleton.mp h)
theorem spares_while1_4 : Spares (while1_4 (F := F)) := by
  intro b hb op hop
  fin_cases hop <;> exact fun h => StableHlo.devRef_ne_of_ne (fun e => absurd (e ▸ hb) (by decide)) (Finset.mem_singleton.mp h)
theorem spares_while1_5 : Spares (while1_5 (F := F)) := by
  intro b hb op hop
  fin_cases hop <;> exact fun h => StableHlo.devRef_ne_of_ne (fun e => absurd (e ▸ hb) (by decide)) (Finset.mem_singleton.mp h)
theorem spares_while1_6 : Spares (while1_6 (F := F)) := by
  intro b hb op hop
  fin_cases hop <;> exact fun h => StableHlo.devRef_ne_of_ne (fun e => absurd (e ▸ hb) (by decide)) (Finset.mem_singleton.mp h)
theorem spares_while1_7 : Spares (while1_7 (F := F)) := by
  intro b hb op hop
  fin_cases hop <;> exact fun h => StableHlo.devRef_ne_of_ne (fun e => absurd (e ▸ hb) (by decide)) (Finset.mem_singleton.mp h)

/-- A trip of the loop leaves the arguments as they are. -/
theorem trip_sparesA (W₀ : Dev nD → Valuation τ sig (Elt F)) (c : Dev nD) {b : Ref sig .tc} (hb : b ∈ args) :
    ∀ k, atTrip condA bodyA W₀ k c b = W₀ c b
  | 0 => rfl
  | k + 1 => by
    show (after while0_5 (after while0_4 (after while0_3 (after while0_2 (after while0_1 (after while0_0 (after condA (atTrip condA bodyA W₀ k c)))))))) b = _
    rw [spares_while0_5.after hb, spares_while0_4.after hb, spares_while0_3.after hb, spares_while0_2.after hb, spares_while0_1.after hb, spares_while0_0.after hb, spares_condA.after hb, trip_sparesA W₀ c hb k]

/-- A trip of the loop leaves the arguments as they are. -/
theorem trip_sparesB (W₀ : Dev nD → Valuation τ sig (Elt F)) (c : Dev nD) {b : Ref sig .tc} (hb : b ∈ args) :
    ∀ k, atTrip condB bodyB W₀ k c b = W₀ c b
  | 0 => rfl
  | k + 1 => by
    show (after while1_7 (after while1_6 (after while1_5 (after while1_4 (after while1_3 (after while1_2 (after while1_1 (after while1_0 (after condB (atTrip condB bodyB W₀ k c)))))))))) b = _
    rw [spares_while1_7.after hb, spares_while1_6.after hb, spares_while1_5.after hb, spares_while1_4.after hb, spares_while1_3.after hb, spares_while1_2.after hb, spares_while1_1.after hb, spares_while1_0.after hb, spares_condB.after hb, trip_sparesB W₀ c hb k]

/-- The arguments at the first loop's entry, -/
theorem enteredA_args (m : (ℓ : Loc nD τ sig) → Buf (Elt F) ℓ) (c : Dev nD) {b : Ref sig .tc} (hb : b ∈ args) :
    enteredA m c b = m ((c.tc : Thread nD τ).loc b) := by
  show (after main1_0 (after main0_4 (after main0_3 (after main0_2 (after main0_1 (after main0_0 (StableHlo.launchContents m c))))))) b = _
  rw [spares_main1_0.after hb, spares_main0_4.after hb, spares_main0_3.after hb, spares_main0_2.after hb, spares_main0_1.after hb, spares_main0_0.after hb]
/-- at its end, -/
theorem loopedA_args (m : (ℓ : Loc nD τ sig) → Buf (Elt F) ℓ) (c : Dev nD) {b : Ref sig .tc} (hb : b ∈ args) :
    loopedA m c b = m ((c.tc : Thread nD τ).loc b) := by
  show after condA _ b = _
  rw [spares_condA.after hb, trip_sparesA _ c hb, enteredA_args m c hb]
/-- at the second loop's end -/
theorem loopedB_args (m : (ℓ : Loc nD τ sig) → Buf (Elt F) ℓ) (c : Dev nD) {b : Ref sig .tc} (hb : b ∈ args) :
    loopedB m c b = m ((c.tc : Thread nD τ).loc b) := by
  show after condB _ b = _
  rw [spares_condB.after hb, trip_sparesB _ c hb]
  show after main1_2 _ b = _
  rw [spares_main1_2.after hb, loopedA_args m c hb]
/-- and at the program's end: unchanged. -/
theorem ended_args (m : (ℓ : Loc nD τ sig) → Buf (Elt F) ℓ) (c : Dev nD) {b : Ref sig .tc} (hb : b ∈ args) :
    ended m c b = m ((c.tc : Thread nD τ).loc b) := by
  show (after main2_0 (after main1_8 (after main1_7 (after main1_6 (after main1_5 (after main1_4 (loopedB m c))))))) b = _
  rw [spares_main2_0.after hb, spares_main1_8.after hb, spares_main1_7.after hb, spares_main1_6.after hb, spares_main1_5.after hb, spares_main1_4.after hb, loopedB_args m c hb]

/-- Every one of the program's arguments ends as it was, and every counter is zero. -/
theorem run_args (m : (ℓ : Loc nD τ sig) → Buf (Elt F) ℓ) (ρ : Dev nD → PrngReg) :
    θ_run (defs (F := F)) (onTc (τ := τ) main) ⟨m, fun _ => 0, ρ⟩
      (fun r => (∀ (c : Dev nD), ∀ b ∈ args, r.2.mem ((c.tc : Thread nD τ).loc b) = m ((c.tc : Thread nD τ).loc b)) ∧ r.2.sem = fun _ => 0) :=
  (θ_run (defs (F := F)) _ _).mono (fun r h => ⟨fun c b hb => (h.1 c b (by revert b; decide)).trans (ended_args m c hb), h.2⟩) (run_ended m ρ)

end Cert.ReferenceIdeal.Ref

end
-- ==== Proof.Frames.lean ====
/- The three frames: each program terminates without fault, leaves its arguments as they were and its counters at zero. -/
module

public import proofs.«01_k».proof.Defs
public import proofs.«01_k».proof.Proof.Gen.Kernel
public import proofs.«01_k».proof.Proof.Rec.Args
public import proofs.«01_k».proof.Proof.Ref.Args
public import Idealize.ShloMosaic.Lib.Tactic

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The six arguments, spelled out, are unchanged where every listed one is. -/
theorem six {α : Type} {P : α → Prop} {a b c d e f : α} (h : ∀ x ∈ [a, b, c, d, e, f], P x) : P a ∧ P b ∧ P c ∧ P d ∧ P e ∧ P f :=
  ⟨h _ (by simp), h _ (by simp), h _ (by simp), h _ (by simp), h _ (by simp), h _ (by simp)⟩

section
open Cert.KernelIdeal

/-- The kernel's run at any float values, its six arguments spelled out. -/
theorem run_six {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := F)) _ _).mono (fun r h => ⟨fun c => six (h.1 c), h.2⟩) (Cert.KernelIdeal.Rec.run_args m g)

end

/-- The kernel's frame over the extended reals. -/
theorem frame_kernelIdeal : Cert.quiescent_KernelIdeal := fun m g _ => run_six (F := Ideal) m g

/-- The reference's frame over the extended reals. -/
theorem frame_referenceIdeal : Cert.quiescent_ReferenceIdeal := fun m g _ =>
  (θ_run (Cert.ReferenceIdeal.defs (F := Ideal)) _ _).mono (fun r h => ⟨fun c => six (h.1 c), h.2⟩) (Cert.ReferenceIdeal.Ref.run_args (F := Ideal) m g)

/-- The two printed kernels have the same text, so the kernel's frame at the machine's floats says of the ideal
    program's text what it says of the kernel's. -/
theorem frame_text : Cert.quiescent_Kernel = (∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)) := by
  sl_kernel_rfl

/-- The kernel's frame at the machine's floats. -/
theorem frame_kernel : Cert.quiescent_Kernel := frame_text.mpr fun m g _ => run_six (F := Bits) m g

end Cert.Proof

end
-- ==== Proof.Val.Spec.lean ====
/- The gradient of the gated linear recurrence over the reals, by the usual formulas: the arrays the two programs
   meet in, as functions of a row `t` and a column `d`. -/
module

public import Idealize.ShloMosaic.PureOps.Ideal

@[expose] public section

noncomputable section

namespace Cert.Spec

/-- The six arguments: the convolution's output, its bias, the gates' weights and biases, the decay parameter and
    the cotangent of the states. -/
structure Inp where
  conv : ℕ → ℕ → ℝ
  rcb : ℕ → ℝ
  w : ℕ → ℕ → ℕ → ℕ → ℝ
  rgb : ℕ → ℕ → ℝ
  ap : ℕ → ℝ
  dh : ℕ → ℕ → ℝ

variable (I : Inp)

/-- The recurrence's input. -/
def xc (t d : ℕ) : ℝ := I.conv t d + I.rcb d
/-- A gate before its sigmoid: column `d` is column `d % 256` of head `d / 256`. -/
def pre (g t d : ℕ) : ℝ := (∑ i : Fin 256, xc I t (256 * (d / 256) + i.val) * I.w g (d / 256) i.val (d % 256)) + I.rgb g d
/-- A gate. -/
def gate (g t d : ℕ) : ℝ := (1 + Real.exp (-pre I g t d))⁻¹
/-- The decay's rate. -/
def sp (d : ℕ) : ℝ := Real.log (1 + Real.exp (-I.ap d))
/-- The decay's logarithm. -/
def la (t d : ℕ) : ℝ := -8 * gate I 1 t d * sp I d
/-- The decay. -/
def a (t d : ℕ) : ℝ := Real.exp (la I t d)
/-- The input's scale before the first row is set apart. -/
def root (t d : ℕ) : ℝ := Real.sqrt (1 - Real.exp (2 * la I t d))
/-- The input's scale. -/
def mul (t d : ℕ) : ℝ := if t = 0 then 1 else root I t d
/-- What the recurrence adds. -/
def inc (t d : ℕ) : ℝ := xc I t d * gate I 0 t d * mul I t d
/-- The states: `hs n` is the state before row `n`. -/
def hs : ℕ → ℕ → ℝ
  | 0, _ => 0
  | n + 1, d => a I n d * hs n d + inc I n d
/-- The decays, zero past the last row. -/
def aE (t d : ℕ) : ℝ := if t < 4096 then a I t d else 0
/-- The states' gradient `k` rows from the end. -/
def lamR : ℕ → ℕ → ℝ
  | 0, _ => 0
  | k + 1, d => I.dh (4095 - k) d + aE I (4096 - k) d * lamR k d
/-- The states' gradient at row `t`. -/
def lam (t d : ℕ) : ℝ := lamR I (4096 - t) d
/-- The gradient of the decay's logarithm. -/
def dla (t d : ℕ) : ℝ :=
  lam I t d * hs I t d * a I t d
    - (if t = 0 then 0 else lam I t d * xc I t d * gate I 0 t d) * a I t d * a I t d / mul I t d
/-- The gradient of the input gate before its sigmoid, -/
def dg0 (t d : ℕ) : ℝ := lam I t d * xc I t d * mul I t d * gate I 0 t d * (1 - gate I 0 t d)
/-- and of the recurrence gate. -/
def dg1 (t d : ℕ) : ℝ := -8 * sp I d * dla I t d * gate I 1 t d * (1 - gate I 1 t d)
/-- Both, by the gate's number. -/
def dg (g t d : ℕ) : ℝ := if g = 0 then dg0 I t d else dg1 I t d
/-- One gate's gradient carried back through its weights. -/
def back (g t d : ℕ) : ℝ := ∑ j : Fin 256, dg I g t (256 * (d / 256) + j.val) * I.w g (d / 256) (d % 256) j.val
/-- The gradient of the recurrence's input. -/
def dxc (t d : ℕ) : ℝ := lam I t d * gate I 0 t d * mul I t d + (back I 0 t d + back I 1 t d)
/-- The column sums' summands: the gates' biases, the decay parameter's before its last factor, the convolution's bias. -/
def red (r t d : ℕ) : ℝ :=
  if r = 0 then dg0 I t d else if r = 1 then dg1 I t d else if r = 2 then -8 * gate I 1 t d * dla I t d
  else if r = 3 then dxc I t d else 0
/-- The factor of a row of column sums: the decay parameter's is minus its sigmoid's complement. -/
def fac (r d : ℕ) : ℝ := if r = 2 then -(1 + Real.exp (I.ap d))⁻¹ else 1

theorem sp_pos (d : ℕ) : 0 < sp I d := Real.log_pos (by have := Real.exp_pos (-I.ap d); linarith)
theorem gate_pos (g t d : ℕ) : 0 < gate I g t d := inv_pos.mpr (by have := Real.exp_pos (-pre I g t d); linarith)
theorem la_neg (t d : ℕ) : la I t d < 0 := by
  have := mul_pos (gate_pos I 1 t d) (sp_pos I d)
  unfold la; nlinarith
theorem one_sub_pos (t d : ℕ) : 0 < 1 - Real.exp (2 * la I t d) := by
  have h : Real.exp (2 * la I t d) < 1 := by rw [← Real.exp_zero]; exact Real.exp_lt_exp.mpr (by have := la_neg I t d; linarith)
  linarith
theorem root_pos (t d : ℕ) : 0 < root I t d := Real.sqrt_pos.mpr (one_sub_pos I t d)
theorem mul_pos' (t d : ℕ) : 0 < mul I t d := by
  unfold mul; split
  · exact one_pos
  · exact root_pos I t d

/-- The states' gradient at a row is the cotangent there and what the next row hands back. -/
theorem lam_rec (t d : ℕ) (h : t < 4096) : lam I t d = I.dh t d + aE I (t + 1) d * lam I (t + 1) d := by
  unfold lam
  obtain ⟨k, hk⟩ : ∃ k, 4096 - t = k + 1 := ⟨4095 - t, by omega⟩
  rw [hk, lamR, show 4096 - (t + 1) = k by omega, show 4095 - k = t by omega, show 4096 - k = t + 1 by omega]

/-- Past the last row it is zero. -/
theorem lam_end (d : ℕ) : lam I 4096 d = 0 := by simp [lam, lamR]

end Cert.Spec

end
-- ==== Proof.Val.Has.lean ====
/- Arrays of extended reals that hold real numbers: each operation of the two programs carries such arrays to such
   arrays, by the operation of the reals. -/
module

public import Idealize.ShloMosaic.PureOps.Ideal
public import Idealize.ShloMosaic.PureOps.Ideal.Laws
public import Idealize.ShloMosaic.Lib.IdealHost

@[expose] public section

noncomputable section

namespace Cert.Val

open Idealize.ShloMosaic

/-- The array `X` holds the real numbers `f`. -/
def Has {ι : Type} (X : ι → EReal) (f : ι → ℝ) : Prop := ∀ j, X j = ((f j : ℝ) : EReal)

variable {ι : Type} {X Y : ι → EReal} {f g : ι → ℝ}

namespace Has

/-- The array. -/
abbrev arr (_ : Has X f) : ι → EReal := X

theorem congr (h : Has X f) (e : ∀ j, f j = g j) : Has X g := fun j => by rw [h j, e j]
theorem add (hX : Has X f) (hY : Has Y g) : Has (fun j => X j + Y j) (fun j => f j + g j) := fun j => by
  simp only [hX j, hY j, EReal.coe_add]
theorem sub (hX : Has X f) (hY : Has Y g) : Has (fun j => X j - Y j) (fun j => f j - g j) := fun j => by
  simp only [hX j, hY j, EReal.coe_sub]
theorem mul (hX : Has X f) (hY : Has Y g) : Has (fun j => X j * Y j) (fun j => f j * g j) := fun j => by
  simp only [hX j, hY j, EReal.coe_mul]
theorem neg (hX : Has X f) : Has (fun j => -X j) (fun j => -f j) := fun j => by
  simp only [hX j, EReal.coe_neg]
theorem div (hX : Has X f) (hY : Has Y g) (h : ∀ j, g j ≠ 0) : Has (fun j => Ideal.div (X j) (Y j)) (fun j => f j / g j) := fun j => by
  simp only [hX j, hY j]
  rw [Ideal.div_coe (h j), ← EReal.coe_mul, mul_one_div]
theorem exp (hX : Has X f) : Has (fun j => Ideal.exp (X j)) (fun j => Real.exp (f j)) := fun j => by
  simp only [hX j, Ideal.exp_coe]
theorem log (hX : Has X f) (h : ∀ j, 0 < f j) : Has (fun j => Ideal.log (X j)) (fun j => Real.log (f j)) := fun j => by
  simp only [hX j, Ideal.log_coe, if_neg (not_le.mpr (h j))]
theorem sqrt (hX : Has X f) (h : ∀ j, 0 ≤ f j) : Has (fun j => Ideal.sqrt (X j)) (fun j => Real.sqrt (f j)) := fun j => by
  simp only [hX j, Ideal.sqrt_coe, if_neg (not_lt.mpr (h j))]
theorem max (hX : Has X f) (hY : Has Y g) : Has (fun j => Max.max (X j) (Y j)) (fun j => Max.max (f j) (g j)) := fun j => by
  simp only [hX j, hY j]
  exact ((EReal.coe_strictMono.monotone.map_max).symm : _)
theorem abs (hX : Has X f) : Has (fun j => Max.max (X j) (-X j)) (fun j => |f j|) := (hX.max hX.neg).congr fun _ => rfl
/-- An array of one number throughout. -/
theorem const {z : EReal} {r : ℝ} (h : z = ((r : ℝ) : EReal)) : Has (fun _ : ι => z) (fun _ => r) := fun _ => h
/-- A choice all on one side. -/
theorem sel_true {M : ι → BitVec 1} (hM : ∀ j, M j = 1#1) (hX : Has X f) :
    Has (fun j => Scalar.select (M j) (X j) (Y j)) f := fun j => by
  simp only [hM j]; exact hX j
theorem sel_false {M : ι → BitVec 1} (hM : ∀ j, M j = 0#1) (hY : Has Y g) :
    Has (fun j => Scalar.select (M j) (X j) (Y j)) g := fun j => by
  simp only [hM j]; exact hY j
/-- A choice by a condition. -/
theorem sel {M : ι → BitVec 1} {p : ι → Prop} [DecidablePred p] (hM : ∀ j, M j = BitVec.ofBool (decide (p j)))
    (hX : Has X f) (hY : Has Y g) : Has (fun j => Scalar.select (M j) (X j) (Y j)) (fun j => if p j then f j else g j) := fun j => by
  by_cases h : p j
  · simp only [hM j, h, if_true]; exact hX j
  · simp only [hM j, h, if_false]; exact hY j
/-- Re-indexing. -/
theorem reindex {κ : Type} (hX : Has X f) (σ : κ → ι) : Has (fun k => X (σ k)) (fun k => f (σ k)) := fun k => hX (σ k)

/-- Comparisons of arrays that hold different numbers everywhere. -/
theorem ne_oeq (hX : Has X f) (hY : Has Y g) (h : ∀ j, f j ≠ g j) (j : ι) : Ideal.cmp .oeq (X j) (Y j) = 0#1 := by
  rw [hX j, hY j]
  simp [Ideal.cmp, h j]
theorem ne_one (hX : Has X f) (hY : Has Y g) (h : ∀ j, f j ≠ g j) (j : ι) : Ideal.cmp .one (X j) (Y j) = 1#1 := by
  rw [hX j, hY j]
  simp [Ideal.cmp, h j]

end Has

/-- A finite sum of real numbers. -/
theorem coe_sum {κ : Type} (s : Finset κ) (f : κ → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem lit0 : Ideal.ofBits .f32 0x00000000#32 = ((0 : ℝ) : EReal) := by rw [EReal.coe_zero]; exact Ideal.ofBits_zero_f32
theorem lit1 : Ideal.ofBits .f32 0x3F800000#32 = ((1 : ℝ) : EReal) := by rw [EReal.coe_one]; exact Ideal.ofBits_one_f32
theorem lit2 : Ideal.ofBits .f32 0x40000000#32 = ((2 : ℝ) : EReal) := by
  simp [Ideal.ofBits, Ideal.ieee, -EReal.coe_mul, -EReal.coe_neg]; norm_num
theorem litHalf : Ideal.ofBits .f32 0x3F000000#32 = ((1 / 2 : ℝ) : EReal) := by
  simp [Ideal.ofBits, Ideal.ieee, -EReal.coe_mul, -EReal.coe_neg]; norm_num
theorem litNeg1 : Ideal.ofBits .f32 0xBF800000#32 = ((-1 : ℝ) : EReal) := by
  simp [Ideal.ofBits, Ideal.ieee, -EReal.coe_mul, -EReal.coe_neg]; norm_num
theorem litNeg8 : Ideal.ofBits .f32 0xC1000000#32 = ((-8 : ℝ) : EReal) := by
  simp [Ideal.ofBits, Ideal.ieee, -EReal.coe_mul, -EReal.coe_neg]; norm_num

/-- The softplus by its stable formula. -/
theorem softplus_eq (u : ℝ) : max u 0 + Real.log (1 + Real.exp (-|u|)) = Real.log (1 + Real.exp u) := by
  rcases le_total 0 u with h | h
  · rw [max_eq_left h, abs_of_nonneg h]
    have e : (1 : ℝ) + Real.exp u = Real.exp u * (1 + Real.exp (-u)) := by
      rw [mul_add, ← Real.exp_add]; simp [add_comm]
    rw [e, Real.log_mul (Real.exp_pos _).ne' (by have := Real.exp_pos (-u); positivity), Real.log_exp]
  · rw [max_eq_right h, abs_of_nonpos h]; simp

end Cert.Val

end
-- ==== Proof.Val.Gates.lean ====
/- The arrays that both programs compute before their recurrence, from arguments that hold real numbers: the recurrence's
   input, the gates, the softplus of the decay parameter, the decay and the input's scale. -/
module

public import proofs.«01_k».proof.Proof.Rec.Run
public import proofs.«01_k».proof.Proof.Val.Spec
public import proofs.«01_k».proof.Proof.Val.Has
public import Idealize.ShloMosaic.Lib.Pointwise

@[expose] public section

set_option maxRecDepth 16384

noncomputable section

namespace Cert.KernelIdeal.Val

open Cert.KernelIdeal Cert.KernelIdeal.Gen Cert.Val Cert.Spec
open Idealize.ShloMosaic hiding ix0 ix1 ix2 ix3 ix4
open Idealize.ShloMosaic.TcCoe Idealize.ShloMosaic.ValueIdx

/-- Arguments that hold the real numbers of `I`. -/
structure Given (x0 : FVec Ideal S4096x1024 .f32) (x1 : FVec Ideal S1024 .f32) (x2 : FVec Ideal S2x4x256x256 .f32)
    (x3 : FVec Ideal S2x1024 .f32) (x4 : FVec Ideal S1024 .f32) (x5 : FVec Ideal S4096x1024 .f32) (I : Inp) : Prop where
  conv : Has x0 fun j => I.conv (j 0).val (j 1).val
  rcb : Has x1 fun j => I.rcb (j 0).val
  w : Has x2 fun j => I.w (j 0).val (j 1).val (j 2).val (j 3).val
  rgb : Has x3 fun j => I.rgb (j 0).val (j 1).val
  ap : Has x4 fun j => I.ap (j 0).val
  dh : Has x5 fun j => I.dh (j 0).val (j 1).val

variable {x0 : FVec Ideal S4096x1024 .f32} {x1 : FVec Ideal S1024 .f32} {x2 : FVec Ideal S2x4x256x256 .f32}
  {x3 : FVec Ideal S2x1024 .f32} {x4 : FVec Ideal S1024 .f32} {x5 : FVec Ideal S4096x1024 .f32} {I : Inp}

/-- The recurrence's input as an array. -/
def xcV (x0 : FVec Ideal S4096x1024 .f32) (x1 : FVec Ideal S1024 .f32) : FVec Ideal S4096x1024 .f32 :=
  addf x0 (broadcastInDim S4096x1024 ![0, 1] bcast_S1x1024_S4096x1024_0_1 (broadcastInDim S1x1024 ![1] bcast_S1024_S1x1024_1 x1))

/-- The gates before their sigmoid as an array. -/
def preV (x0 : FVec Ideal S4096x1024 .f32) (x1 : FVec Ideal S1024 .f32) (x2 : FVec Ideal S2x4x256x256 .f32)
    (x3 : FVec Ideal S2x1024 .f32) : FVec Ideal S2x4096x1024 .f32 :=
  addf (shapeCast S2x4096x1024 (transpose S2x4096x4x256 [1, 3, 0, 2]
          (Host.dotGeneral (F := Ideal) (φ₁ := .f32) (φ₂ := .f32) dot_S2x4x256x256_S4096x4x256_S4x2x256x4096_2_2_03_0_1_1 none x2
            (shapeCast S4096x4x256 (xcV x0 x1) shapeCasts_S4096x1024_S4096x4x256))
          transposes_S4x2x256x4096_S2x4096x4x256_1_3_0_2) shapeCasts_S2x4096x4x256_S2x4096x1024)
    (broadcastInDim S2x4096x1024 ![0, 1, 2] bcast_S2x1x1024_S2x4096x1024_0_1_2
                (broadcastInDim S2x1x1024 ![0, 2] bcast_S2x1024_S2x1x1024_0_2 x3))

theorem has_xcV (G : Given x0 x1 x2 x3 x4 x5 I) : Has (xcV x0 x1) fun j => xc I (j 0).val (j 1).val := by
  intro j
  obtain ⟨t, d, rfl⟩ : ∃ t d, j = ix2 t d := ⟨j 0, j 1, ValueIdx.eq_ix2 j⟩
  pointwise [xcV]
  exact (congrArg₂ (· + ·) (G.conv _) (G.rcb _)).trans (EReal.coe_add _ _).symm

theorem has_preV (G : Given x0 x1 x2 x3 x4 x5 I) : Has (preV x0 x1 x2 x3) fun j => pre I (j 0).val (j 1).val (j 2).val := by
  intro j
  obtain ⟨g, t, d, rfl⟩ : ∃ g t d, j = ix3 g t d := ⟨j 0, j 1, j 2, ValueIdx.eq_ix3 j⟩
  pointwise [preV]
  refine (congrArg₂ (· + ·) ?_ (G.rgb _)).trans (EReal.coe_add _ _).symm
  rw [← coe_sum]
  refine Finset.sum_congr rfl fun k _ => ?_
  rw [G.w _, has_xcV G _, ← EReal.coe_mul]
  show (((I.w g.val (d.val / 256) k.val (d.val % 256) * xc I t.val (d.val / 256 * 256 + k.val) : ℝ)) : EReal) = _
  rw [mul_comm, mul_comm (d.val / 256) 256]

/-- The sigmoid, by its formula. -/
theorem has_sig {ι : Type} {X O P : ι → EReal} {f : ι → ℝ} (hX : Has X f) (hO : Has O fun _ => 1) (hP : Has P fun _ => 1) :
    Has (fun j => Ideal.div (O j) (P j + Ideal.exp (-X j))) fun j => (1 + Real.exp (-f j))⁻¹ :=
  (hO.div (hP.add hX.neg.exp) fun j => (by have := Real.exp_pos (-f j); positivity)).congr fun j => one_div _

/-- The softplus, by its stable formula, whichever side its test for a number that is none takes. -/
theorem has_soft {ι : Type} {X Z : ι → EReal} {f : ι → ℝ} (hX : Has X f) (hZ : Has Z fun _ => 0) :
    Has (fun j => Max.max (X j) (Z j) + Ideal.log (1 + Ideal.exp (-Max.max (X j - Z j) (-(X j - Z j))))) fun j => Real.log (1 + Real.exp (f j)) := by
  have h1 : Has (fun _ : ι => (1 : EReal)) fun _ => 1 := Has.const EReal.coe_one.symm
  refine ((hX.max hZ).add ((h1.add (hX.sub hZ).abs.neg.exp).log fun j => ?_)).congr fun j => ?_
  · have := Real.exp_pos (-|f j - 0|); positivity
  · rw [sub_zero]; exact softplus_eq (f j)

end Cert.KernelIdeal.Val

end
-- ==== Proof.Val.RefPre.lean ====
/- What the plain gradient's program has computed when its first recurrence begins, from arguments that hold real
   numbers. -/
module

public import proofs.«01_k».proof.Proof.Val.Gates
public import proofs.«01_k».proof.Proof.Ref.Args
public import Idealize.ShloMosaic.Lib.StableHlo.RunRead

@[expose] public section

set_option maxRecDepth 16384

noncomputable section

namespace Cert.ReferenceIdeal.Val

open Cert.ReferenceIdeal Cert.ReferenceIdeal.Gen Cert.ReferenceIdeal.Ref Cert.Val Cert.Spec
open Cert.KernelIdeal.Val (Given xcV preV has_xcV has_preV has_sig has_soft)
open Idealize.ShloMosaic hiding ix0 ix1 ix2 ix3 ix4
open Idealize.ShloMosaic.TcCoe Idealize.ShloMosaic.ValueIdx
open Idealize.ShloMosaic.StableHlo (after)

/-- The valuation's arguments hold the real numbers of `I`. -/
abbrev GivenAt (V : Valuation τ sig (Elt Ideal)) (I : Inp) : Prop :=
  Given (V main_arg0) (V main_arg1) (V main_arg2) (V main_arg3) (V main_arg4) (V main_arg5) I

variable {V : Valuation τ sig (Elt Ideal)} {I : Inp}

/-! ## The first stretch -/

theorem v3 (G : GivenAt V I) : Has (after (main0_0 (F := Ideal)) V main_v3) fun j => xc I (j 0).val (j 1).val := by
  have e : after (main0_0 (F := Ideal)) V main_v3 = xcV (V main_arg0) (V main_arg1) := by
    unfold main0_0
    after_reads_simp
    rfl
  rw [e]; exact has_xcV G

theorem ones {s : Shape} (h : S_.BroadcastsInDim s ![]) : Has (broadcastInDim s ![] h (constant (F := Ideal) S_ .f32 0x3F800000#32)) fun _ => 1 := fun _ => lit1
theorem zeros {s : Shape} (h : S_.BroadcastsInDim s ![]) : Has (broadcastInDim s ![] h (constant (F := Ideal) S_ .f32 0x00000000#32)) fun _ => 0 := fun _ => lit0

theorem v17 (G : GivenAt V I) : Has (after (main0_0 (F := Ideal)) V main_v17) fun j => gate I (j 0).val (j 1).val (j 2).val := by
  have e : after (main0_0 (F := Ideal)) V main_v17 =
      Host.divf (broadcastInDim S2x4096x1024 ![] bcast_S_S2x4096x1024 (constant S_ FTy.f32 1065353216#32))
      (addf (broadcastInDim S2x4096x1024 ![] bcast_S_S2x4096x1024 (constant S_ FTy.f32 1065353216#32))
        (Host.exp (Host.negf (addf (preV (V main_arg0) (V main_arg1) (V main_arg2) (V main_arg3))
          (broadcastInDim S2x4096x1024 ![] bcast_S_S2x4096x1024 (constant S_ FTy.f32 0x00000000#32)))))) := by
    unfold main0_0
    after_reads_simp
    rfl
  rw [e]
  exact has_sig (((has_preV G).add (zeros _)).congr fun j => add_zero _) (ones _) (ones _)

theorem first_row {X : FVec Ideal S2x4096x1024 .f32} {f : ℕ → ℕ → ℕ → ℝ} (hX : Has X fun j => f (j 0).val (j 1).val (j 2).val) :
    Has (shapeCast S4096x1024 (extractStridedSlice S1x4096x1024 ![0, 0, 0] X slices_S2x4096x1024_S1x4096x1024_0_0_0) shapeCasts_S1x4096x1024_S4096x1024)
      fun j => f 0 (j 0).val (j 1).val := by
  intro j
  obtain ⟨t, d, rfl⟩ : ∃ t d, j = ix2 t d := ⟨j 0, j 1, ValueIdx.eq_ix2 j⟩
  pointwise
  exact hX _

theorem second_row {X : FVec Ideal S2x4096x1024 .f32} {f : ℕ → ℕ → ℕ → ℝ} (hX : Has X fun j => f (j 0).val (j 1).val (j 2).val) :
    Has (shapeCast S4096x1024 (extractStridedSlice S1x4096x1024 ![1, 0, 0] X slices_S2x4096x1024_S1x4096x1024_1_0_0) shapeCasts_S1x4096x1024_S4096x1024)
      fun j => f 1 (j 0).val (j 1).val := by
  intro j
  obtain ⟨t, d, rfl⟩ : ∃ t d, j = ix2 t d := ⟨j 0, j 1, ValueIdx.eq_ix2 j⟩
  pointwise
  exact hX _

theorem v20 (G : GivenAt V I) : Has (after (main0_0 (F := Ideal)) V main_v20)
    fun j => gate I (j 0).val (j 1).val (j 2).val * (1 - gate I (j 0).val (j 1).val (j 2).val) := by
  have e : after (main0_0 (F := Ideal)) V main_v20 =
      mulf (F := Ideal) (φ := .f32) (after (main0_0 (F := Ideal)) V main_v17)
        (subf (F := Ideal) (φ := .f32) (broadcastInDim S2x4096x1024 ![] bcast_S_S2x4096x1024 (constant (F := Ideal) S_ .f32 0x3F800000#32)) (after (main0_0 (F := Ideal)) V main_v17)) := by
    unfold main0_0
    after_reads_simp
  rw [e]
  exact (v17 G).mul ((ones _).sub (v17 G))

theorem v22 (G : GivenAt V I) : Has (after (main0_0 (F := Ideal)) V main_v22) fun j => gate I 0 (j 0).val (j 1).val := by
  have e : after (main0_0 (F := Ideal)) V main_v22 =
      shapeCast S4096x1024 (extractStridedSlice S1x4096x1024 ![0, 0, 0] (after (main0_0 (F := Ideal)) V main_v17) slices_S2x4096x1024_S1x4096x1024_0_0_0) shapeCasts_S1x4096x1024_S4096x1024 := by
    unfold main0_0
    after_reads_simp
    rfl
  rw [e]; exact first_row (v17 G)

theorem v26 (G : GivenAt V I) : Has (after (main0_0 (F := Ideal)) V main_v26) fun j => -8 * gate I 1 (j 0).val (j 1).val := by
  have e : after (main0_0 (F := Ideal)) V main_v26 =
      mulf (F := Ideal) (φ := .f32) (broadcastInDim S4096x1024 ![] bcast_S_S4096x1024 (constant (F := Ideal) S_ .f32 0xC1000000#32)) (shapeCast S4096x1024 (extractStridedSlice S1x4096x1024 ![1, 0, 0] (after (main0_0 (F := Ideal)) V main_v17) slices_S2x4096x1024_S1x4096x1024_1_0_0) shapeCasts_S1x4096x1024_S4096x1024) := by
    unfold main0_0
    after_reads_simp
    rfl
  rw [e]; exact (Has.const litNeg8).mul (second_row (v17 G))

theorem v27 (G : GivenAt V I) : Has (after (main0_0 (F := Ideal)) V main_v27) fun j => -I.ap (j 0).val := by
  have e : after (main0_0 (F := Ideal)) V main_v27 = (Host.negf (V main_arg4) : FVec Ideal S1024 .f32) := by
    unfold main0_0
    after_reads_simp
  rw [e]; exact G.ap.neg

/-! ## The softplus and its derivative -/

theorem soft {f : S1024.Idx → ℝ} (h : Has (V main_v27) f) : Has (after (main0_1 (F := Ideal)) V main_v28_0) fun j => Real.log (1 + Real.exp (f j)) := by
  unfold main0_1
  after_reads_simp
  refine Has.sel_false ?_ (has_soft h (zeros bcast_S_S1024))
  intro j
  show Ideal.cmp .une _ _ = _
  simp [Ideal.cmp]

theorem inf_word : Ideal.ofBits .f32 0x7F800000#32 = ⊤ := by
  simp [Ideal.ofBits, Ideal.ieee]

theorem not_inf (r : ℝ) : Ideal.cmp .oeq ((r : ℝ) : EReal) (Ideal.ofBits .f32 0x7F800000#32) = 0#1 := by
  rw [inf_word]; simp [Ideal.cmp]

theorem soft' {f : S1024.Idx → ℝ} (h : Has (V main_v27) f) : Has (after (main0_1 (F := Ideal)) V main_v28_1) fun j => Real.exp (f j - Real.log (1 + Real.exp (f j))) := by
  have e : after (main0_1 (F := Ideal)) V main_v28_1 =
      Host.exp (F := Ideal) (φ := .f32) (subf (F := Ideal) (φ := .f32)
        (select (cmpf (F := Ideal) (φ := .f32) .oeq (V main_v27) (broadcastInDim S1024 ![] bcast_S_S1024 (constant (F := Ideal) S_ .f32 0x7F800000#32))) (broadcastInDim S1024 ![] bcast_S_S1024 (constant (F := Ideal) S_ .f32 0x00000000#32)) (V main_v27))
        (select (cmpf (F := Ideal) (φ := .f32) .oeq (after (main0_1 (F := Ideal)) V main_v28_0) (broadcastInDim S1024 ![] bcast_S_S1024 (constant (F := Ideal) S_ .f32 0x7F800000#32))) (broadcastInDim S1024 ![] bcast_S_S1024 (constant (F := Ideal) S_ .f32 0x00000000#32)) (after (main0_1 (F := Ideal)) V main_v28_0))) := by
    unfold main0_1
    after_reads_simp
    rfl
  rw [e]
  refine (Has.sub (Has.sel_false ?_ h) (Has.sel_false ?_ (soft h))).exp
  · intro j; show Ideal.cmp .oeq (V main_v27 j) _ = _; rw [h j]; exact not_inf _
  · intro j; show Ideal.cmp .oeq (after (main0_1 (F := Ideal)) V main_v28_0 j) _ = _; rw [soft h j]; exact not_inf _

/-! ## The decay and the scale -/

theorem rows_of {X : FVec Ideal S1024 .f32} {g : S1024.Idx → ℝ} (hX : Has X g) : Has (broadcastInDim S4096x1024 ![0, 1] bcast_S1x1024_S4096x1024_0_1 (broadcastInDim S1x1024 ![1] bcast_S1024_S1x1024_1 X)) fun j => g (ix1 (j 1)) := by
  intro j
  obtain ⟨t, d, rfl⟩ : ∃ t d, j = ix2 t d := ⟨j 0, j 1, ValueIdx.eq_ix2 j⟩
  pointwise
  exact hX _

theorem v31 {f : S4096x1024.Idx → ℝ} {g : S1024.Idx → ℝ} (h : Has (V main_v26) f) (hs : Has (V main_v28_0) g) :
    Has (after (main0_2 (F := Ideal)) V main_v31) fun j => f j * g (ix1 (j 1)) := by
  unfold main0_2
  after_reads_simp
  exact h.mul (rows_of hs)

theorem scale_reads : after (main0_2 (F := Ideal)) V main_v29 = broadcastInDim S1x1024 ![1] bcast_S1024_S1x1024_1 (V main_v28_0)
    ∧ after (main0_2 (F := Ideal)) V main_v32 = (fun j => Ideal.exp (after (main0_2 (F := Ideal)) V main_v31 j) : FVec Ideal S4096x1024 .f32)
    ∧ after (main0_2 (F := Ideal)) V main_v36 = (fun j => Ideal.exp (Ideal.ofBits .f32 0x40000000#32 * after (main0_2 (F := Ideal)) V main_v31 j) : FVec Ideal S4096x1024 .f32)
    ∧ after (main0_2 (F := Ideal)) V main_v38 = (fun j => Ideal.sqrt (-(Ideal.exp (Ideal.ofBits .f32 0x40000000#32 * after (main0_2 (F := Ideal)) V main_v31 j) - 1)) : FVec Ideal S4096x1024 .f32)
    ∧ after (main0_2 (F := Ideal)) V main_v40 = (fun j => Ideal.div (Ideal.ofBits .f32 0x3F000000#32) (after (main0_2 (F := Ideal)) V main_v38 j) : FVec Ideal S4096x1024 .f32)
    ∧ after (main0_2 (F := Ideal)) V main_cst_6 = constant (F := Ideal) S_ .f32 0x3F800000#32 := by
  unfold main0_2
  refine ⟨?_, ?_, ?_, ?_, ?_, ?_⟩ <;> after_reads_simp <;> rfl

theorem v44 (t : Fin 4096) : after (main0_2 (F := Ideal)) V main_v44 (ix2 t (0 : Fin 1)) = BitVec.ofBool (decide (t.val = 0)) := by
  unfold main0_2
  after_reads_simp
  show IntOp.cmpi .eq (BitVec.ofNat 32 t.val) 0#32 = _
  exact WordCmp.cmpi_eq_ofNat (by have := t.isLt; omega) (by decide)

theorem v45_1 (hm : ∀ t : Fin 4096, V main_v44 (ix2 t (0 : Fin 1)) = BitVec.ofBool (decide (t.val = 0))) (j : S4096x1024.Idx) :
    after (main0_3 (F := Ideal)) V main_v45_1 j = BitVec.ofBool (decide ((j 0).val = 0)) := by
  unfold main0_3
  after_reads_simp
  obtain ⟨t, d, rfl⟩ : ∃ t d, j = ix2 t d := ⟨j 0, j 1, ValueIdx.eq_ix2 j⟩
  show broadcastInDim (α := BitVec 1) S4096x1024 ![0, 1] bcast_S4096x1_S4096x1024_0_1 (V main_v44) (ix2 t d) = _
  pointwise
  exact hm t

theorem v45_0 {f : S4096x1024.Idx → ℝ} (h : Has (V main_v38) f) (hc : V main_cst_6 = (constant (F := Ideal) S_ .f32 0x3F800000#32))
    (hm : ∀ t : Fin 4096, V main_v44 (ix2 t (0 : Fin 1)) = BitVec.ofBool (decide (t.val = 0))) :
    Has (after (main0_3 (F := Ideal)) V main_v45_0) fun j => if (j 0).val = 0 then 1 else f j := by
  have e : after (main0_3 (F := Ideal)) V main_v45_0 = select (after (main0_3 (F := Ideal)) V main_v45_1) (broadcastInDim S4096x1024 ![] bcast_S_S4096x1024 (V main_cst_6)) (V main_v38) := by
    unfold main0_3
    after_reads_simp
    rfl
  rw [e]
  refine Has.sel (p := fun j => (j 0).val = 0) (v45_1 hm) ?_ h
  rw [hc]; exact fun _ => lit1

/-- The products of the recurrence's input. -/
theorem v46 {f g h : S4096x1024.Idx → ℝ} (h3 : Has (V main_v3) f) (h22 : Has (V main_v22) g) (h45 : Has (V main_v45_0) h) :
    Has (after (main0_4 (F := Ideal)) V main_v46) (fun j => f j * g j) ∧ Has (after (main0_4 (F := Ideal)) V main_v47) fun j => f j * g j * h j := by
  unfold main0_4
  constructor <;> after_reads_simp
  · exact h3.mul h22
  · exact (h3.mul h22).mul h45

end Cert.ReferenceIdeal.Val

end
-- ==== Proof.Val.Finite.lean ====
/- The precondition at work: arrays all of whose elements are finite hold real numbers. -/
module

public import proofs.«01_k».proof.Defs
public import proofs.«01_k».proof.Proof.Val.Gates
public import proofs.«01_k».proof.Proof.Val.RefPre

@[expose] public section

noncomputable section

namespace Cert.Val

open Cert.Spec Cert.KernelIdeal Cert.KernelIdeal.Val
open Idealize.ShloMosaic hiding ix0 ix1 ix2 ix3 ix4
open Idealize.ShloMosaic.ValueIdx

/-- The precondition's broadcasts fit. -/
theorem pre_facts : Cert.Pre_finite.Facts where
  bcast_S_S4096x1024 := by decide
  bcast_S_S1024 := by decide
  bcast_S_S2x4x256x256 := by decide
  bcast_S_S2x1024 := by decide

/-- An extended real whose absolute value compares below infinity is a real number. -/
theorem real_of {x : EReal} (h : Ideal.cmp .olt (max x (-x)) (Ideal.ofBits .f32 0x7F800000#32) = 1#1) : x = ((x.toReal : ℝ) : EReal) := by
  rw [Cert.ReferenceIdeal.Val.inf_word] at h
  refine (EReal.coe_toReal ?_ ?_).symm
  · rintro rfl
    simp [Ideal.cmp] at h
  · rintro rfl
    simp [Ideal.cmp] at h

/-- The real numbers six arrays hold, by their positions. -/
def inp (x0 : FVec Ideal S4096x1024 .f32) (x1 : FVec Ideal S1024 .f32) (x2 : FVec Ideal S2x4x256x256 .f32)
    (x3 : FVec Ideal S2x1024 .f32) (x4 : FVec Ideal S1024 .f32) (x5 : FVec Ideal S4096x1024 .f32) : Inp where
  conv t d := (x0 (ix2 (Fin.ofNat 4096 t) (Fin.ofNat 1024 d))).toReal
  rcb d := (x1 (ix1 (Fin.ofNat 1024 d))).toReal
  w g n i j := (x2 (ix4 (Fin.ofNat 2 g) (Fin.ofNat 4 n) (Fin.ofNat 256 i) (Fin.ofNat 256 j))).toReal
  rgb g d := (x3 (ix2 (Fin.ofNat 2 g) (Fin.ofNat 1024 d))).toReal
  ap d := (x4 (ix1 (Fin.ofNat 1024 d))).toReal
  dh t d := (x5 (ix2 (Fin.ofNat 4096 t) (Fin.ofNat 1024 d))).toReal

theorem ofNat_val {n : ℕ} [NeZero n] (i : Fin n) : Fin.ofNat n i.val = i := Fin.ext (Nat.mod_eq_of_lt i.isLt)

variable {x0 : FVec Ideal S4096x1024 .f32} {x1 : FVec Ideal S1024 .f32} {x2 : FVec Ideal S2x4x256x256 .f32}
  {x3 : FVec Ideal S2x1024 .f32} {x4 : FVec Ideal S1024 .f32} {x5 : FVec Ideal S4096x1024 .f32}

/-- Six arrays of finite elements hold the real numbers read off them. -/
theorem given [hP : Cert.Pre_finite.Facts]
    (h0 : (Cert.Pre_finite.fn (F := Ideal) x0 x1 x2 x3 x4 x5).1 = fun _ => 1#1) (h1 : (Cert.Pre_finite.fn (F := Ideal) x0 x1 x2 x3 x4 x5).2.1 = fun _ => 1#1)
    (h2 : (Cert.Pre_finite.fn (F := Ideal) x0 x1 x2 x3 x4 x5).2.2.1 = fun _ => 1#1) (h3 : (Cert.Pre_finite.fn (F := Ideal) x0 x1 x2 x3 x4 x5).2.2.2.1 = fun _ => 1#1)
    (h4 : (Cert.Pre_finite.fn (F := Ideal) x0 x1 x2 x3 x4 x5).2.2.2.2.1 = fun _ => 1#1) (h5 : (Cert.Pre_finite.fn (F := Ideal) x0 x1 x2 x3 x4 x5).2.2.2.2.2 = fun _ => 1#1) :
    Given x0 x1 x2 x3 x4 x5 (inp x0 x1 x2 x3 x4 x5) where
  conv j := by
    obtain ⟨t, d, rfl⟩ : ∃ t d, j = ix2 t d := ⟨j 0, j 1, ValueIdx.eq_ix2 j⟩
    refine (real_of (congrFun h0 (ix2 t d))).trans ?_
    show _ = (((x0 (ix2 (Fin.ofNat 4096 t.val) (Fin.ofNat 1024 d.val))).toReal : ℝ) : EReal)
    rw [ofNat_val, ofNat_val]
  rcb j := by
    obtain ⟨d, rfl⟩ : ∃ d, j = ix1 d := ⟨j 0, ValueIdx.eq_ix1 j⟩
    refine (real_of (congrFun h1 (ix1 d))).trans ?_
    show _ = (((x1 (ix1 (Fin.ofNat 1024 d.val))).toReal : ℝ) : EReal)
    rw [ofNat_val]
  w j := by
    obtain ⟨g, n, i, k, rfl⟩ : ∃ g n i k, j = ix4 g n i k := ⟨j 0, j 1, j 2, j 3, ValueIdx.eq_ix4 j⟩
    refine (real_of (congrFun h2 (ix4 g n i k))).trans ?_
    show _ = (((x2 (ix4 (Fin.ofNat 2 g.val) (Fin.ofNat 4 n.val) (Fin.ofNat 256 i.val) (Fin.ofNat 256 k.val))).toReal : ℝ) : EReal)
    rw [ofNat_val, ofNat_val, ofNat_val, ofNat_val]
  rgb j := by
    obtain ⟨t, d, rfl⟩ : ∃ t d, j = ix2 t d := ⟨j 0, j 1, ValueIdx.eq_ix2 j⟩
    refine (real_of (congrFun h3 (ix2 t d))).trans ?_
    show _ = (((x3 (ix2 (Fin.ofNat 2 t.val) (Fin.ofNat 1024 d.val))).toReal : ℝ) : EReal)
    rw [ofNat_val, ofNat_val]
  ap j := by
    obtain ⟨d, rfl⟩ : ∃ d, j = ix1 d := ⟨j 0, ValueIdx.eq_ix1 j⟩
    refine (real_of (congrFun h4 (ix1 d))).trans ?_
    show _ = (((x4 (ix1 (Fin.ofNat 1024 d.val))).toReal : ℝ) : EReal)
    rw [ofNat_val]
  dh j := by
    obtain ⟨t, d, rfl⟩ : ∃ t d, j = ix2 t d := ⟨j 0, j 1, ValueIdx.eq_ix2 j⟩
    refine (real_of (congrFun h5 (ix2 t d))).trans ?_
    show _ = (((x5 (ix2 (Fin.ofNat 4096 t.val) (Fin.ofNat 1024 d.val))).toReal : ℝ) : EReal)
    rw [ofNat_val, ofNat_val]

end Cert.Val

end
-- ==== Proof.Val.Scan.lean ====
/- The kernel's scan over the reals: three doublings over a group of eight rows are the recurrence, the groups chained
   from the last are the recurrence over the tile. -/
module

public import proofs.«01_k».proof.Proof.Rec.Block
public import proofs.«01_k».proof.Proof.Val.Spec
public import Idealize.ShloMosaic.Lib.Pointwise
public import Idealize.ShloMosaic.Lib.KernelVsHost

@[expose] public section

set_option maxRecDepth 16384

noncomputable section

namespace Cert.KernelIdeal.Val

open Cert.KernelIdeal Cert.KernelIdeal.Gen Cert.KernelIdeal.Rec
open Idealize.ShloMosaic hiding ix0 ix1 ix2 ix3 ix4
open Idealize.ShloMosaic.TcCoe Idealize.ShloMosaic.ValueIdx

/-- Turning a tile of eight rows by `sb` upwards from the top reads the row `8 - sb` below. -/
theorem rot_apply (sb : BitVec 32) (x : Vec Ideal S8x1024 .f32) (s k : Fin 8) (q : Fin 1024)
    (h : k.val = (s.val + 8 - sb.toNat % 8) % 8) :
    dynamicRotate 0 sb none x rotates_S8x1024_d0 (ix2 s q) = x (ix2 k q) := by
  refine dynamicRotate_apply _ _ _ _ _ _ ?_
  intro b
  match b with
  | 0 => simpa using h
  | 1 => simp

theorem row_apply (s : Fin 8) (q : Fin 1024) : rowIdx (ix2 s q) = BitVec.ofNat 32 s.val := by
  unfold rowIdx
  pointwise []

theorem mask3 (s : Fin 8) (q : Fin 1024) : k0_pay3 rowIdx (ix2 s q) = BitVec.ofBool (decide (s.val < 7)) := by
  show Scalar.cmpi .slt (rowIdx (ix2 s q)) 7#32 = _
  rw [row_apply]; revert s; decide
theorem mask5 (s : Fin 8) (q : Fin 1024) : k0_pay5 rowIdx (ix2 s q) = BitVec.ofBool (decide (s.val < 6)) := by
  show Scalar.cmpi .slt (rowIdx (ix2 s q)) 6#32 = _
  rw [row_apply]; revert s; decide
theorem mask7 (s : Fin 8) (q : Fin 1024) : k0_pay7 rowIdx (ix2 s q) = BitVec.ofBool (decide (s.val < 4)) := by
  show Scalar.cmpi .slt (rowIdx (ix2 s q)) 4#32 = _
  rw [row_apply]; revert s; decide

/-- A tile of eight rows holding, in its column `q`, the real numbers `f`. -/
def Has8 (X : Vec Ideal S8x1024 .f32) (q : Fin 1024) (f : ℕ → ℝ) : Prop := ∀ s : Fin 8, X (ix2 s q) = ((f s.val : ℝ) : EReal)

/-- One masked turn: the row `n` below where there is one, else the constant. -/
theorem turn {X : Vec Ideal S8x1024 .f32} {q : Fin 1024} {f : ℕ → ℝ} (h : Has8 X q f) (n : ℕ) (hn : 0 < n) (hn8 : n < 8) (sb : BitVec 32)
    (hsb : sb.toNat = 8 - n) (M : IVec S8x1024 1) (hM : ∀ s : Fin 8, M (ix2 s q) = BitVec.ofBool (decide (s.val < 8 - n)))
    (z : EReal) (e : ℝ) (hz : z = (e : EReal)) :
    Has8 (select M (dynamicRotate 0 sb none X rotates_S8x1024_d0) (broadcast S8x1024 z : FVec Ideal S8x1024 .f32)) q
      (fun s => if s < 8 - n then f (s + n) else e) := by
  intro s
  show _ = ((if s.val < 8 - n then f (s.val + n) else e : ℝ) : EReal)
  by_cases hs : s.val < 8 - n
  · have hm : M (ix2 s q) = 1#1 := by rw [hM, decide_eq_true hs]; rfl
    rw [select_apply, hm, select_one, rot_apply sb X s ⟨s.val + n, by omega⟩ q, h, if_pos hs]
    rw [hsb]
    simp only []
    rw [Nat.mod_eq_of_lt (show 8 - n < 8 by omega), Nat.mod_eq_of_lt (by omega)]; omega
  · have hm : M (ix2 s q) = 0#1 := by rw [hM, decide_eq_false hs]; rfl
    rw [select_apply, hm, select_zero, if_neg hs]
    exact hz

variable {X Y : Vec Ideal S8x1024 .f32} {q : Fin 1024} {f g : ℕ → ℝ}

theorem Has8.mul (hX : Has8 X q f) (hY : Has8 Y q g) : Has8 (mulf X Y : FVec Ideal S8x1024 .f32) q (fun s => f s * g s) := by
  intro s
  show X (ix2 s q) * Y (ix2 s q) = _
  rw [hX, hY, EReal.coe_mul]
theorem Has8.add (hX : Has8 X q f) (hY : Has8 Y q g) : Has8 (addf X Y : FVec Ideal S8x1024 .f32) q (fun s => f s + g s) := by
  intro s
  show X (ix2 s q) + Y (ix2 s q) = _
  rw [hX, hY, EReal.coe_add]

theorem one_lit : (Scalar.ofBits (F := Ideal) .f32 0x3F800000#32) = ((1 : ℝ) : EReal) := by
  rw [EReal.coe_one]; exact Ideal.ofBits_one_f32
theorem zero_lit : (Scalar.ofBits (F := Ideal) .f32 0x00000000#32) = ((0 : ℝ) : EReal) := by
  rw [EReal.coe_zero]; exact Ideal.ofBits_zero_f32

section Group

variable {c b : ℕ → ℝ} {C B acc : Vec Ideal S8x1024 .f32} (hC : Has8 C q c) (hB : Has8 B q b)

/-- The decays' product over two rows, four rows and eight rows. -/
def A1 (c : ℕ → ℝ) (s : ℕ) : ℝ := c s * (if s < 7 then c (s + 1) else 1)
def A2 (c : ℕ → ℝ) (s : ℕ) : ℝ := A1 c s * (if s < 6 then A1 c (s + 2) else 1)
def A3 (c : ℕ → ℝ) (s : ℕ) : ℝ := A2 c s * (if s < 4 then A2 c (s + 4) else 1)
def B1 (c b : ℕ → ℝ) (s : ℕ) : ℝ := c s * (if s < 7 then b (s + 1) else 0) + b s
def B2 (c b : ℕ → ℝ) (s : ℕ) : ℝ := A1 c s * (if s < 6 then B1 c b (s + 2) else 0) + B1 c b s
def B3 (c b : ℕ → ℝ) (s : ℕ) : ℝ := A2 c s * (if s < 4 then B2 c b (s + 4) else 0) + B2 c b s

include hC in
theorem has_pay4 : Has8 (k0_pay4 rowIdx C) q (A1 c) :=
  hC.mul (turn hC 1 (by decide) (by decide) _ (by decide) _ (fun s => mask3 s q) _ 1 one_lit)
include hC in
theorem has_pay6 : Has8 (k0_pay6 rowIdx C) q (A2 c) :=
  (has_pay4 hC).mul (turn (has_pay4 hC) 2 (by decide) (by decide) _ (by decide) _ (fun s => mask5 s q) _ 1 one_lit)
include hC in
theorem has_pay9 : Has8 (k0_pay9 rowIdx C) q (A3 c) :=
  (has_pay6 hC).mul (turn (has_pay6 hC) 4 (by decide) (by decide) _ (by decide) _ (fun s => mask7 s q) _ 1 one_lit)
include hC hB in
theorem has_pay8 : Has8 (k0_pay8 rowIdx C B) q (B3 c b) := by
  have h1 :=
    (hC.mul (turn hB 1 (by decide) (by decide) 7#32 (by decide) (k0_pay3 rowIdx) (fun s => mask3 s q) _ 0 zero_lit)).add hB
  have h2 :=
    ((has_pay4 hC).mul (turn h1 2 (by decide) (by decide) 6#32 (by decide) (k0_pay5 rowIdx) (fun s => mask5 s q) _ 0 zero_lit)).add h1
  exact ((has_pay6 hC).mul (turn h2 4 (by decide) (by decide) 4#32 (by decide) (k0_pay7 rowIdx) (fun s => mask7 s q) _ 0 zero_lit)).add h2

/-- The doublings solve the recurrence. -/
theorem doubled (f : ℕ → ℝ) (hf : ∀ s < 8, f s = b s + c s * f (s + 1)) (s : ℕ) (hs : s < 8) : A3 c s * f 8 + B3 c b s = f s := by
  have h7 := hf 7 (by decide)
  have h6 := hf 6 (by decide)
  have h5 := hf 5 (by decide)
  have h4 := hf 4 (by decide)
  have h3 := hf 3 (by decide)
  have h2 := hf 2 (by decide)
  have h1 := hf 1 (by decide)
  have h0 := hf 0 (by decide)
  simp only [Nat.reduceAdd] at h7 h6 h5 h4 h3 h2 h1 h0
  rw [h7] at h6; rw [h6] at h5; rw [h5] at h4; rw [h4] at h3; rw [h3] at h2; rw [h2] at h1; rw [h1] at h0
  interval_cases s <;> simp only [A3, A2, A1, B3, B2, B1, Nat.reduceAdd, Nat.reduceLT, if_true, if_false] <;>
    first | rw [h0] ; ring | rw [h1] ; ring | rw [h2] ; ring | rw [h3] ; ring | rw [h4]; ring | rw [h5]; ring | rw [h6]; ring | rw [h7]; ring

include hC hB in
/-- A group's rows, from the row handed on by the group after. -/
theorem has_outG (f : ℕ → ℝ) (hf : ∀ s < 8, f s = b s + c s * f (s + 1)) (hacc : ∀ s : Fin 8, acc (ix2 s q) = ((f 8 : ℝ) : EReal)) :
    Has8 (outG C B acc) q f := by
  intro s
  have h : k0_pay26 acc (k0_pay8 rowIdx C B) (k0_pay9 rowIdx C) (ix2 s q) = _ :=
    ((has_pay9 hC).mul (f := A3 c) (g := fun _ => f 8) hacc).add (has_pay8 hC hB) s
  unfold outG k0_pay27
  rw [shapeCast_self, h]
  exact congrArg _ (doubled f hf s.val s.isLt)

include hC hB in
theorem has_edgeG (f : ℕ → ℝ) (hf : ∀ s < 8, f s = b s + c s * f (s + 1)) (hacc : ∀ s : Fin 8, acc (ix2 s q) = ((f 8 : ℝ) : EReal)) :
    ∀ s : Fin 8, edgeG C B acc (ix2 s q) = ((f 0 : ℝ) : EReal) := by
  intro s
  have h : k0_pay26 acc (k0_pay8 rowIdx C B) (k0_pay9 rowIdx C) (ix2 (0 : Fin 8) q) = _ :=
    ((has_pay9 hC).mul (f := A3 c) (g := fun _ => f 8) hacc).add (has_pay8 hC hB) 0
  have e : edgeG C B acc (ix2 s q) = k0_pay26 acc (k0_pay8 rowIdx C B) (k0_pay9 rowIdx C) (ix2 (0 : Fin 8) q) := by
    unfold edgeG k0_pay28
    generalize k0_pay26 acc (k0_pay8 rowIdx C B) (k0_pay9 rowIdx C) = Z
    pointwise []
    rfl
  rw [e, h]
  exact congrArg _ (doubled f hf 0 (by decide))

end Group

/-- The scan over a tile of 256 rows. -/
theorem scan {C B : Vec Ideal S256x1024 .f32} {L : Vec Ideal S8x1024 .f32} {c b f : ℕ → ℝ} {q : Fin 1024}
    (hC : ∀ r : Fin 256, C (ix2 r q) = ((c r.val : ℝ) : EReal)) (hB : ∀ r : Fin 256, B (ix2 r q) = ((b r.val : ℝ) : EReal))
    (hL : ∀ s : Fin 8, L (ix2 s q) = ((f 256 : ℝ) : EReal)) (hf : ∀ r < 256, f r = b r + c r * f (r + 1)) :
    (∀ k, k ≤ 32 → ∀ s : Fin 8, car C B L k (ix2 s q) = ((f (256 - 8 * k) : ℝ) : EReal))
      ∧ ∀ r : Fin 256, lamOf C B L (ix2 r q) = ((f r.val : ℝ) : EReal) := by
  have hgC : ∀ g < 32, Has8 (grp g C) q (fun s => c (8 * g + s)) := by
    intro g hg s
    have := s.isLt
    show C (ix2 (⟨(8 * g + s.val) % 256, _⟩ : Fin 256) q) = _
    rw [hC]
    simp only []
    rw [Nat.mod_eq_of_lt (by omega)]
  have hgB : ∀ g < 32, Has8 (grp g B) q (fun s => b (8 * g + s)) := by
    intro g hg s
    have := s.isLt
    show B (ix2 (⟨(8 * g + s.val) % 256, _⟩ : Fin 256) q) = _
    rw [hB]
    simp only []
    rw [Nat.mod_eq_of_lt (by omega)]
  have hcar : ∀ k, k ≤ 32 → ∀ s : Fin 8, car C B L k (ix2 s q) = ((f (256 - 8 * k) : ℝ) : EReal) := by
    intro k
    induction k with
    | zero => intro _ s; exact hL s
    | succ k ih =>
      intro hk s
      have := has_edgeG (hgC (31 - k) (by omega)) (hgB (31 - k) (by omega)) (acc := car C B L k) (fun s => f (8 * (31 - k) + s))
        (fun s hs => hf _ (by omega)) (fun s => by rw [ih (by omega)]; congr 2; omega) s
      rw [car, this]; congr 2; omega
  refine ⟨hcar, fun r => ?_⟩
  have hr := r.isLt
  have := has_outG (hgC (r.val / 8) (by omega)) (hgB (r.val / 8) (by omega)) (acc := car C B L (31 - r.val / 8)) (fun s => f (8 * (r.val / 8) + s))
    (fun s hs => hf _ (by omega)) (fun s => by rw [hcar _ (by omega)]; congr 2; omega) ⟨r.val % 8, by omega⟩
  refine Eq.trans (show _ = outG (grp (r.val / 8) C) (grp (r.val / 8) B) (car C B L (31 - r.val / 8)) (ix2 ⟨r.val % 8, by omega⟩ q) from rfl) ?_
  rw [this]
  exact congrArg (fun n => ((f n : ℝ) : EReal)) (show 8 * (r.val / 8) + r.val % 8 = r.val by omega)

end Cert.KernelIdeal.Val

end
-- ==== Proof.Val.Tile.lean ====
/- What one grid point computes over the reals, from blocks that hold real numbers: the decays, the states' gradient,
   the gates' gradients and the column sums' summands of its 256 rows. -/
module

public import proofs.«01_k».proof.Proof.Val.Scan
public import proofs.«01_k».proof.Proof.Val.Has

@[expose] public section

set_option maxRecDepth 16384

noncomputable section

namespace Cert.KernelIdeal.Val

open Cert.KernelIdeal Cert.KernelIdeal.Gen Cert.KernelIdeal.Rec Cert.Val Cert.Spec
open Idealize.ShloMosaic hiding ix0 ix1 ix2 ix3 ix4
open Idealize.ShloMosaic.TcCoe Idealize.ShloMosaic.ValueIdx

/-- A row spread over a tile. -/
theorem spread (v : FVec Ideal S1x1024 .f32) (j : S256x1024.Idx) :
    broadcastTo S256x1024 v broadcasts_S1x1024_S256x1024 j = v (ix2 (0 : Fin 1) (j 1 : Fin 1024)) := by
  pointwise []
  rfl

/-- The column sums of a tile. -/
theorem colsum (v : FVec Ideal S256x1024 .f32) (q : Fin 1024) :
    shapeCast S1x1024 (multiReduction .add [0] S1024 v 0x00000000#32 reduces_S256x1024_S1024 (.inl rfl) rfl) shapeCasts_S1024_S1x1024
      (ix2 (0 : Fin 1) q) = ∑ r : Fin 256, v (ix2 r q) := by
  pointwise []
  rfl

/-- A real function of rows and columns over a tile whose first row is row `o`. -/
def at' (o : ℕ) (f : ℕ → ℕ → ℝ) : S256x1024.Idx → ℝ := fun j => f (o + (j 0).val) (j 1).val

/-- The blocks of row block `n` hold the arrays of the gradient. -/
structure Blk (I : Inp) (n : ℕ) (x0 : Vec Ideal S256x1024 .bf16) (x1 x2 : Vec Ideal S256x1024 .f32) (x3 : Vec Ideal S256x1024 .bf16)
    (x4 : Vec Ideal S16x1024 .bf16) (x5 : Vec Ideal S256x1024 .f32) (x6 : Vec Ideal S1x1024 .f32) (x7 : Vec Ideal S2x4x256x256 .bf16) : Prop where
  dh : Has x0 (at' (256 * n) I.dh)
  gr : Has x1 (at' (256 * n) (gate I 1))
  gi : Has x2 (at' (256 * n) (gate I 0))
  h : Has x3 (at' (256 * n) fun t d => hs I (t + 1) d)
  halo : n ≠ 0 → ∀ q : Fin 1024, x4 (ix2 (15 : Fin 16) q) = ((hs I (256 * n) q.val : ℝ) : EReal)
  xc : Has x5 (at' (256 * n) (xc I))
  ap : Has x6 (fun j => I.ap (j 1).val)
  w : Has x7 (fun j => I.w (j 0).val (j 1).val (j 2).val (j 3).val)

/-- The two rows handed on by row block `n + 1`. -/
structure Handed (I : Inp) (n : ℕ) (L A : Vec Ideal S8x1024 .f32) : Prop where
  lam : ∀ (s : Fin 8) (q : Fin 1024), L (ix2 s q) = ((Spec.lam I (256 * (n + 1)) q.val : ℝ) : EReal)
  a : ∀ (s : Fin 8) (q : Fin 1024), A (ix2 s q) = ((aE I (256 * (n + 1)) q.val : ℝ) : EReal)

/-- The mask of the sequence's first row. -/
theorem mask0 {n : ℕ} {i : grid0.Coords} (hn : n ≤ 15) (hi : (i 0).val = 15 - n) (j : S256x1024.Idx) :
    k0_pay31 (blkW i) j = BitVec.ofBool (decide (256 * n + (j 0).val = 0)) := by
  have hj : (j 0).val < 256 := (j 0).isLt
  have e : k0_pay31 (blkW i) j = Scalar.cmpi .eq (BitVec.ofNat 32 (j 0).val + Scalar.muli (blkW i) 256#32) 0#32 := by
    unfold k0_pay31; pointwise []; rfl
  rw [e, blkW, hi]
  have hb : Scalar.muli (Scalar.subi 15#32 (BitVec.ofNat 32 (15 - n))) 256#32 = BitVec.ofNat 32 (256 * n) := by
    interval_cases n <;> rfl
  rw [hb]
  have : BitVec.ofNat 32 (j 0).val + BitVec.ofNat 32 (256 * n) = BitVec.ofNat 32 (256 * n + (j 0).val) := by
    rw [← BitVec.ofNat_add, Nat.add_comm]
  rw [this]
  show BitVec.ofBool (BitVec.ofNat 32 (256 * n + (j 0).val) == 0#32) = _
  congr 1
  rw [Bool.eq_iff_iff, beq_iff_eq, decide_eq_true_iff]
  constructor
  · intro h
    have := congrArg BitVec.toNat h
    simp only [BitVec.toNat_ofNat] at this
    omega
  · intro h; rw [h]

section Tile

variable {I : Inp} {n : ℕ} {i : grid0.Coords}
  {x0 : Vec Ideal S256x1024 .bf16} {x1 x2 : Vec Ideal S256x1024 .f32} {x3 : Vec Ideal S256x1024 .bf16}
  {x4 : Vec Ideal S16x1024 .bf16} {x5 : Vec Ideal S256x1024 .f32} {x6 : Vec Ideal S1x1024 .f32} {x7 : Vec Ideal S2x4x256x256 .bf16}
  {L A : Vec Ideal S8x1024 .f32}
  (B : Blk I n x0 x1 x2 x3 x4 x5 x6 x7) (H : Handed I n L A) (hn : n ≤ 15) (hi : (i 0).val = 15 - n)

include B

theorem p15 : Has (k0_pay15 x0) (at' (256 * n) I.dh) := by
  unfold k0_pay15; simp only [shapeCast_self]; exact B.dh
theorem p14 : Has (k0_pay14 x3) (at' (256 * n) fun t d => hs I (t + 1) d) := by
  unfold k0_pay14; simp only [shapeCast_self]; exact B.h
theorem p16 : Has (k0_pay16 x1) (at' (256 * n) (gate I 1)) := by unfold k0_pay16; simp only [shapeCast_self]; exact B.gr
theorem p17 : Has (k0_pay17 x2) (at' (256 * n) (gate I 0)) := by unfold k0_pay17; simp only [shapeCast_self]; exact B.gi
theorem p18 : Has (k0_pay18 x5) (at' (256 * n) (xc I)) := by unfold k0_pay18; simp only [shapeCast_self]; exact B.xc
theorem p19 : Has (k0_pay19 x6) (fun j => I.ap (j 1).val) := by unfold k0_pay19; simp only [shapeCast_self]; exact B.ap

/-- The decay's rate. -/
theorem p20 : Has (k0_pay20 x6) (fun j => sp I (j 1).val) := by
  have u := (Has.const lit0).sub (p19 B)
  have e := ((Has.const lit0).sub u.abs).exp
  have s := (Has.const lit1).add e
  have ep : ∀ j : S1x1024.Idx, 0 < Real.exp (0 - |0 - I.ap (j 1).val|) := fun j => Real.exp_pos _
  have ne : ∀ j : S1x1024.Idx, 1 + Real.exp (0 - |0 - I.ap (j 1).val|) ≠ 1 := fun j => by have := ep j; linarith
  have m := s.ne_oeq (Has.const lit1) ne
  have d := ((s.log fun j => by have := ep j; linarith).mul e).div
    (Has.sel_false m (X := fun _ => Ideal.ofBits .f32 0x3F800000#32) (s.sub (Has.const lit1))) fun j => by have := ep j; simp only []; linarith
  have z := (u.max (Has.const lit0)).add (Has.sel_false m (X := e.arr) d)
  refine Has.congr (f := _) z fun j => ?_
  have hp := ep j
  simp only [add_sub_cancel_left]
  rw [mul_div_assoc, div_self hp.ne', mul_one, zero_sub, zero_sub, softplus_eq]
  rfl

theorem has_la : Has (laV x1 x6) (at' (256 * n) (la I)) := by
  have z := ((Has.const litNeg8).mul (p16 B)).mul (Has.reindex (p20 B) fun j : S256x1024.Idx => ix2 (0 : Fin 1) (j 1 : Fin 1024))
  intro j
  refine Eq.trans ?_ (z j)
  show _ * broadcastTo S256x1024 (k0_pay20 x6) broadcasts_S1x1024_S256x1024 j = _
  rw [spread]; rfl

theorem has_a : Has (aV x1 x6) (at' (256 * n) (a I)) := (has_la B).exp

include H hn in
theorem has_c : Has (cV x1 x6 A) (at' (256 * n) fun t d => aE I (t + 1) d) := by
  intro j
  have hj : (j 0).val < 256 := (j 0).isLt
  unfold cV
  split
  · rename_i h
    unfold k0_pay23; rw [shapeCast_self]
    refine (has_a B _).trans ?_
    show ((a I (256 * n + ((j 0).val + 1)) (j 1).val : ℝ) : EReal) = ((aE I (256 * n + (j 0).val + 1) (j 1).val : ℝ) : EReal)
    rw [aE, if_pos (by omega)]; rfl
  · rename_i h
    unfold k0_pay24; rw [shapeCast_self]
    refine (H.a _ _).trans ?_
    show _ = ((aE I (256 * n + (j 0).val + 1) (j 1).val : ℝ) : EReal)
    rw [show 256 * n + (j 0).val + 1 = 256 * (n + 1) by omega]

include H hn in
theorem scanned (q : Fin 1024) :
    (∀ k, k ≤ 32 → ∀ s : Fin 8, car (k0_pay25 (cV x1 x6 A)) (k0_pay15 x0) L k (ix2 s q) = ((lam I (256 * n + (256 - 8 * k)) q.val : ℝ) : EReal))
      ∧ ∀ r : Fin 256, lamV x0 x1 x6 L A (ix2 r q) = ((lam I (256 * n + r.val) q.val : ℝ) : EReal) := by
  refine scan (c := fun r => aE I (256 * n + r + 1) q.val) (b := fun r => I.dh (256 * n + r) q.val) (f := fun r => lam I (256 * n + r) q.val)
    (fun r => ?_) (fun r => p15 B _) (fun s => H.lam s q) fun r hr => ?_
  · unfold k0_pay25; rw [shapeCast_self]; exact has_c B H hn _
  · exact lam_rec I _ _ (by omega)

include H hn in
theorem has_lam : Has (lamV x0 x1 x6 L A) (at' (256 * n) (lam I)) := fun j => by
  have h := (scanned B H hn (j 1)).2 (j 0)
  exact (congrArg _ (ValueIdx.eq_ix2 j)).trans h

/-- The input's scale. -/
theorem has_mult (hn : n ≤ 15) (hi : (i 0).val = 15 - n) : Has (multV i x1 x6) (at' (256 * n) (mul I)) := by
  have x := (Has.const lit2).mul (has_la B)
  have e := x.exp
  have s := e.sub (Has.const lit1)
  have hx : ∀ j : S256x1024.Idx, 2 * at' (256 * n) (la I) j < 0 := fun j => by have := la_neg I (256 * n + (j 0).val) (j 1).val; simp only [at']; linarith
  have h1 : ∀ j : S256x1024.Idx, Real.exp (2 * at' (256 * n) (la I) j) < 1 := fun j => by
    rw [← Real.exp_zero]; exact Real.exp_lt_exp.mpr (hx j)
  have h0 : ∀ j : S256x1024.Idx, 0 < Real.exp (2 * at' (256 * n) (la I) j) := fun j => Real.exp_pos _
  have n1 : ∀ j, _ := e.ne_one (Has.const lit1) fun j => (h1 j).ne
  have n2 : ∀ j, _ := s.ne_one (Has.const litNeg1) fun j => by have := h0 j; intro h; linarith
  have f1 : ∀ j, _ := e.ne_oeq (Has.const lit1) fun j => (h1 j).ne
  have f2 : ∀ j, _ := s.ne_oeq (Has.const litNeg1) fun j => by have := h0 j; intro h; linarith
  have safe : ∀ j, k0_pay35 (laV x1 x6) j = 1#1 := fun j => by
    show Ideal.cmp .one _ _ &&& Ideal.cmp .one _ _ = 1#1
    refine (congrArg₂ (· &&& ·) (n1 j) (n2 j)).trans ?_
    rfl
  have lg := Has.sel_true (Y := fun _ => Ideal.ofBits .f32 0x3F800000#32) safe
    ((Has.sel_true (Y := fun _ => Ideal.ofBits .f32 0x3F000000#32) safe e).log h0)
  have q := (s.mul x).div lg fun j => by rw [Real.log_exp]; exact (hx j).ne
  have r := Has.sel_false f1 (X := x.arr) (Has.sel_false f2 (X := fun _ => Ideal.ofBits .f32 0xBF800000#32) q)
  have rt := ((Has.const lit0).sub r).sqrt fun j => by
    rw [Real.log_exp, mul_div_assoc, div_self (hx j).ne, mul_one]; have := h1 j; linarith
  have z := Has.sel (mask0 hn hi) (Has.const lit1) rt
  refine Has.congr (f := _) z fun j => ?_
  rw [Real.log_exp, mul_div_assoc, div_self (hx j).ne, mul_one, zero_sub, neg_sub]
  rfl

/-- The states one step before each row. -/
theorem has_hprev (hn : n ≤ 15) (hi : (i 0).val = 15 - n) : Has (hprevV i x3 x4) (at' (256 * n) (hs I)) := by
  intro j
  have hj : (j 0).val < 256 := (j 0).isLt
  unfold hprevV
  split
  · rename_i h
    show _ = ((hs I (256 * n + (j 0).val) (j 1).val : ℝ) : EReal)
    rw [h, Nat.add_zero]
    unfold k0_pay13
    have hb : Scalar.cmpi .eq (Scalar.subi 15#32 (BitVec.ofNat 32 (i 0).val)) 0#32 = BitVec.ofBool (decide (n = 0)) := by
      rw [hi]; clear B hi h; interval_cases n <;> rfl
    simp only [shapeCast_self, hb]
    by_cases h0 : n = 0
    · rw [decide_eq_true h0]
      refine (show _ = Ideal.ofBits .f32 0x00000000#32 from rfl).trans (lit0.trans ?_)
      rw [h0]; rfl
    · rw [decide_eq_false h0]
      refine Eq.trans ?_ (B.halo h0 (j 1))
      show extractStridedSlice S8x1024 ![8, 0] (extf .f32 x4 bitsLt_bf16_f32 : FVec Ideal S16x1024 .f32) slices_S16x1024_o8_0_S8x1024 _ = _
      pointwise []
      rfl
  · rename_i h
    refine (p14 B _).trans ?_
    show ((hs I (256 * n + ((j 0).val - 1) + 1) (j 1).val : ℝ) : EReal) = ((hs I (256 * n + (j 0).val) (j 1).val : ℝ) : EReal)
    rw [show 256 * n + ((j 0).val - 1) + 1 = 256 * n + (j 0).val by omega]

/-- The gradient of the decay's logarithm, as the kernel writes it. -/
def dlaV (i : grid0.Coords) (x0 : Vec Ideal S256x1024 .bf16) (x1 x2 : Vec Ideal S256x1024 .f32) (x3 : Vec Ideal S256x1024 .bf16)
    (x4 : Vec Ideal S16x1024 .bf16) (x5 : Vec Ideal S256x1024 .f32) (x6 : Vec Ideal S1x1024 .f32) (L A : Vec Ideal S8x1024 .f32) :
    FVec Ideal S256x1024 .f32 :=
  k0_pay38 (hprevV i x3 x4) (k0_pay17 x2) (k0_pay18 x5) (aV x1 x6) (lamV x0 x1 x6 L A)
    (k0_pay31 (blkW i)) (k0_pay32 (laV x1 x6)) (k0_pay33 (laV x1 x6)) (k0_pay34 (laV x1 x6)) (k0_pay35 (laV x1 x6))
    (k0_pay36 (laV x1 x6)) (Scalar.ofBits .f32 0x3F000000#32)

include H hn hi

theorem has_dla : Has (dlaV i x0 x1 x2 x3 x4 x5 x6 L A) (at' (256 * n) (dla I)) := by
  have l := has_lam B H hn
  have av := has_a B
  have x := (l.mul (p18 B)).mul (p17 B)
  have m := Has.sel (mask0 hn hi) (Has.const lit0) x
  have z := ((l.mul (has_hprev B hn hi)).mul av).sub (((m.mul av).mul av).div (has_mult B hn hi) fun j => (mul_pos' I _ _).ne')
  exact Has.congr (f := _) z fun j => rfl

theorem has_dg0 : Has (dg0V i x0 x1 x2 x5 x6 L A) (at' (256 * n) (Spec.dg0 I)) := by
  have z := (((has_lam B H hn).mul (p18 B)).mul (has_mult B hn hi)).mul (p17 B) |>.mul ((Has.const lit1).sub (p17 B))
  exact Has.congr (f := _) z fun j => rfl

theorem has_dg1 : Has (dg1V i x0 x1 x2 x3 x4 x5 x6 L A) (at' (256 * n) (Spec.dg1 I)) := by
  have c := (Has.const litNeg8).mul (p20 B)
  have z := (((Has.reindex c fun j : S256x1024.Idx => ix2 (0 : Fin 1) (j 1 : Fin 1024)).mul (has_dla B H hn hi)).mul (p16 B)).mul
    ((Has.const lit1).sub (p16 B))
  intro j
  refine Eq.trans ?_ (z j)
  unfold dg1V k0_pay39
  show broadcastTo S256x1024 _ broadcasts_S1x1024_S256x1024 j * _ * _ * _ = _
  rw [spread]; rfl

/-- The decay parameter's column sums. -/
theorem has_dsp (q : Fin 1024) : dspV i x0 x1 x2 x3 x4 x5 x6 L A (ix2 (0 : Fin 1) q)
    = ((∑ r : Fin 256, red I 2 (256 * n + r.val) q.val : ℝ) : EReal) := by
  have z := ((Has.const litNeg8).mul (p16 B)).mul (has_dla B H hn hi)
  unfold dspV k0_pay41
  refine (colsum _ q).trans ?_
  rw [← coe_sum]
  exact Finset.sum_congr rfl fun r _ => z _

end Tile

end Cert.KernelIdeal.Val

end
-- ==== Proof.Val.Out.lean ====
/- The three result blocks and the two handed-on rows of one grid point, over the reals. -/
module

public import proofs.«01_k».proof.Proof.Val.Tile

@[expose] public section

set_option maxRecDepth 16384

noncomputable section

namespace Cert.KernelIdeal.Val

open Cert.KernelIdeal Cert.KernelIdeal.Gen Cert.KernelIdeal.Rec Cert.Val Cert.Spec
open Idealize.ShloMosaic hiding ix0 ix1 ix2 ix3 ix4
open Idealize.ShloMosaic.TcCoe Idealize.ShloMosaic.ValueIdx

/-- A head's product: its 256 columns against the rows of its weight block. -/
def prodOf (v : FVec Ideal S256x1024 .bf16) (W : Vec Ideal S1x1x256x256 .bf16) (h : Fin 4) (r c : Fin 256) : EReal :=
  ∑ k : Fin 256, v (ix2 r (⟨256 * h.val + k.val, by omega⟩ : Fin 1024)) * W (ix4 (0 : Fin 1) (0 : Fin 1) c k)

variable (v : FVec Ideal S256x1024 .bf16) (W : Vec Ideal S1x1x256x256 .bf16) (r c : Fin 256)

theorem prod0 : matmul (F := Ideal) dot_S256x256_S256x256_S256x256_1_1_0_0_n_n none
    (extractStridedSlice S256x256 ![0, 0] v slices_S256x1024_o0_0_S256x256 : FVec Ideal S256x256 .bf16)
    (shapeCast S256x256 W shapeCasts_S1x1x256x256_S256x256 : FVec Ideal S256x256 .bf16) (constant S256x256 .f32 0x00000000#32) (ix2 r c)
      = prodOf v W 0 r c := by
  pointwise [prodOf]
  rfl

theorem prod1 : matmul (F := Ideal) dot_S256x256_S256x256_S256x256_1_1_0_0_n_n none
    (extractStridedSlice S256x256 ![0, 256] v slices_S256x1024_o0_256_S256x256 : FVec Ideal S256x256 .bf16)
    (shapeCast S256x256 W shapeCasts_S1x1x256x256_S256x256 : FVec Ideal S256x256 .bf16) (constant S256x256 .f32 0x00000000#32) (ix2 r c)
      = prodOf v W 1 r c := by
  pointwise [prodOf]
  rfl

theorem prod2 : matmul (F := Ideal) dot_S256x256_S256x256_S256x256_1_1_0_0_n_n none
    (extractStridedSlice S256x256 ![0, 512] v slices_S256x1024_o0_512_S256x256 : FVec Ideal S256x256 .bf16)
    (shapeCast S256x256 W shapeCasts_S1x1x256x256_S256x256 : FVec Ideal S256x256 .bf16) (constant S256x256 .f32 0x00000000#32) (ix2 r c)
      = prodOf v W 2 r c := by
  pointwise [prodOf]
  rfl

theorem prod3 : matmul (F := Ideal) dot_S256x256_S256x256_S256x256_1_1_0_0_n_n none
    (extractStridedSlice S256x256 ![0, 768] v slices_S256x1024_o0_768_S256x256 : FVec Ideal S256x256 .bf16)
    (shapeCast S256x256 W shapeCasts_S1x1x256x256_S256x256 : FVec Ideal S256x256 .bf16) (constant S256x256 .f32 0x00000000#32) (ix2 r c)
      = prodOf v W 3 r c := by
  pointwise [prodOf]
  rfl

/-- Four heads side by side. -/
theorem beside (y0 y1 y2 y3 : FVec Ideal S256x256 .f32) (q : Fin 1024) :
    concatenate S256x1024 1 [⟨S256x256, y0⟩, ⟨S256x256, y1⟩, ⟨S256x256, y2⟩, ⟨S256x256, y3⟩]
      concatenates_S256x256_S256x256_S256x256_S256x256_S256x1024_d1 (ix2 r q)
      = (![y0, y1, y2, y3] : Fin 4 → FVec Ideal S256x256 .f32) ⟨q.val / 256, by omega⟩ (ix2 r (⟨q.val % 256, Nat.mod_lt _ (by decide)⟩ : Fin 256)) := by
  pointwise []
  obtain ⟨h, hh⟩ : ∃ h : Fin 4, h.val = q.val / 256 := ⟨⟨q.val / 256, by omega⟩, rfl⟩
  have q1 : ((ix2 r q : S256x1024.Idx) 1).val = q.val := rfl
  have e : (⟨q.val / 256, by omega⟩ : Fin 4) = h := Fin.ext hh.symm
  rw [e]
  have ec : ∀ k (hk : k < 256), k = q.val % 256 → (⟨k, hk⟩ : Fin 256) = ⟨q.val % 256, Nat.mod_lt _ (by decide)⟩ := fun k hk ek => Fin.ext ek
  match h, hh with
  | 0, hh => rw [dif_pos (by simp at hh; omega), ec _ _ (by simp at hh; omega)]; rfl
  | 1, hh => rw [dif_neg (by simp at hh; omega), dif_pos (by simp at hh; omega), ec _ _ (by simp at hh; omega)]; rfl
  | 2, hh => rw [dif_neg (by simp at hh; omega), dif_neg (by simp at hh; omega), dif_pos (by simp at hh; omega), ec _ _ (by simp at hh; omega)]; rfl
  | 3, hh => rw [dif_neg (by simp at hh; omega), dif_neg (by simp at hh; omega), dif_neg (by simp at hh; omega), ec _ _ (by simp at hh; omega)]; rfl

section Point

variable {I : Inp} {n : ℕ} {i : grid0.Coords}
  {x0 : Vec Ideal S256x1024 .bf16} {x1 x2 : Vec Ideal S256x1024 .f32} {x3 : Vec Ideal S256x1024 .bf16}
  {x4 : Vec Ideal S16x1024 .bf16} {x5 : Vec Ideal S256x1024 .f32} {x6 : Vec Ideal S1x1024 .f32} {x7 : Vec Ideal S2x4x256x256 .bf16}
  {R L A : Vec Ideal S8x1024 .f32}
  (B : Blk I n x0 x1 x2 x3 x4 x5 x6 x7) (H : Handed I n L A) (hn : n ≤ 15) (hi : (i 0).val = 15 - n)

include B

/-- A head's product over the reals. -/
theorem prod_has {v : FVec Ideal S256x1024 .bf16} {g : Fin 2} (hv : Has v (at' (256 * n) (Spec.dg I g.val))) (h : Fin 4) (r c : Fin 256) :
    prodOf v (wB x7 g h) h r c = ((back I g.val (256 * n + r.val) (256 * h.val + c.val) : ℝ) : EReal) := by
  unfold prodOf back
  rw [← coe_sum]
  refine Finset.sum_congr rfl fun k _ => ?_
  rw [hv _, EReal.coe_mul]
  have e1 : (256 * h.val + c.val) / 256 = h.val := by omega
  have e2 : (256 * h.val + c.val) % 256 = c.val := by omega
  rw [e1, e2]
  exact congrArg₂ (· * ·) rfl (B.w (ix4 g h c k))

include H hn hi

theorem has_dgB : Has (dgB i x0 x1 x2 x3 x4 x5 x6 L A) (fun j => Spec.dg I (j 0).val (256 * n + (j 1).val) (j 2).val) := by
  intro j
  have hj : (j 0).val < 2 := (j 0).isLt
  have e : ∀ (v : FVec Ideal S256x1024 .bf16), shapeCast S1x256x1024 v shapeCasts_S256x1024_S1x256x1024 (ix3 (0 : Fin 1) (j 1 : Fin 256) (j 2 : Fin 1024))
      = v (ix2 (j 1 : Fin 256) (j 2 : Fin 1024)) := fun v => by pointwise []; rfl
  unfold dgB
  simp only []
  by_cases h : (j 0).val = 0
  · rw [if_pos h, Spec.dg, if_pos h]
    exact (e _).trans (has_dg0 B H hn hi _)
  · rw [if_neg h, Spec.dg, if_neg h]
    exact (e _).trans (has_dg1 B H hn hi _)

/-- The gradient of the recurrence's input. -/
theorem has_dxcB : Has (dxcB i x0 x1 x2 x3 x4 x5 x6 x7 L A) (at' (256 * n) (dxc I)) := by
  have g0 : Has (k0_pay45 (dg0V i x0 x1 x2 x5 x6 L A)) (at' (256 * n) (Spec.dg I (0 : Fin 2).val)) := has_dg0 B H hn hi
  have g1 : Has (k0_pay46 (dg1V i x0 x1 x2 x3 x4 x5 x6 L A)) (at' (256 * n) (Spec.dg I (1 : Fin 2).val)) := has_dg1 B H hn hi
  have m := ((has_lam B H hn).mul (p17 B)).mul (has_mult B hn hi)
  intro j
  obtain ⟨r, q, rfl⟩ : ∃ (r : Fin 256) (q : Fin 1024), j = ix2 r q := ⟨j 0, j 1, ValueIdx.eq_ix2 j⟩
  unfold dxcB heads k0_pay1
  show _ + concatenate S256x1024 1 _ _ (ix2 r q) = _
  refine (congrArg₂ (· + ·) (m (ix2 r q)) (beside r _ _ _ _ q)).trans ?_
  have key : ∀ (h : Fin 4) (c : Fin 256), (prodOf (k0_pay45 (dg0V i x0 x1 x2 x5 x6 L A)) (wB x7 0 h) h r c
      + prodOf (k0_pay46 (dg1V i x0 x1 x2 x3 x4 x5 x6 L A)) (wB x7 1 h) h r c : EReal)
      = ((back I 0 (256 * n + r.val) (256 * h.val + c.val) + back I 1 (256 * n + r.val) (256 * h.val + c.val) : ℝ) : EReal) := fun h c => by
    rw [prod_has B g0, prod_has B g1, EReal.coe_add]; rfl
  obtain ⟨h, hh⟩ : ∃ h : Fin 4, h.val = q.val / 256 := ⟨⟨q.val / 256, by omega⟩, rfl⟩
  have q1 : ((ix2 r q : S256x1024.Idx) 1).val = q.val := rfl
  have e : (⟨q.val / 256, by omega⟩ : Fin 4) = h := Fin.ext hh.symm
  have k := key h ⟨q.val % 256, Nat.mod_lt _ (by decide)⟩
  simp only [] at k
  rw [show 256 * h.val + q.val % 256 = q.val by omega] at k
  show _ = ((dxc I (256 * n + r.val) q.val : ℝ) : EReal)
  rw [e, dxc, EReal.coe_add, ← k]
  refine congrArg₂ (· + ·) rfl ?_
  match h with
  | 0 => exact congrArg₂ (· + ·) (prod0 _ _ _ _) (prod0 _ _ _ _)
  | 1 => exact congrArg₂ (· + ·) (prod1 _ _ _ _) (prod1 _ _ _ _)
  | 2 => exact congrArg₂ (· + ·) (prod2 _ _ _ _) (prod2 _ _ _ _)
  | 3 => exact congrArg₂ (· + ·) (prod3 _ _ _ _) (prod3 _ _ _ _)

/-- The column sums after the point. -/
theorem has_redB {f : ℕ → ℕ → ℝ} (hR : Has R (fun j => f (j 0).val (j 1).val)) :
    Has (redB i x0 x1 x2 x3 x4 x5 x6 x7 R L A)
      (fun j => f (j 0).val (j 1).val + fac I (j 0).val (j 1).val * ∑ r : Fin 256, red I (j 0).val (256 * n + r.val) (j 1).val) := by
  have row : ∀ (v : FVec Ideal S256x1024 .f32) (X : Vec Ideal S1x1024 .f32) (q : Fin 1024), (addf (shapeCast S1x1024 X shapeCasts_S1x1024_S1x1024)
      (shapeCast S1x1024 (multiReduction .add [0] S1024 v 0x00000000#32 reduces_S256x1024_S1024 (.inl rfl) rfl) shapeCasts_S1024_S1x1024) : FVec Ideal S1x1024 .f32)
      (ix2 (0 : Fin 1) q) = X (ix2 (0 : Fin 1) q) + ∑ r : Fin 256, v (ix2 r q) := fun v X q => by
    show shapeCast S1x1024 X shapeCasts_S1x1024_S1x1024 _ + _ = _
    rw [shapeCast_self]
    exact congrArg _ (colsum v q)
  have sums : ∀ {v : FVec Ideal S256x1024 .f32} {g : ℕ → ℕ → ℝ} (hv : Has v (at' (256 * n) g)) (q : Fin 1024),
      (∑ r : Fin 256, v (ix2 r q)) = ((∑ r : Fin 256, g (256 * n + r.val) q.val : ℝ) : EReal) := fun hv q => by
    rw [← coe_sum]; exact Finset.sum_congr rfl fun r _ => hv _
  have rows : ∀ (r : Fin 8) (q : Fin 1024), rowOf R r (ix2 (0 : Fin 1) q) = ((f r.val q.val : ℝ) : EReal) := fun r q => hR _
  intro j
  have hq : (j 1).val < 1024 := (j 1).isLt
  have hj : (j 0).val < 8 := (j 0).isLt
  unfold redB
  simp only []
  by_cases h0 : (j 0).val = 0
  · rw [if_pos h0, h0, EReal.coe_add]
    refine (row _ _ _).trans (congrArg₂ (· + ·) (rows 0 (j 1)) ?_)
    refine (sums (has_dg0 B H hn hi) _).trans ?_
    simp [fac, red]
  by_cases h1 : (j 0).val = 1
  · rw [if_neg h0, if_pos h1, h1, EReal.coe_add]
    refine (row _ _ _).trans (congrArg₂ (· + ·) (rows 1 (j 1)) ?_)
    refine (sums (has_dg1 B H hn hi) _).trans ?_
    simp [fac, red]
  by_cases h2 : (j 0).val = 2
  · rw [if_neg h0, if_neg h1, if_pos h2, h2]
    have e := (((Has.const lit0).sub ((Has.const lit0).sub (p19 B)))).exp
    have ep : ∀ j : S1x1024.Idx, 1 + Real.exp (0 - (0 - I.ap (j 1).val)) ≠ 0 := fun j => by
      have := Real.exp_pos (0 - (0 - I.ap (j 1).val)); linarith
    have s := (Has.const lit1).div ((Has.const lit1).add e) ep (ix2 (0 : Fin 1) (j 1 : Fin 1024))
    unfold k0_pay44
    show shapeCast S1x1024 (rowOf R 2) shapeCasts_S1x1024_S1x1024 _ + (Ideal.ofBits .f32 0x00000000#32 - dspV i x0 x1 x2 x3 x4 x5 x6 L A _) * _ = _
    rw [shapeCast_self]
    refine (congrArg₂ (· + ·) (rows 2 (j 1)) (congrArg₂ (· * ·) (congrArg₂ (· - ·) lit0 (has_dsp B H hn hi (j 1))) s)).trans ?_
    rw [← EReal.coe_sub, ← EReal.coe_mul, ← EReal.coe_add]
    congr 1
    simp only [fac, if_true]
    show _ + _ * (1 / (1 + Real.exp (0 - (0 - I.ap (j 1).val)))) = _
    rw [show (0 : ℝ) - (0 - I.ap (j 1).val) = I.ap (j 1).val by ring]
    show f 2 (j 1).val + _ = _
    ring
  by_cases h3 : (j 0).val = 3
  · rw [if_neg h0, if_neg h1, if_neg h2, if_pos h3, h3, EReal.coe_add]
    refine (row _ _ _).trans (congrArg₂ (· + ·) (rows 3 (j 1)) ?_)
    refine (sums (g := dxc I) (has_dxcB B H hn hi) _).trans ?_
    simp [fac, red]
  · rw [if_neg h0, if_neg h1, if_neg h2, if_neg h3, hR j]
    simp [red, h0, h1, h2, h3]

/-- The rows handed on. -/
theorem handed : Handed I (n - 1) (lamC x0 x1 x6 L A) (aC x1 x6) ∨ n = 0 := by
  rcases Nat.eq_zero_or_pos n with h | h
  · exact .inr h
  refine .inl ⟨fun s q => ?_, fun s q => ?_⟩
  · unfold lamC k0_pay29
    rw [shapeCast_self, (scanned B H hn q).1 32 (le_refl _) s, show n - 1 + 1 = n by omega]
    rfl
  · have e : aC x1 x6 (ix2 s q) = aV x1 x6 (ix2 (0 : Fin 256) q) := by
      unfold aC k0_pay30
      generalize aV x1 x6 = Z
      pointwise []
      rfl
    rw [e, has_a B _, show n - 1 + 1 = n by omega, aE, if_pos (by omega)]
    rfl

end Point

end Cert.KernelIdeal.Val

end
-- ==== Proof.Val.Points.lean ====
/- The sixteen grid points over the reals: the arrays' blocks hold the gradient's arrays, so every point does what
   `Out` says, and the three result arrays hold the three gradients. -/
module

public import proofs.«01_k».proof.Proof.Val.Out
public import proofs.«01_k».proof.Proof.Rec.Region
public import Idealize.ShloMosaic.Lib.Pipeline.ValueKit

@[expose] public section

set_option maxRecDepth 16384

noncomputable section

namespace Cert.KernelIdeal.Val

open Cert.KernelIdeal Cert.KernelIdeal.Gen Cert.KernelIdeal.Rec Cert.Val Cert.Spec
open Idealize.ShloMosaic hiding ix0 ix1 ix2 ix3 ix4
open Idealize.ShloMosaic.TcCoe Idealize.ShloMosaic.ValueIdx

theorem idx0 : ∀ t : Fin cfg0.N, win0_0.index t = ![15 - t.val, 0] := by decide +kernel
theorem idx1 : ∀ t : Fin cfg0.N, win0_1.index t = ![15 - t.val, 0] := by decide +kernel
theorem idx2 : ∀ t : Fin cfg0.N, win0_2.index t = ![15 - t.val, 0] := by decide +kernel
theorem idx3 : ∀ t : Fin cfg0.N, win0_3.index t = ![15 - t.val, 0] := by decide +kernel
theorem idx4 : ∀ t : Fin cfg0.N, win0_4.index t = ![16 * (15 - t.val) - 1, 0] := by decide +kernel
theorem idx5 : ∀ t : Fin cfg0.N, win0_5.index t = ![15 - t.val, 0] := by decide +kernel
theorem idx6 : ∀ t : Fin cfg0.N, win0_6.index t = ![0, 0] := by decide +kernel
theorem idx7 : ∀ t : Fin cfg0.N, win0_7.index t = ![0, 0, 0, 0] := by decide +kernel
theorem idx8 : ∀ t : Fin cfg0.N, win0_8.index t = ![0, 15 - t.val, 0] := by decide +kernel
theorem idx9 : ∀ t : Fin cfg0.N, win0_9.index t = ![15 - t.val, 0] := by decide +kernel
theorem idx10 : ∀ t : Fin cfg0.N, win0_10.index t = ![0, 0] := by decide +kernel
theorem coord : ∀ t : Fin cfg0.N, (grid0.coords t 0).val = t.val := by decide +kernel

variable {I : Inp} (V : (c : Dev nD) → (b : Ref sig .tc) → Buf (Elt Ideal) ((c : Thread nD τ).loc b)) (c : Dev nD)

/-- The launch's operands hold the gradient's arrays. -/
structure Held (I : Inp) : Prop where
  dh : Has (V c main_v43) (fun j => I.dh (j 0).val (j 1).val)
  gr : Has (V c main_v45) (fun j => gate I 1 (j 0).val (j 1).val)
  gi : Has (V c main_v47) (fun j => gate I 0 (j 0).val (j 1).val)
  h : Has (V c main_v48) (fun j => hs I ((j 0).val + 1) (j 1).val)
  xc : Has (V c main_v2) (fun j => xc I (j 0).val (j 1).val)
  ap : Has (V c main_v49) (fun j => I.ap (j 1).val)
  w : Has (V c main_v50) (fun j => I.w (j 0).val (j 1).val (j 2).val (j 3).val)

variable {V c} (K : Held V c I)
include K

/-- Every point's blocks hold their part. -/
theorem blk (t : Fin cfg0.N) : Blk I (15 - t.val) (b0 V c t) (b1 V c t) (b2 V c t) (b3 V c t) (b4 V c t) (b5 V c t) (b6 V c t) (b7 V c t) where
  dh j := by
    refine (K.dh _).trans ?_; unfold at'; blk_simp [idx0]
    congr 2 <;> first | (simp; omega) | simp
  gr j := by
    refine (K.gr _).trans ?_; unfold at'; blk_simp [idx1]
    congr 2 <;> first | (simp; omega) | simp
  gi j := by
    refine (K.gi _).trans ?_; unfold at'; blk_simp [idx2]
    congr 2 <;> first | (simp; omega) | simp
  h j := by
    refine (K.h _).trans ?_; unfold at'; blk_simp [idx3]
    congr 2 <;> first | (simp; omega) | simp
  halo hn q := by
    refine (K.h _).trans ?_; blk_simp [idx4]
    have e : ((ix2 (15 : Fin 16) q : S16x1024.Idx) 0).val = 15 := rfl
    congr 2
    simp only [e]
    simp
    show (16 * (15 - t.val) - 1) * 16 + 15 + 1 = 256 * (15 - t.val)
    omega
  xc j := by
    refine (K.xc _).trans ?_; unfold at'; blk_simp [idx5]
    congr 2 <;> first | (simp; omega) | simp
  ap j := by
    refine (K.ap _).trans ?_; blk_simp [idx6]
  w j := by
    refine (K.w _).trans ?_; blk_simp [idx7]

/-- The column sums before point `n`: the summands of the row blocks so far. -/
def sumTo (I : Inp) (n r q : ℕ) : ℝ := ∑ m ∈ Finset.range n, ∑ x : Fin 256, red I r (256 * (15 - m) + x.val) q

/-- What is carried before point `n`. -/
theorem carried_has : ∀ n, n ≤ 16 → Has (carried V c n).1 (fun j => fac I (j 0).val (j 1).val * sumTo I n (j 0).val (j 1).val)
    ∧ (n ≤ 15 → Handed I (15 - n) (carried V c n).2.1 (carried V c n).2.2)
  | 0, _ => by
    refine ⟨fun j => ?_, fun _ => ⟨fun s q => ?_, fun s q => ?_⟩⟩
    · refine (show _ = Ideal.ofBits .f32 0x00000000#32 from rfl).trans (lit0.trans ?_)
      simp [sumTo]
    · show k0_pay11 (ix2 s q) = _
      unfold k0_pay11; rw [shapeCast_self]
      refine (show _ = Ideal.ofBits .f32 0x00000000#32 from rfl).trans (lit0.trans ?_)
      rw [show 256 * (15 - 0 + 1) = 4096 from rfl, lam_end]
    · show k0_pay12 (ix2 s q) = _
      unfold k0_pay12; rw [shapeCast_self]
      refine (show _ = Ideal.ofBits .f32 0x00000000#32 from rfl).trans (lit0.trans ?_)
      rw [show 256 * (15 - 0 + 1) = 4096 from rfl, aE, if_neg (by decide)]
  | n + 1, hn => by
    obtain ⟨hR, hH⟩ := carried_has n (by omega)
    have hN : n < cfg0.N := by show n < 16; omega
    have B : Blk I (15 - n) _ _ _ _ _ _ _ _ := blk K ⟨n, hN⟩
    have H := hH (by omega)
    have hi : (grid0.coords ⟨n, hN⟩ 0).val = 15 - (15 - n) := by
      rw [coord ⟨n, hN⟩]; show n = 15 - (15 - n); omega
    rw [carried_succ V c ⟨n, hN⟩]
    refine ⟨?_, fun h => ?_⟩
    · refine (has_redB B H (by omega) hi (f := fun r q => fac I r q * sumTo I n r q) hR).congr fun j => ?_
      rw [sumTo, sumTo, Finset.sum_range_succ]; ring
    · rcases handed B H (by omega) hi with h' | h'
      · rw [show 15 - (n + 1) = 15 - n - 1 by omega]; exact h'
      · exfalso; omega

omit K in
theorem blocks (f : ℕ → ℝ) : ∀ k, ∑ m ∈ Finset.range k, ∑ x : Fin 256, f (256 * m + x.val) = ∑ t ∈ Finset.range (256 * k), f t
  | 0 => by simp
  | k + 1 => by
    rw [Finset.sum_range_succ, blocks f k, show 256 * (k + 1) = 256 * k + 256 by ring, Finset.sum_range_add,
      ← Fin.sum_univ_eq_sum_range (fun x => f (256 * k + x)) 256]

omit K in
/-- All sixteen row blocks are all rows. -/
theorem sumTo_all (r q : ℕ) : sumTo I 16 r q = ∑ t ∈ Finset.range 4096, red I r t q := by
  rw [sumTo, Finset.sum_range_reflect (fun m => ∑ x : Fin 256, red I r (256 * m + x.val) q) 16]
  exact blocks (fun t => red I r t q) 16

/-- The gates' gradients, -/
theorem out8 : Has ((dat V c).arrAt 8 cfg0.N) (fun j => Spec.dg I (j 0).val (j 1).val (j 2).val) := by
  intro j
  have e : (dat V c).arrAt 8 cfg0.N = fun j => ((Spec.dg I (j 0).val (j 1).val (j 2).val : ℝ) : EReal) := by
    refine (dat V c).arrAt_eq_of_covers 8 _ (by decide +kernel) fun t hf y => ?_
    have ht : t.val < 16 := t.isLt
    blk_simp
    rw [after_8]
    refine (has_dgB (blk K t) ((carried_has K t.val (by omega)).2 (by omega)) (by omega) ((coord t).trans (by omega)) y).trans ?_
    blk_simp [idx8]
    congr 2
    simp; omega
  rw [e]

/-- the gradient of the recurrence's input, -/
theorem out9 : Has ((dat V c).arrAt 9 cfg0.N) (fun j => dxc I (j 0).val (j 1).val) := by
  intro j
  have e : (dat V c).arrAt 9 cfg0.N = fun j => ((dxc I (j 0).val (j 1).val : ℝ) : EReal) := by
    refine (dat V c).arrAt_eq_of_covers 9 _ (by decide +kernel) fun t hf y => ?_
    have ht : t.val < 16 := t.isLt
    blk_simp
    rw [after_9]
    refine (has_dxcB (blk K t) ((carried_has K t.val (by omega)).2 (by omega)) (by omega) ((coord t).trans (by omega)) y).trans ?_
    blk_simp [idx9]
    unfold at'
    congr 2
    simp; omega
  rw [e]

/-- and the column sums. -/
theorem out10 : Has ((dat V c).arrAt 10 cfg0.N) (fun j => fac I (j 0).val (j 1).val * ∑ t ∈ Finset.range 4096, red I (j 0).val t (j 1).val) := by
  intro j
  have e : (dat V c).arrAt 10 cfg0.N = fun j => ((fac I (j 0).val (j 1).val * ∑ t ∈ Finset.range 4096, red I (j 0).val t (j 1).val : ℝ) : EReal) := by
    refine (dat V c).arrAt_eq_of_after_last 10 t0_15 (by decide +kernel) _ fun y => ?_
    blk_simp
    rw [after_10]
    refine ((carried_has K 16 (by omega)).1 y).trans ?_
    show ((fac I (y 0).val (y 1).val * sumTo I 16 (y 0).val (y 1).val : ℝ) : EReal) = _
    rw [sumTo_all]
  rw [e]

end Cert.KernelIdeal.Val

end
-- ==== Proof.Val.Rows.lean ====
/- One row of an array read and written at a row number that a word holds. -/
module

public import proofs.«01_k».proof.KernelIdeal
public import Idealize.ShloMosaic.Lib.Pointwise
public import Idealize.ShloMosaic.Lib.DynamicIndex
public import Idealize.ShloMosaic.Lib.WordCmp

@[expose] public section

noncomputable section

namespace Cert.Val

open Cert.KernelIdeal
open Idealize.ShloMosaic hiding ix0 ix1 ix2 ix3 ix4
open Idealize.ShloMosaic.ValueIdx

variable {α : Type}

/-- The block at row `k` lies in the array. -/
theorem row_fits {k : ℕ} (hk : k < 4096) : S4096x1024.Slices ![k, 0] S1x1024 := by
  refine ⟨rfl, fun a => ?_⟩
  fin_cases a
  · show k + 1 ≤ 4096; omega
  · show 0 + 1024 ≤ 1024; omega

/-- The row read. -/
theorem row_read {x : S4096x1024.Idx → α} {start : Fin 2 → Int} {h : S4096x1024.Slices (fun _ => 0) S1x1024} {hc : S1x1024.ShapeCasts S1024}
    {k : ℕ} (hk : k < 4096) (h0 : start 0 = k) (h1 : start 1 = 0) (d : Fin 1024) :
    shapeCast S1024 (Host.dynamicSlice S1x1024 x start h) hc (ix1 d) = x (ix2 ⟨k, hk⟩ d) := by
  rw [Host.dynamicSlice_eq_extractStridedSlice S1x1024 x start ![k, 0] h (row_fits hk) (by
    intro a; fin_cases a
    · exact h0
    · exact h1)]
  pointwise
  exact congrArg x (by funext a; fin_cases a <;> simp [ix2, Idealize.ShloMosaic.ix2] <;> rfl)

/-- The row written. -/
theorem row_write {x : S4096x1024.Idx → α} {u : S1024.Idx → α} {start : Fin 2 → Int} {h : S4096x1024.Slices (fun _ => 0) S1x1024}
    {hb : S1024.BroadcastsInDim S1x1024 ![1]} {k : ℕ} (hk : k < 4096) (h0 : start 0 = k) (h1 : start 1 = 0) (t : Fin 4096) (d : Fin 1024) :
    Host.dynamicUpdateSlice x (broadcastInDim S1x1024 ![1] hb u) start h (ix2 t d) = if t.val = k then u (ix1 d) else x (ix2 t d) := by
  rw [WordCmp.dynamicUpdateSlice_eq_update x _ start h ![k, 0] (row_fits hk) (by
    intro a; fin_cases a
    · exact h0
    · exact h1)]
  unfold updateSlice
  by_cases e : t.val = k
  · rw [if_pos e, dif_pos (by
      intro a; fin_cases a
      · show k ≤ t.val ∧ t.val < k + 1; omega
      · show 0 ≤ d.val ∧ d.val < 0 + 1024; omega)]
    pointwise
    rfl
  · rw [if_neg e, dif_neg (fun hh => e (by have := hh 0; change k ≤ t.val ∧ t.val < k + 1 at this; omega))]

end Cert.Val

end
-- ==== Proof.Val.Host.lean ====
/- What the kernel's program has computed when its recurrence begins, from arguments that hold real numbers. -/
module

public import proofs.«01_k».proof.Proof.Val.Gates
public import proofs.«01_k».proof.Proof.Val.Points
public import proofs.«01_k».proof.Proof.Val.Rows
public import Idealize.ShloMosaic.Lib.StableHlo.RunRead

@[expose] public section

set_option maxRecDepth 16384

noncomputable section

namespace Cert.KernelIdeal.Val

open Cert.KernelIdeal Cert.KernelIdeal.Gen Cert.KernelIdeal.Rec Cert.Val Cert.Spec
open Idealize.ShloMosaic hiding ix0 ix1 ix2 ix3 ix4
open Idealize.ShloMosaic.TcCoe Idealize.ShloMosaic.ValueIdx
open Idealize.ShloMosaic.StableHlo (after)

/-- The valuation's arguments hold the real numbers of `I`. -/
abbrev GivenAt (V : Valuation τ sig (Elt Ideal)) (I : Inp) : Prop :=
  Given (V main_arg0) (V main_arg1) (V main_arg2) (V main_arg3) (V main_arg4) (V main_arg5) I

variable {V : Valuation τ sig (Elt Ideal)} {I : Inp}

theorem entry_v2 (G : GivenAt V I) : Has (after (hostOps0 (F := Ideal)) V main_v2) fun j => xc I (j 0).val (j 1).val := by
  have e : after (hostOps0 (F := Ideal)) V main_v2 = xcV (V main_arg0) (V main_arg1) := by
    unfold hostOps0
    after_reads_simp
    rfl
  rw [e]; exact has_xcV G

theorem ones {s : Shape} (h : S_.BroadcastsInDim s ![]) : Has (broadcastInDim s ![] h (constant (F := Ideal) S_ .f32 0x3F800000#32)) fun _ => 1 := fun _ => lit1

theorem entry_v15 (G : GivenAt V I) : Has (after (hostOps0 (F := Ideal)) V main_v15) fun j => gate I (j 0).val (j 1).val (j 2).val := by
  have e : after (hostOps0 (F := Ideal)) V main_v15 =
      Host.divf (broadcastInDim S2x4096x1024 ![] bcast_S_S2x4096x1024 (constant S_ FTy.f32 1065353216#32))
      (addf (broadcastInDim S2x4096x1024 ![] bcast_S_S2x4096x1024 (constant S_ FTy.f32 1065353216#32))
        (Host.exp (Host.negf (preV (V main_arg0) (V main_arg1) (V main_arg2) (V main_arg3))))) := by
    unfold hostOps0
    after_reads_simp
    rfl
  rw [e]
  exact has_sig (has_preV G) (ones _) (ones _)

theorem first_row {X : FVec Ideal S2x4096x1024 .f32} {f : ℕ → ℕ → ℕ → ℝ} (hX : Has X fun j => f (j 0).val (j 1).val (j 2).val) :
    Has (shapeCast S4096x1024 (extractStridedSlice S1x4096x1024 ![0, 0, 0] X slices_S2x4096x1024_S1x4096x1024_0_0_0) shapeCasts_S1x4096x1024_S4096x1024)
      fun j => f 0 (j 0).val (j 1).val := by
  intro j
  obtain ⟨t, d, rfl⟩ : ∃ t d, j = ix2 t d := ⟨j 0, j 1, ValueIdx.eq_ix2 j⟩
  pointwise
  exact hX _

theorem second_row {X : FVec Ideal S2x4096x1024 .f32} {f : ℕ → ℕ → ℕ → ℝ} (hX : Has X fun j => f (j 0).val (j 1).val (j 2).val) :
    Has (shapeCast S4096x1024 (extractStridedSlice S1x4096x1024 ![1, 0, 0] X slices_S2x4096x1024_S1x4096x1024_1_0_0) shapeCasts_S1x4096x1024_S4096x1024)
      fun j => f 1 (j 0).val (j 1).val := by
  intro j
  obtain ⟨t, d, rfl⟩ : ∃ t d, j = ix2 t d := ⟨j 0, j 1, ValueIdx.eq_ix2 j⟩
  pointwise
  exact hX _

/-- The first stretch: the gates and the parameter's negative. -/
theorem entry_v17 (G : GivenAt V I) : Has (after (hostOps0 (F := Ideal)) V main_v17) fun j => gate I 0 (j 0).val (j 1).val := by
  have e : after (hostOps0 (F := Ideal)) V main_v17 =
      shapeCast S4096x1024 (extractStridedSlice S1x4096x1024 ![0, 0, 0] (after (hostOps0 (F := Ideal)) V main_v15) slices_S2x4096x1024_S1x4096x1024_0_0_0) shapeCasts_S1x4096x1024_S4096x1024 := by
    unfold hostOps0
    after_reads_simp
    rfl
  rw [e]; exact first_row (entry_v15 G)

theorem entry_v21 (G : GivenAt V I) : Has (after (hostOps0 (F := Ideal)) V main_v21) fun j => -8 * gate I 1 (j 0).val (j 1).val := by
  have e : after (hostOps0 (F := Ideal)) V main_v21 =
      mulf (F := Ideal) (φ := .f32) (broadcastInDim S4096x1024 ![] bcast_S_S4096x1024 (constant (F := Ideal) S_ .f32 0xC1000000#32)) (shapeCast S4096x1024 (extractStridedSlice S1x4096x1024 ![1, 0, 0] (after (hostOps0 (F := Ideal)) V main_v15) slices_S2x4096x1024_S1x4096x1024_1_0_0) shapeCasts_S1x4096x1024_S4096x1024) := by
    unfold hostOps0
    after_reads_simp
    rfl
  rw [e]; exact (Has.const litNeg8).mul (second_row (entry_v15 G))

theorem entry_v22 (G : GivenAt V I) : Has (after (hostOps0 (F := Ideal)) V main_v22) fun j => -I.ap (j 0).val := by
  have e : after (hostOps0 (F := Ideal)) V main_v22 = (Host.negf (V main_arg4) : FVec Ideal S1024 .f32) := by
    unfold hostOps0
    after_reads_simp
  rw [e]; exact G.ap.neg

/-- The second stretch: the softplus. -/
theorem entry_v23 {f : S1024.Idx → ℝ} (h : Has (V main_v22) f) : Has (after (hostOps0_1 (F := Ideal)) V main_v23) fun j => Real.log (1 + Real.exp (f j)) := by
  unfold hostOps0_1
  after_reads_simp
  have z : Has (broadcastInDim S1024 ![] bcast_S_S1024 (constant (F := Ideal) S_ .f32 0x00000000#32)) fun _ => 0 := fun _ => lit0
  refine Has.sel_false ?_ (has_soft h z)
  intro j
  show Ideal.cmp .une _ _ = _
  simp [Ideal.cmp]

theorem entry_v26 {f : S4096x1024.Idx → ℝ} {g : S1024.Idx → ℝ} (h : Has (V main_v21) f) (hs : Has (V main_v23) g) :
    Has (after (hostOps0_2 (F := Ideal)) V main_v26) fun j => f j * g (ix1 (j 1)) := by
  unfold hostOps0_2
  after_reads_simp
  refine h.mul fun j => ?_
  obtain ⟨t, d, rfl⟩ : ∃ t d, j = ix2 t d := ⟨j 0, j 1, ValueIdx.eq_ix2 j⟩
  pointwise
  exact hs _

theorem entry_v27 : after (hostOps0_2 (F := Ideal)) V main_v27 = (fun j => Ideal.exp (after (hostOps0_2 (F := Ideal)) V main_v26 j) : FVec Ideal S4096x1024 .f32) := by
  unfold hostOps0_2
  after_reads_simp
  rfl

theorem entry_v32 : after (hostOps0_2 (F := Ideal)) V main_v32 = (fun j => Ideal.sqrt (-(Ideal.exp (Ideal.ofBits .f32 0x40000000#32 * after (hostOps0_2 (F := Ideal)) V main_v26 j) - 1)) : FVec Ideal S4096x1024 .f32) := by
  unfold hostOps0_2
  after_reads_simp
  rfl

theorem entry_v36 (t : Fin 4096) : after (hostOps0_2 (F := Ideal)) V main_v36 (ix2 t (0 : Fin 1)) = BitVec.ofBool (decide (t.val = 0)) := by
  unfold hostOps0_2
  after_reads_simp
  show IntOp.cmpi .eq (BitVec.ofNat 32 t.val) 0#32 = _
  exact WordCmp.cmpi_eq_ofNat (by have := t.isLt; omega) (by decide)

/-- The fourth stretch: the input's scale, one in the first row. -/
theorem entry_v37 {f : S4096x1024.Idx → ℝ} (h : Has (V main_v32) f) (hc : V main_cst_3 = (constant (F := Ideal) S_ .f32 0x3F800000#32))
    (hm : ∀ t : Fin 4096, V main_v36 (ix2 t (0 : Fin 1)) = BitVec.ofBool (decide (t.val = 0))) :
    Has (after (hostOps0_3 (F := Ideal)) V main_v37) fun j => if (j 0).val = 0 then 1 else f j := by
  unfold hostOps0_3
  after_reads_simp
  refine Has.sel (p := fun j => (j 0).val = 0) (fun j => ?_) ?_ h
  · obtain ⟨t, d, rfl⟩ : ∃ t d, j = ix2 t d := ⟨j 0, j 1, ValueIdx.eq_ix2 j⟩
    show broadcastInDim (α := BitVec 1) S4096x1024 ![0, 1] bcast_S4096x1_S4096x1024_0_1 (V main_v36) (ix2 t d) = _
    pointwise
    exact hm t
  · rw [hc]; exact fun _ => lit1

/-- The fifth stretch: what the recurrence adds. -/
theorem entry_v42_1 {f g h : S4096x1024.Idx → ℝ} (h2 : Has (V main_v2) f) (h17 : Has (V main_v17) g) (h37 : Has (V main_v37) h) :
    Has (after (hostOps0_4 (F := Ideal)) V main_v42_1) fun j => f j * g j * h j := by
  unfold hostOps0_4
  after_reads_simp
  exact (h2.mul h17).mul h37

/-! What a stretch leaves as it was. -/

theorem past_v21 (X : Valuation τ sig (Elt Ideal)) : after (hostOps0_1 (F := Ideal)) X main_v21 = X main_v21 := by
  unfold hostOps0_1; after_reads_simp
theorem past_v2 (X : Valuation τ sig (Elt Ideal)) : after (hostOps0_3 (F := Ideal)) (after hostOps0_2 (after hostOps0_1 X)) main_v2 = X main_v2 := by
  unfold hostOps0_3 hostOps0_2 hostOps0_1; after_reads_simp
theorem past_v17 (X : Valuation τ sig (Elt Ideal)) : after (hostOps0_3 (F := Ideal)) (after hostOps0_2 (after hostOps0_1 X)) main_v17 = X main_v17 := by
  unfold hostOps0_3 hostOps0_2 hostOps0_1; after_reads_simp
theorem past_v42_0 (X : Valuation τ sig (Elt Ideal)) : after (hostOps0_4 (F := Ideal)) (after hostOps0_3 X) main_v42_0 = X main_v27 := by
  unfold hostOps0_4 hostOps0_3; after_reads_simp; rfl
theorem late_v2 (X : Valuation τ sig (Elt Ideal)) : after (hostOps0_4 (F := Ideal)) X main_v2 = X main_v2 := by
  unfold hostOps0_4; after_reads_simp
theorem late_v15 (X : Valuation τ sig (Elt Ideal)) : after (hostOps0_4 (F := Ideal)) (after hostOps0_3 (after hostOps0_2 (after hostOps0_1 X))) main_v15 = X main_v15 := by
  unfold hostOps0_4 hostOps0_3 hostOps0_2 hostOps0_1; after_reads_simp

/-- All stretches before the recurrence. -/
abbrev begun (V : Valuation τ sig (Elt Ideal)) : Valuation τ sig (Elt Ideal) :=
  after hostOps0_4 (after hostOps0_3 (after hostOps0_2 (after hostOps0_1 (after hostOps0 V))))

theorem s26 (G : GivenAt V I) : Has (after (hostOps0_2 (F := Ideal)) (after hostOps0_1 (after hostOps0 V)) main_v26) fun j => la I (j 0).val (j 1).val := by
  refine entry_v26 (f := fun j => -8 * gate I 1 (j 0).val (j 1).val) (g := fun j => sp I (j 0).val) ?_ (entry_v23 (entry_v22 G))
  rw [past_v21]; exact entry_v21 G

theorem s32 (G : GivenAt V I) : Has (after (hostOps0_2 (F := Ideal)) (after hostOps0_1 (after hostOps0 V)) main_v32) fun j => root I (j 0).val (j 1).val := by
  rw [entry_v32]
  have h1 : Has (fun _ : S4096x1024.Idx => (1 : EReal)) fun _ => 1 := Has.const EReal.coe_one.symm
  refine ((((Has.const lit2).mul (s26 G)).exp.sub h1).neg.sqrt fun j => ?_).congr fun j => ?_
  · have := one_sub_pos I (j 0).val (j 1).val; linarith
  · unfold root; rw [neg_sub]

theorem s37 (G : GivenAt V I) : Has (after (hostOps0_3 (F := Ideal)) (after hostOps0_2 (after hostOps0_1 (after hostOps0 V))) main_v37) fun j => mul I (j 0).val (j 1).val := by
  refine entry_v37 (s32 G) ?_ entry_v36
  unfold hostOps0_2
  after_reads_simp

theorem begun_v2 : begun V main_v2 = after hostOps0 V main_v2 := (late_v2 _).trans (past_v2 _)
theorem begun_v15 : begun V main_v15 = after hostOps0 V main_v15 := late_v15 _
theorem begun_a (G : GivenAt V I) : Has (begun V main_v42_0) fun j => a I (j 0).val (j 1).val := by
  rw [begun, past_v42_0, entry_v27]
  exact (s26 G).exp
theorem begun_inc (G : GivenAt V I) : Has (begun V main_v42_1) fun j => inc I (j 0).val (j 1).val := by
  refine entry_v42_1 ?_ ?_ (s37 G)
  · rw [past_v2]; exact entry_v2 G
  · rw [past_v17]; exact entry_v17 G
theorem begun_h : Has (begun V main_v42_3) fun _ => 0 := by
  unfold begun hostOps0_4
  after_reads_simp
  exact fun _ => lit0

/-! ## The recurrence -/

/-- Before trip `k`: the decays, the increments, the state before row `k` and the states of the rows before it. -/
structure Walked (W : Valuation τ sig (Elt Ideal)) (I : Inp) (k : ℕ) : Prop where
  a : Has (W main_v42_0) fun j => a I (j 0).val (j 1).val
  inc : Has (W main_v42_1) fun j => inc I (j 0).val (j 1).val
  h : Has (W main_v42_3) fun j => hs I k (j 0).val
  rows : ∀ (t : Fin 4096) (d : Fin 1024), t.val < k → W main_v42_4 (ix2 t d) = ((hs I (t.val + 1) d.val : ℝ) : EReal)

end Cert.KernelIdeal.Val

end
-- ==== Proof.Val.Recur.lean ====
/- The kernel's recurrence: after its 4096 trips the stack of states holds the states, and the launch is handed the
   arrays it is described for. -/
module

public import proofs.«01_k».proof.Proof.Val.Host
public import proofs.«01_k».proof.Proof.Rec.Args

@[expose] public section

set_option maxRecDepth 16384

noncomputable section

namespace Cert.KernelIdeal.Val

open Cert.KernelIdeal Cert.KernelIdeal.Gen Cert.KernelIdeal.Rec Cert.Val Cert.Spec
open Idealize.ShloMosaic hiding ix0 ix1 ix2 ix3 ix4
open Idealize.ShloMosaic.TcCoe Idealize.ShloMosaic.ValueIdx
open Idealize.ShloMosaic.StableHlo (after)

variable {W : Valuation τ sig (Elt Ideal)} {I : Inp} {k : ℕ}

/-- A word below 4096 read signed. -/
theorem word_row {k : ℕ} (hk : k < 4096) : (BitVec.ofNat 32 k).toInt = (k : Int) := WordCmp.toInt_ofNat_of_lt (lt_of_lt_of_le hk (by decide))

/-- The trip's row of the decays, -/
theorem read_a (hk : k < 4096) (hc : W main_v42_2 = fun _ => BitVec.ofNat 32 k) {x : S4096x1024.Idx → EReal} (hx : W main_v42_0 = x) (d : Fin 1024) :
    after (while0Ops0 (F := Ideal)) W main_while0b_v52 (ix1 d) = x (ix2 ⟨k, hk⟩ d) := by
  unfold while0Ops0
  after_reads_simp
  rw [hx]
  refine row_read (h := sliceFits_S4096x1024_S1x1024) hk ?_ ?_ d
  · simp only [Matrix.cons_val_zero]
    after_reads_simp
    rw [hc]; exact word_row hk
  · simp only [Matrix.cons_val_one, Matrix.cons_val_fin_one]
    after_reads_simp
    rfl

/-- of the increments, -/
theorem read_inc (hk : k < 4096) (hc : W main_v42_2 = fun _ => BitVec.ofNat 32 k) {x : S4096x1024.Idx → EReal} (hx : W main_v42_1 = x) (d : Fin 1024) :
    after (while0Ops0_1 (F := Ideal)) W main_while0b_v53 (ix1 d) = x (ix2 ⟨k, hk⟩ d) := by
  unfold while0Ops0_1
  after_reads_simp
  rw [hx]
  refine row_read (h := sliceFits_S4096x1024_S1x1024) hk ?_ ?_ d
  · simp only [Matrix.cons_val_zero]
    after_reads_simp
    rw [hc]; exact word_row hk
  · simp only [Matrix.cons_val_one, Matrix.cons_val_fin_one]
    after_reads_simp
    rfl

/-- the next state -/
theorem next_h (d : Fin 1024) {x y z : S1024.Idx → EReal} (hx : W main_while0b_v52 = x) (hy : W main_v42_3 = y) (hz : W main_while0b_v53 = z) :
    after (while0Ops0_2 (F := Ideal)) W main_while0b_v55 (ix1 d) = x (ix1 d) * y (ix1 d) + z (ix1 d) := by
  unfold while0Ops0_2
  after_reads_simp
  rw [hx, hy, hz]
  rfl

/-- and the stack it is written to. -/
theorem write_h (hk : k < 4096) (hc : W main_v42_2 = fun _ => BitVec.ofNat 32 k) {x : S4096x1024.Idx → EReal} (hx : W main_v42_4 = x)
    {u : S1024.Idx → EReal} (hu : W main_while0b_v55 = u) (t : Fin 4096) (d : Fin 1024) :
    after (while0Ops0_3 (F := Ideal)) W main_while0b_v56 (ix2 t d) = if t.val = k then u (ix1 d) else x (ix2 t d) := by
  unfold while0Ops0_3
  after_reads_simp
  rw [hx, hu]
  refine row_write (h := updateFits_S4096x1024_S1x1024) (hb := bcast_S1024_S1x1024_1) hk ?_ ?_ t d
  · simp only [Matrix.cons_val_zero]
    after_reads_simp
    rw [hc]; exact word_row hk
  · simp only [Matrix.cons_val_one, Matrix.cons_val_fin_one]
    after_reads_simp
    rfl

/-- One trip's operations. -/
abbrev walk (W : Valuation τ sig (Elt Ideal)) : Valuation τ sig (Elt Ideal) :=
  after while0Ops0_4 (after while0Ops0_3 (after while0Ops0_2 (after while0Ops0_1 (after while0Ops0 (after condOps W)))))

/-! What the stretches leave as it was, buffer by buffer. -/

theorem cond_keep (W : Valuation τ sig (Elt Ideal)) : after (condOps (F := Ideal)) W main_v42_0 = W main_v42_0
    ∧ after (condOps (F := Ideal)) W main_v42_1 = W main_v42_1 ∧ after (condOps (F := Ideal)) W main_v42_2 = W main_v42_2
    ∧ after (condOps (F := Ideal)) W main_v42_3 = W main_v42_3 ∧ after (condOps (F := Ideal)) W main_v42_4 = W main_v42_4
    ∧ after (condOps (F := Ideal)) W main_v2 = W main_v2 ∧ after (condOps (F := Ideal)) W main_v15 = W main_v15 := by
  unfold condOps
  refine ⟨?_, ?_, ?_, ?_, ?_, ?_, ?_⟩ <;> after_reads_simp
theorem keep_0 (W : Valuation τ sig (Elt Ideal)) : after (while0Ops0 (F := Ideal)) W main_v42_0 = W main_v42_0
    ∧ after (while0Ops0 (F := Ideal)) W main_v42_1 = W main_v42_1 ∧ after (while0Ops0 (F := Ideal)) W main_v42_2 = W main_v42_2
    ∧ after (while0Ops0 (F := Ideal)) W main_v42_3 = W main_v42_3 ∧ after (while0Ops0 (F := Ideal)) W main_v42_4 = W main_v42_4
    ∧ after (while0Ops0 (F := Ideal)) W main_v2 = W main_v2 ∧ after (while0Ops0 (F := Ideal)) W main_v15 = W main_v15 := by
  unfold while0Ops0
  refine ⟨?_, ?_, ?_, ?_, ?_, ?_, ?_⟩ <;> after_reads_simp
theorem keep_1 (W : Valuation τ sig (Elt Ideal)) : after (while0Ops0_1 (F := Ideal)) W main_v42_0 = W main_v42_0
    ∧ after (while0Ops0_1 (F := Ideal)) W main_v42_1 = W main_v42_1 ∧ after (while0Ops0_1 (F := Ideal)) W main_v42_2 = W main_v42_2
    ∧ after (while0Ops0_1 (F := Ideal)) W main_v42_3 = W main_v42_3 ∧ after (while0Ops0_1 (F := Ideal)) W main_v42_4 = W main_v42_4
    ∧ after (while0Ops0_1 (F := Ideal)) W main_v2 = W main_v2 ∧ after (while0Ops0_1 (F := Ideal)) W main_v15 = W main_v15
    ∧ after (while0Ops0_1 (F := Ideal)) W main_while0b_v52 = W main_while0b_v52 := by
  unfold while0Ops0_1
  refine ⟨?_, ?_, ?_, ?_, ?_, ?_, ?_, ?_⟩ <;> after_reads_simp
theorem keep_2 (W : Valuation τ sig (Elt Ideal)) : after (while0Ops0_2 (F := Ideal)) W main_v42_0 = W main_v42_0
    ∧ after (while0Ops0_2 (F := Ideal)) W main_v42_1 = W main_v42_1 ∧ after (while0Ops0_2 (F := Ideal)) W main_v42_2 = W main_v42_2
    ∧ after (while0Ops0_2 (F := Ideal)) W main_v42_4 = W main_v42_4
    ∧ after (while0Ops0_2 (F := Ideal)) W main_v2 = W main_v2 ∧ after (while0Ops0_2 (F := Ideal)) W main_v15 = W main_v15 := by
  unfold while0Ops0_2
  refine ⟨?_, ?_, ?_, ?_, ?_, ?_⟩ <;> after_reads_simp
theorem keep_3 (W : Valuation τ sig (Elt Ideal)) : after (while0Ops0_3 (F := Ideal)) W main_v42_0 = W main_v42_0
    ∧ after (while0Ops0_3 (F := Ideal)) W main_v42_1 = W main_v42_1
    ∧ after (while0Ops0_3 (F := Ideal)) W main_v2 = W main_v2 ∧ after (while0Ops0_3 (F := Ideal)) W main_v15 = W main_v15
    ∧ after (while0Ops0_3 (F := Ideal)) W main_while0b_v55 = W main_while0b_v55 := by
  unfold while0Ops0_3
  refine ⟨?_, ?_, ?_, ?_, ?_⟩ <;> after_reads_simp
theorem keep_4 (W : Valuation τ sig (Elt Ideal)) : after (while0Ops0_4 (F := Ideal)) W main_v42_0 = W main_v42_0
    ∧ after (while0Ops0_4 (F := Ideal)) W main_v42_1 = W main_v42_1
    ∧ after (while0Ops0_4 (F := Ideal)) W main_v2 = W main_v2 ∧ after (while0Ops0_4 (F := Ideal)) W main_v15 = W main_v15
    ∧ after (while0Ops0_4 (F := Ideal)) W main_v42_3 = W main_while0b_v55 ∧ after (while0Ops0_4 (F := Ideal)) W main_v42_4 = W main_while0b_v56 := by
  unfold while0Ops0_4
  refine ⟨?_, ?_, ?_, ?_, ?_, ?_⟩ <;> after_reads_simp <;> rfl

/-- A trip leaves the decays, the increments, the recurrence's input and the gates as they were. -/
theorem walk_keep (W : Valuation τ sig (Elt Ideal)) : walk W main_v42_0 = W main_v42_0 ∧ walk W main_v42_1 = W main_v42_1
    ∧ walk W main_v2 = W main_v2 ∧ walk W main_v15 = W main_v15 := by
  refine ⟨?_, ?_, ?_, ?_⟩
  · rw [walk, (keep_4 _).1, (keep_3 _).1, (keep_2 _).1, (keep_1 _).1, (keep_0 _).1, (cond_keep _).1]
  · rw [walk, (keep_4 _).2.1, (keep_3 _).2.1, (keep_2 _).2.1, (keep_1 _).2.1, (keep_0 _).2.1, (cond_keep _).2.1]
  · rw [walk, (keep_4 _).2.2.1, (keep_3 _).2.2.1, (keep_2 _).2.2.2.2.1, (keep_1 _).2.2.2.2.2.1, (keep_0 _).2.2.2.2.2.1, (cond_keep _).2.2.2.2.2.1]
  · rw [walk, (keep_4 _).2.2.2.1, (keep_3 _).2.2.2.1, (keep_2 _).2.2.2.2.2, (keep_1 _).2.2.2.2.2.2.1, (keep_0 _).2.2.2.2.2.2, (cond_keep _).2.2.2.2.2.2]

/-- One trip takes the states one row on. -/
theorem walked_succ (hk : k < 4096) (hc : W main_v42_2 = fun _ => BitVec.ofNat 32 k) (H : Walked W I k) : Walked (walk W) I (k + 1) := by
  have hnext : ∀ d : Fin 1024, after (while0Ops0_2 (F := Ideal)) (after while0Ops0_1 (after while0Ops0 (after condOps W))) main_while0b_v55 (ix1 d)
      = ((hs I (k + 1) d.val : ℝ) : EReal) := by
    intro d
    rw [next_h d ((keep_1 _).2.2.2.2.2.2.2) (((keep_1 _).2.2.2.1).trans (((keep_0 _).2.2.2.1).trans (cond_keep _).2.2.2.1)) rfl,
      read_a hk ((cond_keep _).2.2.1.trans hc) (cond_keep _).1 d,
      read_inc hk (((keep_0 _).2.2.1).trans ((cond_keep _).2.2.1.trans hc)) (((keep_0 _).2.1).trans (cond_keep _).2.1) d,
      H.a, H.inc, H.h, ← EReal.coe_mul, ← EReal.coe_add]
    rfl
  refine ⟨?_, ?_, ?_, ?_⟩
  · rw [(walk_keep W).1]; exact H.a
  · rw [(walk_keep W).2.1]; exact H.inc
  · intro j
    obtain ⟨d, rfl⟩ : ∃ d, j = ix1 d := ⟨j 0, ValueIdx.eq_ix1 j⟩
    rw [walk, (keep_4 _).2.2.2.2.1, (keep_3 _).2.2.2.2]
    exact hnext d
  · intro t d ht
    rw [walk, (keep_4 _).2.2.2.2.2,
      write_h hk (((keep_2 _).2.2.1).trans (((keep_1 _).2.2.1).trans (((keep_0 _).2.2.1).trans ((cond_keep _).2.2.1.trans hc))))
        (((keep_2 _).2.2.2.1).trans (((keep_1 _).2.2.2.2.1).trans (((keep_0 _).2.2.2.2.1).trans (cond_keep _).2.2.2.2.1))) rfl t d]
    split
    · rename_i e; rw [hnext d, e]
    · rename_i e; exact H.rows t d (by omega)

/-! ## The whole -/

variable (m : (ℓ : Loc nD τ sig) → Buf (Elt Ideal) ℓ) (c : Dev nD)

/-- After `k` trips. -/
theorem walked (G : GivenAt (StableHlo.launchContents m c) I) : ∀ k, k ≤ 4096 →
    Walked (StableHlo.atTrip condOps bodyI (StableHlo.entryContents preI m) k c) I k
  | 0, _ => ⟨begun_a G, begun_inc G, begun_h, fun _ _ h => absurd h (Nat.not_lt_zero _)⟩
  | k + 1, h => walked_succ (W := StableHlo.atTrip condOps bodyI (StableHlo.entryContents preI m) k c) (by omega)
      (trip_ctr _ (fun c => entry_ctr m c) c k) (walked G k (by omega))

/-- The trips leave the recurrence's input and the gates. -/
theorem trips_keep : ∀ k, StableHlo.atTrip condOps bodyI (StableHlo.entryContents preI m) k c main_v2 = after (hostOps0 (F := Ideal)) (StableHlo.launchContents m c) main_v2
    ∧ StableHlo.atTrip condOps bodyI (StableHlo.entryContents preI m) k c main_v15 = after (hostOps0 (F := Ideal)) (StableHlo.launchContents m c) main_v15
  | 0 => ⟨begun_v2, begun_v15⟩
  | k + 1 => ⟨((walk_keep (StableHlo.atTrip condOps bodyI (StableHlo.entryContents preI m) k c)).2.2.1).trans (trips_keep k).1,
      ((walk_keep (StableHlo.atTrip condOps bodyI (StableHlo.entryContents preI m) k c)).2.2.2).trans (trips_keep k).2⟩

theorem looped_v2 (G : GivenAt (StableHlo.launchContents m c) I) : Has (looped m c main_v2) fun j => xc I (j 0).val (j 1).val := by
  rw [show looped m c main_v2 = _ from ((cond_keep _).2.2.2.2.2.1).trans (trips_keep m c 4096).1]; exact entry_v2 G
theorem looped_v15 (G : GivenAt (StableHlo.launchContents m c) I) : Has (looped m c main_v15) fun j => gate I (j 0).val (j 1).val (j 2).val := by
  rw [show looped m c main_v15 = _ from ((cond_keep _).2.2.2.2.2.2).trans (trips_keep m c 4096).2]; exact entry_v15 G
theorem looped_h (G : GivenAt (StableHlo.launchContents m c) I) : Has (looped m c main_v42_4) fun j => hs I ((j 0).val + 1) (j 1).val := by
  rw [show looped m c main_v42_4 = _ from (cond_keep _).2.2.2.2.1]
  intro j
  obtain ⟨t, d, rfl⟩ : ∃ t d, j = ix2 t d := ⟨j 0, j 1, ValueIdx.eq_ix2 j⟩
  exact (walked m c G 4096 le_rfl).rows t d t.isLt

/-- The arguments after the trips. -/
theorem looped_arg {b : Ref sig .tc} (hb : b ∈ args) : looped m c b = StableHlo.launchContents m c b := by
  rw [looped, spares_condOps.after hb, trip_spares _ c hb]
  show after hostOps0_4 (after hostOps0_3 (after hostOps0_2 (after hostOps0_1 (after hostOps0 (StableHlo.launchContents m c))))) b = _
  rw [spares_hostOps0_4.after hb, spares_hostOps0_3.after hb, spares_hostOps0_2.after hb, spares_hostOps0_1.after hb, spares_hostOps0.after hb]

/-- The last stretch, from any contents. -/
theorem last (X : Valuation τ sig (Elt Ideal)) :
    after (hostOps0_5 (F := Ideal)) X main_v43 = X main_arg5
    ∧ after (hostOps0_5 (F := Ideal)) X main_v45 = shapeCast S4096x1024 (extractStridedSlice S1x4096x1024 ![1, 0, 0] (X main_v15) slices_S2x4096x1024_S1x4096x1024_1_0_0) shapeCasts_S1x4096x1024_S4096x1024
    ∧ after (hostOps0_5 (F := Ideal)) X main_v47 = shapeCast S4096x1024 (extractStridedSlice S1x4096x1024 ![0, 0, 0] (X main_v15) slices_S2x4096x1024_S1x4096x1024_0_0_0) shapeCasts_S1x4096x1024_S4096x1024
    ∧ after (hostOps0_5 (F := Ideal)) X main_v48 = X main_v42_4
    ∧ after (hostOps0_5 (F := Ideal)) X main_v2 = X main_v2
    ∧ after (hostOps0_5 (F := Ideal)) X main_v49 = broadcastInDim S1x1024 ![1] bcast_S1024_S1x1024_1 (X main_arg4)
    ∧ after (hostOps0_5 (F := Ideal)) X main_v50 = X main_arg2 := by
  unfold hostOps0_5
  refine ⟨?_, ?_, ?_, ?_, ?_, ?_, ?_⟩ <;> after_reads_simp <;> rfl

/-- The launch is handed the arrays it is described for. -/
theorem held (G : GivenAt (StableHlo.launchContents m c) I) : Held (Ve m) c I where
  dh := by
    show Has (after hostOps0_5 (looped m c) main_v43) _
    rw [(last _).1, looped_arg m c (by decide)]; exact G.dh
  gr := by
    show Has (after hostOps0_5 (looped m c) main_v45) _
    rw [(last _).2.1]; exact second_row (looped_v15 m c G)
  gi := by
    show Has (after hostOps0_5 (looped m c) main_v47) _
    rw [(last _).2.2.1]; exact first_row (looped_v15 m c G)
  h := by
    show Has (after hostOps0_5 (looped m c) main_v48) _
    rw [(last _).2.2.2.1]; exact looped_h m c G
  xc := by
    show Has (after hostOps0_5 (looped m c) main_v2) _
    rw [(last _).2.2.2.2.1]; exact looped_v2 m c G
  ap := by
    show Has (after hostOps0_5 (looped m c) main_v49) _
    rw [(last _).2.2.2.2.2.1, looped_arg m c (by decide)]
    intro j
    obtain ⟨z, d, rfl⟩ : ∃ z d, j = ix2 z d := ⟨j 0, j 1, ValueIdx.eq_ix2 j⟩
    pointwise
    exact G.ap _
  w := by
    show Has (after hostOps0_5 (looped m c) main_v50) _
    rw [(last _).2.2.2.2.2.2, looped_arg m c (by decide)]; exact G.w

end Cert.KernelIdeal.Val

end
-- ==== Proof.Val.RefKeep.lean ====
/- What the stretches after a buffer's last write leave as it was, and with it everything the plain gradient's program
   holds from its first stretches to its last. -/
module

public import proofs.«01_k».proof.Proof.Val.RefPre

@[expose] public section

set_option maxRecDepth 16384

noncomputable section

namespace Cert.ReferenceIdeal.Val

open Cert.ReferenceIdeal Cert.ReferenceIdeal.Gen Cert.ReferenceIdeal.Ref Cert.Val Cert.Spec
open Idealize.ShloMosaic hiding ix0 ix1 ix2 ix3 ix4
open Idealize.ShloMosaic.TcCoe Idealize.ShloMosaic.ValueIdx
open Idealize.ShloMosaic.StableHlo (after)

/-- None of the operations writes one of these buffers. -/
def Leaves (bs : List (Ref sig .tc)) (ops : List (HloOp τ sig (Elt Ideal))) : Prop := ∀ b ∈ bs, ∀ op ∈ ops, Proc.devRef .tc b ∉ op.writes

theorem Leaves.after {bs : List (Ref sig .tc)} {ops : List (HloOp τ sig (Elt Ideal))} (h : Leaves bs ops) {b : Ref sig .tc} (hb : b ∈ bs)
    (V : Valuation τ sig (Elt Ideal)) : StableHlo.after ops V b = V b := StableHlo.after_of_forall_not_mem ops V (h b hb)

/-- Written by the first stretch, -/
abbrev bs0 : List (Ref sig .tc) := [main_v3, main_v20, main_v22, main_v26]
/-- by the second at the latest, -/
abbrev bs1 : List (Ref sig .tc) := [main_v3, main_v20, main_v22, main_v26, main_v28_1]
/-- by the third, -/
abbrev bs2 : List (Ref sig .tc) := [main_v3, main_v20, main_v22, main_v26, main_v28_1, main_v29, main_v32, main_v36, main_v40]
/-- by the fourth, -/
abbrev bs3 : List (Ref sig .tc) := [main_v3, main_v20, main_v22, main_v26, main_v28_1, main_v29, main_v32, main_v36, main_v40, main_v45_0, main_v45_1]
/-- by the fifth. -/
abbrev bs4 : List (Ref sig .tc) := [main_v3, main_v20, main_v22, main_v26, main_v28_1, main_v29, main_v32, main_v36, main_v40, main_v45_0, main_v45_1, main_v46]

theorem leaves_main0_1 : Leaves bs0 (main0_1 (F := Ideal)) := by
  intro b hb op hop
  fin_cases hop <;> exact fun h => StableHlo.devRef_ne_of_ne (fun e => absurd (e ▸ hb) (by decide)) (Finset.mem_singleton.mp h)
theorem leaves_main0_2 : Leaves bs1 (main0_2 (F := Ideal)) := by
  intro b hb op hop
  fin_cases hop <;> exact fun h => StableHlo.devRef_ne_of_ne (fun e => absurd (e ▸ hb) (by decide)) (Finset.mem_singleton.mp h)
theorem leaves_main0_3 : Leaves bs2 (main0_3 (F := Ideal)) := by
  intro b hb op hop
  fin_cases hop <;> exact fun h => StableHlo.devRef_ne_of_ne (fun e => absurd (e ▸ hb) (by decide)) (Finset.mem_singleton.mp h)
theorem leaves_main0_4 : Leaves bs3 (main0_4 (F := Ideal)) := by
  intro b hb op hop
  fin_cases hop <;> exact fun h => StableHlo.devRef_ne_of_ne (fun e => absurd (e ▸ hb) (by decide)) (Finset.mem_singleton.mp h)
theorem leaves_main1_0 : Leaves bs4 (main1_0 (F := Ideal)) := by
  intro b hb op hop
  fin_cases hop <;> exact fun h => StableHlo.devRef_ne_of_ne (fun e => absurd (e ▸ hb) (by decide)) (Finset.mem_singleton.mp h)
theorem leaves_condA : Leaves bs4 (condA (F := Ideal)) := by
  intro b hb op hop
  fin_cases hop <;> exact fun h => StableHlo.devRef_ne_of_ne (fun e => absurd (e ▸ hb) (by decide)) (Finset.mem_singleton.mp h)
theorem leaves_while0_0 : Leaves bs4 (while0_0 (F := Ideal)) := by
  intro b hb op hop
  fin_cases hop <;> exact fun h => StableHlo.devRef_ne_of_ne (fun e => absurd (e ▸ hb) (by decide)) (Finset.mem_singleton.mp h)
theorem leaves_while0_1 : Leaves bs4 (while0_1 (F := Ideal)) := by
  intro b hb op hop
  fin_cases hop <;> exact fun h => StableHlo.devRef_ne_of_ne (fun e => absurd (e ▸ hb) (by decide)) (Finset.mem_singleton.mp h)
theorem leaves_while0_2 : Leaves bs4 (while0_2 (F := Ideal)) := by
  intro b hb op hop
  fin_cases hop <;> exact fun h => StableHlo.devRef_ne_of_ne (fun e => absurd (e ▸ hb) (by decide)) (Finset.mem_singleton.mp h)
theorem leaves_while0_3 : Leaves bs4 (while0_3 (F := Ideal)) := by
  intro b hb op hop
  fin_cases hop <;> exact fun h => StableHlo.devRef_ne_of_ne (fun e => absurd (e ▸ hb) (by decide)) (Finset.mem_singleton.mp h)
theorem leaves_while0_4 : Leaves bs4 (while0_4 (F := Ideal)) := by
  intro b hb op hop
  fin_cases hop <;> exact fun h => StableHlo.devRef_ne_of_ne (fun e => absurd (e ▸ hb) (by decide)) (Finset.mem_singleton.mp h)
theorem leaves_while0_5 : Leaves bs4 (while0_5 (F := Ideal)) := by
  intro b hb op hop
  fin_cases hop <;> exact fun h => StableHlo.devRef_ne_of_ne (fun e => absurd (e ▸ hb) (by decide)) (Finset.mem_singleton.mp h)
theorem leaves_main1_2 : Leaves bs4 (main1_2 (F := Ideal)) := by
  intro b hb op hop
  fin_cases hop <;> exact fun h => StableHlo.devRef_ne_of_ne (fun e => absurd (e ▸ hb) (by decide)) (Finset.mem_singleton.mp h)
theorem leaves_condB : Leaves bs4 (condB (F := Ideal)) := by
  intro b hb op hop
  fin_cases hop <;> exact fun h => StableHlo.devRef_ne_of_ne (fun e => absurd (e ▸ hb) (by decide)) (Finset.mem_singleton.mp h)
theorem leaves_while1_0 : Leaves bs4 (while1_0 (F := Ideal)) := by
  intro b hb op hop
  fin_cases hop <;> exact fun h => StableHlo.devRef_ne_of_ne (fun e => absurd (e ▸ hb) (by decide)) (Finset.mem_singleton.mp h)
theorem leaves_while1_1 : Leaves bs4 (while1_1 (F := Ideal)) := by
  intro b hb op hop
  fin_cases hop <;> exact fun h => StableHlo.devRef_ne_of_ne (fun e => absurd (e ▸ hb) (by decide)) (Finset.mem_singleton.mp h)
theorem leaves_while1_2 : Leaves bs4 (while1_2 (F := Ideal)) := by
  intro b hb op hop
  fin_cases hop <;> exact fun h => StableHlo.devRef_ne_of_ne (fun e => absurd (e ▸ hb) (by decide)) (Finset.mem_singleton.mp h)
theorem leaves_while1_3 : Leaves bs4 (while1_3 (F := Ideal)) := by
  intro b hb op hop
  fin_cases hop <;> exact fun h => StableHlo.devRef_ne_of_ne (fun e => absurd (e ▸ hb) (by decide)) (Finset.mem_singleton.mp h)
theorem leaves_while1_4 : Leaves bs4 (while1_4 (F := Ideal)) := by
  intro b hb op hop
  fin_cases hop <;> exact fun h => StableHlo.devRef_ne_of_ne (fun e => absurd (e ▸ hb) (by decide)) (Finset.mem_singleton.mp h)
theorem leaves_while1_5 : Leaves bs4 (while1_5 (F := Ideal)) := by
  intro b hb op hop
  fin_cases hop <;> exact fun h => StableHlo.devRef_ne_of_ne (fun e => absurd (e ▸ hb) (by decide)) (Finset.mem_singleton.mp h)
theorem leaves_while1_6 : Leaves bs4 (while1_6 (F := Ideal)) := by
  intro b hb op hop
  fin_cases hop <;> exact fun h => StableHlo.devRef_ne_of_ne (fun e => absurd (e ▸ hb) (by decide)) (Finset.mem_singleton.mp h)
theorem leaves_while1_7 : Leaves bs4 (while1_7 (F := Ideal)) := by
  intro b hb op hop
  fin_cases hop <;> exact fun h => StableHlo.devRef_ne_of_ne (fun e => absurd (e ▸ hb) (by decide)) (Finset.mem_singleton.mp h)

/-- Both recurrences leave them. -/
theorem trips_leaveA (W₀ : Dev nD → Valuation τ sig (Elt Ideal)) (c : Dev nD) {b : Ref sig .tc} (hb : b ∈ bs4) :
    ∀ k, StableHlo.atTrip condA bodyA W₀ k c b = W₀ c b
  | 0 => rfl
  | k + 1 => by
    show (after while0_5 (after while0_4 (after while0_3 (after while0_2 (after while0_1 (after while0_0 (after condA (StableHlo.atTrip condA bodyA W₀ k c)))))))) b = _
    rw [leaves_while0_5.after hb, leaves_while0_4.after hb, leaves_while0_3.after hb, leaves_while0_2.after hb, leaves_while0_1.after hb, leaves_while0_0.after hb, leaves_condA.after hb, trips_leaveA W₀ c hb k]
@[inherit_doc trips_leaveA]
theorem trips_leaveB (W₀ : Dev nD → Valuation τ sig (Elt Ideal)) (c : Dev nD) {b : Ref sig .tc} (hb : b ∈ bs4) :
    ∀ k, StableHlo.atTrip condB bodyB W₀ k c b = W₀ c b
  | 0 => rfl
  | k + 1 => by
    show (after while1_7 (after while1_6 (after while1_5 (after while1_4 (after while1_3 (after while1_2 (after while1_1 (after while1_0 (after condB (StableHlo.atTrip condB bodyB W₀ k c)))))))))) b = _
    rw [leaves_while1_7.after hb, leaves_while1_6.after hb, leaves_while1_5.after hb, leaves_while1_4.after hb, leaves_while1_3.after hb, leaves_while1_2.after hb, leaves_while1_1.after hb, leaves_while1_0.after hb, leaves_condB.after hb, trips_leaveB W₀ c hb k]

/-- What the last stretches use. -/
structure Kept (X : Valuation τ sig (Elt Ideal)) (I : Inp) : Prop where
  x : Has (X main_v3) fun j => xc I (j 0).val (j 1).val
  s : Has (X main_v20) fun j => gate I (j 0).val (j 1).val (j 2).val * (1 - gate I (j 0).val (j 1).val (j 2).val)
  g : Has (X main_v22) fun j => gate I 0 (j 0).val (j 1).val
  r : Has (X main_v26) fun j => -8 * gate I 1 (j 0).val (j 1).val
  sg : Has (X main_v28_1) fun j => (1 + Real.exp (I.ap (j 0).val))⁻¹
  sp : Has (X main_v29) fun j => sp I (j 1).val
  a : Has (X main_v32) fun j => a I (j 0).val (j 1).val
  e : Has (X main_v36) fun j => Real.exp (2 * la I (j 0).val (j 1).val)
  h : Has (X main_v40) fun j => 1 / 2 / root I (j 0).val (j 1).val
  m : Has (X main_v45_0) fun j => mul I (j 0).val (j 1).val
  k : ∀ j : S4096x1024.Idx, X main_v45_1 j = BitVec.ofBool (decide ((j 0).val = 0))
  p : Has (X main_v46) fun j => xc I (j 0).val (j 1).val * gate I 0 (j 0).val (j 1).val

/-- Contents that agree on these buffers. -/
theorem Kept.of_eq {X Y : Valuation τ sig (Elt Ideal)} {I : Inp} (K : Kept X I) (h : ∀ b ∈ bs4, Y (Proc.devRef .tc b) = X (Proc.devRef .tc b)) : Kept Y I where
  x := by rw [h main_v3 (by decide)]; exact K.x
  s := by rw [h main_v20 (by decide)]; exact K.s
  g := by rw [h main_v22 (by decide)]; exact K.g
  r := by rw [h main_v26 (by decide)]; exact K.r
  sg := by rw [h main_v28_1 (by decide)]; exact K.sg
  sp := by rw [h main_v29 (by decide)]; exact K.sp
  a := by rw [h main_v32 (by decide)]; exact K.a
  e := by rw [h main_v36 (by decide)]; exact K.e
  h := by rw [h main_v40 (by decide)]; exact K.h
  m := by rw [h main_v45_0 (by decide)]; exact K.m
  k := by rw [h main_v45_1 (by decide)]; exact K.k
  p := by rw [h main_v46 (by decide)]; exact K.p

variable {V : Valuation τ sig (Elt Ideal)} {I : Inp}

/-- The stretches, one after the other. -/
abbrev V1 (V : Valuation τ sig (Elt Ideal)) : Valuation τ sig (Elt Ideal) := after main0_0 V
@[inherit_doc V1] abbrev V2 (V : Valuation τ sig (Elt Ideal)) : Valuation τ sig (Elt Ideal) := after main0_1 (V1 V)
@[inherit_doc V1] abbrev V3 (V : Valuation τ sig (Elt Ideal)) : Valuation τ sig (Elt Ideal) := after main0_2 (V2 V)
@[inherit_doc V1] abbrev V4 (V : Valuation τ sig (Elt Ideal)) : Valuation τ sig (Elt Ideal) := after main0_3 (V3 V)
@[inherit_doc V1] abbrev V5 (V : Valuation τ sig (Elt Ideal)) : Valuation τ sig (Elt Ideal) := after main0_4 (V4 V)
@[inherit_doc V1] abbrev V6 (V : Valuation τ sig (Elt Ideal)) : Valuation τ sig (Elt Ideal) := after main1_0 (V5 V)

theorem to5_0 {b : Ref sig .tc} (h : b ∈ bs0) : V5 V b = V1 V b := by
  rw [V5, leaves_main0_4.after (by revert h; revert b; decide), V4, leaves_main0_3.after (by revert h; revert b; decide), V3, leaves_main0_2.after (by revert h; revert b; decide), V2, leaves_main0_1.after h]
theorem to4_0 {b : Ref sig .tc} (h : b ∈ bs0) : V4 V b = V1 V b := by
  rw [V4, leaves_main0_3.after (by revert h; revert b; decide), V3, leaves_main0_2.after (by revert h; revert b; decide), V2, leaves_main0_1.after h]
theorem to5_1 {b : Ref sig .tc} (h : b ∈ bs1) : V5 V b = V2 V b := by
  rw [V5, leaves_main0_4.after (by revert h; revert b; decide), V4, leaves_main0_3.after (by revert h; revert b; decide), V3, leaves_main0_2.after h]
theorem to5_2 {b : Ref sig .tc} (h : b ∈ bs2) : V5 V b = V3 V b := by
  rw [V5, leaves_main0_4.after (by revert h; revert b; decide), V4, leaves_main0_3.after h]

theorem at_la (G : GivenAt V I) : Has (V3 V main_v31) fun j => la I (j 0).val (j 1).val := by
  refine v31 (f := fun j => -8 * gate I 1 (j 0).val (j 1).val) (g := fun j => Spec.sp I (j 0).val) ?_ (soft (v27 G))
  rw [show V2 V main_v26 = V1 V main_v26 from leaves_main0_1.after (by decide) _]; exact v26 G

theorem at_root (G : GivenAt V I) : Has (V3 V main_v38) fun j => root I (j 0).val (j 1).val := by
  rw [V3, scale_reads.2.2.2.1]
  have h1 : Has (fun _ : S4096x1024.Idx => (1 : EReal)) fun _ => 1 := Has.const EReal.coe_one.symm
  refine ((((Has.const lit2).mul (at_la G)).exp.sub h1).neg.sqrt fun j => ?_).congr fun j => ?_
  · have := one_sub_pos I (j 0).val (j 1).val; linarith
  · unfold root; rw [neg_sub]

theorem at_mul (G : GivenAt V I) : Has (V4 V main_v45_0) fun j => mul I (j 0).val (j 1).val :=
  v45_0 (at_root G) scale_reads.2.2.2.2.2 v44

/-- The sigmoid's complement, as the softplus' derivative has it. -/
theorem complement (z : ℝ) : Real.exp (-z - Real.log (1 + Real.exp (-z))) = (1 + Real.exp z)⁻¹ := by
  have h : (0 : ℝ) < 1 + Real.exp (-z) := by have := Real.exp_pos (-z); linarith
  rw [Real.exp_sub, Real.exp_log h, Real.exp_neg]
  have := Real.exp_pos z
  field_simp
  ring

theorem kept5 (G : GivenAt V I) : Kept (V5 V) I where
  x := by rw [to5_0 (by decide)]; exact v3 G
  s := by rw [to5_0 (by decide)]; exact v20 G
  g := by rw [to5_0 (by decide)]; exact v22 G
  r := by rw [to5_0 (by decide)]; exact v26 G
  sg := by rw [to5_1 (by decide)]; exact (soft' (v27 G)).congr fun j => complement _
  sp := by
    rw [to5_2 (by decide), V3, scale_reads.1]
    intro j
    obtain ⟨z, d, rfl⟩ : ∃ z d, j = ix2 z d := ⟨j 0, j 1, ValueIdx.eq_ix2 j⟩
    pointwise
    exact soft (v27 G) _
  a := by rw [to5_2 (by decide), V3, scale_reads.2.1]; exact (at_la G).exp
  e := by rw [to5_2 (by decide), V3, scale_reads.2.2.1]; exact ((Has.const lit2).mul (at_la G)).exp
  h := by
    rw [to5_2 (by decide), V3, scale_reads.2.2.2.2.1]
    exact (Has.const litHalf).div (at_root G) fun j => (root_pos I _ _).ne'
  m := by rw [V5, leaves_main0_4.after (by decide)]; exact at_mul G
  k := by rw [V5, leaves_main0_4.after (by decide)]; exact v45_1 v44
  p := by
    refine (v46 ?_ ?_ (at_mul G)).1
    · rw [to4_0 (by decide)]; exact v3 G
    · rw [to4_0 (by decide)]; exact v22 G

theorem kept6 (G : GivenAt V I) : Kept (V6 V) I := (kept5 G).of_eq fun b hb => leaves_main1_0.after hb _

/-- The first recurrence's arrays when it begins. -/
theorem begun_inc (G : GivenAt V I) : Has (V6 V main_v51_1) fun j => inc I (j 0).val (j 1).val := by
  have e (X : Valuation τ sig (Elt Ideal)) : after (main1_0 (F := Ideal)) X main_v51_1 = X main_v47 := by
    unfold main1_0
    after_reads_simp
    rfl
  rw [V6, e]
  refine (v46 ?_ ?_ (at_mul G)).2
  · rw [to4_0 (by decide)]; exact v3 G
  · rw [to4_0 (by decide)]; exact v22 G
theorem begun_a (G : GivenAt V I) : Has (V6 V main_v51_0) fun j => a I (j 0).val (j 1).val := by
  have e (X : Valuation τ sig (Elt Ideal)) : after (main1_0 (F := Ideal)) X main_v51_0 = X main_v32 := by
    unfold main1_0
    after_reads_simp
    rfl
  rw [V6, e]; exact (kept5 G).a
theorem begun_h : Has (V6 V main_v51_3) fun _ => 0 := by
  have e (X : Valuation τ sig (Elt Ideal)) : after (main1_0 (F := Ideal)) (after main0_4 X) main_v51_3 = broadcastInDim S1024 ![] bcast_S_S1024 (constant (F := Ideal) S_ .f32 0x00000000#32) := by
    unfold main1_0 main0_4
    after_reads_simp
    rfl
  rw [V6, V5, e]; exact zeros _

end Cert.ReferenceIdeal.Val

end
-- ==== Proof.Val.RefLoop.lean ====
/- The plain gradient's two recurrences: the first, forward, leaves the stack of the states before each row; the second,
   backward, leaves the stacks of the states' gradients and of their products with the states. -/
module

public import proofs.«01_k».proof.Proof.Val.RefKeep
public import proofs.«01_k».proof.Proof.Val.Rows

@[expose] public section

set_option maxRecDepth 16384

noncomputable section

namespace Cert.ReferenceIdeal.Val

open Cert.ReferenceIdeal Cert.ReferenceIdeal.Gen Cert.ReferenceIdeal.Ref Cert.Val Cert.Spec
open Idealize.ShloMosaic hiding ix0 ix1 ix2 ix3 ix4
open Idealize.ShloMosaic.TcCoe Idealize.ShloMosaic.ValueIdx
open Idealize.ShloMosaic.StableHlo (after)

variable {W : Valuation τ sig (Elt Ideal)} {I : Inp} {k : ℕ}

/-- A word below 4096 read signed. -/
theorem word_row {k : ℕ} (hk : k < 4096) : (BitVec.ofNat 32 k).toInt = (k : Int) := WordCmp.toInt_ofNat_of_lt (lt_of_lt_of_le hk (by decide))

/-! ## The recurrence -/

theorem read_a (hk : k < 4096) (hc : W main_v51_2 = fun _ => BitVec.ofNat 32 k) {x : S4096x1024.Idx → EReal} (hx : W main_v51_0 = x) (d : Fin 1024) :
    after (while0_0 (F := Ideal)) W main_while0b_v102 (ix1 d) = x (ix2 ⟨k, hk⟩ d) := by
  unfold while0_0
  after_reads_simp
  rw [hx]
  refine row_read (h := sliceFits_S4096x1024_S1x1024) hk ?_ ?_ d
  · simp only [Matrix.cons_val_zero]
    after_reads_simp
    rw [hc]; exact word_row hk
  · simp only [Matrix.cons_val_one, Matrix.cons_val_fin_one]
    after_reads_simp
    rfl

theorem read_inc (hk : k < 4096) (hc : W main_v51_2 = fun _ => BitVec.ofNat 32 k) {x : S4096x1024.Idx → EReal} (hx : W main_v51_1 = x) (d : Fin 1024) :
    after (while0_1 (F := Ideal)) W main_while0b_v103 (ix1 d) = x (ix2 ⟨k, hk⟩ d) := by
  unfold while0_1
  after_reads_simp
  rw [hx]
  refine row_read (h := sliceFits_S4096x1024_S1x1024) hk ?_ ?_ d
  · simp only [Matrix.cons_val_zero]
    after_reads_simp
    rw [hc]; exact word_row hk
  · simp only [Matrix.cons_val_one, Matrix.cons_val_fin_one]
    after_reads_simp
    rfl

theorem next_h (d : Fin 1024) {x y z : S1024.Idx → EReal} (hx : W main_while0b_v102 = x) (hy : W main_v51_3 = y) (hz : W main_while0b_v103 = z) :
    after (while0_2 (F := Ideal)) W main_while0b_v105 (ix1 d) = x (ix1 d) * y (ix1 d) + z (ix1 d) := by
  unfold while0_2
  after_reads_simp
  rw [hx, hy, hz]
  rfl

theorem write_prev (hk : k < 4096) (hc : W main_v51_2 = fun _ => BitVec.ofNat 32 k) {x : S4096x1024.Idx → EReal} (hx : W main_v51_5 = x)
    {u : S1024.Idx → EReal} (hu : W main_v51_3 = u) (t : Fin 4096) (d : Fin 1024) :
    after (while0_4 (F := Ideal)) W main_while0b_v107 (ix2 t d) = if t.val = k then u (ix1 d) else x (ix2 t d) := by
  unfold while0_4
  after_reads_simp
  rw [hx, hu]
  refine row_write (h := updateFits_S4096x1024_S1x1024) (hb := bcast_S1024_S1x1024_1) hk ?_ ?_ t d
  · simp only [Matrix.cons_val_zero]
    after_reads_simp
    rw [hc]; exact word_row hk
  · simp only [Matrix.cons_val_one, Matrix.cons_val_fin_one]
    after_reads_simp
    rfl

theorem stateA_cond : Leaves [main_v51_0, main_v51_1, main_v51_2, main_v51_3, main_v51_5] (condA (F := Ideal)) := by
  intro b hb op hop
  fin_cases hop <;> exact fun h => StableHlo.devRef_ne_of_ne (fun e => absurd (e ▸ hb) (by decide)) (Finset.mem_singleton.mp h)
theorem stateA_0 : Leaves [main_v51_0, main_v51_1, main_v51_2, main_v51_3, main_v51_5] (while0_0 (F := Ideal)) := by
  intro b hb op hop
  fin_cases hop <;> exact fun h => StableHlo.devRef_ne_of_ne (fun e => absurd (e ▸ hb) (by decide)) (Finset.mem_singleton.mp h)
theorem stateA_1 : Leaves [main_v51_0, main_v51_1, main_v51_2, main_v51_3, main_v51_5, main_while0b_v102] (while0_1 (F := Ideal)) := by
  intro b hb op hop
  fin_cases hop <;> exact fun h => StableHlo.devRef_ne_of_ne (fun e => absurd (e ▸ hb) (by decide)) (Finset.mem_singleton.mp h)
theorem stateA_2 : Leaves [main_v51_0, main_v51_1, main_v51_2, main_v51_3, main_v51_5] (while0_2 (F := Ideal)) := by
  intro b hb op hop
  fin_cases hop <;> exact fun h => StableHlo.devRef_ne_of_ne (fun e => absurd (e ▸ hb) (by decide)) (Finset.mem_singleton.mp h)
theorem stateA_3 : Leaves [main_v51_0, main_v51_1, main_v51_2, main_v51_3, main_v51_5, main_while0b_v105] (while0_3 (F := Ideal)) := by
  intro b hb op hop
  fin_cases hop <;> exact fun h => StableHlo.devRef_ne_of_ne (fun e => absurd (e ▸ hb) (by decide)) (Finset.mem_singleton.mp h)
theorem stateA_4 : Leaves [main_v51_0, main_v51_1, main_v51_2, main_while0b_v105] (while0_4 (F := Ideal)) := by
  intro b hb op hop
  fin_cases hop <;> exact fun h => StableHlo.devRef_ne_of_ne (fun e => absurd (e ▸ hb) (by decide)) (Finset.mem_singleton.mp h)
theorem lastA (W : Valuation τ sig (Elt Ideal)) : after (while0_5 (F := Ideal)) W main_v51_0 = W main_v51_0 ∧ after (while0_5 (F := Ideal)) W main_v51_1 = W main_v51_1
    ∧ after (while0_5 (F := Ideal)) W main_v51_3 = W main_while0b_v105 ∧ after (while0_5 (F := Ideal)) W main_v51_5 = W main_while0b_v107 := by
  unfold while0_5
  refine ⟨?_, ?_, ?_, ?_⟩ <;> after_reads_simp <;> rfl

/-- Before trip `k`: the decays, the increments, the state before row `k` and the states before the rows above it. -/
structure Walked (W : Valuation τ sig (Elt Ideal)) (I : Inp) (k : ℕ) : Prop where
  a : Has (W main_v51_0) fun j => a I (j 0).val (j 1).val
  inc : Has (W main_v51_1) fun j => inc I (j 0).val (j 1).val
  h : Has (W main_v51_3) fun j => hs I k (j 0).val
  rows : ∀ (t : Fin 4096) (d : Fin 1024), t.val < k → W main_v51_5 (ix2 t d) = ((hs I t.val d.val : ℝ) : EReal)

/-- One trip's operations. -/
abbrev walk (W : Valuation τ sig (Elt Ideal)) : Valuation τ sig (Elt Ideal) :=
  after while0_5 (after while0_4 (after while0_3 (after while0_2 (after while0_1 (after while0_0 (after condA W))))))

/-- A buffer of the state before the trip's third stretch, -/
theorem upA_2 {b : Ref sig .tc} (h : b ∈ [main_v51_0, main_v51_1, main_v51_2, main_v51_3, main_v51_5]) : after (while0_1 (F := Ideal)) (after while0_0 (after condA W)) b = W b := by
  rw [stateA_1.after (by revert h; revert b; decide), stateA_0.after h, stateA_cond.after h]
/-- and before its fifth. -/
theorem upA_4 {b : Ref sig .tc} (h : b ∈ [main_v51_0, main_v51_1, main_v51_2, main_v51_3, main_v51_5]) :
    after (while0_3 (F := Ideal)) (after while0_2 (after while0_1 (after while0_0 (after condA W)))) b = W b := by
  rw [stateA_3.after (by revert h; revert b; decide), stateA_2.after h, upA_2 h]

/-- One trip takes the states one row on. -/
theorem walked_succ (hk : k < 4096) (hc : W main_v51_2 = fun _ => BitVec.ofNat 32 k) (H : Walked W I k) : Walked (walk W) I (k + 1) := by
  have hnext : ∀ d : Fin 1024, after (while0_2 (F := Ideal)) (after while0_1 (after while0_0 (after condA W))) main_while0b_v105 (ix1 d)
      = ((hs I (k + 1) d.val : ℝ) : EReal) := by
    intro d
    rw [next_h d (stateA_1.after (by decide) _) (upA_2 (by decide)) rfl,
      read_a hk ((stateA_cond.after (by decide) _).trans hc) (stateA_cond.after (by decide) _) d,
      read_inc hk (((stateA_0.after (by decide) _).trans (stateA_cond.after (by decide) _)).trans hc)
        ((stateA_0.after (by decide) _).trans (stateA_cond.after (by decide) _)) d,
      H.a, H.inc, H.h, ← EReal.coe_mul, ← EReal.coe_add]
    rfl
  refine ⟨?_, ?_, ?_, ?_⟩
  · rw [walk, (lastA _).1, stateA_4.after (by decide), upA_4 (by decide)]; exact H.a
  · rw [walk, (lastA _).2.1, stateA_4.after (by decide), upA_4 (by decide)]; exact H.inc
  · intro j
    obtain ⟨d, rfl⟩ : ∃ d, j = ix1 d := ⟨j 0, ValueIdx.eq_ix1 j⟩
    rw [walk, (lastA _).2.2.1, stateA_4.after (by decide), stateA_3.after (by decide)]
    exact hnext d
  · intro t d ht
    rw [walk, (lastA _).2.2.2, write_prev hk ((upA_4 (by decide)).trans hc) (upA_4 (by decide)) (upA_4 (by decide)) t d]
    split
    · rename_i e; rw [H.h, e]; rfl
    · rename_i e; exact H.rows t d (by omega)

/-! ## The recurrence backward -/

theorem back_word (hk : k < 4096) (hc : W main_v56_3 = fun _ => BitVec.ofNat 32 k) :
    after (while1_0 (F := Ideal)) W main_while1b_v103 = fun _ => BitVec.ofNat 32 (4095 - k) := by
  unfold while1_0
  after_reads_simp
  rw [hc]
  funext i
  show 4096#32 - BitVec.ofNat 32 k - 1#32 = _
  apply BitVec.eq_of_toNat_eq
  simp only [BitVec.toNat_sub, BitVec.toNat_ofNat]
  omega

theorem readB_dh (hk : k < 4096) (hc : W main_while1b_v103 = fun _ => BitVec.ofNat 32 k) {x : S4096x1024.Idx → EReal} (hx : W main_v56_0 = x) (d : Fin 1024) :
    after (while1_1 (F := Ideal)) W main_while1b_v104 (ix1 d) = x (ix2 ⟨k, hk⟩ d) := by
  unfold while1_1
  after_reads_simp
  rw [hx]
  refine row_read (h := sliceFits_S4096x1024_S1x1024) hk ?_ ?_ d
  · simp only [Matrix.cons_val_zero]
    after_reads_simp
    rw [hc]; exact word_row hk
  · simp only [Matrix.cons_val_one, Matrix.cons_val_fin_one]
    after_reads_simp
    rfl

theorem readB_h (hk : k < 4096) (hc : W main_while1b_v103 = fun _ => BitVec.ofNat 32 k) {x : S4096x1024.Idx → EReal} (hx : W main_v56_1 = x) (d : Fin 1024) :
    after (while1_2 (F := Ideal)) W main_while1b_v105 (ix1 d) = x (ix2 ⟨k, hk⟩ d) := by
  unfold while1_2
  after_reads_simp
  rw [hx]
  refine row_read (h := sliceFits_S4096x1024_S1x1024) hk ?_ ?_ d
  · simp only [Matrix.cons_val_zero]
    after_reads_simp
    rw [hc]; exact word_row hk
  · simp only [Matrix.cons_val_one, Matrix.cons_val_fin_one]
    after_reads_simp
    rfl

theorem readB_a (hk : k < 4096) (hc : W main_while1b_v103 = fun _ => BitVec.ofNat 32 k) {x : S4096x1024.Idx → EReal} (hx : W main_v56_2 = x) (d : Fin 1024) :
    after (while1_3 (F := Ideal)) W main_while1b_v106 (ix1 d) = x (ix2 ⟨k, hk⟩ d) := by
  unfold while1_3
  after_reads_simp
  rw [hx]
  refine row_read (h := sliceFits_S4096x1024_S1x1024) hk ?_ ?_ d
  · simp only [Matrix.cons_val_zero]
    after_reads_simp
    rw [hc]; exact word_row hk
  · simp only [Matrix.cons_val_one, Matrix.cons_val_fin_one]
    after_reads_simp
    rfl

theorem next_lam {x y z w : S1024.Idx → EReal} (hx : W main_v56_4 = x) (hy : W main_while1b_v104 = y) (hz : W main_while1b_v106 = z) (hw : W main_while1b_v105 = w) :
    (∀ d : Fin 1024, after (while1_4 (F := Ideal)) W main_while1b_v107 (ix1 d) = x (ix1 d) + y (ix1 d))
    ∧ (∀ d : Fin 1024, after (while1_4 (F := Ideal)) W main_while1b_v108 (ix1 d) = z (ix1 d) * (x (ix1 d) + y (ix1 d)))
    ∧ (∀ d : Fin 1024, after (while1_4 (F := Ideal)) W main_while1b_v109 (ix1 d) = (x (ix1 d) + y (ix1 d)) * w (ix1 d)) := by
  unfold while1_4
  refine ⟨?_, ?_, ?_⟩ <;> intro d <;> after_reads_simp <;> simp only [hx, hy, hz, hw] <;> rfl

theorem write_da (hk : k < 4096) (hc : W main_while1b_v103 = fun _ => BitVec.ofNat 32 k) {x : S4096x1024.Idx → EReal} (hx : W main_v56_5 = x)
    {u : S1024.Idx → EReal} (hu : W main_while1b_v109 = u) (t : Fin 4096) (d : Fin 1024) :
    after (while1_5 (F := Ideal)) W main_while1b_v110 (ix2 t d) = if t.val = k then u (ix1 d) else x (ix2 t d) := by
  unfold while1_5
  after_reads_simp
  rw [hx, hu]
  refine row_write (h := updateFits_S4096x1024_S1x1024) (hb := bcast_S1024_S1x1024_1) hk ?_ ?_ t d
  · simp only [Matrix.cons_val_zero]
    after_reads_simp
    rw [hc]; exact word_row hk
  · simp only [Matrix.cons_val_one, Matrix.cons_val_fin_one]
    after_reads_simp
    rfl

theorem write_db (hk : k < 4096) (hc : W main_while1b_v103 = fun _ => BitVec.ofNat 32 k) {x : S4096x1024.Idx → EReal} (hx : W main_v56_6 = x)
    {u : S1024.Idx → EReal} (hu : W main_while1b_v107 = u) (t : Fin 4096) (d : Fin 1024) :
    after (while1_6 (F := Ideal)) W main_while1b_v111 (ix2 t d) = if t.val = k then u (ix1 d) else x (ix2 t d) := by
  unfold while1_6
  after_reads_simp
  rw [hx, hu]
  refine row_write (h := updateFits_S4096x1024_S1x1024) (hb := bcast_S1024_S1x1024_1) hk ?_ ?_ t d
  · simp only [Matrix.cons_val_zero]
    after_reads_simp
    rw [hc]; exact word_row hk
  · simp only [Matrix.cons_val_one, Matrix.cons_val_fin_one]
    after_reads_simp
    rfl

theorem stateB_cond : Leaves [main_v56_0, main_v56_1, main_v56_2, main_v56_3, main_v56_4, main_v56_5, main_v56_6] (condB (F := Ideal)) := by
  intro b hb op hop
  fin_cases hop <;> exact fun h => StableHlo.devRef_ne_of_ne (fun e => absurd (e ▸ hb) (by decide)) (Finset.mem_singleton.mp h)
theorem stateB_0 : Leaves [main_v56_0, main_v56_1, main_v56_2, main_v56_3, main_v56_4, main_v56_5, main_v56_6] (while1_0 (F := Ideal)) := by
  intro b hb op hop
  fin_cases hop <;> exact fun h => StableHlo.devRef_ne_of_ne (fun e => absurd (e ▸ hb) (by decide)) (Finset.mem_singleton.mp h)
theorem stateB_1 : Leaves [main_v56_0, main_v56_1, main_v56_2, main_v56_3, main_v56_4, main_v56_5, main_v56_6, main_while1b_v103] (while1_1 (F := Ideal)) := by
  intro b hb op hop
  fin_cases hop <;> exact fun h => StableHlo.devRef_ne_of_ne (fun e => absurd (e ▸ hb) (by decide)) (Finset.mem_singleton.mp h)
theorem stateB_2 : Leaves [main_v56_0, main_v56_1, main_v56_2, main_v56_3, main_v56_4, main_v56_5, main_v56_6, main_while1b_v103, main_while1b_v104] (while1_2 (F := Ideal)) := by
  intro b hb op hop
  fin_cases hop <;> exact fun h => StableHlo.devRef_ne_of_ne (fun e => absurd (e ▸ hb) (by decide)) (Finset.mem_singleton.mp h)
theorem stateB_3 : Leaves [main_v56_0, main_v56_1, main_v56_2, main_v56_3, main_v56_4, main_v56_5, main_v56_6, main_while1b_v103, main_while1b_v104, main_while1b_v105] (while1_3 (F := Ideal)) := by
  intro b hb op hop
  fin_cases hop <;> exact fun h => StableHlo.devRef_ne_of_ne (fun e => absurd (e ▸ hb) (by decide)) (Finset.mem_singleton.mp h)
theorem stateB_4 : Leaves [main_v56_0, main_v56_1, main_v56_2, main_v56_3, main_v56_4, main_v56_5, main_v56_6, main_while1b_v103] (while1_4 (F := Ideal)) := by
  intro b hb op hop
  fin_cases hop <;> exact fun h => StableHlo.devRef_ne_of_ne (fun e => absurd (e ▸ hb) (by decide)) (Finset.mem_singleton.mp h)
theorem stateB_5 : Leaves [main_v56_0, main_v56_1, main_v56_2, main_v56_3, main_v56_4, main_v56_5, main_v56_6, main_while1b_v103, main_while1b_v107, main_while1b_v108] (while1_5 (F := Ideal)) := by
  intro b hb op hop
  fin_cases hop <;> exact fun h => StableHlo.devRef_ne_of_ne (fun e => absurd (e ▸ hb) (by decide)) (Finset.mem_singleton.mp h)
theorem stateB_6 : Leaves [main_v56_0, main_v56_1, main_v56_2, main_v56_3, main_v56_4, main_v56_5, main_v56_6, main_while1b_v108, main_while1b_v110] (while1_6 (F := Ideal)) := by
  intro b hb op hop
  fin_cases hop <;> exact fun h => StableHlo.devRef_ne_of_ne (fun e => absurd (e ▸ hb) (by decide)) (Finset.mem_singleton.mp h)
theorem lastB (W : Valuation τ sig (Elt Ideal)) : after (while1_7 (F := Ideal)) W main_v56_0 = W main_v56_0 ∧ after (while1_7 (F := Ideal)) W main_v56_1 = W main_v56_1
    ∧ after (while1_7 (F := Ideal)) W main_v56_2 = W main_v56_2 ∧ after (while1_7 (F := Ideal)) W main_v56_4 = W main_while1b_v108
    ∧ after (while1_7 (F := Ideal)) W main_v56_5 = W main_while1b_v110 ∧ after (while1_7 (F := Ideal)) W main_v56_6 = W main_while1b_v111 := by
  unfold while1_7
  refine ⟨?_, ?_, ?_, ?_, ?_, ?_⟩ <;> after_reads_simp <;> rfl

/-- Before backward trip `k`: the cotangents, the states before each row, the decays, what the last row done hands back,
    and both stacks' rows done. -/
structure Backed (W : Valuation τ sig (Elt Ideal)) (I : Inp) (k : ℕ) : Prop where
  dh : Has (W main_v56_0) fun j => I.dh (j 0).val (j 1).val
  h : Has (W main_v56_1) fun j => hs I (j 0).val (j 1).val
  a : Has (W main_v56_2) fun j => a I (j 0).val (j 1).val
  carry : Has (W main_v56_4) fun j => aE I (4096 - k) (j 0).val * lamR I k (j 0).val
  da : ∀ (t : Fin 4096) (d : Fin 1024), 4096 ≤ t.val + k → W main_v56_5 (ix2 t d) = ((lam I t.val d.val * hs I t.val d.val : ℝ) : EReal)
  db : ∀ (t : Fin 4096) (d : Fin 1024), 4096 ≤ t.val + k → W main_v56_6 (ix2 t d) = ((lam I t.val d.val : ℝ) : EReal)

/-- One backward trip's operations. -/
abbrev back (W : Valuation τ sig (Elt Ideal)) : Valuation τ sig (Elt Ideal) :=
  after while1_7 (after while1_6 (after while1_5 (after while1_4 (after while1_3 (after while1_2 (after while1_1 (after while1_0 (after condB W))))))))

section

variable (W : Valuation τ sig (Elt Ideal))

/-- The trip's contents after its index, -/
abbrev B0 : Valuation τ sig (Elt Ideal) := after while1_0 (after condB W)
/-- after its three reads, -/
abbrev B3 : Valuation τ sig (Elt Ideal) := after while1_3 (after while1_2 (after while1_1 (B0 W)))
/-- after its arithmetic. -/
abbrev B4 : Valuation τ sig (Elt Ideal) := after while1_4 (B3 W)

theorem upB_0 {b : Ref sig .tc} (h : b ∈ [main_v56_0, main_v56_1, main_v56_2, main_v56_3, main_v56_4, main_v56_5, main_v56_6]) : B0 W b = W b := by
  rw [B0, stateB_0.after h, stateB_cond.after h]
theorem upB_1 {b : Ref sig .tc} (h : b ∈ [main_v56_0, main_v56_1, main_v56_2, main_v56_3, main_v56_4, main_v56_5, main_v56_6]) : after (while1_1 (F := Ideal)) (B0 W) b = W b := by
  rw [stateB_1.after (by revert h; revert b; decide), upB_0 W h]
theorem upB_2 {b : Ref sig .tc} (h : b ∈ [main_v56_0, main_v56_1, main_v56_2, main_v56_3, main_v56_4, main_v56_5, main_v56_6]) : after (while1_2 (F := Ideal)) (after while1_1 (B0 W)) b = W b := by
  rw [stateB_2.after (by revert h; revert b; decide), upB_1 W h]
theorem upB_3 {b : Ref sig .tc} (h : b ∈ [main_v56_0, main_v56_1, main_v56_2, main_v56_3, main_v56_4, main_v56_5, main_v56_6]) : B3 W b = W b := by
  rw [B3, stateB_3.after (by revert h; revert b; decide), upB_2 W h]
theorem upB_4 {b : Ref sig .tc} (h : b ∈ [main_v56_0, main_v56_1, main_v56_2, main_v56_3, main_v56_4, main_v56_5, main_v56_6]) : B4 W b = W b := by
  rw [B4, stateB_4.after (by revert h; revert b; decide), upB_3 W h]
theorem upB_6 {b : Ref sig .tc} (h : b ∈ [main_v56_0, main_v56_1, main_v56_2, main_v56_3, main_v56_4, main_v56_5, main_v56_6]) : after (while1_6 (F := Ideal)) (after while1_5 (B4 W)) b = W b := by
  rw [stateB_6.after (by revert h; revert b; decide), stateB_5.after (by revert h; revert b; decide), upB_4 W h]

end

/-- One backward trip takes the gradients one row up. -/
theorem backed_succ (hk : k < 4096) (hc : W main_v56_3 = fun _ => BitVec.ofNat 32 k) (H : Backed W I k) : Backed (back W) I (k + 1) := by
  have hr : 4095 - k < 4096 := by omega
  have w0 : B0 W main_while1b_v103 = fun _ => BitVec.ofNat 32 (4095 - k) := back_word hk ((stateB_cond.after (by decide) _).trans hc)
  have w1 : after (while1_1 (F := Ideal)) (B0 W) main_while1b_v103 = fun _ => BitVec.ofNat 32 (4095 - k) := (stateB_1.after (by decide) _).trans w0
  have w2 : after (while1_2 (F := Ideal)) (after while1_1 (B0 W)) main_while1b_v103 = fun _ => BitVec.ofNat 32 (4095 - k) := (stateB_2.after (by decide) _).trans w1
  have w4 : B4 W main_while1b_v103 = fun _ => BitVec.ofNat 32 (4095 - k) := (stateB_4.after (by decide) _).trans ((stateB_3.after (by decide) _).trans w2)
  have w5 : after (while1_5 (F := Ideal)) (B4 W) main_while1b_v103 = fun _ => BitVec.ofNat 32 (4095 - k) := (stateB_5.after (by decide) _).trans w4
  have rdh (d : Fin 1024) : B3 W main_while1b_v104 (ix1 d) = ((I.dh (4095 - k) d.val : ℝ) : EReal) := by
    rw [show B3 W main_while1b_v104 = _ from (stateB_3.after (by decide) _).trans (stateB_2.after (by decide) _), readB_dh hr w0 (upB_0 W (by decide)) d]
    exact H.dh _
  have rh (d : Fin 1024) : B3 W main_while1b_v105 (ix1 d) = ((hs I (4095 - k) d.val : ℝ) : EReal) := by
    rw [show B3 W main_while1b_v105 = _ from stateB_3.after (by decide) _, readB_h hr w1 (upB_1 W (by decide)) d]
    exact H.h _
  have ra (d : Fin 1024) : B3 W main_while1b_v106 (ix1 d) = ((a I (4095 - k) d.val : ℝ) : EReal) := by
    exact (readB_a hr w2 (upB_2 W (by decide)) d).trans (H.a _)
  have lamk (d : ℕ) : aE I (4096 - k) d * lamR I k d + I.dh (4095 - k) d = lamR I (k + 1) d := by rw [lamR, add_comm]
  have lamt (d : ℕ) : lamR I (k + 1) d = lam I (4095 - k) d := by rw [lam, show 4096 - (4095 - k) = k + 1 by omega]
  obtain ⟨n7, n8, n9⟩ := next_lam (W := B3 W) (upB_3 W (by decide)) rfl rfl rfl
  have l7 (d : Fin 1024) : B4 W main_while1b_v107 (ix1 d) = ((lamR I (k + 1) d.val : ℝ) : EReal) := by
    refine (n7 d).trans ?_
    rw [H.carry, rdh, ← EReal.coe_add]; exact congrArg _ (lamk _)
  have l8 (d : Fin 1024) : B4 W main_while1b_v108 (ix1 d) = ((a I (4095 - k) d.val * lamR I (k + 1) d.val : ℝ) : EReal) := by
    refine (n8 d).trans ?_
    rw [H.carry, rdh, ra, ← EReal.coe_add, ← EReal.coe_mul]; exact congrArg (fun z : ℝ => ((a I (4095 - k) d.val * z : ℝ) : EReal)) (lamk _)
  have l9 (d : Fin 1024) : B4 W main_while1b_v109 (ix1 d) = ((lamR I (k + 1) d.val * hs I (4095 - k) d.val : ℝ) : EReal) := by
    refine (n9 d).trans ?_
    rw [H.carry, rdh, rh, ← EReal.coe_add, ← EReal.coe_mul]; exact congrArg (fun z : ℝ => ((z * hs I (4095 - k) d.val : ℝ) : EReal)) (lamk _)
  refine ⟨?_, ?_, ?_, ?_, ?_, ?_⟩
  · rw [back, (lastB _).1, upB_6 W (by decide)]; exact H.dh
  · rw [back, (lastB _).2.1, upB_6 W (by decide)]; exact H.h
  · rw [back, (lastB _).2.2.1, upB_6 W (by decide)]; exact H.a
  · intro j
    obtain ⟨d, rfl⟩ : ∃ d, j = ix1 d := ⟨j 0, ValueIdx.eq_ix1 j⟩
    rw [back, (lastB _).2.2.2.1, stateB_6.after (by decide), stateB_5.after (by decide)]
    refine (l8 d).trans (congrArg (fun z : ℝ => (z : EReal)) ?_)
    show a I (4095 - k) d.val * lamR I (k + 1) d.val = aE I (4096 - (k + 1)) d.val * lamR I (k + 1) d.val
    rw [show 4096 - (k + 1) = 4095 - k by omega, aE, if_pos hr]
  · intro t d ht
    rw [back, (lastB _).2.2.2.2.1, stateB_6.after (by decide), write_da hr w4 (upB_4 W (by decide)) rfl t d]
    split
    · rename_i e; rw [l9 d, lamt, e]
    · rename_i e; exact H.da t d (by omega)
  · intro t d ht
    rw [back, (lastB _).2.2.2.2.2, write_db hr w5 ((stateB_5.after (by decide) _).trans (upB_4 W (by decide))) (stateB_5.after (by decide) _) t d]
    split
    · rename_i e; rw [l7 d, lamt, e]
    · rename_i e; exact H.db t d (by omega)

end Cert.ReferenceIdeal.Val

end
-- ==== Proof.Val.RefPost.lean ====
/- The plain gradient's last stretches: from what the two recurrences leave, the gates' gradient, the input's gradient and
   the column sums. -/
module

public import proofs.«01_k».proof.Proof.Val.RefKeep

@[expose] public section

set_option maxRecDepth 16384

noncomputable section

namespace Cert.ReferenceIdeal.Val

open Cert.ReferenceIdeal Cert.ReferenceIdeal.Gen Cert.ReferenceIdeal.Ref Cert.Val Cert.Spec
open Idealize.ShloMosaic hiding ix0 ix1 ix2 ix3 ix4
open Idealize.ShloMosaic.TcCoe Idealize.ShloMosaic.ValueIdx
open Idealize.ShloMosaic.StableHlo (after)

/-- What both recurrences leave, beside what was computed before them. -/
structure Left (X : Valuation τ sig (Elt Ideal)) (I : Inp) : Prop where
  kept : Kept X I
  w : Has (X main_arg2) fun j => I.w (j 0).val (j 1).val (j 2).val (j 3).val
  da : Has (X main_v56_5) fun j => lam I (j 0).val (j 1).val * hs I (j 0).val (j 1).val
  db : Has (X main_v56_6) fun j => lam I (j 0).val (j 1).val

/-! ## Sums -/

/-- A finite sum of real numbers. -/
theorem has_sum {n : ℕ} {f : Fin n → EReal} {g : ℕ → ℝ} (h : ∀ t, f t = ((g t.val : ℝ) : EReal)) :
    ∑ t, f t = ((∑ t ∈ Finset.range n, g t : ℝ) : EReal) := by
  rw [Finset.sum_congr rfl fun t _ => h t, coe_sum, Finset.sum_range]

/-- The column sums of an array. -/
theorem has_cols {x : FVec Ideal S4096x1024 .f32} {f : ℕ → ℕ → ℝ} (h : Has x fun j => f (j 0).val (j 1).val) :
    Has (Host.reduceAdd (F := Ideal) (φ := .f32) x (constant (F := Ideal) S_ .f32 0x00000000#32) reducesTo_S4096x1024_S1024_d0 h_S_)
      fun j => ∑ t ∈ Finset.range 4096, f t (j 0).val := by
  intro j
  obtain ⟨d, rfl⟩ : ∃ d, j = ix1 d := ⟨j 0, ValueIdx.eq_ix1 j⟩
  pointwise
  exact has_sum (g := fun t => f t d.val) fun t => h (ix2 t d)

/-- The sum of one row alone is the row. -/
theorem has_one {x : FVec Ideal S1024 .f32} {f : ℕ → ℝ} (h : Has x fun j => f (j 0).val) :
    Has (Host.reduceAdd (F := Ideal) (φ := .f32) (shapeCast S1x1024 x shapeCasts_S1024_S1x1024) (constant (F := Ideal) S_ .f32 0x00000000#32) reducesTo_S1x1024_S1024_d0 h_S_)
      fun j => f (j 0).val := by
  intro j
  obtain ⟨d, rfl⟩ : ∃ d, j = ix1 d := ⟨j 0, ValueIdx.eq_ix1 j⟩
  pointwise
  refine (has_sum (n := 1) (g := fun _ => f d.val) fun _ => h (ix1 d)).trans ?_
  simp

/-- The gates' column sums. -/
theorem has_gate_cols {x : FVec Ideal S2x4096x1024 .f32} {f : ℕ → ℕ → ℕ → ℝ} (h : Has x fun j => f (j 0).val (j 1).val (j 2).val) :
    Has (Host.reduceAdd (F := Ideal) (φ := .f32) (shapeCast S2x1x1024 (Host.reduceAdd (F := Ideal) (φ := .f32) x (constant (F := Ideal) S_ .f32 0x00000000#32) reducesTo_S2x4096x1024_S2x1024_d1 h_S_) shapeCasts_S2x1024_S2x1x1024)
        (constant (F := Ideal) S_ .f32 0x00000000#32) reducesTo_S2x1x1024_S2x1024_d1 h_S_)
      fun j => ∑ t ∈ Finset.range 4096, f (j 0).val t (j 1).val := by
  intro j
  obtain ⟨g, d, rfl⟩ : ∃ g d, j = ix2 g d := ⟨j 0, j 1, ValueIdx.eq_ix2 j⟩
  pointwise
  refine (has_sum (n := 1) (g := fun _ => ∑ t ∈ Finset.range 4096, f g.val t d.val) fun s => ?_).trans ?_
  · exact has_sum (g := fun t => f g.val t d.val) fun t => h (ix3 g t d)
  · simp

/-! ## The gates carried back -/

/-- The gates' gradient laid out as one array: the input gate's above the recurrence gate's. -/
theorem has_stack {x y : FVec Ideal S4096x1024 .f32} {f g : ℕ → ℕ → ℝ} (hx : Has x fun j => f (j 0).val (j 1).val) (hy : Has y fun j => g (j 0).val (j 1).val) :
    Has (addf (F := Ideal) (φ := .f32)
        (pad S2x4096x1024 ![1, 0, 0] ![0, 0, 0] ![0, 0, 0] (broadcastInDim S1x4096x1024 ![1, 2] bcast_S4096x1024_S1x4096x1024_1_2 y) (constant (F := Ideal) S_ .f32 0x00000000#32) pads_S1x4096x1024_S2x4096x1024_100_000_000 h_S_)
        (pad S2x4096x1024 ![0, 0, 0] ![1, 0, 0] ![0, 0, 0] (broadcastInDim S1x4096x1024 ![1, 2] bcast_S4096x1024_S1x4096x1024_1_2 x) (constant (F := Ideal) S_ .f32 0x00000000#32) pads_S1x4096x1024_S2x4096x1024_010_000_000 h_S_))
      fun j => if (j 0).val = 0 then f (j 1).val (j 2).val else g (j 1).val (j 2).val := by
  intro j
  obtain ⟨r, t, d, rfl⟩ : ∃ r t d, j = ix3 r t d := ⟨j 0, j 1, j 2, ValueIdx.eq_ix3 j⟩
  pointwise
  have ex := hx (ix2 t d)
  have ey := hy (ix2 t d)
  match r with
  | 0 =>
    refine ((congrArg₂ (· + ·) (dif_neg fun h => ?_) (dif_pos ?_)).trans (zero_add _)).trans ex
    · exact absurd (show 1 ≤ 0 from h.1) (by decide)
    · show 0 < 1
      decide
  | 1 =>
    have e : 1 ≤ 1 ∧ 1 - 1 < 1 := by decide
    exact ((congrArg₂ (· + ·) (dif_pos e) (dif_neg fun h => absurd (show 1 < 1 from h) (by decide))).trans (add_zero _)).trans ey

/-- The stack's gradient carried back through the gates' weights. -/
theorem has_back {x : FVec Ideal S2x4096x1024 .f32} {w : FVec Ideal S2x4x256x256 .f32} {I : Inp} (hx : Has x fun j => dg I (j 0).val (j 1).val (j 2).val)
    (hw : Has w fun j => I.w (j 0).val (j 1).val (j 2).val (j 3).val) :
    Has (shapeCast S4096x1024 (transpose S4096x4x256 [1, 0, 2] (Host.dotGeneral (F := Ideal) (φ₁ := .f32) (φ₂ := .f32) dot_S4x2x256x4096_S2x4x256x256_S4x4096x256_12_03_3_2_0_1 none (transpose S4x2x256x4096 [2, 0, 3, 1] (shapeCast S2x4096x4x256 x shapeCasts_S2x4096x1024_S2x4096x4x256) transposes_S2x4096x4x256_S4x2x256x4096_2_0_3_1) w) transposes_S4x4096x256_S4096x4x256_1_0_2) shapeCasts_S4096x4x256_S4096x1024)
      fun j => back I 0 (j 0).val (j 1).val + back I 1 (j 0).val (j 1).val := by
  intro j
  obtain ⟨t, d, rfl⟩ : ∃ t d, j = ix2 t d := ⟨j 0, j 1, ValueIdx.eq_ix2 j⟩
  pointwise
  rw [Fin.sum_univ_two, EReal.coe_add]
  have ed : d.val / 256 * 256 = 256 * (d.val / 256) := mul_comm _ _
  have each (g : ℕ) (k : ℕ) : ((dg I g t.val (d.val / 256 * 256 + k) : ℝ) : EReal) * ((I.w g (d.val / 256) (d.val % 256) k : ℝ) : EReal)
      = ((dg I g t.val (256 * (d.val / 256) + k) * I.w g (d.val / 256) (d.val % 256) k : ℝ) : EReal) := by
    rw [ed, EReal.coe_mul]
  have half (g : ℕ) {f : Fin 256 → EReal} (hf : ∀ k, f k = ((dg I g t.val (d.val / 256 * 256 + k.val) : ℝ) : EReal) * ((I.w g (d.val / 256) (d.val % 256) k.val : ℝ) : EReal)) :
      ∑ k, f k = ((back I g t.val d.val : ℝ) : EReal) := by
    unfold back
    rw [← coe_sum]
    exact Finset.sum_congr rfl fun k _ => (hf k).trans (each g k.val)
  exact congrArg₂ (· + ·) (half 0 fun k => congrArg₂ (· * ·) (hx _) (hw _)) (half 1 fun k => congrArg₂ (· * ·) (hx _) (hw _))

/-! ## The stretches -/

variable {X : Valuation τ sig (Elt Ideal)} {I : Inp}

/-- The gradient of the decay's logarithm as the program writes it. -/
theorem dla_eq (t d : ℕ) :
    2 * (-((if t = 0 then 0 else xc I t d * gate I 0 t d * lam I t d) * (1 / 2 / root I t d)) * Real.exp (2 * la I t d))
      + lam I t d * hs I t d * a I t d = dla I t d := by
  have e : Real.exp (2 * la I t d) = a I t d * a I t d := by rw [two_mul, Real.exp_add]; rfl
  have hr := (root_pos I t d).ne'
  rw [e, dla]
  by_cases h : t = 0
  · simp only [h, if_true, zero_mul, neg_zero, mul_zero, zero_add, zero_div, sub_zero]
  · simp only [h, if_false, mul, if_neg h]
    field_simp
    ring

/-- Until the decay's gradient. -/
abbrev P3 (X : Valuation τ sig (Elt Ideal)) : Valuation τ sig (Elt Ideal) := after main1_6 (after main1_5 (after main1_4 X))

theorem p68 (L : Left X I) : Has (P3 X main_v68) fun j => dla I (j 0).val (j 1).val := by
  have e : P3 X main_v68 = addf (F := Ideal) (φ := .f32)
      (mulf (F := Ideal) (φ := .f32) (broadcastInDim S4096x1024 ![] bcast_S_S4096x1024 (constant (F := Ideal) S_ .f32 0x40000000#32))
        (mulf (F := Ideal) (φ := .f32) (Host.negf (F := Ideal) (φ := .f32) (mulf (F := Ideal) (φ := .f32)
          (select (X main_v45_1) (broadcastInDim S4096x1024 ![] bcast_S_S4096x1024 (constant (F := Ideal) S_ .f32 0x00000000#32)) (mulf (F := Ideal) (φ := .f32) (X main_v46) (X main_v56_6)))
          (X main_v40))) (X main_v36)))
      (mulf (F := Ideal) (φ := .f32) (X main_v56_5) (X main_v32)) := by
    unfold P3 main1_6 main1_5 main1_4
    after_reads_simp
    rfl
  rw [e]
  refine Has.congr (((Has.const lit2).mul (((Has.sel (p := fun j : S4096x1024.Idx => (j 0).val = 0) L.kept.k (zeros _) (L.kept.p.mul L.db)).mul L.kept.h).neg.mul L.kept.e)).add (L.da.mul L.kept.a)) fun j => ?_
  exact dla_eq _ _

theorem p3_reads : P3 X main_v59 = mulf (F := Ideal) (φ := .f32) (X main_v3) (mulf (F := Ideal) (φ := .f32) (X main_v56_6) (X main_v45_0))
    ∧ P3 X main_v60 = mulf (F := Ideal) (φ := .f32) (mulf (F := Ideal) (φ := .f32) (X main_v56_6) (X main_v45_0)) (X main_v22)
    ∧ P3 X main_v28_1 = X main_v28_1 ∧ P3 X main_v20 = X main_v20 ∧ P3 X main_arg2 = X main_arg2 := by
  unfold P3 main1_6 main1_5 main1_4
  refine ⟨?_, ?_, ?_, ?_, ?_⟩ <;> after_reads_simp

theorem p3_own (Y : Valuation τ sig (Elt Ideal)) :
    after (main1_6 (F := Ideal)) Y main_v73 = mulf (F := Ideal) (φ := .f32) (after (main1_6 (F := Ideal)) Y main_v68) (broadcastInDim S4096x1024 ![0, 1] bcast_S1x1024_S4096x1024_0_1 (Y main_v29))
    ∧ after (main1_6 (F := Ideal)) Y main_v74 = Host.reduceAdd (F := Ideal) (φ := .f32) (shapeCast S1x1024
        (Host.reduceAdd (F := Ideal) (φ := .f32) (mulf (F := Ideal) (φ := .f32) (Y main_v26) (after (main1_6 (F := Ideal)) Y main_v68)) (constant (F := Ideal) S_ .f32 0x00000000#32) reducesTo_S4096x1024_S1024_d0 h_S_)
        shapeCasts_S1024_S1x1024) (constant (F := Ideal) S_ .f32 0x00000000#32) reducesTo_S1x1024_S1024_d0 h_S_ := by
  unfold main1_6
  refine ⟨?_, ?_⟩ <;> after_reads_simp <;> rfl

theorem p_early (X : Valuation τ sig (Elt Ideal)) : after (main1_5 (F := Ideal)) (after main1_4 X) main_v29 = X main_v29 ∧ after (main1_5 (F := Ideal)) (after main1_4 X) main_v26 = X main_v26 := by
  unfold main1_5 main1_4
  refine ⟨?_, ?_⟩ <;> after_reads_simp

theorem p73 (L : Left X I) : Has (P3 X main_v73) fun j => dla I (j 0).val (j 1).val * sp I (j 1).val := by
  rw [P3, (p3_own _).1, (p_early _).1]
  refine (p68 L).mul fun j => ?_
  obtain ⟨t, d, rfl⟩ : ∃ t d, j = ix2 t d := ⟨j 0, j 1, ValueIdx.eq_ix2 j⟩
  pointwise
  exact L.kept.sp _

theorem p74 (L : Left X I) : Has (P3 X main_v74) fun j => ∑ t ∈ Finset.range 4096, -8 * gate I 1 t (j 0).val * dla I t (j 0).val := by
  rw [P3, (p3_own _).2, (p_early _).2]
  exact has_one (f := fun d => ∑ t ∈ Finset.range 4096, -8 * gate I 1 t d * dla I t d)
    (has_cols (f := fun t d => -8 * gate I 1 t d * dla I t d) (L.kept.r.mul (p68 L)))

theorem p57 (L : Left X I) : Has (P3 X main_v59) (fun j => xc I (j 0).val (j 1).val * (lam I (j 0).val (j 1).val * mul I (j 0).val (j 1).val))
    ∧ Has (P3 X main_v60) (fun j => lam I (j 0).val (j 1).val * mul I (j 0).val (j 1).val * gate I 0 (j 0).val (j 1).val) := by
  rw [p3_reads.1, p3_reads.2.1]
  exact ⟨L.kept.x.mul (L.db.mul L.kept.m), (L.db.mul L.kept.m).mul L.kept.g⟩

/-- Until the arrays are laid out. -/
abbrev P5 (X : Valuation τ sig (Elt Ideal)) : Valuation τ sig (Elt Ideal) := after main1_8 (after main1_7 (P3 X))

theorem p5_keeps (Y : Valuation τ sig (Elt Ideal)) : after (main1_8 (F := Ideal)) (after main1_7 Y) main_v60 = Y main_v60
    ∧ after (main1_8 (F := Ideal)) (after main1_7 Y) main_v20 = Y main_v20
    ∧ after (main1_8 (F := Ideal)) (after main1_7 Y) main_arg2 = Y main_arg2 := by
  unfold main1_8 main1_7
  refine ⟨?_, ?_, ?_⟩ <;> after_reads_simp

theorem p5_reads (Y : Valuation τ sig (Elt Ideal)) :
    after (main1_8 (F := Ideal)) (after main1_7 Y) main_v76 = Host.negf (F := Ideal) (φ := .f32) (mulf (F := Ideal) (φ := .f32) (Y main_v74) (Y main_v28_1))
    ∧ after (main1_8 (F := Ideal)) (after main1_7 Y) main_v80 = pad S2x4096x1024 ![1, 0, 0] ![0, 0, 0] ![0, 0, 0] (broadcastInDim S1x4096x1024 ![1, 2] bcast_S4096x1024_S1x4096x1024_1_2
        (mulf (F := Ideal) (φ := .f32) (broadcastInDim S4096x1024 ![] bcast_S_S4096x1024 (constant (F := Ideal) S_ .f32 0xC1000000#32)) (Y main_v73))) (constant (F := Ideal) S_ .f32 0x00000000#32) pads_S1x4096x1024_S2x4096x1024_100_000_000 h_S_
    ∧ after (main1_8 (F := Ideal)) (after main1_7 Y) main_v82 = pad S2x4096x1024 ![0, 0, 0] ![1, 0, 0] ![0, 0, 0] (broadcastInDim S1x4096x1024 ![1, 2] bcast_S4096x1024_S1x4096x1024_1_2
        (Y main_v59)) (constant (F := Ideal) S_ .f32 0x00000000#32) pads_S1x4096x1024_S2x4096x1024_010_000_000 h_S_ := by
  unfold main1_8 main1_7
  refine ⟨?_, ?_, ?_⟩ <;> after_reads_simp <;> rfl

theorem p76 (L : Left X I) : Has (P5 X main_v76) fun j => -((∑ t ∈ Finset.range 4096, -8 * gate I 1 t (j 0).val * dla I t (j 0).val) * (1 + Real.exp (I.ap (j 0).val))⁻¹) := by
  rw [P5, (p5_reads _).1, p3_reads.2.2.1]
  exact ((p74 L).mul L.kept.sg).neg

/-- The gates' gradient, -/
theorem m84 (L : Left X I) : Has (after (main2_0 (F := Ideal)) (P5 X) main_v84) fun j => dg I (j 0).val (j 1).val (j 2).val := by
  have e (Y : Valuation τ sig (Elt Ideal)) : after (main2_0 (F := Ideal)) Y main_v84 = mulf (F := Ideal) (φ := .f32) (addf (F := Ideal) (φ := .f32) (Y main_v80) (Y main_v82)) (Y main_v20) := by
    unfold main2_0
    after_reads_simp
  rw [e, P5, (p5_reads _).2.1, (p5_reads _).2.2, (p5_keeps _).2.1, p3_reads.2.2.2.1]
  refine Has.congr ((has_stack (f := fun t d => xc I t d * (lam I t d * mul I t d)) (g := fun t d => -8 * (dla I t d * sp I d))
    (p57 L).1 ((Has.const litNeg8).mul (p73 L))).mul L.kept.s) fun j => ?_
  obtain ⟨r, t, d, rfl⟩ : ∃ r t d, j = ix3 r t d := ⟨j 0, j 1, j 2, ValueIdx.eq_ix3 j⟩
  match r with
  | 0 =>
    show (xc I t.val d.val * (lam I t.val d.val * mul I t.val d.val)) * (gate I 0 t.val d.val * (1 - gate I 0 t.val d.val)) = dg0 I t.val d.val
    unfold dg0
    ring
  | 1 =>
    show (-8 * (dla I t.val d.val * sp I d.val)) * (gate I 1 t.val d.val * (1 - gate I 1 t.val d.val)) = dg1 I t.val d.val
    unfold dg1
    ring

/-- as it is returned, -/
theorem m97 (L : Left X I) : Has (after (main2_0 (F := Ideal)) (P5 X) main_v97) fun j => dg I (j 0).val (j 1).val (j 2).val := by
  have e (Y : Valuation τ sig (Elt Ideal)) : after (main2_0 (F := Ideal)) Y main_v97 = after (main2_0 (F := Ideal)) Y main_v84 := by
    unfold main2_0
    after_reads_simp
    rfl
  rw [e]
  exact m84 L

/-- the recurrence's input's gradient, -/
theorem m93 (L : Left X I) : Has (after (main2_0 (F := Ideal)) (P5 X) main_v93) fun j => dxc I (j 0).val (j 1).val := by
  have e (Y : Valuation τ sig (Elt Ideal)) : after (main2_0 (F := Ideal)) Y main_v93 = addf (F := Ideal) (φ := .f32) (Y main_v60)
      (shapeCast S4096x1024 (transpose S4096x4x256 [1, 0, 2] (Host.dotGeneral (F := Ideal) (φ₁ := .f32) (φ₂ := .f32) dot_S4x2x256x4096_S2x4x256x256_S4x4096x256_12_03_3_2_0_1 none (transpose S4x2x256x4096 [2, 0, 3, 1] (shapeCast S2x4096x4x256 (after (main2_0 (F := Ideal)) Y main_v84) shapeCasts_S2x4096x1024_S2x4096x4x256) transposes_S2x4096x4x256_S4x2x256x4096_2_0_3_1) (Y main_arg2)) transposes_S4x4096x256_S4096x4x256_1_0_2) shapeCasts_S4096x4x256_S4096x1024) := by
    unfold main2_0
    after_reads_simp
    rfl
  rw [e, P5, (p5_keeps _).1, (p5_keeps _).2.2, p3_reads.2.2.2.2]
  have hb := has_back (m84 L) L.w
  refine ((p57 L).2.add hb).congr fun j => ?_
  unfold dxc
  ring

/-- The rows of column sums laid out: two of the gates, one of the decay parameter, one of the input, the rest zero. -/
def rows4 (f : ℕ → ℕ → ℝ) (g h : ℕ → ℝ) (r d : ℕ) : ℝ := if r < 2 then f r d else if r = 2 then g d else if r = 3 then h d else 0

/-- The four parts laid one under another. -/
theorem has_rows {x : FVec Ideal S2x1024 .f32} {y z : FVec Ideal S1x1024 .f32} {w : FVec Ideal S4x1024 .f32} {f : ℕ → ℕ → ℝ} {g h : ℕ → ℝ}
    (hx : Has x fun j => f (j 0).val (j 1).val) (hy : Has y fun j => g (j 1).val) (hz : Has z fun j => h (j 1).val) (hw : Has w fun _ => 0) :
    Has (concatenate S8x1024 0 [⟨S2x1024, x⟩, ⟨S1x1024, y⟩, ⟨S1x1024, z⟩, ⟨S4x1024, w⟩] concatenates_S2x1024_S1x1024_S1x1024_S4x1024_S8x1024_d0)
      fun j => rows4 f g h (j 0).val (j 1).val := by
  intro j
  obtain ⟨r, d, rfl⟩ : ∃ r d, j = ix2 r d := ⟨j 0, j 1, ValueIdx.eq_ix2 j⟩
  pointwise
  by_cases h0 : r.val < 2
  · exact (dif_pos h0).trans ((hx _).trans (congrArg (fun u : ℝ => (u : EReal)) (if_pos h0).symm))
  refine (dif_neg h0).trans ?_
  by_cases h1 : r.val - 2 < 1
  · have e : r.val = 2 := by omega
    exact (dif_pos h1).trans ((hy _).trans (congrArg (fun u : ℝ => (u : EReal)) ((if_neg h0).trans (if_pos e)).symm))
  refine (dif_neg h1).trans ?_
  have e2 : ¬ r.val = 2 := by omega
  by_cases h2 : r.val - 2 - 1 < 1
  · have e : r.val = 3 := by omega
    exact (dif_pos h2).trans ((hz _).trans (congrArg (fun u : ℝ => (u : EReal)) ((if_neg h0).trans ((if_neg e2).trans (if_pos e))).symm))
  have e3 : ¬ r.val = 3 := by omega
  exact (dif_neg h2).trans ((hw _).trans (congrArg (fun u : ℝ => (u : EReal)) ((if_neg h0).trans ((if_neg e2).trans (if_neg e3))).symm))

/-- A row as an array of one row. -/
theorem has_row {x : FVec Ideal S1024 .f32} {g : ℕ → ℝ} (hx : Has x fun j => g (j 0).val) :
    Has (broadcastInDim S1x1024 ![1] bcast_S1024_S1x1024_1 x) fun j => g (j 1).val := by
  intro j
  obtain ⟨r, d, rfl⟩ : ∃ r d, j = ix2 r d := ⟨j 0, j 1, ValueIdx.eq_ix2 j⟩
  pointwise
  exact hx _

/-- An array known by another that is equal. -/
theorem Has.of {s : Shape} {x y : FVec Ideal s .f32} {f : s.Idx → ℝ} (h : Has y f) (e : x = y) : Has x f := e ▸ h

theorem stacked (Y : Valuation τ sig (Elt Ideal)) {f : ℕ → ℕ → ℝ} {g h : ℕ → ℝ} (h87 : Has (after (main2_0 (F := Ideal)) Y main_v87) fun j => f (j 0).val (j 1).val)
    (h76 : Has (Y main_v76) fun j => g (j 0).val) (h96 : Has (after (main2_0 (F := Ideal)) Y main_v96) fun j => h (j 0).val) :
    Has (after (main2_0 (F := Ideal)) Y main_v101) fun j => rows4 f g h (j 0).val (j 1).val := by
  unfold main2_0 at h87 h96 ⊢
  after_reads_simp
  refine has_rows (Has.of h87 ?_) (Has.of (has_row h76) ?_) (Has.of (has_row h96) ?_)
    (Has.of (y := broadcastInDim S4x1024 ![] bcast_S_S4x1024 (constant (F := Ideal) S_ .f32 0x00000000#32)) (Has.const lit0) ?_)
  · simp only [Matrix.cons_val_zero]
    after_reads_simp
  · simp only [Matrix.cons_val_one, Matrix.cons_val_zero]
    after_reads_simp
  · simp only [Matrix.cons_val]
    after_reads_simp
  · simp only [Matrix.cons_val]
    after_reads_simp

/-- and the column sums. -/
theorem m101 (L : Left X I) : Has (after (main2_0 (F := Ideal)) (P5 X) main_v101)
    fun j => fac I (j 0).val (j 1).val * ∑ t ∈ Finset.range 4096, red I (j 0).val t (j 1).val := by
  have e (Y : Valuation τ sig (Elt Ideal)) :
      after (main2_0 (F := Ideal)) Y main_v87 = Host.reduceAdd (F := Ideal) (φ := .f32) (shapeCast S2x1x1024 (Host.reduceAdd (F := Ideal) (φ := .f32) (after (main2_0 (F := Ideal)) Y main_v84) (constant (F := Ideal) S_ .f32 0x00000000#32) reducesTo_S2x4096x1024_S2x1024_d1 h_S_) shapeCasts_S2x1024_S2x1x1024)
        (constant (F := Ideal) S_ .f32 0x00000000#32) reducesTo_S2x1x1024_S2x1024_d1 h_S_
      ∧ after (main2_0 (F := Ideal)) Y main_v96 = Host.reduceAdd (F := Ideal) (φ := .f32) (shapeCast S1x1024 (Host.reduceAdd (F := Ideal) (φ := .f32) (after (main2_0 (F := Ideal)) Y main_v93) (constant (F := Ideal) S_ .f32 0x00000000#32) reducesTo_S4096x1024_S1024_d0 h_S_) shapeCasts_S1024_S1x1024)
        (constant (F := Ideal) S_ .f32 0x00000000#32) reducesTo_S1x1024_S1024_d0 h_S_ := by
    unfold main2_0
    refine ⟨?_, ?_⟩ <;> after_reads_simp <;> rfl
  have h87 := (e (P5 X)).1 ▸ has_gate_cols (f := fun g t d => dg I g t d) (m84 L)
  have h96 := (e (P5 X)).2 ▸ has_one (f := fun d => ∑ t ∈ Finset.range 4096, dxc I t d) (has_cols (f := fun t d => dxc I t d) (m93 L))
  refine Has.congr (stacked (P5 X) (f := fun g d => ∑ t ∈ Finset.range 4096, dg I g t d) (h := fun d => ∑ t ∈ Finset.range 4096, dxc I t d)
    (g := fun d => -((∑ t ∈ Finset.range 4096, -8 * gate I 1 t d * dla I t d) * (1 + Real.exp (I.ap d))⁻¹)) h87 (p76 L) h96) fun j => ?_
  obtain ⟨r, d, rfl⟩ : ∃ r d, j = ix2 r d := ⟨j 0, j 1, ValueIdx.eq_ix2 j⟩
  show rows4 (fun g d => ∑ t ∈ Finset.range 4096, dg I g t d) (fun d => -((∑ t ∈ Finset.range 4096, -8 * gate I 1 t d * dla I t d) * (1 + Real.exp (I.ap d))⁻¹))
    (fun d => ∑ t ∈ Finset.range 4096, dxc I t d) r.val d.val = fac I r.val d.val * ∑ t ∈ Finset.range 4096, red I r.val t d.val
  unfold rows4 fac red
  by_cases h0 : r.val = 0
  · simp [h0, dg]
  by_cases h1 : r.val = 1
  · simp [h1, dg]
  by_cases h2 : r.val = 2
  · simp only [h2, if_true, OfNat.ofNat_ne_zero, OfNat.ofNat_ne_one, if_false, Nat.lt_irrefl]
    ring
  by_cases h3 : r.val = 3
  · simp [h3]
  · have : ¬ r.val < 2 := by omega
    simp [h0, h1, h2, h3, this]

end Cert.ReferenceIdeal.Val

end
-- ==== Proof.Val.RefAll.lean ====
/- The plain gradient's whole run: what its three results hold, over the real numbers. -/
module

public import proofs.«01_k».proof.Proof.Val.RefLoop
public import proofs.«01_k».proof.Proof.Val.RefPost
public import proofs.«01_k».proof.Proof.Ref.Args

@[expose] public section

set_option maxRecDepth 16384

noncomputable section

namespace Cert.ReferenceIdeal.Val

open Cert.ReferenceIdeal Cert.ReferenceIdeal.Gen Cert.ReferenceIdeal.Ref Cert.Val Cert.Spec
open Idealize.ShloMosaic hiding ix0 ix1 ix2 ix3 ix4
open Idealize.ShloMosaic.TcCoe Idealize.ShloMosaic.ValueIdx
open Idealize.ShloMosaic.StableHlo (after)

variable {m : (ℓ : Loc nD τ sig) → Buf (Elt Ideal) ℓ} {c : Dev nD} {I : Inp}

/-- Before forward trip `k` the states are those of the recurrence. -/
theorem walked (G : GivenAt (StableHlo.launchContents m c) I) : ∀ k, k ≤ 4096 → Walked (StableHlo.atTrip condA bodyA (enteredA m) k c) I k
  | 0, _ => ⟨begun_a G, begun_inc G, fun j => (begun_h (V := StableHlo.launchContents m c) j).trans rfl, fun t d h => absurd h (Nat.not_lt_zero _)⟩
  | k + 1, h => walked_succ h (trip_ctrA _ (fun c => entry_ctrA m c) c k) (walked G k (Nat.le_of_succ_le h))

/-- At the second loop's entry the backward recurrence begins. -/
theorem backed_zero (G : GivenAt (StableHlo.launchContents m c) I) : Backed (enteredB m c) I 0 := by
  have W := walked G 4096 (le_refl _)
  have e (X : Valuation τ sig (Elt Ideal)) : after (main1_2 (F := Ideal)) X main_v56_0 = X main_arg5 ∧ after (main1_2 (F := Ideal)) X main_v56_1 = X main_v51_5
      ∧ after (main1_2 (F := Ideal)) X main_v56_2 = X main_v32
      ∧ after (main1_2 (F := Ideal)) X main_v56_4 = broadcastInDim S1024 ![] bcast_S_S1024 (constant (F := Ideal) S_ .f32 0x00000000#32) := by
    unfold main1_2
    refine ⟨?_, ?_, ?_, ?_⟩ <;> after_reads_simp <;> rfl
  refine ⟨?_, ?_, ?_, ?_, fun t d h => absurd h (by have := t.isLt; omega), fun t d h => absurd h (by have := t.isLt; omega)⟩
  · refine Has.of (G.dh) ((e _).1.trans ?_)
    exact loopedA_args m c (by decide)
  · refine Has.of (y := StableHlo.atTrip condA bodyA (enteredA m) 4096 c main_v51_5) ?_ ((e _).2.1.trans (stateA_cond.after (by decide) _))
    intro j
    obtain ⟨t, d, rfl⟩ : ∃ t d, j = ix2 t d := ⟨j 0, j 1, ValueIdx.eq_ix2 j⟩
    exact W.rows t d t.isLt
  · exact Has.of (kept6 G).a ((e _).2.2.1.trans ((leaves_condA.after (by decide) _).trans (trips_leaveA _ c (by decide) 4096)))
  · refine Has.of (Has.congr (Has.const lit0) fun j => ?_) (e _).2.2.2
    simp [aE, lamR]

/-- Before backward trip `k` the gradients of the last `k` rows are done. -/
theorem backed (G : GivenAt (StableHlo.launchContents m c) I) : ∀ k, k ≤ 4096 → Backed (StableHlo.atTrip condB bodyB (enteredB m) k c) I k
  | 0, _ => backed_zero G
  | k + 1, h => backed_succ h (trip_ctrB _ (fun c => entry_ctrB m c) c k) (backed G k (Nat.le_of_succ_le h))

/-- What both recurrences leave. -/
theorem left (G : GivenAt (StableHlo.launchContents m c) I) : Left (loopedB m c) I := by
  have B := backed G 4096 (le_refl _)
  refine ⟨(kept6 G).of_eq fun b hb => ?_, ?_, ?_, ?_⟩
  · exact (leaves_condB.after hb _).trans ((trips_leaveB _ c hb 4096).trans ((leaves_main1_2.after hb _).trans
      ((leaves_condA.after hb _).trans (trips_leaveA _ c hb 4096))))
  · exact Has.of G.w (loopedB_args m c (by decide))
  · refine Has.of (y := StableHlo.atTrip condB bodyB (enteredB m) 4096 c main_v56_5) ?_ (stateB_cond.after (by decide) _)
    intro j
    obtain ⟨t, d, rfl⟩ : ∃ t d, j = ix2 t d := ⟨j 0, j 1, ValueIdx.eq_ix2 j⟩
    exact B.da t d (by omega)
  · refine Has.of (y := StableHlo.atTrip condB bodyB (enteredB m) 4096 c main_v56_6) ?_ (stateB_cond.after (by decide) _)
    intro j
    obtain ⟨t, d, rfl⟩ : ∃ t d, j = ix2 t d := ⟨j 0, j 1, ValueIdx.eq_ix2 j⟩
    exact B.db t d (by omega)

/-- The gates' gradient, -/
theorem res97 (G : GivenAt (StableHlo.launchContents m c) I) : Has (ended m c main_v97) fun j => dg I (j 0).val (j 1).val (j 2).val := m97 (left G)
/-- the recurrence's input's gradient -/
theorem res93 (G : GivenAt (StableHlo.launchContents m c) I) : Has (ended m c main_v93) fun j => dxc I (j 0).val (j 1).val := m93 (left G)
/-- and the column sums. -/
theorem res101 (G : GivenAt (StableHlo.launchContents m c) I) :
    Has (ended m c main_v101) fun j => fac I (j 0).val (j 1).val * ∑ t ∈ Finset.range 4096, red I (j 0).val t (j 1).val := m101 (left G)

end Cert.ReferenceIdeal.Val

end
-- ==== Proof.Equation.lean ====
/- The equation: from equal finite arguments both programs end with the same three results, the gates' gradient, the
   recurrence's input's gradient and the rows of column sums. -/
module

public import proofs.«01_k».proof.Proof.Frames
public import proofs.«01_k».proof.Proof.Val.Finite
public import proofs.«01_k».proof.Proof.Val.Recur
public import proofs.«01_k».proof.Proof.Val.RefAll

@[expose] public section

noncomputable section

namespace Cert.Proof

open Idealize.ShloMosaic Idealize.SL.Sem Cert.Val Cert.Spec

instance : Cert.Pre_finite.Facts := pre_facts

/-- The real numbers the kernel's arguments hold on a device. -/
def inpOf (m : (ℓ : Loc Cert.KernelIdeal.nD Cert.KernelIdeal.τ Cert.KernelIdeal.sig) → Buf (Elt Ideal) ℓ) (c : Dev Cert.KernelIdeal.nD) : Inp :=
  inp (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))

section
open Cert.KernelIdeal

variable {m : (ℓ : Loc nD τ sig) → Buf (Elt Ideal) ℓ} (c : Dev nD)

theorem kernel_given (h : Pre_KernelIdeal_finite m) : Val.GivenAt (StableHlo.launchContents m c) (inpOf m c) :=
  have ⟨h0, h1, h2, h3, h4, h5⟩ := h c
  given h0 h1 h2 h3 h4 h5

/-- The kernel's results. -/
theorem kernel_results (h : Pre_KernelIdeal_finite m) :
    Rec.ended m c (Proc.devRef .tc main_v51_0) = (fun j => ((dg (inpOf m c) (j 0).val (j 1).val (j 2).val : ℝ) : EReal))
    ∧ Rec.ended m c (Proc.devRef .tc main_v51_1) = (fun j => ((dxc (inpOf m c) (j 0).val (j 1).val : ℝ) : EReal))
    ∧ Rec.ended m c (Proc.devRef .tc main_v51_2)
      = (fun j => ((fac (inpOf m c) (j 0).val (j 1).val * ∑ t ∈ Finset.range 4096, red (inpOf m c) (j 0).val t (j 1).val : ℝ) : EReal)) := by
  have K := Val.held m c (kernel_given c h)
  exact ⟨(Rec.ended_8 m c).trans (funext (Val.out8 K)), (Rec.ended_9 m c).trans (funext (Val.out9 K)), (Rec.ended_10 m c).trans (funext (Val.out10 K))⟩

end

section
open Cert.ReferenceIdeal

variable {m : (ℓ : Loc Cert.KernelIdeal.nD Cert.KernelIdeal.τ Cert.KernelIdeal.sig) → Buf (Elt Ideal) ℓ} {m' : (ℓ : Loc nD τ sig) → Buf (Elt Ideal) ℓ} (c : Dev nD)

/-- The reference's arguments hold the same numbers when they equal the kernel's. -/
theorem reference_given (h : Pre_KernelIdeal_finite m)
    (e0 : m' ((c.tc : Thread nD τ).loc main_arg0) = m ((c.tc : Thread Cert.KernelIdeal.nD Cert.KernelIdeal.τ).loc Cert.KernelIdeal.main_arg0))
    (e1 : m' ((c.tc : Thread nD τ).loc main_arg1) = m ((c.tc : Thread Cert.KernelIdeal.nD Cert.KernelIdeal.τ).loc Cert.KernelIdeal.main_arg1))
    (e2 : m' ((c.tc : Thread nD τ).loc main_arg2) = m ((c.tc : Thread Cert.KernelIdeal.nD Cert.KernelIdeal.τ).loc Cert.KernelIdeal.main_arg2))
    (e3 : m' ((c.tc : Thread nD τ).loc main_arg3) = m ((c.tc : Thread Cert.KernelIdeal.nD Cert.KernelIdeal.τ).loc Cert.KernelIdeal.main_arg3))
    (e4 : m' ((c.tc : Thread nD τ).loc main_arg4) = m ((c.tc : Thread Cert.KernelIdeal.nD Cert.KernelIdeal.τ).loc Cert.KernelIdeal.main_arg4))
    (e5 : m' ((c.tc : Thread nD τ).loc main_arg5) = m ((c.tc : Thread Cert.KernelIdeal.nD Cert.KernelIdeal.τ).loc Cert.KernelIdeal.main_arg5)) :
    Val.GivenAt (StableHlo.launchContents m' c) (inpOf m c) := by
  have G := kernel_given c h
  exact ⟨fun j => (congrFun e0 j).trans (G.conv j), fun j => (congrFun e1 j).trans (G.rcb j), fun j => (congrFun e2 j).trans (G.w j),
    fun j => (congrFun e3 j).trans (G.rgb j), fun j => (congrFun e4 j).trans (G.ap j), fun j => (congrFun e5 j).trans (G.dh j)⟩

end

/-- The ideal kernel and the reference compute the same function over the extended reals on finite arguments. -/
theorem equation : Cert.algebraic_KernelIdeal_ReferenceIdeal_pre_finite := by
  intro m g m' g' hP hE
  refine ⟨fun c j => ((dg (inpOf m c) (j 0).val (j 1).val (j 2).val : ℝ) : EReal), fun c j => ((dxc (inpOf m c) (j 0).val (j 1).val : ℝ) : EReal),
    fun c j => ((fac (inpOf m c) (j 0).val (j 1).val * ∑ t ∈ Finset.range 4096, red (inpOf m c) (j 0).val t (j 1).val : ℝ) : EReal), ?_, ?_⟩
  · refine (θ_run (Cert.KernelIdeal.defs (F := Ideal)) _ _).mono (fun r h c => ?_) (Cert.KernelIdeal.Rec.run_ended (F := Ideal) m g)
    have R := kernel_results c hP
    have A (b) (hb : b ∈ Cert.KernelIdeal.Rec.args) := (h.1 c b (by revert b; decide)).trans (Cert.KernelIdeal.Rec.ended_args m c hb)
    exact ⟨(h.1 c _ rfl).trans R.1, (h.1 c _ rfl).trans R.2.1, (h.1 c _ rfl).trans R.2.2, six A⟩
  · refine (θ_run (Cert.ReferenceIdeal.defs (F := Ideal)) _ _).mono (fun r h c => ?_) (Cert.ReferenceIdeal.Ref.run_ended (F := Ideal) m' g')
    obtain ⟨e0, e1, e2, e3, e4, e5⟩ := hE c
    have G := reference_given c hP e0 e1 e2 e3 e4 e5
    have A (b) (hb : b ∈ Cert.ReferenceIdeal.Ref.args) := (h.1 c b (by revert b; decide)).trans (Cert.ReferenceIdeal.Ref.ended_args m' c hb)
    exact ⟨(h.1 c _ rfl).trans (funext (Cert.ReferenceIdeal.Val.res97 G)), (h.1 c _ rfl).trans (funext (Cert.ReferenceIdeal.Val.res93 G)),
      (h.1 c _ rfl).trans (funext (Cert.ReferenceIdeal.Val.res101 G)), six A⟩

end Cert.Proof

end
-- ==== Proof.Lin.Parts.lean ====
/- A sum over an index cut into equal parts. -/
module

public import Idealize.ShloMosaic.Lib.Pointwise

@[expose] public section

namespace Cert.Lin

/-- A sum over all indices is the sum over the parts of the sum over each part. -/
theorem sum_parts (n p : ℕ) (f : Fin (n * p) → EReal)
    (h : ∀ (a : Fin n) (s : Fin p), a.val * p + s.val < n * p) :
    ∑ k, f k = ∑ a : Fin n, ∑ s : Fin p, f ⟨a.val * p + s.val, h a s⟩ := by
  rw [← (finProdFinEquiv (m := n) (n := p)).sum_comp, Fintype.sum_prod_type]
  refine Finset.sum_congr rfl fun a _ => Finset.sum_congr rfl fun s _ => congrArg f (Fin.ext ?_)
  show s.val + p * a.val = a.val * p + s.val
  rw [Nat.mul_comm, Nat.add_comm]

end Cert.Lin
-- ==== Proof.Lin.Dx.lean ====
/- The gradient that a feed-forward layer sends to its input, kernel and reference: the scaled cotangent of the residual sum
   plus the cotangent of the layer's first product times the transposed weight, the kernel a part of the columns at a time. -/
module

public import proofs.«01_k».proof.Defs
public import proofs.«01_k».proof.Proof.Gen.FfnDxIdeal.Value
public import proofs.«01_k».proof.Proof.Gen.FfnDxRefIdeal.Read
public import proofs.«01_k».proof.Proof.Lin.Parts
public import Idealize.ShloMosaic.Lib.Pointwise
public import Idealize.ShloMosaic.Lib.StableHlo.RunRead
public import Idealize.ShloMosaic.Lib.Tactic

@[expose] public section

set_option maxRecDepth 16384

noncomputable section

namespace Cert.FfnDxIdeal.Lin

open Cert.FfnDxIdeal Cert.FfnDxIdeal.Gen
open Idealize.ShloMosaic hiding ix0 ix1 ix2 ix3 ix4
open Idealize.ShloMosaic.TcCoe Idealize.ShloMosaic.ValueIdx Idealize.SL.Sem

/-- Part `a` of entry `(R, q)` of the product with the transposed weight: over the part's columns. -/
def part (d : FVec Ideal S4096x5632 .f32) (w : FVec Ideal S2x1024x5632 .f32) (R : Fin 4096) (q : Fin 1024) (a : ℕ) : EReal :=
  if h : a < 8 then ∑ s : Fin 704, (d (ix2 R (⟨a * 704 + s.val, by omega⟩ : Fin 5632)) : EReal)
    * w (ix3 (1 : Fin 2) q (⟨a * 704 + s.val, by omega⟩ : Fin 5632)) else 0

/-- Entry `(R, q)` after the first `k` parts. -/
def upto (z : FVec Ideal S4096x1024 .f32) (d : FVec Ideal S4096x5632 .f32) (w : FVec Ideal S2x1024x5632 .f32)
    (R : Fin 4096) (q : Fin 1024) (k : ℕ) : EReal :=
  (Ideal.ofBits .f32 0x3FD744FD#32 : EReal) * z (ix2 R q) + ∑ a ∈ Finset.range k, part d w R q a

/-- The gradient: every entry after all eight parts. -/
def grad (z : FVec Ideal S4096x1024 .f32) (d : FVec Ideal S4096x5632 .f32) (w : FVec Ideal S2x1024x5632 .f32) :
    FVec Ideal S4096x1024 .f32 := fun i => upto z d w (i 0 : Fin 4096) (i 1 : Fin 1024) 8

variable (m : (ℓ : Loc nD τ sig) → Buf (Elt Ideal) ℓ) (c : Dev nD)

theorem hz : (![0, 0] : Fin 2 → Nat) = fun _ => 0 := by decide

/-- One part added to the running sum. -/
theorem block (x0 : Vec Ideal S1024x1024 .f32) (x1 : Vec Ideal S1x1024x704 .bf16) (x2 : Vec Ideal S1x1x1024x704 .bf16) (r q : Fin 1024) :
    k0_pay2 x0 x1 x2 (ix2 r q) = x0 (ix2 r q) + ∑ s : Fin 704, x1 (ix3 (0 : Fin 1) r s) * x2 (ix4 (0 : Fin 1) (0 : Fin 1) q s) := by
  pointwise [k0_pay2]
  rfl

/-- Where the running sum starts. -/
theorem start (x : Vec Ideal S1024x1024 .f32) (r q : Fin 1024) :
    k0_pay1 x (ix2 r q) = Ideal.ofBits .f32 0x3FD744FD#32 * x (ix2 r q) := by
  pointwise [k0_pay1]

/-- The first point of a row: the scratch ends holding the start and the first part. -/
theorem scratch_A (i : grid0.Coords) (a2 : Memref sig .tc .vmem S1024x1024 .f32) (h2 : a2.IsWhole) (a3 : Memref sig .tc .vmem S1x1024x704 .bf16)
    (h3 : a3.IsWhole) (a4 : Memref sig .tc .vmem S1x1x1024x704 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec Ideal S1024x1024 .f32) (x1 : Vec Ideal S1x1024x704 .bf16) (x2 : Vec Ideal S1x1x1024x704 .bf16) :
    sout0_A_0 c i a2 h2 a3 h3 a4 h4 a5 h5 a6 h6 hc0 hc1 x0 x1 x2 = k0_pay2 (k0_pay1 x0) x1 x2 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h2.read_unread, h3.read_unread, h4.read_unread, View.ld_unit_zero (S := S1024x1024) hz,
    View.ld_unit_zero (S := S1x1024x704) (off := ![0, 0, 0]) (by decide), View.ld_unit_zero (S := S1x1x1024x704) (off := ![0, 0, 0, 0]) (by decide)]

/-- A middle point of a row: one part is added. -/
theorem scratch_B (i : grid0.Coords) (a2 : Memref sig .tc .vmem S1024x1024 .f32) (h2 : a2.IsWhole) (a3 : Memref sig .tc .vmem S1x1024x704 .bf16)
    (h3 : a3.IsWhole) (a4 : Memref sig .tc .vmem S1x1x1024x704 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 : Vec Ideal S1024x1024 .f32) (x1 : Vec Ideal S1x1024x704 .bf16) (x2 : Vec Ideal S1x1x1024x704 .bf16) (xs : Vec Ideal S1024x1024 .f32) :
    sout0_B_0 c i a2 h2 a3 h3 a4 h4 a5 h5 a6 h6 hc0 hc1 x0 x1 x2 xs = k0_pay2 xs x1 x2 := by
  unfold sout0_B_0
  rw [View.read_writes_eq_canon _ _ _ (scover0_B_0 c i a2 h2 a3 h3 a4 h4 a5 h5 a6 h6 hc0 hc1 x0 x1 x2 xs)]
  unfold kernelRun0_B
  dsimp only
  try sl_unfold_words
  rw [View.canon_unit_zero hz]
  simp only [View.readAt_eq_ld, h3.read_unread, h4.read_unread, h6.read_unread, View.ld_unit_zero (S := S1024x1024) hz,
    View.ld_unit_zero (S := S1x1024x704) (off := ![0, 0, 0]) (by decide), View.ld_unit_zero (S := S1x1x1024x704) (off := ![0, 0, 0, 0]) (by decide)]

/-- The last point of a row: the result is the running sum and the last part. -/
theorem out_C (i : grid0.Coords) (a2 : Memref sig .tc .vmem S1024x1024 .f32) (h2 : a2.IsWhole) (a3 : Memref sig .tc .vmem S1x1024x704 .bf16)
    (h3 : a3.IsWhole) (a4 : Memref sig .tc .vmem S1x1x1024x704 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec Ideal S1024x1024 .f32) (x1 : Vec Ideal S1x1024x704 .bf16) (x2 : Vec Ideal S1x1x1024x704 .bf16) (xs : Vec Ideal S1024x1024 .f32) :
    out0_C_3 c i a2 h2 a3 h3 a4 h4 a5 h5 a6 h6 hc0 hc1 x0 x1 x2 xs = k0_pay2 xs x1 x2 := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz,
    View.ld_unit_zero (S := S1x1024x704) (off := ![0, 0, 0]) (by decide), View.ld_unit_zero (S := S1x1x1024x704) (off := ![0, 0, 0, 0]) (by decide)]

/-- The first operand is an argument of the program. -/
theorem entry0 : V m c main_arg0 = m ((c : Thread nD τ).loc main_arg0) := V_main_arg0 m c

/-- The cotangent as the call finds it: its columns in eight parts. -/
theorem entry1 (j : Fin 8) (t : Fin 4096) (q : Fin 704) :
    V m c main_v4 (ix3 j t q) = m ((c : Thread nD τ).loc main_arg1) (ix2 t (⟨j.val * 704 + q.val, by omega⟩ : Fin 5632)) := by
  have e : V m c main_v4 = truncf (F := Ideal) .bf16 (transpose S8x4096x704 [1, 0, 2]
      (shapeCast S4096x8x704 (m ((c : Thread nD τ).loc main_arg1)) shapeCasts_S4096x5632_S4096x8x704) transposes_S4096x8x704_S8x4096x704_1_0_2) bitsLt_bf16_f32 := by
    unfold V hostOps0
    after_reads_simp
    rfl
  rw [e]
  pointwise []
  rfl

/-- The weights as the call finds them: their columns in eight parts. -/
theorem entry2 (f : Fin 2) (j : Fin 8) (t : Fin 1024) (q : Fin 704) :
    V m c main_v5 (ix4 f j t q) = m ((c : Thread nD τ).loc main_arg2) (ix3 f t (⟨j.val * 704 + q.val, by omega⟩ : Fin 5632)) := by
  have e : V m c main_v5 = truncf (F := Ideal) .bf16 (transpose S2x8x1024x704 [0, 2, 1, 3]
      (shapeCast S2x1024x8x704 (m ((c : Thread nD τ).loc main_arg2)) shapeCasts_S2x1024x5632_S2x1024x8x704) transposes_S2x1024x8x704_S2x8x1024x704_0_2_1_3) bitsLt_bf16_f32 := by
    unfold V hostOps0
    after_reads_simp
    rfl
  rw [e]
  pointwise []
  rfl

/-- The printed index maps: point `t` works on row block `t / 8` and part `t % 8`. -/
theorem maps : ∀ t : Fin cfg0.N, win0_0.index t (0 : Fin 2) = t.val / 8 ∧ win0_0.index t (1 : Fin 2) = 0
    ∧ win0_1.index t (0 : Fin 3) = t.val % 8 ∧ win0_1.index t (1 : Fin 3) = t.val / 8 ∧ win0_1.index t (2 : Fin 3) = 0
    ∧ win0_2.index t (0 : Fin 4) = 1 ∧ win0_2.index t (1 : Fin 4) = t.val % 8 ∧ win0_2.index t (2 : Fin 4) = 0 ∧ win0_2.index t (3 : Fin 4) = 0
    ∧ win0_3.index t (0 : Fin 2) = t.val / 8 ∧ win0_3.index t (1 : Fin 2) = 0 ∧ t.val < 32 :=
  (by decide +kernel : ∀ t : Fin grid0.N, _)

/-- The residual cotangent's block at a point. -/
theorem blk0 (t : Fin cfg0.N) (R : Fin 4096) (r q : Fin 1024) (hR : R.val = t.val / 8 * 1024 + r.val) :
    (iblk m c 0 t : Vec Ideal S1024x1024 .f32) (ix2 r q) = m ((c : Thread nD τ).loc main_arg0) (ix2 R q) := by
  obtain ⟨a0, a1, -⟩ := maps t
  refine Eq.trans (?_ : _ = V m c main_arg0 (ix2 R q)) (congrFun (entry0 m c) _)
  unfold iblk
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 1024 + 1 * q.val = q.val; omega

/-- The cotangent's block at a point. -/
theorem blk1 (t : Fin cfg0.N) (R : Fin 4096) (r : Fin 1024) (s : Fin 704) (hR : R.val = t.val / 8 * 1024 + r.val) (h : t.val % 8 < 8) :
    (iblk m c 1 t : Vec Ideal S1x1024x704 .bf16) (ix3 (0 : Fin 1) r s)
      = m ((c : Thread nD τ).loc main_arg1) (ix2 R (⟨t.val % 8 * 704 + s.val, by omega⟩ : Fin 5632)) := by
  obtain ⟨-, -, a0, a1, a2, -⟩ := maps t
  refine Eq.trans (?_ : _ = V m c main_v4 (ix3 (⟨t.val % 8, h⟩ : Fin 8) R s)) (entry1 m c ⟨t.val % 8, h⟩ R s)
  unfold iblk
  refine congrArg (V m c main_v4) (funext fun a => Fin.ext ?_)
  match a with
  | ⟨0, _⟩ => show win0_1.index t (0 : Fin 3) * 1 + 1 * 0 = t.val % 8; omega
  | ⟨1, _⟩ => show win0_1.index t (1 : Fin 3) * 1024 + 1 * r.val = R.val; omega
  | ⟨2, _⟩ => show win0_1.index t (2 : Fin 3) * 704 + 1 * s.val = s.val; omega

/-- The weight's block at a point. -/
theorem blk2 (t : Fin cfg0.N) (q : Fin 1024) (s : Fin 704) (h : t.val % 8 < 8) :
    (iblk m c 2 t : Vec Ideal S1x1x1024x704 .bf16) (ix4 (0 : Fin 1) (0 : Fin 1) q s)
      = m ((c : Thread nD τ).loc main_arg2) (ix3 (1 : Fin 2) q (⟨t.val % 8 * 704 + s.val, by omega⟩ : Fin 5632)) := by
  obtain ⟨-, -, -, -, -, a0, a1, a2, a3, -⟩ := maps t
  refine Eq.trans (?_ : _ = V m c main_v5 (ix4 (1 : Fin 2) (⟨t.val % 8, h⟩ : Fin 8) q s)) (entry2 m c 1 ⟨t.val % 8, h⟩ q s)
  unfold iblk
  refine congrArg (V m c main_v5) (funext fun a => Fin.ext ?_)
  match a with
  | ⟨0, _⟩ => show win0_2.index t (0 : Fin 4) * 1 + 1 * 0 = 1; omega
  | ⟨1, _⟩ => show win0_2.index t (1 : Fin 4) * 1 + 1 * 0 = t.val % 8; omega
  | ⟨2, _⟩ => show win0_2.index t (2 : Fin 4) * 1024 + 1 * q.val = q.val; omega
  | ⟨3, _⟩ => show win0_2.index t (3 : Fin 4) * 704 + 1 * s.val = s.val; omega

/-- The entry of the gradient over the program's arguments after the first `k` parts. -/
abbrev at_ (R : Fin 4096) (q : Fin 1024) (k : ℕ) : EReal :=
  upto (m ((c : Thread nD τ).loc main_arg0)) (m ((c : Thread nD τ).loc main_arg1)) (m ((c : Thread nD τ).loc main_arg2)) R q k

/-- A point adds its part. -/
theorem added (t : Fin cfg0.N) (R : Fin 4096) (r q : Fin 1024) (hR : R.val = t.val / 8 * 1024 + r.val) (xs : Vec Ideal S1024x1024 .f32)
    (hx : xs (ix2 r q) = at_ m c R q (t.val % 8)) : k0_pay2 xs (iblk m c 1 t) (iblk m c 2 t) (ix2 r q) = at_ m c R q (t.val % 8 + 1) := by
  have h8 : t.val % 8 < 8 := Nat.mod_lt _ (by decide)
  refine (block xs (iblk m c 1 t) (iblk m c 2 t) r q).trans ?_
  unfold at_ upto at hx ⊢
  rw [Finset.sum_range_succ, ← add_assoc]
  refine congrArg₂ (· + ·) hx ?_
  unfold part
  rw [dif_pos h8]
  exact Finset.sum_congr rfl fun s _ => congrArg₂ (· * ·) (blk1 m c t R r s hR h8) (blk2 m c t q s h8)

/-- What the scratch holds after the first point of a row. -/
theorem first (t : Fin cfg0.N) (h0 : t.val % 8 = 0) (h7 : ¬t.val % 8 = 7) (R : Fin 4096) (r q : Fin 1024) (hR : R.val = t.val / 8 * 1024 + r.val) :
    (outsAt0 m c t.val t.isLt).2 (ix2 r q) = at_ m c R q (t.val % 8 + 1) := by
  have e : (outsAt0 m c t.val t.isLt).2 = k0_pay2 (k0_pay1 (iblk m c 0 t)) (iblk m c 1 t) (iblk m c 2 t) := by
    rw [outsAt0_A m c t h0 h7]
    dsimp only
    rw [scratch_A]
  refine (congrFun e _).trans (added m c t R r q hR _ ?_)
  refine (start (iblk m c 0 t) r q).trans ?_
  unfold at_ upto
  rw [h0]
  exact (congrArg (fun x : EReal => (Ideal.ofBits .f32 0x3FD744FD#32 : EReal) * x) (blk0 m c t R r q hR)).trans (add_zero _).symm

/-- What the scratch holds after a middle point of a row, over what it held before. -/
theorem middle (t : Fin cfg0.N) (h0 : ¬t.val % 8 = 0) (h7 : ¬t.val % 8 = 7) (R : Fin 4096) (r q : Fin 1024) (hR : R.val = t.val / 8 * 1024 + r.val)
    (hx : (outsAt0 m c (t.val - 1) (Nat.lt_of_le_of_lt (Nat.sub_le _ _) t.isLt)).2 (ix2 r q) = at_ m c R q (t.val % 8)) :
    (outsAt0 m c t.val t.isLt).2 (ix2 r q) = at_ m c R q (t.val % 8 + 1) := by
  have e : (outsAt0 m c t.val t.isLt).2
      = k0_pay2 (outsAt0 m c (t.val - 1) (Nat.lt_of_le_of_lt (Nat.sub_le _ _) t.isLt)).2 (iblk m c 1 t) (iblk m c 2 t) := by
    rw [outsAt0_B m c t h0 h7]
    dsimp only
    rw [scratch_B]
  exact (congrFun e _).trans (added m c t R r q hR _ hx)

/-- What the scratch holds after a point that is not the last of its row. -/
theorem scratch : ∀ (n : ℕ) (hn : n < cfg0.N) (_ : ¬n % 8 = 7) (R : Fin 4096) (r q : Fin 1024) (_ : R.val = n / 8 * 1024 + r.val),
    (outsAt0 m c n hn).2 (ix2 r q) = at_ m c R q (n % 8 + 1) := by
  intro n
  induction n with
  | zero => exact fun hn h7 R r q hR => first m c ⟨0, hn⟩ rfl h7 R r q hR
  | succ n ih =>
    intro hn h7 R r q hR
    by_cases h0 : (n + 1) % 8 = 0
    · exact first m c ⟨n + 1, hn⟩ h0 h7 R r q hR
    · refine middle m c ⟨n + 1, hn⟩ h0 h7 R r q hR ((ih (Nat.lt_of_succ_lt hn) (by omega) R r q (by omega)).trans (congrArg (at_ m c R q) ?_))
      show n % 8 + 1 = (n + 1) % 8
      omega

/-- What the kernel's result holds. -/
def G : Buf (Elt Ideal) ((c : Thread nD τ).loc main_v6) :=
  grad (m ((c : Thread nD τ).loc main_arg0)) (m ((c : Thread nD τ).loc main_arg1)) (m ((c : Thread nD τ).loc main_arg2))

/-- What the last point of a row writes back is its rows of the gradient. -/
theorem flushed_eq (t : Fin cfg0.N) (hf : (cfg0.win 3).flush t = true) :
    (dats m 0 c).flushed 3 t = ((cfg0.win 3).blk t).view.read (Elt Ideal) (G m c) := by
  have h7 : t.val % 8 = 7 := (flush0_3 t).mp hf
  obtain ⟨-, -, -, -, -, -, -, -, -, e0, e1, ht⟩ := maps t
  rw [Value.flushed3_C m c t (by omega) h7, out_C]
  funext y
  have ey : ((cfg0.win 3).xinj (grid0.coords t) y : S1024x1024.Idx) = ix2 (y 0 : Fin 1024) (y 1 : Fin 1024) := funext fun a => Fin.ext (by
    match a with
    | ⟨0, _⟩ => rfl
    | ⟨1, _⟩ => rfl)
  have f0 : (((cfg0.win 3).blk t).view.emb y 0).val = t.val / 8 * 1024 + (y 0).val := by
    show win0_3.index t (0 : Fin 2) * 1024 + 1 * (y 0).val = _; rw [e0]; omega
  have f1 : (((cfg0.win 3).blk t).view.emb y 1 : Fin 1024) = (y 1 : Fin 1024) := Fin.ext (by
    show win0_3.index t (1 : Fin 2) * 1024 + 1 * (y 1).val = (y 1).val; omega)
  show k0_pay2 _ (iblk m c 1 t) (iblk m c 2 t) ((cfg0.win 3).xinj (grid0.coords t) y) = G m c (((cfg0.win 3).blk t).view.emb y)
  refine (congrArg (k0_pay2 _ (iblk m c 1 t) (iblk m c 2 t)) ey).trans
    ((added m c t (((cfg0.win 3).blk t).view.emb y 0 : Fin 4096) (y 0 : Fin 1024) (y 1 : Fin 1024) f0 _ ?_).trans ?_)
  · refine (scratch m c (t.val - 1) _ (by omega) (((cfg0.win 3).blk t).view.emb y 0 : Fin 4096) (y 0 : Fin 1024) (y 1 : Fin 1024) (by omega)).trans
      (congrArg (at_ m c _ _) (by omega))
  · rw [h7]
    exact congrArg (fun q => at_ m c (((cfg0.win 3).blk t).view.emb y 0 : Fin 4096) q 8) f1.symm

/-- Every entry is in the block of the last point of its row. -/
theorem covered (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hq : 8 * ((i 0).val / 1024) + 7 < 32 := by omega
  let t : Fin cfg0.N := ⟨8 * ((i 0).val / 1024) + 7, lt_of_lt_of_eq hq N_0.symm⟩
  obtain ⟨-, -, -, -, -, -, -, -, -, e0, e1, ht⟩ := maps t
  have tv : t.val = 8 * ((i 0).val / 1024) + 7 := rfl
  refine ⟨t, (flush0_3 t).mpr (by omega), ?_⟩
  show i ∈ ((View.whole main_v6).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The kernel's result is the gradient. -/
theorem final : (dats m 0 c).arrAt 3 cfg0.N = G m c :=
  (dats m 0 c).arrAt_eq_of_cover 3 _ (fun t hf => flushed_eq m c t hf) covered

end Cert.FfnDxIdeal.Lin

namespace Cert.FfnDxRefIdeal.Lin

open Cert.FfnDxRefIdeal Cert.FfnDxRefIdeal.Gen
open Idealize.ShloMosaic hiding ix0 ix1 ix2 ix3 ix4
open Idealize.ShloMosaic.TcCoe Idealize.ShloMosaic.ValueIdx Idealize.SL.Sem

/-- The eight parts together are the whole product. -/
theorem parts (d : FVec Ideal S4096x5632 .f32) (w : FVec Ideal S2x1024x5632 .f32) (R : Fin 4096) (q : Fin 1024) :
    ∑ a ∈ Finset.range 8, Cert.FfnDxIdeal.Lin.part d w R q a
      = ∑ k : Fin 5632, (d (ix2 R k) : EReal) * w (ix3 (1 : Fin 2) q k) := by
  refine Eq.trans ?_ (Cert.Lin.sum_parts 8 704 (fun k : Fin 5632 => (d (ix2 R k) : EReal) * w (ix3 (1 : Fin 2) q k)) (by omega)).symm
  rw [Finset.sum_range]
  refine Finset.sum_congr rfl fun a _ => ?_
  unfold Cert.FfnDxIdeal.Lin.part
  rw [dif_pos a.isLt]

/-- Every entry over the whole product. -/
theorem whole (z : FVec Ideal S4096x1024 .f32) (d : FVec Ideal S4096x5632 .f32) (w : FVec Ideal S2x1024x5632 .f32) (R : Fin 4096) (q : Fin 1024) :
    Cert.FfnDxIdeal.Lin.upto z d w R q 8
      = (∑ k : Fin 5632, (d (ix2 R k) : EReal) * w (ix3 (1 : Fin 2) q k)) + (Ideal.ofBits .f32 0x3FD744FD#32 : EReal) * z (ix2 R q) := by
  unfold Cert.FfnDxIdeal.Lin.upto
  rw [parts, add_comm]

/-- The reference's result. -/
theorem result (z : FVec Ideal S4096x1024 .f32) (d : FVec Ideal S4096x5632 .f32) (w : FVec Ideal S2x1024x5632 .f32) :
    Read.val_main_v9 (F := Ideal) z d w = Cert.FfnDxIdeal.Lin.grad z d w := by
  funext i
  rw [Read.val_main_v9_apply, Read.val_main_v8_apply, Read.val_main_v7_apply, Read.val_main_cst_1_apply]
  refine Eq.trans ?_ (whole z d w (i 0 : Fin 4096) (i 1 : Fin 1024)).symm
  refine congrArg₂ (· + ·) ?_ (congrArg (fun j => (Ideal.ofBits .f32 0x3FD744FD#32 : EReal) * z j) (funext fun a => Fin.ext ?_))
  · rw [Read.val_main_v6_apply]
    refine Finset.sum_congr rfl fun k _ => congrArg₂ (· * ·) (congrArg d (funext fun a => Fin.ext ?_)) ?_
    · match a with
      | ⟨0, _⟩ => rfl
      | ⟨1, _⟩ => rfl
    · rw [Read.val_main_v4_apply, Read.val_main_v3_apply]
      refine congrArg w (funext fun a => Fin.ext ?_)
      have h1 : (i 1).val < 1024 := (i 1).isLt
      have hk : k.val < 5632 := k.isLt
      match a with
      | ⟨0, _⟩ => rfl
      | ⟨1, _⟩ => show ((i 1).val * 5632 + k.val) / 5632 % 1024 = (i 1).val; omega
      | ⟨2, _⟩ => show ((i 1).val * 5632 + k.val) % 5632 = k.val; omega
  · match a with
    | ⟨0, _⟩ => rfl
    | ⟨1, _⟩ => rfl

end Cert.FfnDxRefIdeal.Lin

namespace Cert.Proof

open Idealize.ShloMosaic Idealize.SL.Sem

/-- Kernel and reference compute the same gradient of the layer's input. -/
theorem ffnDx : Cert.algebraic_FfnDxIdeal_FfnDxRefIdeal := by
  intro m g m' g' _ hE
  refine ⟨fun c => Cert.FfnDxIdeal.Lin.G m c, ?_, ?_⟩
  · exact (θ_run (Cert.FfnDxIdeal.defs (F := Ideal)) _ _).mono
      (fun r h c => ⟨(h c).1.trans (Cert.FfnDxIdeal.Lin.final m c), (h c).2⟩) (Cert.FfnDxIdeal.Value.run_blocks (F := Ideal) m g)
  · refine (θ_run (Cert.FfnDxRefIdeal.defs (F := Ideal)) _ _).mono (fun r h c => ⟨?_, (h c).2⟩) (Cert.FfnDxRefIdeal.Value.run (F := Ideal) m' g')
    refine (h c).1.trans ((Cert.FfnDxRefIdeal.Read.val_main_v9_eq _ _ _).trans ((Cert.FfnDxRefIdeal.Lin.result _ _ _).trans ?_))
    exact congr (congrArg₂ Cert.FfnDxIdeal.Lin.grad (hE c).1 (hE c).2.1) (hE c).2.2

end Cert.Proof

end
-- ==== Proof.Lin.DwUp.lean ====
/- The gradient of a feed-forward layer's first weight, kernel and reference: each of the eight parts of the columns is the
   transposed input times that part of the cotangent. -/
module

public import proofs.«01_k».proof.Defs
public import proofs.«01_k».proof.Proof.Gen.FfnDwUpIdeal.Value
public import proofs.«01_k».proof.Proof.Gen.FfnDwUpRefIdeal.Read
public import Idealize.ShloMosaic.Lib.Pointwise
public import Idealize.ShloMosaic.Lib.StableHlo.RunRead

@[expose] public section

set_option maxRecDepth 16384

noncomputable section

namespace Cert.FfnDwUpIdeal.Lin

open Cert.FfnDwUpIdeal Cert.FfnDwUpIdeal.Gen
open Idealize.ShloMosaic hiding ix0 ix1 ix2 ix3 ix4
open Idealize.ShloMosaic.TcCoe Idealize.ShloMosaic.ValueIdx Idealize.SL.Sem

/-- Entry `(j, r, q)` of the gradient: over the rows, the input's column `r` times the cotangent's column `704 j + q`. -/
def grad (x : FVec Ideal S4096x1024 .f32) (d : FVec Ideal S4096x5632 .f32) : FVec Ideal S8x1024x704 .bf16 := fun i =>
  have h0 : (i 0).val < 8 := (i 0).isLt
  have h2 : (i 2).val < 704 := (i 2).isLt
  ∑ t : Fin 4096, x (ix2 t (i 1 : Fin 1024)) * d (ix2 t (⟨(i 0).val * 704 + (i 2).val, by omega⟩ : Fin 5632))

variable (m : (ℓ : Loc nD τ sig) → Buf (Elt Ideal) ℓ) (c : Dev nD)

/-- One block: the product of the transposed first operand and the second. -/
theorem block (x0 : Vec Ideal S4096x1024 .bf16) (x1 : Vec Ideal S1x4096x704 .bf16) (r : Fin 1024) (q : Fin 704) :
    k0_pay1 x0 x1 (ix3 (0 : Fin 1) r q) = ∑ t : Fin 4096, x0 (ix2 t r) * x1 (ix3 (0 : Fin 1) t q) := by
  pointwise [k0_pay1]
  rfl

/-- The first operand as the call finds it. -/
theorem entry0 (t : Fin 4096) (r : Fin 1024) : V m c main_v0 (ix2 t r) = m ((c : Thread nD τ).loc main_arg0) (ix2 t r) := by
  have e : V m c main_v0 = truncf (F := Ideal) .bf16 (m ((c : Thread nD τ).loc main_arg0)) bitsLt_bf16_f32 := by
    unfold V hostOps0
    after_reads_simp
  rw [e]; rfl

/-- The second operand as the call finds it: the cotangent's columns in eight parts. -/
theorem entry1 (j : Fin 8) (t : Fin 4096) (q : Fin 704) :
    V m c main_v3 (ix3 j t q) = m ((c : Thread nD τ).loc main_arg1) (ix2 t (⟨j.val * 704 + q.val, by omega⟩ : Fin 5632)) := by
  have e : V m c main_v3 = truncf (F := Ideal) .bf16 (transpose S8x4096x704 [1, 0, 2]
      (shapeCast S4096x8x704 (m ((c : Thread nD τ).loc main_arg1)) shapeCasts_S4096x5632_S4096x8x704) transposes_S4096x8x704_S8x4096x704_1_0_2) bitsLt_bf16_f32 := by
    unfold V hostOps0
    after_reads_simp
    rfl
  rw [e]
  pointwise []
  rfl

/-- The printed index maps over the eight points: the first operand is one block, the others go part by part. -/
theorem maps : ∀ t : Fin cfg0.N, win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 ∧ t.val < 8
    ∧ (cfg0.win 2).flush t = true :=
  (by decide +kernel : ∀ t : Fin grid0.N, _)

/-- The first operand's block at a point. -/
theorem blk0 (t : Fin cfg0.N) (k : Fin 4096) (r : Fin 1024) :
    (iblk m c 0 t : Vec Ideal S4096x1024 .bf16) (ix2 k r) = m ((c : Thread nD τ).loc main_arg0) (ix2 k r) := by
  obtain ⟨a0, a1, -⟩ := maps t
  refine Eq.trans (?_ : _ = V m c main_v0 (ix2 k r)) (entry0 m c k r)
  unfold iblk
  refine congrArg (V m c main_v0) (funext fun a => Fin.ext ?_)
  match a with
  | ⟨0, _⟩ => show win0_0.index t (0 : Fin 2) * 4096 + 1 * k.val = k.val; omega
  | ⟨1, _⟩ => show win0_0.index t (1 : Fin 2) * 1024 + 1 * r.val = r.val; omega

/-- The second operand's block at a point. -/
theorem blk1 (t : Fin cfg0.N) (ht : t.val < 8) (k : Fin 4096) (q : Fin 704) :
    (iblk m c 1 t : Vec Ideal S1x4096x704 .bf16) (ix3 (0 : Fin 1) k q)
      = m ((c : Thread nD τ).loc main_arg1) (ix2 k (⟨t.val * 704 + q.val, by omega⟩ : Fin 5632)) := by
  obtain ⟨-, -, a0, a1, a2, -⟩ := maps t
  refine Eq.trans (?_ : _ = V m c main_v3 (ix3 (⟨t.val, ht⟩ : Fin 8) k q)) (entry1 m c ⟨t.val, ht⟩ k q)
  unfold iblk
  refine congrArg (V m c main_v3) (funext fun a => Fin.ext ?_)
  match a with
  | ⟨0, _⟩ => show win0_1.index t (0 : Fin 3) * 1 + 1 * 0 = t.val; omega
  | ⟨1, _⟩ => show win0_1.index t (1 : Fin 3) * 4096 + 1 * k.val = k.val; omega
  | ⟨2, _⟩ => show win0_1.index t (2 : Fin 3) * 704 + 1 * q.val = q.val; omega

/-- The gradient of the memory's arguments. -/
abbrev G (c : Dev nD) : Buf (Elt Ideal) ((c : Thread nD τ).loc main_v4) :=
  grad (m ((c : Thread nD τ).loc main_arg0)) (m ((c : Thread nD τ).loc main_arg1))

/-- What a point writes back is its part of the gradient. -/
theorem flushed_eq (t : Fin cfg0.N) : (dats m 0 c).flushed 2 t = ((cfg0.win 2).blk t).view.read (Elt Ideal) (G m c) := by
  obtain ⟨-, -, -, -, -, e0, e1, e2, ht, -⟩ := maps t
  rw [Value.flushed2]
  unfold out0_2
  rw [View.canon_unit_zero (by decide), View.ld_unit_zero (by decide), View.ld_unit_zero (by decide)]
  funext y
  have hy : (y 0).val = 0 := by have : (y 0).val < 1 := (y 0).isLt; omega
  have ey : ((cfg0.win 2).xinj (grid0.coords t) y : S1x1024x704.Idx) = ix3 (0 : Fin 1) (y 1 : Fin 1024) (y 2 : Fin 704) := funext fun a => Fin.ext (by
    match a with
    | ⟨0, _⟩ => exact hy
    | ⟨1, _⟩ => rfl
    | ⟨2, _⟩ => rfl)
  show k0_pay1 (iblk m c 0 t) (iblk m c 1 t) ((cfg0.win 2).xinj (grid0.coords t) y) = G m c (((cfg0.win 2).blk t).view.emb y)
  refine (congrArg (k0_pay1 (iblk m c 0 t) (iblk m c 1 t)) ey).trans ((block (iblk m c 0 t) (iblk m c 1 t) (y 1 : Fin 1024) (y 2 : Fin 704)).trans ?_)
  have f0 : (((cfg0.win 2).blk t).view.emb y 0).val = t.val := by
    show win0_2.index t (0 : Fin 3) * 1 + 1 * (y 0).val = t.val; omega
  have f1 : (((cfg0.win 2).blk t).view.emb y 1).val = (y 1).val := by
    show win0_2.index t (1 : Fin 3) * 1024 + 1 * (y 1).val = (y 1).val; omega
  have f2 : (((cfg0.win 2).blk t).view.emb y 2).val = (y 2).val := by
    show win0_2.index t (2 : Fin 3) * 704 + 1 * (y 2).val = (y 2).val; omega
  unfold G grad
  refine Finset.sum_congr rfl fun k _ => congrArg₂ (· * ·) ((blk0 m c t k _).trans ?_) ((blk1 m c t ht k _).trans ?_)
  · exact congrArg (m ((c : Thread nD τ).loc main_arg0)) (congrArg (ix2 k) (Fin.ext f1.symm))
  · exact congrArg (m ((c : Thread nD τ).loc main_arg1)) (congrArg (ix2 k) (Fin.ext (by
      show t.val * 704 + (y 2).val = (((cfg0.win 2).blk t).view.emb y 0).val * 704 + (((cfg0.win 2).blk t).view.emb y 2).val
      rw [f0, f2])))

/-- Every entry is in some point's block. -/
theorem covered (i : S8x1024x704.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 704 := (i 2).isLt
  let t : Fin cfg0.N := ⟨(i 0).val, lt_of_lt_of_eq h0 N_0.symm⟩
  obtain ⟨-, -, -, -, -, e0, e1, e2, ht, hf⟩ := maps t
  refine ⟨t, hf, ?_⟩
  show i ∈ ((View.whole main_v4).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0]; show (i 0).val * 1 ≤ _ ∧ _ < (i 0).val * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 704 ≤ (i 2).val ∧ (i 2).val < win0_2.index t (2 : Fin 3) * 704 + 704; omega

/-- The kernel's result. -/
theorem final : (dats m 0 c).arrAt 2 cfg0.N = G m c :=
  (dats m 0 c).arrAt_eq_of_cover 2 _ (fun t _ => flushed_eq m c t) covered

end Cert.FfnDwUpIdeal.Lin

namespace Cert.FfnDwUpRefIdeal.Lin

open Cert.FfnDwUpRefIdeal Cert.FfnDwUpRefIdeal.Gen
open Idealize.ShloMosaic hiding ix0 ix1 ix2 ix3 ix4
open Idealize.ShloMosaic.TcCoe Idealize.ShloMosaic.ValueIdx

/-- The reference's result. -/
theorem result (x : FVec Ideal S4096x1024 .f32) (d : FVec Ideal S4096x5632 .f32) :
    Read.val_main_v6 (F := Ideal) x d = Cert.FfnDwUpIdeal.Lin.grad x d := by
  funext i
  obtain ⟨j, r, q, rfl⟩ : ∃ (j : Fin 8) (r : Fin 1024) (q : Fin 704), i = ix3 j r q := ⟨i 0, i 1, i 2, ValueIdx.eq_ix3 i⟩
  rw [Read.val_main_v6_apply, Read.val_main_v5_apply, Read.val_main_v4_apply, Read.val_main_v3_apply]
  show Read.val_main_v2 (F := Ideal) x d _ = _
  rw [Read.val_main_v2_apply]
  unfold Cert.FfnDwUpIdeal.Lin.grad
  refine Finset.sum_congr rfl fun k _ => (mul_comm _ _).trans (congrArg₂ (· * ·) (congrArg x (funext fun a => Fin.ext ?_)) (congrArg d (funext fun a => Fin.ext ?_)))
  · match a with
    | ⟨0, _⟩ => rfl
    | ⟨1, _⟩ => show ((r.val * 8 + j.val) * 704 + q.val) / 5632 = r.val; omega
  · match a with
    | ⟨0, _⟩ => rfl
    | ⟨1, _⟩ => show ((r.val * 8 + j.val) * 704 + q.val) % 5632 = j.val * 704 + q.val; omega

end Cert.FfnDwUpRefIdeal.Lin

namespace Cert.Proof

open Idealize.ShloMosaic Idealize.SL.Sem

/-- Kernel and reference compute the same gradient of the first weight. -/
theorem ffnDwUp : Cert.algebraic_FfnDwUpIdeal_FfnDwUpRefIdeal := by
  intro m g m' g' _ hE
  refine ⟨fun c => Cert.FfnDwUpIdeal.Lin.G m c, ?_, ?_⟩
  · exact (θ_run (Cert.FfnDwUpIdeal.defs (F := Ideal)) _ _).mono
      (fun r h c => ⟨(h c).1.trans (Cert.FfnDwUpIdeal.Lin.final m c), (h c).2⟩) (Cert.FfnDwUpIdeal.Value.run_blocks (F := Ideal) m g)
  · refine (θ_run (Cert.FfnDwUpRefIdeal.defs (F := Ideal)) _ _).mono (fun r h c => ⟨?_, (h c).2⟩) (Cert.FfnDwUpRefIdeal.Value.run (F := Ideal) m' g')
    refine (h c).1.trans ((Cert.FfnDwUpRefIdeal.Read.val_main_v6_eq _ _).trans ((Cert.FfnDwUpRefIdeal.Lin.result _ _).trans ?_))
    exact congrArg₂ Cert.FfnDwUpIdeal.Lin.grad (hE c).1 (hE c).2

end Cert.Proof

end
-- ==== Proof.Lin.DwDown.lean ====
/- The gradient of a feed-forward layer's second weight, kernel and reference: the transposed activations times half the
   cotangent, the kernel a quarter of the rows at a time. -/
module

public import proofs.«01_k».proof.Defs
public import proofs.«01_k».proof.Proof.Gen.FfnDwDownIdeal.Value
public import proofs.«01_k».proof.Proof.Gen.FfnDwDownRefIdeal.Read
public import Idealize.ShloMosaic.Lib.Pointwise
public import Idealize.ShloMosaic.Lib.StableHlo.RunRead

@[expose] public section

set_option maxRecDepth 16384

noncomputable section

namespace Cert.FfnDwDownIdeal.Lin

open Cert.FfnDwDownIdeal Cert.FfnDwDownIdeal.Gen
open Idealize.ShloMosaic hiding ix0 ix1 ix2 ix3 ix4
open Idealize.ShloMosaic.TcCoe Idealize.ShloMosaic.ValueIdx Idealize.SL.Sem

/-- Half of a cotangent. -/
def half (d : FVec Ideal S4096x1024 .f32) : FVec Ideal S4096x1024 .f32 := fun i => Ideal.ofBits .f32 0x3F000000#32 * d i

/-- Entry `(r, q)` of the gradient: over the rows, the activations' column `r` times half the cotangent's column `q`. -/
def grad (x : FVec Ideal S4096x2816 .f32) (d : FVec Ideal S4096x1024 .f32) : FVec Ideal S2816x1024 .bf16 := fun i =>
  ∑ t : Fin 4096, x (ix2 t (i 0 : Fin 2816)) * half d (ix2 t (i 1 : Fin 1024))

variable (m : (ℓ : Loc nD τ sig) → Buf (Elt Ideal) ℓ) (c : Dev nD)

/-- One block: the product of the transposed first operand and the second. -/
theorem block (x0 : Vec Ideal S1x4096x704 .bf16) (x1 : Vec Ideal S4096x1024 .bf16) (r : Fin 704) (q : Fin 1024) :
    k0_pay1 x0 x1 (ix2 r q) = ∑ t : Fin 4096, x0 (ix3 (0 : Fin 1) t r) * x1 (ix2 t q) := by
  pointwise [k0_pay1]
  rfl

/-- The first operand as the call finds it: the activations' columns in four parts. -/
theorem entry0 (j : Fin 4) (t : Fin 4096) (q : Fin 704) :
    V m c main_v2 (ix3 j t q) = m ((c : Thread nD τ).loc main_arg0) (ix2 t (⟨j.val * 704 + q.val, by omega⟩ : Fin 2816)) := by
  have e : V m c main_v2 = truncf (F := Ideal) .bf16 (transpose S4x4096x704 [1, 0, 2]
      (shapeCast S4096x4x704 (m ((c : Thread nD τ).loc main_arg0)) shapeCasts_S4096x2816_S4096x4x704) transposes_S4096x4x704_S4x4096x704_1_0_2) bitsLt_bf16_f32 := by
    unfold V hostOps0
    after_reads_simp
    rfl
  rw [e]
  pointwise []
  rfl

/-- The second operand as the call finds it: half the cotangent. -/
theorem entry1 (t : Fin 4096) (q : Fin 1024) : V m c main_v5 (ix2 t q) = half (m ((c : Thread nD τ).loc main_arg1)) (ix2 t q) := by
  have e : V m c main_v5 = truncf (F := Ideal) .bf16 (mulf (F := Ideal) (φ := .f32)
      (broadcastInDim S4096x1024 ![] bcast_S_S4096x1024 (constant (F := Ideal) S_ .f32 0x3F000000#32)) (m ((c : Thread nD τ).loc main_arg1))) bitsLt_bf16_f32 := by
    unfold V hostOps0
    after_reads_simp
  rw [e]; rfl

/-- The printed index maps over the four points: the first operand goes quarter by quarter, the second is one block. -/
theorem maps : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0 ∧ t.val < 4 ∧ (cfg0.win 2).flush t = true :=
  (by decide +kernel : ∀ t : Fin grid0.N, _)

/-- The first operand's block at a point. -/
theorem blk0 (t : Fin cfg0.N) (ht : t.val < 4) (k : Fin 4096) (r : Fin 704) :
    (iblk m c 0 t : Vec Ideal S1x4096x704 .bf16) (ix3 (0 : Fin 1) k r)
      = m ((c : Thread nD τ).loc main_arg0) (ix2 k (⟨t.val * 704 + r.val, by omega⟩ : Fin 2816)) := by
  obtain ⟨a0, a1, a2, -⟩ := maps t
  refine Eq.trans (?_ : _ = V m c main_v2 (ix3 (⟨t.val, ht⟩ : Fin 4) k r)) (entry0 m c ⟨t.val, ht⟩ k r)
  unfold iblk
  refine congrArg (V m c main_v2) (funext fun a => Fin.ext ?_)
  match a with
  | ⟨0, _⟩ => show win0_0.index t (0 : Fin 3) * 1 + 1 * 0 = t.val; omega
  | ⟨1, _⟩ => show win0_0.index t (1 : Fin 3) * 4096 + 1 * k.val = k.val; omega
  | ⟨2, _⟩ => show win0_0.index t (2 : Fin 3) * 704 + 1 * r.val = r.val; omega

/-- The second operand's block at a point. -/
theorem blk1 (t : Fin cfg0.N) (k : Fin 4096) (q : Fin 1024) :
    (iblk m c 1 t : Vec Ideal S4096x1024 .bf16) (ix2 k q) = half (m ((c : Thread nD τ).loc main_arg1)) (ix2 k q) := by
  obtain ⟨-, -, -, a0, a1, -⟩ := maps t
  refine Eq.trans (?_ : _ = V m c main_v5 (ix2 k q)) (entry1 m c k q)
  unfold iblk
  refine congrArg (V m c main_v5) (funext fun a => Fin.ext ?_)
  match a with
  | ⟨0, _⟩ => show win0_1.index t (0 : Fin 2) * 4096 + 1 * k.val = k.val; omega
  | ⟨1, _⟩ => show win0_1.index t (1 : Fin 2) * 1024 + 1 * q.val = q.val; omega

/-- The gradient of the memory's arguments. -/
abbrev G (c : Dev nD) : Buf (Elt Ideal) ((c : Thread nD τ).loc main_v6) :=
  grad (m ((c : Thread nD τ).loc main_arg0)) (m ((c : Thread nD τ).loc main_arg1))

/-- What a point writes back is its part of the gradient. -/
theorem flushed_eq (t : Fin cfg0.N) : (dats m 0 c).flushed 2 t = ((cfg0.win 2).blk t).view.read (Elt Ideal) (G m c) := by
  obtain ⟨-, -, -, -, -, e0, e1, ht, -⟩ := maps t
  rw [Value.flushed2]
  unfold out0_2
  rw [View.canon_unit_zero (by decide), View.ld_unit_zero (by decide), View.ld_unit_zero (by decide)]
  funext y
  have ey : ((cfg0.win 2).xinj (grid0.coords t) y : S704x1024.Idx) = ix2 (y 0 : Fin 704) (y 1 : Fin 1024) := funext fun a => Fin.ext (by
    match a with
    | ⟨0, _⟩ => rfl
    | ⟨1, _⟩ => rfl)
  show k0_pay1 (iblk m c 0 t) (iblk m c 1 t) ((cfg0.win 2).xinj (grid0.coords t) y) = G m c (((cfg0.win 2).blk t).view.emb y)
  refine (congrArg (k0_pay1 (iblk m c 0 t) (iblk m c 1 t)) ey).trans ((block (iblk m c 0 t) (iblk m c 1 t) (y 0 : Fin 704) (y 1 : Fin 1024)).trans ?_)
  have f0 : (((cfg0.win 2).blk t).view.emb y 0).val = t.val * 704 + (y 0).val := by
    show win0_2.index t (0 : Fin 2) * 704 + 1 * (y 0).val = _; rw [e0]; omega
  have f1 : (((cfg0.win 2).blk t).view.emb y 1).val = (y 1).val := by
    show win0_2.index t (1 : Fin 2) * 1024 + 1 * (y 1).val = (y 1).val; omega
  unfold G grad
  refine Finset.sum_congr rfl fun k _ => congrArg₂ (· * ·) ((blk0 m c t ht k _).trans ?_) ((blk1 m c t k _).trans ?_)
  · exact congrArg (m ((c : Thread nD τ).loc main_arg0)) (congrArg (ix2 k) (Fin.ext f0.symm))
  · exact congrArg (half (m ((c : Thread nD τ).loc main_arg1))) (congrArg (ix2 k) (Fin.ext f1.symm))

/-- Every entry is in some point's block. -/
theorem covered (i : S2816x1024.Idx) : ∃ t : Fin cfg0.N, (cfg0.win 2).flush t = true ∧ i ∈ ((cfg0.win 2).blk t).view.set := by
  have h0 : (i 0).val < 2816 := (i 0).isLt
  have h1 : (i 1).val < 1024 := (i 1).isLt
  have hq : (i 0).val / 704 < 4 := by omega
  let t : Fin cfg0.N := ⟨(i 0).val / 704, lt_of_lt_of_eq hq N_0.symm⟩
  obtain ⟨-, -, -, -, -, e0, e1, ht, hf⟩ := maps t
  have et : win0_2.index t (0 : Fin 2) = (i 0).val / 704 := e0
  refine ⟨t, hf, ?_⟩
  show i ∈ ((View.whole main_v6).slice (win0_2.rect t)).set
  rw [View.set_slice_whole, Rect.mem_set_unit]
  intro a
  match a with
  | ⟨0, _⟩ => show win0_2.index t (0 : Fin 2) * 704 ≤ (i 0).val ∧ (i 0).val < win0_2.index t (0 : Fin 2) * 704 + 704; omega
  | ⟨1, _⟩ => show win0_2.index t (1 : Fin 2) * 1024 ≤ (i 1).val ∧ (i 1).val < win0_2.index t (1 : Fin 2) * 1024 + 1024; omega

/-- The kernel's result. -/
theorem final : (dats m 0 c).arrAt 2 cfg0.N = G m c :=
  (dats m 0 c).arrAt_eq_of_cover 2 _ (fun t _ => flushed_eq m c t) covered

end Cert.FfnDwDownIdeal.Lin

namespace Cert.FfnDwDownRefIdeal.Lin

open Cert.FfnDwDownRefIdeal Cert.FfnDwDownRefIdeal.Gen
open Idealize.ShloMosaic hiding ix0 ix1 ix2 ix3 ix4
open Idealize.ShloMosaic.TcCoe Idealize.ShloMosaic.ValueIdx

/-- The reference's result. -/
theorem result (x : FVec Ideal S4096x2816 .f32) (d : FVec Ideal S4096x1024 .f32) : Read.val_main_v8 (F := Ideal) x d = Cert.FfnDwDownIdeal.Lin.grad x d := by
  funext i
  rw [Read.val_main_v8_apply, Read.val_main_v7_apply]
  show Read.val_main_v6 (F := Ideal) x d _ = _
  rw [Read.val_main_v6_apply]
  unfold Cert.FfnDwDownIdeal.Lin.grad
  refine Finset.sum_congr rfl fun k _ => (mul_comm _ _).trans (congrArg₂ (· * ·) (congrArg x (funext fun a => Fin.ext ?_)) (congrArg (Cert.FfnDwDownIdeal.Lin.half d) (funext fun a => Fin.ext ?_)))
  · match a with
    | ⟨0, _⟩ => rfl
    | ⟨1, _⟩ => rfl
  · match a with
    | ⟨0, _⟩ => rfl
    | ⟨1, _⟩ => rfl

end Cert.FfnDwDownRefIdeal.Lin

namespace Cert.Proof

open Idealize.ShloMosaic Idealize.SL.Sem

/-- Kernel and reference compute the same gradient of the second weight. -/
theorem ffnDwDown : Cert.algebraic_FfnDwDownIdeal_FfnDwDownRefIdeal := by
  intro m g m' g' _ hE
  refine ⟨fun c => Cert.FfnDwDownIdeal.Lin.G m c, ?_, ?_⟩
  · exact (θ_run (Cert.FfnDwDownIdeal.defs (F := Ideal)) _ _).mono
      (fun r h c => ⟨(h c).1.trans (Cert.FfnDwDownIdeal.Lin.final m c), (h c).2⟩) (Cert.FfnDwDownIdeal.Value.run_blocks (F := Ideal) m g)
  · refine (θ_run (Cert.FfnDwDownRefIdeal.defs (F := Ideal)) _ _).mono (fun r h c => ⟨?_, (h c).2⟩) (Cert.FfnDwDownRefIdeal.Value.run (F := Ideal) m' g')
    refine (h c).1.trans ((Cert.FfnDwDownRefIdeal.Read.val_main_v8_eq _ _).trans ((Cert.FfnDwDownRefIdeal.Lin.result _ _).trans ?_))
    exact congrArg₂ Cert.FfnDwDownIdeal.Lin.grad (hE c).1 (hE c).2

end Cert.Proof

end
-- ==== Proof.Lin.MixDx.lean ====
/- The gradient that the mixing layer's input projection sends to its input, kernel and reference: the scaled cotangent of the
   residual sum plus the cotangent of the projection times the transposed weight, the kernel a part of the columns at a time. -/
module

public import proofs.«01_k».proof.Defs
public import proofs.«01_k».proof.Proof.Gen.MixDxIdeal.Value
public import proofs.«01_k».proof.Proof.Gen.MixDxRefIdeal.Read
public import proofs.«01_k».proof.Proof.Lin.Parts
public import Idealize.ShloMosaic.Lib.Pointwise
public import Idealize.ShloMosaic.Lib.StableHlo.RunRead
public import Idealize.ShloMosaic.Lib.Tactic

@[expose] public section

set_option maxRecDepth 16384

noncomputable section

namespace Cert.MixDxIdeal.Lin

open Cert.MixDxIdeal Cert.MixDxIdeal.Gen
open Idealize.ShloMosaic hiding ix0 ix1 ix2 ix3 ix4
open Idealize.ShloMosaic.TcCoe Idealize.ShloMosaic.ValueIdx Idealize.SL.Sem

/-- Part `a` of entry `(R, q)` of the product with the transposed weight: over the part's columns. -/
def part (d : FVec Ideal S4096x7168 .f32) (w : FVec Ideal S1024x7168 .f32) (R : Fin 4096) (q : Fin 1024) (a : ℕ) : EReal :=
  if h : a < 7 then ∑ s : Fin 1024, (d (ix2 R (⟨a * 1024 + s.val, by omega⟩ : Fin 7168)) : EReal)
    * w (ix2 q (⟨a * 1024 + s.val, by omega⟩ : Fin 7168)) else 0

/-- Entry `(R, q)` after the first `k` parts. -/
def upto (z : FVec Ideal S4096x1024 .f32) (d : FVec Ideal S4096x7168 .f32) (w : FVec Ideal S1024x7168 .f32)
    (R : Fin 4096) (q : Fin 1024) (k : ℕ) : EReal :=
  (Ideal.ofBits .f32 0x3FD744FD#32 : EReal) * z (ix2 R q) + ∑ a ∈ Finset.range k, part d w R q a

/-- The gradient: every entry after all seven parts. -/
def grad (z : FVec Ideal S4096x1024 .f32) (d : FVec Ideal S4096x7168 .f32) (w : FVec Ideal S1024x7168 .f32) :
    FVec Ideal S4096x1024 .f32 := fun i => upto z d w (i 0 : Fin 4096) (i 1 : Fin 1024) 7

variable (m : (ℓ : Loc nD τ sig) → Buf (Elt Ideal) ℓ) (c : Dev nD)

theorem hz : (![0, 0] : Fin 2 → Nat) = fun _ => 0 := by decide

/-- One part added to the running sum. -/
theorem block (x0 : Vec Ideal S1024x1024 .f32) (x1 x2 : Vec Ideal S1024x1024 .bf16) (r q : Fin 1024) :
    k0_pay2 x0 x1 x2 (ix2 r q) = x0 (ix2 r q) + ∑ s : Fin 1024, x1 (ix2 r s) * x2 (ix2 q s) := by
  pointwise [k0_pay2]
  rfl

/-- Where the running sum starts. -/
theorem start (x : Vec Ideal S1024x1024 .f32) (r q : Fin 1024) :
    k0_pay1 x (ix2 r q) = Ideal.ofBits .f32 0x3FD744FD#32 * x (ix2 r q) := by
  pointwise [k0_pay1]

/-- The first point of a row: the scratch ends holding the start and the first part. -/
theorem scratch_A (i : grid0.Coords) (a2 : Memref sig .tc .vmem S1024x1024 .f32) (h2 : a2.IsWhole) (a3 : Memref sig .tc .vmem S1024x1024 .bf16)
    (h3 : a3.IsWhole) (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S1024x1024 .f32) (h7 : a7.IsWhole)
    (a8 : Memref sig .tc .vmem S1024x1024 .f32) (h8 : a8.IsWhole) (hc0 : cond0_0 i) (hc1 : cond0_1 i) (hc2 : ¬cond0_2 i) (hc3 : ¬cond0_3 i) (hc4 : ¬cond0_4 i)
    (x0 : Vec Ideal S1024x1024 .f32) (x1 x2 x3 x4 : Vec Ideal S1024x1024 .bf16) :
    sout0_A_0 c i a2 h2 a3 h3 a4 h4 a5 h5 a6 h6 a7 h7 a8 h8 hc0 hc1 hc2 hc3 hc4 x0 x1 x2 x3 x4 = k0_pay2 (k0_pay1 x0) x1 x4 := by
  unfold sout0_A_0
  rw [View.read_writes_eq_canon _ _ _ (scover0_A_0 c i a2 h2 a3 h3 a4 h4 a5 h5 a6 h6 a7 h7 a8 h8 hc0 hc1 hc2 hc3 hc4 x0 x1 x2 x3 x4)]
  unfold kernelRun0_A
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h6.read_unread, h8.read_unread,
    View.ld_unit_zero (S := S1024x1024) hz]

/-- A point of the first three parts. -/
theorem scratch_B (i : grid0.Coords) (a2 : Memref sig .tc .vmem S1024x1024 .f32) (h2 : a2.IsWhole) (a3 : Memref sig .tc .vmem S1024x1024 .bf16)
    (h3 : a3.IsWhole) (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i) (hc2 : ¬cond0_2 i) (hc3 : ¬cond0_3 i) (hc4 : ¬cond0_4 i)
    (x0 : Vec Ideal S1024x1024 .f32) (x1 x2 x3 x4 : Vec Ideal S1024x1024 .bf16) (xs : Vec Ideal S1024x1024 .f32) :
    sout0_B_0 c i a2 h2 a3 h3 a4 h4 a5 h5 a6 h6 a7 h7 a8 h8 hc0 hc1 hc2 hc3 hc4 x0 x1 x2 x3 x4 xs = k0_pay2 xs x1 x4 := by
  unfold sout0_B_0
  rw [View.read_writes_eq_canon _ _ _ (scover0_B_0 c i a2 h2 a3 h3 a4 h4 a5 h5 a6 h6 a7 h7 a8 h8 hc0 hc1 hc2 hc3 hc4 x0 x1 x2 x3 x4 xs)]
  unfold kernelRun0_B
  dsimp only
  try sl_unfold_words
  rw [View.canon_unit_zero hz]
  simp only [View.readAt_eq_ld, h2.read_unread, h3.read_unread, h4.read_unread, h5.read_unread, h6.read_unread, h8.read_unread,
    View.ld_unit_zero (S := S1024x1024) hz]

/-- The point of the middle part. -/
theorem scratch_C (i : grid0.Coords) (a2 : Memref sig .tc .vmem S1024x1024 .f32) (h2 : a2.IsWhole) (a3 : Memref sig .tc .vmem S1024x1024 .bf16)
    (h3 : a3.IsWhole) (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S1024x1024 .f32) (h7 : a7.IsWhole)
    (a8 : Memref sig .tc .vmem S1024x1024 .f32) (h8 : a8.IsWhole) (hc0 : ¬cond0_0 i) (hc1 : ¬cond0_1 i) (hc2 : cond0_2 i) (hc3 : ¬cond0_3 i) (hc4 : ¬cond0_4 i)
    (x0 : Vec Ideal S1024x1024 .f32) (x1 x2 x3 x4 : Vec Ideal S1024x1024 .bf16) (xs : Vec Ideal S1024x1024 .f32) :
    sout0_C_0 c i a2 h2 a3 h3 a4 h4 a5 h5 a6 h6 a7 h7 a8 h8 hc0 hc1 hc2 hc3 hc4 x0 x1 x2 x3 x4 xs = k0_pay2 xs x2 x4 := by
  unfold sout0_C_0
  rw [View.read_writes_eq_canon _ _ _ (scover0_C_0 c i a2 h2 a3 h3 a4 h4 a5 h5 a6 h6 a7 h7 a8 h8 hc0 hc1 hc2 hc3 hc4 x0 x1 x2 x3 x4 xs)]
  unfold kernelRun0_C
  dsimp only
  try sl_unfold_words
  rw [View.canon_unit_zero hz]
  simp only [View.readAt_eq_ld, h2.read_unread, h3.read_unread, h4.read_unread, h5.read_unread, h6.read_unread, h8.read_unread,
    View.ld_unit_zero (S := S1024x1024) hz]
  rfl

/-- A point of the last three parts. -/
theorem scratch_D (i : grid0.Coords) (a2 : Memref sig .tc .vmem S1024x1024 .f32) (h2 : a2.IsWhole) (a3 : Memref sig .tc .vmem S1024x1024 .bf16)
    (h3 : a3.IsWhole) (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S1024x1024 .f32) (h7 : a7.IsWhole)
    (a8 : Memref sig .tc .vmem S1024x1024 .f32) (h8 : a8.IsWhole) (hc0 : ¬cond0_0 i) (hc1 : ¬cond0_1 i) (hc2 : ¬cond0_2 i) (hc3 : cond0_3 i) (hc4 : ¬cond0_4 i)
    (x0 : Vec Ideal S1024x1024 .f32) (x1 x2 x3 x4 : Vec Ideal S1024x1024 .bf16) (xs : Vec Ideal S1024x1024 .f32) :
    sout0_D_0 c i a2 h2 a3 h3 a4 h4 a5 h5 a6 h6 a7 h7 a8 h8 hc0 hc1 hc2 hc3 hc4 x0 x1 x2 x3 x4 xs = k0_pay2 xs x3 x4 := by
  unfold sout0_D_0
  rw [View.read_writes_eq_canon _ _ _ (scover0_D_0 c i a2 h2 a3 h3 a4 h4 a5 h5 a6 h6 a7 h7 a8 h8 hc0 hc1 hc2 hc3 hc4 x0 x1 x2 x3 x4 xs)]
  unfold kernelRun0_D
  dsimp only
  try sl_unfold_words
  rw [View.canon_unit_zero hz]
  simp only [View.readAt_eq_ld, h2.read_unread, h3.read_unread, h4.read_unread, h5.read_unread, h6.read_unread, h8.read_unread,
    View.ld_unit_zero (S := S1024x1024) hz]
  rfl

/-- The last point of a row: the result is the running sum and the last part. -/
theorem out_E (i : grid0.Coords) (a2 : Memref sig .tc .vmem S1024x1024 .f32) (h2 : a2.IsWhole) (a3 : Memref sig .tc .vmem S1024x1024 .bf16)
    (h3 : a3.IsWhole) (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S1024x1024 .f32) (h7 : a7.IsWhole)
    (a8 : Memref sig .tc .vmem S1024x1024 .f32) (h8 : a8.IsWhole) (hc0 : ¬cond0_0 i) (hc1 : ¬cond0_1 i) (hc2 : ¬cond0_2 i) (hc3 : cond0_3 i) (hc4 : cond0_4 i)
    (x0 : Vec Ideal S1024x1024 .f32) (x1 x2 x3 x4 : Vec Ideal S1024x1024 .bf16) (xs : Vec Ideal S1024x1024 .f32) :
    out0_E_5 c i a2 h2 a3 h3 a4 h4 a5 h5 a6 h6 a7 h7 a8 h8 hc0 hc1 hc2 hc3 hc4 x0 x1 x2 x3 x4 xs = k0_pay2 xs x3 x4 := by
  unfold out0_E_5
  rw [View.read_writes_eq_canon _ _ _ (cover0_E_5 c i a2 h2 a3 h3 a4 h4 a5 h5 a6 h6 a7 h7 a8 h8 hc0 hc1 hc2 hc3 hc4 x0 x1 x2 x3 x4 xs)]
  unfold kernelRun0_E
  dsimp only
  sl_unfold_words
  rw [View.canon_unit_zero hz, View.readCov_unit_zero (S := S1024x1024) _ hz]
  simp only [View.readAt_eq_ld, h2.read_unread, h3.read_unread, h4.read_unread, h5.read_unread, h6.read_unread, h8.read_unread,
    View.ld_unit_zero (S := S1024x1024) hz]
  rfl

/-- The first operand is an argument of the program. -/
theorem entry0 : V m c main_arg0 = m ((c : Thread nD τ).loc main_arg0) := V_main_arg0 m c

/-- The cotangent's first three parts as the call finds them. -/
theorem entry1 (t : Fin 4096) (q : Fin 3072) :
    V m c main_v1 (ix2 t q) = m ((c : Thread nD τ).loc main_arg1) (ix2 t (⟨0 + q.val, by omega⟩ : Fin 7168)) := by
  have e : V m c main_v1 = extractStridedSlice S4096x3072 ![0, 0] (truncf (F := Ideal) .bf16 (m ((c : Thread nD τ).loc main_arg1)) bitsLt_bf16_f32) slices_S4096x7168_S4096x3072_0_0 := by
    unfold V hostOps0
    after_reads_simp
  rw [e]
  refine (extractStridedSlice_apply ![0, 0] (truncf (F := Ideal) .bf16 (m ((c : Thread nD τ).loc main_arg1)) bitsLt_bf16_f32) slices_S4096x7168_S4096x3072_0_0 (ix2 t q) (ix2 t (⟨0 + q.val, by omega⟩ : Fin 7168)) (fun a => ?_)).trans rfl
  match a with
  | ⟨0, _⟩ => show t.val = 0 + t.val; omega
  | ⟨1, _⟩ => rfl

/-- The cotangent's middle part as the call finds it. -/
theorem entry2 (t : Fin 4096) (q : Fin 1024) :
    V m c main_v2 (ix2 t q) = m ((c : Thread nD τ).loc main_arg1) (ix2 t (⟨3072 + q.val, by omega⟩ : Fin 7168)) := by
  have e : V m c main_v2 = extractStridedSlice S4096x1024 ![0, 3072] (truncf (F := Ideal) .bf16 (m ((c : Thread nD τ).loc main_arg1)) bitsLt_bf16_f32) slices_S4096x7168_S4096x1024_0_3072 := by
    unfold V hostOps0
    after_reads_simp
  rw [e]
  refine (extractStridedSlice_apply ![0, 3072] (truncf (F := Ideal) .bf16 (m ((c : Thread nD τ).loc main_arg1)) bitsLt_bf16_f32) slices_S4096x7168_S4096x1024_0_3072 (ix2 t q) (ix2 t (⟨3072 + q.val, by omega⟩ : Fin 7168)) (fun a => ?_)).trans rfl
  match a with
  | ⟨0, _⟩ => show t.val = 0 + t.val; omega
  | ⟨1, _⟩ => rfl

/-- The cotangent's last three parts as the call finds them. -/
theorem entry3 (t : Fin 4096) (q : Fin 3072) :
    V m c main_v3 (ix2 t q) = m ((c : Thread nD τ).loc main_arg1) (ix2 t (⟨4096 + q.val, by omega⟩ : Fin 7168)) := by
  have e : V m c main_v3 = extractStridedSlice S4096x3072 ![0, 4096] (truncf (F := Ideal) .bf16 (m ((c : Thread nD τ).loc main_arg1)) bitsLt_bf16_f32) slices_S4096x7168_S4096x3072_0_4096 := by
    unfold V hostOps0
    after_reads_simp
  rw [e]
  refine (extractStridedSlice_apply ![0, 4096] (truncf (F := Ideal) .bf16 (m ((c : Thread nD τ).loc main_arg1)) bitsLt_bf16_f32) slices_S4096x7168_S4096x3072_0_4096 (ix2 t q) (ix2 t (⟨4096 + q.val, by omega⟩ : Fin 7168)) (fun a => ?_)).trans rfl
  match a with
  | ⟨0, _⟩ => show t.val = 0 + t.val; omega
  | ⟨1, _⟩ => rfl

/-- The weight as the call finds it. -/
theorem entry4 (t : Fin 1024) (q : Fin 7168) : V m c main_v4 (ix2 t q) = m ((c : Thread nD τ).loc main_arg2) (ix2 t q) := by
  have e : V m c main_v4 = truncf (F := Ideal) .bf16 (m ((c : Thread nD τ).loc main_arg2)) bitsLt_bf16_f32 := by
    unfold V hostOps0
    after_reads_simp
  rw [e]; rfl

/-- The printed index maps: point `t` works on row block `t / 7` and part `t % 7`. -/
theorem maps : ∀ t : Fin cfg0.N, win0_0.index t (0 : Fin 2) = t.val / 7 ∧ win0_0.index t (1 : Fin 2) = 0
    ∧ win0_1.index t (0 : Fin 2) = t.val / 7 ∧ win0_1.index t (1 : Fin 2) = min (t.val % 7) 2
    ∧ win0_2.index t (0 : Fin 2) = t.val / 7 ∧ win0_2.index t (1 : Fin 2) = 0
    ∧ win0_3.index t (0 : Fin 2) = t.val / 7 ∧ win0_3.index t (1 : Fin 2) = t.val % 7 - 4
    ∧ win0_4.index t (0 : Fin 2) = 0 ∧ win0_4.index t (1 : Fin 2) = t.val % 7
    ∧ win0_5.index t (0 : Fin 2) = t.val / 7 ∧ win0_5.index t (1 : Fin 2) = 0 ∧ t.val < 28 :=
  (by decide +kernel : ∀ t : Fin grid0.N, _)

/-- The residual cotangent's block at a point. -/
theorem blk0 (t : Fin cfg0.N) (R : Fin 4096) (r q : Fin 1024) (hR : R.val = t.val / 7 * 1024 + r.val) :
    (iblk m c 0 t : Vec Ideal S1024x1024 .f32) (ix2 r q) = m ((c : Thread nD τ).loc main_arg0) (ix2 R q) := by
  obtain ⟨a0, a1, -⟩ := maps t
  refine Eq.trans (?_ : _ = V m c main_arg0 (ix2 R q)) (congrFun (entry0 m c) _)
  unfold iblk
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 1024 + 1 * q.val = q.val; omega

/-- The cotangent's block at a point of the first three parts. -/
theorem blk1 (t : Fin cfg0.N) (R : Fin 4096) (r s : Fin 1024) (hR : R.val = t.val / 7 * 1024 + r.val) (h : t.val % 7 < 7) (hk : t.val % 7 ≤ 2) :
    (iblk m c 1 t : Vec Ideal S1024x1024 .bf16) (ix2 r s)
      = m ((c : Thread nD τ).loc main_arg1) (ix2 R (⟨t.val % 7 * 1024 + s.val, by omega⟩ : Fin 7168)) := by
  obtain ⟨-, -, a0, a1, -⟩ := maps t
  refine Eq.trans (?_ : _ = V m c main_v1 (ix2 R (⟨t.val % 7 * 1024 + s.val, by omega⟩ : Fin 3072)))
    ((entry1 m c R _).trans (congrArg (fun k => m ((c : Thread nD τ).loc main_arg1) (ix2 R k)) (Fin.ext ?_)))
  · unfold iblk
    refine congrArg (V m c main_v1) (funext fun a => Fin.ext ?_)
    match a with
    | ⟨0, _⟩ => show win0_1.index t (0 : Fin 2) * 1024 + 1 * r.val = R.val; omega
    | ⟨1, _⟩ => show win0_1.index t (1 : Fin 2) * 1024 + 1 * s.val = t.val % 7 * 1024 + s.val; omega
  · show 0 + (t.val % 7 * 1024 + s.val) = t.val % 7 * 1024 + s.val; omega

/-- The cotangent's block at the point of the middle part. -/
theorem blk2 (t : Fin cfg0.N) (R : Fin 4096) (r s : Fin 1024) (hR : R.val = t.val / 7 * 1024 + r.val) (h : t.val % 7 < 7) (hk : t.val % 7 = 3) :
    (iblk m c 2 t : Vec Ideal S1024x1024 .bf16) (ix2 r s)
      = m ((c : Thread nD τ).loc main_arg1) (ix2 R (⟨t.val % 7 * 1024 + s.val, by omega⟩ : Fin 7168)) := by
  obtain ⟨-, -, -, -, a0, a1, -⟩ := maps t
  refine Eq.trans (?_ : _ = V m c main_v2 (ix2 R (⟨s.val, by omega⟩ : Fin 1024)))
    ((entry2 m c R _).trans (congrArg (fun k => m ((c : Thread nD τ).loc main_arg1) (ix2 R k)) (Fin.ext ?_)))
  · unfold iblk
    refine congrArg (V m c main_v2) (funext fun a => Fin.ext ?_)
    match a with
    | ⟨0, _⟩ => show win0_2.index t (0 : Fin 2) * 1024 + 1 * r.val = R.val; omega
    | ⟨1, _⟩ => show win0_2.index t (1 : Fin 2) * 1024 + 1 * s.val = s.val; omega
  · show 3072 + (s.val) = t.val % 7 * 1024 + s.val; omega

/-- The cotangent's block at a point of the last three parts. -/
theorem blk3 (t : Fin cfg0.N) (R : Fin 4096) (r s : Fin 1024) (hR : R.val = t.val / 7 * 1024 + r.val) (h : t.val % 7 < 7) (hk : 4 ≤ t.val % 7) :
    (iblk m c 3 t : Vec Ideal S1024x1024 .bf16) (ix2 r s)
      = m ((c : Thread nD τ).loc main_arg1) (ix2 R (⟨t.val % 7 * 1024 + s.val, by omega⟩ : Fin 7168)) := by
  obtain ⟨-, -, -, -, -, -, a0, a1, -⟩ := maps t
  refine Eq.trans (?_ : _ = V m c main_v3 (ix2 R (⟨(t.val % 7 - 4) * 1024 + s.val, by omega⟩ : Fin 3072)))
    ((entry3 m c R _).trans (congrArg (fun k => m ((c : Thread nD τ).loc main_arg1) (ix2 R k)) (Fin.ext ?_)))
  · unfold iblk
    refine congrArg (V m c main_v3) (funext fun a => Fin.ext ?_)
    match a with
    | ⟨0, _⟩ => show win0_3.index t (0 : Fin 2) * 1024 + 1 * r.val = R.val; omega
    | ⟨1, _⟩ => show win0_3.index t (1 : Fin 2) * 1024 + 1 * s.val = (t.val % 7 - 4) * 1024 + s.val; omega
  · show 4096 + ((t.val % 7 - 4) * 1024 + s.val) = t.val % 7 * 1024 + s.val; omega

/-- The weight's block at a point. -/
theorem blk4 (t : Fin cfg0.N) (q s : Fin 1024) (h : t.val % 7 < 7) :
    (iblk m c 4 t : Vec Ideal S1024x1024 .bf16) (ix2 q s)
      = m ((c : Thread nD τ).loc main_arg2) (ix2 q (⟨t.val % 7 * 1024 + s.val, by omega⟩ : Fin 7168)) := by
  obtain ⟨-, -, -, -, -, -, -, -, a0, a1, -⟩ := maps t
  refine Eq.trans (?_ : _ = V m c main_v4 (ix2 q (⟨t.val % 7 * 1024 + s.val, by omega⟩ : Fin 7168))) (entry4 m c q _)
  unfold iblk
  refine congrArg (V m c main_v4) (funext fun a => Fin.ext ?_)
  match a with
  | ⟨0, _⟩ => show win0_4.index t (0 : Fin 2) * 1024 + 1 * q.val = q.val; omega
  | ⟨1, _⟩ => show win0_4.index t (1 : Fin 2) * 1024 + 1 * s.val = t.val % 7 * 1024 + s.val; omega

/-- The entry of the gradient over the program's arguments after the first `k` parts. -/
abbrev at_ (R : Fin 4096) (q : Fin 1024) (k : ℕ) : EReal :=
  upto (m ((c : Thread nD τ).loc main_arg0)) (m ((c : Thread nD τ).loc main_arg1)) (m ((c : Thread nD τ).loc main_arg2)) R q k

/-- A point adds its part. -/
theorem added (t : Fin cfg0.N) (R : Fin 4096) (r q : Fin 1024) (xs : Vec Ideal S1024x1024 .f32) (x : Vec Ideal S1024x1024 .bf16)
    (h7 : t.val % 7 < 7) (hb : ∀ s : Fin 1024, x (ix2 r s) = m ((c : Thread nD τ).loc main_arg1) (ix2 R (⟨t.val % 7 * 1024 + s.val, by omega⟩ : Fin 7168)))
    (hx : xs (ix2 r q) = at_ m c R q (t.val % 7)) : k0_pay2 xs x (iblk m c 4 t) (ix2 r q) = at_ m c R q (t.val % 7 + 1) := by
  refine (block xs x (iblk m c 4 t) r q).trans ?_
  unfold at_ upto at hx ⊢
  rw [Finset.sum_range_succ, ← add_assoc]
  refine congrArg₂ (· + ·) hx ?_
  unfold part
  rw [dif_pos h7]
  exact Finset.sum_congr rfl fun s _ => congrArg₂ (· * ·) (hb s) (blk4 m c t q s h7)

/-- What the scratch holds after the first point of a row. -/
theorem first (t : Fin cfg0.N) (h0 : t.val % 7 = 0) (R : Fin 4096) (r q : Fin 1024) (hR : R.val = t.val / 7 * 1024 + r.val) :
    (outsAt0 m c t.val t.isLt).2 (ix2 r q) = at_ m c R q (t.val % 7 + 1) := by
  have e : (outsAt0 m c t.val t.isLt).2 = k0_pay2 (k0_pay1 (iblk m c 0 t)) (iblk m c 1 t) (iblk m c 4 t) := by
    rw [outsAt0_A m c t h0 (by omega) (by omega) (by omega) (by omega)]
    dsimp only
    rw [scratch_A]
  refine (congrFun e _).trans (added m c t R r q _ _ (by omega) (fun s => blk1 m c t R r s hR (by omega) (by omega)) ?_)
  refine (start (iblk m c 0 t) r q).trans ?_
  unfold at_ upto
  rw [h0]
  exact (congrArg (fun x : EReal => (Ideal.ofBits .f32 0x3FD744FD#32 : EReal) * x) (blk0 m c t R r q hR)).trans (add_zero _).symm

/-- What the scratch holds after a middle point of a row, over what it held before. -/
theorem middle (t : Fin cfg0.N) (h0 : ¬t.val % 7 = 0) (h6 : ¬t.val % 7 = 6) (R : Fin 4096) (r q : Fin 1024) (hR : R.val = t.val / 7 * 1024 + r.val)
    (hx : (outsAt0 m c (t.val - 1) (Nat.lt_of_le_of_lt (Nat.sub_le _ _) t.isLt)).2 (ix2 r q) = at_ m c R q (t.val % 7)) :
    (outsAt0 m c t.val t.isLt).2 (ix2 r q) = at_ m c R q (t.val % 7 + 1) := by
  have h7 : t.val % 7 < 7 := Nat.mod_lt _ (by decide)
  by_cases h1 : t.val % 7 ≤ 2
  · have e : (outsAt0 m c t.val t.isLt).2 = k0_pay2 (outsAt0 m c (t.val - 1) (Nat.lt_of_le_of_lt (Nat.sub_le _ _) t.isLt)).2 (iblk m c 1 t) (iblk m c 4 t) := by
      rw [outsAt0_B m c t h0 h1 (by omega) (by omega) h6]
      dsimp only
      rw [scratch_B]
    exact (congrFun e _).trans (added m c t R r q _ _ h7 (fun s => blk1 m c t R r s hR h7 h1) hx)
  · by_cases h2 : t.val % 7 = 3
    · have e : (outsAt0 m c t.val t.isLt).2 = k0_pay2 (outsAt0 m c (t.val - 1) (Nat.lt_of_le_of_lt (Nat.sub_le _ _) t.isLt)).2 (iblk m c 2 t) (iblk m c 4 t) := by
        rw [outsAt0_C m c t h0 h1 h2 (by omega) h6]
        dsimp only
        rw [scratch_C]
      exact (congrFun e _).trans (added m c t R r q _ _ h7 (fun s => blk2 m c t R r s hR h7 h2) hx)
    · have e : (outsAt0 m c t.val t.isLt).2 = k0_pay2 (outsAt0 m c (t.val - 1) (Nat.lt_of_le_of_lt (Nat.sub_le _ _) t.isLt)).2 (iblk m c 3 t) (iblk m c 4 t) := by
        rw [outsAt0_D m c t h0 h1 h2 (by omega) h6]
        dsimp only
        rw [scratch_D]
      exact (congrFun e _).trans (added m c t R r q _ _ h7 (fun s => blk3 m c t R r s hR h7 (by omega)) hx)

/-- What the scratch holds after a point that is not the last of its row. -/
theorem scratch : ∀ (n : ℕ) (hn : n < cfg0.N) (_ : ¬n % 7 = 6) (R : Fin 4096) (r q : Fin 1024) (_ : R.val = n / 7 * 1024 + r.val),
    (outsAt0 m c n hn).2 (ix2 r q) = at_ m c R q (n % 7 + 1) := by
  intro n
  induction n with
  | zero => exact fun hn h6 R r q hR => first m c ⟨0, hn⟩ rfl R r q hR
  | succ n ih =>
    intro hn h6 R r q hR
    by_cases h0 : (n + 1) % 7 = 0
    · exact first m c ⟨n + 1, hn⟩ h0 R r q hR
    · refine middle m c ⟨n + 1, hn⟩ h0 h6 R r q hR ((ih (Nat.lt_of_succ_lt hn) (by omega) R r q (by omega)).trans (congrArg (at_ m c R q) ?_))
      show n % 7 + 1 = (n + 1) % 7
      omega

/-- What the kernel's result holds. -/
def G : Buf (Elt Ideal) ((c : Thread nD τ).loc main_v5) :=
  grad (m ((c : Thread nD τ).loc main_arg0)) (m ((c : Thread nD τ).loc main_arg1)) (m ((c : Thread nD τ).loc main_arg2))

/-- What the last point of a row writes back is its rows of the gradient. -/
theorem flushed_eq (t : Fin cfg0.N) (hf : (cfg0.win 5).flush t = true) :
    (dats m 0 c).flushed 5 t = ((cfg0.win 5).blk t).view.read (Elt Ideal) (G m c) := by
  have h6 : t.val % 7 = 6 := (flush0_5 t).mp hf
  obtain ⟨-, -, -, -, -, -, -, -, -, -, e0, e1, ht⟩ := maps t
  rw [Value.flushed5_E m c t (by omega) (by omega) (by omega) (by omega) h6, out_E]
  funext y
  have ey : ((cfg0.win 5).xinj (grid0.coords t) y : S1024x1024.Idx) = ix2 (y 0 : Fin 1024) (y 1 : Fin 1024) := funext fun a => Fin.ext (by
    match a with
    | ⟨0, _⟩ => rfl
    | ⟨1, _⟩ => rfl)
  have f0 : (((cfg0.win 5).blk t).view.emb y 0).val = t.val / 7 * 1024 + (y 0).val := by
    show win0_5.index t (0 : Fin 2) * 1024 + 1 * (y 0).val = _; rw [e0]; omega
  have f1 : (((cfg0.win 5).blk t).view.emb y 1 : Fin 1024) = (y 1 : Fin 1024) := Fin.ext (by
    show win0_5.index t (1 : Fin 2) * 1024 + 1 * (y 1).val = (y 1).val; omega)
  show k0_pay2 _ (iblk m c 3 t) (iblk m c 4 t) ((cfg0.win 5).xinj (grid0.coords t) y) = G m c (((cfg0.win 5).blk t).view.emb y)
  refine (congrArg (k0_pay2 _ (iblk m c 3 t) (iblk m c 4 t)) ey).trans
    ((added m c t (((cfg0.win 5).blk t).view.emb y 0 : Fin 4096) (y 0 : Fin 1024) (y 1 : Fin 1024) _ _ (by omega) (fun s => blk3 m c t _ _ s f0 (by omega) (by omega)) ?_).trans ?_)
  · refine (scratch m c (t.val - 1) _ (by omega) (((cfg0.win 5).blk t).view.emb y 0 : Fin 4096) (y 0 : Fin 1024) (y 1 : Fin 1024) (by omega)).trans
      (congrArg (at_ m c _ _) (by omega))
  · rw [h6]
    exact congrArg (fun q => at_ m c (((cfg0.win 5).blk t).view.emb y 0 : Fin 4096) q 7) f1.symm

/-- Every entry is in the block of the last point of its row. -/
theorem covered (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have hq : 7 * ((i 0).val / 1024) + 6 < 28 := by omega
  let t : Fin cfg0.N := ⟨7 * ((i 0).val / 1024) + 6, lt_of_lt_of_eq hq N_0.symm⟩
  obtain ⟨-, -, -, -, -, -, -, -, -, -, e0, e1, ht⟩ := maps t
  have tv : t.val = 7 * ((i 0).val / 1024) + 6 := rfl
  refine ⟨t, (flush0_5 t).mpr (by omega), ?_⟩
  show i ∈ ((View.whole main_v5).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- The kernel's result is the gradient. -/
theorem final : (dats m 0 c).arrAt 5 cfg0.N = G m c :=
  (dats m 0 c).arrAt_eq_of_cover 5 _ (fun t hf => flushed_eq m c t hf) covered

end Cert.MixDxIdeal.Lin

namespace Cert.MixDxRefIdeal.Lin

open Cert.MixDxRefIdeal Cert.MixDxRefIdeal.Gen
open Idealize.ShloMosaic hiding ix0 ix1 ix2 ix3 ix4
open Idealize.ShloMosaic.TcCoe Idealize.ShloMosaic.ValueIdx Idealize.SL.Sem

/-- The seven parts together are the whole product. -/
theorem parts (d : FVec Ideal S4096x7168 .f32) (w : FVec Ideal S1024x7168 .f32) (R : Fin 4096) (q : Fin 1024) :
    ∑ a ∈ Finset.range 7, Cert.MixDxIdeal.Lin.part d w R q a
      = ∑ k : Fin 7168, (d (ix2 R k) : EReal) * w (ix2 q k) := by
  refine Eq.trans ?_ (Cert.Lin.sum_parts 7 1024 (fun k : Fin 7168 => (d (ix2 R k) : EReal) * w (ix2 q k)) (by omega)).symm
  rw [Finset.sum_range]
  refine Finset.sum_congr rfl fun a _ => ?_
  unfold Cert.MixDxIdeal.Lin.part
  rw [dif_pos a.isLt]

/-- Every entry over the whole product. -/
theorem whole (z : FVec Ideal S4096x1024 .f32) (d : FVec Ideal S4096x7168 .f32) (w : FVec Ideal S1024x7168 .f32) (R : Fin 4096) (q : Fin 1024) :
    Cert.MixDxIdeal.Lin.upto z d w R q 7
      = (∑ k : Fin 7168, (d (ix2 R k) : EReal) * w (ix2 q k)) + (Ideal.ofBits .f32 0x3FD744FD#32 : EReal) * z (ix2 R q) := by
  unfold Cert.MixDxIdeal.Lin.upto
  rw [parts, add_comm]

/-- The reference's result. -/
theorem result (z : FVec Ideal S4096x1024 .f32) (d : FVec Ideal S4096x7168 .f32) (w : FVec Ideal S1024x7168 .f32) :
    Read.val_main_v7 (F := Ideal) z d w = Cert.MixDxIdeal.Lin.grad z d w := by
  funext i
  rw [Read.val_main_v7_apply, Read.val_main_v6_apply, Read.val_main_v5_apply, Read.val_main_cst_1_apply]
  refine Eq.trans ?_ (whole z d w (i 0 : Fin 4096) (i 1 : Fin 1024)).symm
  refine congrArg₂ (· + ·) ?_ (congrArg (fun j => (Ideal.ofBits .f32 0x3FD744FD#32 : EReal) * z j) (funext fun a => Fin.ext ?_))
  · rw [Read.val_main_v4_apply]
    refine Finset.sum_congr rfl fun k _ => congrArg₂ (· * ·) (congrArg d (funext fun a => Fin.ext ?_)) ?_
    · match a with
      | ⟨0, _⟩ => rfl
      | ⟨1, _⟩ => rfl
    · refine congrArg w (funext fun a => Fin.ext ?_)
      match a with
      | ⟨0, _⟩ => rfl
      | ⟨1, _⟩ => rfl
  · match a with
    | ⟨0, _⟩ => rfl
    | ⟨1, _⟩ => rfl

end Cert.MixDxRefIdeal.Lin

namespace Cert.Proof

open Idealize.ShloMosaic Idealize.SL.Sem

/-- Kernel and reference compute the same gradient of the layer's input. -/
theorem mixDx : Cert.algebraic_MixDxIdeal_MixDxRefIdeal := by
  intro m g m' g' _ hE
  refine ⟨fun c => Cert.MixDxIdeal.Lin.G m c, ?_, ?_⟩
  · exact (θ_run (Cert.MixDxIdeal.defs (F := Ideal)) _ _).mono
      (fun r h c => ⟨(h c).1.trans (Cert.MixDxIdeal.Lin.final m c), (h c).2⟩) (Cert.MixDxIdeal.Value.run_blocks (F := Ideal) m g)
  · refine (θ_run (Cert.MixDxRefIdeal.defs (F := Ideal)) _ _).mono (fun r h c => ⟨?_, (h c).2⟩) (Cert.MixDxRefIdeal.Value.run (F := Ideal) m' g')
    refine (h c).1.trans ((Cert.MixDxRefIdeal.Read.val_main_v7_eq _ _ _).trans ((Cert.MixDxRefIdeal.Lin.result _ _ _).trans ?_))
    exact congr (congrArg₂ Cert.MixDxIdeal.Lin.grad (hE c).1 (hE c).2.1) (hE c).2.2

end Cert.Proof

end
-- ==== Proof.Lin.MixDw.lean ====
/- The gradient of the mixing layer's input projection's weight, kernel and reference: the transposed input times the cotangent
   of the projection, the kernel a part of the columns and half of the rows at a time. -/
module

public import proofs.«01_k».proof.Defs
public import proofs.«01_k».proof.Proof.Gen.MixDwIdeal.Frame
public import Idealize.ShloMosaic.Lib.Pipeline.Value
public import proofs.«01_k».proof.Proof.Gen.MixDwRefIdeal.Read
public import proofs.«01_k».proof.Proof.Lin.Parts
public import Idealize.ShloMosaic.Lib.Pointwise
public import Idealize.ShloMosaic.Lib.StableHlo.RunRead
public import Idealize.ShloMosaic.Lib.Tactic

@[expose] public section

set_option maxRecDepth 16384

noncomputable section

namespace Cert.MixDwIdeal.Lin

open Cert.MixDwIdeal Cert.MixDwIdeal.Gen
open Idealize.ShloMosaic hiding ix0 ix1 ix2 ix3 ix4
open Idealize.ShloMosaic.TcCoe Idealize.ShloMosaic.ValueIdx Idealize.SL.Sem

/-- Half `a` of entry `(r, Q)` of the gradient: over the half's rows. -/
def part (x : FVec Ideal S4096x1024 .f32) (d : FVec Ideal S4096x7168 .f32) (r : Fin 1024) (Q : Fin 7168) (a : ℕ) : EReal :=
  if h : a < 2 then ∑ s : Fin 2048, (x (ix2 (⟨a * 2048 + s.val, by omega⟩ : Fin 4096) r) : EReal)
    * d (ix2 (⟨a * 2048 + s.val, by omega⟩ : Fin 4096) Q) else 0

/-- The gradient: every entry over both halves. -/
def grad (x : FVec Ideal S4096x1024 .f32) (d : FVec Ideal S4096x7168 .f32) : FVec Ideal S1024x7168 .bf16 := fun i =>
  part x d (i 0 : Fin 1024) (i 1 : Fin 7168) 0 + part x d (i 0 : Fin 1024) (i 1 : Fin 7168) 1

variable (m : (ℓ : Loc nD τ sig) → Buf (Elt Ideal) ℓ) (c : Dev nD)

theorem hz : (![0, 0] : Fin 2 → Nat) = fun _ => 0 := by decide

/-- One half added to the running sum. -/
theorem block (x0 : Vec Ideal S1024x1024 .f32) (x1 x2 : Vec Ideal S2048x1024 .bf16) (r q : Fin 1024) :
    k0_pay2 x0 x1 x2 (ix2 r q) = x0 (ix2 r q) + ∑ s : Fin 2048, x1 (ix2 s r) * x2 (ix2 s q) := by
  pointwise [k0_pay2]
  rfl

/-- The running sum starts at zero. -/
theorem start (r q : Fin 1024) : (k0_pay1 (F := Ideal)) (ix2 r q) = (0 : EReal) := Ideal.ofBits_zero_f32

/-- The first point of a part among the first three: the scratch holds the first half. -/
theorem scratch_A (i : grid0.Coords) (a2 : Memref sig .tc .vmem S2048x1024 .bf16) (h2 : a2.IsWhole) (a3 : Memref sig .tc .vmem S2048x1024 .bf16)
    (h3 : a3.IsWhole) (a4 : Memref sig .tc .vmem S2048x1024 .bf16) (h4 : a4.IsWhole) (a5 : Memref sig .tc .vmem S2048x1024 .bf16) (h5 : a5.IsWhole)
    (a6 : Memref sig .tc .vmem S1024x1024 .bf16) (h6 : a6.IsWhole) (a7 : Memref sig .tc .vmem S1024x1024 .f32) (h7 : a7.IsWhole) (hc0 : cond0_0 i) (hc1 : cond0_1 i) (hc2 : ¬cond0_2 i) (hc3 : ¬cond0_3 i) (hc4 : ¬cond0_4 i)
    (x0 x1 x2 x3 : Vec Ideal S2048x1024 .bf16) :
    sout0_A_0 c i a2 h2 a3 h3 a4 h4 a5 h5 a6 h6 a7 h7 hc0 hc1 hc2 hc3 hc4 x0 x1 x2 x3 = k0_pay2 (k0_pay1 (F := Ideal)) x0 x1 := by
  unfold sout0_A_0
  rw [View.read_writes_eq_canon _ _ _ (scover0_A_0 c i a2 h2 a3 h3 a4 h4 a5 h5 a6 h6 a7 h7 hc0 hc1 hc2 hc3 hc4 x0 x1 x2 x3)]
  unfold kernelRun0_A
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h7.read_unread,
    View.ld_unit_zero (S := S1024x1024) hz, View.ld_unit_zero (S := S2048x1024) hz]

/-- The last point of a part among the first three: the result is both halves. -/
theorem out_B (i : grid0.Coords) (a2 : Memref sig .tc .vmem S2048x1024 .bf16) (h2 : a2.IsWhole) (a3 : Memref sig .tc .vmem S2048x1024 .bf16)
    (h3 : a3.IsWhole) (a4 : Memref sig .tc .vmem S2048x1024 .bf16) (h4 : a4.IsWhole) (a5 : Memref sig .tc .vmem S2048x1024 .bf16) (h5 : a5.IsWhole)
    (a6 : Memref sig .tc .vmem S1024x1024 .bf16) (h6 : a6.IsWhole) (a7 : Memref sig .tc .vmem S1024x1024 .f32) (h7 : a7.IsWhole) (hc0 : ¬cond0_0 i) (hc1 : cond0_1 i) (hc2 : ¬cond0_2 i) (hc3 : ¬cond0_3 i) (hc4 : cond0_4 i)
    (x0 x1 x2 x3 : Vec Ideal S2048x1024 .bf16) (xs : Vec Ideal S1024x1024 .f32) :
    out0_B_4 c i a2 h2 a3 h3 a4 h4 a5 h5 a6 h6 a7 h7 hc0 hc1 hc2 hc3 hc4 x0 x1 x2 x3 xs = k0_pay5 (k0_pay2 xs x0 x1) := by
  unfold out0_B_4
  rw [View.read_writes_eq_canon _ _ _ (cover0_B_4 c i a2 h2 a3 h3 a4 h4 a5 h5 a6 h6 a7 h7 hc0 hc1 hc2 hc3 hc4 x0 x1 x2 x3 xs)]
  unfold kernelRun0_B
  dsimp only
  sl_unfold_words
  rw [View.canon_unit_zero hz, View.readCov_unit_zero (S := S1024x1024) _ hz]
  simp only [View.readAt_eq_ld, h2.read_unread, h3.read_unread, h4.read_unread, h5.read_unread, h7.read_unread,
    View.ld_unit_zero (S := S1024x1024) hz, View.ld_unit_zero (S := S2048x1024) hz]

/-- The first point of the middle part: the scratch holds the first half. -/
theorem scratch_C (i : grid0.Coords) (a2 : Memref sig .tc .vmem S2048x1024 .bf16) (h2 : a2.IsWhole) (a3 : Memref sig .tc .vmem S2048x1024 .bf16)
    (h3 : a3.IsWhole) (a4 : Memref sig .tc .vmem S2048x1024 .bf16) (h4 : a4.IsWhole) (a5 : Memref sig .tc .vmem S2048x1024 .bf16) (h5 : a5.IsWhole)
    (a6 : Memref sig .tc .vmem S1024x1024 .bf16) (h6 : a6.IsWhole) (a7 : Memref sig .tc .vmem S1024x1024 .f32) (h7 : a7.IsWhole) (hc0 : cond0_0 i) (hc1 : ¬cond0_1 i) (hc2 : cond0_2 i) (hc3 : ¬cond0_3 i) (hc4 : ¬cond0_4 i)
    (x0 x1 x2 x3 : Vec Ideal S2048x1024 .bf16) :
    sout0_C_0 c i a2 h2 a3 h3 a4 h4 a5 h5 a6 h6 a7 h7 hc0 hc1 hc2 hc3 hc4 x0 x1 x2 x3 = k0_pay2 (k0_pay1 (F := Ideal)) x0 x2 := by
  unfold sout0_C_0
  rw [View.read_writes_eq_canon _ _ _ (scover0_C_0 c i a2 h2 a3 h3 a4 h4 a5 h5 a6 h6 a7 h7 hc0 hc1 hc2 hc3 hc4 x0 x1 x2 x3)]
  unfold kernelRun0_C
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h7.read_unread,
    View.ld_unit_zero (S := S1024x1024) hz, View.ld_unit_zero (S := S2048x1024) hz]
  rfl

/-- The last point of the middle part: the result is both halves. -/
theorem out_D (i : grid0.Coords) (a2 : Memref sig .tc .vmem S2048x1024 .bf16) (h2 : a2.IsWhole) (a3 : Memref sig .tc .vmem S2048x1024 .bf16)
    (h3 : a3.IsWhole) (a4 : Memref sig .tc .vmem S2048x1024 .bf16) (h4 : a4.IsWhole) (a5 : Memref sig .tc .vmem S2048x1024 .bf16) (h5 : a5.IsWhole)
    (a6 : Memref sig .tc .vmem S1024x1024 .bf16) (h6 : a6.IsWhole) (a7 : Memref sig .tc .vmem S1024x1024 .f32) (h7 : a7.IsWhole) (hc0 : ¬cond0_0 i) (hc1 : ¬cond0_1 i) (hc2 : cond0_2 i) (hc3 : ¬cond0_3 i) (hc4 : cond0_4 i)
    (x0 x1 x2 x3 : Vec Ideal S2048x1024 .bf16) (xs : Vec Ideal S1024x1024 .f32) :
    out0_D_4 c i a2 h2 a3 h3 a4 h4 a5 h5 a6 h6 a7 h7 hc0 hc1 hc2 hc3 hc4 x0 x1 x2 x3 xs = k0_pay5 (k0_pay2 xs x0 x2) := by
  unfold out0_D_4
  rw [View.read_writes_eq_canon _ _ _ (cover0_D_4 c i a2 h2 a3 h3 a4 h4 a5 h5 a6 h6 a7 h7 hc0 hc1 hc2 hc3 hc4 x0 x1 x2 x3 xs)]
  unfold kernelRun0_D
  dsimp only
  sl_unfold_words
  rw [View.canon_unit_zero hz, View.readCov_unit_zero (S := S1024x1024) _ hz]
  simp only [View.readAt_eq_ld, h2.read_unread, h3.read_unread, h4.read_unread, h5.read_unread, h7.read_unread,
    View.ld_unit_zero (S := S1024x1024) hz, View.ld_unit_zero (S := S2048x1024) hz]
  rfl

/-- The first point of a part among the last three: the scratch holds the first half. -/
theorem scratch_E (i : grid0.Coords) (a2 : Memref sig .tc .vmem S2048x1024 .bf16) (h2 : a2.IsWhole) (a3 : Memref sig .tc .vmem S2048x1024 .bf16)
    (h3 : a3.IsWhole) (a4 : Memref sig .tc .vmem S2048x1024 .bf16) (h4 : a4.IsWhole) (a5 : Memref sig .tc .vmem S2048x1024 .bf16) (h5 : a5.IsWhole)
    (a6 : Memref sig .tc .vmem S1024x1024 .bf16) (h6 : a6.IsWhole) (a7 : Memref sig .tc .vmem S1024x1024 .f32) (h7 : a7.IsWhole) (hc0 : cond0_0 i) (hc1 : ¬cond0_1 i) (hc2 : ¬cond0_2 i) (hc3 : cond0_3 i) (hc4 : ¬cond0_4 i)
    (x0 x1 x2 x3 : Vec Ideal S2048x1024 .bf16) :
    sout0_E_0 c i a2 h2 a3 h3 a4 h4 a5 h5 a6 h6 a7 h7 hc0 hc1 hc2 hc3 hc4 x0 x1 x2 x3 = k0_pay2 (k0_pay1 (F := Ideal)) x0 x3 := by
  unfold sout0_E_0
  rw [View.read_writes_eq_canon _ _ _ (scover0_E_0 c i a2 h2 a3 h3 a4 h4 a5 h5 a6 h6 a7 h7 hc0 hc1 hc2 hc3 hc4 x0 x1 x2 x3)]
  unfold kernelRun0_E
  dsimp only
  sl_unfold_words
  rw [View.canon_cons_unit_zero (S := S1024x1024) hz, View.readCov_unit_zero (S := S1024x1024) _ hz]
  simp only [View.readAt_eq_ld, h2.read_unread, h3.read_unread, h4.read_unread, h5.read_unread, h7.read_unread,
    View.ld_unit_zero (S := S1024x1024) hz, View.ld_unit_zero (S := S2048x1024) hz]
  rfl

/-- The last point of a part among the last three: the result is both halves. -/
theorem out_F (i : grid0.Coords) (a2 : Memref sig .tc .vmem S2048x1024 .bf16) (h2 : a2.IsWhole) (a3 : Memref sig .tc .vmem S2048x1024 .bf16)
    (h3 : a3.IsWhole) (a4 : Memref sig .tc .vmem S2048x1024 .bf16) (h4 : a4.IsWhole) (a5 : Memref sig .tc .vmem S2048x1024 .bf16) (h5 : a5.IsWhole)
    (a6 : Memref sig .tc .vmem S1024x1024 .bf16) (h6 : a6.IsWhole) (a7 : Memref sig .tc .vmem S1024x1024 .f32) (h7 : a7.IsWhole) (hc0 : ¬cond0_0 i) (hc1 : ¬cond0_1 i) (hc2 : ¬cond0_2 i) (hc3 : cond0_3 i) (hc4 : cond0_4 i)
    (x0 x1 x2 x3 : Vec Ideal S2048x1024 .bf16) (xs : Vec Ideal S1024x1024 .f32) :
    out0_F_4 c i a2 h2 a3 h3 a4 h4 a5 h5 a6 h6 a7 h7 hc0 hc1 hc2 hc3 hc4 x0 x1 x2 x3 xs = k0_pay5 (k0_pay2 xs x0 x3) := by
  unfold out0_F_4
  rw [View.read_writes_eq_canon _ _ _ (cover0_F_4 c i a2 h2 a3 h3 a4 h4 a5 h5 a6 h6 a7 h7 hc0 hc1 hc2 hc3 hc4 x0 x1 x2 x3 xs)]
  unfold kernelRun0_F
  dsimp only
  sl_unfold_words
  rw [View.canon_unit_zero hz, View.readCov_unit_zero (S := S1024x1024) _ hz]
  simp only [View.readAt_eq_ld, h2.read_unread, h3.read_unread, h4.read_unread, h5.read_unread, h7.read_unread,
    View.ld_unit_zero (S := S1024x1024) hz, View.ld_unit_zero (S := S2048x1024) hz]
  rfl

/-- The input as the call finds it. -/
theorem entry0 (t : Fin 4096) (q : Fin 1024) : V m c main_v1 (ix2 t q) = m ((c : Thread nD τ).loc main_arg0) (ix2 t q) := by
  have e : V m c main_v1 = truncf (F := Ideal) .bf16 (m ((c : Thread nD τ).loc main_arg0)) bitsLt_bf16_f32 := by
    unfold V hostOps0
    after_reads_simp
  rw [e]; rfl

/-- The cotangent's first three parts as the call finds them. -/
theorem entry1 (t : Fin 4096) (q : Fin 3072) :
    V m c main_v2 (ix2 t q) = m ((c : Thread nD τ).loc main_arg1) (ix2 t (⟨0 + q.val, by omega⟩ : Fin 7168)) := by
  have e : V m c main_v2 = extractStridedSlice S4096x3072 ![0, 0] (truncf (F := Ideal) .bf16 (m ((c : Thread nD τ).loc main_arg1)) bitsLt_bf16_f32) slices_S4096x7168_S4096x3072_0_0 := by
    unfold V hostOps0
    after_reads_simp
  rw [e]
  refine (extractStridedSlice_apply ![0, 0] (truncf (F := Ideal) .bf16 (m ((c : Thread nD τ).loc main_arg1)) bitsLt_bf16_f32) slices_S4096x7168_S4096x3072_0_0 (ix2 t q) (ix2 t (⟨0 + q.val, by omega⟩ : Fin 7168)) (fun a => ?_)).trans rfl
  match a with
  | ⟨0, _⟩ => show t.val = 0 + t.val; omega
  | ⟨1, _⟩ => rfl

/-- The cotangent's middle part as the call finds it. -/
theorem entry2 (t : Fin 4096) (q : Fin 1024) :
    V m c main_v3 (ix2 t q) = m ((c : Thread nD τ).loc main_arg1) (ix2 t (⟨3072 + q.val, by omega⟩ : Fin 7168)) := by
  have e : V m c main_v3 = extractStridedSlice S4096x1024 ![0, 3072] (truncf (F := Ideal) .bf16 (m ((c : Thread nD τ).loc main_arg1)) bitsLt_bf16_f32) slices_S4096x7168_S4096x1024_0_3072 := by
    unfold V hostOps0
    after_reads_simp
  rw [e]
  refine (extractStridedSlice_apply ![0, 3072] (truncf (F := Ideal) .bf16 (m ((c : Thread nD τ).loc main_arg1)) bitsLt_bf16_f32) slices_S4096x7168_S4096x1024_0_3072 (ix2 t q) (ix2 t (⟨3072 + q.val, by omega⟩ : Fin 7168)) (fun a => ?_)).trans rfl
  match a with
  | ⟨0, _⟩ => show t.val = 0 + t.val; omega
  | ⟨1, _⟩ => rfl

/-- The cotangent's last three parts as the call finds them. -/
theorem entry3 (t : Fin 4096) (q : Fin 3072) :
    V m c main_v4 (ix2 t q) = m ((c : Thread nD τ).loc main_arg1) (ix2 t (⟨4096 + q.val, by omega⟩ : Fin 7168)) := by
  have e : V m c main_v4 = extractStridedSlice S4096x3072 ![0, 4096] (truncf (F := Ideal) .bf16 (m ((c : Thread nD τ).loc main_arg1)) bitsLt_bf16_f32) slices_S4096x7168_S4096x3072_0_4096 := by
    unfold V hostOps0
    after_reads_simp
  rw [e]
  refine (extractStridedSlice_apply ![0, 4096] (truncf (F := Ideal) .bf16 (m ((c : Thread nD τ).loc main_arg1)) bitsLt_bf16_f32) slices_S4096x7168_S4096x3072_0_4096 (ix2 t q) (ix2 t (⟨4096 + q.val, by omega⟩ : Fin 7168)) (fun a => ?_)).trans rfl
  match a with
  | ⟨0, _⟩ => show t.val = 0 + t.val; omega
  | ⟨1, _⟩ => rfl

/-- The printed index maps: point `t` works on part `t / 2` and half `t % 2`; a cotangent that is not read stays at its first half. -/
theorem maps : ∀ t : Fin cfg0.N, win0_0.index t (0 : Fin 2) = t.val % 2 ∧ win0_0.index t (1 : Fin 2) = 0
    ∧ (t.val / 2 < 3 → win0_1.index t (0 : Fin 2) = t.val % 2) ∧ win0_1.index t (1 : Fin 2) = min (t.val / 2) 2
    ∧ (t.val / 2 = 3 → win0_2.index t (0 : Fin 2) = t.val % 2) ∧ win0_2.index t (1 : Fin 2) = 0
    ∧ (3 < t.val / 2 → win0_3.index t (0 : Fin 2) = t.val % 2) ∧ win0_3.index t (1 : Fin 2) = t.val / 2 - 4
    ∧ win0_4.index t (0 : Fin 2) = 0 ∧ win0_4.index t (1 : Fin 2) = t.val / 2 ∧ t.val < 14 :=
  (by decide +kernel : ∀ t : Fin grid0.N, _)

/-- The input's block at a point. -/
theorem blk0 (t : Fin cfg0.N) (s : Fin 2048) (r : Fin 1024) (h : t.val % 2 < 2) :
    (iblk m c 0 t : Vec Ideal S2048x1024 .bf16) (ix2 s r)
      = m ((c : Thread nD τ).loc main_arg0) (ix2 (⟨t.val % 2 * 2048 + s.val, by omega⟩ : Fin 4096) r) := by
  obtain ⟨a0, a1, -⟩ := maps t
  refine Eq.trans (?_ : _ = V m c main_v1 (ix2 (⟨t.val % 2 * 2048 + s.val, by omega⟩ : Fin 4096) r)) (entry0 m c _ r)
  unfold iblk
  refine congrArg (V m c main_v1) (funext fun a => Fin.ext ?_)
  match a with
  | ⟨0, _⟩ => show win0_0.index t (0 : Fin 2) * 2048 + 1 * s.val = t.val % 2 * 2048 + s.val; omega
  | ⟨1, _⟩ => show win0_0.index t (1 : Fin 2) * 1024 + 1 * r.val = r.val; omega

/-- The cotangent's block at a point of the first three parts. -/
theorem blk1 (t : Fin cfg0.N) (s : Fin 2048) (q : Fin 1024) (Q : Fin 7168) (hQ : Q.val = t.val / 2 * 1024 + q.val) (h : t.val % 2 < 2) (hk : t.val / 2 < 3) :
    (iblk m c 1 t : Vec Ideal S2048x1024 .bf16) (ix2 s q)
      = m ((c : Thread nD τ).loc main_arg1) (ix2 (⟨t.val % 2 * 2048 + s.val, by omega⟩ : Fin 4096) Q) := by
  obtain ⟨-, -, a0, a1, ha⟩ := maps t
  have ht : t.val < 14 := by omega
  have a0 := a0 hk
  refine Eq.trans (?_ : _ = V m c main_v2 (ix2 (⟨t.val % 2 * 2048 + s.val, by omega⟩ : Fin 4096) (⟨t.val / 2 * 1024 + q.val, by omega⟩ : Fin 3072)))
    ((entry1 m c _ _).trans (congrArg (fun k => m ((c : Thread nD τ).loc main_arg1) (ix2 _ k)) (Fin.ext ?_)))
  · unfold iblk
    refine congrArg (V m c main_v2) (funext fun a => Fin.ext ?_)
    match a with
    | ⟨0, _⟩ => show win0_1.index t (0 : Fin 2) * 2048 + 1 * s.val = t.val % 2 * 2048 + s.val; omega
    | ⟨1, _⟩ => show win0_1.index t (1 : Fin 2) * 1024 + 1 * q.val = t.val / 2 * 1024 + q.val; omega
  · show 0 + (t.val / 2 * 1024 + q.val) = Q.val; omega

/-- The cotangent's block at a point of the middle part. -/
theorem blk2 (t : Fin cfg0.N) (s : Fin 2048) (q : Fin 1024) (Q : Fin 7168) (hQ : Q.val = t.val / 2 * 1024 + q.val) (h : t.val % 2 < 2) (hk : t.val / 2 = 3) :
    (iblk m c 2 t : Vec Ideal S2048x1024 .bf16) (ix2 s q)
      = m ((c : Thread nD τ).loc main_arg1) (ix2 (⟨t.val % 2 * 2048 + s.val, by omega⟩ : Fin 4096) Q) := by
  obtain ⟨-, -, -, -, a0, a1, ha⟩ := maps t
  have ht : t.val < 14 := by omega
  have a0 := a0 hk
  refine Eq.trans (?_ : _ = V m c main_v3 (ix2 (⟨t.val % 2 * 2048 + s.val, by omega⟩ : Fin 4096) (⟨q.val, by omega⟩ : Fin 1024)))
    ((entry2 m c _ _).trans (congrArg (fun k => m ((c : Thread nD τ).loc main_arg1) (ix2 _ k)) (Fin.ext ?_)))
  · unfold iblk
    refine congrArg (V m c main_v3) (funext fun a => Fin.ext ?_)
    match a with
    | ⟨0, _⟩ => show win0_2.index t (0 : Fin 2) * 2048 + 1 * s.val = t.val % 2 * 2048 + s.val; omega
    | ⟨1, _⟩ => show win0_2.index t (1 : Fin 2) * 1024 + 1 * q.val = q.val; omega
  · show 3072 + (q.val) = Q.val; omega

/-- The cotangent's block at a point of the last three parts. -/
theorem blk3 (t : Fin cfg0.N) (s : Fin 2048) (q : Fin 1024) (Q : Fin 7168) (hQ : Q.val = t.val / 2 * 1024 + q.val) (h : t.val % 2 < 2) (hk : 3 < t.val / 2) :
    (iblk m c 3 t : Vec Ideal S2048x1024 .bf16) (ix2 s q)
      = m ((c : Thread nD τ).loc main_arg1) (ix2 (⟨t.val % 2 * 2048 + s.val, by omega⟩ : Fin 4096) Q) := by
  obtain ⟨-, -, -, -, -, -, a0, a1, ha⟩ := maps t
  have ht : t.val < 14 := by omega
  have a0 := a0 hk
  refine Eq.trans (?_ : _ = V m c main_v4 (ix2 (⟨t.val % 2 * 2048 + s.val, by omega⟩ : Fin 4096) (⟨(t.val / 2 - 4) * 1024 + q.val, by omega⟩ : Fin 3072)))
    ((entry3 m c _ _).trans (congrArg (fun k => m ((c : Thread nD τ).loc main_arg1) (ix2 _ k)) (Fin.ext ?_)))
  · unfold iblk
    refine congrArg (V m c main_v4) (funext fun a => Fin.ext ?_)
    match a with
    | ⟨0, _⟩ => show win0_3.index t (0 : Fin 2) * 2048 + 1 * s.val = t.val % 2 * 2048 + s.val; omega
    | ⟨1, _⟩ => show win0_3.index t (1 : Fin 2) * 1024 + 1 * q.val = (t.val / 2 - 4) * 1024 + q.val; omega
  · show 4096 + ((t.val / 2 - 4) * 1024 + q.val) = Q.val; omega

/-- A half of an entry over the program's arguments. -/
abbrev at_ (r : Fin 1024) (Q : Fin 7168) (a : ℕ) : EReal := part (m ((c : Thread nD τ).loc main_arg0)) (m ((c : Thread nD τ).loc main_arg1)) r Q a

/-- A point adds its half. -/
theorem added (t : Fin cfg0.N) (r q : Fin 1024) (Q : Fin 7168) (xs : Vec Ideal S1024x1024 .f32) (x : Vec Ideal S2048x1024 .bf16)
    (h2 : t.val % 2 < 2) (hb : ∀ s : Fin 2048, x (ix2 s q) = m ((c : Thread nD τ).loc main_arg1) (ix2 (⟨t.val % 2 * 2048 + s.val, by omega⟩ : Fin 4096) Q)) :
    k0_pay2 xs (iblk m c 0 t) x (ix2 r q) = (xs (ix2 r q) : EReal) + at_ m c r Q (t.val % 2) := by
  refine (block xs (iblk m c 0 t) x r q).trans (congrArg (fun y : EReal => (xs (ix2 r q) : EReal) + y) ?_)
  unfold at_ part
  rw [dif_pos h2]
  exact Finset.sum_congr rfl fun s _ => congrArg₂ (· * ·) (blk0 m c t s r h2) (hb s)

/-- What the scratch holds after the first point of a part. -/
theorem first (t : Fin cfg0.N) (h0 : t.val % 2 = 0) (r q : Fin 1024) (Q : Fin 7168) (hQ : Q.val = t.val / 2 * 1024 + q.val) :
    (outsAt0 m c t.val t.isLt).2 (ix2 r q) = at_ m c r Q 0 := by
  obtain ⟨-, -, -, -, -, -, -, -, -, -, ht⟩ := maps t
  have key : ∀ x : Vec Ideal S2048x1024 .bf16, (∀ s : Fin 2048, x (ix2 s q) = m ((c : Thread nD τ).loc main_arg1) (ix2 (⟨t.val % 2 * 2048 + s.val, by omega⟩ : Fin 4096) Q)) →
      k0_pay2 (k0_pay1 (F := Ideal)) (iblk m c 0 t) x (ix2 r q) = at_ m c r Q 0 := fun x hb => by
    refine (added m c t r q Q _ x (by omega) hb).trans ?_
    rw [start, h0]
    exact zero_add _
  by_cases h1 : t.val / 2 < 3
  · have e : (outsAt0 m c t.val t.isLt).2 = k0_pay2 (k0_pay1 (F := Ideal)) (iblk m c 0 t) (iblk m c 1 t) := by
      rw [outsAt0_A m c t h0 (by omega) (by omega) (by omega) (by omega)]
      dsimp only
      rw [scratch_A]
    exact (congrFun e _).trans (key _ fun s => blk1 m c t s q Q hQ (by omega) h1)
  · by_cases h3 : t.val / 2 = 3
    · have e : (outsAt0 m c t.val t.isLt).2 = k0_pay2 (k0_pay1 (F := Ideal)) (iblk m c 0 t) (iblk m c 2 t) := by
        rw [outsAt0_C m c t h0 (by omega) (by omega) (by omega) (by omega)]
        dsimp only
        rw [scratch_C]
      exact (congrFun e _).trans (key _ fun s => blk2 m c t s q Q hQ (by omega) h3)
    · have e : (outsAt0 m c t.val t.isLt).2 = k0_pay2 (k0_pay1 (F := Ideal)) (iblk m c 0 t) (iblk m c 3 t) := by
        rw [outsAt0_E m c t h0 (by omega) (by omega) (by omega) (by omega)]
        dsimp only
        rw [scratch_E]
      exact (congrFun e _).trans (key _ fun s => blk3 m c t s q Q hQ (by omega) (by omega))

/-- What the kernel's result holds. -/
def G : Buf (Elt Ideal) ((c : Thread nD τ).loc main_v5) := grad (m ((c : Thread nD τ).loc main_arg0)) (m ((c : Thread nD τ).loc main_arg1))

/-- What the result's staging buffer holds after the last point of a part: both halves. -/
theorem last (t : Fin cfg0.N) (h1 : t.val % 2 = 1) (r q : Fin 1024) (Q : Fin 7168) (hQ : Q.val = t.val / 2 * 1024 + q.val) :
    (outsAt0 m c t.val t.isLt).1 (ix2 r q) = at_ m c r Q 0 + at_ m c r Q 1 := by
  obtain ⟨-, -, -, -, -, -, -, -, -, -, ht⟩ := maps t
  have key : ∀ x : Vec Ideal S2048x1024 .bf16, (∀ s : Fin 2048, x (ix2 s q) = m ((c : Thread nD τ).loc main_arg1) (ix2 (⟨t.val % 2 * 2048 + s.val, by omega⟩ : Fin 4096) Q)) →
      k0_pay5 (k0_pay2 (outsAt0 m c (t.val - 1) (Nat.lt_of_le_of_lt (Nat.sub_le _ _) t.isLt)).2 (iblk m c 0 t) x) (ix2 r q) = at_ m c r Q 0 + at_ m c r Q 1 := fun x hb => by
    refine ((added m c t r q Q _ x (by omega) hb).trans ?_ :)
    rw [h1]
    exact congrArg (fun y : EReal => y + at_ m c r Q 1)
      (first m c ⟨t.val - 1, (Nat.lt_of_le_of_lt (Nat.sub_le _ _) t.isLt)⟩ (by show (t.val - 1) % 2 = 0; omega) r q Q (by show Q.val = (t.val - 1) / 2 * 1024 + q.val; omega))
  by_cases h2 : t.val / 2 < 3
  · have e : (outsAt0 m c t.val t.isLt).1 = k0_pay5 (k0_pay2 (outsAt0 m c (t.val - 1) (Nat.lt_of_le_of_lt (Nat.sub_le _ _) t.isLt)).2 (iblk m c 0 t) (iblk m c 1 t)) := by
      rw [outsAt0_B m c t (by omega) (by omega) (by omega) (by omega) h1]
      dsimp only
      rw [out_B]
    exact (congrFun e _).trans (key _ fun s => blk1 m c t s q Q hQ (by omega) h2)
  · by_cases h3 : t.val / 2 = 3
    · have e : (outsAt0 m c t.val t.isLt).1 = k0_pay5 (k0_pay2 (outsAt0 m c (t.val - 1) (Nat.lt_of_le_of_lt (Nat.sub_le _ _) t.isLt)).2 (iblk m c 0 t) (iblk m c 2 t)) := by
        rw [outsAt0_D m c t (by omega) (by omega) (by omega) (by omega) h1]
        dsimp only
        rw [out_D]
      exact (congrFun e _).trans (key _ fun s => blk2 m c t s q Q hQ (by omega) h3)
    · have e : (outsAt0 m c t.val t.isLt).1 = k0_pay5 (k0_pay2 (outsAt0 m c (t.val - 1) (Nat.lt_of_le_of_lt (Nat.sub_le _ _) t.isLt)).2 (iblk m c 0 t) (iblk m c 3 t)) := by
        rw [outsAt0_F m c t (by omega) (by omega) (by omega) (by omega) h1]
        dsimp only
        rw [out_F]
      exact (congrFun e _).trans (key _ fun s => blk3 m c t s q Q hQ (by omega) (by omega))

/-- What the last point of a part writes back is its columns of the gradient. -/
theorem flushed_eq (t : Fin cfg0.N) (hf : (cfg0.win 4).flush t = true) :
    (dats m 0 c).flushed 4 t = ((cfg0.win 4).blk t).view.read (Elt Ideal) (G m c) := by
  have h1 : t.val % 2 = 1 := (flush0_4 t).mp hf
  obtain ⟨-, -, -, -, -, -, -, -, e0, e1, ht⟩ := maps t
  show (cfg0.win 4).cut (grid0.coords t) ((dats m 0 c).after 4 t) = _
  rw [after0_4]
  funext y
  have ey : ((cfg0.win 4).xinj (grid0.coords t) y : S1024x1024.Idx) = ix2 (y 0 : Fin 1024) (y 1 : Fin 1024) := funext fun a => Fin.ext (by
    match a with
    | ⟨0, _⟩ => rfl
    | ⟨1, _⟩ => rfl)
  have f0 : (((cfg0.win 4).blk t).view.emb y 0 : Fin 1024) = (y 0 : Fin 1024) := Fin.ext (by
    show win0_4.index t (0 : Fin 2) * 1024 + 1 * (y 0).val = (y 0).val; omega)
  have f1 : (((cfg0.win 4).blk t).view.emb y 1).val = t.val / 2 * 1024 + (y 1).val := by
    show win0_4.index t (1 : Fin 2) * 1024 + 1 * (y 1).val = _; rw [e1]; omega
  show (outsAt0 m c t.val t.isLt).1 ((cfg0.win 4).xinj (grid0.coords t) y) = G m c (((cfg0.win 4).blk t).view.emb y)
  refine (congrArg (outsAt0 m c t.val t.isLt).1 ey).trans
    ((last m c t h1 (y 0 : Fin 1024) (y 1 : Fin 1024) (((cfg0.win 4).blk t).view.emb y 1 : Fin 7168) f1).trans ?_)
  exact congrArg (fun r => at_ m c r (((cfg0.win 4).blk t).view.emb y 1 : Fin 7168) 0 + at_ m c r (((cfg0.win 4).blk t).view.emb y 1 : Fin 7168) 1) f0.symm

/-- Every entry is in the block of the last point of its part. -/
theorem covered (i : S1024x7168.Idx) : ∃ t : Fin cfg0.N, (cfg0.win 4).flush t = true ∧ i ∈ ((cfg0.win 4).blk t).view.set := by
  have h0 : (i 0).val < 1024 := (i 0).isLt
  have h1 : (i 1).val < 7168 := (i 1).isLt
  have hq : 2 * ((i 1).val / 1024) + 1 < 14 := by omega
  let t : Fin cfg0.N := ⟨2 * ((i 1).val / 1024) + 1, lt_of_lt_of_eq hq N_0.symm⟩
  obtain ⟨-, -, -, -, -, -, -, -, e0, e1, ht⟩ := maps t
  have tv : t.val = 2 * ((i 1).val / 1024) + 1 := rfl
  refine ⟨t, (flush0_4 t).mpr (by omega), ?_⟩
  show i ∈ ((View.whole main_v5).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The kernel's result is the gradient. -/
theorem final : (dats m 0 c).arrAt 4 cfg0.N = G m c :=
  (dats m 0 c).arrAt_eq_of_cover 4 _ (fun t hf => flushed_eq m c t hf) covered

/-- Every run ends with the gradient in the result and the arguments as they were. -/
theorem ran (ρ : Dev nD → PrngReg) : θ_run (defs (F := Ideal)) (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 4).trans (final m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩) (run_main m ρ)

end Cert.MixDwIdeal.Lin

namespace Cert.MixDwRefIdeal.Lin

open Cert.MixDwRefIdeal Cert.MixDwRefIdeal.Gen
open Idealize.ShloMosaic hiding ix0 ix1 ix2 ix3 ix4
open Idealize.ShloMosaic.TcCoe Idealize.ShloMosaic.ValueIdx Idealize.SL.Sem

/-- The two halves together are the whole product. -/
theorem whole (x : FVec Ideal S4096x1024 .f32) (d : FVec Ideal S4096x7168 .f32) (r : Fin 1024) (Q : Fin 7168) :
    Cert.MixDwIdeal.Lin.part x d r Q 0 + Cert.MixDwIdeal.Lin.part x d r Q 1 = ∑ k : Fin 4096, (x (ix2 k r) : EReal) * d (ix2 k Q) := by
  refine Eq.trans ?_ (Cert.Lin.sum_parts 2 2048 (fun k : Fin 4096 => (x (ix2 k r) : EReal) * d (ix2 k Q)) (by omega)).symm
  rw [Fin.sum_univ_two]
  rfl

/-- The reference's result. -/
theorem result (x : FVec Ideal S4096x1024 .f32) (d : FVec Ideal S4096x7168 .f32) :
    Read.val_main_v4 (F := Ideal) x d = Cert.MixDwIdeal.Lin.grad x d := by
  funext i
  rw [Read.val_main_v4_apply, Read.val_main_v3_apply]
  show Read.val_main_v2 (F := Ideal) x d _ = _
  rw [Read.val_main_v2_apply]
  unfold Cert.MixDwIdeal.Lin.grad
  refine Eq.trans ?_ (whole x d (i 0 : Fin 1024) (i 1 : Fin 7168)).symm
  refine Finset.sum_congr rfl fun k _ => (mul_comm _ _).trans (congrArg₂ (· * ·) (congrArg x (funext fun a => Fin.ext ?_)) (congrArg d (funext fun a => Fin.ext ?_)))
  · match a with
    | ⟨0, _⟩ => rfl
    | ⟨1, _⟩ => rfl
  · match a with
    | ⟨0, _⟩ => rfl
    | ⟨1, _⟩ => rfl

end Cert.MixDwRefIdeal.Lin

namespace Cert.Proof

open Idealize.ShloMosaic Idealize.SL.Sem

/-- Kernel and reference compute the same gradient of the projection's weight. -/
theorem mixDw : Cert.algebraic_MixDwIdeal_MixDwRefIdeal := by
  intro m g m' g' _ hE
  refine ⟨fun c => Cert.MixDwIdeal.Lin.G m c, ?_, ?_⟩
  · exact Cert.MixDwIdeal.Lin.ran m g
  · refine (θ_run (Cert.MixDwRefIdeal.defs (F := Ideal)) _ _).mono (fun r h c => ⟨?_, (h c).2⟩) (Cert.MixDwRefIdeal.Value.run (F := Ideal) m' g')
    refine (h c).1.trans ((Cert.MixDwRefIdeal.Read.val_main_v4_eq _ _).trans ((Cert.MixDwRefIdeal.Lin.result _ _).trans ?_))
    exact congrArg₂ Cert.MixDwIdeal.Lin.grad (hE c).1 (hE c).2

end Cert.Proof

end
-- ==== Proof.Lin.OutDw.lean ====
/- The gradient of a square output projection's weight, kernel and reference: the transposed input times the cotangent, the
   kernel half the rows at a time. -/
module

public import proofs.«01_k».proof.Defs
public import proofs.«01_k».proof.Proof.Gen.OutDwIdeal.Value
public import proofs.«01_k».proof.Proof.Gen.OutDwRefIdeal.Read
public import Idealize.ShloMosaic.Lib.Pointwise
public import Idealize.ShloMosaic.Lib.StableHlo.RunRead

@[expose] public section

set_option maxRecDepth 16384

noncomputable section

namespace Cert.OutDwIdeal.Lin

open Cert.OutDwIdeal Cert.OutDwIdeal.Gen
open Idealize.ShloMosaic hiding ix0 ix1 ix2 ix3 ix4
open Idealize.ShloMosaic.TcCoe Idealize.ShloMosaic.ValueIdx Idealize.SL.Sem

/-- Entry `(r, q)` of the gradient: over the rows, the input's column `r` times the cotangent's column `q`. -/
def grad (x d : FVec Ideal S4096x1024 .f32) : FVec Ideal S1024x1024 .bf16 := fun i =>
  ∑ t : Fin 4096, x (ix2 t (i 0 : Fin 1024)) * d (ix2 t (i 1 : Fin 1024))

variable (m : (ℓ : Loc nD τ sig) → Buf (Elt Ideal) ℓ) (c : Dev nD)

/-- One block: the product of the transposed first operand and the second. -/
theorem block (x0 : Vec Ideal S4096x512 .bf16) (x1 : Vec Ideal S4096x1024 .bf16) (r : Fin 512) (q : Fin 1024) :
    k0_pay1 x0 x1 (ix2 r q) = ∑ t : Fin 4096, x0 (ix2 t r) * x1 (ix2 t q) := by
  pointwise [k0_pay1]
  rfl

/-- The first operand as the call finds it. -/
theorem entry0 (t : Fin 4096) (r : Fin 1024) : V m c main_v0 (ix2 t r) = m ((c : Thread nD τ).loc main_arg0) (ix2 t r) := by
  have e : V m c main_v0 = truncf (F := Ideal) .bf16 (m ((c : Thread nD τ).loc main_arg0)) bitsLt_bf16_f32 := by
    unfold V hostOps0
    after_reads_simp
  rw [e]; rfl

/-- The second operand as the call finds it. -/
theorem entry1 (t : Fin 4096) (q : Fin 1024) : V m c main_v1 (ix2 t q) = m ((c : Thread nD τ).loc main_arg1) (ix2 t q) := by
  have e : V m c main_v1 = truncf (F := Ideal) .bf16 (m ((c : Thread nD τ).loc main_arg1)) bitsLt_bf16_f32 := by
    unfold V hostOps0
    after_reads_simp
  rw [e]; rfl

/-- The printed index maps over the two points: the first operand goes half by half, the second is one block. -/
theorem maps : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0 ∧ t.val < 2 ∧ (cfg0.win 2).flush t = true :=
  (by decide +kernel : ∀ t : Fin grid0.N, _)

/-- The first operand's block at a point. -/
theorem blk0 (t : Fin cfg0.N) (ht : t.val < 2) (k : Fin 4096) (r : Fin 512) :
    (iblk m c 0 t : Vec Ideal S4096x512 .bf16) (ix2 k r)
      = m ((c : Thread nD τ).loc main_arg0) (ix2 k (⟨t.val * 512 + r.val, by omega⟩ : Fin 1024)) := by
  obtain ⟨a0, a1, -⟩ := maps t
  refine Eq.trans (?_ : _ = V m c main_v0 (ix2 k (⟨t.val * 512 + r.val, by omega⟩ : Fin 1024))) (entry0 m c k _)
  unfold iblk
  refine congrArg (V m c main_v0) (funext fun a => Fin.ext ?_)
  match a with
  | ⟨0, _⟩ => show win0_0.index t (0 : Fin 2) * 4096 + 1 * k.val = k.val; omega
  | ⟨1, _⟩ => show win0_0.index t (1 : Fin 2) * 512 + 1 * r.val = t.val * 512 + r.val; omega

/-- The second operand's block at a point. -/
theorem blk1 (t : Fin cfg0.N) (k : Fin 4096) (q : Fin 1024) :
    (iblk m c 1 t : Vec Ideal S4096x1024 .bf16) (ix2 k q) = m ((c : Thread nD τ).loc main_arg1) (ix2 k q) := by
  obtain ⟨-, -, a0, a1, -⟩ := maps t
  refine Eq.trans (?_ : _ = V m c main_v1 (ix2 k q)) (entry1 m c k q)
  unfold iblk
  refine congrArg (V m c main_v1) (funext fun a => Fin.ext ?_)
  match a with
  | ⟨0, _⟩ => show win0_1.index t (0 : Fin 2) * 4096 + 1 * k.val = k.val; omega
  | ⟨1, _⟩ => show win0_1.index t (1 : Fin 2) * 1024 + 1 * q.val = q.val; omega

/-- The gradient of the memory's arguments. -/
abbrev G (c : Dev nD) : Buf (Elt Ideal) ((c : Thread nD τ).loc main_v2) :=
  grad (m ((c : Thread nD τ).loc main_arg0)) (m ((c : Thread nD τ).loc main_arg1))

/-- What a point writes back is its part of the gradient. -/
theorem flushed_eq (t : Fin cfg0.N) : (dats m 0 c).flushed 2 t = ((cfg0.win 2).blk t).view.read (Elt Ideal) (G m c) := by
  obtain ⟨-, -, -, -, e0, e1, ht, -⟩ := maps t
  rw [Value.flushed2]
  unfold out0_2
  rw [View.canon_unit_zero (by decide), View.ld_unit_zero (by decide), View.ld_unit_zero (by decide)]
  funext y
  have ey : ((cfg0.win 2).xinj (grid0.coords t) y : S512x1024.Idx) = ix2 (y 0 : Fin 512) (y 1 : Fin 1024) := funext fun a => Fin.ext (by
    match a with
    | ⟨0, _⟩ => rfl
    | ⟨1, _⟩ => rfl)
  show k0_pay1 (iblk m c 0 t) (iblk m c 1 t) ((cfg0.win 2).xinj (grid0.coords t) y) = G m c (((cfg0.win 2).blk t).view.emb y)
  refine (congrArg (k0_pay1 (iblk m c 0 t) (iblk m c 1 t)) ey).trans ((block (iblk m c 0 t) (iblk m c 1 t) (y 0 : Fin 512) (y 1 : Fin 1024)).trans ?_)
  have f0 : (((cfg0.win 2).blk t).view.emb y 0).val = t.val * 512 + (y 0).val := by
    show win0_2.index t (0 : Fin 2) * 512 + 1 * (y 0).val = _; rw [e0]; omega
  have f1 : (((cfg0.win 2).blk t).view.emb y 1).val = (y 1).val := by
    show win0_2.index t (1 : Fin 2) * 1024 + 1 * (y 1).val = (y 1).val; omega
  unfold G grad
  refine Finset.sum_congr rfl fun k _ => congrArg₂ (· * ·) ((blk0 m c t ht k _).trans ?_) ((blk1 m c t k _).trans ?_)
  · exact congrArg (m ((c : Thread nD τ).loc main_arg0)) (congrArg (ix2 k) (Fin.ext f0.symm))
  · exact congrArg (m ((c : Thread nD τ).loc main_arg1)) (congrArg (ix2 k) (Fin.ext f1.symm))

/-- Every entry is in some point's block. -/
theorem covered (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  have hq : (i 0).val / 512 < 2 := by omega
  let t : Fin cfg0.N := ⟨(i 0).val / 512, lt_of_lt_of_eq hq N_0.symm⟩
  obtain ⟨-, -, -, -, e0, e1, ht, hf⟩ := maps t
  have et : win0_2.index t (0 : Fin 2) = (i 0).val / 512 := e0
  refine ⟨t, hf, ?_⟩
  show i ∈ ((View.whole main_v2).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The kernel's result. -/
theorem final : (dats m 0 c).arrAt 2 cfg0.N = G m c :=
  (dats m 0 c).arrAt_eq_of_cover 2 _ (fun t _ => flushed_eq m c t) covered

end Cert.OutDwIdeal.Lin

namespace Cert.OutDwRefIdeal.Lin

open Cert.OutDwRefIdeal Cert.OutDwRefIdeal.Gen
open Idealize.ShloMosaic hiding ix0 ix1 ix2 ix3 ix4
open Idealize.ShloMosaic.TcCoe Idealize.ShloMosaic.ValueIdx

/-- The reference's result. -/
theorem result (x d : FVec Ideal S4096x1024 .f32) : Read.val_main_v4 (F := Ideal) x d = Cert.OutDwIdeal.Lin.grad x d := by
  funext i
  rw [Read.val_main_v4_apply, Read.val_main_v3_apply]
  show Read.val_main_v2 (F := Ideal) x d _ = _
  rw [Read.val_main_v2_apply]
  unfold Cert.OutDwIdeal.Lin.grad
  refine Finset.sum_congr rfl fun k _ => (mul_comm _ _).trans (congrArg₂ (· * ·) (congrArg x (funext fun a => Fin.ext ?_)) (congrArg d (funext fun a => Fin.ext ?_)))
  · match a with
    | ⟨0, _⟩ => rfl
    | ⟨1, _⟩ => rfl
  · match a with
    | ⟨0, _⟩ => rfl
    | ⟨1, _⟩ => rfl

end Cert.OutDwRefIdeal.Lin

namespace Cert.Proof

open Idealize.ShloMosaic Idealize.SL.Sem

/-- Kernel and reference compute the same gradient of a projection's weight. -/
theorem outDw : Cert.algebraic_OutDwIdeal_OutDwRefIdeal := by
  intro m g m' g' _ hE
  refine ⟨fun c => Cert.OutDwIdeal.Lin.G m c, ?_, ?_⟩
  · exact (θ_run (Cert.OutDwIdeal.defs (F := Ideal)) _ _).mono
      (fun r h c => ⟨(h c).1.trans (Cert.OutDwIdeal.Lin.final m c), (h c).2⟩) (Cert.OutDwIdeal.Value.run_blocks (F := Ideal) m g)
  · refine (θ_run (Cert.OutDwRefIdeal.defs (F := Ideal)) _ _).mono (fun r h c => ⟨?_, (h c).2⟩) (Cert.OutDwRefIdeal.Value.run (F := Ideal) m' g')
    refine (h c).1.trans ((Cert.OutDwRefIdeal.Read.val_main_v4_eq _ _).trans ((Cert.OutDwRefIdeal.Lin.result _ _).trans ?_))
    exact congrArg₂ Cert.OutDwIdeal.Lin.grad (hE c).1 (hE c).2

end Cert.Proof

end
-- ==== Proof.Lin.DxFirst.lean ====
/- The gradient that a feed-forward layer sends to its input, kernel and reference: the scaled cotangent of the residual sum
   plus the cotangent of the layer's first product times the transposed weight, the kernel a part of the columns at a time. -/
module

public import proofs.«01_k».proof.Defs
public import proofs.«01_k».proof.Proof.Gen.FfnDxFirstIdeal.Value
public import proofs.«01_k».proof.Proof.Gen.FfnDxFirstRefIdeal.Read
public import proofs.«01_k».proof.Proof.Lin.Parts
public import Idealize.ShloMosaic.Lib.Pointwise
public import Idealize.ShloMosaic.Lib.StableHlo.RunRead
public import Idealize.ShloMosaic.Lib.Tactic

@[expose] public section

set_option maxRecDepth 16384

noncomputable section

namespace Cert.FfnDxFirstIdeal.Lin

open Cert.FfnDxFirstIdeal Cert.FfnDxFirstIdeal.Gen
open Idealize.ShloMosaic hiding ix0 ix1 ix2 ix3 ix4
open Idealize.ShloMosaic.TcCoe Idealize.ShloMosaic.ValueIdx Idealize.SL.Sem

/-- Part `a` of entry `(R, q)` of the product with the transposed weight: over the part's columns. -/
def part (d : FVec Ideal S4096x5632 .f32) (w : FVec Ideal S2x1024x5632 .f32) (R : Fin 4096) (q : Fin 1024) (a : ℕ) : EReal :=
  if h : a < 8 then ∑ s : Fin 704, (d (ix2 R (⟨a * 704 + s.val, by omega⟩ : Fin 5632)) : EReal)
    * w (ix3 (0 : Fin 2) q (⟨a * 704 + s.val, by omega⟩ : Fin 5632)) else 0

/-- Entry `(R, q)` after the first `k` parts. -/
def upto (z : FVec Ideal S4096x1024 .f32) (d : FVec Ideal S4096x5632 .f32) (w : FVec Ideal S2x1024x5632 .f32)
    (R : Fin 4096) (q : Fin 1024) (k : ℕ) : EReal :=
  (Ideal.ofBits .f32 0x3FD744FD#32 : EReal) * z (ix2 R q) + ∑ a ∈ Finset.range k, part d w R q a

/-- The gradient: every entry after all eight parts. -/
def grad (z : FVec Ideal S4096x1024 .f32) (d : FVec Ideal S4096x5632 .f32) (w : FVec Ideal S2x1024x5632 .f32) :
    FVec Ideal S4096x1024 .f32 := fun i => upto z d w (i 0 : Fin 4096) (i 1 : Fin 1024) 8

variable (m : (ℓ : Loc nD τ sig) → Buf (Elt Ideal) ℓ) (c : Dev nD)

theorem hz : (![0, 0] : Fin 2 → Nat) = fun _ => 0 := by decide

/-- One part added to the running sum. -/
theorem block (x0 : Vec Ideal S1024x1024 .f32) (x1 : Vec Ideal S1x1024x704 .bf16) (x2 : Vec Ideal S1x1x1024x704 .bf16) (r q : Fin 1024) :
    k0_pay2 x0 x1 x2 (ix2 r q) = x0 (ix2 r q) + ∑ s : Fin 704, x1 (ix3 (0 : Fin 1) r s) * x2 (ix4 (0 : Fin 1) (0 : Fin 1) q s) := by
  pointwise [k0_pay2]
  rfl

/-- Where the running sum starts. -/
theorem start (x : Vec Ideal S1024x1024 .f32) (r q : Fin 1024) :
    k0_pay1 x (ix2 r q) = Ideal.ofBits .f32 0x3FD744FD#32 * x (ix2 r q) := by
  pointwise [k0_pay1]

/-- The first point of a row: the scratch ends holding the start and the first part. -/
theorem scratch_A (i : grid0.Coords) (a2 : Memref sig .tc .vmem S1024x1024 .f32) (h2 : a2.IsWhole) (a3 : Memref sig .tc .vmem S1x1024x704 .bf16)
    (h3 : a3.IsWhole) (a4 : Memref sig .tc .vmem S1x1x1024x704 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 : Vec Ideal S1024x1024 .f32) (x1 : Vec Ideal S1x1024x704 .bf16) (x2 : Vec Ideal S1x1x1024x704 .bf16) :
    sout0_A_0 c i a2 h2 a3 h3 a4 h4 a5 h5 a6 h6 hc0 hc1 x0 x1 x2 = k0_pay2 (k0_pay1 x0) x1 x2 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h2.read_unread, h3.read_unread, h4.read_unread, View.ld_unit_zero (S := S1024x1024) hz,
    View.ld_unit_zero (S := S1x1024x704) (off := ![0, 0, 0]) (by decide), View.ld_unit_zero (S := S1x1x1024x704) (off := ![0, 0, 0, 0]) (by decide)]

/-- A middle point of a row: one part is added. -/
theorem scratch_B (i : grid0.Coords) (a2 : Memref sig .tc .vmem S1024x1024 .f32) (h2 : a2.IsWhole) (a3 : Memref sig .tc .vmem S1x1024x704 .bf16)
    (h3 : a3.IsWhole) (a4 : Memref sig .tc .vmem S1x1x1024x704 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 : Vec Ideal S1024x1024 .f32) (x1 : Vec Ideal S1x1024x704 .bf16) (x2 : Vec Ideal S1x1x1024x704 .bf16) (xs : Vec Ideal S1024x1024 .f32) :
    sout0_B_0 c i a2 h2 a3 h3 a4 h4 a5 h5 a6 h6 hc0 hc1 x0 x1 x2 xs = k0_pay2 xs x1 x2 := by
  unfold sout0_B_0
  rw [View.read_writes_eq_canon _ _ _ (scover0_B_0 c i a2 h2 a3 h3 a4 h4 a5 h5 a6 h6 hc0 hc1 x0 x1 x2 xs)]
  unfold kernelRun0_B
  dsimp only
  try sl_unfold_words
  rw [View.canon_unit_zero hz]
  simp only [View.readAt_eq_ld, h3.read_unread, h4.read_unread, h6.read_unread, View.ld_unit_zero (S := S1024x1024) hz,
    View.ld_unit_zero (S := S1x1024x704) (off := ![0, 0, 0]) (by decide), View.ld_unit_zero (S := S1x1x1024x704) (off := ![0, 0, 0, 0]) (by decide)]

/-- The last point of a row: the result is the running sum and the last part. -/
theorem out_C (i : grid0.Coords) (a2 : Memref sig .tc .vmem S1024x1024 .f32) (h2 : a2.IsWhole) (a3 : Memref sig .tc .vmem S1x1024x704 .bf16)
    (h3 : a3.IsWhole) (a4 : Memref sig .tc .vmem S1x1x1024x704 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 : Vec Ideal S1024x1024 .f32) (x1 : Vec Ideal S1x1024x704 .bf16) (x2 : Vec Ideal S1x1x1024x704 .bf16) (xs : Vec Ideal S1024x1024 .f32) :
    out0_C_3 c i a2 h2 a3 h3 a4 h4 a5 h5 a6 h6 hc0 hc1 x0 x1 x2 xs = k0_pay2 xs x1 x2 := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz,
    View.ld_unit_zero (S := S1x1024x704) (off := ![0, 0, 0]) (by decide), View.ld_unit_zero (S := S1x1x1024x704) (off := ![0, 0, 0, 0]) (by decide)]

/-- The first operand is an argument of the program. -/
theorem entry0 : V m c main_arg0 = m ((c : Thread nD τ).loc main_arg0) := V_main_arg0 m c

/-- The cotangent as the call finds it: its columns in eight parts. -/
theorem entry1 (j : Fin 8) (t : Fin 4096) (q : Fin 704) :
    V m c main_v4 (ix3 j t q) = m ((c : Thread nD τ).loc main_arg1) (ix2 t (⟨j.val * 704 + q.val, by omega⟩ : Fin 5632)) := by
  have e : V m c main_v4 = truncf (F := Ideal) .bf16 (transpose S8x4096x704 [1, 0, 2]
      (shapeCast S4096x8x704 (m ((c : Thread nD τ).loc main_arg1)) shapeCasts_S4096x5632_S4096x8x704) transposes_S4096x8x704_S8x4096x704_1_0_2) bitsLt_bf16_f32 := by
    unfold V hostOps0
    after_reads_simp
    rfl
  rw [e]
  pointwise []
  rfl

/-- The weights as the call finds them: their columns in eight parts. -/
theorem entry2 (f : Fin 2) (j : Fin 8) (t : Fin 1024) (q : Fin 704) :
    V m c main_v5 (ix4 f j t q) = m ((c : Thread nD τ).loc main_arg2) (ix3 f t (⟨j.val * 704 + q.val, by omega⟩ : Fin 5632)) := by
  have e : V m c main_v5 = truncf (F := Ideal) .bf16 (transpose S2x8x1024x704 [0, 2, 1, 3]
      (shapeCast S2x1024x8x704 (m ((c : Thread nD τ).loc main_arg2)) shapeCasts_S2x1024x5632_S2x1024x8x704) transposes_S2x1024x8x704_S2x8x1024x704_0_2_1_3) bitsLt_bf16_f32 := by
    unfold V hostOps0
    after_reads_simp
    rfl
  rw [e]
  pointwise []
  rfl

/-- The printed index maps: point `t` works on row block `t / 8` and part `t % 8`. -/
theorem maps : ∀ t : Fin cfg0.N, win0_0.index t (0 : Fin 2) = t.val / 8 ∧ win0_0.index t (1 : Fin 2) = 0
    ∧ win0_1.index t (0 : Fin 3) = t.val % 8 ∧ win0_1.index t (1 : Fin 3) = t.val / 8 ∧ win0_1.index t (2 : Fin 3) = 0
    ∧ win0_2.index t (0 : Fin 4) = 0 ∧ win0_2.index t (1 : Fin 4) = t.val % 8 ∧ win0_2.index t (2 : Fin 4) = 0 ∧ win0_2.index t (3 : Fin 4) = 0
    ∧ win0_3.index t (0 : Fin 2) = t.val / 8 ∧ win0_3.index t (1 : Fin 2) = 0 ∧ t.val < 32 :=
  (by decide +kernel : ∀ t : Fin grid0.N, _)

/-- The residual cotangent's block at a point. -/
theorem blk0 (t : Fin cfg0.N) (R : Fin 4096) (r q : Fin 1024) (hR : R.val = t.val / 8 * 1024 + r.val) :
    (iblk m c 0 t : Vec Ideal S1024x1024 .f32) (ix2 r q) = m ((c : Thread nD τ).loc main_arg0) (ix2 R q) := by
  obtain ⟨a0, a1, -⟩ := maps t
  refine Eq.trans (?_ : _ = V m c main_arg0 (ix2 R q)) (congrFun (entry0 m c) _)
  unfold iblk
  refine congrArg (V m c main_arg0) (funext fun a => Fin.ext ?_)
  match a with
  | ⟨0, _⟩ => show win0_0.index t (0 : Fin 2) * 1024 + 1 * r.val = R.val; omega
  | ⟨1, _⟩ => show win0_0.index t (1 : Fin 2) * 1024 + 1 * q.val = q.val; omega

/-- The cotangent's block at a point. -/
theorem blk1 (t : Fin cfg0.N) (R : Fin 4096) (r : Fin 1024) (s : Fin 704) (hR : R.val = t.val / 8 * 1024 + r.val) (h : t.val % 8 < 8) :
    (iblk m c 1 t : Vec Ideal S1x1024x704 .bf16) (ix3 (0 : Fin 1) r s)
      = m ((c : Thread nD τ).loc main_arg1) (ix2 R (⟨t.val % 8 * 704 + s.val, by omega⟩ : Fin 5632)) := by
  obtain ⟨-, -, a0, a1, a2, -⟩ := maps t
  refine Eq.trans (?_ : _ = V m c main_v4 (ix3 (⟨t.val % 8, h⟩ : Fin 8) R s)) (entry1 m c ⟨t.val % 8, h⟩ R s)
  unfold iblk
  refine congrArg (V m c main_v4) (funext fun a => Fin.ext ?_)
  match a with
  | ⟨0, _⟩ => show win0_1.index t (0 : Fin 3) * 1 + 1 * 0 = t.val % 8; omega
  | ⟨1, _⟩ => show win0_1.index t (1 : Fin 3) * 1024 + 1 * r.val = R.val; omega
  | ⟨2, _⟩ => show win0_1.index t (2 : Fin 3) * 704 + 1 * s.val = s.val; omega

/-- The weight's block at a point. -/
theorem blk2 (t : Fin cfg0.N) (q : Fin 1024) (s : Fin 704) (h : t.val % 8 < 8) :
    (iblk m c 2 t : Vec Ideal S1x1x1024x704 .bf16) (ix4 (0 : Fin 1) (0 : Fin 1) q s)
      = m ((c : Thread nD τ).loc main_arg2) (ix3 (0 : Fin 2) q (⟨t.val % 8 * 704 + s.val, by omega⟩ : Fin 5632)) := by
  obtain ⟨-, -, -, -, -, a0, a1, a2, a3, -⟩ := maps t
  refine Eq.trans (?_ : _ = V m c main_v5 (ix4 (0 : Fin 2) (⟨t.val % 8, h⟩ : Fin 8) q s)) (entry2 m c 0 ⟨t.val % 8, h⟩ q s)
  unfold iblk
  refine congrArg (V m c main_v5) (funext fun a => Fin.ext ?_)
  match a with
  | ⟨0, _⟩ => show win0_2.index t (0 : Fin 4) * 1 + 1 * 0 = 0; omega
  | ⟨1, _⟩ => show win0_2.index t (1 : Fin 4) * 1 + 1 * 0 = t.val % 8; omega
  | ⟨2, _⟩ => show win0_2.index t (2 : Fin 4) * 1024 + 1 * q.val = q.val; omega
  | ⟨3, _⟩ => show win0_2.index t (3 : Fin 4) * 704 + 1 * s.val = s.val; omega

/-- The entry of the gradient over the program's arguments after the first `k` parts. -/
abbrev at_ (R : Fin 4096) (q : Fin 1024) (k : ℕ) : EReal :=
  upto (m ((c : Thread nD τ).loc main_arg0)) (m ((c : Thread nD τ).loc main_arg1)) (m ((c : Thread nD τ).loc main_arg2)) R q k

/-- A point adds its part. -/
theorem added (t : Fin cfg0.N) (R : Fin 4096) (r q : Fin 1024) (hR : R.val = t.val / 8 * 1024 + r.val) (xs : Vec Ideal S1024x1024 .f32)
    (hx : xs (ix2 r q) = at_ m c R q (t.val % 8)) : k0_pay2 xs (iblk m c 1 t) (iblk m c 2 t) (ix2 r q) = at_ m c R q (t.val % 8 + 1) := by
  have h8 : t.val % 8 < 8 := Nat.mod_lt _ (by decide)
  refine (block xs (iblk m c 1 t) (iblk m c 2 t) r q).trans ?_
  unfold at_ upto at hx ⊢
  rw [Finset.sum_range_succ, ← add_assoc]
  refine congrArg₂ (· + ·) hx ?_
  unfold part
  rw [dif_pos h8]
  exact Finset.sum_congr rfl fun s _ => congrArg₂ (· * ·) (blk1 m c t R r s hR h8) (blk2 m c t q s h8)

/-- What the scratch holds after the first point of a row. -/
theorem first (t : Fin cfg0.N) (h0 : t.val % 8 = 0) (h7 : ¬t.val % 8 = 7) (R : Fin 4096) (r q : Fin 1024) (hR : R.val = t.val / 8 * 1024 + r.val) :
    (outsAt0 m c t.val t.isLt).2 (ix2 r q) = at_ m c R q (t.val % 8 + 1) := by
  have e : (outsAt0 m c t.val t.isLt).2 = k0_pay2 (k0_pay1 (iblk m c 0 t)) (iblk m c 1 t) (iblk m c 2 t) := by
    rw [outsAt0_A m c t h0 h7]
    dsimp only
    rw [scratch_A]
  refine (congrFun e _).trans (added m c t R r q hR _ ?_)
  refine (start (iblk m c 0 t) r q).trans ?_
  unfold at_ upto
  rw [h0]
  exact (congrArg (fun x : EReal => (Ideal.ofBits .f32 0x3FD744FD#32 : EReal) * x) (blk0 m c t R r q hR)).trans (add_zero _).symm

/-- What the scratch holds after a middle point of a row, over what it held before. -/
theorem middle (t : Fin cfg0.N) (h0 : ¬t.val % 8 = 0) (h7 : ¬t.val % 8 = 7) (R : Fin 4096) (r q : Fin 1024) (hR : R.val = t.val / 8 * 1024 + r.val)
    (hx : (outsAt0 m c (t.val - 1) (Nat.lt_of_le_of_lt (Nat.sub_le _ _) t.isLt)).2 (ix2 r q) = at_ m c R q (t.val % 8)) :
    (outsAt0 m c t.val t.isLt).2 (ix2 r q) = at_ m c R q (t.val % 8 + 1) := by
  have e : (outsAt0 m c t.val t.isLt).2
      = k0_pay2 (outsAt0 m c (t.val - 1) (Nat.lt_of_le_of_lt (Nat.sub_le _ _) t.isLt)).2 (iblk m c 1 t) (iblk m c 2 t) := by
    rw [outsAt0_B m c t h0 h7]
    dsimp only
    rw [scratch_B]
  exact (congrFun e _).trans (added m c t R r q hR _ hx)

/-- What the scratch holds after a point that is not the last of its row. -/
theorem scratch : ∀ (n : ℕ) (hn : n < cfg0.N) (_ : ¬n % 8 = 7) (R : Fin 4096) (r q : Fin 1024) (_ : R.val = n / 8 * 1024 + r.val),
    (outsAt0 m c n hn).2 (ix2 r q) = at_ m c R q (n % 8 + 1) := by
  intro n
  induction n with
  | zero => exact fun hn h7 R r q hR => first m c ⟨0, hn⟩ rfl h7 R r q hR
  | succ n ih =>
    intro hn h7 R r q hR
    by_cases h0 : (n + 1) % 8 = 0
    · exact first m c ⟨n + 1, hn⟩ h0 h7 R r q hR
    · refine middle m c ⟨n + 1, hn⟩ h0 h7 R r q hR ((ih (Nat.lt_of_succ_lt hn) (by omega) R r q (by omega)).trans (congrArg (at_ m c R q) ?_))
      show n % 8 + 1 = (n + 1) % 8
      omega

/-- What the kernel's result holds. -/
def G : Buf (Elt Ideal) ((c : Thread nD τ).loc main_v6) :=
  grad (m ((c : Thread nD τ).loc main_arg0)) (m ((c : Thread nD τ).loc main_arg1)) (m ((c : Thread nD τ).loc main_arg2))

/-- What the last point of a row writes back is its rows of the gradient. -/
theorem flushed_eq (t : Fin cfg0.N) (hf : (cfg0.win 3).flush t = true) :
    (dats m 0 c).flushed 3 t = ((cfg0.win 3).blk t).view.read (Elt Ideal) (G m c) := by
  have h7 : t.val % 8 = 7 := (flush0_3 t).mp hf
  obtain ⟨-, -, -, -, -, -, -, -, -, e0, e1, ht⟩ := maps t
  rw [Value.flushed3_C m c t (by omega) h7, out_C]
  funext y
  have ey : ((cfg0.win 3).xinj (grid0.coords t) y : S1024x1024.Idx) = ix2 (y 0 : Fin 1024) (y 1 : Fin 1024) := funext fun a => Fin.ext (by
    match a with
    | ⟨0, _⟩ => rfl
    | ⟨1, _⟩ => rfl)
  have f0 : (((cfg0.win 3).blk t).view.emb y 0).val = t.val / 8 * 1024 + (y 0).val := by
    show win0_3.index t (0 : Fin 2) * 1024 + 1 * (y 0).val = _; rw [e0]; omega
  have f1 : (((cfg0.win 3).blk t).view.emb y 1 : Fin 1024) = (y 1 : Fin 1024) := Fin.ext (by
    show win0_3.index t (1 : Fin 2) * 1024 + 1 * (y 1).val = (y 1).val; omega)
  show k0_pay2 _ (iblk m c 1 t) (iblk m c 2 t) ((cfg0.win 3).xinj (grid0.coords t) y) = G m c (((cfg0.win 3).blk t).view.emb y)
  refine (congrArg (k0_pay2 _ (iblk m c 1 t) (iblk m c 2 t)) ey).trans
    ((added m c t (((cfg0.win 3).blk t).view.emb y 0 : Fin 4096) (y 0 : Fin 1024) (y 1 : Fin 1024) f0 _ ?_).trans ?_)
  · refine (scratch m c (t.val - 1) _ (by omega) (((cfg0.win 3).blk t).view.emb y 0 : Fin 4096) (y 0 : Fin 1024) (y 1 : Fin 1024) (by omega)).trans
      (congrArg (at_ m c _ _) (by omega))
  · rw [h7]
    exact congrArg (fun q => at_ m c (((cfg0.win 3).blk t).view.emb y 0 : Fin 4096) q 8) f1.symm

/-- Every entry is in the block of the last point of its row. -/
theorem covered (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hq : 8 * ((i 0).val / 1024) + 7 < 32 := by omega
  let t : Fin cfg0.N := ⟨8 * ((i 0).val / 1024) + 7, lt_of_lt_of_eq hq N_0.symm⟩
  obtain ⟨-, -, -, -, -, -, -, -, -, e0, e1, ht⟩ := maps t
  have tv : t.val = 8 * ((i 0).val / 1024) + 7 := rfl
  refine ⟨t, (flush0_3 t).mpr (by omega), ?_⟩
  show i ∈ ((View.whole main_v6).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The kernel's result is the gradient. -/
theorem final : (dats m 0 c).arrAt 3 cfg0.N = G m c :=
  (dats m 0 c).arrAt_eq_of_cover 3 _ (fun t hf => flushed_eq m c t hf) covered

end Cert.FfnDxFirstIdeal.Lin

namespace Cert.FfnDxFirstRefIdeal.Lin

open Cert.FfnDxFirstRefIdeal Cert.FfnDxFirstRefIdeal.Gen
open Idealize.ShloMosaic hiding ix0 ix1 ix2 ix3 ix4
open Idealize.ShloMosaic.TcCoe Idealize.ShloMosaic.ValueIdx Idealize.SL.Sem

/-- The eight parts together are the whole product. -/
theorem parts (d : FVec Ideal S4096x5632 .f32) (w : FVec Ideal S2x1024x5632 .f32) (R : Fin 4096) (q : Fin 1024) :
    ∑ a ∈ Finset.range 8, Cert.FfnDxFirstIdeal.Lin.part d w R q a
      = ∑ k : Fin 5632, (d (ix2 R k) : EReal) * w (ix3 (0 : Fin 2) q k) := by
  refine Eq.trans ?_ (Cert.Lin.sum_parts 8 704 (fun k : Fin 5632 => (d (ix2 R k) : EReal) * w (ix3 (0 : Fin 2) q k)) (by omega)).symm
  rw [Finset.sum_range]
  refine Finset.sum_congr rfl fun a _ => ?_
  unfold Cert.FfnDxFirstIdeal.Lin.part
  rw [dif_pos a.isLt]

/-- Every entry over the whole product. -/
theorem whole (z : FVec Ideal S4096x1024 .f32) (d : FVec Ideal S4096x5632 .f32) (w : FVec Ideal S2x1024x5632 .f32) (R : Fin 4096) (q : Fin 1024) :
    Cert.FfnDxFirstIdeal.Lin.upto z d w R q 8
      = (∑ k : Fin 5632, (d (ix2 R k) : EReal) * w (ix3 (0 : Fin 2) q k)) + (Ideal.ofBits .f32 0x3FD744FD#32 : EReal) * z (ix2 R q) := by
  unfold Cert.FfnDxFirstIdeal.Lin.upto
  rw [parts, add_comm]

/-- The reference's result. -/
theorem result (z : FVec Ideal S4096x1024 .f32) (d : FVec Ideal S4096x5632 .f32) (w : FVec Ideal S2x1024x5632 .f32) :
    Read.val_main_v9 (F := Ideal) z d w = Cert.FfnDxFirstIdeal.Lin.grad z d w := by
  funext i
  rw [Read.val_main_v9_apply, Read.val_main_v8_apply, Read.val_main_v7_apply, Read.val_main_cst_1_apply]
  refine Eq.trans ?_ (whole z d w (i 0 : Fin 4096) (i 1 : Fin 1024)).symm
  refine congrArg₂ (· + ·) ?_ (congrArg (fun j => (Ideal.ofBits .f32 0x3FD744FD#32 : EReal) * z j) (funext fun a => Fin.ext ?_))
  · rw [Read.val_main_v6_apply]
    refine Finset.sum_congr rfl fun k _ => congrArg₂ (· * ·) (congrArg d (funext fun a => Fin.ext ?_)) ?_
    · match a with
      | ⟨0, _⟩ => rfl
      | ⟨1, _⟩ => rfl
    · rw [Read.val_main_v4_apply, Read.val_main_v3_apply]
      refine congrArg w (funext fun a => Fin.ext ?_)
      have h1 : (i 1).val < 1024 := (i 1).isLt
      have hk : k.val < 5632 := k.isLt
      match a with
      | ⟨0, _⟩ => rfl
      | ⟨1, _⟩ => show ((i 1).val * 5632 + k.val) / 5632 % 1024 = (i 1).val; omega
      | ⟨2, _⟩ => show ((i 1).val * 5632 + k.val) % 5632 = k.val; omega
  · match a with
    | ⟨0, _⟩ => rfl
    | ⟨1, _⟩ => rfl

end Cert.FfnDxFirstRefIdeal.Lin

namespace Cert.Proof

open Idealize.ShloMosaic Idealize.SL.Sem

/-- Kernel and reference compute the same gradient of the layer's input. -/
theorem ffnDxFirst : Cert.algebraic_FfnDxFirstIdeal_FfnDxFirstRefIdeal := by
  intro m g m' g' _ hE
  refine ⟨fun c => Cert.FfnDxFirstIdeal.Lin.G m c, ?_, ?_⟩
  · exact (θ_run (Cert.FfnDxFirstIdeal.defs (F := Ideal)) _ _).mono
      (fun r h c => ⟨(h c).1.trans (Cert.FfnDxFirstIdeal.Lin.final m c), (h c).2⟩) (Cert.FfnDxFirstIdeal.Value.run_blocks (F := Ideal) m g)
  · refine (θ_run (Cert.FfnDxFirstRefIdeal.defs (F := Ideal)) _ _).mono (fun r h c => ⟨?_, (h c).2⟩) (Cert.FfnDxFirstRefIdeal.Value.run (F := Ideal) m' g')
    refine (h c).1.trans ((Cert.FfnDxFirstRefIdeal.Read.val_main_v9_eq _ _ _).trans ((Cert.FfnDxFirstRefIdeal.Lin.result _ _ _).trans ?_))
    exact congr (congrArg₂ Cert.FfnDxFirstIdeal.Lin.grad (hE c).1 (hE c).2.1) (hE c).2.2

end Cert.Proof

end
-- ==== Proof.Lin.GateDw.lean ====
/- The gradient of the recurrence gates' weights, kernel and reference: for each gate and head the transposed columns of the
   input times the same columns of the gate's cotangent. -/
module

public import proofs.«01_k».proof.Defs
public import proofs.«01_k».proof.Proof.Gen.GateDwIdeal.Value
public import proofs.«01_k».proof.Proof.Gen.GateDwRefIdeal.Read
public import Idealize.ShloMosaic.Lib.Pointwise
public import Idealize.ShloMosaic.Lib.StableHlo.RunRead

@[expose] public section

set_option maxRecDepth 16384

noncomputable section

namespace Cert.GateDwIdeal.Lin

open Cert.GateDwIdeal Cert.GateDwIdeal.Gen
open Idealize.ShloMosaic hiding ix0 ix1 ix2 ix3 ix4
open Idealize.ShloMosaic.TcCoe Idealize.ShloMosaic.ValueIdx Idealize.SL.Sem

/-- Entry `(g, h, r, q)` of the gradient: over the rows, the input's column `256 h + r` times gate `g`'s cotangent's column `256 h + q`. -/
def grad (x : FVec Ideal S4096x1024 .f32) (d : FVec Ideal S2x4096x1024 .f32) : FVec Ideal S2x4x256x256 .bf16 := fun i =>
  have h1 : (i 1).val < 4 := (i 1).isLt
  have h2 : (i 2).val < 256 := (i 2).isLt
  have h3 : (i 3).val < 256 := (i 3).isLt
  ∑ t : Fin 4096, x (ix2 t (⟨(i 1).val * 256 + (i 2).val, by omega⟩ : Fin 1024))
    * d (ix3 (i 0 : Fin 2) t (⟨(i 1).val * 256 + (i 3).val, by omega⟩ : Fin 1024))

variable (m : (ℓ : Loc nD τ sig) → Buf (Elt Ideal) ℓ) (c : Dev nD)

/-- One block: the product of the transposed first operand and the second. -/
theorem block (x0 : Vec Ideal S4096x256 .bf16) (x1 : Vec Ideal S1x4096x256 .bf16) (r q : Fin 256) :
    k0_pay1 x0 x1 (ix4 (0 : Fin 1) (0 : Fin 1) r q) = ∑ t : Fin 4096, x0 (ix2 t r) * x1 (ix3 (0 : Fin 1) t q) := by
  pointwise [k0_pay1]
  rfl

/-- The first operand as the call finds it. -/
theorem entry0 (t : Fin 4096) (r : Fin 1024) : V m c main_v0 (ix2 t r) = m ((c : Thread nD τ).loc main_arg0) (ix2 t r) := by
  have e : V m c main_v0 = truncf (F := Ideal) .bf16 (m ((c : Thread nD τ).loc main_arg0)) bitsLt_bf16_f32 := by
    unfold V hostOps0
    after_reads_simp
  rw [e]; rfl

/-- The second operand as the call finds it. -/
theorem entry1 (g : Fin 2) (t : Fin 4096) (q : Fin 1024) : V m c main_v1 (ix3 g t q) = m ((c : Thread nD τ).loc main_arg1) (ix3 g t q) := by
  have e : V m c main_v1 = truncf (F := Ideal) .bf16 (m ((c : Thread nD τ).loc main_arg1)) bitsLt_bf16_f32 := by
    unfold V hostOps0
    after_reads_simp
  rw [e]; rfl

/-- The printed index maps over the eight points, four heads to each gate. -/
theorem maps : ∀ t : Fin cfg0.N, win0_0.index t (0 : Fin 2) = 0 ∧ win0_0.index t (1 : Fin 2) = t.val % 4
    ∧ win0_1.index t (0 : Fin 3) = t.val / 4 ∧ win0_1.index t (1 : Fin 3) = 0 ∧ win0_1.index t (2 : Fin 3) = t.val % 4
    ∧ win0_2.index t (0 : Fin 4) = t.val / 4 ∧ win0_2.index t (1 : Fin 4) = t.val % 4 ∧ win0_2.index t (2 : Fin 4) = 0
    ∧ win0_2.index t (3 : Fin 4) = 0 ∧ t.val < 8 ∧ (cfg0.win 2).flush t = true :=
  (by decide +kernel : ∀ t : Fin grid0.N, _)

/-- The first operand's block at a point. -/
theorem blk0 (t : Fin cfg0.N) (k : Fin 4096) (r : Fin 256) :
    (iblk m c 0 t : Vec Ideal S4096x256 .bf16) (ix2 k r)
      = m ((c : Thread nD τ).loc main_arg0) (ix2 k (⟨t.val % 4 * 256 + r.val, by omega⟩ : Fin 1024)) := by
  obtain ⟨a0, a1, -⟩ := maps t
  refine Eq.trans (?_ : _ = V m c main_v0 (ix2 k (⟨t.val % 4 * 256 + r.val, by omega⟩ : Fin 1024))) (entry0 m c k _)
  unfold iblk
  refine congrArg (V m c main_v0) (funext fun a => Fin.ext ?_)
  match a with
  | ⟨0, _⟩ => show win0_0.index t (0 : Fin 2) * 4096 + 1 * k.val = k.val; omega
  | ⟨1, _⟩ => show win0_0.index t (1 : Fin 2) * 256 + 1 * r.val = t.val % 4 * 256 + r.val; omega

/-- The second operand's block at a point. -/
theorem blk1 (t : Fin cfg0.N) (ht : t.val < 8) (k : Fin 4096) (q : Fin 256) :
    (iblk m c 1 t : Vec Ideal S1x4096x256 .bf16) (ix3 (0 : Fin 1) k q)
      = m ((c : Thread nD τ).loc main_arg1) (ix3 (⟨t.val / 4, by omega⟩ : Fin 2) k (⟨t.val % 4 * 256 + q.val, by omega⟩ : Fin 1024)) := by
  obtain ⟨-, -, a0, a1, a2, -⟩ := maps t
  refine Eq.trans (?_ : _ = V m c main_v1 (ix3 (⟨t.val / 4, by omega⟩ : Fin 2) k (⟨t.val % 4 * 256 + q.val, by omega⟩ : Fin 1024))) (entry1 m c _ k _)
  unfold iblk
  refine congrArg (V m c main_v1) (funext fun a => Fin.ext ?_)
  match a with
  | ⟨0, _⟩ => show win0_1.index t (0 : Fin 3) * 1 + 1 * 0 = t.val / 4; omega
  | ⟨1, _⟩ => show win0_1.index t (1 : Fin 3) * 4096 + 1 * k.val = k.val; omega
  | ⟨2, _⟩ => show win0_1.index t (2 : Fin 3) * 256 + 1 * q.val = t.val % 4 * 256 + q.val; omega

/-- The gradient of the memory's arguments. -/
abbrev G (c : Dev nD) : Buf (Elt Ideal) ((c : Thread nD τ).loc main_v2) :=
  grad (m ((c : Thread nD τ).loc main_arg0)) (m ((c : Thread nD τ).loc main_arg1))

/-- What a point writes back is its part of the gradient. -/
theorem flushed_eq (t : Fin cfg0.N) : (dats m 0 c).flushed 2 t = ((cfg0.win 2).blk t).view.read (Elt Ideal) (G m c) := by
  obtain ⟨-, -, -, -, -, e0, e1, e2, e3, ht, -⟩ := maps t
  rw [Value.flushed2]
  unfold out0_2
  rw [View.canon_unit_zero (by decide), View.ld_unit_zero (by decide), View.ld_unit_zero (by decide)]
  funext y
  have hy0 : (y 0).val = 0 := by have : (y 0).val < 1 := (y 0).isLt; omega
  have hy1 : (y 1).val = 0 := by have : (y 1).val < 1 := (y 1).isLt; omega
  have ey : ((cfg0.win 2).xinj (grid0.coords t) y : S1x1x256x256.Idx) = ix4 (0 : Fin 1) (0 : Fin 1) (y 2 : Fin 256) (y 3 : Fin 256) := funext fun a => Fin.ext (by
    match a with
    | ⟨0, _⟩ => exact hy0
    | ⟨1, _⟩ => exact hy1
    | ⟨2, _⟩ => rfl
    | ⟨3, _⟩ => rfl)
  show k0_pay1 (iblk m c 0 t) (iblk m c 1 t) ((cfg0.win 2).xinj (grid0.coords t) y) = G m c (((cfg0.win 2).blk t).view.emb y)
  refine (congrArg (k0_pay1 (iblk m c 0 t) (iblk m c 1 t)) ey).trans ((block (iblk m c 0 t) (iblk m c 1 t) (y 2 : Fin 256) (y 3 : Fin 256)).trans ?_)
  have f0 : (((cfg0.win 2).blk t).view.emb y 0).val = t.val / 4 := by
    show win0_2.index t (0 : Fin 4) * 1 + 1 * (y 0).val = _; rw [e0, hy0]; omega
  have f1 : (((cfg0.win 2).blk t).view.emb y 1).val = t.val % 4 := by
    show win0_2.index t (1 : Fin 4) * 1 + 1 * (y 1).val = _; rw [e1, hy1]; omega
  have f2 : (((cfg0.win 2).blk t).view.emb y 2).val = (y 2).val := by
    show win0_2.index t (2 : Fin 4) * 256 + 1 * (y 2).val = _; rw [e2]; omega
  have f3 : (((cfg0.win 2).blk t).view.emb y 3).val = (y 3).val := by
    show win0_2.index t (3 : Fin 4) * 256 + 1 * (y 3).val = _; rw [e3]; omega
  unfold G grad
  refine Finset.sum_congr rfl fun k _ => congrArg₂ (· * ·) ((blk0 m c t k _).trans ?_) ((blk1 m c t ht k _).trans ?_)
  · exact congrArg (m ((c : Thread nD τ).loc main_arg0)) (congrArg (ix2 k) (Fin.ext (by
      show t.val % 4 * 256 + (y 2).val = (((cfg0.win 2).blk t).view.emb y 1).val * 256 + (((cfg0.win 2).blk t).view.emb y 2).val
      rw [f1, f2])))
  · exact congrArg (m ((c : Thread nD τ).loc main_arg1)) (congrArg₂ (fun a b => ix3 a k b) (Fin.ext f0.symm) (Fin.ext (by
      show t.val % 4 * 256 + (y 3).val = (((cfg0.win 2).blk t).view.emb y 1).val * 256 + (((cfg0.win 2).blk t).view.emb y 3).val
      rw [f1, f3])))

/-- Every entry is in some point's block. -/
theorem covered (i : S2x4x256x256.Idx) : ∃ t : Fin cfg0.N, (cfg0.win 2).flush t = true ∧ i ∈ ((cfg0.win 2).blk t).view.set := by
  have h0 : (i 0).val < 2 := (i 0).isLt
  have h1 : (i 1).val < 4 := (i 1).isLt
  have h2 : (i 2).val < 256 := (i 2).isLt
  have h3 : (i 3).val < 256 := (i 3).isLt
  have hq : (i 0).val * 4 + (i 1).val < 8 := by omega
  let t : Fin cfg0.N := ⟨(i 0).val * 4 + (i 1).val, lt_of_lt_of_eq hq N_0.symm⟩
  obtain ⟨-, -, -, -, -, e0, e1, e2, e3, ht, hf⟩ := maps t
  have et : t.val = (i 0).val * 4 + (i 1).val := rfl
  refine ⟨t, hf, ?_⟩
  show i ∈ ((View.whole main_v2).slice (win0_2.rect t)).set
  rw [View.set_slice_whole, Rect.mem_set_unit]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- The kernel's result. -/
theorem final : (dats m 0 c).arrAt 2 cfg0.N = G m c :=
  (dats m 0 c).arrAt_eq_of_cover 2 _ (fun t _ => flushed_eq m c t) covered

end Cert.GateDwIdeal.Lin

namespace Cert.GateDwRefIdeal.Lin

open Cert.GateDwRefIdeal Cert.GateDwRefIdeal.Gen
open Idealize.ShloMosaic hiding ix0 ix1 ix2 ix3 ix4
open Idealize.ShloMosaic.TcCoe Idealize.ShloMosaic.ValueIdx

/-- The reference's result. -/
theorem result (x : FVec Ideal S4096x1024 .f32) (d : FVec Ideal S2x4096x1024 .f32) :
    Read.val_main_v9 (F := Ideal) x d = Cert.GateDwIdeal.Lin.grad x d := by
  funext i
  obtain ⟨g, h, r, q, rfl⟩ : ∃ (g : Fin 2) (h : Fin 4) (r q : Fin 256), i = ix4 g h r q := ⟨i 0, i 1, i 2, i 3, ValueIdx.eq_ix4 i⟩
  rw [Read.val_main_v9_apply]
  show Read.val_main_v8 (F := Ideal) x d _ = _
  rw [Read.val_main_v8_apply, Read.val_main_v7_apply]
  unfold Cert.GateDwIdeal.Lin.grad
  refine Finset.sum_congr rfl fun k _ => (mul_comm _ _).trans (congrArg₂ (· * ·) ?_ ?_)
  · rw [Read.val_main_v1_apply]
    refine congrArg x (funext fun a => Fin.ext ?_)
    match a with
    | ⟨0, _⟩ => show ((k.val * 4 + h.val) * 256 + r.val) / 1024 = k.val; omega
    | ⟨1, _⟩ => show ((k.val * 4 + h.val) * 256 + r.val) % 1024 = h.val * 256 + r.val; omega
  · rw [Read.val_main_v6_apply, Read.val_main_v5_apply]
    refine congrArg d (funext fun a => Fin.ext ?_)
    match a with
    | ⟨0, _⟩ => show (((g.val * 4096 + k.val) * 4 + h.val) * 256 + q.val) / 4194304 = g.val; omega
    | ⟨1, _⟩ => show (((g.val * 4096 + k.val) * 4 + h.val) * 256 + q.val) / 1024 % 4096 = k.val; omega
    | ⟨2, _⟩ => show (((g.val * 4096 + k.val) * 4 + h.val) * 256 + q.val) % 1024 = h.val * 256 + q.val; omega

end Cert.GateDwRefIdeal.Lin

namespace Cert.Proof

open Idealize.ShloMosaic Idealize.SL.Sem

/-- Kernel and reference compute the same gradient of the gates' weights. -/
theorem gateDw : Cert.algebraic_GateDwIdeal_GateDwRefIdeal := by
  intro m g m' g' _ hE
  refine ⟨fun c => Cert.GateDwIdeal.Lin.G m c, ?_, ?_⟩
  · exact (θ_run (Cert.GateDwIdeal.defs (F := Ideal)) _ _).mono
      (fun r h c => ⟨(h c).1.trans (Cert.GateDwIdeal.Lin.final m c), (h c).2⟩) (Cert.GateDwIdeal.Value.run_blocks (F := Ideal) m g)
  · refine (θ_run (Cert.GateDwRefIdeal.defs (F := Ideal)) _ _).mono (fun r h c => ⟨?_, (h c).2⟩) (Cert.GateDwRefIdeal.Value.run (F := Ideal) m' g')
    refine (h c).1.trans ((Cert.GateDwRefIdeal.Read.val_main_v9_eq _ _).trans ((Cert.GateDwRefIdeal.Lin.result _ _).trans ?_))
    exact congrArg₂ Cert.GateDwIdeal.Lin.grad (hE c).1 (hE c).2

end Cert.Proof

end
-- ==== Proof.Lin.MixIn.lean ====
/- The mixing layer's input projection, kernel and reference: the input times the weight, the kernel half the rows and a part of
   the columns at a time. -/
module

public import proofs.«01_k».proof.Defs
public import proofs.«01_k».proof.Proof.Gen.MixInIdeal.Value
public import proofs.«01_k».proof.Proof.Gen.MixInRefIdeal.Read
public import Idealize.ShloMosaic.Lib.Pointwise
public import Idealize.ShloMosaic.Lib.StableHlo.RunRead

@[expose] public section

set_option maxRecDepth 16384

noncomputable section

namespace Cert.MixInIdeal.Lin

open Cert.MixInIdeal Cert.MixInIdeal.Gen
open Idealize.ShloMosaic hiding ix0 ix1 ix2 ix3 ix4
open Idealize.ShloMosaic.TcCoe Idealize.ShloMosaic.ValueIdx Idealize.SL.Sem

/-- Entry `(R, q)` of the projection. -/
def proj (x : FVec Ideal S4096x1024 .f32) (w : FVec Ideal S1024x7168 .f32) : FVec Ideal S4096x7168 .bf16 := fun i =>
  ∑ k : Fin 1024, x (ix2 (i 0 : Fin 4096) k) * w (ix2 k (i 1 : Fin 7168))

variable (m : (ℓ : Loc nD τ sig) → Buf (Elt Ideal) ℓ) (c : Dev nD)

/-- One block: the product of the two operands. -/
theorem block (x0 : Vec Ideal S2048x1024 .bf16) (x1 : Vec Ideal S1024x1024 .bf16) (r : Fin 2048) (q : Fin 1024) :
    k0_pay1 x0 x1 (ix2 r q) = ∑ k : Fin 1024, x0 (ix2 r k) * x1 (ix2 k q) := by
  pointwise [k0_pay1]
  rfl

/-- The first operand as the call finds it. -/
theorem entry0 (r : Fin 4096) (k : Fin 1024) : V m c main_v0 (ix2 r k) = m ((c : Thread nD τ).loc main_arg0) (ix2 r k) := by
  have e : V m c main_v0 = truncf (F := Ideal) .bf16 (m ((c : Thread nD τ).loc main_arg0)) bitsLt_bf16_f32 := by
    unfold V hostOps0
    after_reads_simp
  rw [e]; rfl

/-- The second operand as the call finds it. -/
theorem entry1 (k : Fin 1024) (q : Fin 7168) : V m c main_v1 (ix2 k q) = m ((c : Thread nD τ).loc main_arg1) (ix2 k q) := by
  have e : V m c main_v1 = truncf (F := Ideal) .bf16 (m ((c : Thread nD τ).loc main_arg1)) bitsLt_bf16_f32 := by
    unfold V hostOps0
    after_reads_simp
  rw [e]; rfl

/-- The printed index maps over the fourteen points: the first operand goes half by half, the second part by part. -/
theorem maps : ∀ t : Fin cfg0.N, win0_0.index t (0 : Fin 2) = t.val % 2 ∧ win0_0.index t (1 : Fin 2) = 0
    ∧ win0_1.index t (0 : Fin 2) = 0 ∧ win0_1.index t (1 : Fin 2) = t.val / 2
    ∧ win0_2.index t (0 : Fin 2) = t.val % 2 ∧ win0_2.index t (1 : Fin 2) = t.val / 2 ∧ t.val < 14 ∧ (cfg0.win 2).flush t = true :=
  (by decide +kernel : ∀ t : Fin grid0.N, _)

/-- The first operand's block at a point. -/
theorem blk0 (t : Fin cfg0.N) (r : Fin 2048) (k : Fin 1024) :
    (iblk m c 0 t : Vec Ideal S2048x1024 .bf16) (ix2 r k)
      = m ((c : Thread nD τ).loc main_arg0) (ix2 (⟨t.val % 2 * 2048 + r.val, by omega⟩ : Fin 4096) k) := by
  obtain ⟨a0, a1, -⟩ := maps t
  refine Eq.trans (?_ : _ = V m c main_v0 (ix2 (⟨t.val % 2 * 2048 + r.val, by omega⟩ : Fin 4096) k)) (entry0 m c _ k)
  unfold iblk
  refine congrArg (V m c main_v0) (funext fun a => Fin.ext ?_)
  match a with
  | ⟨0, _⟩ => show win0_0.index t (0 : Fin 2) * 2048 + 1 * r.val = t.val % 2 * 2048 + r.val; omega
  | ⟨1, _⟩ => show win0_0.index t (1 : Fin 2) * 1024 + 1 * k.val = k.val; omega

/-- The second operand's block at a point. -/
theorem blk1 (t : Fin cfg0.N) (ht : t.val < 14) (k q : Fin 1024) :
    (iblk m c 1 t : Vec Ideal S1024x1024 .bf16) (ix2 k q)
      = m ((c : Thread nD τ).loc main_arg1) (ix2 k (⟨t.val / 2 * 1024 + q.val, by omega⟩ : Fin 7168)) := by
  obtain ⟨-, -, a0, a1, -⟩ := maps t
  refine Eq.trans (?_ : _ = V m c main_v1 (ix2 k (⟨t.val / 2 * 1024 + q.val, by omega⟩ : Fin 7168))) (entry1 m c k _)
  unfold iblk
  refine congrArg (V m c main_v1) (funext fun a => Fin.ext ?_)
  match a with
  | ⟨0, _⟩ => show win0_1.index t (0 : Fin 2) * 1024 + 1 * k.val = k.val; omega
  | ⟨1, _⟩ => show win0_1.index t (1 : Fin 2) * 1024 + 1 * q.val = t.val / 2 * 1024 + q.val; omega

/-- The projection of the memory's arguments. -/
abbrev G (c : Dev nD) : Buf (Elt Ideal) ((c : Thread nD τ).loc main_v2) :=
  proj (m ((c : Thread nD τ).loc main_arg0)) (m ((c : Thread nD τ).loc main_arg1))

/-- What a point writes back is its part of the projection. -/
theorem flushed_eq (t : Fin cfg0.N) : (dats m 0 c).flushed 2 t = ((cfg0.win 2).blk t).view.read (Elt Ideal) (G m c) := by
  obtain ⟨-, -, -, -, e0, e1, ht, -⟩ := maps t
  rw [Value.flushed2]
  unfold out0_2
  rw [View.canon_unit_zero (by decide), View.ld_unit_zero (by decide), View.ld_unit_zero (by decide)]
  funext y
  have ey : ((cfg0.win 2).xinj (grid0.coords t) y : S2048x1024.Idx) = ix2 (y 0 : Fin 2048) (y 1 : Fin 1024) := funext fun a => Fin.ext (by
    match a with
    | ⟨0, _⟩ => rfl
    | ⟨1, _⟩ => rfl)
  show k0_pay1 (iblk m c 0 t) (iblk m c 1 t) ((cfg0.win 2).xinj (grid0.coords t) y) = G m c (((cfg0.win 2).blk t).view.emb y)
  refine (congrArg (k0_pay1 (iblk m c 0 t) (iblk m c 1 t)) ey).trans ((block (iblk m c 0 t) (iblk m c 1 t) (y 0 : Fin 2048) (y 1 : Fin 1024)).trans ?_)
  have f0 : (((cfg0.win 2).blk t).view.emb y 0).val = t.val % 2 * 2048 + (y 0).val := by
    show win0_2.index t (0 : Fin 2) * 2048 + 1 * (y 0).val = _; rw [e0]; omega
  have f1 : (((cfg0.win 2).blk t).view.emb y 1).val = t.val / 2 * 1024 + (y 1).val := by
    show win0_2.index t (1 : Fin 2) * 1024 + 1 * (y 1).val = _; rw [e1]; omega
  unfold G proj
  refine Finset.sum_congr rfl fun k _ => congrArg₂ (· * ·) ((blk0 m c t _ k).trans ?_) ((blk1 m c t ht k _).trans ?_)
  · exact congrArg (m ((c : Thread nD τ).loc main_arg0)) (congrArg (ix2 · k) (Fin.ext f0.symm))
  · exact congrArg (m ((c : Thread nD τ).loc main_arg1)) (congrArg (ix2 k) (Fin.ext f1.symm))

/-- Every entry is in some point's block. -/
theorem covered (i : S4096x7168.Idx) : ∃ t : Fin cfg0.N, (cfg0.win 2).flush t = true ∧ i ∈ ((cfg0.win 2).blk t).view.set := by
  have h0 : (i 0).val < 4096 := (i 0).isLt
  have h1 : (i 1).val < 7168 := (i 1).isLt
  have hq : (i 1).val / 1024 * 2 + (i 0).val / 2048 < 14 := by omega
  let t : Fin cfg0.N := ⟨(i 1).val / 1024 * 2 + (i 0).val / 2048, lt_of_lt_of_eq hq N_0.symm⟩
  obtain ⟨-, -, -, -, e0, e1, ht, hf⟩ := maps t
  have et : t.val = (i 1).val / 1024 * 2 + (i 0).val / 2048 := rfl
  refine ⟨t, hf, ?_⟩
  show i ∈ ((View.whole main_v2).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- The kernel's result. -/
theorem final : (dats m 0 c).arrAt 2 cfg0.N = G m c :=
  (dats m 0 c).arrAt_eq_of_cover 2 _ (fun t _ => flushed_eq m c t) covered

end Cert.MixInIdeal.Lin

namespace Cert.MixInRefIdeal.Lin

open Cert.MixInRefIdeal Cert.MixInRefIdeal.Gen
open Idealize.ShloMosaic hiding ix0 ix1 ix2 ix3 ix4
open Idealize.ShloMosaic.TcCoe Idealize.ShloMosaic.ValueIdx

/-- The reference's result. -/
theorem result (x : FVec Ideal S4096x1024 .f32) (w : FVec Ideal S1024x7168 .f32) :
    Read.val_main_v1 (F := Ideal) x w = Cert.MixInIdeal.Lin.proj x w := by
  funext i
  rw [Read.val_main_v1_apply]
  show Read.val_main_v0 (F := Ideal) x w _ = _
  rw [Read.val_main_v0_apply]
  unfold Cert.MixInIdeal.Lin.proj
  refine Finset.sum_congr rfl fun k _ => congrArg₂ (· * ·) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

end Cert.MixInRefIdeal.Lin

namespace Cert.Proof

open Idealize.ShloMosaic Idealize.SL.Sem

/-- Kernel and reference compute the same projection. -/
theorem mixIn : Cert.algebraic_MixInIdeal_MixInRefIdeal := by
  intro m g m' g' _ hE
  refine ⟨fun c => Cert.MixInIdeal.Lin.G m c, ?_, ?_⟩
  · exact (θ_run (Cert.MixInIdeal.defs (F := Ideal)) _ _).mono
      (fun r h c => ⟨(h c).1.trans (Cert.MixInIdeal.Lin.final m c), (h c).2⟩) (Cert.MixInIdeal.Value.run_blocks (F := Ideal) m g)
  · refine (θ_run (Cert.MixInRefIdeal.defs (F := Ideal)) _ _).mono (fun r h c => ⟨?_, (h c).2⟩) (Cert.MixInRefIdeal.Value.run (F := Ideal) m' g')
    refine (h c).1.trans ((Cert.MixInRefIdeal.Read.val_main_v1_eq _ _).trans ((Cert.MixInRefIdeal.Lin.result _ _).trans ?_))
    exact congrArg₂ Cert.MixInIdeal.Lin.proj (hE c).1 (hE c).2

end Cert.Proof

end
-- ==== Proof.Lin.Sigmoid.lean ====
/- The sigmoid by the hyperbolic tangent of half the argument, over the extended reals. -/
module

public import proofs.«01_k».proof.Proof.Val.Has

@[expose] public section

noncomputable section

namespace Cert.Lin

open Idealize.ShloMosaic

/-- The identity on the real numbers. -/
theorem half_tanh_real (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have o : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = a at *
  generalize Real.exp (-(1 / 2 * r)) = b at *
  field_simp
  nlinarith

/-- Half the hyperbolic tangent of half the argument, and a half, is the sigmoid. -/
theorem half_tanh (x : EReal) :
    (Ideal.ofBits .f32 0x3F000000#32 : EReal) * Ideal.tanh ((Ideal.ofBits .f32 0x3F000000#32 : EReal) * x)
      + (Ideal.ofBits .f32 0x3F000000#32 : EReal) = Ideal.logistic x := by
  rw [Cert.Val.litHalf]
  induction x with
  | bot =>
    rw [EReal.coe_mul_bot_of_pos (by norm_num), Ideal.tanh_bot, Ideal.logistic_bot,
      show (-1 : EReal) = ((-1 : ℝ) : EReal) from rfl, ← EReal.coe_mul, ← EReal.coe_add]
    norm_num
  | top =>
    rw [EReal.coe_mul_top_of_pos (by norm_num), Ideal.tanh_top, Ideal.logistic_top, mul_one, ← EReal.coe_add]
    norm_num
  | coe r => rw [← EReal.coe_mul, Ideal.tanh_coe, ← EReal.coe_mul, ← EReal.coe_add, Ideal.logistic_coe, half_tanh_real]

end Cert.Lin

end
-- ==== Proof.Lin.Up.lean ====
/- The first product of the second macaron half, kernel and reference: the two halves of the columns of the input times the weight, and
   the gated unit of the two. The kernel works on half the rows and one of four parts of the columns at a time. -/
module

public import proofs.«01_k».proof.Defs
public import proofs.«01_k».proof.Proof.Lin.Sigmoid
public import proofs.«01_k».proof.Proof.Gen.FfnUpIdeal.Value
public import proofs.«01_k».proof.Proof.Gen.FfnUpRefIdeal.Read
public import Idealize.ShloMosaic.Lib.Pointwise
public import Idealize.ShloMosaic.Lib.StableHlo.RunRead

@[expose] public section

set_option maxRecDepth 16384

noncomputable section

namespace Cert.FfnUpIdeal.Lin

open Cert.FfnUpIdeal Cert.FfnUpIdeal.Gen
open Idealize.ShloMosaic hiding ix0 ix1 ix2 ix3 ix4
open Idealize.ShloMosaic.TcCoe Idealize.ShloMosaic.ValueIdx Idealize.SL.Sem

/-- Entry `(R, n)` of the input times the half's weight. -/
def lin (x : FVec Ideal S4096x1024 .f32) (w : FVec Ideal S2x1024x5632 .f32) (R : Fin 4096) (n : Fin 5632) : EReal :=
  ∑ k : Fin 1024, x (ix2 R k) * w (ix3 (1 : Fin 2) k n)

/-- The gate: the first half of the columns, in four parts. -/
def gate (x : FVec Ideal S4096x1024 .f32) (w : FVec Ideal S2x1024x5632 .f32) : FVec Ideal S4x4096x704 .bf16 := fun i =>
  lin x w (i 1 : Fin 4096) (⟨(i 0).val * 704 + (i 2).val, by
    have h0 : (i 0).val < 4 := (i 0).isLt; have h2 : (i 2).val < 704 := (i 2).isLt; omega⟩ : Fin 5632)

/-- The value the gate acts on: the second half of the columns, in four parts. -/
def up (x : FVec Ideal S4096x1024 .f32) (w : FVec Ideal S2x1024x5632 .f32) : FVec Ideal S4x4096x704 .bf16 := fun i =>
  lin x w (i 1 : Fin 4096) (⟨2816 + ((i 0).val * 704 + (i 2).val), by
    have h0 : (i 0).val < 4 := (i 0).isLt; have h2 : (i 2).val < 704 := (i 2).isLt; omega⟩ : Fin 5632)

/-- The gated unit. -/
def unitOf (x : FVec Ideal S4096x1024 .f32) (w : FVec Ideal S2x1024x5632 .f32) : FVec Ideal S4x4096x704 .bf16 := fun i =>
  (gate x w i : EReal) * Ideal.logistic (gate x w i : EReal) * (up x w i : EReal)

variable (m : (ℓ : Loc nD τ sig) → Buf (Elt Ideal) ℓ) (c : Dev nD)

/-- One block of the gate. -/
theorem block3 (x0 : Vec Ideal S2048x1024 .bf16) (x1 : Vec Ideal S1x1x1024x704 .bf16) (r : Fin 2048) (q : Fin 704) :
    k0_pay4 x0 x1 (ix3 (0 : Fin 1) r q) = ∑ k : Fin 1024, x0 (ix2 r k) * x1 (ix4 (0 : Fin 1) (0 : Fin 1) k q) := by
  pointwise [k0_pay4, k0_pay2, k0_pay1]
  rfl

/-- One block of the gated value. -/
theorem block4 (x0 : Vec Ideal S2048x1024 .bf16) (x2 : Vec Ideal S1x1x1024x704 .bf16) (r : Fin 2048) (q : Fin 704) :
    k0_pay5 x0 x2 (ix3 (0 : Fin 1) r q) = ∑ k : Fin 1024, x0 (ix2 r k) * x2 (ix4 (0 : Fin 1) (0 : Fin 1) k q) := by
  pointwise [k0_pay5, k0_pay3, k0_pay1]
  rfl

/-- One block of the gated unit. -/
theorem block5 (x0 : Vec Ideal S2048x1024 .bf16) (x1 x2 : Vec Ideal S1x1x1024x704 .bf16) (r : Fin 2048) (q : Fin 704) :
    k0_pay6 x0 x1 x2 (ix3 (0 : Fin 1) r q)
      = (k0_pay4 x0 x1 (ix3 (0 : Fin 1) r q) : EReal) * Ideal.logistic (k0_pay4 x0 x1 (ix3 (0 : Fin 1) r q) : EReal)
        * (k0_pay5 x0 x2 (ix3 (0 : Fin 1) r q) : EReal) := by
  have e4 : (k0_pay4 x0 x1 (ix3 (0 : Fin 1) r q) : EReal) = k0_pay2 x0 x1 (ix2 r q) := by pointwise [k0_pay4]; rfl
  have e5 : (k0_pay5 x0 x2 (ix3 (0 : Fin 1) r q) : EReal) = k0_pay3 x0 x2 (ix2 r q) := by pointwise [k0_pay5]; rfl
  rw [e4, e5, ← Cert.Lin.half_tanh]
  pointwise [k0_pay6]
  rfl

/-- The input as the call finds it. -/
theorem entry0 (r : Fin 4096) (k : Fin 1024) : V m c main_v0 (ix2 r k) = m ((c : Thread nD τ).loc main_arg0) (ix2 r k) := by
  have e : V m c main_v0 = truncf (F := Ideal) .bf16 (m ((c : Thread nD τ).loc main_arg0)) bitsLt_bf16_f32 := by
    unfold V hostOps0
    after_reads_simp
  rw [e]; rfl

/-- The weights as the call finds them: their columns in eight parts. -/
theorem entry1 (f : Fin 2) (j : Fin 8) (t : Fin 1024) (q : Fin 704) :
    V m c main_v3 (ix4 f j t q) = m ((c : Thread nD τ).loc main_arg1) (ix3 f t (⟨j.val * 704 + q.val, by omega⟩ : Fin 5632)) := by
  have e : V m c main_v3 = truncf (F := Ideal) .bf16 (transpose S2x8x1024x704 [0, 2, 1, 3]
      (shapeCast S2x1024x8x704 (m ((c : Thread nD τ).loc main_arg1)) shapeCasts_S2x1024x5632_S2x1024x8x704) transposes_S2x1024x8x704_S2x8x1024x704_0_2_1_3) bitsLt_bf16_f32 := by
    unfold V hostOps0
    after_reads_simp
    rfl
  rw [e]
  pointwise []
  rfl

/-- The printed index maps over the eight points: rows half by half, columns part by part. -/
theorem maps : ∀ t : Fin cfg0.N, win0_0.index t (0 : Fin 2) = t.val % 2 ∧ win0_0.index t (1 : Fin 2) = 0
    ∧ win0_1.index t (0 : Fin 4) = 1 ∧ win0_1.index t (1 : Fin 4) = t.val / 2 ∧ win0_1.index t (2 : Fin 4) = 0 ∧ win0_1.index t (3 : Fin 4) = 0
    ∧ win0_2.index t (0 : Fin 4) = 1 ∧ win0_2.index t (1 : Fin 4) = t.val / 2 + 4 ∧ win0_2.index t (2 : Fin 4) = 0 ∧ win0_2.index t (3 : Fin 4) = 0
    ∧ t.val < 8 :=
  (by decide +kernel : ∀ t : Fin grid0.N, _)

/-- The printed index map of result 1, and that every point writes back. -/
theorem omaps3 : ∀ t : Fin cfg0.N, win0_3.index t (0 : Fin 3) = t.val / 2 ∧ win0_3.index t (1 : Fin 3) = t.val % 2
    ∧ win0_3.index t (2 : Fin 3) = 0 ∧ (cfg0.win 3).flush t = true :=
  (by decide +kernel : ∀ t : Fin grid0.N, _)

/-- The printed index map of result 2, and that every point writes back. -/
theorem omaps4 : ∀ t : Fin cfg0.N, win0_4.index t (0 : Fin 3) = t.val / 2 ∧ win0_4.index t (1 : Fin 3) = t.val % 2
    ∧ win0_4.index t (2 : Fin 3) = 0 ∧ (cfg0.win 4).flush t = true :=
  (by decide +kernel : ∀ t : Fin grid0.N, _)

/-- The printed index map of result 3, and that every point writes back. -/
theorem omaps5 : ∀ t : Fin cfg0.N, win0_5.index t (0 : Fin 3) = t.val / 2 ∧ win0_5.index t (1 : Fin 3) = t.val % 2
    ∧ win0_5.index t (2 : Fin 3) = 0 ∧ (cfg0.win 5).flush t = true :=
  (by decide +kernel : ∀ t : Fin grid0.N, _)

/-- The input's block at a point. -/
theorem blk0 (t : Fin cfg0.N) (r : Fin 2048) (k : Fin 1024) (R : Fin 4096) (hR : R.val = t.val % 2 * 2048 + r.val) :
    (iblk m c 0 t : Vec Ideal S2048x1024 .bf16) (ix2 r k) = m ((c : Thread nD τ).loc main_arg0) (ix2 R k) := by
  obtain ⟨a0, a1, -⟩ := maps t
  refine Eq.trans (?_ : _ = V m c main_v0 (ix2 R k)) (entry0 m c _ k)
  unfold iblk
  refine congrArg (V m c main_v0) (funext fun a => Fin.ext ?_)
  match a with
  | ⟨0, _⟩ => show win0_0.index t (0 : Fin 2) * 2048 + 1 * r.val = R.val; omega
  | ⟨1, _⟩ => show win0_0.index t (1 : Fin 2) * 1024 + 1 * k.val = k.val; omega

/-- The gate weight's block at a point. -/
theorem blk1 (t : Fin cfg0.N) (k : Fin 1024) (q : Fin 704) (n : Fin 5632) (hn : n.val = t.val / 2 * 704 + q.val) :
    (iblk m c 1 t : Vec Ideal S1x1x1024x704 .bf16) (ix4 (0 : Fin 1) (0 : Fin 1) k q)
      = m ((c : Thread nD τ).loc main_arg1) (ix3 (1 : Fin 2) k n) := by
  obtain ⟨-, -, a0, a1, a2, a3, -, -, -, -, ht⟩ := maps t
  have h : t.val / 2 < 8 := by omega
  refine Eq.trans (?_ : _ = V m c main_v3 (ix4 (1 : Fin 2) (⟨t.val / 2, h⟩ : Fin 8) k q))
    ((entry1 m c 1 ⟨t.val / 2, h⟩ k q).trans (congrArg (m ((c : Thread nD τ).loc main_arg1)) (congrArg (ix3 (1 : Fin 2) k) (Fin.ext hn.symm))))
  unfold iblk
  refine congrArg (V m c main_v3) (funext fun a => Fin.ext ?_)
  match a with
  | ⟨0, _⟩ => show win0_1.index t (0 : Fin 4) * 1 + 1 * 0 = 1; omega
  | ⟨1, _⟩ => show win0_1.index t (1 : Fin 4) * 1 + 1 * 0 = t.val / 2; omega
  | ⟨2, _⟩ => show win0_1.index t (2 : Fin 4) * 1024 + 1 * k.val = k.val; omega
  | ⟨3, _⟩ => show win0_1.index t (3 : Fin 4) * 704 + 1 * q.val = q.val; omega

/-- The other weight's block at a point. -/
theorem blk2 (t : Fin cfg0.N) (k : Fin 1024) (q : Fin 704) (n : Fin 5632) (hn : n.val = 2816 + (t.val / 2 * 704 + q.val)) :
    (iblk m c 2 t : Vec Ideal S1x1x1024x704 .bf16) (ix4 (0 : Fin 1) (0 : Fin 1) k q)
      = m ((c : Thread nD τ).loc main_arg1) (ix3 (1 : Fin 2) k n) := by
  obtain ⟨-, -, -, -, -, -, a0, a1, a2, a3, ht⟩ := maps t
  have h : t.val / 2 + 4 < 8 := by omega
  refine Eq.trans (?_ : _ = V m c main_v3 (ix4 (1 : Fin 2) (⟨t.val / 2 + 4, h⟩ : Fin 8) k q))
    ((entry1 m c 1 ⟨t.val / 2 + 4, h⟩ k q).trans (congrArg (m ((c : Thread nD τ).loc main_arg1)) (congrArg (ix3 (1 : Fin 2) k) (Fin.ext ?_))))
  · unfold iblk
    refine congrArg (V m c main_v3) (funext fun a => Fin.ext ?_)
    match a with
    | ⟨0, _⟩ => show win0_2.index t (0 : Fin 4) * 1 + 1 * 0 = 1; omega
    | ⟨1, _⟩ => show win0_2.index t (1 : Fin 4) * 1 + 1 * 0 = t.val / 2 + 4; omega
    | ⟨2, _⟩ => show win0_2.index t (2 : Fin 4) * 1024 + 1 * k.val = k.val; omega
    | ⟨3, _⟩ => show win0_2.index t (3 : Fin 4) * 704 + 1 * q.val = q.val; omega
  · show (t.val / 2 + 4) * 704 + q.val = n.val; omega

/-- A point's block of the gate, by the arguments. -/
theorem at3 (t : Fin cfg0.N) (r : Fin 2048) (q : Fin 704) (R : Fin 4096) (n : Fin 5632)
    (hR : R.val = t.val % 2 * 2048 + r.val) (hn : n.val = t.val / 2 * 704 + q.val) :
    k0_pay4 (F := Ideal) (iblk m c 0 t) (iblk m c 1 t) (ix3 (0 : Fin 1) r q)
      = lin (m ((c : Thread nD τ).loc main_arg0)) (m ((c : Thread nD τ).loc main_arg1)) R n :=
  (block3 (iblk m c 0 t) (iblk m c 1 t) r q).trans
    (Finset.sum_congr rfl fun k _ => congrArg₂ (· * ·) (blk0 m c t r k R hR) (blk1 m c t k q n hn))

/-- A point's block of the gated value, by the arguments. -/
theorem at4 (t : Fin cfg0.N) (r : Fin 2048) (q : Fin 704) (R : Fin 4096) (n : Fin 5632)
    (hR : R.val = t.val % 2 * 2048 + r.val) (hn : n.val = 2816 + (t.val / 2 * 704 + q.val)) :
    k0_pay5 (F := Ideal) (iblk m c 0 t) (iblk m c 2 t) (ix3 (0 : Fin 1) r q)
      = lin (m ((c : Thread nD τ).loc main_arg0)) (m ((c : Thread nD τ).loc main_arg1)) R n :=
  (block4 (iblk m c 0 t) (iblk m c 2 t) r q).trans
    (Finset.sum_congr rfl fun k _ => congrArg₂ (· * ·) (blk0 m c t r k R hR) (blk2 m c t k q n hn))

/-- A point's block of the gated unit, by the arguments. -/
theorem at5 (t : Fin cfg0.N) (r : Fin 2048) (q : Fin 704) (R : Fin 4096) (n n' : Fin 5632)
    (hR : R.val = t.val % 2 * 2048 + r.val) (hn : n.val = t.val / 2 * 704 + q.val) (hn' : n'.val = 2816 + (t.val / 2 * 704 + q.val)) :
    k0_pay6 (F := Ideal) (iblk m c 0 t) (iblk m c 1 t) (iblk m c 2 t) (ix3 (0 : Fin 1) r q)
      = lin (m ((c : Thread nD τ).loc main_arg0)) (m ((c : Thread nD τ).loc main_arg1)) R n
        * Ideal.logistic (lin (m ((c : Thread nD τ).loc main_arg0)) (m ((c : Thread nD τ).loc main_arg1)) R n)
        * lin (m ((c : Thread nD τ).loc main_arg0)) (m ((c : Thread nD τ).loc main_arg1)) R n' :=
  (block5 (iblk m c 0 t) (iblk m c 1 t) (iblk m c 2 t) r q).trans
    (congrArg₂ (· * ·) (congrArg (fun z : EReal => z * Ideal.logistic z) (at3 m c t r q R n hR hn)) (at4 m c t r q R n' hR hn'))

/-- The gate of the memory's arguments. -/
abbrev G3 (c : Dev nD) : Buf (Elt Ideal) ((c : Thread nD τ).loc main_v4_0) :=
  gate (m ((c : Thread nD τ).loc main_arg0)) (m ((c : Thread nD τ).loc main_arg1))

/-- What a point writes back is its part of the gate. -/
theorem flushed_eq3 (t : Fin cfg0.N) : (dats m 0 c).flushed 3 t = ((cfg0.win 3).blk t).view.read (Elt Ideal) (G3 m c) := by
  obtain ⟨e0, e1, e2, -⟩ := omaps3 t
  rw [Value.flushed3]
  unfold out0_3
  rw [View.canon_unit_zero (by decide), View.ld_unit_zero (by decide), View.ld_unit_zero (by decide)]
  funext y
  have h0 : (y 0).val < 1 := (y 0).isLt
  have ey : ((cfg0.win 3).xinj (grid0.coords t) y : S1x2048x704.Idx) = ix3 (0 : Fin 1) (y 1 : Fin 2048) (y 2 : Fin 704) := funext fun a => Fin.ext (by
    match a with
    | ⟨0, _⟩ => show (y 0).val = 0; omega
    | ⟨1, _⟩ => rfl
    | ⟨2, _⟩ => rfl)
  show k0_pay4 (iblk m c 0 t) (iblk m c 1 t) ((cfg0.win 3).xinj (grid0.coords t) y) = G3 m c (((cfg0.win 3).blk t).view.emb y)
  have f0 : (((cfg0.win 3).blk t).view.emb y 0).val = t.val / 2 := by
    show win0_3.index t (0 : Fin 3) * 1 + 1 * (y 0).val = _; rw [e0]; omega
  have f1 : (((cfg0.win 3).blk t).view.emb y 1).val = t.val % 2 * 2048 + (y 1).val := by
    show win0_3.index t (1 : Fin 3) * 2048 + 1 * (y 1).val = _; rw [e1]; omega
  have f2 : (((cfg0.win 3).blk t).view.emb y 2).val = (y 2).val := by
    show win0_3.index t (2 : Fin 3) * 704 + 1 * (y 2).val = _; rw [e2]; omega
  exact (congrArg (k0_pay4 (iblk m c 0 t) (iblk m c 1 t)) ey).trans (at3 m c t (y 1 : Fin 2048) (y 2 : Fin 704) _ _ f1 (by show (((cfg0.win 3).blk t).view.emb y 0).val * 704 + (((cfg0.win 3).blk t).view.emb y 2).val = t.val / 2 * 704 + (y 2).val; rw [f0, f2]))

/-- Every entry is in some point's block. -/
theorem covered3 (i : S4x4096x704.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 704 := (i 2).isLt
  have hq : (i 0).val * 2 + (i 1).val / 2048 < 8 := by omega
  let t : Fin cfg0.N := ⟨(i 0).val * 2 + (i 1).val / 2048, lt_of_lt_of_eq hq N_0.symm⟩
  obtain ⟨e0, e1, e2, hf⟩ := omaps3 t
  have et : t.val = (i 0).val * 2 + (i 1).val / 2048 := rfl
  refine ⟨t, hf, ?_⟩
  show i ∈ ((View.whole main_v4_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 704 ≤ (i 2).val ∧ (i 2).val < win0_3.index t (2 : Fin 3) * 704 + 704; omega

/-- The kernel's gate. -/
theorem final3 : (dats m 0 c).arrAt 3 cfg0.N = G3 m c :=
  (dats m 0 c).arrAt_eq_of_cover 3 _ (fun t _ => flushed_eq3 m c t) covered3

/-- The gated value of the memory's arguments. -/
abbrev G4 (c : Dev nD) : Buf (Elt Ideal) ((c : Thread nD τ).loc main_v4_1) :=
  up (m ((c : Thread nD τ).loc main_arg0)) (m ((c : Thread nD τ).loc main_arg1))

/-- What a point writes back is its part of the gated value. -/
theorem flushed_eq4 (t : Fin cfg0.N) : (dats m 0 c).flushed 4 t = ((cfg0.win 4).blk t).view.read (Elt Ideal) (G4 m c) := by
  obtain ⟨e0, e1, e2, -⟩ := omaps4 t
  rw [Value.flushed4]
  unfold out0_4
  rw [View.canon_unit_zero (by decide), View.ld_unit_zero (by decide), View.ld_unit_zero (by decide)]
  funext y
  have h0 : (y 0).val < 1 := (y 0).isLt
  have ey : ((cfg0.win 4).xinj (grid0.coords t) y : S1x2048x704.Idx) = ix3 (0 : Fin 1) (y 1 : Fin 2048) (y 2 : Fin 704) := funext fun a => Fin.ext (by
    match a with
    | ⟨0, _⟩ => show (y 0).val = 0; omega
    | ⟨1, _⟩ => rfl
    | ⟨2, _⟩ => rfl)
  show k0_pay5 (iblk m c 0 t) (iblk m c 2 t) ((cfg0.win 4).xinj (grid0.coords t) y) = G4 m c (((cfg0.win 4).blk t).view.emb y)
  have f0 : (((cfg0.win 4).blk t).view.emb y 0).val = t.val / 2 := by
    show win0_4.index t (0 : Fin 3) * 1 + 1 * (y 0).val = _; rw [e0]; omega
  have f1 : (((cfg0.win 4).blk t).view.emb y 1).val = t.val % 2 * 2048 + (y 1).val := by
    show win0_4.index t (1 : Fin 3) * 2048 + 1 * (y 1).val = _; rw [e1]; omega
  have f2 : (((cfg0.win 4).blk t).view.emb y 2).val = (y 2).val := by
    show win0_4.index t (2 : Fin 3) * 704 + 1 * (y 2).val = _; rw [e2]; omega
  exact (congrArg (k0_pay5 (iblk m c 0 t) (iblk m c 2 t)) ey).trans (at4 m c t (y 1 : Fin 2048) (y 2 : Fin 704) _ _ f1 (by show 2816 + ((((cfg0.win 4).blk t).view.emb y 0).val * 704 + (((cfg0.win 4).blk t).view.emb y 2).val) = 2816 + (t.val / 2 * 704 + (y 2).val); rw [f0, f2]))

/-- Every entry is in some point's block. -/
theorem covered4 (i : S4x4096x704.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 704 := (i 2).isLt
  have hq : (i 0).val * 2 + (i 1).val / 2048 < 8 := by omega
  let t : Fin cfg0.N := ⟨(i 0).val * 2 + (i 1).val / 2048, lt_of_lt_of_eq hq N_0.symm⟩
  obtain ⟨e0, e1, e2, hf⟩ := omaps4 t
  have et : t.val = (i 0).val * 2 + (i 1).val / 2048 := rfl
  refine ⟨t, hf, ?_⟩
  show i ∈ ((View.whole main_v4_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 704 ≤ (i 2).val ∧ (i 2).val < win0_4.index t (2 : Fin 3) * 704 + 704; omega

/-- The kernel's gated value. -/
theorem final4 : (dats m 0 c).arrAt 4 cfg0.N = G4 m c :=
  (dats m 0 c).arrAt_eq_of_cover 4 _ (fun t _ => flushed_eq4 m c t) covered4

/-- The gated unit of the memory's arguments. -/
abbrev G5 (c : Dev nD) : Buf (Elt Ideal) ((c : Thread nD τ).loc main_v4_2) :=
  unitOf (m ((c : Thread nD τ).loc main_arg0)) (m ((c : Thread nD τ).loc main_arg1))

/-- What a point writes back is its part of the gated unit. -/
theorem flushed_eq5 (t : Fin cfg0.N) : (dats m 0 c).flushed 5 t = ((cfg0.win 5).blk t).view.read (Elt Ideal) (G5 m c) := by
  obtain ⟨e0, e1, e2, -⟩ := omaps5 t
  rw [Value.flushed5]
  unfold out0_5
  rw [View.canon_unit_zero (by decide), View.ld_unit_zero (by decide), View.ld_unit_zero (by decide), View.ld_unit_zero (by decide)]
  funext y
  have h0 : (y 0).val < 1 := (y 0).isLt
  have ey : ((cfg0.win 5).xinj (grid0.coords t) y : S1x2048x704.Idx) = ix3 (0 : Fin 1) (y 1 : Fin 2048) (y 2 : Fin 704) := funext fun a => Fin.ext (by
    match a with
    | ⟨0, _⟩ => show (y 0).val = 0; omega
    | ⟨1, _⟩ => rfl
    | ⟨2, _⟩ => rfl)
  show k0_pay6 (iblk m c 0 t) (iblk m c 1 t) (iblk m c 2 t) ((cfg0.win 5).xinj (grid0.coords t) y) = G5 m c (((cfg0.win 5).blk t).view.emb y)
  have f0 : (((cfg0.win 5).blk t).view.emb y 0).val = t.val / 2 := by
    show win0_5.index t (0 : Fin 3) * 1 + 1 * (y 0).val = _; rw [e0]; omega
  have f1 : (((cfg0.win 5).blk t).view.emb y 1).val = t.val % 2 * 2048 + (y 1).val := by
    show win0_5.index t (1 : Fin 3) * 2048 + 1 * (y 1).val = _; rw [e1]; omega
  have f2 : (((cfg0.win 5).blk t).view.emb y 2).val = (y 2).val := by
    show win0_5.index t (2 : Fin 3) * 704 + 1 * (y 2).val = _; rw [e2]; omega
  exact (congrArg (k0_pay6 (iblk m c 0 t) (iblk m c 1 t) (iblk m c 2 t)) ey).trans (at5 m c t (y 1 : Fin 2048) (y 2 : Fin 704) _ _ _ f1 (by show (((cfg0.win 5).blk t).view.emb y 0).val * 704 + (((cfg0.win 5).blk t).view.emb y 2).val = t.val / 2 * 704 + (y 2).val; rw [f0, f2]) (by show 2816 + ((((cfg0.win 5).blk t).view.emb y 0).val * 704 + (((cfg0.win 5).blk t).view.emb y 2).val) = 2816 + (t.val / 2 * 704 + (y 2).val); rw [f0, f2]))

/-- Every entry is in some point's block. -/
theorem covered5 (i : S4x4096x704.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 704 := (i 2).isLt
  have hq : (i 0).val * 2 + (i 1).val / 2048 < 8 := by omega
  let t : Fin cfg0.N := ⟨(i 0).val * 2 + (i 1).val / 2048, lt_of_lt_of_eq hq N_0.symm⟩
  obtain ⟨e0, e1, e2, hf⟩ := omaps5 t
  have et : t.val = (i 0).val * 2 + (i 1).val / 2048 := rfl
  refine ⟨t, hf, ?_⟩
  show i ∈ ((View.whole main_v4_2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 704 ≤ (i 2).val ∧ (i 2).val < win0_5.index t (2 : Fin 3) * 704 + 704; omega

/-- The kernel's gated unit. -/
theorem final5 : (dats m 0 c).arrAt 5 cfg0.N = G5 m c :=
  (dats m 0 c).arrAt_eq_of_cover 5 _ (fun t _ => flushed_eq5 m c t) covered5

end Cert.FfnUpIdeal.Lin

namespace Cert.FfnUpRefIdeal.Lin

open Cert.FfnUpRefIdeal Cert.FfnUpRefIdeal.Gen
open Idealize.ShloMosaic hiding ix0 ix1 ix2 ix3 ix4
open Idealize.ShloMosaic.TcCoe Idealize.ShloMosaic.ValueIdx
open Cert.FfnUpIdeal.Lin (lin gate up unitOf)

variable (x : FVec Ideal S4096x1024 .f32) (w : FVec Ideal S2x1024x5632 .f32)

/-- The reference's product. -/
theorem product (i : S4096x5632.Idx) : Read.val_main_v2 (F := Ideal) x w i = lin x w (i 0 : Fin 4096) (i 1 : Fin 5632) := by
  have h1 : (i 1).val < 5632 := (i 1).isLt
  rw [Read.val_main_v2_apply]
  unfold lin
  refine Finset.sum_congr rfl fun k _ => congrArg₂ (· * ·) (congrArg x (funext fun a => Fin.ext ?_)) ?_
  · match a with
    | ⟨0, _⟩ => rfl
    | ⟨1, _⟩ => rfl
  · rw [Read.val_main_v1_apply, Read.val_main_v0_apply]
    refine congrArg w (funext fun a => Fin.ext ?_)
    match a with
    | ⟨0, _⟩ => rfl
    | ⟨1, _⟩ => show (k.val * 5632 + (i 1).val) / 5632 % 1024 = k.val; omega
    | ⟨2, _⟩ => show (k.val * 5632 + (i 1).val) % 5632 = (i 1).val; omega

/-- An entry of the product at another way of writing its place. -/
theorem lin_at {R R' : Fin 4096} {n n' : Fin 5632} (hR : R.val = R'.val) (hn : n.val = n'.val) : lin x w R n = lin x w R' n' := by
  rw [Fin.ext hR, Fin.ext hn]

/-- The gate before its parts are laid out, at the place a part's entry comes from. -/
theorem gateAt (p : S4096x4x704.Idx) (j : Fin 4) (R : Fin 4096) (q : Fin 704) (hp : p = ix3 R j q) :
    Read.val_main_v3 (F := Ideal) x w (Read.idx_main_v5 p) = gate x w (ix3 j R q) := by
  subst hp
  rw [Read.val_main_v3_apply, product]
  refine lin_at x w ?_ ?_
  · show ((R.val * 4 + j.val) * 704 + q.val) / 2816 = R.val; omega
  · show ((R.val * 4 + j.val) * 704 + q.val) % 2816 = j.val * 704 + q.val; omega

/-- The same of the gated value. -/
theorem upAt (p : S4096x4x704.Idx) (j : Fin 4) (R : Fin 4096) (q : Fin 704) (hp : p = ix3 R j q) :
    Read.val_main_v4 (F := Ideal) x w (Read.idx_main_v8 p) = up x w (ix3 j R q) := by
  subst hp
  rw [Read.val_main_v4_apply, product]
  refine lin_at x w ?_ ?_
  · show ((R.val * 4 + j.val) * 704 + q.val) / 2816 = R.val; omega
  · show 2816 + ((R.val * 4 + j.val) * 704 + q.val) % 2816 = 2816 + (j.val * 704 + q.val); omega

/-- The reference's gate. -/
theorem result0 : Read.val_main_v7 (F := Ideal) x w = gate x w := by
  funext i
  obtain ⟨j, R, q, rfl⟩ : ∃ (j : Fin 4) (R : Fin 4096) (q : Fin 704), i = ix3 j R q := ⟨i 0, i 1, i 2, ValueIdx.eq_ix3 i⟩
  rw [Read.val_main_v7_apply]
  show Read.val_main_v6 (F := Ideal) x w _ = _
  rw [Read.val_main_v6_apply, Read.val_main_v5_apply]
  exact gateAt x w _ j R q (ValueIdx.eq_ix3 _)

/-- The reference's gated value. -/
theorem result1 : Read.val_main_v10 (F := Ideal) x w = up x w := by
  funext i
  obtain ⟨j, R, q, rfl⟩ : ∃ (j : Fin 4) (R : Fin 4096) (q : Fin 704), i = ix3 j R q := ⟨i 0, i 1, i 2, ValueIdx.eq_ix3 i⟩
  rw [Read.val_main_v10_apply]
  show Read.val_main_v9 (F := Ideal) x w _ = _
  rw [Read.val_main_v9_apply, Read.val_main_v8_apply]
  exact upAt x w _ j R q (ValueIdx.eq_ix3 _)

/-- The reference's gated unit before its parts are laid out. -/
theorem unit (i : S4096x2816.Idx) : Read.val_main_v12 (F := Ideal) x w i
    = (Read.val_main_v3 (F := Ideal) x w i : EReal) * Ideal.logistic (Read.val_main_v3 (F := Ideal) x w i : EReal)
      * (Read.val_main_v4 (F := Ideal) x w i : EReal) := by
  rw [Read.val_main_v12_apply, Read.val_main_v11_apply, Read.val_main_call0_v5_apply, Read.val_main_call0_v4_apply,
    Read.val_main_call0_v3_apply, Read.val_main_call0_v2_apply, Read.val_main_call0_v1_apply, Read.val_main_call0_v0_apply,
    Read.val_main_call0_cst_apply, Read.val_main_call0_cst_0_apply]
  generalize Read.val_main_v3 (F := Ideal) x w i = g
  generalize Read.val_main_v4 (F := Ideal) x w i = u
  show (g : EReal) * Ideal.div (Ideal.ofBits .f32 0x3F800000#32) (Ideal.ofBits .f32 0x3F800000#32 + Ideal.exp (-(g : EReal))) * (u : EReal) = _
  rw [Ideal.ofBits_one_f32]
  rfl

/-- The reference's gated unit. -/
theorem result2 : Read.val_main_v15 (F := Ideal) x w = unitOf x w := by
  funext i
  obtain ⟨j, R, q, rfl⟩ : ∃ (j : Fin 4) (R : Fin 4096) (q : Fin 704), i = ix3 j R q := ⟨i 0, i 1, i 2, ValueIdx.eq_ix3 i⟩
  rw [Read.val_main_v15_apply]
  show Read.val_main_v14 (F := Ideal) x w _ = _
  rw [Read.val_main_v14_apply, Read.val_main_v13_apply, unit]
  unfold unitOf
  refine congrArg₂ (· * ·) (congrArg (fun z : EReal => z * Ideal.logistic z) ?_) ?_
  · exact gateAt x w _ j R q (ValueIdx.eq_ix3 _)
  · exact upAt x w _ j R q (ValueIdx.eq_ix3 _)

end Cert.FfnUpRefIdeal.Lin

namespace Cert.Proof

open Idealize.ShloMosaic Idealize.SL.Sem

/-- Kernel and reference compute the same three arrays. -/
theorem ffnUp : Cert.algebraic_FfnUpIdeal_FfnUpRefIdeal := by
  intro m g m' g' _ hE
  refine ⟨fun c => Cert.FfnUpIdeal.Lin.G3 m c, fun c => Cert.FfnUpIdeal.Lin.G4 m c, fun c => Cert.FfnUpIdeal.Lin.G5 m c, ?_, ?_⟩
  · exact (θ_run (Cert.FfnUpIdeal.defs (F := Ideal)) _ _).mono
      (fun r h c => ⟨(h c).1.trans (Cert.FfnUpIdeal.Lin.final3 m c), (h c).2.1.trans (Cert.FfnUpIdeal.Lin.final4 m c),
        (h c).2.2.1.trans (Cert.FfnUpIdeal.Lin.final5 m c), (h c).2.2.2⟩) (Cert.FfnUpIdeal.Value.run_blocks (F := Ideal) m g)
  · refine (θ_run (Cert.FfnUpRefIdeal.defs (F := Ideal)) _ _).mono (fun r h c => ⟨?_, ?_, ?_, (h c).2.2.2⟩)
      (Cert.FfnUpRefIdeal.Value.run (F := Ideal) m' g')
    · refine (h c).1.trans ((Cert.FfnUpRefIdeal.Read.val_main_v7_eq _ _).trans ((Cert.FfnUpRefIdeal.Lin.result0 _ _).trans ?_))
      exact congrArg₂ Cert.FfnUpIdeal.Lin.gate (hE c).1 (hE c).2
    · refine (h c).2.1.trans ((Cert.FfnUpRefIdeal.Read.val_main_v10_eq _ _).trans ((Cert.FfnUpRefIdeal.Lin.result1 _ _).trans ?_))
      exact congrArg₂ Cert.FfnUpIdeal.Lin.up (hE c).1 (hE c).2
    · refine (h c).2.2.1.trans ((Cert.FfnUpRefIdeal.Read.val_main_v15_eq _ _).trans ((Cert.FfnUpRefIdeal.Lin.result2 _ _).trans ?_))
      exact congrArg₂ Cert.FfnUpIdeal.Lin.unitOf (hE c).1 (hE c).2

end Cert.Proof

end
-- ==== Proof.Lin.UpFirst.lean ====
/- The first product of the first macaron half, kernel and reference: the two halves of the columns of the input times the weight, and
   the gated unit of the two. The kernel works on half the rows and one of four parts of the columns at a time. -/
module

public import proofs.«01_k».proof.Defs
public import proofs.«01_k».proof.Proof.Lin.Sigmoid
public import proofs.«01_k».proof.Proof.Gen.FfnUpFirstIdeal.Value
public import proofs.«01_k».proof.Proof.Gen.FfnUpFirstRefIdeal.Read
public import Idealize.ShloMosaic.Lib.Pointwise
public import Idealize.ShloMosaic.Lib.StableHlo.RunRead

@[expose] public section

set_option maxRecDepth 16384

noncomputable section

namespace Cert.FfnUpFirstIdeal.Lin

open Cert.FfnUpFirstIdeal Cert.FfnUpFirstIdeal.Gen
open Idealize.ShloMosaic hiding ix0 ix1 ix2 ix3 ix4
open Idealize.ShloMosaic.TcCoe Idealize.ShloMosaic.ValueIdx Idealize.SL.Sem

/-- Entry `(R, n)` of the input times the half's weight. -/
def lin (x : FVec Ideal S4096x1024 .f32) (w : FVec Ideal S2x1024x5632 .f32) (R : Fin 4096) (n : Fin 5632) : EReal :=
  ∑ k : Fin 1024, x (ix2 R k) * w (ix3 (0 : Fin 2) k n)

/-- The gate: the first half of the columns, in four parts. -/
def gate (x : FVec Ideal S4096x1024 .f32) (w : FVec Ideal S2x1024x5632 .f32) : FVec Ideal S4x4096x704 .bf16 := fun i =>
  lin x w (i 1 : Fin 4096) (⟨(i 0).val * 704 + (i 2).val, by
    have h0 : (i 0).val < 4 := (i 0).isLt; have h2 : (i 2).val < 704 := (i 2).isLt; omega⟩ : Fin 5632)

/-- The value the gate acts on: the second half of the columns, in four parts. -/
def up (x : FVec Ideal S4096x1024 .f32) (w : FVec Ideal S2x1024x5632 .f32) : FVec Ideal S4x4096x704 .bf16 := fun i =>
  lin x w (i 1 : Fin 4096) (⟨2816 + ((i 0).val * 704 + (i 2).val), by
    have h0 : (i 0).val < 4 := (i 0).isLt; have h2 : (i 2).val < 704 := (i 2).isLt; omega⟩ : Fin 5632)

/-- The gated unit. -/
def unitOf (x : FVec Ideal S4096x1024 .f32) (w : FVec Ideal S2x1024x5632 .f32) : FVec Ideal S4x4096x704 .bf16 := fun i =>
  (gate x w i : EReal) * Ideal.logistic (gate x w i : EReal) * (up x w i : EReal)

variable (m : (ℓ : Loc nD τ sig) → Buf (Elt Ideal) ℓ) (c : Dev nD)

/-- One block of the gate. -/
theorem block3 (x0 : Vec Ideal S2048x1024 .bf16) (x1 : Vec Ideal S1x1x1024x704 .bf16) (r : Fin 2048) (q : Fin 704) :
    k0_pay4 x0 x1 (ix3 (0 : Fin 1) r q) = ∑ k : Fin 1024, x0 (ix2 r k) * x1 (ix4 (0 : Fin 1) (0 : Fin 1) k q) := by
  pointwise [k0_pay4, k0_pay2, k0_pay1]
  rfl

/-- One block of the gated value. -/
theorem block4 (x0 : Vec Ideal S2048x1024 .bf16) (x2 : Vec Ideal S1x1x1024x704 .bf16) (r : Fin 2048) (q : Fin 704) :
    k0_pay5 x0 x2 (ix3 (0 : Fin 1) r q) = ∑ k : Fin 1024, x0 (ix2 r k) * x2 (ix4 (0 : Fin 1) (0 : Fin 1) k q) := by
  pointwise [k0_pay5, k0_pay3, k0_pay1]
  rfl

/-- One block of the gated unit. -/
theorem block5 (x0 : Vec Ideal S2048x1024 .bf16) (x1 x2 : Vec Ideal S1x1x1024x704 .bf16) (r : Fin 2048) (q : Fin 704) :
    k0_pay6 x0 x1 x2 (ix3 (0 : Fin 1) r q)
      = (k0_pay4 x0 x1 (ix3 (0 : Fin 1) r q) : EReal) * Ideal.logistic (k0_pay4 x0 x1 (ix3 (0 : Fin 1) r q) : EReal)
        * (k0_pay5 x0 x2 (ix3 (0 : Fin 1) r q) : EReal) := by
  have e4 : (k0_pay4 x0 x1 (ix3 (0 : Fin 1) r q) : EReal) = k0_pay2 x0 x1 (ix2 r q) := by pointwise [k0_pay4]; rfl
  have e5 : (k0_pay5 x0 x2 (ix3 (0 : Fin 1) r q) : EReal) = k0_pay3 x0 x2 (ix2 r q) := by pointwise [k0_pay5]; rfl
  rw [e4, e5, ← Cert.Lin.half_tanh]
  pointwise [k0_pay6]
  rfl

/-- The input as the call finds it. -/
theorem entry0 (r : Fin 4096) (k : Fin 1024) : V m c main_v0 (ix2 r k) = m ((c : Thread nD τ).loc main_arg0) (ix2 r k) := by
  have e : V m c main_v0 = truncf (F := Ideal) .bf16 (m ((c : Thread nD τ).loc main_arg0)) bitsLt_bf16_f32 := by
    unfold V hostOps0
    after_reads_simp
  rw [e]; rfl

/-- The weights as the call finds them: their columns in eight parts. -/
theorem entry1 (f : Fin 2) (j : Fin 8) (t : Fin 1024) (q : Fin 704) :
    V m c main_v3 (ix4 f j t q) = m ((c : Thread nD τ).loc main_arg1) (ix3 f t (⟨j.val * 704 + q.val, by omega⟩ : Fin 5632)) := by
  have e : V m c main_v3 = truncf (F := Ideal) .bf16 (transpose S2x8x1024x704 [0, 2, 1, 3]
      (shapeCast S2x1024x8x704 (m ((c : Thread nD τ).loc main_arg1)) shapeCasts_S2x1024x5632_S2x1024x8x704) transposes_S2x1024x8x704_S2x8x1024x704_0_2_1_3) bitsLt_bf16_f32 := by
    unfold V hostOps0
    after_reads_simp
    rfl
  rw [e]
  pointwise []
  rfl

/-- The printed index maps over the eight points: rows half by half, columns part by part. -/
theorem maps : ∀ t : Fin cfg0.N, win0_0.index t (0 : Fin 2) = t.val % 2 ∧ win0_0.index t (1 : Fin 2) = 0
    ∧ win0_1.index t (0 : Fin 4) = 0 ∧ win0_1.index t (1 : Fin 4) = t.val / 2 ∧ win0_1.index t (2 : Fin 4) = 0 ∧ win0_1.index t (3 : Fin 4) = 0
    ∧ win0_2.index t (0 : Fin 4) = 0 ∧ win0_2.index t (1 : Fin 4) = t.val / 2 + 4 ∧ win0_2.index t (2 : Fin 4) = 0 ∧ win0_2.index t (3 : Fin 4) = 0
    ∧ t.val < 8 :=
  (by decide +kernel : ∀ t : Fin grid0.N, _)

/-- The printed index map of result 1, and that every point writes back. -/
theorem omaps3 : ∀ t : Fin cfg0.N, win0_3.index t (0 : Fin 3) = t.val / 2 ∧ win0_3.index t (1 : Fin 3) = t.val % 2
    ∧ win0_3.index t (2 : Fin 3) = 0 ∧ (cfg0.win 3).flush t = true :=
  (by decide +kernel : ∀ t : Fin grid0.N, _)

/-- The printed index map of result 2, and that every point writes back. -/
theorem omaps4 : ∀ t : Fin cfg0.N, win0_4.index t (0 : Fin 3) = t.val / 2 ∧ win0_4.index t (1 : Fin 3) = t.val % 2
    ∧ win0_4.index t (2 : Fin 3) = 0 ∧ (cfg0.win 4).flush t = true :=
  (by decide +kernel : ∀ t : Fin grid0.N, _)

/-- The printed index map of result 3, and that every point writes back. -/
theorem omaps5 : ∀ t : Fin cfg0.N, win0_5.index t (0 : Fin 3) = t.val / 2 ∧ win0_5.index t (1 : Fin 3) = t.val % 2
    ∧ win0_5.index t (2 : Fin 3) = 0 ∧ (cfg0.win 5).flush t = true :=
  (by decide +kernel : ∀ t : Fin grid0.N, _)

/-- The input's block at a point. -/
theorem blk0 (t : Fin cfg0.N) (r : Fin 2048) (k : Fin 1024) (R : Fin 4096) (hR : R.val = t.val % 2 * 2048 + r.val) :
    (iblk m c 0 t : Vec Ideal S2048x1024 .bf16) (ix2 r k) = m ((c : Thread nD τ).loc main_arg0) (ix2 R k) := by
  obtain ⟨a0, a1, -⟩ := maps t
  refine Eq.trans (?_ : _ = V m c main_v0 (ix2 R k)) (entry0 m c _ k)
  unfold iblk
  refine congrArg (V m c main_v0) (funext fun a => Fin.ext ?_)
  match a with
  | ⟨0, _⟩ => show win0_0.index t (0 : Fin 2) * 2048 + 1 * r.val = R.val; omega
  | ⟨1, _⟩ => show win0_0.index t (1 : Fin 2) * 1024 + 1 * k.val = k.val; omega

/-- The gate weight's block at a point. -/
theorem blk1 (t : Fin cfg0.N) (k : Fin 1024) (q : Fin 704) (n : Fin 5632) (hn : n.val = t.val / 2 * 704 + q.val) :
    (iblk m c 1 t : Vec Ideal S1x1x1024x704 .bf16) (ix4 (0 : Fin 1) (0 : Fin 1) k q)
      = m ((c : Thread nD τ).loc main_arg1) (ix3 (0 : Fin 2) k n) := by
  obtain ⟨-, -, a0, a1, a2, a3, -, -, -, -, ht⟩ := maps t
  have h : t.val / 2 < 8 := by omega
  refine Eq.trans (?_ : _ = V m c main_v3 (ix4 (0 : Fin 2) (⟨t.val / 2, h⟩ : Fin 8) k q))
    ((entry1 m c 0 ⟨t.val / 2, h⟩ k q).trans (congrArg (m ((c : Thread nD τ).loc main_arg1)) (congrArg (ix3 (0 : Fin 2) k) (Fin.ext hn.symm))))
  unfold iblk
  refine congrArg (V m c main_v3) (funext fun a => Fin.ext ?_)
  match a with
  | ⟨0, _⟩ => show win0_1.index t (0 : Fin 4) * 1 + 1 * 0 = 0; omega
  | ⟨1, _⟩ => show win0_1.index t (1 : Fin 4) * 1 + 1 * 0 = t.val / 2; omega
  | ⟨2, _⟩ => show win0_1.index t (2 : Fin 4) * 1024 + 1 * k.val = k.val; omega
  | ⟨3, _⟩ => show win0_1.index t (3 : Fin 4) * 704 + 1 * q.val = q.val; omega

/-- The other weight's block at a point. -/
theorem blk2 (t : Fin cfg0.N) (k : Fin 1024) (q : Fin 704) (n : Fin 5632) (hn : n.val = 2816 + (t.val / 2 * 704 + q.val)) :
    (iblk m c 2 t : Vec Ideal S1x1x1024x704 .bf16) (ix4 (0 : Fin 1) (0 : Fin 1) k q)
      = m ((c : Thread nD τ).loc main_arg1) (ix3 (0 : Fin 2) k n) := by
  obtain ⟨-, -, -, -, -, -, a0, a1, a2, a3, ht⟩ := maps t
  have h : t.val / 2 + 4 < 8 := by omega
  refine Eq.trans (?_ : _ = V m c main_v3 (ix4 (0 : Fin 2) (⟨t.val / 2 + 4, h⟩ : Fin 8) k q))
    ((entry1 m c 0 ⟨t.val / 2 + 4, h⟩ k q).trans (congrArg (m ((c : Thread nD τ).loc main_arg1)) (congrArg (ix3 (0 : Fin 2) k) (Fin.ext ?_))))
  · unfold iblk
    refine congrArg (V m c main_v3) (funext fun a => Fin.ext ?_)
    match a with
    | ⟨0, _⟩ => show win0_2.index t (0 : Fin 4) * 1 + 1 * 0 = 0; omega
    | ⟨1, _⟩ => show win0_2.index t (1 : Fin 4) * 1 + 1 * 0 = t.val / 2 + 4; omega
    | ⟨2, _⟩ => show win0_2.index t (2 : Fin 4) * 1024 + 1 * k.val = k.val; omega
    | ⟨3, _⟩ => show win0_2.index t (3 : Fin 4) * 704 + 1 * q.val = q.val; omega
  · show (t.val / 2 + 4) * 704 + q.val = n.val; omega

/-- A point's block of the gate, by the arguments. -/
theorem at3 (t : Fin cfg0.N) (r : Fin 2048) (q : Fin 704) (R : Fin 4096) (n : Fin 5632)
    (hR : R.val = t.val % 2 * 2048 + r.val) (hn : n.val = t.val / 2 * 704 + q.val) :
    k0_pay4 (F := Ideal) (iblk m c 0 t) (iblk m c 1 t) (ix3 (0 : Fin 1) r q)
      = lin (m ((c : Thread nD τ).loc main_arg0)) (m ((c : Thread nD τ).loc main_arg1)) R n :=
  (block3 (iblk m c 0 t) (iblk m c 1 t) r q).trans
    (Finset.sum_congr rfl fun k _ => congrArg₂ (· * ·) (blk0 m c t r k R hR) (blk1 m c t k q n hn))

/-- A point's block of the gated value, by the arguments. -/
theorem at4 (t : Fin cfg0.N) (r : Fin 2048) (q : Fin 704) (R : Fin 4096) (n : Fin 5632)
    (hR : R.val = t.val % 2 * 2048 + r.val) (hn : n.val = 2816 + (t.val / 2 * 704 + q.val)) :
    k0_pay5 (F := Ideal) (iblk m c 0 t) (iblk m c 2 t) (ix3 (0 : Fin 1) r q)
      = lin (m ((c : Thread nD τ).loc main_arg0)) (m ((c : Thread nD τ).loc main_arg1)) R n :=
  (block4 (iblk m c 0 t) (iblk m c 2 t) r q).trans
    (Finset.sum_congr rfl fun k _ => congrArg₂ (· * ·) (blk0 m c t r k R hR) (blk2 m c t k q n hn))

/-- A point's block of the gated unit, by the arguments. -/
theorem at5 (t : Fin cfg0.N) (r : Fin 2048) (q : Fin 704) (R : Fin 4096) (n n' : Fin 5632)
    (hR : R.val = t.val % 2 * 2048 + r.val) (hn : n.val = t.val / 2 * 704 + q.val) (hn' : n'.val = 2816 + (t.val / 2 * 704 + q.val)) :
    k0_pay6 (F := Ideal) (iblk m c 0 t) (iblk m c 1 t) (iblk m c 2 t) (ix3 (0 : Fin 1) r q)
      = lin (m ((c : Thread nD τ).loc main_arg0)) (m ((c : Thread nD τ).loc main_arg1)) R n
        * Ideal.logistic (lin (m ((c : Thread nD τ).loc main_arg0)) (m ((c : Thread nD τ).loc main_arg1)) R n)
        * lin (m ((c : Thread nD τ).loc main_arg0)) (m ((c : Thread nD τ).loc main_arg1)) R n' :=
  (block5 (iblk m c 0 t) (iblk m c 1 t) (iblk m c 2 t) r q).trans
    (congrArg₂ (· * ·) (congrArg (fun z : EReal => z * Ideal.logistic z) (at3 m c t r q R n hR hn)) (at4 m c t r q R n' hR hn'))

/-- The gate of the memory's arguments. -/
abbrev G3 (c : Dev nD) : Buf (Elt Ideal) ((c : Thread nD τ).loc main_v4_0) :=
  gate (m ((c : Thread nD τ).loc main_arg0)) (m ((c : Thread nD τ).loc main_arg1))

/-- What a point writes back is its part of the gate. -/
theorem flushed_eq3 (t : Fin cfg0.N) : (dats m 0 c).flushed 3 t = ((cfg0.win 3).blk t).view.read (Elt Ideal) (G3 m c) := by
  obtain ⟨e0, e1, e2, -⟩ := omaps3 t
  rw [Value.flushed3]
  unfold out0_3
  rw [View.canon_unit_zero (by decide), View.ld_unit_zero (by decide), View.ld_unit_zero (by decide)]
  funext y
  have h0 : (y 0).val < 1 := (y 0).isLt
  have ey : ((cfg0.win 3).xinj (grid0.coords t) y : S1x2048x704.Idx) = ix3 (0 : Fin 1) (y 1 : Fin 2048) (y 2 : Fin 704) := funext fun a => Fin.ext (by
    match a with
    | ⟨0, _⟩ => show (y 0).val = 0; omega
    | ⟨1, _⟩ => rfl
    | ⟨2, _⟩ => rfl)
  show k0_pay4 (iblk m c 0 t) (iblk m c 1 t) ((cfg0.win 3).xinj (grid0.coords t) y) = G3 m c (((cfg0.win 3).blk t).view.emb y)
  have f0 : (((cfg0.win 3).blk t).view.emb y 0).val = t.val / 2 := by
    show win0_3.index t (0 : Fin 3) * 1 + 1 * (y 0).val = _; rw [e0]; omega
  have f1 : (((cfg0.win 3).blk t).view.emb y 1).val = t.val % 2 * 2048 + (y 1).val := by
    show win0_3.index t (1 : Fin 3) * 2048 + 1 * (y 1).val = _; rw [e1]; omega
  have f2 : (((cfg0.win 3).blk t).view.emb y 2).val = (y 2).val := by
    show win0_3.index t (2 : Fin 3) * 704 + 1 * (y 2).val = _; rw [e2]; omega
  exact (congrArg (k0_pay4 (iblk m c 0 t) (iblk m c 1 t)) ey).trans (at3 m c t (y 1 : Fin 2048) (y 2 : Fin 704) _ _ f1 (by show (((cfg0.win 3).blk t).view.emb y 0).val * 704 + (((cfg0.win 3).blk t).view.emb y 2).val = t.val / 2 * 704 + (y 2).val; rw [f0, f2]))

/-- Every entry is in some point's block. -/
theorem covered3 (i : S4x4096x704.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 704 := (i 2).isLt
  have hq : (i 0).val * 2 + (i 1).val / 2048 < 8 := by omega
  let t : Fin cfg0.N := ⟨(i 0).val * 2 + (i 1).val / 2048, lt_of_lt_of_eq hq N_0.symm⟩
  obtain ⟨e0, e1, e2, hf⟩ := omaps3 t
  have et : t.val = (i 0).val * 2 + (i 1).val / 2048 := rfl
  refine ⟨t, hf, ?_⟩
  show i ∈ ((View.whole main_v4_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 704 ≤ (i 2).val ∧ (i 2).val < win0_3.index t (2 : Fin 3) * 704 + 704; omega

/-- The kernel's gate. -/
theorem final3 : (dats m 0 c).arrAt 3 cfg0.N = G3 m c :=
  (dats m 0 c).arrAt_eq_of_cover 3 _ (fun t _ => flushed_eq3 m c t) covered3

/-- The gated value of the memory's arguments. -/
abbrev G4 (c : Dev nD) : Buf (Elt Ideal) ((c : Thread nD τ).loc main_v4_1) :=
  up (m ((c : Thread nD τ).loc main_arg0)) (m ((c : Thread nD τ).loc main_arg1))

/-- What a point writes back is its part of the gated value. -/
theorem flushed_eq4 (t : Fin cfg0.N) : (dats m 0 c).flushed 4 t = ((cfg0.win 4).blk t).view.read (Elt Ideal) (G4 m c) := by
  obtain ⟨e0, e1, e2, -⟩ := omaps4 t
  rw [Value.flushed4]
  unfold out0_4
  rw [View.canon_unit_zero (by decide), View.ld_unit_zero (by decide), View.ld_unit_zero (by decide)]
  funext y
  have h0 : (y 0).val < 1 := (y 0).isLt
  have ey : ((cfg0.win 4).xinj (grid0.coords t) y : S1x2048x704.Idx) = ix3 (0 : Fin 1) (y 1 : Fin 2048) (y 2 : Fin 704) := funext fun a => Fin.ext (by
    match a with
    | ⟨0, _⟩ => show (y 0).val = 0; omega
    | ⟨1, _⟩ => rfl
    | ⟨2, _⟩ => rfl)
  show k0_pay5 (iblk m c 0 t) (iblk m c 2 t) ((cfg0.win 4).xinj (grid0.coords t) y) = G4 m c (((cfg0.win 4).blk t).view.emb y)
  have f0 : (((cfg0.win 4).blk t).view.emb y 0).val = t.val / 2 := by
    show win0_4.index t (0 : Fin 3) * 1 + 1 * (y 0).val = _; rw [e0]; omega
  have f1 : (((cfg0.win 4).blk t).view.emb y 1).val = t.val % 2 * 2048 + (y 1).val := by
    show win0_4.index t (1 : Fin 3) * 2048 + 1 * (y 1).val = _; rw [e1]; omega
  have f2 : (((cfg0.win 4).blk t).view.emb y 2).val = (y 2).val := by
    show win0_4.index t (2 : Fin 3) * 704 + 1 * (y 2).val = _; rw [e2]; omega
  exact (congrArg (k0_pay5 (iblk m c 0 t) (iblk m c 2 t)) ey).trans (at4 m c t (y 1 : Fin 2048) (y 2 : Fin 704) _ _ f1 (by show 2816 + ((((cfg0.win 4).blk t).view.emb y 0).val * 704 + (((cfg0.win 4).blk t).view.emb y 2).val) = 2816 + (t.val / 2 * 704 + (y 2).val); rw [f0, f2]))

/-- Every entry is in some point's block. -/
theorem covered4 (i : S4x4096x704.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 704 := (i 2).isLt
  have hq : (i 0).val * 2 + (i 1).val / 2048 < 8 := by omega
  let t : Fin cfg0.N := ⟨(i 0).val * 2 + (i 1).val / 2048, lt_of_lt_of_eq hq N_0.symm⟩
  obtain ⟨e0, e1, e2, hf⟩ := omaps4 t
  have et : t.val = (i 0).val * 2 + (i 1).val / 2048 := rfl
  refine ⟨t, hf, ?_⟩
  show i ∈ ((View.whole main_v4_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 704 ≤ (i 2).val ∧ (i 2).val < win0_4.index t (2 : Fin 3) * 704 + 704; omega

/-- The kernel's gated value. -/
theorem final4 : (dats m 0 c).arrAt 4 cfg0.N = G4 m c :=
  (dats m 0 c).arrAt_eq_of_cover 4 _ (fun t _ => flushed_eq4 m c t) covered4

/-- The gated unit of the memory's arguments. -/
abbrev G5 (c : Dev nD) : Buf (Elt Ideal) ((c : Thread nD τ).loc main_v4_2) :=
  unitOf (m ((c : Thread nD τ).loc main_arg0)) (m ((c : Thread nD τ).loc main_arg1))

/-- What a point writes back is its part of the gated unit. -/
theorem flushed_eq5 (t : Fin cfg0.N) : (dats m 0 c).flushed 5 t = ((cfg0.win 5).blk t).view.read (Elt Ideal) (G5 m c) := by
  obtain ⟨e0, e1, e2, -⟩ := omaps5 t
  rw [Value.flushed5]
  unfold out0_5
  rw [View.canon_unit_zero (by decide), View.ld_unit_zero (by decide), View.ld_unit_zero (by decide), View.ld_unit_zero (by decide)]
  funext y
  have h0 : (y 0).val < 1 := (y 0).isLt
  have ey : ((cfg0.win 5).xinj (grid0.coords t) y : S1x2048x704.Idx) = ix3 (0 : Fin 1) (y 1 : Fin 2048) (y 2 : Fin 704) := funext fun a => Fin.ext (by
    match a with
    | ⟨0, _⟩ => show (y 0).val = 0; omega
    | ⟨1, _⟩ => rfl
    | ⟨2, _⟩ => rfl)
  show k0_pay6 (iblk m c 0 t) (iblk m c 1 t) (iblk m c 2 t) ((cfg0.win 5).xinj (grid0.coords t) y) = G5 m c (((cfg0.win 5).blk t).view.emb y)
  have f0 : (((cfg0.win 5).blk t).view.emb y 0).val = t.val / 2 := by
    show win0_5.index t (0 : Fin 3) * 1 + 1 * (y 0).val = _; rw [e0]; omega
  have f1 : (((cfg0.win 5).blk t).view.emb y 1).val = t.val % 2 * 2048 + (y 1).val := by
    show win0_5.index t (1 : Fin 3) * 2048 + 1 * (y 1).val = _; rw [e1]; omega
  have f2 : (((cfg0.win 5).blk t).view.emb y 2).val = (y 2).val := by
    show win0_5.index t (2 : Fin 3) * 704 + 1 * (y 2).val = _; rw [e2]; omega
  exact (congrArg (k0_pay6 (iblk m c 0 t) (iblk m c 1 t) (iblk m c 2 t)) ey).trans (at5 m c t (y 1 : Fin 2048) (y 2 : Fin 704) _ _ _ f1 (by show (((cfg0.win 5).blk t).view.emb y 0).val * 704 + (((cfg0.win 5).blk t).view.emb y 2).val = t.val / 2 * 704 + (y 2).val; rw [f0, f2]) (by show 2816 + ((((cfg0.win 5).blk t).view.emb y 0).val * 704 + (((cfg0.win 5).blk t).view.emb y 2).val) = 2816 + (t.val / 2 * 704 + (y 2).val); rw [f0, f2]))

/-- Every entry is in some point's block. -/
theorem covered5 (i : S4x4096x704.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 704 := (i 2).isLt
  have hq : (i 0).val * 2 + (i 1).val / 2048 < 8 := by omega
  let t : Fin cfg0.N := ⟨(i 0).val * 2 + (i 1).val / 2048, lt_of_lt_of_eq hq N_0.symm⟩
  obtain ⟨e0, e1, e2, hf⟩ := omaps5 t
  have et : t.val = (i 0).val * 2 + (i 1).val / 2048 := rfl
  refine ⟨t, hf, ?_⟩
  show i ∈ ((View.whole main_v4_2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 704 ≤ (i 2).val ∧ (i 2).val < win0_5.index t (2 : Fin 3) * 704 + 704; omega

/-- The kernel's gated unit. -/
theorem final5 : (dats m 0 c).arrAt 5 cfg0.N = G5 m c :=
  (dats m 0 c).arrAt_eq_of_cover 5 _ (fun t _ => flushed_eq5 m c t) covered5

end Cert.FfnUpFirstIdeal.Lin

namespace Cert.FfnUpFirstRefIdeal.Lin

open Cert.FfnUpFirstRefIdeal Cert.FfnUpFirstRefIdeal.Gen
open Idealize.ShloMosaic hiding ix0 ix1 ix2 ix3 ix4
open Idealize.ShloMosaic.TcCoe Idealize.ShloMosaic.ValueIdx
open Cert.FfnUpFirstIdeal.Lin (lin gate up unitOf)

variable (x : FVec Ideal S4096x1024 .f32) (w : FVec Ideal S2x1024x5632 .f32)

/-- The reference's product. -/
theorem product (i : S4096x5632.Idx) : Read.val_main_v2 (F := Ideal) x w i = lin x w (i 0 : Fin 4096) (i 1 : Fin 5632) := by
  have h1 : (i 1).val < 5632 := (i 1).isLt
  rw [Read.val_main_v2_apply]
  unfold lin
  refine Finset.sum_congr rfl fun k _ => congrArg₂ (· * ·) (congrArg x (funext fun a => Fin.ext ?_)) ?_
  · match a with
    | ⟨0, _⟩ => rfl
    | ⟨1, _⟩ => rfl
  · rw [Read.val_main_v1_apply, Read.val_main_v0_apply]
    refine congrArg w (funext fun a => Fin.ext ?_)
    match a with
    | ⟨0, _⟩ => rfl
    | ⟨1, _⟩ => show (k.val * 5632 + (i 1).val) / 5632 % 1024 = k.val; omega
    | ⟨2, _⟩ => show (k.val * 5632 + (i 1).val) % 5632 = (i 1).val; omega

/-- An entry of the product at another way of writing its place. -/
theorem lin_at {R R' : Fin 4096} {n n' : Fin 5632} (hR : R.val = R'.val) (hn : n.val = n'.val) : lin x w R n = lin x w R' n' := by
  rw [Fin.ext hR, Fin.ext hn]

/-- The gate before its parts are laid out, at the place a part's entry comes from. -/
theorem gateAt (p : S4096x4x704.Idx) (j : Fin 4) (R : Fin 4096) (q : Fin 704) (hp : p = ix3 R j q) :
    Read.val_main_v3 (F := Ideal) x w (Read.idx_main_v5 p) = gate x w (ix3 j R q) := by
  subst hp
  rw [Read.val_main_v3_apply, product]
  refine lin_at x w ?_ ?_
  · show ((R.val * 4 + j.val) * 704 + q.val) / 2816 = R.val; omega
  · show ((R.val * 4 + j.val) * 704 + q.val) % 2816 = j.val * 704 + q.val; omega

/-- The same of the gated value. -/
theorem upAt (p : S4096x4x704.Idx) (j : Fin 4) (R : Fin 4096) (q : Fin 704) (hp : p = ix3 R j q) :
    Read.val_main_v4 (F := Ideal) x w (Read.idx_main_v8 p) = up x w (ix3 j R q) := by
  subst hp
  rw [Read.val_main_v4_apply, product]
  refine lin_at x w ?_ ?_
  · show ((R.val * 4 + j.val) * 704 + q.val) / 2816 = R.val; omega
  · show 2816 + ((R.val * 4 + j.val) * 704 + q.val) % 2816 = 2816 + (j.val * 704 + q.val); omega

/-- The reference's gate. -/
theorem result0 : Read.val_main_v7 (F := Ideal) x w = gate x w := by
  funext i
  obtain ⟨j, R, q, rfl⟩ : ∃ (j : Fin 4) (R : Fin 4096) (q : Fin 704), i = ix3 j R q := ⟨i 0, i 1, i 2, ValueIdx.eq_ix3 i⟩
  rw [Read.val_main_v7_apply]
  show Read.val_main_v6 (F := Ideal) x w _ = _
  rw [Read.val_main_v6_apply, Read.val_main_v5_apply]
  exact gateAt x w _ j R q (ValueIdx.eq_ix3 _)

/-- The reference's gated value. -/
theorem result1 : Read.val_main_v10 (F := Ideal) x w = up x w := by
  funext i
  obtain ⟨j, R, q, rfl⟩ : ∃ (j : Fin 4) (R : Fin 4096) (q : Fin 704), i = ix3 j R q := ⟨i 0, i 1, i 2, ValueIdx.eq_ix3 i⟩
  rw [Read.val_main_v10_apply]
  show Read.val_main_v9 (F := Ideal) x w _ = _
  rw [Read.val_main_v9_apply, Read.val_main_v8_apply]
  exact upAt x w _ j R q (ValueIdx.eq_ix3 _)

/-- The reference's gated unit before its parts are laid out. -/
theorem unit (i : S4096x2816.Idx) : Read.val_main_v12 (F := Ideal) x w i
    = (Read.val_main_v3 (F := Ideal) x w i : EReal) * Ideal.logistic (Read.val_main_v3 (F := Ideal) x w i : EReal)
      * (Read.val_main_v4 (F := Ideal) x w i : EReal) := by
  rw [Read.val_main_v12_apply, Read.val_main_v11_apply, Read.val_main_call0_v5_apply, Read.val_main_call0_v4_apply,
    Read.val_main_call0_v3_apply, Read.val_main_call0_v2_apply, Read.val_main_call0_v1_apply, Read.val_main_call0_v0_apply,
    Read.val_main_call0_cst_apply, Read.val_main_call0_cst_0_apply]
  generalize Read.val_main_v3 (F := Ideal) x w i = g
  generalize Read.val_main_v4 (F := Ideal) x w i = u
  show (g : EReal) * Ideal.div (Ideal.ofBits .f32 0x3F800000#32) (Ideal.ofBits .f32 0x3F800000#32 + Ideal.exp (-(g : EReal))) * (u : EReal) = _
  rw [Ideal.ofBits_one_f32]
  rfl

/-- The reference's gated unit. -/
theorem result2 : Read.val_main_v15 (F := Ideal) x w = unitOf x w := by
  funext i
  obtain ⟨j, R, q, rfl⟩ : ∃ (j : Fin 4) (R : Fin 4096) (q : Fin 704), i = ix3 j R q := ⟨i 0, i 1, i 2, ValueIdx.eq_ix3 i⟩
  rw [Read.val_main_v15_apply]
  show Read.val_main_v14 (F := Ideal) x w _ = _
  rw [Read.val_main_v14_apply, Read.val_main_v13_apply, unit]
  unfold unitOf
  refine congrArg₂ (· * ·) (congrArg (fun z : EReal => z * Ideal.logistic z) ?_) ?_
  · exact gateAt x w _ j R q (ValueIdx.eq_ix3 _)
  · exact upAt x w _ j R q (ValueIdx.eq_ix3 _)

end Cert.FfnUpFirstRefIdeal.Lin

namespace Cert.Proof

open Idealize.ShloMosaic Idealize.SL.Sem

/-- Kernel and reference compute the same three arrays. -/
theorem ffnUpFirst : Cert.algebraic_FfnUpFirstIdeal_FfnUpFirstRefIdeal := by
  intro m g m' g' _ hE
  refine ⟨fun c => Cert.FfnUpFirstIdeal.Lin.G3 m c, fun c => Cert.FfnUpFirstIdeal.Lin.G4 m c, fun c => Cert.FfnUpFirstIdeal.Lin.G5 m c, ?_, ?_⟩
  · exact (θ_run (Cert.FfnUpFirstIdeal.defs (F := Ideal)) _ _).mono
      (fun r h c => ⟨(h c).1.trans (Cert.FfnUpFirstIdeal.Lin.final3 m c), (h c).2.1.trans (Cert.FfnUpFirstIdeal.Lin.final4 m c),
        (h c).2.2.1.trans (Cert.FfnUpFirstIdeal.Lin.final5 m c), (h c).2.2.2⟩) (Cert.FfnUpFirstIdeal.Value.run_blocks (F := Ideal) m g)
  · refine (θ_run (Cert.FfnUpFirstRefIdeal.defs (F := Ideal)) _ _).mono (fun r h c => ⟨?_, ?_, ?_, (h c).2.2.2⟩)
      (Cert.FfnUpFirstRefIdeal.Value.run (F := Ideal) m' g')
    · refine (h c).1.trans ((Cert.FfnUpFirstRefIdeal.Read.val_main_v7_eq _ _).trans ((Cert.FfnUpFirstRefIdeal.Lin.result0 _ _).trans ?_))
      exact congrArg₂ Cert.FfnUpFirstIdeal.Lin.gate (hE c).1 (hE c).2
    · refine (h c).2.1.trans ((Cert.FfnUpFirstRefIdeal.Read.val_main_v10_eq _ _).trans ((Cert.FfnUpFirstRefIdeal.Lin.result1 _ _).trans ?_))
      exact congrArg₂ Cert.FfnUpFirstIdeal.Lin.up (hE c).1 (hE c).2
    · refine (h c).2.2.1.trans ((Cert.FfnUpFirstRefIdeal.Read.val_main_v15_eq _ _).trans ((Cert.FfnUpFirstRefIdeal.Lin.result2 _ _).trans ?_))
      exact congrArg₂ Cert.FfnUpFirstIdeal.Lin.unitOf (hE c).1 (hE c).2

end Cert.Proof

end
-- ==== Proof.Lin.Norm.lean ====
/- The layer norm of a row, over the extended reals. -/
module

public import Idealize.ShloMosaic.Lib.Pointwise

@[expose] public section

noncomputable section

namespace Cert.Lin

open Idealize.ShloMosaic

/-- The mean of a row. -/
def mean (z : Fin 1024 → EReal) : EReal := Ideal.div (∑ k, z k) (Ideal.ofBits .f32 0x44800000#32)

/-- A row less its mean. -/
def centred (z : Fin 1024 → EReal) (q : Fin 1024) : EReal := z q - mean z

/-- The reciprocal of a row's standard deviation. -/
def rstd (z : Fin 1024 → EReal) : EReal :=
  Ideal.rsqrt (Ideal.div (∑ k, centred z k * centred z k) (Ideal.ofBits .f32 0x44800000#32) + Ideal.ofBits .f32 0x3727C5AC#32)

/-- A row normalised. -/
def normed (z : Fin 1024 → EReal) (q : Fin 1024) : EReal := centred z q * rstd z

end Cert.Lin

end
-- ==== Proof.Lin.Down.lean ====
/- The end of the second macaron half, kernel and reference: the hidden array times the weight, half of that added to the scaled
   input, and the layer norm of the sum. The kernel works on 512 rows at a time and takes the product in four parts. -/
module

public import proofs.«01_k».proof.Defs
public import proofs.«01_k».proof.Proof.Lin.Norm
public import proofs.«01_k».proof.Proof.Lin.Parts
public import proofs.«01_k».proof.Proof.Gen.FfnDownIdeal.Value
public import proofs.«01_k».proof.Proof.Gen.FfnDownRefIdeal.Read
public import Idealize.ShloMosaic.Lib.Pointwise
public import Idealize.ShloMosaic.Lib.StableHlo.RunRead

@[expose] public section

set_option maxRecDepth 16384

noncomputable section

namespace Cert.FfnDownIdeal.Lin

open Cert.FfnDownIdeal Cert.FfnDownIdeal.Gen
open Idealize.ShloMosaic hiding ix0 ix1 ix2 ix3 ix4
open Idealize.ShloMosaic.TcCoe Idealize.ShloMosaic.ValueIdx Idealize.SL.Sem

/-- Row `R` before the norm. -/
def pre (a : FVec Ideal S4096x2816 .f32) (w : FVec Ideal S2x2816x1024 .f32) (x : FVec Ideal S4096x1024 .f32) (R : Fin 4096)
    (q : Fin 1024) : EReal :=
  Ideal.ofBits .f32 0x3FD744FD#32 * (x (ix2 R q) : EReal)
    + Ideal.ofBits .f32 0x3F000000#32 * ∑ k : Fin 2816, (a (ix2 R k) : EReal) * (w (ix3 (1 : Fin 2) k q) : EReal)

/-- One term of the product. -/
def term (a : FVec Ideal S4096x2816 .f32) (w : FVec Ideal S2x2816x1024 .f32) (R : Fin 4096) (q : Fin 1024) (k : Fin 2816) : EReal :=
  (a (ix2 R k) : EReal) * (w (ix3 (1 : Fin 2) k q) : EReal)

/-- The normalised rows. -/
def unitRows (a : FVec Ideal S4096x2816 .f32) (w : FVec Ideal S2x2816x1024 .f32) (x : FVec Ideal S4096x1024 .f32) : FVec Ideal S4096x1024 .f32 :=
  fun i => Cert.Lin.normed (pre a w x (i 0 : Fin 4096)) (i 1 : Fin 1024)

/-- The normalised rows with their gain and offset. -/
def rows (a : FVec Ideal S4096x2816 .f32) (w : FVec Ideal S2x2816x1024 .f32) (x : FVec Ideal S4096x1024 .f32)
    (g b : FVec Ideal S3x1024 .f32) : FVec Ideal S4096x1024 .f32 := fun i =>
  Cert.Lin.normed (pre a w x (i 0 : Fin 4096)) (i 1 : Fin 1024) * (g (ix2 (2 : Fin 3) (i 1 : Fin 1024)) : EReal)
    + (b (ix2 (2 : Fin 3) (i 1 : Fin 1024)) : EReal)

/-- The rows' reciprocal standard deviations. -/
def devs (a : FVec Ideal S4096x2816 .f32) (w : FVec Ideal S2x2816x1024 .f32) (x : FVec Ideal S4096x1024 .f32) : FVec Ideal S4096x1 .f32 :=
  fun i => Cert.Lin.rstd (pre a w x (i 0 : Fin 4096))

variable (m : (ℓ : Loc nD τ sig) → Buf (Elt Ideal) ℓ) (c : Dev nD)

/-- A row of a block before the norm. -/
def zrow (v22 v25 v26 : FVec Ideal S512x1024 .f32) (r : Fin 512) (q : Fin 1024) : EReal :=
  (v25 (ix2 r q) : EReal) + (v26 (ix2 r q) : EReal) * (v22 (ix2 r q) : EReal)

/-- One block less its rows' means. -/
theorem block1 (v22 v25 v26 : FVec Ideal S512x1024 .f32) (r : Fin 512) (q : Fin 1024) :
    k0_pay1 v22 v25 v26 (ix2 r q) = Cert.Lin.centred (zrow v22 v25 v26 r) q := by
  pointwise [k0_pay1]
  rfl

/-- One block's reciprocal standard deviations. -/
theorem block2 (v22 v25 v26 : FVec Ideal S512x1024 .f32) (r : Fin 512) :
    k0_pay2 v22 v25 v26 (ix2 r (0 : Fin 1)) = Cert.Lin.rstd (zrow v22 v25 v26 r) := by
  pointwise [k0_pay2]
  refine congrArg Ideal.rsqrt (congrArg₂ (· + ·) (congrArg₂ Ideal.div (Finset.sum_congr rfl fun k _ => ?_) rfl) rfl)
  exact congrArg₂ (· * ·) (block1 v22 v25 v26 r k) (block1 v22 v25 v26 r k)

/-- One block's normalised rows. -/
theorem block3 (v22 v25 v26 : FVec Ideal S512x1024 .f32) (r : Fin 512) (q : Fin 1024) :
    k0_pay3 v22 v25 v26 (ix2 r q) = Cert.Lin.normed (zrow v22 v25 v26 r) q := by
  have e : (k0_pay3 v22 v25 v26 (ix2 r q) : EReal) = (k0_pay1 v22 v25 v26 (ix2 r q) : EReal) * (k0_pay2 v22 v25 v26 (ix2 r (0 : Fin 1)) : EReal) := by
    pointwise [k0_pay3]
    rfl
  rw [e, block1, block2]
  rfl

/-- One block of the result. -/
theorem block4 (v22 v25 v26 : FVec Ideal S512x1024 .f32) (v29 v31 : Vec Ideal S1x1024 .f32) (r : Fin 512) (q : Fin 1024) :
    k0_pay4 v22 v25 v26 v29 v31 (ix2 r q)
      = Cert.Lin.normed (zrow v22 v25 v26 r) q * (v29 (ix2 (0 : Fin 1) q) : EReal) + (v31 (ix2 (0 : Fin 1) q) : EReal) := by
  have e : (k0_pay4 v22 v25 v26 v29 v31 (ix2 r q) : EReal)
      = (k0_pay3 v22 v25 v26 (ix2 r q) : EReal) * (v29 (ix2 (0 : Fin 1) q) : EReal) + (v31 (ix2 (0 : Fin 1) q) : EReal) := by
    pointwise [k0_pay4]
    rfl
  rw [e, block3]

/-- One block of the product: its four parts. -/
theorem block6 (u0 u1 u2 u3 : Vec Ideal S1x512x704 .bf16) (w0 w1 w2 w3 : Vec Ideal S1x704x1024 .bf16) (r : Fin 512) (q : Fin 1024) :
    k0_pay6 u0 w0 u1 w1 u2 w2 u3 w3 (ix2 r q)
      = (∑ s : Fin 704, u0 (ix3 (0 : Fin 1) r s) * w0 (ix3 (0 : Fin 1) s q)) + (∑ s : Fin 704, u1 (ix3 (0 : Fin 1) r s) * w1 (ix3 (0 : Fin 1) s q))
        + (∑ s : Fin 704, u2 (ix3 (0 : Fin 1) r s) * w2 (ix3 (0 : Fin 1) s q)) + (∑ s : Fin 704, u3 (ix3 (0 : Fin 1) r s) * w3 (ix3 (0 : Fin 1) s q)) := by
  pointwise [k0_pay6]
  rfl

/-- The hidden array as the call finds it: its columns in four parts. -/
theorem entry0 (j : Fin 4) (R : Fin 4096) (s : Fin 704) :
    V m c main_v5 (ix3 j R s) = m ((c : Thread nD τ).loc main_arg0) (ix2 R (⟨j.val * 704 + s.val, by omega⟩ : Fin 2816)) := by
  have e : V m c main_v5 = truncf (F := Ideal) .bf16 (transpose S4x4096x704 [1, 0, 2]
      (shapeCast S4096x4x704 (m ((c : Thread nD τ).loc main_arg0)) shapeCasts_S4096x2816_S4096x4x704) transposes_S4096x4x704_S4x4096x704_1_0_2) bitsLt_bf16_f32 := by
    unfold V hostOps0
    after_reads_simp
    rfl
  rw [e]
  pointwise []
  rfl

/-- The weights as the call finds them. -/
theorem entry1 (f : Fin 2) (k : Fin 2816) (q : Fin 1024) : V m c main_v6 (ix3 f k q) = m ((c : Thread nD τ).loc main_arg1) (ix3 f k q) := by
  have e : V m c main_v6 = truncf (F := Ideal) .bf16 (m ((c : Thread nD τ).loc main_arg1)) bitsLt_bf16_f32 := by
    unfold V hostOps0
    after_reads_simp
  rw [e]; rfl

/-- The small array as the call finds it: zeros, the gains, the offsets, zeros. -/
theorem entry3 : V m c main_v2 = concatenate S16x1024 0
    [⟨S9x1024, broadcastInDim S9x1024 ![] bcast_S_S9x1024 (constant (F := Ideal) S_ .f32 0x00000000#32)⟩, ⟨S3x1024, m ((c : Thread nD τ).loc main_arg3)⟩,
      ⟨S3x1024, m ((c : Thread nD τ).loc main_arg4)⟩, ⟨S1x1024, broadcastInDim S1x1024 ![] bcast_S_S1x1024 (constant (F := Ideal) S_ .f32 0x00000000#32)⟩]
    concatenates_S9x1024_S3x1024_S3x1024_S1x1024_S16x1024_d0 := by
  unfold V hostOps0
  after_reads_simp
  rfl

/-- The gain the call reads. -/
theorem gain (q : Fin 1024) : V m c main_v2 (ix2 (11 : Fin 16) q) = m ((c : Thread nD τ).loc main_arg3) (ix2 (2 : Fin 3) q) := by
  rw [entry3]
  pointwise []
  rfl

/-- The offset the call reads. -/
theorem offset (q : Fin 1024) : V m c main_v2 (ix2 (14 : Fin 16) q) = m ((c : Thread nD τ).loc main_arg4) (ix2 (2 : Fin 3) q) := by
  rw [entry3]
  pointwise []
  rfl

/-- The printed index maps over the eight points: 512 rows at a time. -/
theorem maps : ∀ t : Fin cfg0.N, win0_0.index t (0 : Fin 3) = 0 ∧ win0_0.index t (1 : Fin 3) = t.val ∧ win0_0.index t (2 : Fin 3) = 0
    ∧ win0_1.index t (0 : Fin 3) = 1 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The hidden array's block at a point. -/
theorem blk0 (t : Fin cfg0.N) (j : Fin 4) (r : Fin 512) (s : Fin 704) (R : Fin 4096) (hR : R.val = t.val * 512 + r.val) (k : Fin 2816)
    (hk : k.val = j.val * 704 + s.val) :
    (iblk m c 0 t : Vec Ideal S4x512x704 .bf16) (ix3 j r s) = m ((c : Thread nD τ).loc main_arg0) (ix2 R k) := by
  obtain ⟨a0, a1, a2, -⟩ := maps t
  refine Eq.trans (?_ : _ = V m c main_v5 (ix3 j R s))
    ((entry0 m c j R s).trans (congrArg (m ((c : Thread nD τ).loc main_arg0)) (congrArg (ix2 R) (Fin.ext hk.symm))))
  unfold iblk
  refine congrArg (V m c main_v5) (funext fun a => Fin.ext ?_)
  match a with
  | ⟨0, _⟩ => show win0_0.index t (0 : Fin 3) * 4 + 1 * j.val = j.val; omega
  | ⟨1, _⟩ => show win0_0.index t (1 : Fin 3) * 512 + 1 * r.val = R.val; omega
  | ⟨2, _⟩ => show win0_0.index t (2 : Fin 3) * 704 + 1 * s.val = s.val; omega

/-- The weight's block at a point. -/
theorem blk1 (t : Fin cfg0.N) (k : Fin 2816) (q : Fin 1024) :
    (iblk m c 1 t : Vec Ideal S1x2816x1024 .bf16) (ix3 (0 : Fin 1) k q) = m ((c : Thread nD τ).loc main_arg1) (ix3 (1 : Fin 2) k q) := by
  obtain ⟨-, -, -, a0, a1, a2, -⟩ := maps t
  refine Eq.trans (?_ : _ = V m c main_v6 (ix3 (1 : Fin 2) k q)) (entry1 m c 1 k q)
  unfold iblk
  refine congrArg (V m c main_v6) (funext fun a => Fin.ext ?_)
  match a with
  | ⟨0, _⟩ => show win0_1.index t (0 : Fin 3) * 1 + 1 * 0 = 1; omega
  | ⟨1, _⟩ => show win0_1.index t (1 : Fin 3) * 2816 + 1 * k.val = k.val; omega
  | ⟨2, _⟩ => show win0_1.index t (2 : Fin 3) * 1024 + 1 * q.val = q.val; omega

/-- The input's block at a point. -/
theorem blk2 (t : Fin cfg0.N) (r : Fin 512) (q : Fin 1024) (R : Fin 4096) (hR : R.val = t.val * 512 + r.val) :
    (iblk m c 2 t : Vec Ideal S512x1024 .f32) (ix2 r q) = m ((c : Thread nD τ).loc main_arg2) (ix2 R q) := by
  obtain ⟨-, -, -, -, -, -, a0, a1, -⟩ := maps t
  refine Eq.trans (?_ : _ = V m c main_arg2 (ix2 R q)) (congrFun (V_main_arg2 m c) _)
  unfold iblk
  refine congrArg (V m c main_arg2) (funext fun a => Fin.ext ?_)
  match a with
  | ⟨0, _⟩ => show win0_2.index t (0 : Fin 2) * 512 + 1 * r.val = R.val; omega
  | ⟨1, _⟩ => show win0_2.index t (1 : Fin 2) * 1024 + 1 * q.val = q.val; omega

/-- The small array's block at a point. -/
theorem blk3 (t : Fin cfg0.N) (n : Fin 16) (q : Fin 1024) :
    (iblk m c 3 t : Vec Ideal S16x1024 .f32) (ix2 n q) = V m c main_v2 (ix2 n q) := by
  obtain ⟨-, -, -, -, -, -, -, -, a0, a1⟩ := maps t
  unfold iblk
  refine congrArg (V m c main_v2) (funext fun a => Fin.ext ?_)
  match a with
  | ⟨0, _⟩ => show win0_3.index t (0 : Fin 2) * 16 + 1 * n.val = n.val; omega
  | ⟨1, _⟩ => show win0_3.index t (1 : Fin 2) * 1024 + 1 * q.val = q.val; omega

/-- Part 0 of the hidden array's block. -/
theorem ldA0 (X : Vec Ideal S4x512x704 .bf16) (r : Fin 512) (s : Fin 704) : View.ld X r0_0 (ix3 (0 : Fin 1) r s) = X (ix3 (0 : Fin 4) r s) := by
  refine congrArg X (funext fun a => Fin.ext ?_)
  match a with
  | ⟨0, _⟩ => rfl
  | ⟨1, _⟩ => show 0 + 1 * r.val = r.val; omega
  | ⟨2, _⟩ => show 0 + 1 * s.val = s.val; omega

/-- Part 0 of the weight's block. -/
theorem ldW0 (X : Vec Ideal S1x2816x1024 .bf16) (s : Fin 704) (q : Fin 1024) :
    View.ld X r0_1 (ix3 (0 : Fin 1) s q) = X (ix3 (0 : Fin 1) (⟨0 + s.val, by omega⟩ : Fin 2816) q) := by
  refine congrArg X (funext fun a => Fin.ext ?_)
  match a with
  | ⟨0, _⟩ => rfl
  | ⟨1, _⟩ => show 0 + 1 * s.val = 0 + s.val; omega
  | ⟨2, _⟩ => show 0 + 1 * q.val = q.val; omega

/-- Part 1 of the hidden array's block. -/
theorem ldA1 (X : Vec Ideal S4x512x704 .bf16) (r : Fin 512) (s : Fin 704) : View.ld X r0_2 (ix3 (0 : Fin 1) r s) = X (ix3 (1 : Fin 4) r s) := by
  refine congrArg X (funext fun a => Fin.ext ?_)
  match a with
  | ⟨0, _⟩ => rfl
  | ⟨1, _⟩ => show 0 + 1 * r.val = r.val; omega
  | ⟨2, _⟩ => show 0 + 1 * s.val = s.val; omega

/-- Part 1 of the weight's block. -/
theorem ldW1 (X : Vec Ideal S1x2816x1024 .bf16) (s : Fin 704) (q : Fin 1024) :
    View.ld X r0_3 (ix3 (0 : Fin 1) s q) = X (ix3 (0 : Fin 1) (⟨704 + s.val, by omega⟩ : Fin 2816) q) := by
  refine congrArg X (funext fun a => Fin.ext ?_)
  match a with
  | ⟨0, _⟩ => rfl
  | ⟨1, _⟩ => show 704 + 1 * s.val = 704 + s.val; omega
  | ⟨2, _⟩ => show 0 + 1 * q.val = q.val; omega

/-- Part 2 of the hidden array's block. -/
theorem ldA2 (X : Vec Ideal S4x512x704 .bf16) (r : Fin 512) (s : Fin 704) : View.ld X r0_4 (ix3 (0 : Fin 1) r s) = X (ix3 (2 : Fin 4) r s) := by
  refine congrArg X (funext fun a => Fin.ext ?_)
  match a with
  | ⟨0, _⟩ => rfl
  | ⟨1, _⟩ => show 0 + 1 * r.val = r.val; omega
  | ⟨2, _⟩ => show 0 + 1 * s.val = s.val; omega

/-- Part 2 of the weight's block. -/
theorem ldW2 (X : Vec Ideal S1x2816x1024 .bf16) (s : Fin 704) (q : Fin 1024) :
    View.ld X r0_5 (ix3 (0 : Fin 1) s q) = X (ix3 (0 : Fin 1) (⟨1408 + s.val, by omega⟩ : Fin 2816) q) := by
  refine congrArg X (funext fun a => Fin.ext ?_)
  match a with
  | ⟨0, _⟩ => rfl
  | ⟨1, _⟩ => show 1408 + 1 * s.val = 1408 + s.val; omega
  | ⟨2, _⟩ => show 0 + 1 * q.val = q.val; omega

/-- Part 3 of the hidden array's block. -/
theorem ldA3 (X : Vec Ideal S4x512x704 .bf16) (r : Fin 512) (s : Fin 704) : View.ld X r0_6 (ix3 (0 : Fin 1) r s) = X (ix3 (3 : Fin 4) r s) := by
  refine congrArg X (funext fun a => Fin.ext ?_)
  match a with
  | ⟨0, _⟩ => rfl
  | ⟨1, _⟩ => show 0 + 1 * r.val = r.val; omega
  | ⟨2, _⟩ => show 0 + 1 * s.val = s.val; omega

/-- Part 3 of the weight's block. -/
theorem ldW3 (X : Vec Ideal S1x2816x1024 .bf16) (s : Fin 704) (q : Fin 1024) :
    View.ld X r0_7 (ix3 (0 : Fin 1) s q) = X (ix3 (0 : Fin 1) (⟨2112 + s.val, by omega⟩ : Fin 2816) q) := by
  refine congrArg X (funext fun a => Fin.ext ?_)
  match a with
  | ⟨0, _⟩ => rfl
  | ⟨1, _⟩ => show 2112 + 1 * s.val = 2112 + s.val; omega
  | ⟨2, _⟩ => show 0 + 1 * q.val = q.val; omega

/-- The row of the small array that holds the gain. -/
theorem ldG (X : Vec Ideal S16x1024 .f32) (q : Fin 1024) : View.ld X r0_9 (ix2 (0 : Fin 1) q) = X (ix2 (11 : Fin 16) q) := by
  refine congrArg X (funext fun a => Fin.ext ?_)
  match a with
  | ⟨0, _⟩ => rfl
  | ⟨1, _⟩ => show 0 + 1 * q.val = q.val; omega

/-- The row of the small array that holds the offset. -/
theorem ldB (X : Vec Ideal S16x1024 .f32) (q : Fin 1024) : View.ld X r0_10 (ix2 (0 : Fin 1) q) = X (ix2 (14 : Fin 16) q) := by
  refine congrArg X (funext fun a => Fin.ext ?_)
  match a with
  | ⟨0, _⟩ => rfl
  | ⟨1, _⟩ => show 0 + 1 * q.val = q.val; omega

/-- A sum over the hidden columns is the sum of its four parts. -/
theorem four (f : Fin 2816 → EReal) : ∑ k, f k
    = (∑ s : Fin 704, f ⟨0 + s.val, by omega⟩) + (∑ s : Fin 704, f ⟨704 + s.val, by omega⟩)
      + (∑ s : Fin 704, f ⟨1408 + s.val, by omega⟩) + (∑ s : Fin 704, f ⟨2112 + s.val, by omega⟩) := by
  refine (Cert.Lin.sum_parts 4 704 f (by omega)).trans ?_
  rw [Fin.sum_univ_four]
  rfl

/-- The arguments' rows before the norm. -/
abbrev preM (c : Dev nD) (R : Fin 4096) : Fin 1024 → EReal :=
  pre (m ((c : Thread nD τ).loc main_arg0)) (m ((c : Thread nD τ).loc main_arg1)) (m ((c : Thread nD τ).loc main_arg2)) R

/-- A point's rows before the norm, by the arguments. -/
theorem at0 (t : Fin cfg0.N) (r : Fin 512) (R : Fin 4096) (hR : R.val = t.val * 512 + r.val) :
    zrow (k0_pay9 (iblk m c 0 t) (iblk m c 1 t) (iblk m c 2 t) (iblk m c 3 t)) (k0_pay10 (iblk m c 0 t) (iblk m c 1 t) (iblk m c 2 t) (iblk m c 3 t))
      (k0_pay11 (iblk m c 0 t) (iblk m c 1 t) (iblk m c 2 t) (iblk m c 3 t)) r = preM m c R := by
  funext q
  unfold zrow preM pre
  refine congrArg₂ (· + ·) ?_ (congrArg₂ (· * ·) rfl ?_)
  · unfold k0_pay10
    rw [View.ld_unit_zero (by decide)]
    exact congrArg (Ideal.ofBits .f32 0x3FD744FD#32 * ·) (blk2 m c t r q R hR)
  · unfold k0_pay9
    refine (block6 _ _ _ _ _ _ _ _ r q).trans ?_
    refine Eq.trans ?_ (four (term (m ((c : Thread nD τ).loc main_arg0)) (m ((c : Thread nD τ).loc main_arg1)) R q)).symm
    refine congrArg₂ (· + ·) (congrArg₂ (· + ·) (congrArg₂ (· + ·) ?_ ?_) ?_) ?_
    · exact Finset.sum_congr rfl fun s _ => congrArg₂ (· * ·)
        ((ldA0 _ r s).trans (blk0 m c t (0 : Fin 4) r s R hR ⟨0 + s.val, by omega⟩ (by show 0 + s.val = 0 * 704 + s.val; omega)))
        ((ldW0 _ s q).trans (blk1 m c t ⟨0 + s.val, by omega⟩ q))
    · exact Finset.sum_congr rfl fun s _ => congrArg₂ (· * ·)
        ((ldA1 _ r s).trans (blk0 m c t (1 : Fin 4) r s R hR ⟨704 + s.val, by omega⟩ (by show 704 + s.val = 1 * 704 + s.val; omega)))
        ((ldW1 _ s q).trans (blk1 m c t ⟨704 + s.val, by omega⟩ q))
    · exact Finset.sum_congr rfl fun s _ => congrArg₂ (· * ·)
        ((ldA2 _ r s).trans (blk0 m c t (2 : Fin 4) r s R hR ⟨1408 + s.val, by omega⟩ (by show 1408 + s.val = 2 * 704 + s.val; omega)))
        ((ldW2 _ s q).trans (blk1 m c t ⟨1408 + s.val, by omega⟩ q))
    · exact Finset.sum_congr rfl fun s _ => congrArg₂ (· * ·)
        ((ldA3 _ r s).trans (blk0 m c t (3 : Fin 4) r s R hR ⟨2112 + s.val, by omega⟩ (by show 2112 + s.val = 3 * 704 + s.val; omega)))
        ((ldW3 _ s q).trans (blk1 m c t ⟨2112 + s.val, by omega⟩ q))

/-- A point's block of the result, by the arguments. -/
theorem at4 (t : Fin cfg0.N) (r : Fin 512) (q : Fin 1024) (R : Fin 4096) (Q : Fin 1024) (hR : R.val = t.val * 512 + r.val) (hQ : Q.val = q.val) :
    k0_pay4 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t))
      (View.ld (iblk m c 3 t) r0_9) (View.ld (iblk m c 3 t) r0_10) (ix2 r q) = rows (m ((c : Thread nD τ).loc main_arg0)) (m ((c : Thread nD τ).loc main_arg1)) (m ((c : Thread nD τ).loc main_arg2)) (m ((c : Thread nD τ).loc main_arg3)) (m ((c : Thread nD τ).loc main_arg4)) (ix2 R Q) := by
  obtain rfl : Q = q := Fin.ext hQ
  refine (block4 _ _ _ _ _ r Q).trans ?_
  rw [at0 m c t r R hR, ldG, ldB, blk3 m c t, blk3 m c t, gain m c, offset m c]
  rfl

/-- A point's block of the normalised rows, by the arguments. -/
theorem at6 (t : Fin cfg0.N) (r : Fin 512) (q : Fin 1024) (R : Fin 4096) (Q : Fin 1024) (hR : R.val = t.val * 512 + r.val) (hQ : Q.val = q.val) :
    k0_pay3 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (ix2 r q)
      = unitRows (m ((c : Thread nD τ).loc main_arg0)) (m ((c : Thread nD τ).loc main_arg1)) (m ((c : Thread nD τ).loc main_arg2)) (ix2 R Q) := by
  obtain rfl : Q = q := Fin.ext hQ
  refine (block3 _ _ _ r Q).trans ?_
  rw [at0 m c t r R hR]
  rfl

/-- A point's block of the reciprocal standard deviations, by the arguments. -/
theorem at7 (t : Fin cfg0.N) (r : Fin 512) (R : Fin 4096) (hR : R.val = t.val * 512 + r.val) :
    k0_pay2 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (ix2 r (0 : Fin 1))
      = devs (m ((c : Thread nD τ).loc main_arg0)) (m ((c : Thread nD τ).loc main_arg1)) (m ((c : Thread nD τ).loc main_arg2)) (ix2 R (0 : Fin 1)) := by
  refine (block2 _ _ _ r).trans ?_
  rw [at0 m c t r R hR]
  rfl

/-- The printed index map of the rows with gain and offset, and that every point writes back. -/
theorem omaps4 : ∀ t : Fin cfg0.N, win0_4.index t (0 : Fin 2) = t.val ∧ win0_4.index t (1 : Fin 2) = 0 ∧ (cfg0.win 4).flush t = true :=
  (by decide +kernel : ∀ t : Fin grid0.N, _)

/-- Of the memory's arguments, the rows with gain and offset. -/
abbrev G4 (c : Dev nD) : Buf (Elt Ideal) ((c : Thread nD τ).loc main_v7_0) :=
  rows (m ((c : Thread nD τ).loc main_arg0)) (m ((c : Thread nD τ).loc main_arg1)) (m ((c : Thread nD τ).loc main_arg2)) (m ((c : Thread nD τ).loc main_arg3)) (m ((c : Thread nD τ).loc main_arg4))

/-- What a point writes back is its part of the rows with gain and offset. -/
theorem flushed_eq4 (t : Fin cfg0.N) : (dats m 0 c).flushed 4 t = ((cfg0.win 4).blk t).view.read (Elt Ideal) (G4 m c) := by
  obtain ⟨e0, e1, -⟩ := omaps4 t
  rw [Value.flushed4]
  unfold out0_4
  rw [View.canon_unit_zero (by decide)]
  funext y
  have ey : ((cfg0.win 4).xinj (grid0.coords t) y : S512x1024.Idx) = ix2 (y 0 : Fin 512) (y 1 : Fin 1024) := funext fun a => Fin.ext (by
    match a with
    | ⟨0, _⟩ => rfl
    | ⟨1, _⟩ => rfl)
  show k0_pay4 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (View.ld (iblk m c 3 t) r0_9) (View.ld (iblk m c 3 t) r0_10) ((cfg0.win 4).xinj (grid0.coords t) y) = G4 m c (((cfg0.win 4).blk t).view.emb y)
  have f0 : (((cfg0.win 4).blk t).view.emb y 0).val = t.val * 512 + (y 0).val := by
    show win0_4.index t (0 : Fin 2) * 512 + 1 * (y 0).val = _; rw [e0]; omega
  have f1 : (((cfg0.win 4).blk t).view.emb y 1).val = (y 1).val := by
    show win0_4.index t (1 : Fin 2) * 1024 + 1 * (y 1).val = _; rw [e1]; omega
  refine (congrArg (k0_pay4 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (View.ld (iblk m c 3 t) r0_9) (View.ld (iblk m c 3 t) r0_10)) ey).trans ((at4 m c t (y 0 : Fin 512) (y 1 : Fin 1024) (((cfg0.win 4).blk t).view.emb y 0 : Fin 4096) (((cfg0.win 4).blk t).view.emb y 1 : Fin 1024) f0 f1).trans ?_)
  refine congrArg (G4 m c) (funext fun a => Fin.ext ?_)
  match a with
  | ⟨0, _⟩ => rfl
  | ⟨1, _⟩ => rfl

/-- Every entry is in some point's block. -/
theorem covered4 (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  have hq : (i 0).val / 512 < 8 := by omega
  let t : Fin cfg0.N := ⟨(i 0).val / 512, lt_of_lt_of_eq hq N_0.symm⟩
  obtain ⟨e0, e1, hf⟩ := omaps4 t
  have et : t.val = (i 0).val / 512 := rfl
  refine ⟨t, hf, ?_⟩
  show i ∈ ((View.whole main_v7_0).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The kernel's result: the rows with gain and offset. -/
theorem final4 : (dats m 0 c).arrAt 4 cfg0.N = G4 m c :=
  (dats m 0 c).arrAt_eq_of_cover 4 _ (fun t _ => flushed_eq4 m c t) covered4

/-- The printed index map of the rows with gain and offset, cast, and that every point writes back. -/
theorem omaps5 : ∀ t : Fin cfg0.N, win0_5.index t (0 : Fin 2) = t.val ∧ win0_5.index t (1 : Fin 2) = 0 ∧ (cfg0.win 5).flush t = true :=
  (by decide +kernel : ∀ t : Fin grid0.N, _)

/-- Of the memory's arguments, the rows with gain and offset, cast. -/
abbrev G5 (c : Dev nD) : Buf (Elt Ideal) ((c : Thread nD τ).loc main_v7_1) :=
  rows (m ((c : Thread nD τ).loc main_arg0)) (m ((c : Thread nD τ).loc main_arg1)) (m ((c : Thread nD τ).loc main_arg2)) (m ((c : Thread nD τ).loc main_arg3)) (m ((c : Thread nD τ).loc main_arg4))

/-- What a point writes back is its part of the rows with gain and offset, cast. -/
theorem flushed_eq5 (t : Fin cfg0.N) : (dats m 0 c).flushed 5 t = ((cfg0.win 5).blk t).view.read (Elt Ideal) (G5 m c) := by
  obtain ⟨e0, e1, -⟩ := omaps5 t
  rw [Value.flushed5]
  unfold out0_5
  rw [View.canon_unit_zero (by decide)]
  funext y
  have ey : ((cfg0.win 5).xinj (grid0.coords t) y : S512x1024.Idx) = ix2 (y 0 : Fin 512) (y 1 : Fin 1024) := funext fun a => Fin.ext (by
    match a with
    | ⟨0, _⟩ => rfl
    | ⟨1, _⟩ => rfl)
  show k0_pay5 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (View.ld (iblk m c 3 t) r0_9) (View.ld (iblk m c 3 t) r0_10) ((cfg0.win 5).xinj (grid0.coords t) y) = G5 m c (((cfg0.win 5).blk t).view.emb y)
  have f0 : (((cfg0.win 5).blk t).view.emb y 0).val = t.val * 512 + (y 0).val := by
    show win0_5.index t (0 : Fin 2) * 512 + 1 * (y 0).val = _; rw [e0]; omega
  have f1 : (((cfg0.win 5).blk t).view.emb y 1).val = (y 1).val := by
    show win0_5.index t (1 : Fin 2) * 1024 + 1 * (y 1).val = _; rw [e1]; omega
  refine (congrArg (k0_pay5 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (View.ld (iblk m c 3 t) r0_9) (View.ld (iblk m c 3 t) r0_10)) ey).trans ((at4 m c t (y 0 : Fin 512) (y 1 : Fin 1024) (((cfg0.win 5).blk t).view.emb y 0 : Fin 4096) (((cfg0.win 5).blk t).view.emb y 1 : Fin 1024) f0 f1).trans ?_)
  refine congrArg (G5 m c) (funext fun a => Fin.ext ?_)
  match a with
  | ⟨0, _⟩ => rfl
  | ⟨1, _⟩ => rfl

/-- Every entry is in some point's block. -/
theorem covered5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have hq : (i 0).val / 512 < 8 := by omega
  let t : Fin cfg0.N := ⟨(i 0).val / 512, lt_of_lt_of_eq hq N_0.symm⟩
  obtain ⟨e0, e1, hf⟩ := omaps5 t
  have et : t.val = (i 0).val / 512 := rfl
  refine ⟨t, hf, ?_⟩
  show i ∈ ((View.whole main_v7_1).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The kernel's result: the rows with gain and offset, cast. -/
theorem final5 : (dats m 0 c).arrAt 5 cfg0.N = G5 m c :=
  (dats m 0 c).arrAt_eq_of_cover 5 _ (fun t _ => flushed_eq5 m c t) covered5

/-- The printed index map of the normalised rows, and that every point writes back. -/
theorem omaps6 : ∀ t : Fin cfg0.N, win0_6.index t (0 : Fin 2) = t.val ∧ win0_6.index t (1 : Fin 2) = 0 ∧ (cfg0.win 6).flush t = true :=
  (by decide +kernel : ∀ t : Fin grid0.N, _)

/-- Of the memory's arguments, the normalised rows. -/
abbrev G6 (c : Dev nD) : Buf (Elt Ideal) ((c : Thread nD τ).loc main_v7_2) :=
  unitRows (m ((c : Thread nD τ).loc main_arg0)) (m ((c : Thread nD τ).loc main_arg1)) (m ((c : Thread nD τ).loc main_arg2))

/-- What a point writes back is its part of the normalised rows. -/
theorem flushed_eq6 (t : Fin cfg0.N) : (dats m 0 c).flushed 6 t = ((cfg0.win 6).blk t).view.read (Elt Ideal) (G6 m c) := by
  obtain ⟨e0, e1, -⟩ := omaps6 t
  rw [Value.flushed6]
  unfold out0_6
  rw [View.canon_unit_zero (by decide)]
  funext y
  have ey : ((cfg0.win 6).xinj (grid0.coords t) y : S512x1024.Idx) = ix2 (y 0 : Fin 512) (y 1 : Fin 1024) := funext fun a => Fin.ext (by
    match a with
    | ⟨0, _⟩ => rfl
    | ⟨1, _⟩ => rfl)
  show k0_pay3 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) ((cfg0.win 6).xinj (grid0.coords t) y) = G6 m c (((cfg0.win 6).blk t).view.emb y)
  have f0 : (((cfg0.win 6).blk t).view.emb y 0).val = t.val * 512 + (y 0).val := by
    show win0_6.index t (0 : Fin 2) * 512 + 1 * (y 0).val = _; rw [e0]; omega
  have f1 : (((cfg0.win 6).blk t).view.emb y 1).val = (y 1).val := by
    show win0_6.index t (1 : Fin 2) * 1024 + 1 * (y 1).val = _; rw [e1]; omega
  refine (congrArg (k0_pay3 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t))) ey).trans ((at6 m c t (y 0 : Fin 512) (y 1 : Fin 1024) (((cfg0.win 6).blk t).view.emb y 0 : Fin 4096) (((cfg0.win 6).blk t).view.emb y 1 : Fin 1024) f0 f1).trans ?_)
  refine congrArg (G6 m c) (funext fun a => Fin.ext ?_)
  match a with
  | ⟨0, _⟩ => rfl
  | ⟨1, _⟩ => rfl

/-- Every entry is in some point's block. -/
theorem covered6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have hq : (i 0).val / 512 < 8 := by omega
  let t : Fin cfg0.N := ⟨(i 0).val / 512, lt_of_lt_of_eq hq N_0.symm⟩
  obtain ⟨e0, e1, hf⟩ := omaps6 t
  have et : t.val = (i 0).val / 512 := rfl
  refine ⟨t, hf, ?_⟩
  show i ∈ ((View.whole main_v7_2).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The kernel's result: the normalised rows. -/
theorem final6 : (dats m 0 c).arrAt 6 cfg0.N = G6 m c :=
  (dats m 0 c).arrAt_eq_of_cover 6 _ (fun t _ => flushed_eq6 m c t) covered6

/-- The printed index map of the reciprocal standard deviations, and that every point writes back. -/
theorem omaps7 : ∀ t : Fin cfg0.N, win0_7.index t (0 : Fin 2) = t.val ∧ win0_7.index t (1 : Fin 2) = 0 ∧ (cfg0.win 7).flush t = true :=
  (by decide +kernel : ∀ t : Fin grid0.N, _)

/-- Of the memory's arguments, the reciprocal standard deviations. -/
abbrev G7 (c : Dev nD) : Buf (Elt Ideal) ((c : Thread nD τ).loc main_v7_3) :=
  devs (m ((c : Thread nD τ).loc main_arg0)) (m ((c : Thread nD τ).loc main_arg1)) (m ((c : Thread nD τ).loc main_arg2))

/-- What a point writes back is its part of the reciprocal standard deviations. -/
theorem flushed_eq7 (t : Fin cfg0.N) : (dats m 0 c).flushed 7 t = ((cfg0.win 7).blk t).view.read (Elt Ideal) (G7 m c) := by
  obtain ⟨e0, e1, -⟩ := omaps7 t
  rw [Value.flushed7]
  unfold out0_7
  rw [View.canon_unit_zero (by decide)]
  funext y
  have h1 : (y 1).val < 1 := (y 1).isLt
  have ey : ((cfg0.win 7).xinj (grid0.coords t) y : S512x1.Idx) = ix2 (y 0 : Fin 512) (0 : Fin 1) := funext fun a => Fin.ext (by
    match a with
    | ⟨0, _⟩ => rfl
    | ⟨1, _⟩ => show (y 1).val = 0; omega)
  show k0_pay2 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) ((cfg0.win 7).xinj (grid0.coords t) y) = G7 m c (((cfg0.win 7).blk t).view.emb y)
  have f0 : (((cfg0.win 7).blk t).view.emb y 0).val = t.val * 512 + (y 0).val := by
    show win0_7.index t (0 : Fin 2) * 512 + 1 * (y 0).val = _; rw [e0]; omega
  have f1 : (((cfg0.win 7).blk t).view.emb y 1).val = (y 1).val := by
    show win0_7.index t (1 : Fin 2) * 1 + 1 * (y 1).val = _; rw [e1]; omega
  refine (congrArg (k0_pay2 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t))) ey).trans ((at7 m c t (y 0 : Fin 512) (((cfg0.win 7).blk t).view.emb y 0 : Fin 4096) f0).trans ?_)
  refine congrArg (G7 m c) (funext fun a => Fin.ext ?_)
  match a with
  | ⟨0, _⟩ => rfl
  | ⟨1, _⟩ => show 0 = (((cfg0.win 7).blk t).view.emb y 1).val; rw [f1]; omega

/-- Every entry is in some point's block. -/
theorem covered7 (i : S4096x1.Idx) : ∃ t : Fin cfg0.N, (cfg0.win 7).flush t = true ∧ i ∈ ((cfg0.win 7).blk t).view.set := by
  have h0 : (i 0).val < 4096 := (i 0).isLt
  have h1 : (i 1).val < 1 := (i 1).isLt
  have hq : (i 0).val / 512 < 8 := by omega
  let t : Fin cfg0.N := ⟨(i 0).val / 512, lt_of_lt_of_eq hq N_0.symm⟩
  obtain ⟨e0, e1, hf⟩ := omaps7 t
  have et : t.val = (i 0).val / 512 := rfl
  refine ⟨t, hf, ?_⟩
  show i ∈ ((View.whole main_v7_3).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1 ≤ (i 1).val ∧ (i 1).val < win0_7.index t (1 : Fin 2) * 1 + 1; omega

/-- The kernel's result: the reciprocal standard deviations. -/
theorem final7 : (dats m 0 c).arrAt 7 cfg0.N = G7 m c :=
  (dats m 0 c).arrAt_eq_of_cover 7 _ (fun t _ => flushed_eq7 m c t) covered7

end Cert.FfnDownIdeal.Lin

namespace Cert.FfnDownRefIdeal.Lin

open Cert.FfnDownRefIdeal Cert.FfnDownRefIdeal.Gen
open Idealize.ShloMosaic hiding ix0 ix1 ix2 ix3 ix4
open Idealize.ShloMosaic.TcCoe Idealize.ShloMosaic.ValueIdx
open Cert.FfnDownIdeal.Lin (pre rows unitRows devs)
open Cert.Lin

variable (a : FVec Ideal S4096x2816 .f32) (w : FVec Ideal S2x2816x1024 .f32) (x : FVec Ideal S4096x1024 .f32) (g b : FVec Ideal S3x1024 .f32)

/-- The reference's product. -/
theorem product (i : S4096x1024.Idx) : Read.val_main_v4 (F := Ideal) a w i
    = ∑ k : Fin 2816, (a (ix2 (i 0 : Fin 4096) k) : EReal) * (w (ix3 (1 : Fin 2) k (i 1 : Fin 1024)) : EReal) := by
  have h1 : (i 1).val < 1024 := (i 1).isLt
  rw [Read.val_main_v4_apply]
  refine Finset.sum_congr rfl fun k _ => congrArg₂ (· * ·) (congrArg a (funext fun a => Fin.ext ?_)) ?_
  · match a with
    | ⟨0, _⟩ => rfl
    | ⟨1, _⟩ => rfl
  · rw [Read.val_main_v3_apply, Read.val_main_v2_apply]
    refine congrArg w (funext fun a => Fin.ext ?_)
    match a with
    | ⟨0, _⟩ => rfl
    | ⟨1, _⟩ => show (k.val * 1024 + (i 1).val) / 1024 % 2816 = k.val; omega
    | ⟨2, _⟩ => show (k.val * 1024 + (i 1).val) % 1024 = (i 1).val; omega

/-- The reference's rows before the norm. -/
theorem before (i : S4096x1024.Idx) : Read.val_main_v7 (F := Ideal) a w x i = pre a w x (i 0 : Fin 4096) (i 1 : Fin 1024) := by
  rw [Read.val_main_v7_apply, Read.val_main_v6_apply, Read.val_main_v1_apply, Read.val_main_v0_apply, Read.val_main_v5_apply,
    Read.val_main_cst_apply, Read.val_main_cst_0_apply, product]
  unfold pre
  refine congrArg₂ (· + ·) (congrArg₂ (· * ·) rfl (congrArg x (ValueIdx.eq_ix2 i))) rfl

/-- The reference's means. -/
theorem means (i : S4096x1.Idx) : Read.val_main_v11 (F := Ideal) a w x i = mean (pre a w x (i 0 : Fin 4096)) := by
  rw [Read.val_main_v11_apply, Read.val_main_v9_apply, Read.val_main_v8_apply, Read.val_main_cst_1_apply, Read.val_main_v10_apply,
    Read.val_main_cst_2_apply]
  unfold mean
  refine congrArg₂ Ideal.div ?_ rfl
  refine (congrArg₂ (· + ·) Ideal.ofBits_zero_f32 (Finset.sum_congr rfl fun k _ => before a w x _)).trans ?_
  exact zero_add _

/-- The reference's rows less their means. -/
theorem centre (i : S4096x1024.Idx) : Read.val_main_v13 (F := Ideal) a w x i = centred (pre a w x (i 0 : Fin 4096)) (i 1 : Fin 1024) := by
  rw [Read.val_main_v13_apply, Read.val_main_v12_apply, before, means]
  rfl

/-- The reference's rows less their means, where the norm reads them. -/
theorem centre' (i : S4096x1024.Idx) : Read.val_main_v23 (F := Ideal) a w x i = centred (pre a w x (i 0 : Fin 4096)) (i 1 : Fin 1024) := by
  rw [Read.val_main_v23_apply, Read.val_main_v22_apply, before, means]
  rfl

/-- The reference's reciprocal standard deviations. -/
theorem deviations (i : S4096x1.Idx) : Read.val_main_v21 (F := Ideal) a w x i = rstd (pre a w x (i 0 : Fin 4096)) := by
  rw [Read.val_main_v21_apply, Read.val_main_v20_apply, Read.val_main_v18_apply, Read.val_main_v16_apply, Read.val_main_v15_apply,
    Read.val_main_cst_3_apply, Read.val_main_v17_apply, Read.val_main_cst_4_apply, Read.val_main_v19_apply, Read.val_main_cst_5_apply]
  unfold rstd
  refine congrArg Ideal.rsqrt (congrArg₂ (· + ·) (congrArg₂ Ideal.div ?_ rfl) rfl)
  refine (congrArg₂ (· + ·) Ideal.ofBits_zero_f32 (Finset.sum_congr rfl fun k _ => ?_)).trans (zero_add _)
  rw [Read.val_main_v14_apply, centre]
  rfl

/-- The reference's normalised rows. -/
theorem unitAt (i : S4096x1024.Idx) : Read.val_main_v25 (F := Ideal) a w x i = normed (pre a w x (i 0 : Fin 4096)) (i 1 : Fin 1024) := by
  rw [Read.val_main_v25_apply, centre', Read.val_main_v24_apply, deviations]
  rfl

/-- The gain as the reference reads it. -/
theorem gain (i : S4096x1024.Idx) : Read.val_main_v29 (F := Ideal) g i = g (ix2 (2 : Fin 3) (i 1 : Fin 1024)) := by
  have h1 : (i 1).val < 1024 := (i 1).isLt
  rw [Read.val_main_v29_apply, Read.val_main_v28_apply, Read.val_main_v27_apply, Read.val_main_v26_apply]
  refine congrArg g (funext fun a => Fin.ext ?_)
  match a with
  | ⟨0, _⟩ => rfl
  | ⟨1, _⟩ => show (i 1).val % 1024 = (i 1).val; omega

/-- The offset as the reference reads it. -/
theorem offset (i : S4096x1024.Idx) : Read.val_main_v34 (F := Ideal) b i = b (ix2 (2 : Fin 3) (i 1 : Fin 1024)) := by
  have h1 : (i 1).val < 1024 := (i 1).isLt
  rw [Read.val_main_v34_apply, Read.val_main_v33_apply, Read.val_main_v32_apply, Read.val_main_v31_apply]
  refine congrArg b (funext fun a => Fin.ext ?_)
  match a with
  | ⟨0, _⟩ => rfl
  | ⟨1, _⟩ => show (i 1).val % 1024 = (i 1).val; omega

/-- The reference's rows with gain and offset. -/
theorem result0 : Read.val_main_v35 (F := Ideal) a w x g b = rows a w x g b := by
  funext i
  rw [Read.val_main_v35_apply, Read.val_main_v30_apply, unitAt, gain, offset]
  rfl

/-- The same, cast. -/
theorem result1 : Read.val_main_v36 (F := Ideal) a w x g b = rows a w x g b := by
  funext i
  rw [Read.val_main_v36_apply]
  exact congrFun (result0 a w x g b) i

/-- The reference's normalised rows as an array. -/
theorem result2 : Read.val_main_v25 (F := Ideal) a w x = unitRows a w x := funext fun i => unitAt a w x i

/-- The reference's reciprocal standard deviations as an array. -/
theorem result3 : Read.val_main_v21 (F := Ideal) a w x = devs a w x := funext fun i => deviations a w x i

end Cert.FfnDownRefIdeal.Lin

namespace Cert.Proof

open Idealize.ShloMosaic Idealize.SL.Sem

/-- Kernel and reference compute the same four arrays. -/
theorem ffnDown : Cert.algebraic_FfnDownIdeal_FfnDownRefIdeal := by
  intro m g m' g' _ hE
  refine ⟨fun c => Cert.FfnDownIdeal.Lin.G4 m c, fun c => Cert.FfnDownIdeal.Lin.G5 m c, fun c => Cert.FfnDownIdeal.Lin.G6 m c,
    fun c => Cert.FfnDownIdeal.Lin.G7 m c, ?_, ?_⟩
  · exact (θ_run (Cert.FfnDownIdeal.defs (F := Ideal)) _ _).mono
      (fun r h c => ⟨(h c).1.trans (Cert.FfnDownIdeal.Lin.final4 m c), (h c).2.1.trans (Cert.FfnDownIdeal.Lin.final5 m c),
        (h c).2.2.1.trans (Cert.FfnDownIdeal.Lin.final6 m c), (h c).2.2.2.1.trans (Cert.FfnDownIdeal.Lin.final7 m c), (h c).2.2.2.2⟩)
      (Cert.FfnDownIdeal.Value.run_blocks (F := Ideal) m g)
  · refine (θ_run (Cert.FfnDownRefIdeal.defs (F := Ideal)) _ _).mono (fun r h c => ⟨?_, ?_, ?_, ?_, (h c).2.2.2.2⟩)
      (Cert.FfnDownRefIdeal.Value.run (F := Ideal) m' g')
    all_goals obtain ⟨e0, e1, e2, e3, e4⟩ := hE c
    · refine (h c).1.trans ((Cert.FfnDownRefIdeal.Read.val_main_v35_eq m' c).trans ((Cert.FfnDownRefIdeal.Lin.result0 _ _ _ _ _).trans ?_))
      rw [e0, e1, e2, e3, e4]
    · refine (h c).2.1.trans ((Cert.FfnDownRefIdeal.Read.val_main_v36_eq m' c).trans ((Cert.FfnDownRefIdeal.Lin.result1 _ _ _ _ _).trans ?_))
      rw [e0, e1, e2, e3, e4]
    · refine (h c).2.2.1.trans ((Cert.FfnDownRefIdeal.Read.val_main_v25_eq m' c).trans ((Cert.FfnDownRefIdeal.Lin.result2 _ _ _).trans ?_))
      rw [e0, e1, e2]
    · refine (h c).2.2.2.1.trans ((Cert.FfnDownRefIdeal.Read.val_main_v21_eq _ _ _).trans ((Cert.FfnDownRefIdeal.Lin.result3 _ _ _).trans ?_))
      rw [e0, e1, e2]

end Cert.Proof

end
-- ==== Proof.Lin.DownFirst.lean ====
/- The end of the first macaron half, kernel and reference: the hidden array times the weight, half of that added to the scaled
   input, and the layer norm of the sum. The kernel works on 512 rows at a time and takes the product in four parts. -/
module

public import proofs.«01_k».proof.Defs
public import proofs.«01_k».proof.Proof.Lin.Norm
public import proofs.«01_k».proof.Proof.Lin.Parts
public import proofs.«01_k».proof.Proof.Gen.FfnDownFirstIdeal.Value
public import proofs.«01_k».proof.Proof.Gen.FfnDownFirstRefIdeal.Read
public import Idealize.ShloMosaic.Lib.Pointwise
public import Idealize.ShloMosaic.Lib.StableHlo.RunRead

@[expose] public section

set_option maxRecDepth 16384

noncomputable section

namespace Cert.FfnDownFirstIdeal.Lin

open Cert.FfnDownFirstIdeal Cert.FfnDownFirstIdeal.Gen
open Idealize.ShloMosaic hiding ix0 ix1 ix2 ix3 ix4
open Idealize.ShloMosaic.TcCoe Idealize.ShloMosaic.ValueIdx Idealize.SL.Sem

/-- Row `R` before the norm. -/
def pre (a : FVec Ideal S4096x2816 .f32) (w : FVec Ideal S2x2816x1024 .f32) (x : FVec Ideal S4096x1024 .f32) (R : Fin 4096)
    (q : Fin 1024) : EReal :=
  Ideal.ofBits .f32 0x3FD744FD#32 * (x (ix2 R q) : EReal)
    + Ideal.ofBits .f32 0x3F000000#32 * ∑ k : Fin 2816, (a (ix2 R k) : EReal) * (w (ix3 (0 : Fin 2) k q) : EReal)

/-- One term of the product. -/
def term (a : FVec Ideal S4096x2816 .f32) (w : FVec Ideal S2x2816x1024 .f32) (R : Fin 4096) (q : Fin 1024) (k : Fin 2816) : EReal :=
  (a (ix2 R k) : EReal) * (w (ix3 (0 : Fin 2) k q) : EReal)

/-- The normalised rows. -/
def unitRows (a : FVec Ideal S4096x2816 .f32) (w : FVec Ideal S2x2816x1024 .f32) (x : FVec Ideal S4096x1024 .f32) : FVec Ideal S4096x1024 .f32 :=
  fun i => Cert.Lin.normed (pre a w x (i 0 : Fin 4096)) (i 1 : Fin 1024)

/-- The normalised rows with their gain and offset. -/
def rows (a : FVec Ideal S4096x2816 .f32) (w : FVec Ideal S2x2816x1024 .f32) (x : FVec Ideal S4096x1024 .f32)
    (g b : FVec Ideal S3x1024 .f32) : FVec Ideal S4096x1024 .f32 := fun i =>
  Cert.Lin.normed (pre a w x (i 0 : Fin 4096)) (i 1 : Fin 1024) * (g (ix2 (0 : Fin 3) (i 1 : Fin 1024)) : EReal)
    + (b (ix2 (0 : Fin 3) (i 1 : Fin 1024)) : EReal)

/-- The rows' reciprocal standard deviations. -/
def devs (a : FVec Ideal S4096x2816 .f32) (w : FVec Ideal S2x2816x1024 .f32) (x : FVec Ideal S4096x1024 .f32) : FVec Ideal S4096x1 .f32 :=
  fun i => Cert.Lin.rstd (pre a w x (i 0 : Fin 4096))

variable (m : (ℓ : Loc nD τ sig) → Buf (Elt Ideal) ℓ) (c : Dev nD)

/-- A row of a block before the norm. -/
def zrow (v22 v25 v26 : FVec Ideal S512x1024 .f32) (r : Fin 512) (q : Fin 1024) : EReal :=
  (v25 (ix2 r q) : EReal) + (v26 (ix2 r q) : EReal) * (v22 (ix2 r q) : EReal)

/-- One block less its rows' means. -/
theorem block1 (v22 v25 v26 : FVec Ideal S512x1024 .f32) (r : Fin 512) (q : Fin 1024) :
    k0_pay1 v22 v25 v26 (ix2 r q) = Cert.Lin.centred (zrow v22 v25 v26 r) q := by
  pointwise [k0_pay1]
  rfl

/-- One block's reciprocal standard deviations. -/
theorem block2 (v22 v25 v26 : FVec Ideal S512x1024 .f32) (r : Fin 512) :
    k0_pay2 v22 v25 v26 (ix2 r (0 : Fin 1)) = Cert.Lin.rstd (zrow v22 v25 v26 r) := by
  pointwise [k0_pay2]
  refine congrArg Ideal.rsqrt (congrArg₂ (· + ·) (congrArg₂ Ideal.div (Finset.sum_congr rfl fun k _ => ?_) rfl) rfl)
  exact congrArg₂ (· * ·) (block1 v22 v25 v26 r k) (block1 v22 v25 v26 r k)

/-- One block's normalised rows. -/
theorem block3 (v22 v25 v26 : FVec Ideal S512x1024 .f32) (r : Fin 512) (q : Fin 1024) :
    k0_pay3 v22 v25 v26 (ix2 r q) = Cert.Lin.normed (zrow v22 v25 v26 r) q := by
  have e : (k0_pay3 v22 v25 v26 (ix2 r q) : EReal) = (k0_pay1 v22 v25 v26 (ix2 r q) : EReal) * (k0_pay2 v22 v25 v26 (ix2 r (0 : Fin 1)) : EReal) := by
    pointwise [k0_pay3]
    rfl
  rw [e, block1, block2]
  rfl

/-- One block of the result. -/
theorem block4 (v22 v25 v26 : FVec Ideal S512x1024 .f32) (v29 v31 : Vec Ideal S1x1024 .f32) (r : Fin 512) (q : Fin 1024) :
    k0_pay4 v22 v25 v26 v29 v31 (ix2 r q)
      = Cert.Lin.normed (zrow v22 v25 v26 r) q * (v29 (ix2 (0 : Fin 1) q) : EReal) + (v31 (ix2 (0 : Fin 1) q) : EReal) := by
  have e : (k0_pay4 v22 v25 v26 v29 v31 (ix2 r q) : EReal)
      = (k0_pay3 v22 v25 v26 (ix2 r q) : EReal) * (v29 (ix2 (0 : Fin 1) q) : EReal) + (v31 (ix2 (0 : Fin 1) q) : EReal) := by
    pointwise [k0_pay4]
    rfl
  rw [e, block3]

/-- One block of the product: its four parts. -/
theorem block6 (u0 u1 u2 u3 : Vec Ideal S1x512x704 .bf16) (w0 w1 w2 w3 : Vec Ideal S1x704x1024 .bf16) (r : Fin 512) (q : Fin 1024) :
    k0_pay6 u0 w0 u1 w1 u2 w2 u3 w3 (ix2 r q)
      = (∑ s : Fin 704, u0 (ix3 (0 : Fin 1) r s) * w0 (ix3 (0 : Fin 1) s q)) + (∑ s : Fin 704, u1 (ix3 (0 : Fin 1) r s) * w1 (ix3 (0 : Fin 1) s q))
        + (∑ s : Fin 704, u2 (ix3 (0 : Fin 1) r s) * w2 (ix3 (0 : Fin 1) s q)) + (∑ s : Fin 704, u3 (ix3 (0 : Fin 1) r s) * w3 (ix3 (0 : Fin 1) s q)) := by
  pointwise [k0_pay6]
  rfl

/-- The hidden array as the call finds it: its columns in four parts. -/
theorem entry0 (j : Fin 4) (R : Fin 4096) (s : Fin 704) :
    V m c main_v5 (ix3 j R s) = m ((c : Thread nD τ).loc main_arg0) (ix2 R (⟨j.val * 704 + s.val, by omega⟩ : Fin 2816)) := by
  have e : V m c main_v5 = truncf (F := Ideal) .bf16 (transpose S4x4096x704 [1, 0, 2]
      (shapeCast S4096x4x704 (m ((c : Thread nD τ).loc main_arg0)) shapeCasts_S4096x2816_S4096x4x704) transposes_S4096x4x704_S4x4096x704_1_0_2) bitsLt_bf16_f32 := by
    unfold V hostOps0
    after_reads_simp
    rfl
  rw [e]
  pointwise []
  rfl

/-- The weights as the call finds them. -/
theorem entry1 (f : Fin 2) (k : Fin 2816) (q : Fin 1024) : V m c main_v6 (ix3 f k q) = m ((c : Thread nD τ).loc main_arg1) (ix3 f k q) := by
  have e : V m c main_v6 = truncf (F := Ideal) .bf16 (m ((c : Thread nD τ).loc main_arg1)) bitsLt_bf16_f32 := by
    unfold V hostOps0
    after_reads_simp
  rw [e]; rfl

/-- The small array as the call finds it: zeros, the gains, the offsets, zeros. -/
theorem entry3 : V m c main_v2 = concatenate S16x1024 0
    [⟨S9x1024, broadcastInDim S9x1024 ![] bcast_S_S9x1024 (constant (F := Ideal) S_ .f32 0x00000000#32)⟩, ⟨S3x1024, m ((c : Thread nD τ).loc main_arg3)⟩,
      ⟨S3x1024, m ((c : Thread nD τ).loc main_arg4)⟩, ⟨S1x1024, broadcastInDim S1x1024 ![] bcast_S_S1x1024 (constant (F := Ideal) S_ .f32 0x00000000#32)⟩]
    concatenates_S9x1024_S3x1024_S3x1024_S1x1024_S16x1024_d0 := by
  unfold V hostOps0
  after_reads_simp
  rfl

/-- The gain the call reads. -/
theorem gain (q : Fin 1024) : V m c main_v2 (ix2 (9 : Fin 16) q) = m ((c : Thread nD τ).loc main_arg3) (ix2 (0 : Fin 3) q) := by
  rw [entry3]
  pointwise []
  rfl

/-- The offset the call reads. -/
theorem offset (q : Fin 1024) : V m c main_v2 (ix2 (12 : Fin 16) q) = m ((c : Thread nD τ).loc main_arg4) (ix2 (0 : Fin 3) q) := by
  rw [entry3]
  pointwise []
  rfl

/-- The printed index maps over the eight points: 512 rows at a time. -/
theorem maps : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The hidden array's block at a point. -/
theorem blk0 (t : Fin cfg0.N) (j : Fin 4) (r : Fin 512) (s : Fin 704) (R : Fin 4096) (hR : R.val = t.val * 512 + r.val) (k : Fin 2816)
    (hk : k.val = j.val * 704 + s.val) :
    (iblk m c 0 t : Vec Ideal S4x512x704 .bf16) (ix3 j r s) = m ((c : Thread nD τ).loc main_arg0) (ix2 R k) := by
  obtain ⟨a0, a1, a2, -⟩ := maps t
  refine Eq.trans (?_ : _ = V m c main_v5 (ix3 j R s))
    ((entry0 m c j R s).trans (congrArg (m ((c : Thread nD τ).loc main_arg0)) (congrArg (ix2 R) (Fin.ext hk.symm))))
  unfold iblk
  refine congrArg (V m c main_v5) (funext fun a => Fin.ext ?_)
  match a with
  | ⟨0, _⟩ => show win0_0.index t (0 : Fin 3) * 4 + 1 * j.val = j.val; omega
  | ⟨1, _⟩ => show win0_0.index t (1 : Fin 3) * 512 + 1 * r.val = R.val; omega
  | ⟨2, _⟩ => show win0_0.index t (2 : Fin 3) * 704 + 1 * s.val = s.val; omega

/-- The weight's block at a point. -/
theorem blk1 (t : Fin cfg0.N) (k : Fin 2816) (q : Fin 1024) :
    (iblk m c 1 t : Vec Ideal S1x2816x1024 .bf16) (ix3 (0 : Fin 1) k q) = m ((c : Thread nD τ).loc main_arg1) (ix3 (0 : Fin 2) k q) := by
  obtain ⟨-, -, -, a0, a1, a2, -⟩ := maps t
  refine Eq.trans (?_ : _ = V m c main_v6 (ix3 (0 : Fin 2) k q)) (entry1 m c 0 k q)
  unfold iblk
  refine congrArg (V m c main_v6) (funext fun a => Fin.ext ?_)
  match a with
  | ⟨0, _⟩ => show win0_1.index t (0 : Fin 3) * 1 + 1 * 0 = 0; omega
  | ⟨1, _⟩ => show win0_1.index t (1 : Fin 3) * 2816 + 1 * k.val = k.val; omega
  | ⟨2, _⟩ => show win0_1.index t (2 : Fin 3) * 1024 + 1 * q.val = q.val; omega

/-- The input's block at a point. -/
theorem blk2 (t : Fin cfg0.N) (r : Fin 512) (q : Fin 1024) (R : Fin 4096) (hR : R.val = t.val * 512 + r.val) :
    (iblk m c 2 t : Vec Ideal S512x1024 .f32) (ix2 r q) = m ((c : Thread nD τ).loc main_arg2) (ix2 R q) := by
  obtain ⟨-, -, -, -, -, -, a0, a1, -⟩ := maps t
  refine Eq.trans (?_ : _ = V m c main_arg2 (ix2 R q)) (congrFun (V_main_arg2 m c) _)
  unfold iblk
  refine congrArg (V m c main_arg2) (funext fun a => Fin.ext ?_)
  match a with
  | ⟨0, _⟩ => show win0_2.index t (0 : Fin 2) * 512 + 1 * r.val = R.val; omega
  | ⟨1, _⟩ => show win0_2.index t (1 : Fin 2) * 1024 + 1 * q.val = q.val; omega

/-- The small array's block at a point. -/
theorem blk3 (t : Fin cfg0.N) (n : Fin 16) (q : Fin 1024) :
    (iblk m c 3 t : Vec Ideal S16x1024 .f32) (ix2 n q) = V m c main_v2 (ix2 n q) := by
  obtain ⟨-, -, -, -, -, -, -, -, a0, a1⟩ := maps t
  unfold iblk
  refine congrArg (V m c main_v2) (funext fun a => Fin.ext ?_)
  match a with
  | ⟨0, _⟩ => show win0_3.index t (0 : Fin 2) * 16 + 1 * n.val = n.val; omega
  | ⟨1, _⟩ => show win0_3.index t (1 : Fin 2) * 1024 + 1 * q.val = q.val; omega

/-- Part 0 of the hidden array's block. -/
theorem ldA0 (X : Vec Ideal S4x512x704 .bf16) (r : Fin 512) (s : Fin 704) : View.ld X r0_0 (ix3 (0 : Fin 1) r s) = X (ix3 (0 : Fin 4) r s) := by
  refine congrArg X (funext fun a => Fin.ext ?_)
  match a with
  | ⟨0, _⟩ => rfl
  | ⟨1, _⟩ => show 0 + 1 * r.val = r.val; omega
  | ⟨2, _⟩ => show 0 + 1 * s.val = s.val; omega

/-- Part 0 of the weight's block. -/
theorem ldW0 (X : Vec Ideal S1x2816x1024 .bf16) (s : Fin 704) (q : Fin 1024) :
    View.ld X r0_1 (ix3 (0 : Fin 1) s q) = X (ix3 (0 : Fin 1) (⟨0 + s.val, by omega⟩ : Fin 2816) q) := by
  refine congrArg X (funext fun a => Fin.ext ?_)
  match a with
  | ⟨0, _⟩ => rfl
  | ⟨1, _⟩ => show 0 + 1 * s.val = 0 + s.val; omega
  | ⟨2, _⟩ => show 0 + 1 * q.val = q.val; omega

/-- Part 1 of the hidden array's block. -/
theorem ldA1 (X : Vec Ideal S4x512x704 .bf16) (r : Fin 512) (s : Fin 704) : View.ld X r0_2 (ix3 (0 : Fin 1) r s) = X (ix3 (1 : Fin 4) r s) := by
  refine congrArg X (funext fun a => Fin.ext ?_)
  match a with
  | ⟨0, _⟩ => rfl
  | ⟨1, _⟩ => show 0 + 1 * r.val = r.val; omega
  | ⟨2, _⟩ => show 0 + 1 * s.val = s.val; omega

/-- Part 1 of the weight's block. -/
theorem ldW1 (X : Vec Ideal S1x2816x1024 .bf16) (s : Fin 704) (q : Fin 1024) :
    View.ld X r0_3 (ix3 (0 : Fin 1) s q) = X (ix3 (0 : Fin 1) (⟨704 + s.val, by omega⟩ : Fin 2816) q) := by
  refine congrArg X (funext fun a => Fin.ext ?_)
  match a with
  | ⟨0, _⟩ => rfl
  | ⟨1, _⟩ => show 704 + 1 * s.val = 704 + s.val; omega
  | ⟨2, _⟩ => show 0 + 1 * q.val = q.val; omega

/-- Part 2 of the hidden array's block. -/
theorem ldA2 (X : Vec Ideal S4x512x704 .bf16) (r : Fin 512) (s : Fin 704) : View.ld X r0_4 (ix3 (0 : Fin 1) r s) = X (ix3 (2 : Fin 4) r s) := by
  refine congrArg X (funext fun a => Fin.ext ?_)
  match a with
  | ⟨0, _⟩ => rfl
  | ⟨1, _⟩ => show 0 + 1 * r.val = r.val; omega
  | ⟨2, _⟩ => show 0 + 1 * s.val = s.val; omega

/-- Part 2 of the weight's block. -/
theorem ldW2 (X : Vec Ideal S1x2816x1024 .bf16) (s : Fin 704) (q : Fin 1024) :
    View.ld X r0_5 (ix3 (0 : Fin 1) s q) = X (ix3 (0 : Fin 1) (⟨1408 + s.val, by omega⟩ : Fin 2816) q) := by
  refine congrArg X (funext fun a => Fin.ext ?_)
  match a with
  | ⟨0, _⟩ => rfl
  | ⟨1, _⟩ => show 1408 + 1 * s.val = 1408 + s.val; omega
  | ⟨2, _⟩ => show 0 + 1 * q.val = q.val; omega

/-- Part 3 of the hidden array's block. -/
theorem ldA3 (X : Vec Ideal S4x512x704 .bf16) (r : Fin 512) (s : Fin 704) : View.ld X r0_6 (ix3 (0 : Fin 1) r s) = X (ix3 (3 : Fin 4) r s) := by
  refine congrArg X (funext fun a => Fin.ext ?_)
  match a with
  | ⟨0, _⟩ => rfl
  | ⟨1, _⟩ => show 0 + 1 * r.val = r.val; omega
  | ⟨2, _⟩ => show 0 + 1 * s.val = s.val; omega

/-- Part 3 of the weight's block. -/
theorem ldW3 (X : Vec Ideal S1x2816x1024 .bf16) (s : Fin 704) (q : Fin 1024) :
    View.ld X r0_7 (ix3 (0 : Fin 1) s q) = X (ix3 (0 : Fin 1) (⟨2112 + s.val, by omega⟩ : Fin 2816) q) := by
  refine congrArg X (funext fun a => Fin.ext ?_)
  match a with
  | ⟨0, _⟩ => rfl
  | ⟨1, _⟩ => show 2112 + 1 * s.val = 2112 + s.val; omega
  | ⟨2, _⟩ => show 0 + 1 * q.val = q.val; omega

/-- The row of the small array that holds the gain. -/
theorem ldG (X : Vec Ideal S16x1024 .f32) (q : Fin 1024) : View.ld X r0_9 (ix2 (0 : Fin 1) q) = X (ix2 (9 : Fin 16) q) := by
  refine congrArg X (funext fun a => Fin.ext ?_)
  match a with
  | ⟨0, _⟩ => rfl
  | ⟨1, _⟩ => show 0 + 1 * q.val = q.val; omega

/-- The row of the small array that holds the offset. -/
theorem ldB (X : Vec Ideal S16x1024 .f32) (q : Fin 1024) : View.ld X r0_10 (ix2 (0 : Fin 1) q) = X (ix2 (12 : Fin 16) q) := by
  refine congrArg X (funext fun a => Fin.ext ?_)
  match a with
  | ⟨0, _⟩ => rfl
  | ⟨1, _⟩ => show 0 + 1 * q.val = q.val; omega

/-- A sum over the hidden columns is the sum of its four parts. -/
theorem four (f : Fin 2816 → EReal) : ∑ k, f k
    = (∑ s : Fin 704, f ⟨0 + s.val, by omega⟩) + (∑ s : Fin 704, f ⟨704 + s.val, by omega⟩)
      + (∑ s : Fin 704, f ⟨1408 + s.val, by omega⟩) + (∑ s : Fin 704, f ⟨2112 + s.val, by omega⟩) := by
  refine (Cert.Lin.sum_parts 4 704 f (by omega)).trans ?_
  rw [Fin.sum_univ_four]
  rfl

/-- The arguments' rows before the norm. -/
abbrev preM (c : Dev nD) (R : Fin 4096) : Fin 1024 → EReal :=
  pre (m ((c : Thread nD τ).loc main_arg0)) (m ((c : Thread nD τ).loc main_arg1)) (m ((c : Thread nD τ).loc main_arg2)) R

/-- A point's rows before the norm, by the arguments. -/
theorem at0 (t : Fin cfg0.N) (r : Fin 512) (R : Fin 4096) (hR : R.val = t.val * 512 + r.val) :
    zrow (k0_pay9 (iblk m c 0 t) (iblk m c 1 t) (iblk m c 2 t) (iblk m c 3 t)) (k0_pay10 (iblk m c 0 t) (iblk m c 1 t) (iblk m c 2 t) (iblk m c 3 t))
      (k0_pay11 (iblk m c 0 t) (iblk m c 1 t) (iblk m c 2 t) (iblk m c 3 t)) r = preM m c R := by
  funext q
  unfold zrow preM pre
  refine congrArg₂ (· + ·) ?_ (congrArg₂ (· * ·) rfl ?_)
  · unfold k0_pay10
    rw [View.ld_unit_zero (by decide)]
    exact congrArg (Ideal.ofBits .f32 0x3FD744FD#32 * ·) (blk2 m c t r q R hR)
  · unfold k0_pay9
    refine (block6 _ _ _ _ _ _ _ _ r q).trans ?_
    refine Eq.trans ?_ (four (term (m ((c : Thread nD τ).loc main_arg0)) (m ((c : Thread nD τ).loc main_arg1)) R q)).symm
    refine congrArg₂ (· + ·) (congrArg₂ (· + ·) (congrArg₂ (· + ·) ?_ ?_) ?_) ?_
    · exact Finset.sum_congr rfl fun s _ => congrArg₂ (· * ·)
        ((ldA0 _ r s).trans (blk0 m c t (0 : Fin 4) r s R hR ⟨0 + s.val, by omega⟩ (by show 0 + s.val = 0 * 704 + s.val; omega)))
        ((ldW0 _ s q).trans (blk1 m c t ⟨0 + s.val, by omega⟩ q))
    · exact Finset.sum_congr rfl fun s _ => congrArg₂ (· * ·)
        ((ldA1 _ r s).trans (blk0 m c t (1 : Fin 4) r s R hR ⟨704 + s.val, by omega⟩ (by show 704 + s.val = 1 * 704 + s.val; omega)))
        ((ldW1 _ s q).trans (blk1 m c t ⟨704 + s.val, by omega⟩ q))
    · exact Finset.sum_congr rfl fun s _ => congrArg₂ (· * ·)
        ((ldA2 _ r s).trans (blk0 m c t (2 : Fin 4) r s R hR ⟨1408 + s.val, by omega⟩ (by show 1408 + s.val = 2 * 704 + s.val; omega)))
        ((ldW2 _ s q).trans (blk1 m c t ⟨1408 + s.val, by omega⟩ q))
    · exact Finset.sum_congr rfl fun s _ => congrArg₂ (· * ·)
        ((ldA3 _ r s).trans (blk0 m c t (3 : Fin 4) r s R hR ⟨2112 + s.val, by omega⟩ (by show 2112 + s.val = 3 * 704 + s.val; omega)))
        ((ldW3 _ s q).trans (blk1 m c t ⟨2112 + s.val, by omega⟩ q))

/-- A point's block of the result, by the arguments. -/
theorem at4 (t : Fin cfg0.N) (r : Fin 512) (q : Fin 1024) (R : Fin 4096) (Q : Fin 1024) (hR : R.val = t.val * 512 + r.val) (hQ : Q.val = q.val) :
    k0_pay4 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t))
      (View.ld (iblk m c 3 t) r0_9) (View.ld (iblk m c 3 t) r0_10) (ix2 r q) = rows (m ((c : Thread nD τ).loc main_arg0)) (m ((c : Thread nD τ).loc main_arg1)) (m ((c : Thread nD τ).loc main_arg2)) (m ((c : Thread nD τ).loc main_arg3)) (m ((c : Thread nD τ).loc main_arg4)) (ix2 R Q) := by
  obtain rfl : Q = q := Fin.ext hQ
  refine (block4 _ _ _ _ _ r Q).trans ?_
  rw [at0 m c t r R hR, ldG, ldB, blk3 m c t, blk3 m c t, gain m c, offset m c]
  rfl

/-- A point's block of the normalised rows, by the arguments. -/
theorem at6 (t : Fin cfg0.N) (r : Fin 512) (q : Fin 1024) (R : Fin 4096) (Q : Fin 1024) (hR : R.val = t.val * 512 + r.val) (hQ : Q.val = q.val) :
    k0_pay3 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (ix2 r q)
      = unitRows (m ((c : Thread nD τ).loc main_arg0)) (m ((c : Thread nD τ).loc main_arg1)) (m ((c : Thread nD τ).loc main_arg2)) (ix2 R Q) := by
  obtain rfl : Q = q := Fin.ext hQ
  refine (block3 _ _ _ r Q).trans ?_
  rw [at0 m c t r R hR]
  rfl

/-- A point's block of the reciprocal standard deviations, by the arguments. -/
theorem at7 (t : Fin cfg0.N) (r : Fin 512) (R : Fin 4096) (hR : R.val = t.val * 512 + r.val) :
    k0_pay2 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (ix2 r (0 : Fin 1))
      = devs (m ((c : Thread nD τ).loc main_arg0)) (m ((c : Thread nD τ).loc main_arg1)) (m ((c : Thread nD τ).loc main_arg2)) (ix2 R (0 : Fin 1)) := by
  refine (block2 _ _ _ r).trans ?_
  rw [at0 m c t r R hR]
  rfl

/-- The printed index map of the rows with gain and offset, and that every point writes back. -/
theorem omaps4 : ∀ t : Fin cfg0.N, win0_4.index t (0 : Fin 2) = t.val ∧ win0_4.index t (1 : Fin 2) = 0 ∧ (cfg0.win 4).flush t = true :=
  (by decide +kernel : ∀ t : Fin grid0.N, _)

/-- Of the memory's arguments, the rows with gain and offset. -/
abbrev G4 (c : Dev nD) : Buf (Elt Ideal) ((c : Thread nD τ).loc main_v7_0) :=
  rows (m ((c : Thread nD τ).loc main_arg0)) (m ((c : Thread nD τ).loc main_arg1)) (m ((c : Thread nD τ).loc main_arg2)) (m ((c : Thread nD τ).loc main_arg3)) (m ((c : Thread nD τ).loc main_arg4))

/-- What a point writes back is its part of the rows with gain and offset. -/
theorem flushed_eq4 (t : Fin cfg0.N) : (dats m 0 c).flushed 4 t = ((cfg0.win 4).blk t).view.read (Elt Ideal) (G4 m c) := by
  obtain ⟨e0, e1, -⟩ := omaps4 t
  rw [Value.flushed4]
  unfold out0_4
  rw [View.canon_unit_zero (by decide)]
  funext y
  have ey : ((cfg0.win 4).xinj (grid0.coords t) y : S512x1024.Idx) = ix2 (y 0 : Fin 512) (y 1 : Fin 1024) := funext fun a => Fin.ext (by
    match a with
    | ⟨0, _⟩ => rfl
    | ⟨1, _⟩ => rfl)
  show k0_pay4 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (View.ld (iblk m c 3 t) r0_9) (View.ld (iblk m c 3 t) r0_10) ((cfg0.win 4).xinj (grid0.coords t) y) = G4 m c (((cfg0.win 4).blk t).view.emb y)
  have f0 : (((cfg0.win 4).blk t).view.emb y 0).val = t.val * 512 + (y 0).val := by
    show win0_4.index t (0 : Fin 2) * 512 + 1 * (y 0).val = _; rw [e0]; omega
  have f1 : (((cfg0.win 4).blk t).view.emb y 1).val = (y 1).val := by
    show win0_4.index t (1 : Fin 2) * 1024 + 1 * (y 1).val = _; rw [e1]; omega
  refine (congrArg (k0_pay4 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (View.ld (iblk m c 3 t) r0_9) (View.ld (iblk m c 3 t) r0_10)) ey).trans ((at4 m c t (y 0 : Fin 512) (y 1 : Fin 1024) (((cfg0.win 4).blk t).view.emb y 0 : Fin 4096) (((cfg0.win 4).blk t).view.emb y 1 : Fin 1024) f0 f1).trans ?_)
  refine congrArg (G4 m c) (funext fun a => Fin.ext ?_)
  match a with
  | ⟨0, _⟩ => rfl
  | ⟨1, _⟩ => rfl

/-- Every entry is in some point's block. -/
theorem covered4 (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  have hq : (i 0).val / 512 < 8 := by omega
  let t : Fin cfg0.N := ⟨(i 0).val / 512, lt_of_lt_of_eq hq N_0.symm⟩
  obtain ⟨e0, e1, hf⟩ := omaps4 t
  have et : t.val = (i 0).val / 512 := rfl
  refine ⟨t, hf, ?_⟩
  show i ∈ ((View.whole main_v7_0).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The kernel's result: the rows with gain and offset. -/
theorem final4 : (dats m 0 c).arrAt 4 cfg0.N = G4 m c :=
  (dats m 0 c).arrAt_eq_of_cover 4 _ (fun t _ => flushed_eq4 m c t) covered4

/-- The printed index map of the rows with gain and offset, cast, and that every point writes back. -/
theorem omaps5 : ∀ t : Fin cfg0.N, win0_5.index t (0 : Fin 2) = t.val ∧ win0_5.index t (1 : Fin 2) = 0 ∧ (cfg0.win 5).flush t = true :=
  (by decide +kernel : ∀ t : Fin grid0.N, _)

/-- Of the memory's arguments, the rows with gain and offset, cast. -/
abbrev G5 (c : Dev nD) : Buf (Elt Ideal) ((c : Thread nD τ).loc main_v7_1) :=
  rows (m ((c : Thread nD τ).loc main_arg0)) (m ((c : Thread nD τ).loc main_arg1)) (m ((c : Thread nD τ).loc main_arg2)) (m ((c : Thread nD τ).loc main_arg3)) (m ((c : Thread nD τ).loc main_arg4))

/-- What a point writes back is its part of the rows with gain and offset, cast. -/
theorem flushed_eq5 (t : Fin cfg0.N) : (dats m 0 c).flushed 5 t = ((cfg0.win 5).blk t).view.read (Elt Ideal) (G5 m c) := by
  obtain ⟨e0, e1, -⟩ := omaps5 t
  rw [Value.flushed5]
  unfold out0_5
  rw [View.canon_unit_zero (by decide)]
  funext y
  have ey : ((cfg0.win 5).xinj (grid0.coords t) y : S512x1024.Idx) = ix2 (y 0 : Fin 512) (y 1 : Fin 1024) := funext fun a => Fin.ext (by
    match a with
    | ⟨0, _⟩ => rfl
    | ⟨1, _⟩ => rfl)
  show k0_pay5 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (View.ld (iblk m c 3 t) r0_9) (View.ld (iblk m c 3 t) r0_10) ((cfg0.win 5).xinj (grid0.coords t) y) = G5 m c (((cfg0.win 5).blk t).view.emb y)
  have f0 : (((cfg0.win 5).blk t).view.emb y 0).val = t.val * 512 + (y 0).val := by
    show win0_5.index t (0 : Fin 2) * 512 + 1 * (y 0).val = _; rw [e0]; omega
  have f1 : (((cfg0.win 5).blk t).view.emb y 1).val = (y 1).val := by
    show win0_5.index t (1 : Fin 2) * 1024 + 1 * (y 1).val = _; rw [e1]; omega
  refine (congrArg (k0_pay5 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) (View.ld (iblk m c 3 t) r0_9) (View.ld (iblk m c 3 t) r0_10)) ey).trans ((at4 m c t (y 0 : Fin 512) (y 1 : Fin 1024) (((cfg0.win 5).blk t).view.emb y 0 : Fin 4096) (((cfg0.win 5).blk t).view.emb y 1 : Fin 1024) f0 f1).trans ?_)
  refine congrArg (G5 m c) (funext fun a => Fin.ext ?_)
  match a with
  | ⟨0, _⟩ => rfl
  | ⟨1, _⟩ => rfl

/-- Every entry is in some point's block. -/
theorem covered5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have hq : (i 0).val / 512 < 8 := by omega
  let t : Fin cfg0.N := ⟨(i 0).val / 512, lt_of_lt_of_eq hq N_0.symm⟩
  obtain ⟨e0, e1, hf⟩ := omaps5 t
  have et : t.val = (i 0).val / 512 := rfl
  refine ⟨t, hf, ?_⟩
  show i ∈ ((View.whole main_v7_1).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The kernel's result: the rows with gain and offset, cast. -/
theorem final5 : (dats m 0 c).arrAt 5 cfg0.N = G5 m c :=
  (dats m 0 c).arrAt_eq_of_cover 5 _ (fun t _ => flushed_eq5 m c t) covered5

/-- The printed index map of the normalised rows, and that every point writes back. -/
theorem omaps6 : ∀ t : Fin cfg0.N, win0_6.index t (0 : Fin 2) = t.val ∧ win0_6.index t (1 : Fin 2) = 0 ∧ (cfg0.win 6).flush t = true :=
  (by decide +kernel : ∀ t : Fin grid0.N, _)

/-- Of the memory's arguments, the normalised rows. -/
abbrev G6 (c : Dev nD) : Buf (Elt Ideal) ((c : Thread nD τ).loc main_v7_2) :=
  unitRows (m ((c : Thread nD τ).loc main_arg0)) (m ((c : Thread nD τ).loc main_arg1)) (m ((c : Thread nD τ).loc main_arg2))

/-- What a point writes back is its part of the normalised rows. -/
theorem flushed_eq6 (t : Fin cfg0.N) : (dats m 0 c).flushed 6 t = ((cfg0.win 6).blk t).view.read (Elt Ideal) (G6 m c) := by
  obtain ⟨e0, e1, -⟩ := omaps6 t
  rw [Value.flushed6]
  unfold out0_6
  rw [View.canon_unit_zero (by decide)]
  funext y
  have ey : ((cfg0.win 6).xinj (grid0.coords t) y : S512x1024.Idx) = ix2 (y 0 : Fin 512) (y 1 : Fin 1024) := funext fun a => Fin.ext (by
    match a with
    | ⟨0, _⟩ => rfl
    | ⟨1, _⟩ => rfl)
  show k0_pay3 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) ((cfg0.win 6).xinj (grid0.coords t) y) = G6 m c (((cfg0.win 6).blk t).view.emb y)
  have f0 : (((cfg0.win 6).blk t).view.emb y 0).val = t.val * 512 + (y 0).val := by
    show win0_6.index t (0 : Fin 2) * 512 + 1 * (y 0).val = _; rw [e0]; omega
  have f1 : (((cfg0.win 6).blk t).view.emb y 1).val = (y 1).val := by
    show win0_6.index t (1 : Fin 2) * 1024 + 1 * (y 1).val = _; rw [e1]; omega
  refine (congrArg (k0_pay3 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t))) ey).trans ((at6 m c t (y 0 : Fin 512) (y 1 : Fin 1024) (((cfg0.win 6).blk t).view.emb y 0 : Fin 4096) (((cfg0.win 6).blk t).view.emb y 1 : Fin 1024) f0 f1).trans ?_)
  refine congrArg (G6 m c) (funext fun a => Fin.ext ?_)
  match a with
  | ⟨0, _⟩ => rfl
  | ⟨1, _⟩ => rfl

/-- Every entry is in some point's block. -/
theorem covered6 (i : S4096x1024.Idx) : ∃ t : Fin cfg0.N, (cfg0.win 6).flush t = true ∧ i ∈ ((cfg0.win 6).blk t).view.set := by
  have h0 : (i 0).val < 4096 := (i 0).isLt
  have h1 : (i 1).val < 1024 := (i 1).isLt
  have hq : (i 0).val / 512 < 8 := by omega
  let t : Fin cfg0.N := ⟨(i 0).val / 512, lt_of_lt_of_eq hq N_0.symm⟩
  obtain ⟨e0, e1, hf⟩ := omaps6 t
  have et : t.val = (i 0).val / 512 := rfl
  refine ⟨t, hf, ?_⟩
  show i ∈ ((View.whole main_v7_2).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The kernel's result: the normalised rows. -/
theorem final6 : (dats m 0 c).arrAt 6 cfg0.N = G6 m c :=
  (dats m 0 c).arrAt_eq_of_cover 6 _ (fun t _ => flushed_eq6 m c t) covered6

/-- The printed index map of the reciprocal standard deviations, and that every point writes back. -/
theorem omaps7 : ∀ t : Fin cfg0.N, win0_7.index t (0 : Fin 2) = t.val ∧ win0_7.index t (1 : Fin 2) = 0 ∧ (cfg0.win 7).flush t = true :=
  (by decide +kernel : ∀ t : Fin grid0.N, _)

/-- Of the memory's arguments, the reciprocal standard deviations. -/
abbrev G7 (c : Dev nD) : Buf (Elt Ideal) ((c : Thread nD τ).loc main_v7_3) :=
  devs (m ((c : Thread nD τ).loc main_arg0)) (m ((c : Thread nD τ).loc main_arg1)) (m ((c : Thread nD τ).loc main_arg2))

/-- What a point writes back is its part of the reciprocal standard deviations. -/
theorem flushed_eq7 (t : Fin cfg0.N) : (dats m 0 c).flushed 7 t = ((cfg0.win 7).blk t).view.read (Elt Ideal) (G7 m c) := by
  obtain ⟨e0, e1, -⟩ := omaps7 t
  rw [Value.flushed7]
  unfold out0_7
  rw [View.canon_unit_zero (by decide)]
  funext y
  have h1 : (y 1).val < 1 := (y 1).isLt
  have ey : ((cfg0.win 7).xinj (grid0.coords t) y : S512x1.Idx) = ix2 (y 0 : Fin 512) (0 : Fin 1) := funext fun a => Fin.ext (by
    match a with
    | ⟨0, _⟩ => rfl
    | ⟨1, _⟩ => show (y 1).val = 0; omega)
  show k0_pay2 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t)) ((cfg0.win 7).xinj (grid0.coords t) y) = G7 m c (((cfg0.win 7).blk t).view.emb y)
  have f0 : (((cfg0.win 7).blk t).view.emb y 0).val = t.val * 512 + (y 0).val := by
    show win0_7.index t (0 : Fin 2) * 512 + 1 * (y 0).val = _; rw [e0]; omega
  have f1 : (((cfg0.win 7).blk t).view.emb y 1).val = (y 1).val := by
    show win0_7.index t (1 : Fin 2) * 1 + 1 * (y 1).val = _; rw [e1]; omega
  refine (congrArg (k0_pay2 (F := Ideal) (k0_pay9 (iblk m c 0 t) (iblk m c 1 t) (iblk m c 2 t) (iblk m c 3 t)) (k0_pay10 (iblk m c 0 t) (iblk m c 1 t) (iblk m c 2 t) (iblk m c 3 t)) (k0_pay11 (iblk m c 0 t) (iblk m c 1 t) (iblk m c 2 t) (iblk m c 3 t))) ey).trans ((at7 m c t (y 0 : Fin 512) (((cfg0.win 7).blk t).view.emb y 0 : Fin 4096) f0).trans ?_)
  refine congrArg (G7 m c) (funext fun a => Fin.ext ?_)
  match a with
  | ⟨0, _⟩ => rfl
  | ⟨1, _⟩ => show 0 = (((cfg0.win 7).blk t).view.emb y 1).val; rw [f1]; omega

/-- Every entry is in some point's block. -/
theorem covered7 (i : S4096x1.Idx) : ∃ t : Fin cfg0.N, (cfg0.win 7).flush t = true ∧ i ∈ ((cfg0.win 7).blk t).view.set := by
  have h0 : (i 0).val < 4096 := (i 0).isLt
  have h1 : (i 1).val < 1 := (i 1).isLt
  have hq : (i 0).val / 512 < 8 := by omega
  let t : Fin cfg0.N := ⟨(i 0).val / 512, lt_of_lt_of_eq hq N_0.symm⟩
  obtain ⟨e0, e1, hf⟩ := omaps7 t
  have et : t.val = (i 0).val / 512 := rfl
  refine ⟨t, hf, ?_⟩
  show i ∈ ((View.whole main_v7_3).slice (win0_7.rect t)).set
  rw [View.set_slice_whole, Rect.mem_set_unit]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1 ≤ (i 1).val ∧ (i 1).val < win0_7.index t (1 : Fin 2) * 1 + 1; omega

/-- The kernel's result: the reciprocal standard deviations. -/
theorem final7 : (dats m 0 c).arrAt 7 cfg0.N = G7 m c :=
  (dats m 0 c).arrAt_eq_of_cover 7 _ (fun t _ => flushed_eq7 m c t) covered7

end Cert.FfnDownFirstIdeal.Lin

namespace Cert.FfnDownFirstRefIdeal.Lin

open Cert.FfnDownFirstRefIdeal Cert.FfnDownFirstRefIdeal.Gen
open Idealize.ShloMosaic hiding ix0 ix1 ix2 ix3 ix4
open Idealize.ShloMosaic.TcCoe Idealize.ShloMosaic.ValueIdx
open Cert.FfnDownFirstIdeal.Lin (pre rows unitRows devs)
open Cert.Lin

variable (a : FVec Ideal S4096x2816 .f32) (w : FVec Ideal S2x2816x1024 .f32) (x : FVec Ideal S4096x1024 .f32) (g b : FVec Ideal S3x1024 .f32)

/-- The reference's product. -/
theorem product (i : S4096x1024.Idx) : Read.val_main_v4 (F := Ideal) a w i
    = ∑ k : Fin 2816, (a (ix2 (i 0 : Fin 4096) k) : EReal) * (w (ix3 (0 : Fin 2) k (i 1 : Fin 1024)) : EReal) := by
  have h1 : (i 1).val < 1024 := (i 1).isLt
  rw [Read.val_main_v4_apply]
  refine Finset.sum_congr rfl fun k _ => congrArg₂ (· * ·) (congrArg a (funext fun a => Fin.ext ?_)) ?_
  · match a with
    | ⟨0, _⟩ => rfl
    | ⟨1, _⟩ => rfl
  · rw [Read.val_main_v3_apply, Read.val_main_v2_apply]
    refine congrArg w (funext fun a => Fin.ext ?_)
    match a with
    | ⟨0, _⟩ => rfl
    | ⟨1, _⟩ => show (k.val * 1024 + (i 1).val) / 1024 % 2816 = k.val; omega
    | ⟨2, _⟩ => show (k.val * 1024 + (i 1).val) % 1024 = (i 1).val; omega

/-- The reference's rows before the norm. -/
theorem before (i : S4096x1024.Idx) : Read.val_main_v7 (F := Ideal) a w x i = pre a w x (i 0 : Fin 4096) (i 1 : Fin 1024) := by
  rw [Read.val_main_v7_apply, Read.val_main_v6_apply, Read.val_main_v1_apply, Read.val_main_v0_apply, Read.val_main_v5_apply,
    Read.val_main_cst_apply, Read.val_main_cst_0_apply, product]
  unfold pre
  refine congrArg₂ (· + ·) (congrArg₂ (· * ·) rfl (congrArg x (ValueIdx.eq_ix2 i))) rfl

/-- The reference's means. -/
theorem means (i : S4096x1.Idx) : Read.val_main_v11 (F := Ideal) a w x i = mean (pre a w x (i 0 : Fin 4096)) := by
  rw [Read.val_main_v11_apply, Read.val_main_v9_apply, Read.val_main_v8_apply, Read.val_main_cst_1_apply, Read.val_main_v10_apply,
    Read.val_main_cst_2_apply]
  unfold mean
  refine congrArg₂ Ideal.div ?_ rfl
  refine (congrArg₂ (· + ·) Ideal.ofBits_zero_f32 (Finset.sum_congr rfl fun k _ => before a w x _)).trans ?_
  exact zero_add _

/-- The reference's rows less their means. -/
theorem centre (i : S4096x1024.Idx) : Read.val_main_v13 (F := Ideal) a w x i = centred (pre a w x (i 0 : Fin 4096)) (i 1 : Fin 1024) := by
  rw [Read.val_main_v13_apply, Read.val_main_v12_apply, before, means]
  rfl

/-- The reference's rows less their means, where the norm reads them. -/
theorem centre' (i : S4096x1024.Idx) : Read.val_main_v23 (F := Ideal) a w x i = centred (pre a w x (i 0 : Fin 4096)) (i 1 : Fin 1024) := by
  rw [Read.val_main_v23_apply, Read.val_main_v22_apply, before, means]
  rfl

/-- The reference's reciprocal standard deviations. -/
theorem deviations (i : S4096x1.Idx) : Read.val_main_v21 (F := Ideal) a w x i = rstd (pre a w x (i 0 : Fin 4096)) := by
  rw [Read.val_main_v21_apply, Read.val_main_v20_apply, Read.val_main_v18_apply, Read.val_main_v16_apply, Read.val_main_v15_apply,
    Read.val_main_cst_3_apply, Read.val_main_v17_apply, Read.val_main_cst_4_apply, Read.val_main_v19_apply, Read.val_main_cst_5_apply]
  unfold rstd
  refine congrArg Ideal.rsqrt (congrArg₂ (· + ·) (congrArg₂ Ideal.div ?_ rfl) rfl)
  refine (congrArg₂ (· + ·) Ideal.ofBits_zero_f32 (Finset.sum_congr rfl fun k _ => ?_)).trans (zero_add _)
  rw [Read.val_main_v14_apply, centre]
  rfl

/-- The reference's normalised rows. -/
theorem unitAt (i : S4096x1024.Idx) : Read.val_main_v25 (F := Ideal) a w x i = normed (pre a w x (i 0 : Fin 4096)) (i 1 : Fin 1024) := by
  rw [Read.val_main_v25_apply, centre', Read.val_main_v24_apply, deviations]
  rfl

/-- The gain as the reference reads it. -/
theorem gain (i : S4096x1024.Idx) : Read.val_main_v29 (F := Ideal) g i = g (ix2 (0 : Fin 3) (i 1 : Fin 1024)) := by
  have h1 : (i 1).val < 1024 := (i 1).isLt
  rw [Read.val_main_v29_apply, Read.val_main_v28_apply, Read.val_main_v27_apply, Read.val_main_v26_apply]
  refine congrArg g (funext fun a => Fin.ext ?_)
  match a with
  | ⟨0, _⟩ => rfl
  | ⟨1, _⟩ => show (i 1).val % 1024 = (i 1).val; omega

/-- The offset as the reference reads it. -/
theorem offset (i : S4096x1024.Idx) : Read.val_main_v34 (F := Ideal) b i = b (ix2 (0 : Fin 3) (i 1 : Fin 1024)) := by
  have h1 : (i 1).val < 1024 := (i 1).isLt
  rw [Read.val_main_v34_apply, Read.val_main_v33_apply, Read.val_main_v32_apply, Read.val_main_v31_apply]
  refine congrArg b (funext fun a => Fin.ext ?_)
  match a with
  | ⟨0, _⟩ => rfl
  | ⟨1, _⟩ => show (i 1).val % 1024 = (i 1).val; omega

/-- The reference's rows with gain and offset. -/
theorem result0 : Read.val_main_v35 (F := Ideal) a w x g b = rows a w x g b := by
  funext i
  rw [Read.val_main_v35_apply, Read.val_main_v30_apply, unitAt, gain, offset]
  rfl

/-- The same, cast. -/
theorem result1 : Read.val_main_v36 (F := Ideal) a w x g b = rows a w x g b := by
  funext i
  rw [Read.val_main_v36_apply]
  exact congrFun (result0 a w x g b) i

/-- The reference's normalised rows as an array. -/
theorem result2 : Read.val_main_v25 (F := Ideal) a w x = unitRows a w x := funext fun i => unitAt a w x i

/-- The reference's reciprocal standard deviations as an array. -/
theorem result3 : Read.val_main_v21 (F := Ideal) a w x = devs a w x := funext fun i => deviations a w x i

end Cert.FfnDownFirstRefIdeal.Lin

namespace Cert.Proof

open Idealize.ShloMosaic Idealize.SL.Sem

/-- Kernel and reference compute the same four arrays. -/
theorem ffnDownFirst : Cert.algebraic_FfnDownFirstIdeal_FfnDownFirstRefIdeal := by
  intro m g m' g' _ hE
  refine ⟨fun c => Cert.FfnDownFirstIdeal.Lin.G4 m c, fun c => Cert.FfnDownFirstIdeal.Lin.G5 m c, fun c => Cert.FfnDownFirstIdeal.Lin.G6 m c,
    fun c => Cert.FfnDownFirstIdeal.Lin.G7 m c, ?_, ?_⟩
  · exact (θ_run (Cert.FfnDownFirstIdeal.defs (F := Ideal)) _ _).mono
      (fun r h c => ⟨(h c).1.trans (Cert.FfnDownFirstIdeal.Lin.final4 m c), (h c).2.1.trans (Cert.FfnDownFirstIdeal.Lin.final5 m c),
        (h c).2.2.1.trans (Cert.FfnDownFirstIdeal.Lin.final6 m c), (h c).2.2.2.1.trans (Cert.FfnDownFirstIdeal.Lin.final7 m c), (h c).2.2.2.2⟩)
      (Cert.FfnDownFirstIdeal.Value.run_blocks (F := Ideal) m g)
  · refine (θ_run (Cert.FfnDownFirstRefIdeal.defs (F := Ideal)) _ _).mono (fun r h c => ⟨?_, ?_, ?_, ?_, (h c).2.2.2.2⟩)
      (Cert.FfnDownFirstRefIdeal.Value.run (F := Ideal) m' g')
    all_goals obtain ⟨e0, e1, e2, e3, e4⟩ := hE c
    · refine (h c).1.trans ((Cert.FfnDownFirstRefIdeal.Read.val_main_v35_eq m' c).trans ((Cert.FfnDownFirstRefIdeal.Lin.result0 _ _ _ _ _).trans ?_))
      rw [e0, e1, e2, e3, e4]
    · refine (h c).2.1.trans ((Cert.FfnDownFirstRefIdeal.Read.val_main_v36_eq m' c).trans ((Cert.FfnDownFirstRefIdeal.Lin.result1 _ _ _ _ _).trans ?_))
      rw [e0, e1, e2, e3, e4]
    · refine (h c).2.2.1.trans ((Cert.FfnDownFirstRefIdeal.Read.val_main_v25_eq m' c).trans ((Cert.FfnDownFirstRefIdeal.Lin.result2 _ _ _).trans ?_))
      rw [e0, e1, e2]
    · refine (h c).2.2.2.1.trans ((Cert.FfnDownFirstRefIdeal.Read.val_main_v21_eq _ _ _).trans ((Cert.FfnDownFirstRefIdeal.Lin.result3 _ _ _).trans ?_))
      rw [e0, e1, e2]

end Cert.Proof

end
-- ==== Proof.Lin.MixEnd.lean ====
/- The end of the mixer, kernel and reference: the gelu branch times the recurrence's result, the two output products, their
   sum under the sigmoid gates, the last product added to the scaled input, and the layer norm of the sum. The kernel works
   on 256 rows at a time and takes the sigmoid by the hyperbolic tangent. -/
module

public import proofs.«01_k».proof.Defs
public import proofs.«01_k».proof.Proof.Lin.Norm
public import proofs.«01_k».proof.Proof.Lin.Sigmoid
public import proofs.«01_k».proof.Proof.Gen.MixEndIdeal.Value
public import proofs.«01_k».proof.Proof.Gen.MixEndRefIdeal.Read
public import Idealize.ShloMosaic.Lib.Pointwise
public import Idealize.ShloMosaic.Lib.StableHlo.RunRead

@[expose] public section

set_option maxRecDepth 16384

noncomputable section

namespace Cert.MixEndIdeal.Lin

open Cert.MixEndIdeal Cert.MixEndIdeal.Gen
open Idealize.ShloMosaic hiding ix0 ix1 ix2 ix3 ix4
open Idealize.ShloMosaic.TcCoe Idealize.ShloMosaic.ValueIdx Idealize.SL.Sem

/-- The gelu in its form by the hyperbolic tangent. -/
def gelu (y : EReal) : EReal :=
  Ideal.ofBits .f32 0x3F000000#32 * y * (1
    + Ideal.tanh (Ideal.ofBits .f32 0x3F4C422A#32 * (y + Ideal.ofBits .f32 0x3D372713#32 * y * y * y)))

section
variable (pa h : FVec Ideal S4096x1024 .f32) (p : FVec Ideal S4096x7168 .f32) (b : FVec Ideal S2048 .f32)
  (w : FVec Ideal S3x1024x1024 .f32) (x : FVec Ideal S4096x1024 .f32) (g o : FVec Ideal S3x1024 .f32)

/-- The recurrence's result under the gelu branch. -/
def branch (R : Fin 4096) (q : Fin 1024) : EReal :=
  (h (ix2 R q) : EReal) * gelu (p (ix2 R (⟨4096 + q.val, by omega⟩ : Fin 7168)))

/-- The convolution's output product. -/
def outConv (R : Fin 4096) (q : Fin 1024) : EReal := ∑ k : Fin 1024, (pa (ix2 R k) : EReal) * (w (ix3 (0 : Fin 3) k q) : EReal)

/-- The recurrence's output product. -/
def outRec (R : Fin 4096) (q : Fin 1024) : EReal := ∑ k : Fin 1024, branch h p R k * (w (ix3 (1 : Fin 3) k q) : EReal)

/-- The sum of the two under their gates. -/
def merged (R : Fin 4096) (q : Fin 1024) : EReal :=
  Ideal.logistic ((p (ix2 R (⟨5120 + q.val, by omega⟩ : Fin 7168)) : EReal) + (b (ix1 (⟨q.val, by omega⟩ : Fin 2048)) : EReal)) * outConv pa w R q
    + Ideal.logistic ((p (ix2 R (⟨6144 + q.val, by omega⟩ : Fin 7168)) : EReal) + (b (ix1 (⟨1024 + q.val, by omega⟩ : Fin 2048)) : EReal)) * outRec h p w R q

/-- Row `R` before the norm. -/
def pre (R : Fin 4096) (q : Fin 1024) : EReal :=
  Ideal.ofBits .f32 0x3FD744FD#32 * (x (ix2 R q) : EReal) + ∑ k : Fin 1024, merged pa h p b w R k * (w (ix3 (2 : Fin 3) k q) : EReal)

/-- The branch as an array. -/
def branches : FVec Ideal S4096x1024 .f32 := fun i => branch h p (i 0 : Fin 4096) (i 1 : Fin 1024)

/-- The convolution's output as an array. -/
def outConvs : FVec Ideal S4096x1024 .f32 := fun i => outConv pa w (i 0 : Fin 4096) (i 1 : Fin 1024)

/-- The recurrence's output as an array. -/
def outRecs : FVec Ideal S4096x1024 .f32 := fun i => outRec h p w (i 0 : Fin 4096) (i 1 : Fin 1024)

/-- The gated sum as an array. -/
def mergeds : FVec Ideal S4096x1024 .f32 := fun i => merged pa h p b w (i 0 : Fin 4096) (i 1 : Fin 1024)

/-- The normalised rows. -/
def unitRows : FVec Ideal S4096x1024 .f32 := fun i => Cert.Lin.normed (pre pa h p b w x (i 0 : Fin 4096)) (i 1 : Fin 1024)

/-- The normalised rows with their gain and offset. -/
def rows : FVec Ideal S4096x1024 .f32 := fun i =>
  Cert.Lin.normed (pre pa h p b w x (i 0 : Fin 4096)) (i 1 : Fin 1024) * (g (ix2 (1 : Fin 3) (i 1 : Fin 1024)) : EReal)
    + (o (ix2 (1 : Fin 3) (i 1 : Fin 1024)) : EReal)

/-- The rows' reciprocal standard deviations. -/
def devs : FVec Ideal S4096x1 .f32 := fun i => Cert.Lin.rstd (pre pa h p b w x (i 0 : Fin 4096))
end

variable (m : (ℓ : Loc nD τ sig) → Buf (Elt Ideal) ℓ) (c : Dev nD)

/-- One block of the branch. -/
theorem block6 (v0 v16 : Vec Ideal S256x1024 .bf16) (r : Fin 256) (q : Fin 1024) :
    k0_pay6 v0 v16 (ix2 r q) = (v16 (ix2 r q) : EReal) * gelu (v0 (ix2 r q)) := by
  pointwise [k0_pay6]
  rfl

/-- One block of the convolution's output product. -/
theorem block7 (v22 : Vec Ideal S256x1024 .bf16) (v24 : Vec Ideal S1x1024x1024 .bf16) (r : Fin 256) (q : Fin 1024) :
    k0_pay7 v22 v24 (ix2 r q) = ∑ k : Fin 1024, (v22 (ix2 r k) : EReal) * (v24 (ix3 (0 : Fin 1) k q) : EReal) := by
  pointwise [k0_pay7]
  rfl

/-- One block of the recurrence's output product. -/
theorem block8 (v0 v16 : Vec Ideal S256x1024 .bf16) (v27 : Vec Ideal S1x1024x1024 .bf16) (r : Fin 256) (q : Fin 1024) :
    k0_pay8 v0 v16 v27 (ix2 r q) = ∑ k : Fin 1024, (k0_pay6 v0 v16 (ix2 r k) : EReal) * (v27 (ix3 (0 : Fin 1) k q) : EReal) := by
  pointwise [k0_pay8]
  rfl

/-- One block of the gated sum. -/
theorem block11 (v26 v29 : FVec Ideal S256x1024 .f32) (v34 : Vec Ideal S256x1024 .bf16) (v37 : Vec Ideal S1x1024 .f32)
    (v48 : Vec Ideal S256x1024 .bf16) (v51 : Vec Ideal S1x1024 .f32) (r : Fin 256) (q : Fin 1024) :
    k0_pay11 v26 v29 v34 v37 v48 v51 (ix2 r q)
      = Ideal.logistic ((v34 (ix2 r q) : EReal) + (v37 (ix2 (0 : Fin 1) q) : EReal)) * (v26 (ix2 r q) : EReal)
        + Ideal.logistic ((v48 (ix2 r q) : EReal) + (v51 (ix2 (0 : Fin 1) q) : EReal)) * (v29 (ix2 r q) : EReal) := by
  rw [← Cert.Lin.half_tanh, ← Cert.Lin.half_tanh]
  pointwise [k0_pay11]
  rfl

/-- A row of a block before the norm. -/
def zrow (v65 : FVec Ideal S256x1024 .bf16) (v69 : FVec Ideal S256x1024 .f32) (v70 : Vec Ideal S1x1024x1024 .bf16) (r : Fin 256) (q : Fin 1024) : EReal :=
  (v69 (ix2 r q) : EReal) + ∑ k : Fin 1024, (v65 (ix2 r k) : EReal) * (v70 (ix3 (0 : Fin 1) k q) : EReal)

section
variable (v65 : FVec Ideal S256x1024 .bf16) (v69 : FVec Ideal S256x1024 .f32) (v70 : Vec Ideal S1x1024x1024 .bf16) (r : Fin 256) (q : Fin 1024)

/-- One block less its rows' means. -/
theorem block1 : k0_pay1 v65 v69 v70 (ix2 r q) = Cert.Lin.centred (zrow v65 v69 v70 r) q := by
  pointwise [k0_pay1]
  rfl

/-- One block's reciprocal standard deviations. -/
theorem block2 : k0_pay2 v65 v69 v70 (ix2 r (0 : Fin 1)) = Cert.Lin.rstd (zrow v65 v69 v70 r) := by
  pointwise [k0_pay2]
  refine congrArg Ideal.rsqrt (congrArg₂ (· + ·) (congrArg₂ Ideal.div (Finset.sum_congr rfl fun k _ => ?_) rfl) rfl)
  exact congrArg₂ (· * ·) (block1 v65 v69 v70 r k) (block1 v65 v69 v70 r k)

/-- One block's normalised rows. -/
theorem block3 : k0_pay3 v65 v69 v70 (ix2 r q) = Cert.Lin.normed (zrow v65 v69 v70 r) q := by
  have e : (k0_pay3 v65 v69 v70 (ix2 r q) : EReal) = (k0_pay1 v65 v69 v70 (ix2 r q) : EReal) * (k0_pay2 v65 v69 v70 (ix2 r (0 : Fin 1)) : EReal) := by
    pointwise [k0_pay3]
    rfl
  rw [e, block1, block2]
  rfl

/-- One block of the result. -/
theorem block4 (v74 v76 : Vec Ideal S1x1024 .f32) : k0_pay4 v65 v69 v70 v74 v76 (ix2 r q)
    = Cert.Lin.normed (zrow v65 v69 v70 r) q * (v74 (ix2 (0 : Fin 1) q) : EReal) + (v76 (ix2 (0 : Fin 1) q) : EReal) := by
  have e : (k0_pay4 v65 v69 v70 v74 v76 (ix2 r q) : EReal)
      = (k0_pay3 v65 v69 v70 (ix2 r q) : EReal) * (v74 (ix2 (0 : Fin 1) q) : EReal) + (v76 (ix2 (0 : Fin 1) q) : EReal) := by
    pointwise [k0_pay4]
    rfl
  rw [e, block3]
end

/-- The convolution's result as the call finds it. -/
theorem entry0 (i : S4096x1024.Idx) : V m c main_v3 i = (m ((c : Thread nD τ).loc main_arg0)) i := by
  have e : V m c main_v3 = truncf (F := Ideal) .bf16 (m ((c : Thread nD τ).loc main_arg0)) bitsLt_bf16_f32 := by
    unfold V hostOps0
    after_reads_simp
  rw [e]; rfl

/-- The recurrence's result as the call finds it. -/
theorem entry1 (i : S4096x1024.Idx) : V m c main_v4 i = (m ((c : Thread nD τ).loc main_arg1)) i := by
  have e : V m c main_v4 = truncf (F := Ideal) .bf16 (m ((c : Thread nD τ).loc main_arg1)) bitsLt_bf16_f32 := by
    unfold V hostOps0
    after_reads_simp
  rw [e]; rfl

/-- The input projection as the call finds it. -/
theorem entry2 (i : S4096x7168.Idx) : V m c main_v5 i = (m ((c : Thread nD τ).loc main_arg2)) i := by
  have e : V m c main_v5 = truncf (F := Ideal) .bf16 (m ((c : Thread nD τ).loc main_arg2)) bitsLt_bf16_f32 := by
    unfold V hostOps0
    after_reads_simp
  rw [e]; rfl

/-- The three weights as the call finds it. -/
theorem entry7 (i : S3x1024x1024.Idx) : V m c main_v7 i = (m ((c : Thread nD τ).loc main_arg4)) i := by
  have e : V m c main_v7 = truncf (F := Ideal) .bf16 (m ((c : Thread nD τ).loc main_arg4)) bitsLt_bf16_f32 := by
    unfold V hostOps0
    after_reads_simp
  rw [e]; rfl

/-- The gates' offsets as the call finds them. -/
theorem entry5 (n : Fin 2048) : V m c main_v6 (ix2 (0 : Fin 1) n) = (m ((c : Thread nD τ).loc main_arg3)) (ix1 n) := by
  have e : V m c main_v6 = broadcastInDim S1x2048 ![1] bcast_S2048_S1x2048_1 (m ((c : Thread nD τ).loc main_arg3)) := by
    unfold V hostOps0
    after_reads_simp
  rw [e]
  pointwise []
  rfl

/-- The small array as the call finds it: zeros, the gains, the offsets, zeros. -/
theorem entry9 : V m c main_v2 = concatenate S16x1024 0
    [⟨S9x1024, broadcastInDim S9x1024 ![] bcast_S_S9x1024 (constant (F := Ideal) S_ .f32 0x00000000#32)⟩, ⟨S3x1024, m ((c : Thread nD τ).loc main_arg6)⟩,
      ⟨S3x1024, m ((c : Thread nD τ).loc main_arg7)⟩, ⟨S1x1024, broadcastInDim S1x1024 ![] bcast_S_S1x1024 (constant (F := Ideal) S_ .f32 0x00000000#32)⟩]
    concatenates_S9x1024_S3x1024_S3x1024_S1x1024_S16x1024_d0 := by
  unfold V hostOps0
  after_reads_simp
  rfl

/-- The gain the call reads. -/
theorem gain (q : Fin 1024) : V m c main_v2 (ix2 (10 : Fin 16) q) = (m ((c : Thread nD τ).loc main_arg6)) (ix2 (1 : Fin 3) q) := by
  rw [entry9]
  pointwise []
  rfl

/-- The offset the call reads. -/
theorem offset (q : Fin 1024) : V m c main_v2 (ix2 (13 : Fin 16) q) = (m ((c : Thread nD τ).loc main_arg7)) (ix2 (1 : Fin 3) q) := by
  rw [entry9]
  pointwise []
  rfl

/-- The printed index maps over the sixteen points: 256 rows at a time. -/
theorem maps : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 4)
    ∧ (win0_3.index t (0 : Fin 2) = t.val ∧ win0_3.index t (1 : Fin 2) = 5)
    ∧ (win0_4.index t (0 : Fin 2) = t.val ∧ win0_4.index t (1 : Fin 2) = 6)
    ∧ (win0_5.index t (0 : Fin 2) = 0 ∧ win0_5.index t (1 : Fin 2) = 0)
    ∧ (win0_6.index t (0 : Fin 2) = 0 ∧ win0_6.index t (1 : Fin 2) = 1)
    ∧ (win0_7.index t (0 : Fin 3) = 0 ∧ win0_7.index t (1 : Fin 3) = 0 ∧ win0_7.index t (2 : Fin 3) = 0)
    ∧ (win0_8.index t (0 : Fin 2) = t.val ∧ win0_8.index t (1 : Fin 2) = 0)
    ∧ (win0_9.index t (0 : Fin 2) = 0 ∧ win0_9.index t (1 : Fin 2) = 0) :=
  (by decide +kernel : ∀ t : Fin grid0.N, _)

/-- The convolution's result: its block at a point. -/
theorem blk0 (t : Fin cfg0.N) (r : Fin 256) (q : Fin 1024) (R : Fin 4096) (hR : R.val = t.val * 256 + r.val) :
    (iblk m c 0 t : Vec Ideal S256x1024 .bf16) (ix2 r q) = (m ((c : Thread nD τ).loc main_arg0)) (ix2 R q) := by
  obtain ⟨⟨a0, a1⟩, -⟩ := maps t
  refine Eq.trans (?_ : _ = V m c main_v3 (ix2 R q)) (entry0 m c _)
  unfold iblk
  refine congrArg (V m c main_v3) (funext fun a => Fin.ext ?_)
  match a with
  | ⟨0, _⟩ => show win0_0.index t (0 : Fin 2) * 256 + 1 * r.val = R.val; omega
  | ⟨1, _⟩ => show win0_0.index t (1 : Fin 2) * 1024 + 1 * q.val = q.val; omega

/-- The recurrence's result: its block at a point. -/
theorem blk1 (t : Fin cfg0.N) (r : Fin 256) (q : Fin 1024) (R : Fin 4096) (hR : R.val = t.val * 256 + r.val) :
    (iblk m c 1 t : Vec Ideal S256x1024 .bf16) (ix2 r q) = (m ((c : Thread nD τ).loc main_arg1)) (ix2 R q) := by
  obtain ⟨-, ⟨a0, a1⟩, -⟩ := maps t
  refine Eq.trans (?_ : _ = V m c main_v4 (ix2 R q)) (entry1 m c _)
  unfold iblk
  refine congrArg (V m c main_v4) (funext fun a => Fin.ext ?_)
  match a with
  | ⟨0, _⟩ => show win0_1.index t (0 : Fin 2) * 256 + 1 * r.val = R.val; omega
  | ⟨1, _⟩ => show win0_1.index t (1 : Fin 2) * 1024 + 1 * q.val = q.val; omega

/-- The projection's gelu columns: its block at a point. -/
theorem blk2 (t : Fin cfg0.N) (r : Fin 256) (q : Fin 1024) (R : Fin 4096) (hR : R.val = t.val * 256 + r.val) :
    (iblk m c 2 t : Vec Ideal S256x1024 .bf16) (ix2 r q) = (m ((c : Thread nD τ).loc main_arg2)) (ix2 R (⟨4096 + q.val, by omega⟩ : Fin 7168)) := by
  obtain ⟨-, -, ⟨a0, a1⟩, -⟩ := maps t
  refine Eq.trans (?_ : _ = V m c main_v5 (ix2 R (⟨4096 + q.val, by omega⟩ : Fin 7168))) (entry2 m c _)
  unfold iblk
  refine congrArg (V m c main_v5) (funext fun a => Fin.ext ?_)
  match a with
  | ⟨0, _⟩ => show win0_2.index t (0 : Fin 2) * 256 + 1 * r.val = R.val; omega
  | ⟨1, _⟩ => show win0_2.index t (1 : Fin 2) * 1024 + 1 * q.val = 4096 + q.val; omega

/-- The projection's first gate columns: its block at a point. -/
theorem blk3 (t : Fin cfg0.N) (r : Fin 256) (q : Fin 1024) (R : Fin 4096) (hR : R.val = t.val * 256 + r.val) :
    (iblk m c 3 t : Vec Ideal S256x1024 .bf16) (ix2 r q) = (m ((c : Thread nD τ).loc main_arg2)) (ix2 R (⟨5120 + q.val, by omega⟩ : Fin 7168)) := by
  obtain ⟨-, -, -, ⟨a0, a1⟩, -⟩ := maps t
  refine Eq.trans (?_ : _ = V m c main_v5 (ix2 R (⟨5120 + q.val, by omega⟩ : Fin 7168))) (entry2 m c _)
  unfold iblk
  refine congrArg (V m c main_v5) (funext fun a => Fin.ext ?_)
  match a with
  | ⟨0, _⟩ => show win0_3.index t (0 : Fin 2) * 256 + 1 * r.val = R.val; omega
  | ⟨1, _⟩ => show win0_3.index t (1 : Fin 2) * 1024 + 1 * q.val = 5120 + q.val; omega

/-- The projection's second gate columns: its block at a point. -/
theorem blk4 (t : Fin cfg0.N) (r : Fin 256) (q : Fin 1024) (R : Fin 4096) (hR : R.val = t.val * 256 + r.val) :
    (iblk m c 4 t : Vec Ideal S256x1024 .bf16) (ix2 r q) = (m ((c : Thread nD τ).loc main_arg2)) (ix2 R (⟨6144 + q.val, by omega⟩ : Fin 7168)) := by
  obtain ⟨-, -, -, -, ⟨a0, a1⟩, -⟩ := maps t
  refine Eq.trans (?_ : _ = V m c main_v5 (ix2 R (⟨6144 + q.val, by omega⟩ : Fin 7168))) (entry2 m c _)
  unfold iblk
  refine congrArg (V m c main_v5) (funext fun a => Fin.ext ?_)
  match a with
  | ⟨0, _⟩ => show win0_4.index t (0 : Fin 2) * 256 + 1 * r.val = R.val; omega
  | ⟨1, _⟩ => show win0_4.index t (1 : Fin 2) * 1024 + 1 * q.val = 6144 + q.val; omega

/-- The input: its block at a point. -/
theorem blk8 (t : Fin cfg0.N) (r : Fin 256) (q : Fin 1024) (R : Fin 4096) (hR : R.val = t.val * 256 + r.val) :
    (iblk m c 8 t : Vec Ideal S256x1024 .f32) (ix2 r q) = (m ((c : Thread nD τ).loc main_arg5)) (ix2 R q) := by
  obtain ⟨-, -, -, -, -, -, -, -, ⟨a0, a1⟩, -⟩ := maps t
  refine Eq.trans (?_ : _ = V m c main_arg5 (ix2 R q)) (congrFun (V_main_arg5 m c) _)
  unfold iblk
  refine congrArg (V m c main_arg5) (funext fun a => Fin.ext ?_)
  match a with
  | ⟨0, _⟩ => show win0_8.index t (0 : Fin 2) * 256 + 1 * r.val = R.val; omega
  | ⟨1, _⟩ => show win0_8.index t (1 : Fin 2) * 1024 + 1 * q.val = q.val; omega

/-- The first gate's offsets: their block at a point. -/
theorem blk5 (t : Fin cfg0.N) (q : Fin 1024) :
    (iblk m c 5 t : Vec Ideal S1x1024 .f32) (ix2 (0 : Fin 1) q) = (m ((c : Thread nD τ).loc main_arg3)) (ix1 (⟨q.val, by omega⟩ : Fin 2048)) := by
  obtain ⟨-, -, -, -, -, ⟨a0, a1⟩, -⟩ := maps t
  refine Eq.trans (?_ : _ = V m c main_v6 (ix2 (0 : Fin 1) (⟨q.val, by omega⟩ : Fin 2048))) (entry5 m c _)
  unfold iblk
  refine congrArg (V m c main_v6) (funext fun a => Fin.ext ?_)
  match a with
  | ⟨0, _⟩ => show win0_5.index t (0 : Fin 2) * 1 + 1 * 0 = 0; omega
  | ⟨1, _⟩ => show win0_5.index t (1 : Fin 2) * 1024 + 1 * q.val = q.val; omega

/-- The second gate's offsets: their block at a point. -/
theorem blk6 (t : Fin cfg0.N) (q : Fin 1024) :
    (iblk m c 6 t : Vec Ideal S1x1024 .f32) (ix2 (0 : Fin 1) q) = (m ((c : Thread nD τ).loc main_arg3)) (ix1 (⟨1024 + q.val, by omega⟩ : Fin 2048)) := by
  obtain ⟨-, -, -, -, -, -, ⟨a0, a1⟩, -⟩ := maps t
  refine Eq.trans (?_ : _ = V m c main_v6 (ix2 (0 : Fin 1) (⟨1024 + q.val, by omega⟩ : Fin 2048))) (entry5 m c _)
  unfold iblk
  refine congrArg (V m c main_v6) (funext fun a => Fin.ext ?_)
  match a with
  | ⟨0, _⟩ => show win0_6.index t (0 : Fin 2) * 1 + 1 * 0 = 0; omega
  | ⟨1, _⟩ => show win0_6.index t (1 : Fin 2) * 1024 + 1 * q.val = 1024 + q.val; omega

/-- The weights: their block at a point. -/
theorem blk7 (t : Fin cfg0.N) (n : Fin 3) (k q : Fin 1024) :
    (iblk m c 7 t : Vec Ideal S3x1024x1024 .bf16) (ix3 n k q) = (m ((c : Thread nD τ).loc main_arg4)) (ix3 n k q) := by
  obtain ⟨-, -, -, -, -, -, -, ⟨a0, a1, a2⟩, -⟩ := maps t
  refine Eq.trans (?_ : _ = V m c main_v7 (ix3 n k q)) (entry7 m c _)
  unfold iblk
  refine congrArg (V m c main_v7) (funext fun a => Fin.ext ?_)
  match a with
  | ⟨0, _⟩ => show win0_7.index t (0 : Fin 3) * 3 + 1 * n.val = n.val; omega
  | ⟨1, _⟩ => show win0_7.index t (1 : Fin 3) * 1024 + 1 * k.val = k.val; omega
  | ⟨2, _⟩ => show win0_7.index t (2 : Fin 3) * 1024 + 1 * q.val = q.val; omega

/-- The small array: its block at a point. -/
theorem blk9 (t : Fin cfg0.N) (n : Fin 16) (q : Fin 1024) :
    (iblk m c 9 t : Vec Ideal S16x1024 .f32) (ix2 n q) = V m c main_v2 (ix2 n q) := by
  obtain ⟨-, -, -, -, -, -, -, -, -, a0, a1⟩ := maps t
  unfold iblk
  refine congrArg (V m c main_v2) (funext fun a => Fin.ext ?_)
  match a with
  | ⟨0, _⟩ => show win0_9.index t (0 : Fin 2) * 16 + 1 * n.val = n.val; omega
  | ⟨1, _⟩ => show win0_9.index t (1 : Fin 2) * 1024 + 1 * q.val = q.val; omega

/-- Weight 0 of the three. -/
theorem ldW0 (X : Vec Ideal S3x1024x1024 .bf16) (k q : Fin 1024) : View.ld X r0_1 (ix3 (0 : Fin 1) k q) = X (ix3 (0 : Fin 3) k q) := by
  refine congrArg X (funext fun a => Fin.ext ?_)
  match a with
  | ⟨0, _⟩ => rfl
  | ⟨1, _⟩ => show 0 + 1 * k.val = k.val; omega
  | ⟨2, _⟩ => show 0 + 1 * q.val = q.val; omega

/-- Weight 1 of the three. -/
theorem ldW1 (X : Vec Ideal S3x1024x1024 .bf16) (k q : Fin 1024) : View.ld X r0_2 (ix3 (0 : Fin 1) k q) = X (ix3 (1 : Fin 3) k q) := by
  refine congrArg X (funext fun a => Fin.ext ?_)
  match a with
  | ⟨0, _⟩ => rfl
  | ⟨1, _⟩ => show 0 + 1 * k.val = k.val; omega
  | ⟨2, _⟩ => show 0 + 1 * q.val = q.val; omega

/-- Weight 2 of the three. -/
theorem ldW2 (X : Vec Ideal S3x1024x1024 .bf16) (k q : Fin 1024) : View.ld X r0_4 (ix3 (0 : Fin 1) k q) = X (ix3 (2 : Fin 3) k q) := by
  refine congrArg X (funext fun a => Fin.ext ?_)
  match a with
  | ⟨0, _⟩ => rfl
  | ⟨1, _⟩ => show 0 + 1 * k.val = k.val; omega
  | ⟨2, _⟩ => show 0 + 1 * q.val = q.val; omega

/-- The row of the small array that holds the gain. -/
theorem ldGain (X : Vec Ideal S16x1024 .f32) (q : Fin 1024) : View.ld X r0_5 (ix2 (0 : Fin 1) q) = X (ix2 (10 : Fin 16) q) := by
  refine congrArg X (funext fun a => Fin.ext ?_)
  match a with
  | ⟨0, _⟩ => rfl
  | ⟨1, _⟩ => show 0 + 1 * q.val = q.val; omega

/-- The row of the small array that holds the offset. -/
theorem ldOffset (X : Vec Ideal S16x1024 .f32) (q : Fin 1024) : View.ld X r0_6 (ix2 (0 : Fin 1) q) = X (ix2 (13 : Fin 16) q) := by
  refine congrArg X (funext fun a => Fin.ext ?_)
  match a with
  | ⟨0, _⟩ => rfl
  | ⟨1, _⟩ => show 0 + 1 * q.val = q.val; omega

/-- A block read whole. -/
theorem ldAll {e : EltTy} (X : Vec Ideal S256x1024 e) : View.ld X r0_0 = X := by
  rw [View.ld_unit_zero (by decide)]

/-- A row read whole. -/
theorem ldRow (X : Vec Ideal S1x1024 .f32) : View.ld X r0_3 = X := by
  rw [View.ld_unit_zero (by decide)]

/-- A point's block of the branch, by the arguments. -/
theorem at10 (t : Fin cfg0.N) (r : Fin 256) (q : Fin 1024) (R : Fin 4096) (hR : R.val = t.val * 256 + r.val) :
    k0_pay6 (F := Ideal) (View.ld (iblk m c 2 t) r0_0) (View.ld (iblk m c 1 t) r0_0) (ix2 r q) = branch (m ((c : Thread nD τ).loc main_arg1)) (m ((c : Thread nD τ).loc main_arg2)) R q := by
  rw [ldAll, ldAll]
  refine (block6 _ _ r q).trans ?_
  exact congrArg₂ (· * ·) (blk1 m c t r q R hR) (congrArg gelu (blk2 m c t r q R hR))

/-- A point's block of the convolution's output, by the arguments. -/
theorem at11 (t : Fin cfg0.N) (r : Fin 256) (q : Fin 1024) (R : Fin 4096) (hR : R.val = t.val * 256 + r.val) :
    k0_pay7 (F := Ideal) (View.ld (iblk m c 0 t) r0_0) (View.ld (iblk m c 7 t) r0_1) (ix2 r q) = outConv (m ((c : Thread nD τ).loc main_arg0)) (m ((c : Thread nD τ).loc main_arg4)) R q := by
  rw [ldAll]
  refine (block7 _ _ r q).trans ?_
  exact Finset.sum_congr rfl fun k _ => congrArg₂ (· * ·) (blk0 m c t r k R hR) ((ldW0 _ k q).trans (blk7 m c t 0 k q))

/-- A point's block of the recurrence's output, by the arguments. -/
theorem at12 (t : Fin cfg0.N) (r : Fin 256) (q : Fin 1024) (R : Fin 4096) (hR : R.val = t.val * 256 + r.val) :
    k0_pay8 (F := Ideal) (View.ld (iblk m c 2 t) r0_0) (View.ld (iblk m c 1 t) r0_0) (View.ld (iblk m c 7 t) r0_2) (ix2 r q)
      = outRec (m ((c : Thread nD τ).loc main_arg1)) (m ((c : Thread nD τ).loc main_arg2)) (m ((c : Thread nD τ).loc main_arg4)) R q := by
  refine (block8 _ _ _ r q).trans ?_
  exact Finset.sum_congr rfl fun k _ => congrArg₂ (· * ·) (at10 m c t r k R hR) ((ldW1 _ k q).trans (blk7 m c t 1 k q))

/-- A point's block of the gated sum, by the arguments. -/
theorem at13 (t : Fin cfg0.N) (r : Fin 256) (q : Fin 1024) (R : Fin 4096) (hR : R.val = t.val * 256 + r.val) :
    k0_pay15 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r q) = merged (m ((c : Thread nD τ).loc main_arg0)) (m ((c : Thread nD τ).loc main_arg1)) (m ((c : Thread nD τ).loc main_arg2)) (m ((c : Thread nD τ).loc main_arg3)) (m ((c : Thread nD τ).loc main_arg4)) R q := by
  unfold k0_pay15
  refine (block11 _ _ _ _ _ _ r q).trans ?_
  refine congrArg₂ (· + ·) (congrArg₂ (· * ·) (congrArg Ideal.logistic (congrArg₂ (· + ·) ((congrFun (ldAll _) _).trans (blk3 m c t r q R hR)) ((congrFun (ldRow _) _).trans (blk5 m c t q)))) ?_)
    (congrArg₂ (· * ·) (congrArg Ideal.logistic (congrArg₂ (· + ·) ((congrFun (ldAll _) _).trans (blk4 m c t r q R hR)) ((congrFun (ldRow _) _).trans (blk6 m c t q)))) ?_)
  · exact at11 m c t r q R hR
  · exact at12 m c t r q R hR

/-- A point's rows before the norm, by the arguments. -/
theorem at0 (t : Fin cfg0.N) (r : Fin 256) (R : Fin 4096) (hR : R.val = t.val * 256 + r.val) :
    zrow (k0_pay15 (iblk m c 0 t) (iblk m c 1 t) (iblk m c 2 t) (iblk m c 3 t) (iblk m c 4 t) (iblk m c 5 t) (iblk m c 6 t) (iblk m c 7 t) (iblk m c 8 t) (iblk m c 9 t)) (k0_pay16 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4) r = pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R := by
  funext q
  unfold zrow pre
  refine congrArg₂ (· + ·) ?_ (Finset.sum_congr rfl fun k _ =>
    congrArg₂ (· * ·) (at13 m c t r k R hR) ((ldW2 _ k q).trans (blk7 m c t 2 k q)))
  unfold k0_pay16
  rw [ldAll]
  exact congrArg (Ideal.ofBits .f32 0x3FD744FD#32 * ·) (blk8 m c t r q R hR)

/-- A point's block of the normalised rows, by the arguments. -/
theorem at16 (t : Fin cfg0.N) (r : Fin 256) (q : Fin 1024) (R : Fin 4096) (hR : R.val = t.val * 256 + r.val) :
    k0_pay3 (F := Ideal) (k0_pay15 (iblk m c 0 t) (iblk m c 1 t) (iblk m c 2 t) (iblk m c 3 t) (iblk m c 4 t) (iblk m c 5 t) (iblk m c 6 t) (iblk m c 7 t) (iblk m c 8 t) (iblk m c 9 t)) (k0_pay16 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4) (ix2 r q)
      = Cert.Lin.normed (pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R) q := by
  refine (block3 _ _ _ r q).trans ?_
  rw [at0 m c t r R hR]

/-- A point's block of the result, by the arguments. -/
theorem at14 (t : Fin cfg0.N) (r : Fin 256) (q : Fin 1024) (R : Fin 4096) (hR : R.val = t.val * 256 + r.val) :
    k0_pay4 (F := Ideal) (k0_pay15 (iblk m c 0 t) (iblk m c 1 t) (iblk m c 2 t) (iblk m c 3 t) (iblk m c 4 t) (iblk m c 5 t) (iblk m c 6 t) (iblk m c 7 t) (iblk m c 8 t) (iblk m c 9 t)) (k0_pay16 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4) (View.ld (iblk m c 9 t) r0_5) (View.ld (iblk m c 9 t) r0_6) (ix2 r q)
      = rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 R q) := by
  refine (block4 _ _ _ r q _ _).trans ?_
  rw [at0 m c t r R hR, ldGain, ldOffset, blk9 m c t, blk9 m c t, gain m c, offset m c]
  rfl

/-- A point's block of the reciprocal standard deviations, by the arguments. -/
theorem at17 (t : Fin cfg0.N) (r : Fin 256) (R : Fin 4096) (hR : R.val = t.val * 256 + r.val) :
    k0_pay2 (F := Ideal) (k0_pay15 (iblk m c 0 t) (iblk m c 1 t) (iblk m c 2 t) (iblk m c 3 t) (iblk m c 4 t) (iblk m c 5 t) (iblk m c 6 t) (iblk m c 7 t) (iblk m c 8 t) (iblk m c 9 t)) (k0_pay16 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4) (ix2 r (0 : Fin 1)) = Cert.Lin.rstd (pre (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R) := by
  refine (block2 _ _ _ r).trans ?_
  rw [at0 m c t r R hR]

/-- The printed index map of the branch, and that every point writes back. -/
theorem omaps10 : ∀ t : Fin cfg0.N, win0_10.index t (0 : Fin 2) = t.val ∧ win0_10.index t (1 : Fin 2) = 0 ∧ (cfg0.win 10).flush t = true :=
  (by decide +kernel : ∀ t : Fin grid0.N, _)

/-- Of the memory's arguments, the branch. -/
abbrev G10 (c : Dev nD) : Buf (Elt Ideal) ((c : Thread nD τ).loc main_v8_0) := branches (m ((c : Thread nD τ).loc main_arg1)) (m ((c : Thread nD τ).loc main_arg2))

/-- What a point writes back is its part of the branch. -/
theorem flushed_eq10 (t : Fin cfg0.N) : (dats m 0 c).flushed 10 t = ((cfg0.win 10).blk t).view.read (Elt Ideal) (G10 m c) := by
  obtain ⟨e0, e1, -⟩ := omaps10 t
  rw [Value.flushed10]
  unfold out0_10
  rw [View.canon_unit_zero (by decide)]
  funext y
  have ey : ((cfg0.win 10).xinj (grid0.coords t) y : S256x1024.Idx) = ix2 (y 0 : Fin 256) (y 1 : Fin 1024) := funext fun a => Fin.ext (by
    match a with
    | ⟨0, _⟩ => rfl
    | ⟨1, _⟩ => rfl)
  have f0 : (((cfg0.win 10).blk t).view.emb y 0).val = t.val * 256 + (y 0).val := by
    show win0_10.index t (0 : Fin 2) * 256 + 1 * (y 0).val = _; rw [e0]; omega
  have f1 : (((cfg0.win 10).blk t).view.emb y 1).val = (y 1).val := by
    show win0_10.index t (1 : Fin 2) * 1024 + 1 * (y 1).val = _; rw [e1]; omega
  refine (congrArg (k0_pay6 (F := Ideal) (View.ld (iblk m c 2 t) r0_0) (View.ld (iblk m c 1 t) r0_0)) ey).trans
    ((at10 m c t (y 0 : Fin 256) (y 1 : Fin 1024) (((cfg0.win 10).blk t).view.emb y 0 : Fin 4096) f0).trans ?_)
  show G10 m c (ix2 (((cfg0.win 10).blk t).view.emb y 0 : Fin 4096) (y 1 : Fin 1024)) = G10 m c (((cfg0.win 10).blk t).view.emb y)
  refine congrArg (G10 m c) (funext fun a => Fin.ext ?_)
  match a with
  | ⟨0, _⟩ => rfl
  | ⟨1, _⟩ => exact f1.symm

/-- Every entry of the branch is in some point's block. -/
theorem covered10 (i : S4096x1024.Idx) : ∃ t : Fin cfg0.N, (cfg0.win 10).flush t = true ∧ i ∈ ((cfg0.win 10).blk t).view.set := by
  have h0 : (i 0).val < 4096 := (i 0).isLt
  have h1 : (i 1).val < 1024 := (i 1).isLt
  have hq : (i 0).val / 256 < 16 := by omega
  let t : Fin cfg0.N := ⟨(i 0).val / 256, lt_of_lt_of_eq hq N_0.symm⟩
  obtain ⟨e0, e1, hf⟩ := omaps10 t
  have et : t.val = (i 0).val / 256 := rfl
  refine ⟨t, hf, ?_⟩
  show i ∈ ((View.whole main_v8_0).slice (win0_10.rect t)).set
  rw [View.set_slice_whole, Rect.mem_set_unit]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

/-- The kernel's result: the branch. -/
theorem final10 : (dats m 0 c).arrAt 10 cfg0.N = G10 m c :=
  (dats m 0 c).arrAt_eq_of_cover 10 _ (fun t _ => flushed_eq10 m c t) covered10

/-- The printed index map of the convolution's output, and that every point writes back. -/
theorem omaps11 : ∀ t : Fin cfg0.N, win0_11.index t (0 : Fin 2) = t.val ∧ win0_11.index t (1 : Fin 2) = 0 ∧ (cfg0.win 11).flush t = true :=
  (by decide +kernel : ∀ t : Fin grid0.N, _)

/-- Of the memory's arguments, the convolution's output. -/
abbrev G11 (c : Dev nD) : Buf (Elt Ideal) ((c : Thread nD τ).loc main_v8_1) := outConvs (m ((c : Thread nD τ).loc main_arg0)) (m ((c : Thread nD τ).loc main_arg4))

/-- What a point writes back is its part of the convolution's output. -/
theorem flushed_eq11 (t : Fin cfg0.N) : (dats m 0 c).flushed 11 t = ((cfg0.win 11).blk t).view.read (Elt Ideal) (G11 m c) := by
  obtain ⟨e0, e1, -⟩ := omaps11 t
  rw [Value.flushed11]
  unfold out0_11
  rw [View.canon_unit_zero (by decide)]
  funext y
  have ey : ((cfg0.win 11).xinj (grid0.coords t) y : S256x1024.Idx) = ix2 (y 0 : Fin 256) (y 1 : Fin 1024) := funext fun a => Fin.ext (by
    match a with
    | ⟨0, _⟩ => rfl
    | ⟨1, _⟩ => rfl)
  have f0 : (((cfg0.win 11).blk t).view.emb y 0).val = t.val * 256 + (y 0).val := by
    show win0_11.index t (0 : Fin 2) * 256 + 1 * (y 0).val = _; rw [e0]; omega
  have f1 : (((cfg0.win 11).blk t).view.emb y 1).val = (y 1).val := by
    show win0_11.index t (1 : Fin 2) * 1024 + 1 * (y 1).val = _; rw [e1]; omega
  refine (congrArg (k0_pay9 (F := Ideal) (View.ld (iblk m c 0 t) r0_0) (View.ld (iblk m c 7 t) r0_1)) ey).trans
    ((at11 m c t (y 0 : Fin 256) (y 1 : Fin 1024) (((cfg0.win 11).blk t).view.emb y 0 : Fin 4096) f0).trans ?_)
  show G11 m c (ix2 (((cfg0.win 11).blk t).view.emb y 0 : Fin 4096) (y 1 : Fin 1024)) = G11 m c (((cfg0.win 11).blk t).view.emb y)
  refine congrArg (G11 m c) (funext fun a => Fin.ext ?_)
  match a with
  | ⟨0, _⟩ => rfl
  | ⟨1, _⟩ => exact f1.symm

/-- Every entry of the convolution's output is in some point's block. -/
theorem covered11 (i : S4096x1024.Idx) : ∃ t : Fin cfg0.N, (cfg0.win 11).flush t = true ∧ i ∈ ((cfg0.win 11).blk t).view.set := by
  have h0 : (i 0).val < 4096 := (i 0).isLt
  have h1 : (i 1).val < 1024 := (i 1).isLt
  have hq : (i 0).val / 256 < 16 := by omega
  let t : Fin cfg0.N := ⟨(i 0).val / 256, lt_of_lt_of_eq hq N_0.symm⟩
  obtain ⟨e0, e1, hf⟩ := omaps11 t
  have et : t.val = (i 0).val / 256 := rfl
  refine ⟨t, hf, ?_⟩
  show i ∈ ((View.whole main_v8_1).slice (win0_11.rect t)).set
  rw [View.set_slice_whole, Rect.mem_set_unit]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- The kernel's result: the convolution's output. -/
theorem final11 : (dats m 0 c).arrAt 11 cfg0.N = G11 m c :=
  (dats m 0 c).arrAt_eq_of_cover 11 _ (fun t _ => flushed_eq11 m c t) covered11

/-- The printed index map of the recurrence's output, and that every point writes back. -/
theorem omaps12 : ∀ t : Fin cfg0.N, win0_12.index t (0 : Fin 2) = t.val ∧ win0_12.index t (1 : Fin 2) = 0 ∧ (cfg0.win 12).flush t = true :=
  (by decide +kernel : ∀ t : Fin grid0.N, _)

/-- Of the memory's arguments, the recurrence's output. -/
abbrev G12 (c : Dev nD) : Buf (Elt Ideal) ((c : Thread nD τ).loc main_v8_2) := outRecs (m ((c : Thread nD τ).loc main_arg1)) (m ((c : Thread nD τ).loc main_arg2)) (m ((c : Thread nD τ).loc main_arg4))

/-- What a point writes back is its part of the recurrence's output. -/
theorem flushed_eq12 (t : Fin cfg0.N) : (dats m 0 c).flushed 12 t = ((cfg0.win 12).blk t).view.read (Elt Ideal) (G12 m c) := by
  obtain ⟨e0, e1, -⟩ := omaps12 t
  rw [Value.flushed12]
  unfold out0_12
  rw [View.canon_unit_zero (by decide)]
  funext y
  have ey : ((cfg0.win 12).xinj (grid0.coords t) y : S256x1024.Idx) = ix2 (y 0 : Fin 256) (y 1 : Fin 1024) := funext fun a => Fin.ext (by
    match a with
    | ⟨0, _⟩ => rfl
    | ⟨1, _⟩ => rfl)
  have f0 : (((cfg0.win 12).blk t).view.emb y 0).val = t.val * 256 + (y 0).val := by
    show win0_12.index t (0 : Fin 2) * 256 + 1 * (y 0).val = _; rw [e0]; omega
  have f1 : (((cfg0.win 12).blk t).view.emb y 1).val = (y 1).val := by
    show win0_12.index t (1 : Fin 2) * 1024 + 1 * (y 1).val = _; rw [e1]; omega
  refine (congrArg (k0_pay10 (F := Ideal) (View.ld (iblk m c 2 t) r0_0) (View.ld (iblk m c 1 t) r0_0) (View.ld (iblk m c 7 t) r0_2)) ey).trans
    ((at12 m c t (y 0 : Fin 256) (y 1 : Fin 1024) (((cfg0.win 12).blk t).view.emb y 0 : Fin 4096) f0).trans ?_)
  show G12 m c (ix2 (((cfg0.win 12).blk t).view.emb y 0 : Fin 4096) (y 1 : Fin 1024)) = G12 m c (((cfg0.win 12).blk t).view.emb y)
  refine congrArg (G12 m c) (funext fun a => Fin.ext ?_)
  match a with
  | ⟨0, _⟩ => rfl
  | ⟨1, _⟩ => exact f1.symm

/-- Every entry of the recurrence's output is in some point's block. -/
theorem covered12 (i : S4096x1024.Idx) : ∃ t : Fin cfg0.N, (cfg0.win 12).flush t = true ∧ i ∈ ((cfg0.win 12).blk t).view.set := by
  have h0 : (i 0).val < 4096 := (i 0).isLt
  have h1 : (i 1).val < 1024 := (i 1).isLt
  have hq : (i 0).val / 256 < 16 := by omega
  let t : Fin cfg0.N := ⟨(i 0).val / 256, lt_of_lt_of_eq hq N_0.symm⟩
  obtain ⟨e0, e1, hf⟩ := omaps12 t
  have et : t.val = (i 0).val / 256 := rfl
  refine ⟨t, hf, ?_⟩
  show i ∈ ((View.whole main_v8_2).slice (win0_12.rect t)).set
  rw [View.set_slice_whole, Rect.mem_set_unit]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 1024 ≤ (i 1).val ∧ (i 1).val < win0_12.index t (1 : Fin 2) * 1024 + 1024; omega

/-- The kernel's result: the recurrence's output. -/
theorem final12 : (dats m 0 c).arrAt 12 cfg0.N = G12 m c :=
  (dats m 0 c).arrAt_eq_of_cover 12 _ (fun t _ => flushed_eq12 m c t) covered12

/-- The printed index map of the gated sum, and that every point writes back. -/
theorem omaps13 : ∀ t : Fin cfg0.N, win0_13.index t (0 : Fin 2) = t.val ∧ win0_13.index t (1 : Fin 2) = 0 ∧ (cfg0.win 13).flush t = true :=
  (by decide +kernel : ∀ t : Fin grid0.N, _)

/-- Of the memory's arguments, the gated sum. -/
abbrev G13 (c : Dev nD) : Buf (Elt Ideal) ((c : Thread nD τ).loc main_v8_3) := mergeds (m ((c : Thread nD τ).loc main_arg0)) (m ((c : Thread nD τ).loc main_arg1)) (m ((c : Thread nD τ).loc main_arg2)) (m ((c : Thread nD τ).loc main_arg3)) (m ((c : Thread nD τ).loc main_arg4))

/-- What a point writes back is its part of the gated sum. -/
theorem flushed_eq13 (t : Fin cfg0.N) : (dats m 0 c).flushed 13 t = ((cfg0.win 13).blk t).view.read (Elt Ideal) (G13 m c) := by
  obtain ⟨e0, e1, -⟩ := omaps13 t
  rw [Value.flushed13]
  unfold out0_13
  rw [View.canon_unit_zero (by decide)]
  funext y
  have ey : ((cfg0.win 13).xinj (grid0.coords t) y : S256x1024.Idx) = ix2 (y 0 : Fin 256) (y 1 : Fin 1024) := funext fun a => Fin.ext (by
    match a with
    | ⟨0, _⟩ => rfl
    | ⟨1, _⟩ => rfl)
  have f0 : (((cfg0.win 13).blk t).view.emb y 0).val = t.val * 256 + (y 0).val := by
    show win0_13.index t (0 : Fin 2) * 256 + 1 * (y 0).val = _; rw [e0]; omega
  have f1 : (((cfg0.win 13).blk t).view.emb y 1).val = (y 1).val := by
    show win0_13.index t (1 : Fin 2) * 1024 + 1 * (y 1).val = _; rw [e1]; omega
  refine (congrArg (k0_pay15 (F := Ideal) (iblk m c 0 t) (iblk m c 1 t) (iblk m c 2 t) (iblk m c 3 t) (iblk m c 4 t) (iblk m c 5 t) (iblk m c 6 t) (iblk m c 7 t) (iblk m c 8 t) (iblk m c 9 t)) ey).trans
    ((at13 m c t (y 0 : Fin 256) (y 1 : Fin 1024) (((cfg0.win 13).blk t).view.emb y 0 : Fin 4096) f0).trans ?_)
  show G13 m c (ix2 (((cfg0.win 13).blk t).view.emb y 0 : Fin 4096) (y 1 : Fin 1024)) = G13 m c (((cfg0.win 13).blk t).view.emb y)
  refine congrArg (G13 m c) (funext fun a => Fin.ext ?_)
  match a with
  | ⟨0, _⟩ => rfl
  | ⟨1, _⟩ => exact f1.symm

/-- Every entry of the gated sum is in some point's block. -/
theorem covered13 (i : S4096x1024.Idx) : ∃ t : Fin cfg0.N, (cfg0.win 13).flush t = true ∧ i ∈ ((cfg0.win 13).blk t).view.set := by
  have h0 : (i 0).val < 4096 := (i 0).isLt
  have h1 : (i 1).val < 1024 := (i 1).isLt
  have hq : (i 0).val / 256 < 16 := by omega
  let t : Fin cfg0.N := ⟨(i 0).val / 256, lt_of_lt_of_eq hq N_0.symm⟩
  obtain ⟨e0, e1, hf⟩ := omaps13 t
  have et : t.val = (i 0).val / 256 := rfl
  refine ⟨t, hf, ?_⟩
  show i ∈ ((View.whole main_v8_3).slice (win0_13.rect t)).set
  rw [View.set_slice_whole, Rect.mem_set_unit]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1024 ≤ (i 1).val ∧ (i 1).val < win0_13.index t (1 : Fin 2) * 1024 + 1024; omega

/-- The kernel's result: the gated sum. -/
theorem final13 : (dats m 0 c).arrAt 13 cfg0.N = G13 m c :=
  (dats m 0 c).arrAt_eq_of_cover 13 _ (fun t _ => flushed_eq13 m c t) covered13

/-- The printed index map of the rows with gain and offset, and that every point writes back. -/
theorem omaps14 : ∀ t : Fin cfg0.N, win0_14.index t (0 : Fin 2) = t.val ∧ win0_14.index t (1 : Fin 2) = 0 ∧ (cfg0.win 14).flush t = true :=
  (by decide +kernel : ∀ t : Fin grid0.N, _)

/-- Of the memory's arguments, the rows with gain and offset. -/
abbrev G14 (c : Dev nD) : Buf (Elt Ideal) ((c : Thread nD τ).loc main_v8_4) := rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What a point writes back is its part of the rows with gain and offset. -/
theorem flushed_eq14 (t : Fin cfg0.N) : (dats m 0 c).flushed 14 t = ((cfg0.win 14).blk t).view.read (Elt Ideal) (G14 m c) := by
  obtain ⟨e0, e1, -⟩ := omaps14 t
  rw [Value.flushed14]
  unfold out0_14
  rw [View.canon_unit_zero (by decide)]
  funext y
  have ey : ((cfg0.win 14).xinj (grid0.coords t) y : S256x1024.Idx) = ix2 (y 0 : Fin 256) (y 1 : Fin 1024) := funext fun a => Fin.ext (by
    match a with
    | ⟨0, _⟩ => rfl
    | ⟨1, _⟩ => rfl)
  have f0 : (((cfg0.win 14).blk t).view.emb y 0).val = t.val * 256 + (y 0).val := by
    show win0_14.index t (0 : Fin 2) * 256 + 1 * (y 0).val = _; rw [e0]; omega
  have f1 : (((cfg0.win 14).blk t).view.emb y 1).val = (y 1).val := by
    show win0_14.index t (1 : Fin 2) * 1024 + 1 * (y 1).val = _; rw [e1]; omega
  refine (congrArg (k0_pay4 (F := Ideal) (k0_pay15 (iblk m c 0 t) (iblk m c 1 t) (iblk m c 2 t) (iblk m c 3 t) (iblk m c 4 t) (iblk m c 5 t) (iblk m c 6 t) (iblk m c 7 t) (iblk m c 8 t) (iblk m c 9 t)) (k0_pay16 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4) (View.ld (iblk m c 9 t) r0_5) (View.ld (iblk m c 9 t) r0_6)) ey).trans
    ((at14 m c t (y 0 : Fin 256) (y 1 : Fin 1024) (((cfg0.win 14).blk t).view.emb y 0 : Fin 4096) f0).trans ?_)
  show G14 m c (ix2 (((cfg0.win 14).blk t).view.emb y 0 : Fin 4096) (y 1 : Fin 1024)) = G14 m c (((cfg0.win 14).blk t).view.emb y)
  refine congrArg (G14 m c) (funext fun a => Fin.ext ?_)
  match a with
  | ⟨0, _⟩ => rfl
  | ⟨1, _⟩ => exact f1.symm

/-- Every entry of the rows with gain and offset is in some point's block. -/
theorem covered14 (i : S4096x1024.Idx) : ∃ t : Fin cfg0.N, (cfg0.win 14).flush t = true ∧ i ∈ ((cfg0.win 14).blk t).view.set := by
  have h0 : (i 0).val < 4096 := (i 0).isLt
  have h1 : (i 1).val < 1024 := (i 1).isLt
  have hq : (i 0).val / 256 < 16 := by omega
  let t : Fin cfg0.N := ⟨(i 0).val / 256, lt_of_lt_of_eq hq N_0.symm⟩
  obtain ⟨e0, e1, hf⟩ := omaps14 t
  have et : t.val = (i 0).val / 256 := rfl
  refine ⟨t, hf, ?_⟩
  show i ∈ ((View.whole main_v8_4).slice (win0_14.rect t)).set
  rw [View.set_slice_whole, Rect.mem_set_unit]
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 1024 ≤ (i 1).val ∧ (i 1).val < win0_14.index t (1 : Fin 2) * 1024 + 1024; omega

/-- The kernel's result: the rows with gain and offset. -/
theorem final14 : (dats m 0 c).arrAt 14 cfg0.N = G14 m c :=
  (dats m 0 c).arrAt_eq_of_cover 14 _ (fun t _ => flushed_eq14 m c t) covered14

/-- The printed index map of the rows with gain and offset, cast, and that every point writes back. -/
theorem omaps15 : ∀ t : Fin cfg0.N, win0_15.index t (0 : Fin 2) = t.val ∧ win0_15.index t (1 : Fin 2) = 0 ∧ (cfg0.win 15).flush t = true :=
  (by decide +kernel : ∀ t : Fin grid0.N, _)

/-- Of the memory's arguments, the rows with gain and offset, cast. -/
abbrev G15 (c : Dev nD) : Buf (Elt Ideal) ((c : Thread nD τ).loc main_v8_5) := rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What a point writes back is its part of the rows with gain and offset, cast. -/
theorem flushed_eq15 (t : Fin cfg0.N) : (dats m 0 c).flushed 15 t = ((cfg0.win 15).blk t).view.read (Elt Ideal) (G15 m c) := by
  obtain ⟨e0, e1, -⟩ := omaps15 t
  rw [Value.flushed15]
  unfold out0_15
  rw [View.canon_unit_zero (by decide)]
  funext y
  have ey : ((cfg0.win 15).xinj (grid0.coords t) y : S256x1024.Idx) = ix2 (y 0 : Fin 256) (y 1 : Fin 1024) := funext fun a => Fin.ext (by
    match a with
    | ⟨0, _⟩ => rfl
    | ⟨1, _⟩ => rfl)
  have f0 : (((cfg0.win 15).blk t).view.emb y 0).val = t.val * 256 + (y 0).val := by
    show win0_15.index t (0 : Fin 2) * 256 + 1 * (y 0).val = _; rw [e0]; omega
  have f1 : (((cfg0.win 15).blk t).view.emb y 1).val = (y 1).val := by
    show win0_15.index t (1 : Fin 2) * 1024 + 1 * (y 1).val = _; rw [e1]; omega
  refine (congrArg (k0_pay5 (F := Ideal) (k0_pay15 (iblk m c 0 t) (iblk m c 1 t) (iblk m c 2 t) (iblk m c 3 t) (iblk m c 4 t) (iblk m c 5 t) (iblk m c 6 t) (iblk m c 7 t) (iblk m c 8 t) (iblk m c 9 t)) (k0_pay16 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4) (View.ld (iblk m c 9 t) r0_5) (View.ld (iblk m c 9 t) r0_6)) ey).trans
    ((at14 m c t (y 0 : Fin 256) (y 1 : Fin 1024) (((cfg0.win 15).blk t).view.emb y 0 : Fin 4096) f0).trans ?_)
  show G15 m c (ix2 (((cfg0.win 15).blk t).view.emb y 0 : Fin 4096) (y 1 : Fin 1024)) = G15 m c (((cfg0.win 15).blk t).view.emb y)
  refine congrArg (G15 m c) (funext fun a => Fin.ext ?_)
  match a with
  | ⟨0, _⟩ => rfl
  | ⟨1, _⟩ => exact f1.symm

/-- Every entry of the rows with gain and offset, cast is in some point's block. -/
theorem covered15 (i : S4096x1024.Idx) : ∃ t : Fin cfg0.N, (cfg0.win 15).flush t = true ∧ i ∈ ((cfg0.win 15).blk t).view.set := by
  have h0 : (i 0).val < 4096 := (i 0).isLt
  have h1 : (i 1).val < 1024 := (i 1).isLt
  have hq : (i 0).val / 256 < 16 := by omega
  let t : Fin cfg0.N := ⟨(i 0).val / 256, lt_of_lt_of_eq hq N_0.symm⟩
  obtain ⟨e0, e1, hf⟩ := omaps15 t
  have et : t.val = (i 0).val / 256 := rfl
  refine ⟨t, hf, ?_⟩
  show i ∈ ((View.whole main_v8_5).slice (win0_15.rect t)).set
  rw [View.set_slice_whole, Rect.mem_set_unit]
  intro a
  match a with
  | ⟨0, _⟩ => show win0_15.index t (0 : Fin 2) * 256 ≤ (i 0).val ∧ (i 0).val < win0_15.index t (0 : Fin 2) * 256 + 256; omega
  | ⟨1, _⟩ => show win0_15.index t (1 : Fin 2) * 1024 ≤ (i 1).val ∧ (i 1).val < win0_15.index t (1 : Fin 2) * 1024 + 1024; omega

/-- The kernel's result: the rows with gain and offset, cast. -/
theorem final15 : (dats m 0 c).arrAt 15 cfg0.N = G15 m c :=
  (dats m 0 c).arrAt_eq_of_cover 15 _ (fun t _ => flushed_eq15 m c t) covered15

/-- The printed index map of the normalised rows, and that every point writes back. -/
theorem omaps16 : ∀ t : Fin cfg0.N, win0_16.index t (0 : Fin 2) = t.val ∧ win0_16.index t (1 : Fin 2) = 0 ∧ (cfg0.win 16).flush t = true :=
  (by decide +kernel : ∀ t : Fin grid0.N, _)

/-- Of the memory's arguments, the normalised rows. -/
abbrev G16 (c : Dev nD) : Buf (Elt Ideal) ((c : Thread nD τ).loc main_v8_6) := unitRows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a point writes back is its part of the normalised rows. -/
theorem flushed_eq16 (t : Fin cfg0.N) : (dats m 0 c).flushed 16 t = ((cfg0.win 16).blk t).view.read (Elt Ideal) (G16 m c) := by
  obtain ⟨e0, e1, -⟩ := omaps16 t
  rw [Value.flushed16]
  unfold out0_16
  rw [View.canon_unit_zero (by decide)]
  funext y
  have ey : ((cfg0.win 16).xinj (grid0.coords t) y : S256x1024.Idx) = ix2 (y 0 : Fin 256) (y 1 : Fin 1024) := funext fun a => Fin.ext (by
    match a with
    | ⟨0, _⟩ => rfl
    | ⟨1, _⟩ => rfl)
  have f0 : (((cfg0.win 16).blk t).view.emb y 0).val = t.val * 256 + (y 0).val := by
    show win0_16.index t (0 : Fin 2) * 256 + 1 * (y 0).val = _; rw [e0]; omega
  have f1 : (((cfg0.win 16).blk t).view.emb y 1).val = (y 1).val := by
    show win0_16.index t (1 : Fin 2) * 1024 + 1 * (y 1).val = _; rw [e1]; omega
  refine (congrArg (k0_pay3 (F := Ideal) (k0_pay15 (iblk m c 0 t) (iblk m c 1 t) (iblk m c 2 t) (iblk m c 3 t) (iblk m c 4 t) (iblk m c 5 t) (iblk m c 6 t) (iblk m c 7 t) (iblk m c 8 t) (iblk m c 9 t)) (k0_pay16 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4)) ey).trans
    ((at16 m c t (y 0 : Fin 256) (y 1 : Fin 1024) (((cfg0.win 16).blk t).view.emb y 0 : Fin 4096) f0).trans ?_)
  show G16 m c (ix2 (((cfg0.win 16).blk t).view.emb y 0 : Fin 4096) (y 1 : Fin 1024)) = G16 m c (((cfg0.win 16).blk t).view.emb y)
  refine congrArg (G16 m c) (funext fun a => Fin.ext ?_)
  match a with
  | ⟨0, _⟩ => rfl
  | ⟨1, _⟩ => exact f1.symm

/-- Every entry of the normalised rows is in some point's block. -/
theorem covered16 (i : S4096x1024.Idx) : ∃ t : Fin cfg0.N, (cfg0.win 16).flush t = true ∧ i ∈ ((cfg0.win 16).blk t).view.set := by
  have h0 : (i 0).val < 4096 := (i 0).isLt
  have h1 : (i 1).val < 1024 := (i 1).isLt
  have hq : (i 0).val / 256 < 16 := by omega
  let t : Fin cfg0.N := ⟨(i 0).val / 256, lt_of_lt_of_eq hq N_0.symm⟩
  obtain ⟨e0, e1, hf⟩ := omaps16 t
  have et : t.val = (i 0).val / 256 := rfl
  refine ⟨t, hf, ?_⟩
  show i ∈ ((View.whole main_v8_6).slice (win0_16.rect t)).set
  rw [View.set_slice_whole, Rect.mem_set_unit]
  intro a
  match a with
  | ⟨0, _⟩ => show win0_16.index t (0 : Fin 2) * 256 ≤ (i 0).val ∧ (i 0).val < win0_16.index t (0 : Fin 2) * 256 + 256; omega
  | ⟨1, _⟩ => show win0_16.index t (1 : Fin 2) * 1024 ≤ (i 1).val ∧ (i 1).val < win0_16.index t (1 : Fin 2) * 1024 + 1024; omega

/-- The kernel's result: the normalised rows. -/
theorem final16 : (dats m 0 c).arrAt 16 cfg0.N = G16 m c :=
  (dats m 0 c).arrAt_eq_of_cover 16 _ (fun t _ => flushed_eq16 m c t) covered16

/-- The printed index map of the reciprocal standard deviations, and that every point writes back. -/
theorem omaps17 : ∀ t : Fin cfg0.N, win0_17.index t (0 : Fin 2) = t.val ∧ win0_17.index t (1 : Fin 2) = 0 ∧ (cfg0.win 17).flush t = true :=
  (by decide +kernel : ∀ t : Fin grid0.N, _)

/-- Of the memory's arguments, the reciprocal standard deviations. -/
abbrev G17 (c : Dev nD) : Buf (Elt Ideal) ((c : Thread nD τ).loc main_v8_7) := devs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What a point writes back is its part of the reciprocal standard deviations. -/
theorem flushed_eq17 (t : Fin cfg0.N) : (dats m 0 c).flushed 17 t = ((cfg0.win 17).blk t).view.read (Elt Ideal) (G17 m c) := by
  obtain ⟨e0, e1, -⟩ := omaps17 t
  rw [Value.flushed17]
  unfold out0_17
  rw [View.canon_unit_zero (by decide)]
  funext y
  have hy : (y 1).val < 1 := (y 1).isLt
  have ey : ((cfg0.win 17).xinj (grid0.coords t) y : S256x1.Idx) = ix2 (y 0 : Fin 256) (0 : Fin 1) := funext fun a => Fin.ext (by
    match a with
    | ⟨0, _⟩ => rfl
    | ⟨1, _⟩ => show (y 1).val = 0; omega)
  have f0 : (((cfg0.win 17).blk t).view.emb y 0).val = t.val * 256 + (y 0).val := by
    show win0_17.index t (0 : Fin 2) * 256 + 1 * (y 0).val = _; rw [e0]; omega
  exact (congrArg (k0_pay2 (F := Ideal) (k0_pay15 (iblk m c 0 t) (iblk m c 1 t) (iblk m c 2 t) (iblk m c 3 t) (iblk m c 4 t) (iblk m c 5 t) (iblk m c 6 t) (iblk m c 7 t) (iblk m c 8 t) (iblk m c 9 t)) (k0_pay16 (iblk m c 0 t) (iblk m c 1 t) (iblk m c 2 t) (iblk m c 3 t) (iblk m c 4 t) (iblk m c 5 t) (iblk m c 6 t) (iblk m c 7 t) (iblk m c 8 t) (iblk m c 9 t)) (View.ld (iblk m c 7 t) r0_4)) ey).trans
    (at17 m c t (y 0 : Fin 256) (((cfg0.win 17).blk t).view.emb y 0 : Fin 4096) f0)

/-- Every reciprocal standard deviation is in some point's block. -/
theorem covered17 (i : S4096x1.Idx) : ∃ t : Fin cfg0.N, (cfg0.win 17).flush t = true ∧ i ∈ ((cfg0.win 17).blk t).view.set := by
  have h0 : (i 0).val < 4096 := (i 0).isLt
  have h1 : (i 1).val < 1 := (i 1).isLt
  have hq : (i 0).val / 256 < 16 := by omega
  let t : Fin cfg0.N := ⟨(i 0).val / 256, lt_of_lt_of_eq hq N_0.symm⟩
  obtain ⟨e0, e1, hf⟩ := omaps17 t
  have et : t.val = (i 0).val / 256 := rfl
  refine ⟨t, hf, ?_⟩
  show i ∈ ((View.whole main_v8_7).slice (win0_17.rect t)).set
  rw [View.set_slice_whole, Rect.mem_set_unit]
  intro a
  match a with
  | ⟨0, _⟩ => show win0_17.index t (0 : Fin 2) * 256 ≤ (i 0).val ∧ (i 0).val < win0_17.index t (0 : Fin 2) * 256 + 256; omega
  | ⟨1, _⟩ => show win0_17.index t (1 : Fin 2) * 1 ≤ (i 1).val ∧ (i 1).val < win0_17.index t (1 : Fin 2) * 1 + 1; omega

/-- The kernel's result: the reciprocal standard deviations. -/
theorem final17 : (dats m 0 c).arrAt 17 cfg0.N = G17 m c :=
  (dats m 0 c).arrAt_eq_of_cover 17 _ (fun t _ => flushed_eq17 m c t) covered17

end Cert.MixEndIdeal.Lin

namespace Cert.MixEndRefIdeal.Lin

open Cert.MixEndRefIdeal Cert.MixEndRefIdeal.Gen
open Idealize.ShloMosaic hiding ix0 ix1 ix2 ix3 ix4
open Idealize.ShloMosaic.TcCoe Idealize.ShloMosaic.ValueIdx
open Cert.MixEndIdeal.Lin (gelu branch outConv outRec merged pre branches outConvs outRecs mergeds unitRows rows devs)
open Cert.Lin

variable (pa h : FVec Ideal S4096x1024 .f32) (p : FVec Ideal S4096x7168 .f32) (b : FVec Ideal S2048 .f32)
  (w : FVec Ideal S3x1024x1024 .f32) (x : FVec Ideal S4096x1024 .f32) (g o : FVec Ideal S3x1024 .f32)

/-- The reference's gelu, whose factors stand in another order. -/
theorem gelu_eq (y : EReal) : y * (Ideal.ofBits .f32 0x3F000000#32 * (1
    + Ideal.tanh (Ideal.ofBits .f32 0x3F4C422A#32 * (y + Ideal.ofBits .f32 0x3D372713#32 * (y * y * y))))) = gelu y := by
  unfold gelu
  rw [← mul_assoc (Ideal.ofBits .f32 0x3D372713#32), ← mul_assoc (Ideal.ofBits .f32 0x3D372713#32), ← mul_assoc y,
    mul_comm y (Ideal.ofBits .f32 0x3F000000#32)]

/-- The reference's gelu as it is written. -/
theorem gelu_form (y : EReal) : y * (Ideal.ofBits .f32 0x3F000000#32 * (Ideal.ofBits .f32 0x3F800000#32
    + Ideal.tanh (Ideal.ofBits .f32 0x3F4C422A#32 * (y + Ideal.ofBits .f32 0x3D372713#32 * (y * y * y))))) = gelu y := by
  rw [Ideal.ofBits_one_f32]
  exact gelu_eq y

/-- The reference's sigmoid as it is written. -/
theorem logistic_form (z : EReal) :
    Ideal.div (Ideal.ofBits .f32 0x3F800000#32) (Ideal.ofBits .f32 0x3F800000#32 + Ideal.exp (-z)) = Ideal.logistic z := by
  rw [Ideal.ofBits_one_f32]
  rfl

/-- The reference's branch. -/
theorem branchAt (i : S4096x1024.Idx) : Read.val_main_v15 (F := Ideal) h p i = branch h p (i 0 : Fin 4096) (i 1 : Fin 1024) := by
  rw [Read.val_main_v15_apply, Read.val_main_v14_apply, Read.val_main_v13_apply, Read.val_main_v12_apply, Read.val_main_cst_2_apply,
    Read.val_main_v11_apply, Read.val_main_v10_apply, Read.val_main_cst_1_apply, Read.val_main_v9_apply, Read.val_main_v8_apply,
    Read.val_main_v7_apply, Read.val_main_cst_0_apply, Read.val_main_v6_apply, Read.val_main_v5_apply, Read.val_main_v4_apply,
    Read.val_main_cst_apply, Read.val_main_v3_apply, Read.val_main_v2_apply, Read.val_main_v0_apply]
  unfold branch
  refine congrArg₂ (· * ·) (congrArg h (ValueIdx.eq_ix2 i)) ((gelu_form _).trans (congrArg gelu (congrArg p (funext fun a => Fin.ext ?_))))
  match a with
  | ⟨0, _⟩ => rfl
  | ⟨1, _⟩ => rfl

/-- The reference's first product. -/
theorem outConvAt (i : S4096x1024.Idx) : Read.val_main_v18 (F := Ideal) pa w i = outConv pa w (i 0 : Fin 4096) (i 1 : Fin 1024) := by
  have h1 : (i 1).val < 1024 := (i 1).isLt
  rw [Read.val_main_v18_apply]
  unfold outConv
  refine Finset.sum_congr rfl fun k _ => congrArg₂ (· * ·) (congrArg pa (funext fun a => Fin.ext ?_)) ?_
  · match a with
    | ⟨0, _⟩ => rfl
    | ⟨1, _⟩ => rfl
  · rw [Read.val_main_v17_apply, Read.val_main_v16_apply]
    refine congrArg w (funext fun a => Fin.ext ?_)
    match a with
    | ⟨0, _⟩ => rfl
    | ⟨1, _⟩ => show (k.val * 1024 + (i 1).val) / 1024 % 1024 = k.val; omega
    | ⟨2, _⟩ => show (k.val * 1024 + (i 1).val) % 1024 = (i 1).val; omega

/-- The reference's second product. -/
theorem outRecAt (i : S4096x1024.Idx) : Read.val_main_v21 (F := Ideal) h p w i = outRec h p w (i 0 : Fin 4096) (i 1 : Fin 1024) := by
  have h1 : (i 1).val < 1024 := (i 1).isLt
  rw [Read.val_main_v21_apply]
  unfold outRec
  refine Finset.sum_congr rfl fun k _ => congrArg₂ (· * ·) (branchAt h p _) ?_
  rw [Read.val_main_v20_apply, Read.val_main_v19_apply]
  refine congrArg w (funext fun a => Fin.ext ?_)
  match a with
  | ⟨0, _⟩ => rfl
  | ⟨1, _⟩ => show (k.val * 1024 + (i 1).val) / 1024 % 1024 = k.val; omega
  | ⟨2, _⟩ => show (k.val * 1024 + (i 1).val) % 1024 = (i 1).val; omega

/-- The reference's gates. -/
theorem gateAt (j : S4096x2048.Idx) (n : Fin 7168) (hn : n.val = 5120 + (j 1).val) : Read.val_main_v30 (F := Ideal) p b j
    = Ideal.logistic ((p (ix2 (j 0 : Fin 4096) n) : EReal) + (b (ix1 (j 1 : Fin 2048)) : EReal)) := by
  rw [Read.val_main_v30_apply, Read.val_main_v29_apply, Read.val_main_cst_4_apply, Read.val_main_v28_apply, Read.val_main_v27_apply,
    Read.val_main_cst_3_apply, Read.val_main_v26_apply, Read.val_main_v25_apply, Read.val_main_v24_apply, Read.val_main_v23_apply,
    Read.val_main_v22_apply, Read.val_main_v1_apply]
  refine (logistic_form _).trans (congrArg Ideal.logistic (congrArg₂ (· + ·) (congrArg p (funext fun a => Fin.ext ?_)) (congrArg b (funext fun a => Fin.ext ?_))))
  · match a with
    | ⟨0, _⟩ => rfl
    | ⟨1, _⟩ => exact hn.symm
  · match a with
    | ⟨0, _⟩ => rfl

/-- The reference's gated sum. -/
theorem mergedAt (i : S4096x1024.Idx) : Read.val_main_v35 (F := Ideal) pa h p b w i = merged pa h p b w (i 0 : Fin 4096) (i 1 : Fin 1024) := by
  rw [Read.val_main_v35_apply, Read.val_main_v33_apply, Read.val_main_v34_apply, outConvAt, outRecAt, Read.val_main_v31_apply, Read.val_main_v32_apply,
    gateAt p b _ ⟨5120 + (i 1).val, by have h1 : (i 1).val < 1024 := (i 1).isLt; omega⟩ rfl,
    gateAt p b _ ⟨6144 + (i 1).val, by have h1 : (i 1).val < 1024 := (i 1).isLt; omega⟩ (by show 6144 + (i 1).val = 5120 + (1024 + (i 1).val); omega)]
  rfl

/-- The reference's rows before the norm. -/
theorem before (i : S4096x1024.Idx) : Read.val_main_v41 (F := Ideal) pa h p b w x i = pre pa h p b w x (i 0 : Fin 4096) (i 1 : Fin 1024) := by
  have h1 : (i 1).val < 1024 := (i 1).isLt
  rw [Read.val_main_v41_apply, Read.val_main_v37_apply, Read.val_main_v36_apply, Read.val_main_cst_5_apply, Read.val_main_v40_apply]
  unfold pre
  refine congrArg₂ (· + ·) (congrArg₂ (· * ·) rfl (congrArg x (ValueIdx.eq_ix2 i)))
    (Finset.sum_congr rfl fun k _ => congrArg₂ (· * ·) (mergedAt pa h p b w _) ?_)
  rw [Read.val_main_v39_apply, Read.val_main_v38_apply]
  refine congrArg w (funext fun a => Fin.ext ?_)
  match a with
  | ⟨0, _⟩ => rfl
  | ⟨1, _⟩ => show (k.val * 1024 + (i 1).val) / 1024 % 1024 = k.val; omega
  | ⟨2, _⟩ => show (k.val * 1024 + (i 1).val) % 1024 = (i 1).val; omega

/-- The reference's means. -/
theorem means (i : S4096x1.Idx) : Read.val_main_v49 (F := Ideal) pa h p b w x i = mean (pre pa h p b w x (i 0 : Fin 4096)) := by
  rw [Read.val_main_v49_apply, Read.val_main_v47_apply, Read.val_main_v46_apply, Read.val_main_cst_6_apply, Read.val_main_v48_apply,
    Read.val_main_cst_7_apply]
  unfold mean
  refine congrArg₂ Ideal.div ?_ rfl
  refine (congrArg₂ (· + ·) Ideal.ofBits_zero_f32 (Finset.sum_congr rfl fun k _ => before pa h p b w x _)).trans ?_
  exact zero_add _

/-- The reference's rows less their means. -/
theorem centre (i : S4096x1024.Idx) : Read.val_main_v51 (F := Ideal) pa h p b w x i = centred (pre pa h p b w x (i 0 : Fin 4096)) (i 1 : Fin 1024) := by
  rw [Read.val_main_v51_apply, Read.val_main_v50_apply, before, means]
  rfl

/-- The reference's rows less their means, where the norm reads them. -/
theorem centre' (i : S4096x1024.Idx) : Read.val_main_v61 (F := Ideal) pa h p b w x i = centred (pre pa h p b w x (i 0 : Fin 4096)) (i 1 : Fin 1024) := by
  rw [Read.val_main_v61_apply, Read.val_main_v60_apply, before, means]
  rfl

/-- The reference's reciprocal standard deviations. -/
theorem deviations (i : S4096x1.Idx) : Read.val_main_v59 (F := Ideal) pa h p b w x i = rstd (pre pa h p b w x (i 0 : Fin 4096)) := by
  rw [Read.val_main_v59_apply, Read.val_main_v58_apply, Read.val_main_v56_apply, Read.val_main_v54_apply, Read.val_main_v53_apply,
    Read.val_main_cst_8_apply, Read.val_main_v55_apply, Read.val_main_cst_9_apply, Read.val_main_v57_apply, Read.val_main_cst_10_apply]
  unfold rstd
  refine congrArg Ideal.rsqrt (congrArg₂ (· + ·) (congrArg₂ Ideal.div ?_ rfl) rfl)
  refine (congrArg₂ (· + ·) Ideal.ofBits_zero_f32 (Finset.sum_congr rfl fun k _ => ?_)).trans (zero_add _)
  rw [Read.val_main_v52_apply, centre]
  rfl

/-- The reference's normalised rows. -/
theorem unitAt (i : S4096x1024.Idx) : Read.val_main_v63 (F := Ideal) pa h p b w x i = normed (pre pa h p b w x (i 0 : Fin 4096)) (i 1 : Fin 1024) := by
  rw [Read.val_main_v63_apply, centre', Read.val_main_v62_apply, deviations]
  rfl

/-- The gain as the reference reads it. -/
theorem gain (i : S4096x1024.Idx) : Read.val_main_v65 (F := Ideal) g i = g (ix2 (1 : Fin 3) (i 1 : Fin 1024)) := by
  have h1 : (i 1).val < 1024 := (i 1).isLt
  rw [Read.val_main_v65_apply, Read.val_main_v64_apply, Read.val_main_v43_apply, Read.val_main_v42_apply]
  refine congrArg g (funext fun a => Fin.ext ?_)
  match a with
  | ⟨0, _⟩ => rfl
  | ⟨1, _⟩ => show (i 1).val % 1024 = (i 1).val; omega

/-- The offset as the reference reads it. -/
theorem offset (i : S4096x1024.Idx) : Read.val_main_v68 (F := Ideal) o i = o (ix2 (1 : Fin 3) (i 1 : Fin 1024)) := by
  have h1 : (i 1).val < 1024 := (i 1).isLt
  rw [Read.val_main_v68_apply, Read.val_main_v67_apply, Read.val_main_v45_apply, Read.val_main_v44_apply]
  refine congrArg o (funext fun a => Fin.ext ?_)
  match a with
  | ⟨0, _⟩ => rfl
  | ⟨1, _⟩ => show (i 1).val % 1024 = (i 1).val; omega

/-- The reference's rows with gain and offset. -/
theorem result4 : Read.val_main_v69 (F := Ideal) pa h p b w x g o = rows pa h p b w x g o := by
  funext i
  rw [Read.val_main_v69_apply, Read.val_main_v66_apply, unitAt, gain, offset]
  rfl

/-- The reference's branch as an array, cast. -/
theorem result0 : Read.val_main_v70 (F := Ideal) h p = branches h p := funext fun i => branchAt h p i

/-- The reference's first product as an array, cast. -/
theorem result1 : Read.val_main_v71 (F := Ideal) pa w = outConvs pa w := funext fun i => outConvAt pa w i

/-- The reference's second product as an array, cast. -/
theorem result2 : Read.val_main_v72 (F := Ideal) h p w = outRecs h p w := funext fun i => outRecAt h p w i

/-- The reference's gated sum as an array, cast. -/
theorem result3 : Read.val_main_v73 (F := Ideal) pa h p b w = mergeds pa h p b w := funext fun i => mergedAt pa h p b w i

/-- The reference's rows with gain and offset, cast. -/
theorem result5 : Read.val_main_v74 (F := Ideal) pa h p b w x g o = rows pa h p b w x g o := by
  funext i
  rw [Read.val_main_v74_apply]
  exact congrFun (result4 pa h p b w x g o) i

/-- The reference's normalised rows as an array. -/
theorem result6 : Read.val_main_v63 (F := Ideal) pa h p b w x = unitRows pa h p b w x := funext fun i => unitAt pa h p b w x i

/-- The reference's reciprocal standard deviations as an array. -/
theorem result7 : Read.val_main_v59 (F := Ideal) pa h p b w x = devs pa h p b w x := funext fun i => deviations pa h p b w x i

end Cert.MixEndRefIdeal.Lin

namespace Cert.Proof

open Idealize.ShloMosaic Idealize.SL.Sem

/-- Kernel and reference compute the same eight arrays. -/
theorem mixEnd : Cert.algebraic_MixEndIdeal_MixEndRefIdeal := by
  intro m g m' g' _ hE
  refine ⟨fun c => Cert.MixEndIdeal.Lin.G10 m c, fun c => Cert.MixEndIdeal.Lin.G11 m c, fun c => Cert.MixEndIdeal.Lin.G12 m c, fun c => Cert.MixEndIdeal.Lin.G13 m c, fun c => Cert.MixEndIdeal.Lin.G14 m c, fun c => Cert.MixEndIdeal.Lin.G15 m c, fun c => Cert.MixEndIdeal.Lin.G16 m c, fun c => Cert.MixEndIdeal.Lin.G17 m c, ?_, ?_⟩
  · exact (θ_run (Cert.MixEndIdeal.defs (F := Ideal)) _ _).mono
      (fun r h c => ⟨(h c).1.trans (Cert.MixEndIdeal.Lin.final10 m c),
        (h c).2.1.trans (Cert.MixEndIdeal.Lin.final11 m c),
        (h c).2.2.1.trans (Cert.MixEndIdeal.Lin.final12 m c),
        (h c).2.2.2.1.trans (Cert.MixEndIdeal.Lin.final13 m c),
        (h c).2.2.2.2.1.trans (Cert.MixEndIdeal.Lin.final14 m c),
        (h c).2.2.2.2.2.1.trans (Cert.MixEndIdeal.Lin.final15 m c),
        (h c).2.2.2.2.2.2.1.trans (Cert.MixEndIdeal.Lin.final16 m c),
        (h c).2.2.2.2.2.2.2.1.trans (Cert.MixEndIdeal.Lin.final17 m c), (h c).2.2.2.2.2.2.2.2⟩)
      (Cert.MixEndIdeal.Value.run_blocks (F := Ideal) m g)
  · refine (θ_run (Cert.MixEndRefIdeal.defs (F := Ideal)) _ _).mono (fun r h c => ⟨?_, ?_, ?_, ?_, ?_, ?_, ?_, ?_, (h c).2.2.2.2.2.2.2.2⟩)
      (Cert.MixEndRefIdeal.Value.run (F := Ideal) m' g')
    all_goals obtain ⟨e0, e1, e2, e3, e4, e5, e6, e7⟩ := hE c
    · refine (h c).1.trans ((Cert.MixEndRefIdeal.Read.val_main_v70_eq _ _).trans ((Cert.MixEndRefIdeal.Lin.result0 _ _).trans ?_))
      rw [e1, e2]
    · refine (h c).2.1.trans ((Cert.MixEndRefIdeal.Read.val_main_v71_eq _ _).trans ((Cert.MixEndRefIdeal.Lin.result1 _ _).trans ?_))
      rw [e0, e4]
    · refine (h c).2.2.1.trans ((Cert.MixEndRefIdeal.Read.val_main_v72_eq _ _ _).trans ((Cert.MixEndRefIdeal.Lin.result2 _ _ _).trans ?_))
      rw [e1, e2, e4]
    · refine (h c).2.2.2.1.trans ((Cert.MixEndRefIdeal.Read.val_main_v73_eq _ _ _ _ _).trans ((Cert.MixEndRefIdeal.Lin.result3 _ _ _ _ _).trans ?_))
      rw [e0, e1, e2, e3, e4]
    · refine (h c).2.2.2.2.1.trans ((Cert.MixEndRefIdeal.Read.val_main_v69_eq m' c).trans ((Cert.MixEndRefIdeal.Lin.result4 _ _ _ _ _ _ _ _).trans ?_))
      rw [e0, e1, e2, e3, e4, e5, e6, e7]
    · refine (h c).2.2.2.2.2.1.trans ((Cert.MixEndRefIdeal.Read.val_main_v74_eq m' c).trans ((Cert.MixEndRefIdeal.Lin.result5 _ _ _ _ _ _ _ _).trans ?_))
      rw [e0, e1, e2, e3, e4, e5, e6, e7]
    · refine (h c).2.2.2.2.2.2.1.trans ((Cert.MixEndRefIdeal.Read.val_main_v63_eq m' c).trans ((Cert.MixEndRefIdeal.Lin.result6 _ _ _ _ _ _).trans ?_))
      rw [e0, e1, e2, e3, e4, e5]
    · refine (h c).2.2.2.2.2.2.2.1.trans ((Cert.MixEndRefIdeal.Read.val_main_v59_eq m' c).trans ((Cert.MixEndRefIdeal.Lin.result7 _ _ _ _ _ _).trans ?_))
      rw [e0, e1, e2, e3, e4, e5]

end Cert.Proof

end
-- ==== Proof.Lin.NormBack.lean ====
/- The derivative of the layer norm of a row of real numbers: the form with two means, and the form a differentiation of the norm's
   lines gives. -/
module

public import proofs.«01_k».proof.Proof.Lin.Norm
public import proofs.«01_k».proof.Proof.Val.Has

@[expose] public section

noncomputable section

namespace Cert.Lin

open Idealize.ShloMosaic

section
variable (z d g : Fin 1024 → EReal)

/-- The variance of a row, and the small constant. -/
def spread : EReal := Ideal.div (∑ k, centred z k * centred z k) (Ideal.ofBits .f32 0x44800000#32) + Ideal.ofBits .f32 0x3727C5AC#32

/-- The derivative with two means: `z` the row, `d` the cotangent, `g` the gain. -/
def back (q : Fin 1024) : EReal :=
  rstd z * (d q * g q - mean (fun k => d k * g k) - normed z q * mean (fun k => d k * g k * normed z k))

/-- What comes back through the variance. -/
def viaSpread : EReal :=
  Ideal.div ((∑ k, centred z k * (d k * g k)) * (Ideal.ofBits .f32 0xBF000000#32 * Ideal.div (rstd z) (spread z))) (Ideal.ofBits .f32 0x44800000#32)

/-- The derivative as the norm's lines give it, one after the other. -/
def backLines (q : Fin 1024) : EReal :=
  d q * g q * rstd z + viaSpread z d g * (Ideal.ofBits .f32 0x40000000#32 * centred z q)
    + Ideal.div ((∑ k, -(d k * g k * rstd z)) + ∑ k, -(viaSpread z d g * (Ideal.ofBits .f32 0x40000000#32 * centred z k)))
      (Ideal.ofBits .f32 0x44800000#32)
end

theorem lit1024 : Ideal.ofBits .f32 0x44800000#32 = ((1024 : ℝ) : EReal) := by
  simp [Ideal.ofBits, Ideal.ieee, -EReal.coe_mul, -EReal.coe_neg]; norm_num
theorem litNegHalf : Ideal.ofBits .f32 0xBF000000#32 = ((-1 / 2 : ℝ) : EReal) := by
  simp [Ideal.ofBits, Ideal.ieee, -EReal.coe_mul, -EReal.coe_neg]; norm_num
/-- The small constant is a positive number. -/
theorem litEps : ∃ e : ℝ, 0 < e ∧ Ideal.ofBits .f32 0x3727C5AC#32 = ((e : ℝ) : EReal) := by
  refine ⟨_, ?_, by simp [Ideal.ofBits, Ideal.ieee, -EReal.coe_mul, -EReal.coe_neg]; rfl⟩
  norm_num

theorem div1024 (x : ℝ) : Ideal.div (x : EReal) (Ideal.ofBits .f32 0x44800000#32) = ((x / 1024 : ℝ) : EReal) := by
  rw [lit1024, Ideal.div_coe (by norm_num), ← EReal.coe_mul, mul_one_div]

section
variable (z d g : Fin 1024 → ℝ)

/-- A row of real numbers among the extended ones. -/
abbrev lift (z : Fin 1024 → ℝ) : Fin 1024 → EReal := fun k => ((z k : ℝ) : EReal)

/-- The entries less their mean. -/
def dev (q : Fin 1024) : ℝ := z q - (∑ k, z k) / 1024

theorem mean_lift : mean (lift z) = (((∑ k, z k) / 1024 : ℝ) : EReal) := by
  unfold mean
  rw [Cert.Val.coe_sum, div1024]

theorem centred_lift (q : Fin 1024) : centred (lift z) q = ((dev z q : ℝ) : EReal) := by
  unfold centred
  rw [mean_lift, ← EReal.coe_sub]
  rfl

/-- The deviations add up to nothing. -/
theorem sum_dev : ∑ k, dev z k = 0 := by
  unfold dev
  rw [Finset.sum_sub_distrib, Finset.sum_const, Finset.card_univ, Fintype.card_fin, nsmul_eq_mul]
  push_cast
  ring

/-- The variance and the constant are a positive number, and the reciprocal root is its. -/
theorem spread_lift : ∃ v : ℝ, 0 < v ∧ spread (lift z) = ((v : ℝ) : EReal) ∧ rstd (lift z) = (((Real.sqrt v)⁻¹ : ℝ) : EReal) := by
  obtain ⟨e, he, hw⟩ := litEps
  have hs : spread (lift z) = (((∑ k, dev z k * dev z k) / 1024 + e : ℝ) : EReal) := by
    unfold spread
    simp only [centred_lift, ← EReal.coe_mul]
    rw [Cert.Val.coe_sum, div1024, hw, ← EReal.coe_add]
  have hv : 0 < (∑ k, dev z k * dev z k) / 1024 + e :=
    add_pos_of_nonneg_of_pos (div_nonneg (Finset.sum_nonneg fun k _ => mul_self_nonneg _) (by norm_num)) he
  refine ⟨_, hv, hs, ?_⟩
  show Ideal.rsqrt (spread (lift z)) = _
  rw [hs, Ideal.rsqrt_coe, if_neg (not_lt.mpr hv.le), if_neg hv.ne']

/-- Both forms of the derivative are one real number. -/
theorem back_lift (q : Fin 1024) : ∃ r : ℝ, back (lift z) (lift d) (lift g) q = ((r : ℝ) : EReal)
    ∧ backLines (lift z) (lift d) (lift g) q = ((r : ℝ) : EReal) := by
  obtain ⟨v, hv, hs, hr⟩ := spread_lift z
  have hq : Real.sqrt v ≠ 0 := (Real.sqrt_pos.mpr hv).ne'
  have hqq : Real.sqrt v * Real.sqrt v = v := Real.mul_self_sqrt hv.le
  generalize Real.sqrt v = s at *
  have hn (k) : normed (lift z) k = ((dev z k * s⁻¹ : ℝ) : EReal) := by
    unfold normed
    rw [centred_lift, hr, ← EReal.coe_mul]
  have hb : back (lift z) (lift d) (lift g) q = ((s⁻¹ * (d q * g q - (∑ k, d k * g k) / 1024
      - dev z q * s⁻¹ * ((∑ k, d k * g k * (dev z k * s⁻¹)) / 1024)) : ℝ) : EReal) := by
    unfold back mean
    simp only [hn, hr, lift, ← EReal.coe_mul]
    rw [Cert.Val.coe_sum, Cert.Val.coe_sum, div1024, div1024]
    simp only [← EReal.coe_mul, ← EReal.coe_sub]
  refine ⟨_, hb, ?_⟩
  have hu : viaSpread (lift z) (lift d) (lift g) = (((∑ k, dev z k * (d k * g k)) * (-1 / 2 * (s⁻¹ / v)) / 1024 : ℝ) : EReal) := by
    unfold viaSpread
    simp only [centred_lift, hr, hs, lift, ← EReal.coe_mul]
    rw [Cert.Val.coe_sum, litNegHalf, Ideal.div_coe hv.ne', ← EReal.coe_mul, ← EReal.coe_mul, ← EReal.coe_mul, div1024, mul_one_div]
  unfold backLines
  rw [hu, hr, Cert.Val.lit2]
  simp only [centred_lift, lift, ← EReal.coe_mul, ← EReal.coe_neg]
  rw [Cert.Val.coe_sum, Cert.Val.coe_sum, ← EReal.coe_add, ← EReal.coe_add, div1024, ← EReal.coe_add]
  refine congrArg Real.toEReal ?_
  have e1 : ∑ k, -((∑ k, dev z k * (d k * g k)) * (-1 / 2 * (s⁻¹ / v)) / 1024 * (2 * dev z k)) = 0 := by
    rw [Finset.sum_neg_distrib, ← Finset.mul_sum, ← Finset.mul_sum, sum_dev]
    ring
  have e2 : ∑ k, d k * g k * (dev z k * s⁻¹) = (∑ k, dev z k * (d k * g k)) * s⁻¹ := by
    rw [Finset.sum_mul]
    exact Finset.sum_congr rfl fun k _ => by ring
  have e3 : ∑ k, -(d k * g k * s⁻¹) = -((∑ k, d k * g k) * s⁻¹) := by
    rw [Finset.sum_neg_distrib, Finset.sum_mul]
  rw [e1, e2, e3, ← hqq]
  field_simp
  ring
end

end Cert.Lin

end
-- ==== Proof.Lin.BackRef.lean ====
/- What the second feed forward backward call computes: the derivative through the third layer norm, its half cast, the derivatives of
   gate and up projection side by side, and the derivatives of gain and offset.  The reference's lines give exactly these, entry by
   entry, wherever every argument but the gate is finite. -/
module

public import proofs.«01_k».proof.Proof.Lin.NormBack
public import proofs.«01_k».proof.Proof.Gen.FfnBackRefIdeal.Read
public import Idealize.ShloMosaic.Lib.Pointwise

@[expose] public section

set_option maxRecDepth 16384

noncomputable section

namespace Cert.FfnBackRefIdeal.Lin

open Cert.FfnBackRefIdeal Cert.FfnBackRefIdeal.Gen
open Idealize.ShloMosaic hiding ix0 ix1 ix2 ix3 ix4
open Idealize.ShloMosaic.TcCoe Idealize.ShloMosaic.ValueIdx
open Cert.Lin

section
variable (z d : FVec Ideal S4096x1024 .f32) (l : FVec Ideal S3x1024 .f32) (w : FVec Ideal S2x2816x1024 .f32) (g u : FVec Ideal S4096x2816 .f32)

/-- A row of the layer's rows. -/
def row (R : Fin 4096) : Fin 1024 → EReal := fun k => z (ix2 R k)
/-- The third norm's gain. -/
def gain : Fin 1024 → EReal := fun k => l (ix2 (2 : Fin 3) k)

/-- The derivative through the norm. -/
def through (R : Fin 4096) (q : Fin 1024) : EReal := back (row z R) (row d R) (gain l) q
/-- The derivative of the feed forward branch's result: one half of the former. -/
def branchGrad (R : Fin 4096) (q : Fin 1024) : EReal := (Ideal.ofBits .f32 0x3F000000#32 : EReal) * through z d l R q
/-- The derivative of the activations. -/
def actGrad (R : Fin 4096) (n : Fin 2816) : EReal := ∑ k : Fin 1024, branchGrad z d l R k * (w (ix3 (1 : Fin 2) n k) : EReal)
/-- The gate's derivative from the activation's `a`, the up projection's entry `u` and the gate's `g`. -/
def gateGrad (a u g : EReal) : EReal := a * u * (Ideal.logistic g * (1 + g * (1 - Ideal.logistic g)))
/-- The up projection's derivative. -/
def upGrad (a g : EReal) : EReal := a * (g * Ideal.logistic g)

/-- Where a quarter's column lies. -/
def col (j : Fin 8) (s : Fin 704) : Fin 2816 := ⟨j.val % 4 * 704 + s.val, by omega⟩
/-- Both derivatives, quarter by quarter: the gate's first. -/
def pair (j : Fin 8) (R : Fin 4096) (s : Fin 704) : EReal :=
  if j.val < 4 then gateGrad (actGrad z d l w R (col j s)) (u (ix2 R (col j s))) (g (ix2 R (col j s)))
  else upGrad (actGrad z d l w R (col j s)) (g (ix2 R (col j s)))
/-- The derivatives of gain (row 0) and offset (row 1). -/
def normGrad (r : Fin 2) (q : Fin 1024) : EReal :=
  if r.val = 0 then ∑ R : Fin 4096, (d (ix2 R q) : EReal) * normed (row z R) q else ∑ R : Fin 4096, (d (ix2 R q) : EReal)

theorem zeroAdd (x : EReal) : (Ideal.ofBits .f32 0x00000000#32 : EReal) + x = x := by
  rw [Ideal.ofBits_zero_f32]
  exact zero_add x

theorem means (i : S4096x1.Idx) : Read.val_main_v6 (F := Ideal) z i = mean (row z (i 0 : Fin 4096)) := by
  rw [Read.val_main_v6_apply, Read.val_main_v4_apply, Read.val_main_v3_apply]
  refine congrArg₂ Ideal.div ((zeroAdd _).trans (Finset.sum_congr rfl fun k _ => congrArg z (funext fun a => Fin.ext ?_))) rfl
  match a with
  | ⟨0, _⟩ => rfl
  | ⟨1, _⟩ => rfl

theorem centre (i : S4096x1024.Idx) : Read.val_main_v8 (F := Ideal) z i = centred (row z (i 0 : Fin 4096)) (i 1 : Fin 1024) := by
  rw [Read.val_main_v8_apply, Read.val_main_v7_apply, means]
  exact congrArg₂ (· - ·) (congrArg z (ValueIdx.eq_ix2 i)) rfl

theorem centre' (i : S4096x1024.Idx) : Read.val_main_v23 (F := Ideal) z i = centred (row z (i 0 : Fin 4096)) (i 1 : Fin 1024) := by
  rw [Read.val_main_v23_apply, Read.val_main_v22_apply, means]
  exact congrArg₂ (· - ·) (congrArg z (ValueIdx.eq_ix2 i)) rfl

theorem spreads (i : S4096x1.Idx) : Read.val_main_v17 (F := Ideal) z i = spread (row z (i 0 : Fin 4096)) := by
  rw [Read.val_main_v17_apply, Read.val_main_v15_apply, Read.val_main_v13_apply, Read.val_main_v12_apply]
  refine congrArg₂ (· + ·) (congrArg₂ Ideal.div ((zeroAdd _).trans (Finset.sum_congr rfl fun k _ => ?_)) rfl) rfl
  rw [Read.val_main_v9_apply, centre]
  rfl

theorem deviations (i : S4096x1.Idx) : Read.val_main_v18 (F := Ideal) z i = rstd (row z (i 0 : Fin 4096)) := by
  rw [Read.val_main_v18_apply, spreads]
  rfl

/-- The reference's normalised rows. -/
theorem unitAt (i : S4096x1024.Idx) : Read.val_main_v25 (F := Ideal) z i = normed (row z (i 0 : Fin 4096)) (i 1 : Fin 1024) := by
  rw [Read.val_main_v25_apply, centre', Read.val_main_v24_apply, deviations]
  rfl

/-- The cotangent times the gain, as the reference reads it. -/
theorem weighted (i : S4096x1024.Idx) : Read.val_main_v40 (F := Ideal) d l i
    = row d (i 0 : Fin 4096) (i 1 : Fin 1024) * gain l (i 1 : Fin 1024) := by
  have h0 : (i 0).val < 4096 := (i 0).isLt
  have h1 : (i 1).val < 1024 := (i 1).isLt
  rw [Read.val_main_v40_apply, Read.val_main_v32_apply, Read.val_main_v39_apply, Read.val_main_v26_apply, Read.val_main_v1_apply, Read.val_main_v0_apply]
  refine congrArg₂ (· * ·) (congrArg d (funext fun a => Fin.ext ?_)) (congrArg l (funext fun a => Fin.ext ?_))
  · match a with
    | ⟨0, _⟩ => first | rfl | (show ((i 0).val * 1024 + (i 1).val) / 1024 = (i 0).val; omega)
    | ⟨1, _⟩ => first | rfl | (show ((i 0).val * 1024 + (i 1).val) % 1024 = (i 1).val; omega)
  · match a with
    | ⟨0, _⟩ => rfl
    | ⟨1, _⟩ => show (i 1).val % 1024 = (i 1).val; omega

/-- A column of one entry per row, read as one list. -/
theorem flat44 (i : S4096x1.Idx) : Read.idx_main_v44 i = ix1 (i 0 : Fin 4096) := by
  have h1 : (i 1).val < 1 := (i 1).isLt
  refine funext fun a => Fin.ext ?_
  match a with
  | ⟨0, _⟩ => show (i 0).val * 1 + (i 1).val = (i 0).val; omega
theorem flat49 (i : S4096x1.Idx) : Read.idx_main_v49 i = ix1 (i 0 : Fin 4096) := flat44 i
theorem flat58 (i : S4096x1.Idx) : Read.idx_main_v58 i = ix1 (i 0 : Fin 4096) := flat44 i

theorem through_sum (i : S4096x1.Idx) : Read.val_main_v52 (F := Ideal) z d l i
    = viaSpread (row z (i 0 : Fin 4096)) (row d (i 0 : Fin 4096)) (gain l) := by
  rw [Read.val_main_v52_apply, Read.val_main_v50_apply, Read.val_main_v44_apply, Read.val_main_v43_apply, Read.val_main_v21_apply,
    Read.val_main_v19_apply, deviations, spreads]
  refine congrArg₂ Ideal.div (congrArg₂ (· * ·) ((zeroAdd _).trans (Finset.sum_congr rfl fun k _ => ?_)) rfl) rfl
  rw [Read.val_main_v42_apply, centre', weighted, flat44]
  rfl

theorem sumOne (f : Fin 1 → EReal) : (Ideal.ofBits .f32 0x00000000#32 : EReal) + ∑ k : Fin 1, f k = f 0 :=
  (zeroAdd _).trans (Fin.sum_univ_one f)

theorem direct (i : S4096x1024.Idx) : Read.val_main_v46 (F := Ideal) z d l i
    = row d (i 0 : Fin 4096) (i 1 : Fin 1024) * gain l (i 1 : Fin 1024) * rstd (row z (i 0 : Fin 4096)) := by
  rw [Read.val_main_v46_apply, weighted, Read.val_main_v45_apply, deviations]
  rfl

theorem indirect (i : S4096x1024.Idx) : Read.val_main_v55 (F := Ideal) z d l i
    = viaSpread (row z (i 0 : Fin 4096)) (row d (i 0 : Fin 4096)) (gain l)
      * ((Ideal.ofBits .f32 0x40000000#32 : EReal) * centred (row z (i 0 : Fin 4096)) (i 1 : Fin 1024)) := by
  rw [Read.val_main_v55_apply, Read.val_main_v54_apply, Read.val_main_v53_apply, Read.val_main_v11_apply, centre]
  refine congrArg₂ (· * ·) ((sumOne _).trans (through_sum z d l _)) rfl

/-- The reference's derivative through the norm is the one its lines give. -/
theorem lines (i : S4096x1024.Idx) : Read.val_main_v65 (F := Ideal) z d l i
    = backLines (row z (i 0 : Fin 4096)) (row d (i 0 : Fin 4096)) (gain l) (i 1 : Fin 1024) := by
  rw [Read.val_main_v65_apply, Read.val_main_v59_apply, direct, indirect, Read.val_main_v64_apply, Read.val_main_v63_apply]
  refine congrArg₂ (· + ·) rfl ((sumOne _).trans ?_)
  rw [Read.val_main_v62_apply, Read.val_main_v60_apply, Read.val_main_v49_apply, Read.val_main_v48_apply, Read.val_main_v58_apply,
    Read.val_main_v57_apply]
  refine congrArg₂ Ideal.div (congrArg₂ (· + ·) ((zeroAdd _).trans (Finset.sum_congr rfl fun k _ => ?_))
    ((zeroAdd _).trans (Finset.sum_congr rfl fun k _ => ?_))) rfl
  · rw [Read.val_main_v47_apply, direct, flat49]
    rfl
  · rw [Read.val_main_v56_apply, indirect, flat58]
    rfl

theorem sigmoid (i : S4096x2816.Idx) : Read.val_main_v71_2 (F := Ideal) g i = Ideal.logistic (g i) := by
  rw [Read.val_main_v71_2_apply, Read.val_main_call0_v4_apply, Read.val_main_call0_cst_0_apply, Read.val_main_call0_v3_apply,
    Read.val_main_call0_v2_apply, Read.val_main_call0_cst_apply, Read.val_main_call0_v1_apply, Read.val_main_call0_v0_apply]
  show Ideal.div (Ideal.ofBits .f32 0x3F800000#32) (Ideal.ofBits .f32 0x3F800000#32 + Ideal.exp (-(g i : EReal))) = Ideal.logistic (g i)
  rw [Ideal.ofBits_one_f32]
  rfl

theorem slope (i : S4096x2816.Idx) : Read.val_main_v71_1 (F := Ideal) g i = Ideal.logistic (g i) * (1 - Ideal.logistic (g i)) := by
  rw [Read.val_main_v71_1_apply, Read.val_main_call0_v7_apply, sigmoid, Read.val_main_call0_v6_apply, Read.val_main_call0_cst_1_apply]
  show Ideal.logistic (g i) * ((Ideal.ofBits .f32 0x3F800000#32 : EReal) - Ideal.logistic (g i)) = _
  rw [Ideal.ofBits_one_f32]

/-- The reference's derivatives of gain and offset. -/
theorem resultNorm : Read.val_main_v87 (F := Ideal) z d = fun i => normGrad z d (i 0) (i 1) := by
  funext i
  obtain ⟨r, q, rfl⟩ : ∃ r : Fin 2, ∃ q : Fin 1024, i = ix2 r q := ⟨i 0, i 1, ValueIdx.eq_ix2 i⟩
  have e0 : ∀ y : S1x1024.Idx, (y 1).val = q.val → Read.val_main_v85 (F := Ideal) z d y
      = ∑ R : Fin 4096, (d (ix2 R q) : EReal) * normed (row z R) q := by
    intro y hy
    rw [Read.val_main_v85_apply, Read.val_main_v41_apply]
    refine (sumOne _).trans ?_
    rw [Read.val_main_v38_apply, Read.val_main_v37_apply]
    refine (zeroAdd _).trans (Finset.sum_congr rfl fun R _ => ?_)
    have hi : ∀ j : S4096x1024.Idx, (j 0).val = R.val → (j 1).val = q.val → j = ix2 R q := fun j ha hb =>
      (ValueIdx.eq_ix2 j).trans (congrArg₂ (fun (a : Fin 4096) (b : Fin 1024) => (ix2 a b : S4096x1024.Idx)) (Fin.ext ha) (Fin.ext hb))
    refine (congrArg (Read.val_main_v36 (F := Ideal) z d) (hi _ rfl (by show 0 * 1024 + (y 1).val = q.val; omega))).trans ?_
    rw [Read.val_main_v36_apply, Read.val_main_v32_apply, unitAt]
    refine (mul_comm _ _).trans (congrArg₂ (· * ·) (congrArg d (hi _ ?_ ?_)) rfl)
    · first | rfl | (show (R.val * 1024 + q.val) / 1024 = R.val; omega)
    · first | rfl | (show (R.val * 1024 + q.val) % 1024 = q.val; omega)
  have e1 : ∀ y : S1x1024.Idx, (y 1).val = q.val → Read.val_main_v86 (F := Ideal) d y = ∑ R : Fin 4096, (d (ix2 R q) : EReal) := by
    intro y hy
    rw [Read.val_main_v86_apply, Read.val_main_v35_apply]
    refine (sumOne _).trans ?_
    rw [Read.val_main_v34_apply, Read.val_main_v33_apply]
    refine (zeroAdd _).trans (Finset.sum_congr rfl fun R _ => congrArg d ?_)
    refine funext fun a => Fin.ext ?_
    match a with
    | ⟨0, _⟩ => rfl
    | ⟨1, _⟩ => show 0 * 1024 + (y 1).val = q.val; omega
  unfold Read.val_main_v87
  generalize Read.val_main_v85 (F := Ideal) z d = y0 at *
  generalize Read.val_main_v86 (F := Ideal) d = y1 at *
  match r with
  | 0 => exact (by pointwise []; rfl : _ = y0 (ix2 (0 : Fin 1) q)).trans (e0 _ rfl)
  | 1 => exact (by pointwise []; rfl : _ = y1 (ix2 (0 : Fin 1) q)).trans (e1 _ rfl)

/-- Every element is a real number. -/
def AllReal {S : Shape} (x : S.Idx → EReal) : Prop := ∀ i, x i = ((x i).toReal : EReal)

theorem litHalf : Ideal.ofBits .f32 0x3F000000#32 = ((1 / 2 : ℝ) : EReal) := by
  simp [Ideal.ofBits, Ideal.ieee, -EReal.coe_mul, -EReal.coe_neg]; norm_num

/-- The gate's derivative as the reference adds it up, for a real activation's derivative and a real entry, whatever the gate. -/
theorem gate_eq (a u : ℝ) (g : EReal) :
    (a : EReal) * u * Ideal.logistic g + g * ((a : EReal) * u) * (Ideal.logistic g * (1 - Ideal.logistic g)) = gateGrad a u g := by
  unfold gateGrad
  rw [← EReal.coe_mul]
  induction g with
  | bot => simp
  | top => simp [show (1 : EReal) - 1 = 0 by rw [← EReal.coe_one, ← EReal.coe_sub]; simp]
  | coe x =>
    rw [Ideal.logistic_coe]
    generalize (1 + Real.exp (-x))⁻¹ = s
    rw [← EReal.coe_one, ← EReal.coe_sub]
    simp only [← EReal.coe_mul, ← EReal.coe_add]
    exact congrArg _ (by ring)

variable (hz : AllReal z) (hd : AllReal d) (hl : AllReal l) (hw : AllReal w) (hu : AllReal u)

include hz hd hl in
/-- The derivative through the norm is a real number, and both forms give it. -/
theorem through_real (R : Fin 4096) (q : Fin 1024) :
    ∃ r : ℝ, through z d l R q = r ∧ backLines (row z R) (row d R) (gain l) q = r := by
  unfold through
  rw [show row z R = lift fun k => (z (ix2 R k)).toReal from funext fun k => hz _, show row d R = lift fun k => (d (ix2 R k)).toReal from funext fun k => hd _,
    show gain l = lift fun k => (l (ix2 (2 : Fin 3) k)).toReal from funext fun k => hl _]
  exact back_lift _ _ _ q

include hz hd hl in
theorem lines_through (i : S4096x1024.Idx) : Read.val_main_v65 (F := Ideal) z d l i = through z d l (i 0) (i 1) := by
  obtain ⟨r, h1, h2⟩ := through_real z d l hz hd hl (i 0) (i 1)
  exact (lines z d l i).trans (h2.trans h1.symm)

include hz hd hl in
/-- The reference's first result. -/
theorem resultThrough : Read.val_main_v65 (F := Ideal) z d l = fun i => through z d l (i 0) (i 1) :=
  funext fun i => lines_through z d l hz hd hl i

include hz hd hl in
theorem half_through (i : S4096x1024.Idx) : Read.val_main_v70 (F := Ideal) z d l i = branchGrad z d l (i 0) (i 1) := by
  rw [Read.val_main_v70_apply, lines_through z d l hz hd hl]
  rfl

include hz hd hl in
/-- The reference's second result. -/
theorem resultBranch : Read.val_main_v80 (F := Ideal) z d l = fun i => branchGrad z d l (i 0) (i 1) := by
  funext i
  rw [Read.val_main_v80_apply]
  exact half_through z d l hz hd hl i

include hz hd hl in
theorem act (i : S4096x2816.Idx) : Read.val_main_v76 (F := Ideal) z d l w i = actGrad z d l w (i 0) (i 1) := by
  have h1 : (i 1).val < 2816 := (i 1).isLt
  rw [Read.val_main_v76_apply]
  refine Finset.sum_congr rfl fun k _ => congrArg₂ (· * ·) (half_through z d l hz hd hl _) ?_
  rw [Read.val_main_v74_apply, Read.val_main_v73_apply]
  refine congrArg w (funext fun a => Fin.ext ?_)
  match a with
  | ⟨0, _⟩ => rfl
  | ⟨1, _⟩ => show ((i 1).val * 1024 + k.val) / 1024 % 2816 = (i 1).val; omega
  | ⟨2, _⟩ => show ((i 1).val * 1024 + k.val) % 1024 = k.val; omega

include hz hd hl hw in
theorem act_real (R : Fin 4096) (n : Fin 2816) : ∃ r : ℝ, actGrad z d l w R n = r := by
  refine ⟨∑ k : Fin 1024, 1 / 2 * (through z d l R k).toReal * (w (ix3 (1 : Fin 2) n k)).toReal, ?_⟩
  rw [← Cert.Val.coe_sum]
  refine Finset.sum_congr rfl fun k _ => ?_
  obtain ⟨r, h1, -⟩ := through_real z d l hz hd hl R k
  unfold branchGrad
  rw [h1, hw (ix3 (1 : Fin 2) n k), litHalf, EReal.toReal_coe, EReal.toReal_coe, EReal.coe_mul, EReal.coe_mul]

include hz hd hl in
theorem second (i : S4096x2816.Idx) : Read.val_main_v77 (F := Ideal) z d l w g i = upGrad (actGrad z d l w (i 0) (i 1)) (g i) := by
  rw [Read.val_main_v77_apply, Read.val_main_v71_0_apply, sigmoid, act z d l w hz hd hl]
  exact mul_comm _ _

include hz hd hl hw hu in
theorem first (i : S4096x2816.Idx) : Read.val_main_v79 (F := Ideal) z d l w g u i = gateGrad (actGrad z d l w (i 0) (i 1)) (u i) (g i) := by
  rw [Read.val_main_v79_apply, Read.val_main_call1_v1_apply, Read.val_main_call1_v2_apply, Read.val_main_call1_v0_apply,
    Read.val_main_v78_apply, sigmoid, slope, act z d l w hz hd hl]
  obtain ⟨r, h⟩ := act_real z d l w hz hd hl hw (i 0) (i 1)
  rw [h, hu i]
  exact gate_eq _ _ _

/-- Two arrays side by side. -/
theorem beside (y0 y1 : FVec Ideal S4096x2816 .f32) (i : S4096x5632.Idx) :
    concatenate S4096x5632 1 [⟨S4096x2816, y0⟩, ⟨S4096x2816, y1⟩] concatenates_S4096x2816_S4096x2816_S4096x5632_d1 i
      = if h : (i 1).val < 2816 then y0 (ix2 (i 0 : Fin 4096) (⟨(i 1).val, h⟩ : Fin 2816))
        else y1 (ix2 (i 0 : Fin 4096) (⟨(i 1).val - 2816, by have : (i 1).val < 5632 := (i 1).isLt; omega⟩ : Fin 2816)) := by
  obtain ⟨R, q, rfl⟩ : ∃ R : Fin 4096, ∃ q : Fin 5632, i = ix2 R q := ⟨i 0, i 1, ValueIdx.eq_ix2 i⟩
  pointwise []
  have q1 : ((ix2 R q : S4096x5632.Idx) 1).val = q.val := rfl
  by_cases h : q.val < 2816
  · rw [dif_pos (by simpa using h), dif_pos h]; rfl
  · rw [dif_neg (by simpa using h), dif_neg h]; rfl

include hz hd hl hw hu in
/-- The reference's third result. -/
theorem resultPair : Read.val_main_v84 (F := Ideal) z d l w g u = fun i => pair z d l w g u (i 0) (i 1) (i 2) := by
  funext i
  have h0 : (i 0).val < 8 := (i 0).isLt
  have h1 : (i 1).val < 4096 := (i 1).isLt
  have h2 : (i 2).val < 704 := (i 2).isLt
  rw [Read.val_main_v84_apply, Read.val_main_v83_apply, Read.val_main_v82_apply]
  unfold Read.val_main_v81 pair
  obtain ⟨p, hp⟩ : ∃ p, p = Read.idx_main_v82 (Read.idx_main_v83 i) := ⟨_, rfl⟩
  have p0 : (p 0).val = (i 1).val := by
    rw [hp]; show (((i 1).val * 8 + (i 0).val) * 704 + (i 2).val) / 5632 = (i 1).val; omega
  have p1 : (p 1).val = (i 0).val * 704 + (i 2).val := by
    rw [hp]; show (((i 1).val * 8 + (i 0).val) * 704 + (i 2).val) % 5632 = _; omega
  have hj : ∀ (n : ℕ) (hn : n < 2816), n = (i 0).val % 4 * 704 + (i 2).val →
      (ix2 (p 0 : Fin 4096) (⟨n, hn⟩ : Fin 2816) : S4096x2816.Idx) = ix2 (i 1 : Fin 4096) (col (i 0) (i 2)) := fun n hn e =>
    congrArg₂ (fun (a : Fin 4096) (b : Fin 2816) => (ix2 a b : S4096x2816.Idx)) (Fin.ext p0) (Fin.ext e)
  rw [← hp]
  refine (beside _ _ p).trans ?_
  by_cases h : (i 0).val < 4
  · rw [dif_pos (by omega), if_pos h, hj _ _ (by omega)]
    exact first z d l w g u hz hd hl hw hu _
  · rw [dif_neg (by omega), if_neg h, hj _ _ (by omega)]
    exact second z d l w g hz hd hl _

end

end Cert.FfnBackRefIdeal.Lin
-- ==== Proof.Lin.BackBlocks.lean ====
/- The blocks of the second feed forward backward call at one grid point: 256 rows of the derivative through the norm, of its half, of
   the derivatives of gate and up projection (four quarters of the columns each), and what the point adds to the derivatives of gain and
   offset. -/
module

public import proofs.«01_k».proof.Proof.Lin.BackRef
public import proofs.«01_k».proof.Proof.Lin.Sigmoid
public import proofs.«01_k».proof.Proof.Gen.FfnBackIdeal.Value
public import Idealize.ShloMosaic.Lib.Pipeline.RowLoads

@[expose] public section

set_option maxRecDepth 16384

noncomputable section

namespace Cert.FfnBackIdeal.Lin

open Cert.FfnBackIdeal Cert.FfnBackIdeal.Gen
open Idealize.ShloMosaic hiding ix0 ix1 ix2 ix3 ix4
open Idealize.ShloMosaic.TcCoe Idealize.ShloMosaic.ValueIdx Idealize.SL.Sem
open Cert.FfnBackRefIdeal.Lin (gateGrad upGrad)
open Cert.Lin

theorem hz : (![0, 0] : Fin 2 → Nat) = fun _ => 0 := by decide

/-- A row of a block's cotangent times gain. -/
def wrow (x0 : Vec Ideal S256x1024 .f32) (v : Vec Ideal S1x1024 .f32) (r : Fin 256) : Fin 1024 → EReal :=
  fun k => (x0 (ix2 r k) : EReal) * (v (ix2 (0 : Fin 1) k) : EReal)

/-- The derivative through the norm. -/
theorem block3 (x0 x1 : Vec Ideal S256x1024 .f32) (x2 : Vec Ideal S256x1 .f32) (v : Vec Ideal S1x1024 .f32) (r : Fin 256) (q : Fin 1024) :
    k0_pay3 x0 x1 x2 v (ix2 r q) = (x2 (ix2 r (0 : Fin 1)) : EReal)
      * (wrow x0 v r q - mean (wrow x0 v r) - (x1 (ix2 r q) : EReal) * mean (fun k => wrow x0 v r k * (x1 (ix2 r k) : EReal))) := by
  pointwise [k0_pay3, k0_pay2]
  rfl

theorem block7 (d : FVec Ideal S256x1024 .f32) (i : S256x1024.Idx) : k0_pay7 d i = (Ideal.ofBits .f32 0x3F000000#32 : EReal) * (d i : EReal) := rfl

/-- A block's derivative of the activations, by one quarter of the weight. -/
def act (d : FVec Ideal S256x1024 .f32) (w : Vec Ideal S1x704x1024 .bf16) (r : Fin 256) (s : Fin 704) : EReal :=
  ∑ k : Fin 1024, ((Ideal.ofBits .f32 0x3F000000#32 : EReal) * (d (ix2 r k) : EReal)) * (w (ix3 (0 : Fin 1) s k) : EReal)

theorem block26 (d : FVec Ideal S256x1024 .f32) (w : Vec Ideal S1x704x1024 .bf16) (r : Fin 256) (s : Fin 704) :
    k0_pay26 (k0_pay7 d) w (ix2 r s) = act d w r s := by
  unfold act
  simp only [← block7]
  generalize k0_pay7 d = y
  pointwise [k0_pay26]
  rfl

theorem gateForm (a u g : EReal) : a * u * ((Ideal.ofBits .f32 0x3F000000#32 * Ideal.tanh (Ideal.ofBits .f32 0x3F000000#32 * g) + Ideal.ofBits .f32 0x3F000000#32)
    * (Ideal.ofBits .f32 0x3F800000#32 + g * (Ideal.ofBits .f32 0x3F800000#32
      - (Ideal.ofBits .f32 0x3F000000#32 * Ideal.tanh (Ideal.ofBits .f32 0x3F000000#32 * g) + Ideal.ofBits .f32 0x3F000000#32)))) = gateGrad a u g := by
  unfold gateGrad
  rw [half_tanh, Ideal.ofBits_one_f32]

/-- One quarter of the gate's derivative. -/
theorem block29 (d : FVec Ideal S256x1024 .f32) (w : Vec Ideal S1x704x1024 .bf16) (g u : Vec Ideal S1x256x704 .bf16) (r : Fin 256) (s : Fin 704) :
    k0_pay29 (k0_pay7 d) w g u (ix3 (0 : Fin 1) r s)
      = gateGrad (act d w r s) (u (ix3 (0 : Fin 1) r s)) (g (ix3 (0 : Fin 1) r s)) := by
  rw [← block26, ← gateForm]
  generalize hy : k0_pay26 (k0_pay7 d) w = y
  pointwise [k0_pay29, k0_pay27, k0_pay28, hy]
  rfl

/-- One quarter of the up projection's derivative. -/
theorem block1 (d : FVec Ideal S256x1024 .f32) (w : Vec Ideal S1x704x1024 .bf16) (g : Vec Ideal S1x256x704 .bf16) (r : Fin 256) (s : Fin 704) :
    k0_pay1 (k0_pay26 (k0_pay7 d) w) (k0_pay30 g) (ix3 (0 : Fin 1) r s) = upGrad (act d w r s) (g (ix3 (0 : Fin 1) r s)) := by
  rw [← block26]
  unfold upGrad
  rw [← half_tanh]
  generalize k0_pay26 (k0_pay7 d) w = y
  pointwise [k0_pay1, k0_pay30, k0_pay27, k0_pay28]
  rfl

/-- What a point adds to the gain's derivative. -/
theorem block5 (x0 x1 : Vec Ideal S256x1024 .f32) (v : Vec Ideal S1x1024 .f32) (q : Fin 1024) :
    k0_pay5 x0 x1 v (ix2 (0 : Fin 1) q) = (v (ix2 (0 : Fin 1) q) : EReal) + ∑ r : Fin 256, (x0 (ix2 r q) : EReal) * (x1 (ix2 r q) : EReal) := by
  pointwise [k0_pay5, k0_pay2]
  rfl

/-- What a point adds to the offset's derivative. -/
theorem block6 (x0 : Vec Ideal S256x1024 .f32) (v : Vec Ideal S1x1024 .f32) (q : Fin 1024) :
    k0_pay6 x0 v (ix2 (0 : Fin 1) q) = (v (ix2 (0 : Fin 1) q) : EReal) + ∑ r : Fin 256, (x0 (ix2 r q) : EReal) := by
  pointwise [k0_pay6]
  rfl

/-- A block's derivative through the norm. -/
abbrev thr (x0 x1 : Vec Ideal S256x1024 .f32) (x2 : Vec Ideal S256x1 .f32) (x3 : Vec Ideal S16x1024 .f32) : FVec Ideal S256x1024 .f32 :=
  k0_pay3 x0 x1 x2 (View.ld x3 (Rect.unit ![11, 0] ![1, 1024] inb_S16x1024_S1x1024_11_0))

/-- A block's derivatives of gate and up projection, quarter by quarter. -/
def both (d : FVec Ideal S256x1024 .f32) (x4 : Vec Ideal S1x2816x1024 .bf16) (x5 x6 : Vec Ideal S4x256x704 .bf16) (j : Fin 8) (r : Fin 256) (s : Fin 704) : EReal :=
  let n : Fin 2816 := ⟨j.val % 4 * 704 + s.val, by omega⟩
  let k : Fin 4 := ⟨j.val % 4, by omega⟩
  let a : EReal := ∑ k : Fin 1024, ((Ideal.ofBits .f32 0x3F000000#32 : EReal) * (d (ix2 r k) : EReal)) * (x4 (ix3 (0 : Fin 1) n k) : EReal)
  if j.val < 4 then gateGrad a (x6 (ix3 k r s)) (x5 (ix3 k r s)) else upGrad a (x5 (ix3 k r s))

/-- The two rows of derivatives after a point. -/
def acc (x0 x1 : Vec Ideal S256x1024 .f32) (xo : Vec Ideal S2x1024 .f32) (y : S2x1024.Idx) : EReal :=
  if (y 0).val = 0 then (xo (ix2 (0 : Fin 2) (y 1 : Fin 1024)) : EReal) + ∑ r : Fin 256, (x0 (ix2 r (y 1 : Fin 1024)) : EReal) * (x1 (ix2 r (y 1 : Fin 1024)) : EReal)
  else (xo (ix2 (1 : Fin 2) (y 1 : Fin 1024)) : EReal) + ∑ r : Fin 256, (x0 (ix2 r (y 1 : Fin 1024)) : EReal)

section
variable (d : FVec Ideal S256x1024 .f32) (x4 : Vec Ideal S1x2816x1024 .bf16) (x5 x6 : Vec Ideal S4x256x704 .bf16)

theorem ldW (k : Fin 4) (o : ℕ) (ho : o = k.val * 704) (inb) (s : Fin 704) (q : Fin 1024) :
    (View.ld x4 (Rect.unit ![0, o, 0] ![1, 704, 1024] inb) : Vec Ideal S1x704x1024 .bf16) (ix3 (0 : Fin 1) s q)
      = x4 (ix3 (0 : Fin 1) (⟨k.val * 704 + s.val, by omega⟩ : Fin 2816) q) := by
  refine congrArg x4 (funext fun a => Fin.ext ?_)
  match a with
  | ⟨0, _⟩ => rfl
  | ⟨1, _⟩ => show o + 1 * s.val = k.val * 704 + s.val; omega
  | ⟨2, _⟩ => show 0 + 1 * q.val = q.val; omega

theorem ldQ (x : Vec Ideal S4x256x704 .bf16) (k : Fin 4) (inb) (r : Fin 256) (s : Fin 704) :
    (View.ld x (Rect.unit ![k.val, 0, 0] ![1, 256, 704] inb) : Vec Ideal S1x256x704 .bf16) (ix3 (0 : Fin 1) r s) = x (ix3 k r s) := by
  refine congrArg x (funext fun a => Fin.ext ?_)
  match a with
  | ⟨0, _⟩ => rfl
  | ⟨1, _⟩ => show 0 + 1 * r.val = r.val; omega
  | ⟨2, _⟩ => show 0 + 1 * s.val = s.val; omega

theorem embQ (j : Fin 8) (inb) (r : Fin 256) (s : Fin 704) :
    (Rect.unit (s := S8x256x704) ![j.val, 0, 0] ![1, 256, 704] inb).emb (ix3 (0 : Fin 1) r s) = ix3 j r s := by
  refine funext fun a => Fin.ext ?_
  match a with
  | ⟨0, _⟩ => rfl
  | ⟨1, _⟩ => show 0 + 1 * r.val = r.val; omega
  | ⟨2, _⟩ => show 0 + 1 * s.val = s.val; omega

theorem one3 (x : S1x256x704.Idx) : ∃ r : Fin 256, ∃ s : Fin 704, x = ix3 (0 : Fin 1) r s := by
  have h : (x 0).val < 1 := (x 0).isLt
  refine ⟨x 1, x 2, (ValueIdx.eq_ix3 x).trans ?_⟩
  exact congrArg (fun k : Fin 1 => (ix3 k (x 1 : Fin 256) (x 2 : Fin 704) : S1x256x704.Idx)) (Fin.ext (by show (x 0).val = 0; omega))

/-- A stored quarter of the gate's derivative. -/
theorem gatePiece (k : Fin 4) (J : Fin 8) (hJ : J.val = k.val) (o : ℕ) (ho : o = k.val * 704) (i1 i2 i3 i4) (x : S1x256x704.Idx) :
    k0_pay29 (k0_pay7 d) (View.ld x4 (Rect.unit ![0, o, 0] ![1, 704, 1024] i1)) (View.ld x5 (Rect.unit ![k.val, 0, 0] ![1, 256, 704] i2))
        (View.ld x6 (Rect.unit ![k.val, 0, 0] ![1, 256, 704] i3)) x
      = (fun y : S8x256x704.Idx => both d x4 x5 x6 (y 0) (y 1) (y 2)) ((Rect.unit (s := S8x256x704) ![J.val, 0, 0] ![1, 256, 704] i4).emb x) := by
  obtain ⟨r, s, rfl⟩ := one3 x
  rw [embQ, block29, ldQ, ldQ]
  show _ = both d x4 x5 x6 J r s
  have hk : (⟨J.val % 4, by omega⟩ : Fin 4) = k := Fin.ext (by show J.val % 4 = k.val; omega)
  unfold both
  dsimp only
  rw [if_pos (by omega), hk]
  refine congrArg (fun a => gateGrad a (x6 (ix3 k r s)) (x5 (ix3 k r s))) (Finset.sum_congr rfl fun q _ => congrArg₂ (· * ·) rfl ((ldW x4 k o ho i1 s q).trans ?_))
  refine congrArg x4 (congrArg (fun n : Fin 2816 => (ix3 (0 : Fin 1) n q : S1x2816x1024.Idx)) (Fin.ext ?_))
  show k.val * 704 + s.val = J.val % 4 * 704 + s.val
  omega

/-- A stored quarter of the up projection's derivative. -/
theorem upPiece (k : Fin 4) (J : Fin 8) (hJ : J.val = k.val + 4) (o : ℕ) (ho : o = k.val * 704) (i1 i2 i4) (x : S1x256x704.Idx) :
    k0_pay1 (k0_pay26 (k0_pay7 d) (View.ld x4 (Rect.unit ![0, o, 0] ![1, 704, 1024] i1))) (k0_pay30 (View.ld x5 (Rect.unit ![k.val, 0, 0] ![1, 256, 704] i2))) x
      = (fun y : S8x256x704.Idx => both d x4 x5 x6 (y 0) (y 1) (y 2)) ((Rect.unit (s := S8x256x704) ![J.val, 0, 0] ![1, 256, 704] i4).emb x) := by
  obtain ⟨r, s, rfl⟩ := one3 x
  rw [embQ, block1, ldQ]
  show _ = both d x4 x5 x6 J r s
  have hk : (⟨J.val % 4, by omega⟩ : Fin 4) = k := Fin.ext (by show J.val % 4 = k.val; omega)
  unfold both
  dsimp only
  rw [if_neg (by omega), hk]
  refine congrArg (fun a => upGrad a (x5 (ix3 k r s))) (Finset.sum_congr rfl fun q _ => congrArg₂ (· * ·) rfl ((ldW x4 k o ho i1 s q).trans ?_))
  refine congrArg x4 (congrArg (fun n : Fin 2816 => (ix3 (0 : Fin 1) n q : S1x2816x1024.Idx)) (Fin.ext ?_))
  show k.val * 704 + s.val = J.val % 4 * 704 + s.val
  omega
end

/-- Contents whose last two writes cover them, where both agree with one array. -/
theorem last_two {S : Shape} {e : EltTy} [∀ e, Nonempty (Elt Ideal e)] (G : S.Idx → Elt Ideal e) (p q : View.Piece (Elt Ideal) S e) (L : List (View.Piece (Elt Ideal) S e))
    (hp : ∀ x : p.1.shape.Idx, p.2 x = G (p.1.emb x)) (hq : ∀ x : q.1.shape.Idx, q.2 x = G (q.1.emb x)) (y : S.Idx)
    (h : ∃ a ∈ [p, q], y ∈ a.1.set) : View.canon (p :: q :: L) y = G y := by
  by_cases hm : y ∈ p.1.set
  · obtain ⟨x, rfl⟩ := p.1.exists_idx_of_mem hm
    rw [show p.1.idx x = p.1.emb x from rfl, View.canon_cons_emb]
    exact hp x
  · rw [View.canon_cons_of_not_mem _ _ hm]
    obtain ⟨a, ha, hy⟩ := h
    simp only [List.mem_cons, List.not_mem_nil, or_false] at ha
    rcases ha with rfl | rfl
    · exact absurd hy hm
    · obtain ⟨x, rfl⟩ := a.1.exists_idx_of_mem hy
      rw [show a.1.idx x = a.1.emb x from rfl, View.canon_cons_emb]
      exact hq x

theorem one2 (x : S1x1024.Idx) : ∃ q : Fin 1024, x = ix2 (0 : Fin 1) q := by
  have h : (x 0).val < 1 := (x 0).isLt
  refine ⟨x 1, (ValueIdx.eq_ix2 x).trans ?_⟩
  exact congrArg (fun k : Fin 1 => (ix2 k (x 1 : Fin 1024) : S1x1024.Idx)) (Fin.ext (by show (x 0).val = 0; omega))

theorem embR (j : Fin 2) (inb) (q : Fin 1024) : (Rect.unit (s := S2x1024) ![j.val, 0] ![1, 1024] inb).emb (ix2 (0 : Fin 1) q) = ix2 j q := by
  refine funext fun a => Fin.ext ?_
  match a with
  | ⟨0, _⟩ => rfl
  | ⟨1, _⟩ => show 0 + 1 * q.val = q.val; omega

section
variable (x0 x1 : Vec Ideal S256x1024 .f32) (xo : Vec Ideal S2x1024 .f32)

theorem row0Piece (v : Vec Ideal S1x1024 .f32) (hv : ∀ q : Fin 1024, v (ix2 (0 : Fin 1) q) = xo (ix2 (0 : Fin 2) q)) (inb) (x : S1x1024.Idx) :
    k0_pay5 x0 x1 v x = acc x0 x1 xo ((Rect.unit (s := S2x1024) ![(0 : Fin 2).val, 0] ![1, 1024] inb).emb x) := by
  obtain ⟨q, rfl⟩ := one2 x
  rw [embR, block5, hv]
  rfl

theorem row1Piece (v : Vec Ideal S1x1024 .f32) (hv : ∀ q : Fin 1024, v (ix2 (0 : Fin 1) q) = xo (ix2 (1 : Fin 2) q)) (inb) (x : S1x1024.Idx) :
    k0_pay6 x0 v x = acc x0 x1 xo ((Rect.unit (s := S2x1024) ![(1 : Fin 2).val, 0] ![1, 1024] inb).emb x) := by
  obtain ⟨q, rfl⟩ := one2 x
  rw [embR, block6, hv]
  rfl

theorem ldRow (X : Vec Ideal S2x1024 .f32) (j : Fin 2) (inb) (q : Fin 1024) :
    (View.ld X (Rect.unit ![j.val, 0] ![1, 1024] inb) : Vec Ideal S1x1024 .f32) (ix2 (0 : Fin 1) q) = X (ix2 j q) := congrArg X (embR j inb q)
end

variable (c : Dev nD) (i : grid0.Coords)
variable (a1 : Memref sig .tc .vmem S256x1024 .f32) (h1 : a1.IsWhole) (a2 : Memref sig .tc .vmem S256x1024 .f32) (h2 : a2.IsWhole) (a3 : Memref sig .tc .vmem S256x1 .f32) (h3 : a3.IsWhole)
  (a4 : Memref sig .tc .vmem S16x1024 .f32) (h4 : a4.IsWhole) (a5 : Memref sig .tc .vmem S1x2816x1024 .bf16) (h5 : a5.IsWhole) (a6 : Memref sig .tc .vmem S4x256x704 .bf16) (h6 : a6.IsWhole)
  (a7 : Memref sig .tc .vmem S4x256x704 .bf16) (h7 : a7.IsWhole) (a8 : Memref sig .tc .vmem S256x1024 .f32) (h8 : a8.IsWhole) (a9 : Memref sig .tc .vmem S256x1024 .bf16) (h9 : a9.IsWhole)
  (a10 : Memref sig .tc .vmem S8x256x704 .bf16) (h10 : a10.IsWhole) (a11 : Memref sig .tc .vmem S2x1024 .f32) (h11 : a11.IsWhole)
variable (x0 : Vec Ideal S256x1024 .f32) (x1 : Vec Ideal S256x1024 .f32) (x2 : Vec Ideal S256x1 .f32) (x3 : Vec Ideal S16x1024 .f32) (x4 : Vec Ideal S1x2816x1024 .bf16) (x5 : Vec Ideal S4x256x704 .bf16) (x6 : Vec Ideal S4x256x704 .bf16)
variable (xo : Vec Ideal S2x1024 .f32)

theorem through_A (hc0 : cond0_0 i) : out0_A_7 c i a1 h1 a2 h2 a3 h3 a4 h4 a5 h5 a6 h6 a7 h7 a8 h8 a9 h9 a10 h10 a11 h11 hc0 x0 x1 x2 x3 x4 x5 x6 = thr x0 x1 x2 x3 := by
  unfold out0_A_7
  rw [View.read_writes_eq_canon _ _ _ (cover0_A_7 c i a1 h1 a2 h2 a3 h3 a4 h4 a5 h5 a6 h6 a7 h7 a8 h8 a9 h9 a10 h10 a11 h11 hc0 x0 x1 x2 x3 x4 x5 x6)]
  unfold kernelRun0_A
  dsimp only
  try sl_unfold_words
  rw [View.canon_unit_zero hz]
  simp only [View.readAt_eq_ld, h1.read_unread, h2.read_unread, h3.read_unread, h4.read_unread, h5.read_unread, h6.read_unread, h7.read_unread,
    h11.read_unread, View.ld_unit_zero (S := S256x1024) hz, View.ld_unit_zero (S := S256x1) hz]

theorem half_A (hc0 : cond0_0 i) : out0_A_8 c i a1 h1 a2 h2 a3 h3 a4 h4 a5 h5 a6 h6 a7 h7 a8 h8 a9 h9 a10 h10 a11 h11 hc0 x0 x1 x2 x3 x4 x5 x6 = k0_pay7 (thr x0 x1 x2 x3) := by
  unfold out0_A_8
  rw [View.read_writes_eq_canon _ _ _ (cover0_A_8 c i a1 h1 a2 h2 a3 h3 a4 h4 a5 h5 a6 h6 a7 h7 a8 h8 a9 h9 a10 h10 a11 h11 hc0 x0 x1 x2 x3 x4 x5 x6)]
  unfold kernelRun0_A
  dsimp only
  try sl_unfold_words
  rw [View.canon_unit_zero hz]
  simp only [View.readAt_eq_ld, h1.read_unread, h2.read_unread, h3.read_unread, h4.read_unread, h5.read_unread, h6.read_unread, h7.read_unread,
    h11.read_unread, View.ld_unit_zero (S := S256x1024) hz, View.ld_unit_zero (S := S256x1) hz]

theorem both_A (hc0 : cond0_0 i) : out0_A_9 c i a1 h1 a2 h2 a3 h3 a4 h4 a5 h5 a6 h6 a7 h7 a8 h8 a9 h9 a10 h10 a11 h11 hc0 x0 x1 x2 x3 x4 x5 x6 = fun y : S8x256x704.Idx => both (thr x0 x1 x2 x3) x4 x5 x6 (y 0) (y 1) (y 2) := by
  unfold out0_A_9
  rw [View.read_writes_eq_canon _ _ _ (cover0_A_9 c i a1 h1 a2 h2 a3 h3 a4 h4 a5 h5 a6 h6 a7 h7 a8 h8 a9 h9 a10 h10 a11 h11 hc0 x0 x1 x2 x3 x4 x5 x6)]
  unfold kernelRun0_A
  dsimp only
  try sl_unfold_words
  simp only [View.readAt_eq_ld, h1.read_unread, h2.read_unread, h3.read_unread, h4.read_unread, h5.read_unread, h6.read_unread, h7.read_unread,
    h11.read_unread, View.ld_unit_zero (S := S256x1024) hz, View.ld_unit_zero (S := S256x1) hz]
  funext y
  refine View.canon_apply_of_pieces (Val := Elt Ideal) (e := .bf16) (fun y : S8x256x704.Idx => both (thr x0 x1 x2 x3) x4 x5 x6 (y 0) (y 1) (y 2)) _ ?_ y
    (View.cover_of_tiledL (s := S8x256x704) _ S1x256x704.size (by sl_kernel_rfl) y)
  intro p hp
  simp only [List.mem_cons, List.not_mem_nil, or_false] at hp
  rcases hp with rfl | rfl | rfl | rfl | rfl | rfl | rfl | rfl
  · exact upPiece (thr x0 x1 x2 x3) x4 x5 x6 3 7 rfl 2112 rfl _ _ inb_S8x256x704_S1x256x704_7_0_0
  · exact gatePiece (thr x0 x1 x2 x3) x4 x5 x6 3 3 rfl 2112 rfl _ _ _ inb_S8x256x704_S1x256x704_3_0_0
  · exact upPiece (thr x0 x1 x2 x3) x4 x5 x6 2 6 rfl 1408 rfl _ _ inb_S8x256x704_S1x256x704_6_0_0
  · exact gatePiece (thr x0 x1 x2 x3) x4 x5 x6 2 2 rfl 1408 rfl _ _ _ inb_S8x256x704_S1x256x704_2_0_0
  · exact upPiece (thr x0 x1 x2 x3) x4 x5 x6 1 5 rfl 704 rfl _ _ inb_S8x256x704_S1x256x704_5_0_0
  · exact gatePiece (thr x0 x1 x2 x3) x4 x5 x6 1 1 rfl 704 rfl _ _ _ inb_S8x256x704_S1x256x704_1_0_0
  · exact upPiece (thr x0 x1 x2 x3) x4 x5 x6 0 4 rfl 0 rfl _ _ inb_S8x256x704_S1x256x704_4_0_0
  · exact gatePiece (thr x0 x1 x2 x3) x4 x5 x6 0 0 rfl 0 rfl _ _ _ inb_S8x256x704_S1x256x704_0_0_0

theorem rows_A (hc0 : cond0_0 i) : out0_A_10 c i a1 h1 a2 h2 a3 h3 a4 h4 a5 h5 a6 h6 a7 h7 a8 h8 a9 h9 a10 h10 a11 h11 hc0 x0 x1 x2 x3 x4 x5 x6 = acc x0 x1 (k0_pay4 (F := Ideal)) := by
  unfold out0_A_10
  rw [View.read_writes_eq_canon _ _ _ (cover0_A_10 c i a1 h1 a2 h2 a3 h3 a4 h4 a5 h5 a6 h6 a7 h7 a8 h8 a9 h9 a10 h10 a11 h11 hc0 x0 x1 x2 x3 x4 x5 x6)]
  unfold kernelRun0_A
  dsimp only
  try sl_unfold_words
  simp only [View.readAt_eq_ld, h1.read_unread, h2.read_unread, h3.read_unread, h4.read_unread, h5.read_unread, h6.read_unread, h7.read_unread,
    h11.read_unread, View.ld_unit_zero (S := S256x1024) hz, View.ld_unit_zero (S := S256x1) hz]
  rw [View.readCov_cons_of_rows_disjoint _ 0 1 (by decide)]
  simp only [View.readCov_eq_canon', View.canon_unit_zero (S := S2x1024) hz]
  funext y
  refine last_two (S := S2x1024) (e := .f32) (acc x0 x1 (k0_pay4 (F := Ideal))) _ _ _ ?_ ?_ y
    (View.cover_of_tiledL (s := S2x1024) _ S1x1024.size (by sl_kernel_rfl) y)
  · exact fun x => row1Piece x0 x1 (k0_pay4 (F := Ideal)) _ (fun q => rfl) inb_S2x1024_S1x1024_1_0 x
  · exact fun x => row0Piece x0 x1 (k0_pay4 (F := Ideal)) _ (fun q => rfl) inb_S2x1024_S1x1024_0_0 x

theorem through_B (hc0 : ¬cond0_0 i) : out0_B_7 c i a1 h1 a2 h2 a3 h3 a4 h4 a5 h5 a6 h6 a7 h7 a8 h8 a9 h9 a10 h10 a11 h11 hc0 x0 x1 x2 x3 x4 x5 x6 xo = thr x0 x1 x2 x3 := by
  unfold out0_B_7
  rw [View.read_writes_eq_canon _ _ _ (cover0_B_7 c i a1 h1 a2 h2 a3 h3 a4 h4 a5 h5 a6 h6 a7 h7 a8 h8 a9 h9 a10 h10 a11 h11 hc0 x0 x1 x2 x3 x4 x5 x6 xo)]
  unfold kernelRun0_B
  dsimp only
  try sl_unfold_words
  rw [View.canon_unit_zero hz]
  simp only [View.readAt_eq_ld, h1.read_unread, h2.read_unread, h3.read_unread, h4.read_unread, h5.read_unread, h6.read_unread, h7.read_unread,
    h11.read_unread, View.ld_unit_zero (S := S256x1024) hz, View.ld_unit_zero (S := S256x1) hz]

theorem half_B (hc0 : ¬cond0_0 i) : out0_B_8 c i a1 h1 a2 h2 a3 h3 a4 h4 a5 h5 a6 h6 a7 h7 a8 h8 a9 h9 a10 h10 a11 h11 hc0 x0 x1 x2 x3 x4 x5 x6 xo = k0_pay7 (thr x0 x1 x2 x3) := by
  unfold out0_B_8
  rw [View.read_writes_eq_canon _ _ _ (cover0_B_8 c i a1 h1 a2 h2 a3 h3 a4 h4 a5 h5 a6 h6 a7 h7 a8 h8 a9 h9 a10 h10 a11 h11 hc0 x0 x1 x2 x3 x4 x5 x6 xo)]
  unfold kernelRun0_B
  dsimp only
  try sl_unfold_words
  rw [View.canon_unit_zero hz]
  simp only [View.readAt_eq_ld, h1.read_unread, h2.read_unread, h3.read_unread, h4.read_unread, h5.read_unread, h6.read_unread, h7.read_unread,
    h11.read_unread, View.ld_unit_zero (S := S256x1024) hz, View.ld_unit_zero (S := S256x1) hz]

theorem both_B (hc0 : ¬cond0_0 i) : out0_B_9 c i a1 h1 a2 h2 a3 h3 a4 h4 a5 h5 a6 h6 a7 h7 a8 h8 a9 h9 a10 h10 a11 h11 hc0 x0 x1 x2 x3 x4 x5 x6 xo = fun y : S8x256x704.Idx => both (thr x0 x1 x2 x3) x4 x5 x6 (y 0) (y 1) (y 2) := by
  unfold out0_B_9
  rw [View.read_writes_eq_canon _ _ _ (cover0_B_9 c i a1 h1 a2 h2 a3 h3 a4 h4 a5 h5 a6 h6 a7 h7 a8 h8 a9 h9 a10 h10 a11 h11 hc0 x0 x1 x2 x3 x4 x5 x6 xo)]
  unfold kernelRun0_B
  dsimp only
  try sl_unfold_words
  simp only [View.readAt_eq_ld, h1.read_unread, h2.read_unread, h3.read_unread, h4.read_unread, h5.read_unread, h6.read_unread, h7.read_unread,
    h11.read_unread, View.ld_unit_zero (S := S256x1024) hz, View.ld_unit_zero (S := S256x1) hz]
  funext y
  refine View.canon_apply_of_pieces (Val := Elt Ideal) (e := .bf16) (fun y : S8x256x704.Idx => both (thr x0 x1 x2 x3) x4 x5 x6 (y 0) (y 1) (y 2)) _ ?_ y
    (View.cover_of_tiledL (s := S8x256x704) _ S1x256x704.size (by sl_kernel_rfl) y)
  intro p hp
  simp only [List.mem_cons, List.not_mem_nil, or_false] at hp
  rcases hp with rfl | rfl | rfl | rfl | rfl | rfl | rfl | rfl
  · exact upPiece (thr x0 x1 x2 x3) x4 x5 x6 3 7 rfl 2112 rfl _ _ inb_S8x256x704_S1x256x704_7_0_0
  · exact gatePiece (thr x0 x1 x2 x3) x4 x5 x6 3 3 rfl 2112 rfl _ _ _ inb_S8x256x704_S1x256x704_3_0_0
  · exact upPiece (thr x0 x1 x2 x3) x4 x5 x6 2 6 rfl 1408 rfl _ _ inb_S8x256x704_S1x256x704_6_0_0
  · exact gatePiece (thr x0 x1 x2 x3) x4 x5 x6 2 2 rfl 1408 rfl _ _ _ inb_S8x256x704_S1x256x704_2_0_0
  · exact upPiece (thr x0 x1 x2 x3) x4 x5 x6 1 5 rfl 704 rfl _ _ inb_S8x256x704_S1x256x704_5_0_0
  · exact gatePiece (thr x0 x1 x2 x3) x4 x5 x6 1 1 rfl 704 rfl _ _ _ inb_S8x256x704_S1x256x704_1_0_0
  · exact upPiece (thr x0 x1 x2 x3) x4 x5 x6 0 4 rfl 0 rfl _ _ inb_S8x256x704_S1x256x704_4_0_0
  · exact gatePiece (thr x0 x1 x2 x3) x4 x5 x6 0 0 rfl 0 rfl _ _ _ inb_S8x256x704_S1x256x704_0_0_0

theorem rows_B (hc0 : ¬cond0_0 i) : out0_B_10 c i a1 h1 a2 h2 a3 h3 a4 h4 a5 h5 a6 h6 a7 h7 a8 h8 a9 h9 a10 h10 a11 h11 hc0 x0 x1 x2 x3 x4 x5 x6 xo = acc x0 x1 xo := by
  unfold out0_B_10
  rw [View.read_writes_eq_canon _ _ _ (cover0_B_10 c i a1 h1 a2 h2 a3 h3 a4 h4 a5 h5 a6 h6 a7 h7 a8 h8 a9 h9 a10 h10 a11 h11 hc0 x0 x1 x2 x3 x4 x5 x6 xo)]
  unfold kernelRun0_B
  dsimp only
  try sl_unfold_words
  simp only [View.readAt_eq_ld, h1.read_unread, h2.read_unread, h3.read_unread, h4.read_unread, h5.read_unread, h6.read_unread, h7.read_unread,
    h11.read_unread, View.ld_unit_zero (S := S256x1024) hz, View.ld_unit_zero (S := S256x1) hz]
  funext y
  refine last_two (S := S2x1024) (e := .f32) (acc x0 x1 xo) _ _ [] ?_ ?_ y (View.cover_of_tiledL (s := S2x1024) _ S1x1024.size (by sl_kernel_rfl) y)
  · exact fun x => row1Piece x0 x1 xo _ (fun q => ldRow xo 1 inb_S2x1024_S1x1024_1_0 q) inb_S2x1024_S1x1024_1_0 x
  · exact fun x => row0Piece x0 x1 xo _ (fun q => ldRow xo 0 inb_S2x1024_S1x1024_0_0 q) inb_S2x1024_S1x1024_0_0 x

end Cert.FfnBackIdeal.Lin
-- ==== Proof.Lin.FfnBack.lean ====
/- The second feed forward backward call: its four arrays over the call's arguments, and the claim against the reference. -/
module

public import proofs.«01_k».proof.Defs
public import proofs.«01_k».proof.Proof.Lin.BackBlocks
public import proofs.«01_k».proof.Proof.Lin.Parts
public import proofs.«01_k».proof.Proof.Val.Finite
public import Idealize.ShloMosaic.Lib.StableHlo.RunRead

@[expose] public section

set_option maxRecDepth 16384

noncomputable section

namespace Cert.FfnBackIdeal.Lin

open Cert.FfnBackIdeal Cert.FfnBackIdeal.Gen
open Idealize.ShloMosaic hiding ix0 ix1 ix2 ix3 ix4
open Idealize.ShloMosaic.TcCoe Idealize.ShloMosaic.ValueIdx Idealize.SL.Sem
open Cert.FfnBackRefIdeal.Lin (row gain through branchGrad actGrad gateGrad upGrad col pair normGrad deviations unitAt zeroAdd)
open Cert.Lin

variable (m : (ℓ : Loc nD τ sig) → Buf (Elt Ideal) ℓ) (c : Dev nD)

abbrev argZ : FVec Ideal S4096x1024 .f32 := m ((c : Thread nD τ).loc main_arg0)
abbrev argD : FVec Ideal S4096x1024 .f32 := m ((c : Thread nD τ).loc main_arg1)
abbrev argL : FVec Ideal S3x1024 .f32 := m ((c : Thread nD τ).loc main_arg2)
abbrev argW : FVec Ideal S2x2816x1024 .f32 := m ((c : Thread nD τ).loc main_arg3)
abbrev argG : FVec Ideal S4096x2816 .f32 := m ((c : Thread nD τ).loc main_arg4)
abbrev argU : FVec Ideal S4096x2816 .f32 := m ((c : Thread nD τ).loc main_arg5)

/-- The normalised rows as the call finds them. -/
theorem entry1 (R : Fin 4096) (q : Fin 1024) : V m c main_v24 (ix2 R q) = normed (row (argZ m c) R) q := by
  have e : V m c main_v24 = Cert.FfnBackRefIdeal.Read.val_main_v25 (F := Ideal) (argZ m c) := by
    unfold V hostOps0
    after_reads_simp
    rfl
  rw [e]
  exact unitAt (argZ m c) (ix2 R q)

/-- The reciprocal standard deviations as the call finds them. -/
theorem entry2 (R : Fin 4096) : V m c main_v20 (ix2 R (0 : Fin 1)) = rstd (row (argZ m c) R) := by
  have e : V m c main_v20 = Cert.FfnBackRefIdeal.Read.val_main_v18 (F := Ideal) (argZ m c) := by
    unfold V hostOps0
    after_reads_simp
    rfl
  rw [e]
  exact deviations (argZ m c) (ix2 R (0 : Fin 1))

/-- The gain as the call finds it, in the small array. -/
theorem entry3 (q : Fin 1024) : V m c main_v2 (ix2 (11 : Fin 16) q) = gain (argL m c) q := by
  have e : V m c main_v2 = concatenate S16x1024 0
      [⟨S9x1024, broadcastInDim S9x1024 ![] bcast_S_S9x1024 (constant (F := Ideal) S_ .f32 0x00000000#32)⟩, ⟨S3x1024, argL m c⟩,
        ⟨S4x1024, broadcastInDim S4x1024 ![] bcast_S_S4x1024 (constant (F := Ideal) S_ .f32 0x00000000#32)⟩]
      concatenates_S9x1024_S3x1024_S4x1024_S16x1024_d0 := by
    unfold V hostOps0
    after_reads_simp
    rfl
  rw [e]
  pointwise []
  rfl

/-- The weights as the call finds them. -/
theorem entry4 (f : Fin 2) (n : Fin 2816) (q : Fin 1024) : V m c main_v31 (ix3 f n q) = argW m c (ix3 f n q) := by
  have e : V m c main_v31 = truncf (F := Ideal) .bf16 (argW m c) bitsLt_bf16_f32 := by
    unfold V hostOps0
    after_reads_simp
  rw [e]; rfl

/-- The gate as the call finds it: its columns in four quarters. -/
theorem entry5 (k : Fin 4) (R : Fin 4096) (s : Fin 704) :
    V m c main_v34 (ix3 k R s) = argG m c (ix2 R (⟨k.val * 704 + s.val, by omega⟩ : Fin 2816)) := by
  have e : V m c main_v34 = truncf (F := Ideal) .bf16 (transpose S4x4096x704 [1, 0, 2]
      (shapeCast S4096x4x704 (argG m c) shapeCasts_S4096x2816_S4096x4x704) transposes_S4096x4x704_S4x4096x704_1_0_2) bitsLt_bf16_f32 := by
    unfold V hostOps0
    after_reads_simp
    rfl
  rw [e]
  pointwise []
  rfl

/-- The up projection as the call finds it: its columns in four quarters. -/
theorem entry6 (k : Fin 4) (R : Fin 4096) (s : Fin 704) :
    V m c main_v37 (ix3 k R s) = argU m c (ix2 R (⟨k.val * 704 + s.val, by omega⟩ : Fin 2816)) := by
  have e : V m c main_v37 = truncf (F := Ideal) .bf16 (transpose S4x4096x704 [1, 0, 2]
      (shapeCast S4096x4x704 (argU m c) shapeCasts_S4096x2816_S4096x4x704) transposes_S4096x4x704_S4x4096x704_1_0_2) bitsLt_bf16_f32 := by
    unfold V hostOps0
    after_reads_simp
    rfl
  rw [e]
  pointwise []
  rfl

/-- The printed index maps over the sixteen points: 256 rows at a time. -/
theorem maps : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 3) = 1 ∧ win0_4.index t (1 : Fin 3) = 0 ∧ win0_4.index t (2 : Fin 3) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0) :=
  (by decide +kernel : ∀ t : Fin grid0.N, _)

/-- The same of the results. -/
theorem omaps : ∀ t : Fin cfg0.N, (win0_7.index t (0 : Fin 2) = t.val ∧ win0_7.index t (1 : Fin 2) = 0 ∧ (cfg0.win 7).flush t = true)
    ∧ (win0_8.index t (0 : Fin 2) = t.val ∧ win0_8.index t (1 : Fin 2) = 0 ∧ (cfg0.win 8).flush t = true)
    ∧ (win0_9.index t (0 : Fin 3) = 0 ∧ win0_9.index t (1 : Fin 3) = t.val ∧ win0_9.index t (2 : Fin 3) = 0 ∧ (cfg0.win 9).flush t = true)
    ∧ (win0_10.index t (0 : Fin 2) = 0 ∧ win0_10.index t (1 : Fin 2) = 0) :=
  (by decide +kernel : ∀ t : Fin grid0.N, _)

section
variable (t : Fin cfg0.N) (r : Fin 256) (q : Fin 1024) (s : Fin 704) (R : Fin 4096) (hR : R.val = t.val * 256 + r.val)

include hR in
theorem blk0 : (iblk m c 0 t : Vec Ideal S256x1024 .f32) (ix2 r q) = argD m c (ix2 R q) := by
  obtain ⟨⟨a0, a1⟩, -⟩ := maps t
  refine Eq.trans (?_ : _ = V m c main_arg1 (ix2 R q)) (congrFun (V_main_arg1 m c) _)
  unfold iblk
  refine congrArg (V m c main_arg1) (funext fun a => Fin.ext ?_)
  match a with
  | ⟨0, _⟩ => show win0_0.index t (0 : Fin 2) * 256 + 1 * r.val = R.val; omega
  | ⟨1, _⟩ => show win0_0.index t (1 : Fin 2) * 1024 + 1 * q.val = q.val; omega

include hR in
theorem blk1 : (iblk m c 1 t : Vec Ideal S256x1024 .f32) (ix2 r q) = normed (row (argZ m c) R) q := by
  obtain ⟨-, ⟨a0, a1⟩, -⟩ := maps t
  refine Eq.trans (?_ : _ = V m c main_v24 (ix2 R q)) (entry1 m c R q)
  unfold iblk
  refine congrArg (V m c main_v24) (funext fun a => Fin.ext ?_)
  match a with
  | ⟨0, _⟩ => show win0_1.index t (0 : Fin 2) * 256 + 1 * r.val = R.val; omega
  | ⟨1, _⟩ => show win0_1.index t (1 : Fin 2) * 1024 + 1 * q.val = q.val; omega

include hR in
theorem blk2 : (iblk m c 2 t : Vec Ideal S256x1 .f32) (ix2 r (0 : Fin 1)) = rstd (row (argZ m c) R) := by
  obtain ⟨-, -, ⟨a0, a1⟩, -⟩ := maps t
  refine Eq.trans (?_ : _ = V m c main_v20 (ix2 R (0 : Fin 1))) (entry2 m c R)
  unfold iblk
  refine congrArg (V m c main_v20) (funext fun a => Fin.ext ?_)
  match a with
  | ⟨0, _⟩ => show win0_2.index t (0 : Fin 2) * 256 + 1 * r.val = R.val; omega
  | ⟨1, _⟩ => show win0_2.index t (1 : Fin 2) * 1 + 1 * 0 = 0; omega

theorem blk3 : (View.ld (iblk m c 3 t : Vec Ideal S16x1024 .f32) (Rect.unit ![11, 0] ![1, 1024] inb_S16x1024_S1x1024_11_0) : Vec Ideal S1x1024 .f32)
    (ix2 (0 : Fin 1) q) = gain (argL m c) q := by
  obtain ⟨-, -, -, ⟨a0, a1⟩, -⟩ := maps t
  refine Eq.trans (?_ : _ = V m c main_v2 (ix2 (11 : Fin 16) q)) (entry3 m c q)
  unfold iblk
  refine congrArg (V m c main_v2) (funext fun a => Fin.ext ?_)
  match a with
  | ⟨0, _⟩ => show win0_3.index t (0 : Fin 2) * 16 + 1 * (11 + 1 * 0) = 11; omega
  | ⟨1, _⟩ => show win0_3.index t (1 : Fin 2) * 1024 + 1 * (0 + 1 * q.val) = q.val; omega

theorem blk4 (n : Fin 2816) : (iblk m c 4 t : Vec Ideal S1x2816x1024 .bf16) (ix3 (0 : Fin 1) n q) = argW m c (ix3 (1 : Fin 2) n q) := by
  obtain ⟨-, -, -, -, ⟨a0, a1, a2⟩, -⟩ := maps t
  refine Eq.trans (?_ : _ = V m c main_v31 (ix3 (1 : Fin 2) n q)) (entry4 m c 1 n q)
  unfold iblk
  refine congrArg (V m c main_v31) (funext fun a => Fin.ext ?_)
  match a with
  | ⟨0, _⟩ => show win0_4.index t (0 : Fin 3) * 1 + 1 * 0 = 1; omega
  | ⟨1, _⟩ => show win0_4.index t (1 : Fin 3) * 2816 + 1 * n.val = n.val; omega
  | ⟨2, _⟩ => show win0_4.index t (2 : Fin 3) * 1024 + 1 * q.val = q.val; omega

include hR in
theorem blk5 (k : Fin 4) : (iblk m c 5 t : Vec Ideal S4x256x704 .bf16) (ix3 k r s)
    = argG m c (ix2 R (⟨k.val * 704 + s.val, by omega⟩ : Fin 2816)) := by
  obtain ⟨-, -, -, -, -, ⟨a0, a1, a2⟩, -⟩ := maps t
  refine Eq.trans (?_ : _ = V m c main_v34 (ix3 k R s)) (entry5 m c k R s)
  unfold iblk
  refine congrArg (V m c main_v34) (funext fun a => Fin.ext ?_)
  match a with
  | ⟨0, _⟩ => show win0_5.index t (0 : Fin 3) * 4 + 1 * k.val = k.val; omega
  | ⟨1, _⟩ => show win0_5.index t (1 : Fin 3) * 256 + 1 * r.val = R.val; omega
  | ⟨2, _⟩ => show win0_5.index t (2 : Fin 3) * 704 + 1 * s.val = s.val; omega

include hR in
theorem blk6 (k : Fin 4) : (iblk m c 6 t : Vec Ideal S4x256x704 .bf16) (ix3 k r s)
    = argU m c (ix2 R (⟨k.val * 704 + s.val, by omega⟩ : Fin 2816)) := by
  obtain ⟨-, -, -, -, -, -, ⟨a0, a1, a2⟩⟩ := maps t
  refine Eq.trans (?_ : _ = V m c main_v37 (ix3 k R s)) (entry6 m c k R s)
  unfold iblk
  refine congrArg (V m c main_v37) (funext fun a => Fin.ext ?_)
  match a with
  | ⟨0, _⟩ => show win0_6.index t (0 : Fin 3) * 4 + 1 * k.val = k.val; omega
  | ⟨1, _⟩ => show win0_6.index t (1 : Fin 3) * 256 + 1 * r.val = R.val; omega
  | ⟨2, _⟩ => show win0_6.index t (2 : Fin 3) * 704 + 1 * s.val = s.val; omega

/-- A point's derivative through the norm. -/
abbrev thrAt (t : Fin cfg0.N) : FVec Ideal S256x1024 .f32 := thr (iblk m c 0 t) (iblk m c 1 t) (iblk m c 2 t) (iblk m c 3 t)

include hR in
theorem at7 : thrAt m c t (ix2 r q) = through (argZ m c) (argD m c) (argL m c) R q := by
  refine (block3 (iblk m c 0 t) (iblk m c 1 t) (iblk m c 2 t) (View.ld (iblk m c 3 t) (Rect.unit ![11, 0] ![1, 1024] inb_S16x1024_S1x1024_11_0)) r q).trans ?_
  have ew : wrow (iblk m c 0 t) (View.ld (iblk m c 3 t) (Rect.unit ![11, 0] ![1, 1024] inb_S16x1024_S1x1024_11_0)) r
      = fun k => row (argD m c) R k * gain (argL m c) k := funext fun k => congrArg₂ (· * ·) (blk0 m c t r k R hR) (blk3 m c t k)
  rw [ew]
  unfold through back
  refine congrArg₂ (· * ·) (blk2 m c t r R hR) (congrArg₂ (· - ·) rfl (congrArg₂ (· * ·) (blk1 m c t r q R hR) (congrArg mean (funext fun k => ?_))))
  exact congrArg₂ (· * ·) rfl (blk1 m c t r k R hR)

include hR in
theorem at9 (j : Fin 8) : both (thrAt m c t) (iblk m c 4 t) (iblk m c 5 t) (iblk m c 6 t) j r s
    = pair (argZ m c) (argD m c) (argL m c) (argW m c) (argG m c) (argU m c) j R s := by
  have ea : (∑ k : Fin 1024, ((Ideal.ofBits .f32 0x3F000000#32 : EReal) * (thrAt m c t (ix2 r k) : EReal))
        * ((iblk m c 4 t : Vec Ideal S1x2816x1024 .bf16) (ix3 (0 : Fin 1) (⟨j.val % 4 * 704 + s.val, by omega⟩ : Fin 2816) k) : EReal))
      = actGrad (argZ m c) (argD m c) (argL m c) (argW m c) R (col j s) :=
    Finset.sum_congr rfl fun k _ => congrArg₂ (· * ·) (congrArg₂ (· * ·) rfl (at7 m c t r k R hR)) (blk4 m c t k _)
  unfold both pair
  dsimp only
  by_cases h : j.val < 4
  · rw [if_pos h, if_pos h, ea]
    exact congrArg₂ (gateGrad _) (blk6 m c t r s R hR _) (blk5 m c t r s R hR _)
  · rw [if_neg h, if_neg h, ea]
    exact congrArg (upGrad _) (blk5 m c t r s R hR _)
end

/-- What row `R` adds to entry `q` of row `j` of the derivatives of gain and offset. -/
def term (j : Fin 2) (q : Fin 1024) (R : Fin 4096) : EReal :=
  if j.val = 0 then (argD m c (ix2 R q) : EReal) * normed (row (argZ m c) R) q else (argD m c (ix2 R q) : EReal)
/-- What a point adds. -/
def part (j : Fin 2) (q : Fin 1024) (t : ℕ) : EReal :=
  if h : t < 16 then ∑ r : Fin 256, term m c j q ⟨t * 256 + r.val, by omega⟩ else 0

/-- A point adds its part. -/
theorem added (t : Fin cfg0.N) (xo : Vec Ideal S2x1024 .f32) (j : Fin 2) (q : Fin 1024) :
    acc (iblk m c 0 t) (iblk m c 1 t) xo (ix2 j q) = (xo (ix2 j q) : EReal) + part m c j q t.val := by
  have ht : t.val < 16 := lt_of_lt_of_eq t.isLt N_0
  unfold part
  rw [dif_pos ht]
  unfold term
  match j with
  | 0 => exact congrArg₂ (· + ·) rfl (Finset.sum_congr rfl fun r _ => congrArg₂ (· * ·) (blk0 m c t r q _ rfl) (blk1 m c t r q _ rfl))
  | 1 => exact congrArg₂ (· + ·) rfl (Finset.sum_congr rfl fun r _ => blk0 m c t r q _ rfl)

/-- The two rows after a point. -/
theorem scratch : ∀ (n : ℕ) (hn : n < cfg0.N) (j : Fin 2) (q : Fin 1024),
    (outsAt0 m c n hn).2.2.2 (ix2 j q) = ∑ t ∈ Finset.range (n + 1), part m c j q t := by
  intro n
  induction n with
  | zero =>
    intro hn j q
    have e : (outsAt0 m c 0 hn).2.2.2 = acc (iblk m c 0 ⟨0, hn⟩) (iblk m c 1 ⟨0, hn⟩) (k0_pay4 (F := Ideal)) := by
      rw [show outsAt0 m c 0 hn = _ from outsAt0_A m c ⟨0, hn⟩ rfl]
      dsimp only
      rw [rows_A]
    refine (congrFun e _).trans ((added m c ⟨0, hn⟩ _ j q).trans ((zeroAdd _).trans ?_))
    rw [Finset.sum_range_one]
  | succ n ih =>
    intro hn j q
    have hN : n + 1 < 16 := lt_of_lt_of_eq hn N_0
    have e : (outsAt0 m c (n + 1) hn).2.2.2 = acc (iblk m c 0 ⟨n + 1, hn⟩) (iblk m c 1 ⟨n + 1, hn⟩) (outsAt0 m c n (Nat.lt_of_succ_lt hn)).2.2.2 := by
      rw [show outsAt0 m c (n + 1) hn = _ from outsAt0_B m c ⟨n + 1, hn⟩ (by show ¬(n + 1) % 16 = 0; omega)]
      dsimp only
      rw [rows_B]
      rfl
    refine (congrFun e _).trans ((added m c ⟨n + 1, hn⟩ _ j q).trans ?_)
    rw [Finset.sum_range_succ, ih]

theorem total (j : Fin 2) (q : Fin 1024) : ∑ t ∈ Finset.range 16, part m c j q t = normGrad (argZ m c) (argD m c) j q := by
  have e : ∑ t ∈ Finset.range 16, part m c j q t = ∑ R : Fin 4096, term m c j q R := by
    refine Eq.trans ?_ (Cert.Lin.sum_parts 16 256 (fun R : Fin 4096 => term m c j q R) (by omega)).symm
    rw [Finset.sum_range]
    refine Finset.sum_congr rfl fun a _ => ?_
    unfold part
    rw [dif_pos a.isLt]
  rw [e]
  unfold term normGrad
  match j with
  | 0 => rfl
  | 1 => rfl

/-- The four results over the memory's arguments. -/
abbrev G7 : Buf (Elt Ideal) ((c : Thread nD τ).loc main_v38_0) := fun i : S4096x1024.Idx => through (argZ m c) (argD m c) (argL m c) (i 0) (i 1)
abbrev G8 : Buf (Elt Ideal) ((c : Thread nD τ).loc main_v38_1) := fun i : S4096x1024.Idx => branchGrad (argZ m c) (argD m c) (argL m c) (i 0) (i 1)
abbrev G9 : Buf (Elt Ideal) ((c : Thread nD τ).loc main_v38_2) :=
  fun i : S8x4096x704.Idx => pair (argZ m c) (argD m c) (argL m c) (argW m c) (argG m c) (argU m c) (i 0) (i 1) (i 2)
abbrev G10 : Buf (Elt Ideal) ((c : Thread nD τ).loc main_v38_3) := fun i : S2x1024.Idx => normGrad (argZ m c) (argD m c) (i 0) (i 1)

theorem flushed_eq7 (t : Fin cfg0.N) : (dats m 0 c).flushed 7 t = ((cfg0.win 7).blk t).view.read (Elt Ideal) (G7 m c) := by
  obtain ⟨⟨e0, e1, -⟩, -⟩ := omaps t
  have e : (dats m 0 c).flushed 7 t = (cfg0.win 7).cut (grid0.coords t) (thrAt m c t) := by
    by_cases h0 : t.val % 16 = 0
    · rw [Value.flushed7_A m c t h0, through_A]
    · rw [Value.flushed7_B m c t h0, through_B]
  rw [e]
  funext y
  have ey : ((cfg0.win 7).xinj (grid0.coords t) y : S256x1024.Idx) = ix2 (y 0 : Fin 256) (y 1 : Fin 1024) := funext fun a => Fin.ext (by
    match a with
    | ⟨0, _⟩ => rfl
    | ⟨1, _⟩ => rfl)
  have f0 : (((cfg0.win 7).blk t).view.emb y 0).val = t.val * 256 + (y 0).val := by
    show win0_7.index t (0 : Fin 2) * 256 + 1 * (y 0).val = _; rw [e0]; omega
  have f1 : (((cfg0.win 7).blk t).view.emb y 1 : Fin 1024) = (y 1 : Fin 1024) := Fin.ext (by
    show win0_7.index t (1 : Fin 2) * 1024 + 1 * (y 1).val = (y 1).val; omega)
  show (thrAt m c t) ((cfg0.win 7).xinj (grid0.coords t) y) = G7 m c (((cfg0.win 7).blk t).view.emb y)
  refine (congrArg (thrAt m c t) ey).trans ((at7 m c t (y 0 : Fin 256) (y 1 : Fin 1024) _ f0).trans ?_)
  exact congrArg (through (argZ m c) (argD m c) (argL m c) (((cfg0.win 7).blk t).view.emb y 0 : Fin 4096)) f1.symm

theorem covered7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have hq : (i 0).val / 256 < 16 := by omega
  let t : Fin cfg0.N := ⟨(i 0).val / 256, lt_of_lt_of_eq hq N_0.symm⟩
  obtain ⟨⟨e0, e1, hf⟩, -⟩ := omaps t
  have tv : t.val = (i 0).val / 256 := rfl
  refine ⟨t, hf, ?_⟩
  show i ∈ ((View.whole main_v38_0).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

theorem final7 : (dats m 0 c).arrAt 7 cfg0.N = G7 m c :=
  (dats m 0 c).arrAt_eq_of_cover 7 _ (fun t _ => flushed_eq7 m c t) covered7

theorem flushed_eq8 (t : Fin cfg0.N) : (dats m 0 c).flushed 8 t = ((cfg0.win 8).blk t).view.read (Elt Ideal) (G8 m c) := by
  obtain ⟨-, ⟨e0, e1, -⟩, -⟩ := omaps t
  have e : (dats m 0 c).flushed 8 t = (cfg0.win 8).cut (grid0.coords t) (k0_pay7 (thrAt m c t)) := by
    by_cases h0 : t.val % 16 = 0
    · rw [Value.flushed8_A m c t h0, half_A]
    · rw [Value.flushed8_B m c t h0, half_B]
  rw [e]
  funext y
  have ey : ((cfg0.win 8).xinj (grid0.coords t) y : S256x1024.Idx) = ix2 (y 0 : Fin 256) (y 1 : Fin 1024) := funext fun a => Fin.ext (by
    match a with
    | ⟨0, _⟩ => rfl
    | ⟨1, _⟩ => rfl)
  have f0 : (((cfg0.win 8).blk t).view.emb y 0).val = t.val * 256 + (y 0).val := by
    show win0_8.index t (0 : Fin 2) * 256 + 1 * (y 0).val = _; rw [e0]; omega
  have f1 : (((cfg0.win 8).blk t).view.emb y 1 : Fin 1024) = (y 1 : Fin 1024) := Fin.ext (by
    show win0_8.index t (1 : Fin 2) * 1024 + 1 * (y 1).val = (y 1).val; omega)
  show (k0_pay7 (thrAt m c t)) ((cfg0.win 8).xinj (grid0.coords t) y) = G8 m c (((cfg0.win 8).blk t).view.emb y)
  refine (congrArg (k0_pay7 (thrAt m c t)) ey).trans (((block7 (thrAt m c t) _).trans (congrArg (fun x : EReal => (Ideal.ofBits .f32 0x3F000000#32 : EReal) * x) (at7 m c t (y 0 : Fin 256) (y 1 : Fin 1024) _ f0))).trans ?_)
  exact congrArg (branchGrad (argZ m c) (argD m c) (argL m c) (((cfg0.win 8).blk t).view.emb y 0 : Fin 4096)) f1.symm

theorem covered8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  have hq : (i 0).val / 256 < 16 := by omega
  let t : Fin cfg0.N := ⟨(i 0).val / 256, lt_of_lt_of_eq hq N_0.symm⟩
  obtain ⟨-, ⟨e0, e1, hf⟩, -⟩ := omaps t
  have tv : t.val = (i 0).val / 256 := rfl
  refine ⟨t, hf, ?_⟩
  show i ∈ ((View.whole main_v38_1).slice (win0_8.rect t)).set
  rw [View.set_slice_whole, Rect.mem_set_unit]
  intro a
  match a with
  | ⟨0, _⟩ => show win0_8.index t (0 : Fin 2) * 256 ≤ (i 0).val ∧ (i 0).val < win0_8.index t (0 : Fin 2) * 256 + 256; omega
  | ⟨1, _⟩ => show win0_8.index t (1 : Fin 2) * 1024 ≤ (i 1).val ∧ (i 1).val < win0_8.index t (1 : Fin 2) * 1024 + 1024; omega

theorem final8 : (dats m 0 c).arrAt 8 cfg0.N = G8 m c :=
  (dats m 0 c).arrAt_eq_of_cover 8 _ (fun t _ => flushed_eq8 m c t) covered8

theorem flushed_eq9 (t : Fin cfg0.N) : (dats m 0 c).flushed 9 t = ((cfg0.win 9).blk t).view.read (Elt Ideal) (G9 m c) := by
  obtain ⟨-, -, ⟨e0, e1, e2, -⟩, -⟩ := omaps t
  have e : (dats m 0 c).flushed 9 t = (cfg0.win 9).cut (grid0.coords t)
      (fun y : S8x256x704.Idx => both (thrAt m c t) (iblk m c 4 t) (iblk m c 5 t) (iblk m c 6 t) (y 0) (y 1) (y 2)) := by
    by_cases h0 : t.val % 16 = 0
    · rw [Value.flushed9_A m c t h0, both_A]
    · rw [Value.flushed9_B m c t h0, both_B]
  rw [e]
  funext y
  have f0 : (((cfg0.win 9).blk t).view.emb y 0 : Fin 8) = (y 0 : Fin 8) := Fin.ext (by
    show win0_9.index t (0 : Fin 3) * 8 + 1 * (y 0).val = (y 0).val; omega)
  have f1 : (((cfg0.win 9).blk t).view.emb y 1).val = t.val * 256 + (y 1).val := by
    show win0_9.index t (1 : Fin 3) * 256 + 1 * (y 1).val = _; rw [e1]; omega
  have f2 : (((cfg0.win 9).blk t).view.emb y 2 : Fin 704) = (y 2 : Fin 704) := Fin.ext (by
    show win0_9.index t (2 : Fin 3) * 704 + 1 * (y 2).val = (y 2).val; omega)
  show both (thrAt m c t) (iblk m c 4 t) (iblk m c 5 t) (iblk m c 6 t) (y 0 : Fin 8) (y 1 : Fin 256) (y 2 : Fin 704) = G9 m c (((cfg0.win 9).blk t).view.emb y)
  refine (at9 m c t (y 1 : Fin 256) (y 2 : Fin 704) (((cfg0.win 9).blk t).view.emb y 1 : Fin 4096) f1 (y 0 : Fin 8)).trans ?_
  exact congrArg₂ (fun (j : Fin 8) (s : Fin 704) => pair (argZ m c) (argD m c) (argL m c) (argW m c) (argG m c) (argU m c) j
    (((cfg0.win 9).blk t).view.emb y 1 : Fin 4096) s) f0.symm f2.symm

theorem covered9 (i : S8x4096x704.Idx) : ∃ t : Fin cfg0.N, (cfg0.win 9).flush t = true ∧ i ∈ ((cfg0.win 9).blk t).view.set := by
  have h0 : (i 0).val < 8 := (i 0).isLt
  have h1 : (i 1).val < 4096 := (i 1).isLt
  have h2 : (i 2).val < 704 := (i 2).isLt
  have hq : (i 1).val / 256 < 16 := by omega
  let t : Fin cfg0.N := ⟨(i 1).val / 256, lt_of_lt_of_eq hq N_0.symm⟩
  obtain ⟨-, -, ⟨e0, e1, e2, hf⟩, -⟩ := omaps t
  have tv : t.val = (i 1).val / 256 := rfl
  refine ⟨t, hf, ?_⟩
  show i ∈ ((View.whole main_v38_2).slice (win0_9.rect t)).set
  rw [View.set_slice_whole, Rect.mem_set_unit]
  intro a
  match a with
  | ⟨0, _⟩ => show win0_9.index t (0 : Fin 3) * 8 ≤ (i 0).val ∧ (i 0).val < win0_9.index t (0 : Fin 3) * 8 + 8; omega
  | ⟨1, _⟩ => show win0_9.index t (1 : Fin 3) * 256 ≤ (i 1).val ∧ (i 1).val < win0_9.index t (1 : Fin 3) * 256 + 256; omega
  | ⟨2, _⟩ => show win0_9.index t (2 : Fin 3) * 704 ≤ (i 2).val ∧ (i 2).val < win0_9.index t (2 : Fin 3) * 704 + 704; omega

theorem final9 : (dats m 0 c).arrAt 9 cfg0.N = G9 m c :=
  (dats m 0 c).arrAt_eq_of_cover 9 _ (fun t _ => flushed_eq9 m c t) covered9

/-- What the last point writes back is the two sums over all rows. -/
theorem flushed_eq10 (t : Fin cfg0.N) (hf : (cfg0.win 10).flush t = true) :
    (dats m 0 c).flushed 10 t = ((cfg0.win 10).blk t).view.read (Elt Ideal) (G10 m c) := by
  have h15 : t.val % 16 = 15 := (flush0_10 t).mp hf
  have ht : t.val < 16 := lt_of_lt_of_eq t.isLt N_0
  obtain ⟨-, -, -, ⟨e0, e1⟩⟩ := omaps t
  have e : (dats m 0 c).flushed 10 t = (cfg0.win 10).cut (grid0.coords t) (outsAt0 m c t.val t.isLt).2.2.2 := by
    rw [Value.flushed10_B m c t (by omega), outsAt0_B m c t (by omega)]
  rw [e]
  funext y
  have ey : ((cfg0.win 10).xinj (grid0.coords t) y : S2x1024.Idx) = ix2 (y 0 : Fin 2) (y 1 : Fin 1024) := funext fun a => Fin.ext (by
    match a with
    | ⟨0, _⟩ => rfl
    | ⟨1, _⟩ => rfl)
  have f0 : (((cfg0.win 10).blk t).view.emb y 0 : Fin 2) = (y 0 : Fin 2) := Fin.ext (by
    show win0_10.index t (0 : Fin 2) * 2 + 1 * (y 0).val = (y 0).val; omega)
  have f1 : (((cfg0.win 10).blk t).view.emb y 1 : Fin 1024) = (y 1 : Fin 1024) := Fin.ext (by
    show win0_10.index t (1 : Fin 2) * 1024 + 1 * (y 1).val = (y 1).val; omega)
  show (outsAt0 m c t.val t.isLt).2.2.2 ((cfg0.win 10).xinj (grid0.coords t) y) = G10 m c (((cfg0.win 10).blk t).view.emb y)
  refine (congrArg (outsAt0 m c t.val t.isLt).2.2.2 ey).trans ((scratch m c t.val t.isLt (y 0 : Fin 2) (y 1 : Fin 1024)).trans ?_)
  rw [show t.val + 1 = 16 by omega]
  exact (total m c (y 0 : Fin 2) (y 1 : Fin 1024)).trans (congrArg₂ (normGrad (argZ m c) (argD m c)) f0.symm f1.symm)

theorem covered10 (i : S2x1024.Idx) : ∃ t : Fin cfg0.N, (cfg0.win 10).flush t = true ∧ i ∈ ((cfg0.win 10).blk t).view.set := by
  have h0 : (i 0).val < 2 := (i 0).isLt
  have h1 : (i 1).val < 1024 := (i 1).isLt
  let t : Fin cfg0.N := ⟨15, lt_of_lt_of_eq (by decide) N_0.symm⟩
  obtain ⟨-, -, -, ⟨e0, e1⟩⟩ := omaps t
  refine ⟨t, (flush0_10 t).mpr rfl, ?_⟩
  show i ∈ ((View.whole main_v38_3).slice (win0_10.rect t)).set
  rw [View.set_slice_whole, Rect.mem_set_unit]
  intro a
  match a with
  | ⟨0, _⟩ => show win0_10.index t (0 : Fin 2) * 2 ≤ (i 0).val ∧ (i 0).val < win0_10.index t (0 : Fin 2) * 2 + 2; omega
  | ⟨1, _⟩ => show win0_10.index t (1 : Fin 2) * 1024 ≤ (i 1).val ∧ (i 1).val < win0_10.index t (1 : Fin 2) * 1024 + 1024; omega

theorem final10 : (dats m 0 c).arrAt 10 cfg0.N = G10 m c :=
  (dats m 0 c).arrAt_eq_of_cover 10 _ (fun t hf => flushed_eq10 m c t hf) covered10

end Cert.FfnBackIdeal.Lin

namespace Cert.Proof

open Idealize.ShloMosaic Idealize.SL.Sem Cert.FfnBackIdeal.Lin Cert.FfnBackRefIdeal.Lin

/-- The second precondition's broadcasts fit. -/
theorem back_facts : Cert.Pre_finite_back.Facts where
  bcast_S_S4096x1024 := by decide
  bcast_S_S3x1024 := by decide
  bcast_S_S2x2816x1024 := by decide
  bcast_S_S4096x2816 := by decide

/-- Kernel and reference compute the same four arrays wherever every argument but the gate is finite. -/
theorem ffnBack : haveI := back_facts; Cert.algebraic_FfnBackIdeal_FfnBackRefIdeal_pre_finite_back := by
  intro m g m' g' hP hE
  refine ⟨fun c => G7 m c, fun c => G8 m c, fun c => G9 m c, fun c => G10 m c, ?_, ?_⟩
  · exact (θ_run (Cert.FfnBackIdeal.defs (F := Ideal)) _ _).mono
      (fun r h c => ⟨(h c).1.trans (final7 m c), (h c).2.1.trans (final8 m c), (h c).2.2.1.trans (final9 m c),
        (h c).2.2.2.1.trans (final10 m c), (h c).2.2.2.2⟩)
      (Cert.FfnBackIdeal.Value.run_blocks (F := Ideal) m g)
  · refine (θ_run (Cert.FfnBackRefIdeal.defs (F := Ideal)) _ _).mono (fun r h c => ⟨?_, ?_, ?_, ?_, (h c).2.2.2.2⟩)
      (Cert.FfnBackRefIdeal.Value.run (F := Ideal) m' g')
    all_goals
      obtain ⟨e0, e1, e2, e3, e4, e5⟩ := hE c
      obtain ⟨p0, p1, p2, p3, p5⟩ := hP c
      have hz : AllReal (argZ m c) := fun i => Cert.Val.real_of (congrFun p0 i)
      have hd : AllReal (argD m c) := fun i => Cert.Val.real_of (congrFun p1 i)
      have hl : AllReal (argL m c) := fun i => Cert.Val.real_of (congrFun p2 i)
      have hw : AllReal (argW m c) := fun i => Cert.Val.real_of (congrFun p3 i)
      have hu : AllReal (argU m c) := fun i => Cert.Val.real_of (congrFun p5 i)
    · refine (h c).1.trans ((Cert.FfnBackRefIdeal.Read.val_main_v65_eq m' c).trans ?_)
      rw [e0, e1, e2]
      exact resultThrough (argZ m c) (argD m c) (argL m c) hz hd hl
    · refine (h c).2.1.trans ((Cert.FfnBackRefIdeal.Read.val_main_v80_eq m' c).trans ?_)
      rw [e0, e1, e2]
      exact resultBranch (argZ m c) (argD m c) (argL m c) hz hd hl
    · refine (h c).2.2.1.trans ((Cert.FfnBackRefIdeal.Read.val_main_v84_eq m' c).trans ?_)
      rw [e0, e1, e2, e3, e4, e5]
      exact resultPair (argZ m c) (argD m c) (argL m c) (argW m c) (argG m c) (argU m c) hz hd hl hw hu
    · refine (h c).2.2.2.1.trans ((Cert.FfnBackRefIdeal.Read.val_main_v87_eq _ _).trans ?_)
      rw [e0, e1]
      exact resultNorm (argZ m c) (argD m c)

end Cert.Proof

end
-- ==== Proof.Lin.RefFrames.lean ====
/- The references of the linear calls run: each is host operations alone, of which the generated run says that its
   arguments end as they were; it has no semaphore, so every counter is zero. -/
module

public import proofs.«01_k».proof.Defs
public import proofs.«01_k».proof.Proof.Gen.FfnDxRefIdeal.Run
public import proofs.«01_k».proof.Proof.Gen.FfnDwUpRefIdeal.Run
public import proofs.«01_k».proof.Proof.Gen.FfnDwDownRefIdeal.Run
public import proofs.«01_k».proof.Proof.Gen.MixDxRefIdeal.Run
public import proofs.«01_k».proof.Proof.Gen.MixDwRefIdeal.Run
public import proofs.«01_k».proof.Proof.Gen.OutDwRefIdeal.Run
public import proofs.«01_k».proof.Proof.Gen.FfnDxFirstRefIdeal.Run
public import proofs.«01_k».proof.Proof.Gen.GateDwRefIdeal.Run
public import proofs.«01_k».proof.Proof.Gen.MixInRefIdeal.Run
public import proofs.«01_k».proof.Proof.Gen.FfnUpRefIdeal.Run
public import proofs.«01_k».proof.Proof.Gen.FfnUpFirstRefIdeal.Run
public import proofs.«01_k».proof.Proof.Gen.FfnDownRefIdeal.Run
public import proofs.«01_k».proof.Proof.Gen.FfnDownFirstRefIdeal.Run
public import proofs.«01_k».proof.Proof.Gen.MixEndRefIdeal.Run
public import proofs.«01_k».proof.Proof.Gen.FfnBackRefIdeal.Run
public import Idealize.ShloMosaic.Lib.Quiescent

@[expose] public section

noncomputable section

namespace Cert.Proof

open Idealize.ShloMosaic Idealize.SL.Sem

/-- The frame of the reference `FfnDxRef` over the extended reals. -/
theorem frame_ffnDxRef : Cert.quiescent_FfnDxRefIdeal := fun m g _ =>
  (θ_run (Cert.FfnDxRefIdeal.defs (F := Ideal)) _ _).mono (fun r h => ⟨fun c => (h c).2, sem_eq_zero_of_no_sems rfl r.2⟩)
    (Cert.FfnDxRefIdeal.Value.run (F := Ideal) m g)

/-- The frame of the reference `FfnDwUpRef` over the extended reals. -/
theorem frame_ffnDwUpRef : Cert.quiescent_FfnDwUpRefIdeal := fun m g _ =>
  (θ_run (Cert.FfnDwUpRefIdeal.defs (F := Ideal)) _ _).mono (fun r h => ⟨fun c => (h c).2, sem_eq_zero_of_no_sems rfl r.2⟩)
    (Cert.FfnDwUpRefIdeal.Value.run (F := Ideal) m g)

/-- The frame of the reference `FfnDwDownRef` over the extended reals. -/
theorem frame_ffnDwDownRef : Cert.quiescent_FfnDwDownRefIdeal := fun m g _ =>
  (θ_run (Cert.FfnDwDownRefIdeal.defs (F := Ideal)) _ _).mono (fun r h => ⟨fun c => (h c).2, sem_eq_zero_of_no_sems rfl r.2⟩)
    (Cert.FfnDwDownRefIdeal.Value.run (F := Ideal) m g)

/-- The frame of the reference `MixDxRef` over the extended reals. -/
theorem frame_mixDxRef : Cert.quiescent_MixDxRefIdeal := fun m g _ =>
  (θ_run (Cert.MixDxRefIdeal.defs (F := Ideal)) _ _).mono (fun r h => ⟨fun c => (h c).2, sem_eq_zero_of_no_sems rfl r.2⟩)
    (Cert.MixDxRefIdeal.Value.run (F := Ideal) m g)

/-- The frame of the reference `MixDwRef` over the extended reals. -/
theorem frame_mixDwRef : Cert.quiescent_MixDwRefIdeal := fun m g _ =>
  (θ_run (Cert.MixDwRefIdeal.defs (F := Ideal)) _ _).mono (fun r h => ⟨fun c => (h c).2, sem_eq_zero_of_no_sems rfl r.2⟩)
    (Cert.MixDwRefIdeal.Value.run (F := Ideal) m g)

/-- The frame of the reference `OutDwRef` over the extended reals. -/
theorem frame_outDwRef : Cert.quiescent_OutDwRefIdeal := fun m g _ =>
  (θ_run (Cert.OutDwRefIdeal.defs (F := Ideal)) _ _).mono (fun r h => ⟨fun c => (h c).2, sem_eq_zero_of_no_sems rfl r.2⟩)
    (Cert.OutDwRefIdeal.Value.run (F := Ideal) m g)

/-- The frame of the reference `FfnDxFirstRef` over the extended reals. -/
theorem frame_ffnDxFirstRef : Cert.quiescent_FfnDxFirstRefIdeal := fun m g _ =>
  (θ_run (Cert.FfnDxFirstRefIdeal.defs (F := Ideal)) _ _).mono (fun r h => ⟨fun c => (h c).2, sem_eq_zero_of_no_sems rfl r.2⟩)
    (Cert.FfnDxFirstRefIdeal.Value.run (F := Ideal) m g)

/-- The frame of the reference `GateDwRef` over the extended reals. -/
theorem frame_gateDwRef : Cert.quiescent_GateDwRefIdeal := fun m g _ =>
  (θ_run (Cert.GateDwRefIdeal.defs (F := Ideal)) _ _).mono (fun r h => ⟨fun c => (h c).2, sem_eq_zero_of_no_sems rfl r.2⟩)
    (Cert.GateDwRefIdeal.Value.run (F := Ideal) m g)

/-- The frame of the reference `MixInRef` over the extended reals. -/
theorem frame_mixInRef : Cert.quiescent_MixInRefIdeal := fun m g _ =>
  (θ_run (Cert.MixInRefIdeal.defs (F := Ideal)) _ _).mono (fun r h => ⟨fun c => (h c).2, sem_eq_zero_of_no_sems rfl r.2⟩)
    (Cert.MixInRefIdeal.Value.run (F := Ideal) m g)

/-- The frame of the reference `FfnUpRef` over the extended reals. -/
theorem frame_ffnUpRef : Cert.quiescent_FfnUpRefIdeal := fun m g _ =>
  (θ_run (Cert.FfnUpRefIdeal.defs (F := Ideal)) _ _).mono (fun r h => ⟨fun c => (h c).2.2.2, sem_eq_zero_of_no_sems rfl r.2⟩)
    (Cert.FfnUpRefIdeal.Value.run (F := Ideal) m g)

/-- The frame of the reference `FfnUpFirstRef` over the extended reals. -/
theorem frame_ffnUpFirstRef : Cert.quiescent_FfnUpFirstRefIdeal := fun m g _ =>
  (θ_run (Cert.FfnUpFirstRefIdeal.defs (F := Ideal)) _ _).mono (fun r h => ⟨fun c => (h c).2.2.2, sem_eq_zero_of_no_sems rfl r.2⟩)
    (Cert.FfnUpFirstRefIdeal.Value.run (F := Ideal) m g)

/-- The frame of the reference `FfnDownRef` over the extended reals. -/
theorem frame_ffnDownRef : Cert.quiescent_FfnDownRefIdeal := fun m g _ =>
  (θ_run (Cert.FfnDownRefIdeal.defs (F := Ideal)) _ _).mono (fun r h => ⟨fun c => (h c).2.2.2.2, sem_eq_zero_of_no_sems rfl r.2⟩)
    (Cert.FfnDownRefIdeal.Value.run (F := Ideal) m g)

/-- The frame of the reference `FfnDownFirstRef` over the extended reals. -/
theorem frame_ffnDownFirstRef : Cert.quiescent_FfnDownFirstRefIdeal := fun m g _ =>
  (θ_run (Cert.FfnDownFirstRefIdeal.defs (F := Ideal)) _ _).mono (fun r h => ⟨fun c => (h c).2.2.2.2, sem_eq_zero_of_no_sems rfl r.2⟩)
    (Cert.FfnDownFirstRefIdeal.Value.run (F := Ideal) m g)

/-- The frame of the reference `MixEndRef` over the extended reals. -/
theorem frame_mixEndRef : Cert.quiescent_MixEndRefIdeal := fun m g _ =>
  (θ_run (Cert.MixEndRefIdeal.defs (F := Ideal)) _ _).mono (fun r h => ⟨fun c => (h c).2.2.2.2.2.2.2.2, sem_eq_zero_of_no_sems rfl r.2⟩)
    (Cert.MixEndRefIdeal.Value.run (F := Ideal) m g)

/-- The frame of the reference `FfnBackRef` over the extended reals. -/
theorem frame_ffnBackRef : Cert.quiescent_FfnBackRefIdeal := fun m g _ =>
  (θ_run (Cert.FfnBackRefIdeal.defs (F := Ideal)) _ _).mono (fun r h => ⟨fun c => (h c).2.2.2.2, sem_eq_zero_of_no_sems rfl r.2⟩)
    (Cert.FfnBackRefIdeal.Value.run (F := Ideal) m g)

end Cert.Proof

end
-- ==== Proof.lean ====
/- The proof of the claim: the frames (Proof.Frames for the recurrence, the generated ones for the linear calls,
   Proof.Lin.RefFrames for their references); that each ideal program is its kernel over the extended reals, which holds
   by its definition since no rule rewrites it; and the equations of kernel and reference (Proof.Equation, Proof.Lin). -/
module

public import proofs.«01_k».proof.Defs
public import proofs.«01_k».proof.Proof.Gen.FfnDx.Frame
public import proofs.«01_k».proof.Proof.Gen.FfnDxIdeal.Frame
public import proofs.«01_k».proof.Proof.Gen.FfnDxIdeal.Value
public import proofs.«01_k».proof.Proof.Gen.FfnDxRefIdeal.Run
public import proofs.«01_k».proof.Proof.Gen.FfnDxRefIdeal.Read
public import proofs.«01_k».proof.Proof.Gen.FfnDwUp.Frame
public import proofs.«01_k».proof.Proof.Gen.FfnDwUpIdeal.Frame
public import proofs.«01_k».proof.Proof.Gen.FfnDwUpIdeal.Value
public import proofs.«01_k».proof.Proof.Gen.FfnDwUpRefIdeal.Run
public import proofs.«01_k».proof.Proof.Gen.FfnDwUpRefIdeal.Read
public import proofs.«01_k».proof.Proof.Gen.FfnDwDown.Frame
public import proofs.«01_k».proof.Proof.Gen.FfnDwDownIdeal.Frame
public import proofs.«01_k».proof.Proof.Gen.FfnDwDownIdeal.Value
public import proofs.«01_k».proof.Proof.Gen.FfnDwDownRefIdeal.Run
public import proofs.«01_k».proof.Proof.Gen.FfnDwDownRefIdeal.Read
public import proofs.«01_k».proof.Proof.Gen.MixDx.Frame
public import proofs.«01_k».proof.Proof.Gen.MixDxIdeal.Frame
public import proofs.«01_k».proof.Proof.Gen.MixDxIdeal.Value
public import proofs.«01_k».proof.Proof.Gen.MixDxRefIdeal.Run
public import proofs.«01_k».proof.Proof.Gen.MixDxRefIdeal.Read
public import proofs.«01_k».proof.Proof.Gen.MixDw.Frame
public import proofs.«01_k».proof.Proof.Gen.MixDwIdeal.Frame
public import proofs.«01_k».proof.Proof.Gen.MixDwRefIdeal.Run
public import proofs.«01_k».proof.Proof.Gen.MixDwRefIdeal.Read
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.FfnDxFirst.Frame
public import proofs.«01_k».proof.Proof.Gen.FfnDxFirstIdeal.Frame
public import proofs.«01_k».proof.Proof.Gen.FfnDxFirstIdeal.Value
public import proofs.«01_k».proof.Proof.Gen.FfnDxFirstRefIdeal.Run
public import proofs.«01_k».proof.Proof.Gen.FfnDxFirstRefIdeal.Read
public import proofs.«01_k».proof.Proof.Gen.GateDw.Frame
public import proofs.«01_k».proof.Proof.Gen.GateDwIdeal.Frame
public import proofs.«01_k».proof.Proof.Gen.GateDwIdeal.Value
public import proofs.«01_k».proof.Proof.Gen.GateDwRefIdeal.Run
public import proofs.«01_k».proof.Proof.Gen.GateDwRefIdeal.Read
public import proofs.«01_k».proof.Proof.Gen.MixEnd.Frame
public import proofs.«01_k».proof.Proof.Gen.MixEndIdeal.Frame
public import proofs.«01_k».proof.Proof.Gen.MixEndIdeal.Value
public import proofs.«01_k».proof.Proof.Gen.MixEndRefIdeal.Run
public import proofs.«01_k».proof.Proof.Gen.MixEndRefIdeal.Read
public import proofs.«01_k».proof.Proof.Gen.FfnBack.Frame
public import proofs.«01_k».proof.Proof.Gen.FfnBackIdeal.Frame
public import proofs.«01_k».proof.Proof.Gen.FfnBackIdeal.Value
public import proofs.«01_k».proof.Proof.Gen.FfnBackRefIdeal.Run
public import proofs.«01_k».proof.Proof.Gen.FfnBackRefIdeal.Read
public import proofs.«01_k».proof.Proof.Gen.MixIn.Frame
public import proofs.«01_k».proof.Proof.Gen.MixInIdeal.Frame
public import proofs.«01_k».proof.Proof.Gen.MixInIdeal.Value
public import proofs.«01_k».proof.Proof.Gen.MixInRefIdeal.Run
public import proofs.«01_k».proof.Proof.Gen.MixInRefIdeal.Read
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.FfnUpFirst.Frame
public import proofs.«01_k».proof.Proof.Gen.FfnUpFirstIdeal.Frame
public import proofs.«01_k».proof.Proof.Gen.FfnUpFirstIdeal.Value
public import proofs.«01_k».proof.Proof.Gen.FfnUpFirstRefIdeal.Run
public import proofs.«01_k».proof.Proof.Gen.FfnUpFirstRefIdeal.Read
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.FfnDownFirst.Frame
public import proofs.«01_k».proof.Proof.Gen.FfnDownFirstIdeal.Frame
public import proofs.«01_k».proof.Proof.Gen.FfnDownFirstIdeal.Value
public import proofs.«01_k».proof.Proof.Gen.FfnDownFirstRefIdeal.Run
public import proofs.«01_k».proof.Proof.Gen.FfnDownFirstRefIdeal.Read
public import proofs.«01_k».proof.Proof.Equation
public import proofs.«01_k».proof.Proof.Lin.Dx
public import proofs.«01_k».proof.Proof.Lin.DwUp
public import proofs.«01_k».proof.Proof.Lin.DwDown
public import proofs.«01_k».proof.Proof.Lin.MixDx
public import proofs.«01_k».proof.Proof.Lin.MixDw
public import proofs.«01_k».proof.Proof.Lin.OutDw
public import proofs.«01_k».proof.Proof.Lin.DxFirst
public import proofs.«01_k».proof.Proof.Lin.GateDw
public import proofs.«01_k».proof.Proof.Lin.MixIn
public import proofs.«01_k».proof.Proof.Lin.Up
public import proofs.«01_k».proof.Proof.Lin.UpFirst
public import proofs.«01_k».proof.Proof.Lin.Down
public import proofs.«01_k».proof.Proof.Lin.DownFirst
public import proofs.«01_k».proof.Proof.Lin.MixEnd
public import proofs.«01_k».proof.Proof.Lin.FfnBack
public import proofs.«01_k».proof.Proof.Lin.RefFrames

@[expose] public section

noncomputable section

namespace Cert.Proof

/-- The claim. -/
theorem claim : Cert.Claim :=
  ⟨Cert.Kernel.Gen.facts, Cert.KernelIdeal.Gen.facts, Cert.ReferenceIdeal.Gen.facts,
    Cert.FfnDx.Gen.facts, Cert.FfnDxIdeal.Gen.facts, Cert.FfnDxRefIdeal.Gen.facts,
    Cert.FfnDwUp.Gen.facts, Cert.FfnDwUpIdeal.Gen.facts, Cert.FfnDwUpRefIdeal.Gen.facts,
    Cert.FfnDwDown.Gen.facts, Cert.FfnDwDownIdeal.Gen.facts, Cert.FfnDwDownRefIdeal.Gen.facts,
    Cert.MixDx.Gen.facts, Cert.MixDxIdeal.Gen.facts, Cert.MixDxRefIdeal.Gen.facts,
    Cert.MixDw.Gen.facts, Cert.MixDwIdeal.Gen.facts, Cert.MixDwRefIdeal.Gen.facts,
    Cert.OutDw.Gen.facts, Cert.OutDwIdeal.Gen.facts, Cert.OutDwRefIdeal.Gen.facts,
    Cert.FfnDxFirst.Gen.facts, Cert.FfnDxFirstIdeal.Gen.facts, Cert.FfnDxFirstRefIdeal.Gen.facts,
    Cert.GateDw.Gen.facts, Cert.GateDwIdeal.Gen.facts, Cert.GateDwRefIdeal.Gen.facts,
    Cert.MixIn.Gen.facts, Cert.MixInIdeal.Gen.facts, Cert.MixInRefIdeal.Gen.facts,
    Cert.FfnUp.Gen.facts, Cert.FfnUpIdeal.Gen.facts, Cert.FfnUpRefIdeal.Gen.facts,
    Cert.FfnUpFirst.Gen.facts, Cert.FfnUpFirstIdeal.Gen.facts, Cert.FfnUpFirstRefIdeal.Gen.facts,
    Cert.FfnDown.Gen.facts, Cert.FfnDownIdeal.Gen.facts, Cert.FfnDownRefIdeal.Gen.facts,
    Cert.FfnDownFirst.Gen.facts, Cert.FfnDownFirstIdeal.Gen.facts, Cert.FfnDownFirstRefIdeal.Gen.facts,
    Cert.MixEnd.Gen.facts, Cert.MixEndIdeal.Gen.facts, Cert.MixEndRefIdeal.Gen.facts,
    Cert.FfnBack.Gen.facts, Cert.FfnBackIdeal.Gen.facts, Cert.FfnBackRefIdeal.Gen.facts, Cert.Val.pre_facts, back_facts,
    frame_kernel, frame_kernelIdeal, fun m g _ => frame_kernelIdeal m g trivial, frame_referenceIdeal,
    fun m g _ => frame_referenceIdeal m g trivial,
    fun m g _ => Cert.FfnDx.Gen.frame m g, fun m g _ => Cert.FfnDxIdeal.Gen.frame m g, frame_ffnDxRef,
    fun m g _ => Cert.FfnDwUp.Gen.frame m g, fun m g _ => Cert.FfnDwUpIdeal.Gen.frame m g, frame_ffnDwUpRef,
    fun m g _ => Cert.FfnDwDown.Gen.frame m g, fun m g _ => Cert.FfnDwDownIdeal.Gen.frame m g, frame_ffnDwDownRef,
    fun m g _ => Cert.MixDx.Gen.frame m g, fun m g _ => Cert.MixDxIdeal.Gen.frame m g, frame_mixDxRef,
    fun m g _ => Cert.MixDw.Gen.frame m g, fun m g _ => Cert.MixDwIdeal.Gen.frame m g, frame_mixDwRef,
    fun m g _ => Cert.OutDw.Gen.frame m g, fun m g _ => Cert.OutDwIdeal.Gen.frame m g, frame_outDwRef,
    fun m g _ => Cert.FfnDxFirst.Gen.frame m g, fun m g _ => Cert.FfnDxFirstIdeal.Gen.frame m g, frame_ffnDxFirstRef,
    fun m g _ => Cert.GateDw.Gen.frame m g, fun m g _ => Cert.GateDwIdeal.Gen.frame m g, frame_gateDwRef,
    fun m g _ => Cert.MixIn.Gen.frame m g, fun m g _ => Cert.MixInIdeal.Gen.frame m g, frame_mixInRef,
    fun m g _ => Cert.FfnUp.Gen.frame m g, fun m g _ => Cert.FfnUpIdeal.Gen.frame m g, frame_ffnUpRef,
    fun m g _ => Cert.FfnUpFirst.Gen.frame m g, fun m g _ => Cert.FfnUpFirstIdeal.Gen.frame m g, frame_ffnUpFirstRef,
    fun m g _ => Cert.FfnDown.Gen.frame m g, fun m g _ => Cert.FfnDownIdeal.Gen.frame m g, frame_ffnDownRef,
    fun m g _ => Cert.FfnDownFirst.Gen.frame m g, fun m g _ => Cert.FfnDownFirstIdeal.Gen.frame m g, frame_ffnDownFirstRef,
    fun m g _ => Cert.MixEnd.Gen.frame m g, fun m g _ => Cert.MixEndIdeal.Gen.frame m g, frame_mixEndRef,
    fun m g _ => Cert.FfnBack.Gen.frame m g, fun m g _ => Cert.FfnBackIdeal.Gen.frame m g,
    fun m g _ => Cert.FfnBackIdeal.Gen.frame m g, frame_ffnBackRef, fun m g _ => frame_ffnBackRef m g trivial,
    trivial, equation, trivial, ffnDx, trivial, ffnDwUp, trivial, ffnDwDown, trivial, mixDx, trivial, mixDw, trivial, outDw, trivial, ffnDxFirst, trivial, gateDw, trivial, mixIn, trivial, ffnUp, trivial, ffnUpFirst, trivial, ffnDown, trivial, ffnDownFirst, trivial, mixEnd, trivial, ffnBack⟩

end Cert.Proof

end
